-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_qkv [hPre_finite_qkv : Cert.Pre_finite_qkv.Facts] (m : (ℓ : Loc Cert.FwdIdeal.nD Cert.FwdIdeal.τ Cert.FwdIdeal.sig) → Buf (Elt Ideal) ℓ) : Prop :=
  ∀ c : Dev Cert.FwdIdeal.nD,
    (Cert.Pre_finite_qkv.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_qkv [hPre_finite_qkv : Cert.Pre_finite_qkv.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_qkv.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Gdown (m : (ℓ : Loc Cert.Gdown.nD Cert.Gdown.τ Cert.Gdown.sig) → Buf (Elt Bits) ℓ) : Prop :=
  True

def Pre_GdownIdeal (m : (ℓ : Loc Cert.GdownIdeal.nD Cert.GdownIdeal.τ Cert.GdownIdeal.sig) → Buf (Elt Ideal) ℓ) : Prop :=
  True

def Pre_GdownReferenceIdeal (m : (ℓ : Loc Cert.GdownReferenceIdeal.nD Cert.GdownReferenceIdeal.τ Cert.GdownReferenceIdeal.sig) → Buf (Elt Ideal) ℓ) : Prop :=
  True

def Pre_Dln (m : (ℓ : Loc Cert.Dln.nD Cert.Dln.τ Cert.Dln.sig) → Buf (Elt Bits) ℓ) : Prop :=
  True

def Pre_DlnIdeal (m : (ℓ : Loc Cert.DlnIdeal.nD Cert.DlnIdeal.τ Cert.DlnIdeal.sig) → Buf (Elt Ideal) ℓ) : Prop :=
  True

def Pre_DlnIdeal_finite_ln [hPre_finite_ln : Cert.Pre_finite_ln.Facts] (m : (ℓ : Loc Cert.DlnIdeal.nD Cert.DlnIdeal.τ Cert.DlnIdeal.sig) → Buf (Elt Ideal) ℓ) : Prop :=
  ∀ c : Dev Cert.DlnIdeal.nD,
    (Cert.Pre_finite_ln.fn (F := Ideal) (m ((c.tc : Thread Cert.DlnIdeal.nD Cert.DlnIdeal.τ).loc Cert.DlnIdeal.main_arg0)) (m ((c.tc : Thread Cert.DlnIdeal.nD Cert.DlnIdeal.τ).loc Cert.DlnIdeal.main_arg1)) (m ((c.tc : Thread Cert.DlnIdeal.nD Cert.DlnIdeal.τ).loc Cert.DlnIdeal.main_arg2)) (m ((c.tc : Thread Cert.DlnIdeal.nD Cert.DlnIdeal.τ).loc Cert.DlnIdeal.main_arg3))) = (fun _ => 1#1)

def Pre_DlnReferenceIdeal (m : (ℓ : Loc Cert.DlnReferenceIdeal.nD Cert.DlnReferenceIdeal.τ Cert.DlnReferenceIdeal.sig) → Buf (Elt Ideal) ℓ) : Prop :=
  True

def Pre_DlnReferenceIdeal_finite_ln [hPre_finite_ln : Cert.Pre_finite_ln.Facts] (m : (ℓ : Loc Cert.DlnReferenceIdeal.nD Cert.DlnReferenceIdeal.τ Cert.DlnReferenceIdeal.sig) → Buf (Elt Ideal) ℓ) : Prop :=
  ∀ c : Dev Cert.DlnReferenceIdeal.nD,
    (Cert.Pre_finite_ln.fn (F := Ideal) (m ((c.tc : Thread Cert.DlnReferenceIdeal.nD Cert.DlnReferenceIdeal.τ).loc Cert.DlnReferenceIdeal.main_arg0)) (m ((c.tc : Thread Cert.DlnReferenceIdeal.nD Cert.DlnReferenceIdeal.τ).loc Cert.DlnReferenceIdeal.main_arg1)) (m ((c.tc : Thread Cert.DlnReferenceIdeal.nD Cert.DlnReferenceIdeal.τ).loc Cert.DlnReferenceIdeal.main_arg2)) (m ((c.tc : Thread Cert.DlnReferenceIdeal.nD Cert.DlnReferenceIdeal.τ).loc Cert.DlnReferenceIdeal.main_arg3))) = (fun _ => 1#1)

def Pre_Prepb (m : (ℓ : Loc Cert.Prepb.nD Cert.Prepb.τ Cert.Prepb.sig) → Buf (Elt Bits) ℓ) : Prop :=
  True

def Pre_PrepbIdeal (m : (ℓ : Loc Cert.PrepbIdeal.nD Cert.PrepbIdeal.τ Cert.PrepbIdeal.sig) → Buf (Elt Ideal) ℓ) : Prop :=
  True

def Pre_PrepbIdeal_finite_qk [hPre_finite_qk : Cert.Pre_finite_qk.Facts] (m : (ℓ : Loc Cert.PrepbIdeal.nD Cert.PrepbIdeal.τ Cert.PrepbIdeal.sig) → Buf (Elt Ideal) ℓ) : Prop :=
  ∀ c : Dev Cert.PrepbIdeal.nD,
    (Cert.Pre_finite_qk.fn (F := Ideal) (m ((c.tc : Thread Cert.PrepbIdeal.nD Cert.PrepbIdeal.τ).loc Cert.PrepbIdeal.main_arg0)) (m ((c.tc : Thread Cert.PrepbIdeal.nD Cert.PrepbIdeal.τ).loc Cert.PrepbIdeal.main_arg1)) (m ((c.tc : Thread Cert.PrepbIdeal.nD Cert.PrepbIdeal.τ).loc Cert.PrepbIdeal.main_arg2))) = (fun _ => 1#1)

def Pre_PrepbReferenceIdeal (m : (ℓ : Loc Cert.PrepbReferenceIdeal.nD Cert.PrepbReferenceIdeal.τ Cert.PrepbReferenceIdeal.sig) → Buf (Elt Ideal) ℓ) : Prop :=
  True

def Pre_PrepbReferenceIdeal_finite_qk [hPre_finite_qk : Cert.Pre_finite_qk.Facts] (m : (ℓ : Loc Cert.PrepbReferenceIdeal.nD Cert.PrepbReferenceIdeal.τ Cert.PrepbReferenceIdeal.sig) → Buf (Elt Ideal) ℓ) : Prop :=
  ∀ c : Dev Cert.PrepbReferenceIdeal.nD,
    (Cert.Pre_finite_qk.fn (F := Ideal) (m ((c.tc : Thread Cert.PrepbReferenceIdeal.nD Cert.PrepbReferenceIdeal.τ).loc Cert.PrepbReferenceIdeal.main_arg0)) (m ((c.tc : Thread Cert.PrepbReferenceIdeal.nD Cert.PrepbReferenceIdeal.τ).loc Cert.PrepbReferenceIdeal.main_arg1)) (m ((c.tc : Thread Cert.PrepbReferenceIdeal.nD Cert.PrepbReferenceIdeal.τ).loc Cert.PrepbReferenceIdeal.main_arg2))) = (fun _ => 1#1)

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupReferenceIdeal (m : (ℓ : Loc Cert.GupReferenceIdeal.nD Cert.GupReferenceIdeal.τ Cert.GupReferenceIdeal.sig) → Buf (Elt Ideal) ℓ) : Prop :=
  True

def Pre_Dx1 (m : (ℓ : Loc Cert.Dx1.nD Cert.Dx1.τ Cert.Dx1.sig) → Buf (Elt Bits) ℓ) : Prop :=
  True

def Pre_Dx1Ideal (m : (ℓ : Loc Cert.Dx1Ideal.nD Cert.Dx1Ideal.τ Cert.Dx1Ideal.sig) → Buf (Elt Ideal) ℓ) : Prop :=
  True

def Pre_Dx1ReferenceIdeal (m : (ℓ : Loc Cert.Dx1ReferenceIdeal.nD Cert.Dx1ReferenceIdeal.τ Cert.Dx1ReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Ginq (m : (ℓ : Loc Cert.Ginq.nD Cert.Ginq.τ Cert.Ginq.sig) → Buf (Elt Bits) ℓ) : Prop :=
  True

def Pre_GinqIdeal (m : (ℓ : Loc Cert.GinqIdeal.nD Cert.GinqIdeal.τ Cert.GinqIdeal.sig) → Buf (Elt Ideal) ℓ) : Prop :=
  True

def Pre_GinqReferenceIdeal (m : (ℓ : Loc Cert.GinqReferenceIdeal.nD Cert.GinqReferenceIdeal.τ Cert.GinqReferenceIdeal.sig) → Buf (Elt Ideal) ℓ) : Prop :=
  True

def Pre_Ging (m : (ℓ : Loc Cert.Ging.nD Cert.Ging.τ Cert.Ging.sig) → Buf (Elt Bits) ℓ) : Prop :=
  True

def Pre_GingIdeal (m : (ℓ : Loc Cert.GingIdeal.nD Cert.GingIdeal.τ Cert.GingIdeal.sig) → Buf (Elt Ideal) ℓ) : Prop :=
  True

def Pre_GingReferenceIdeal (m : (ℓ : Loc Cert.GingReferenceIdeal.nD Cert.GingReferenceIdeal.τ Cert.GingReferenceIdeal.sig) → Buf (Elt Ideal) ℓ) : Prop :=
  True

def Pre_Dxq (m : (ℓ : Loc Cert.Dxq.nD Cert.Dxq.τ Cert.Dxq.sig) → Buf (Elt Bits) ℓ) : Prop :=
  True

def Pre_DxqIdeal (m : (ℓ : Loc Cert.DxqIdeal.nD Cert.DxqIdeal.τ Cert.DxqIdeal.sig) → Buf (Elt Ideal) ℓ) : Prop :=
  True

def Pre_DxqReferenceIdeal (m : (ℓ : Loc Cert.DxqReferenceIdeal.nD Cert.DxqReferenceIdeal.τ Cert.DxqReferenceIdeal.sig) → Buf (Elt Ideal) ℓ) : Prop :=
  True

def Pre_Dxg (m : (ℓ : Loc Cert.Dxg.nD Cert.Dxg.τ Cert.Dxg.sig) → Buf (Elt Bits) ℓ) : Prop :=
  True

def Pre_DxgIdeal (m : (ℓ : Loc Cert.DxgIdeal.nD Cert.DxgIdeal.τ Cert.DxgIdeal.sig) → Buf (Elt Ideal) ℓ) : Prop :=
  True

def Pre_DxgReferenceIdeal (m : (ℓ : Loc Cert.DxgReferenceIdeal.nD Cert.DxgReferenceIdeal.τ Cert.DxgReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixReferenceIdeal (m : (ℓ : Loc Cert.DmixReferenceIdeal.nD Cert.DmixReferenceIdeal.τ Cert.DmixReferenceIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutReferenceIdeal (m : (ℓ : Loc Cert.GoutReferenceIdeal.nD Cert.GoutReferenceIdeal.τ Cert.GoutReferenceIdeal.sig) → Buf (Elt Ideal) ℓ) : Prop :=
  True

def Pre_Gbra (m : (ℓ : Loc Cert.Gbra.nD Cert.Gbra.τ Cert.Gbra.sig) → Buf (Elt Bits) ℓ) : Prop :=
  True

def Pre_GbraIdeal (m : (ℓ : Loc Cert.GbraIdeal.nD Cert.GbraIdeal.τ Cert.GbraIdeal.sig) → Buf (Elt Ideal) ℓ) : Prop :=
  True

def Pre_GbraReferenceIdeal (m : (ℓ : Loc Cert.GbraReferenceIdeal.nD Cert.GbraReferenceIdeal.τ Cert.GbraReferenceIdeal.sig) → Buf (Elt Ideal) ℓ) : Prop :=
  True

def Pre_Gbrb (m : (ℓ : Loc Cert.Gbrb.nD Cert.Gbrb.τ Cert.Gbrb.sig) → Buf (Elt Bits) ℓ) : Prop :=
  True

def Pre_GbrbIdeal (m : (ℓ : Loc Cert.GbrbIdeal.nD Cert.GbrbIdeal.τ Cert.GbrbIdeal.sig) → Buf (Elt Ideal) ℓ) : Prop :=
  True

def Pre_GbrbReferenceIdeal (m : (ℓ : Loc Cert.GbrbReferenceIdeal.nD Cert.GbrbReferenceIdeal.τ Cert.GbrbReferenceIdeal.sig) → Buf (Elt Ideal) ℓ) : Prop :=
  True

def Pre_Gbrc (m : (ℓ : Loc Cert.Gbrc.nD Cert.Gbrc.τ Cert.Gbrc.sig) → Buf (Elt Bits) ℓ) : Prop :=
  True

def Pre_GbrcIdeal (m : (ℓ : Loc Cert.GbrcIdeal.nD Cert.GbrcIdeal.τ Cert.GbrcIdeal.sig) → Buf (Elt Ideal) ℓ) : Prop :=
  True

def Pre_GbrcReferenceIdeal (m : (ℓ : Loc Cert.GbrcReferenceIdeal.nD Cert.GbrcReferenceIdeal.τ Cert.GbrcReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Dgate (m : (ℓ : Loc Cert.Dgate.nD Cert.Dgate.τ Cert.Dgate.sig) → Buf (Elt Bits) ℓ) : Prop :=
  True

def Pre_DgateIdeal (m : (ℓ : Loc Cert.DgateIdeal.nD Cert.DgateIdeal.τ Cert.DgateIdeal.sig) → Buf (Elt Ideal) ℓ) : Prop :=
  True

def Pre_DgateReferenceIdeal (m : (ℓ : Loc Cert.DgateReferenceIdeal.nD Cert.DgateReferenceIdeal.τ Cert.DgateReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Prepc (m : (ℓ : Loc Cert.Prepc.nD Cert.Prepc.τ Cert.Prepc.sig) → Buf (Elt Bits) ℓ) : Prop :=
  True

def Pre_PrepcIdeal (m : (ℓ : Loc Cert.PrepcIdeal.nD Cert.PrepcIdeal.τ Cert.PrepcIdeal.sig) → Buf (Elt Ideal) ℓ) : Prop :=
  True

def Pre_PrepcReferenceIdeal (m : (ℓ : Loc Cert.PrepcReferenceIdeal.nD Cert.PrepcReferenceIdeal.τ Cert.PrepcReferenceIdeal.sig) → Buf (Elt Ideal) ℓ) : Prop :=
  True

def Pre_Postc (m : (ℓ : Loc Cert.Postc.nD Cert.Postc.τ Cert.Postc.sig) → Buf (Elt Bits) ℓ) : Prop :=
  True

def Pre_PostcIdeal (m : (ℓ : Loc Cert.PostcIdeal.nD Cert.PostcIdeal.τ Cert.PostcIdeal.sig) → Buf (Elt Ideal) ℓ) : Prop :=
  True

def Pre_PostcReferenceIdeal (m : (ℓ : Loc Cert.PostcReferenceIdeal.nD Cert.PostcReferenceIdeal.τ Cert.PostcReferenceIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaReferenceIdeal (m : (ℓ : Loc Cert.DeltaReferenceIdeal.nD Cert.DeltaReferenceIdeal.τ Cert.DeltaReferenceIdeal.sig) → Buf (Elt Ideal) ℓ) : Prop :=
  True

def Pre_Ain (m : (ℓ : Loc Cert.Ain.nD Cert.Ain.τ Cert.Ain.sig) → Buf (Elt Bits) ℓ) : Prop :=
  True

def Pre_AinIdeal (m : (ℓ : Loc Cert.AinIdeal.nD Cert.AinIdeal.τ Cert.AinIdeal.sig) → Buf (Elt Ideal) ℓ) : Prop :=
  True

def Pre_AinReferenceIdeal (m : (ℓ : Loc Cert.AinReferenceIdeal.nD Cert.AinReferenceIdeal.τ Cert.AinReferenceIdeal.sig) → Buf (Elt Ideal) ℓ) : Prop :=
  True

def Pre_Abra (m : (ℓ : Loc Cert.Abra.nD Cert.Abra.τ Cert.Abra.sig) → Buf (Elt Bits) ℓ) : Prop :=
  True

def Pre_AbraIdeal (m : (ℓ : Loc Cert.AbraIdeal.nD Cert.AbraIdeal.τ Cert.AbraIdeal.sig) → Buf (Elt Ideal) ℓ) : Prop :=
  True

def Pre_AbraReferenceIdeal (m : (ℓ : Loc Cert.AbraReferenceIdeal.nD Cert.AbraReferenceIdeal.τ Cert.AbraReferenceIdeal.sig) → Buf (Elt Ideal) ℓ) : Prop :=
  True

def Pre_Abrb (m : (ℓ : Loc Cert.Abrb.nD Cert.Abrb.τ Cert.Abrb.sig) → Buf (Elt Bits) ℓ) : Prop :=
  True

def Pre_AbrbIdeal (m : (ℓ : Loc Cert.AbrbIdeal.nD Cert.AbrbIdeal.τ Cert.AbrbIdeal.sig) → Buf (Elt Ideal) ℓ) : Prop :=
  True

def Pre_AbrbReferenceIdeal (m : (ℓ : Loc Cert.AbrbReferenceIdeal.nD Cert.AbrbReferenceIdeal.τ Cert.AbrbReferenceIdeal.sig) → Buf (Elt Ideal) ℓ) : Prop :=
  True

def Pre_Aout (m : (ℓ : Loc Cert.Aout.nD Cert.Aout.τ Cert.Aout.sig) → Buf (Elt Bits) ℓ) : Prop :=
  True

def Pre_AoutIdeal (m : (ℓ : Loc Cert.AoutIdeal.nD Cert.AoutIdeal.τ Cert.AoutIdeal.sig) → Buf (Elt Ideal) ℓ) : Prop :=
  True

def Pre_AoutReferenceIdeal (m : (ℓ : Loc Cert.AoutReferenceIdeal.nD Cert.AoutReferenceIdeal.τ Cert.AoutReferenceIdeal.sig) → Buf (Elt Ideal) ℓ) : Prop :=
  True

def Pre_Aup (m : (ℓ : Loc Cert.Aup.nD Cert.Aup.τ Cert.Aup.sig) → Buf (Elt Bits) ℓ) : Prop :=
  True

def Pre_AupIdeal (m : (ℓ : Loc Cert.AupIdeal.nD Cert.AupIdeal.τ Cert.AupIdeal.sig) → Buf (Elt Ideal) ℓ) : Prop :=
  True

def Pre_AupReferenceIdeal (m : (ℓ : Loc Cert.AupReferenceIdeal.nD Cert.AupReferenceIdeal.τ Cert.AupReferenceIdeal.sig) → Buf (Elt Ideal) ℓ) : Prop :=
  True

def Pre_Asmall (m : (ℓ : Loc Cert.Asmall.nD Cert.Asmall.τ Cert.Asmall.sig) → Buf (Elt Bits) ℓ) : Prop :=
  True

def Pre_AsmallIdeal (m : (ℓ : Loc Cert.AsmallIdeal.nD Cert.AsmallIdeal.τ Cert.AsmallIdeal.sig) → Buf (Elt Ideal) ℓ) : Prop :=
  True

def Pre_AsmallReferenceIdeal (m : (ℓ : Loc Cert.AsmallReferenceIdeal.nD Cert.AsmallReferenceIdeal.τ Cert.AsmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_qkv [hFwdIdeal : Cert.FwdIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_qkv m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReferenceIdeal_pre_finite_qkv [hFwdReferenceIdeal : Cert.FwdReferenceIdeal.Facts] [hPre_finite_qkv : Cert.Pre_finite_qkv.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_qkv m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Gdown [hGdown : Cert.Gdown.Facts] : Prop :=
  ∀ (m : (ℓ : Loc Cert.Gdown.nD Cert.Gdown.τ Cert.Gdown.sig) → Buf (Elt Bits) ℓ) (g : Dev Cert.Gdown.nD → PrngReg), Pre_Gdown m →
    θ_run (Cert.Gdown.defs (F := Bits)) (onTc (τ := Cert.Gdown.τ) (Cert.Gdown.main (F := Bits))) ⟨m, fun _ => 0, g⟩ (fun r => (∀ c : Dev Cert.Gdown.nD,
      r.2.mem ((c.tc : Thread Cert.Gdown.nD Cert.Gdown.τ).loc Cert.Gdown.main_arg0) = m ((c.tc : Thread Cert.Gdown.nD Cert.Gdown.τ).loc Cert.Gdown.main_arg0)
      ∧ r.2.mem ((c.tc : Thread Cert.Gdown.nD Cert.Gdown.τ).loc Cert.Gdown.main_arg1) = m ((c.tc : Thread Cert.Gdown.nD Cert.Gdown.τ).loc Cert.Gdown.main_arg1)
      ∧ r.2.mem ((c.tc : Thread Cert.Gdown.nD Cert.Gdown.τ).loc Cert.Gdown.main_arg2) = m ((c.tc : Thread Cert.Gdown.nD Cert.Gdown.τ).loc Cert.Gdown.main_arg2)
      ∧ r.2.mem ((c.tc : Thread Cert.Gdown.nD Cert.Gdown.τ).loc Cert.Gdown.main_arg3) = m ((c.tc : Thread Cert.Gdown.nD Cert.Gdown.τ).loc Cert.Gdown.main_arg3))
      ∧ r.2.sem = fun _ => 0)

def quiescent_GdownIdeal [hGdownIdeal : Cert.GdownIdeal.Facts] : Prop :=
  ∀ (m : (ℓ : Loc Cert.GdownIdeal.nD Cert.GdownIdeal.τ Cert.GdownIdeal.sig) → Buf (Elt Ideal) ℓ) (g : Dev Cert.GdownIdeal.nD → PrngReg), Pre_GdownIdeal m →
    θ_run (Cert.GdownIdeal.defs (F := Ideal)) (onTc (τ := Cert.GdownIdeal.τ) (Cert.GdownIdeal.main (F := Ideal))) ⟨m, fun _ => 0, g⟩ (fun r => (∀ c : Dev Cert.GdownIdeal.nD,
      r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
      ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1)
      ∧ r.2.mem ((c.tc : Thread Cert.GdownIdeal.nD Cert.GdownIdeal.τ).loc Cert.GdownIdeal.main_arg2) = m ((c.tc : Thread Cert.GdownIdeal.nD Cert.GdownIdeal.τ).loc Cert.GdownIdeal.main_arg2)
      ∧ r.2.mem ((c.tc : Thread Cert.GdownIdeal.nD Cert.GdownIdeal.τ).loc Cert.GdownIdeal.main_arg3) = m ((c.tc : Thread Cert.GdownIdeal.nD Cert.GdownIdeal.τ).loc Cert.GdownIdeal.main_arg3))
      ∧ r.2.sem = fun _ => 0)

def quiescent_GdownReferenceIdeal [hGdownReferenceIdeal : Cert.GdownReferenceIdeal.Facts] : Prop :=
  ∀ (m : (ℓ : Loc Cert.GdownReferenceIdeal.nD Cert.GdownReferenceIdeal.τ Cert.GdownReferenceIdeal.sig) → Buf (Elt Ideal) ℓ) (g : Dev Cert.GdownReferenceIdeal.nD → PrngReg), Pre_GdownReferenceIdeal m →
    θ_run (Cert.GdownReferenceIdeal.defs (F := Ideal)) (onTc (τ := Cert.GdownReferenceIdeal.τ) (Cert.GdownReferenceIdeal.main (F := Ideal))) ⟨m, fun _ => 0, g⟩ (fun r => (∀ c : Dev Cert.GdownReferenceIdeal.nD,
      r.2.mem ((c.tc : Thread Cert.GdownReferenceIdeal.nD Cert.GdownReferenceIdeal.τ).loc Cert.GdownReferenceIdeal.main_arg0) = m ((c.tc : Thread Cert.GdownReferenceIdeal.nD Cert.GdownReferenceIdeal.τ).loc Cert.GdownReferenceIdeal.main_arg0)
      ∧ r.2.mem ((c.tc : Thread Cert.GdownReferenceIdeal.nD Cert.GdownReferenceIdeal.τ).loc Cert.GdownReferenceIdeal.main_arg1) = m ((c.tc : Thread Cert.GdownReferenceIdeal.nD Cert.GdownReferenceIdeal.τ).loc Cert.GdownReferenceIdeal.main_arg1)
      ∧ r.2.mem ((c.tc : Thread Cert.GdownReferenceIdeal.nD Cert.GdownReferenceIdeal.τ).loc Cert.GdownReferenceIdeal.main_arg2) = m ((c.tc : Thread Cert.GdownReferenceIdeal.nD Cert.GdownReferenceIdeal.τ).loc Cert.GdownReferenceIdeal.main_arg2)
      ∧ r.2.mem ((c.tc : Thread Cert.GdownReferenceIdeal.nD Cert.GdownReferenceIdeal.τ).loc Cert.GdownReferenceIdeal.main_arg3) = m ((c.tc : Thread Cert.GdownReferenceIdeal.nD Cert.GdownReferenceIdeal.τ).loc Cert.GdownReferenceIdeal.main_arg3))
      ∧ r.2.sem = fun _ => 0)

def quiescent_Dln [hDln : Cert.Dln.Facts] : Prop :=
  ∀ (m : (ℓ : Loc Cert.Dln.nD Cert.Dln.τ Cert.Dln.sig) → Buf (Elt Bits) ℓ) (g : Dev Cert.Dln.nD → PrngReg), Pre_Dln m →
    θ_run (Cert.Dln.defs (F := Bits)) (onTc (τ := Cert.Dln.τ) (Cert.Dln.main (F := Bits))) ⟨m, fun _ => 0, g⟩ (fun r => (∀ c : Dev Cert.Dln.nD,
      r.2.mem ((c.tc : Thread Cert.Dln.nD Cert.Dln.τ).loc Cert.Dln.main_arg0) = m ((c.tc : Thread Cert.Dln.nD Cert.Dln.τ).loc Cert.Dln.main_arg0)
      ∧ r.2.mem ((c.tc : Thread Cert.Dln.nD Cert.Dln.τ).loc Cert.Dln.main_arg1) = m ((c.tc : Thread Cert.Dln.nD Cert.Dln.τ).loc Cert.Dln.main_arg1)
      ∧ r.2.mem ((c.tc : Thread Cert.Dln.nD Cert.Dln.τ).loc Cert.Dln.main_arg2) = m ((c.tc : Thread Cert.Dln.nD Cert.Dln.τ).loc Cert.Dln.main_arg2)
      ∧ r.2.mem ((c.tc : Thread Cert.Dln.nD Cert.Dln.τ).loc Cert.Dln.main_arg3) = m ((c.tc : Thread Cert.Dln.nD Cert.Dln.τ).loc Cert.Dln.main_arg3))
      ∧ r.2.sem = fun _ => 0)

def quiescent_DlnIdeal [hDlnIdeal : Cert.DlnIdeal.Facts] : Prop :=
  ∀ (m : (ℓ : Loc Cert.DlnIdeal.nD Cert.DlnIdeal.τ Cert.DlnIdeal.sig) → Buf (Elt Ideal) ℓ) (g : Dev Cert.DlnIdeal.nD → PrngReg), Pre_DlnIdeal m →
    θ_run (Cert.DlnIdeal.defs (F := Ideal)) (onTc (τ := Cert.DlnIdeal.τ) (Cert.DlnIdeal.main (F := Ideal))) ⟨m, fun _ => 0, g⟩ (fun r => (∀ c : Dev Cert.DlnIdeal.nD,
      r.2.mem ((c.tc : Thread Cert.DlnIdeal.nD Cert.DlnIdeal.τ).loc Cert.DlnIdeal.main_arg0) = m ((c.tc : Thread Cert.DlnIdeal.nD Cert.DlnIdeal.τ).loc Cert.DlnIdeal.main_arg0)
      ∧ r.2.mem ((c.tc : Thread Cert.DlnIdeal.nD Cert.DlnIdeal.τ).loc Cert.DlnIdeal.main_arg1) = m ((c.tc : Thread Cert.DlnIdeal.nD Cert.DlnIdeal.τ).loc Cert.DlnIdeal.main_arg1)
      ∧ r.2.mem ((c.tc : Thread Cert.DlnIdeal.nD Cert.DlnIdeal.τ).loc Cert.DlnIdeal.main_arg2) = m ((c.tc : Thread Cert.DlnIdeal.nD Cert.DlnIdeal.τ).loc Cert.DlnIdeal.main_arg2)
      ∧ r.2.mem ((c.tc : Thread Cert.DlnIdeal.nD Cert.DlnIdeal.τ).loc Cert.DlnIdeal.main_arg3) = m ((c.tc : Thread Cert.DlnIdeal.nD Cert.DlnIdeal.τ).loc Cert.DlnIdeal.main_arg3))
      ∧ r.2.sem = fun _ => 0)

def quiescent_DlnIdeal_pre_finite_ln [hDlnIdeal : Cert.DlnIdeal.Facts] [hPre_finite_ln : Cert.Pre_finite_ln.Facts] : Prop :=
  ∀ (m : (ℓ : Loc Cert.DlnIdeal.nD Cert.DlnIdeal.τ Cert.DlnIdeal.sig) → Buf (Elt Ideal) ℓ) (g : Dev Cert.DlnIdeal.nD → PrngReg), Pre_DlnIdeal_finite_ln m →
    θ_run (Cert.DlnIdeal.defs (F := Ideal)) (onTc (τ := Cert.DlnIdeal.τ) (Cert.DlnIdeal.main (F := Ideal))) ⟨m, fun _ => 0, g⟩ (fun r => (∀ c : Dev Cert.DlnIdeal.nD,
      r.2.mem ((c.tc : Thread Cert.DlnIdeal.nD Cert.DlnIdeal.τ).loc Cert.DlnIdeal.main_arg0) = m ((c.tc : Thread Cert.DlnIdeal.nD Cert.DlnIdeal.τ).loc Cert.DlnIdeal.main_arg0)
      ∧ r.2.mem ((c.tc : Thread Cert.DlnIdeal.nD Cert.DlnIdeal.τ).loc Cert.DlnIdeal.main_arg1) = m ((c.tc : Thread Cert.DlnIdeal.nD Cert.DlnIdeal.τ).loc Cert.DlnIdeal.main_arg1)
      ∧ r.2.mem ((c.tc : Thread Cert.DlnIdeal.nD Cert.DlnIdeal.τ).loc Cert.DlnIdeal.main_arg2) = m ((c.tc : Thread Cert.DlnIdeal.nD Cert.DlnIdeal.τ).loc Cert.DlnIdeal.main_arg2)
      ∧ r.2.mem ((c.tc : Thread Cert.DlnIdeal.nD Cert.DlnIdeal.τ).loc Cert.DlnIdeal.main_arg3) = m ((c.tc : Thread Cert.DlnIdeal.nD Cert.DlnIdeal.τ).loc Cert.DlnIdeal.main_arg3))
      ∧ r.2.sem = fun _ => 0)

def quiescent_DlnReferenceIdeal [hDlnReferenceIdeal : Cert.DlnReferenceIdeal.Facts] : Prop :=
  ∀ (m : (ℓ : Loc Cert.DlnReferenceIdeal.nD Cert.DlnReferenceIdeal.τ Cert.DlnReferenceIdeal.sig) → Buf (Elt Ideal) ℓ) (g : Dev Cert.DlnReferenceIdeal.nD → PrngReg), Pre_DlnReferenceIdeal m →
    θ_run (Cert.DlnReferenceIdeal.defs (F := Ideal)) (onTc (τ := Cert.DlnReferenceIdeal.τ) (Cert.DlnReferenceIdeal.main (F := Ideal))) ⟨m, fun _ => 0, g⟩ (fun r => (∀ c : Dev Cert.DlnReferenceIdeal.nD,
      r.2.mem ((c.tc : Thread Cert.DlnReferenceIdeal.nD Cert.DlnReferenceIdeal.τ).loc Cert.DlnReferenceIdeal.main_arg0) = m ((c.tc : Thread Cert.DlnReferenceIdeal.nD Cert.DlnReferenceIdeal.τ).loc Cert.DlnReferenceIdeal.main_arg0)
      ∧ r.2.mem ((c.tc : Thread Cert.DlnReferenceIdeal.nD Cert.DlnReferenceIdeal.τ).loc Cert.DlnReferenceIdeal.main_arg1) = m ((c.tc : Thread Cert.DlnReferenceIdeal.nD Cert.DlnReferenceIdeal.τ).loc Cert.DlnReferenceIdeal.main_arg1)
      ∧ r.2.mem ((c.tc : Thread Cert.DlnReferenceIdeal.nD Cert.DlnReferenceIdeal.τ).loc Cert.DlnReferenceIdeal.main_arg2) = m ((c.tc : Thread Cert.DlnReferenceIdeal.nD Cert.DlnReferenceIdeal.τ).loc Cert.DlnReferenceIdeal.main_arg2)
      ∧ r.2.mem ((c.tc : Thread Cert.DlnReferenceIdeal.nD Cert.DlnReferenceIdeal.τ).loc Cert.DlnReferenceIdeal.main_arg3) = m ((c.tc : Thread Cert.DlnReferenceIdeal.nD Cert.DlnReferenceIdeal.τ).loc Cert.DlnReferenceIdeal.main_arg3))
      ∧ r.2.sem = fun _ => 0)

def quiescent_DlnReferenceIdeal_pre_finite_ln [hDlnReferenceIdeal : Cert.DlnReferenceIdeal.Facts] [hPre_finite_ln : Cert.Pre_finite_ln.Facts] : Prop :=
  ∀ (m : (ℓ : Loc Cert.DlnReferenceIdeal.nD Cert.DlnReferenceIdeal.τ Cert.DlnReferenceIdeal.sig) → Buf (Elt Ideal) ℓ) (g : Dev Cert.DlnReferenceIdeal.nD → PrngReg), Pre_DlnReferenceIdeal_finite_ln m →
    θ_run (Cert.DlnReferenceIdeal.defs (F := Ideal)) (onTc (τ := Cert.DlnReferenceIdeal.τ) (Cert.DlnReferenceIdeal.main (F := Ideal))) ⟨m, fun _ => 0, g⟩ (fun r => (∀ c : Dev Cert.DlnReferenceIdeal.nD,
      r.2.mem ((c.tc : Thread Cert.DlnReferenceIdeal.nD Cert.DlnReferenceIdeal.τ).loc Cert.DlnReferenceIdeal.main_arg0) = m ((c.tc : Thread Cert.DlnReferenceIdeal.nD Cert.DlnReferenceIdeal.τ).loc Cert.DlnReferenceIdeal.main_arg0)
      ∧ r.2.mem ((c.tc : Thread Cert.DlnReferenceIdeal.nD Cert.DlnReferenceIdeal.τ).loc Cert.DlnReferenceIdeal.main_arg1) = m ((c.tc : Thread Cert.DlnReferenceIdeal.nD Cert.DlnReferenceIdeal.τ).loc Cert.DlnReferenceIdeal.main_arg1)
      ∧ r.2.mem ((c.tc : Thread Cert.DlnReferenceIdeal.nD Cert.DlnReferenceIdeal.τ).loc Cert.DlnReferenceIdeal.main_arg2) = m ((c.tc : Thread Cert.DlnReferenceIdeal.nD Cert.DlnReferenceIdeal.τ).loc Cert.DlnReferenceIdeal.main_arg2)
      ∧ r.2.mem ((c.tc : Thread Cert.DlnReferenceIdeal.nD Cert.DlnReferenceIdeal.τ).loc Cert.DlnReferenceIdeal.main_arg3) = m ((c.tc : Thread Cert.DlnReferenceIdeal.nD Cert.DlnReferenceIdeal.τ).loc Cert.DlnReferenceIdeal.main_arg3))
      ∧ r.2.sem = fun _ => 0)

def quiescent_Prepb [hPrepb : Cert.Prepb.Facts] : Prop :=
  ∀ (m : (ℓ : Loc Cert.Prepb.nD Cert.Prepb.τ Cert.Prepb.sig) → Buf (Elt Bits) ℓ) (g : Dev Cert.Prepb.nD → PrngReg), Pre_Prepb m →
    θ_run (Cert.Prepb.defs (F := Bits)) (onTc (τ := Cert.Prepb.τ) (Cert.Prepb.main (F := Bits))) ⟨m, fun _ => 0, g⟩ (fun r => (∀ c : Dev Cert.Prepb.nD,
      r.2.mem ((c.tc : Thread Cert.Prepb.nD Cert.Prepb.τ).loc Cert.Prepb.main_arg0) = m ((c.tc : Thread Cert.Prepb.nD Cert.Prepb.τ).loc Cert.Prepb.main_arg0)
      ∧ r.2.mem ((c.tc : Thread Cert.Prepb.nD Cert.Prepb.τ).loc Cert.Prepb.main_arg1) = m ((c.tc : Thread Cert.Prepb.nD Cert.Prepb.τ).loc Cert.Prepb.main_arg1)
      ∧ r.2.mem ((c.tc : Thread Cert.Prepb.nD Cert.Prepb.τ).loc Cert.Prepb.main_arg2) = m ((c.tc : Thread Cert.Prepb.nD Cert.Prepb.τ).loc Cert.Prepb.main_arg2))
      ∧ r.2.sem = fun _ => 0)

def quiescent_PrepbIdeal [hPrepbIdeal : Cert.PrepbIdeal.Facts] : Prop :=
  ∀ (m : (ℓ : Loc Cert.PrepbIdeal.nD Cert.PrepbIdeal.τ Cert.PrepbIdeal.sig) → Buf (Elt Ideal) ℓ) (g : Dev Cert.PrepbIdeal.nD → PrngReg), Pre_PrepbIdeal m →
    θ_run (Cert.PrepbIdeal.defs (F := Ideal)) (onTc (τ := Cert.PrepbIdeal.τ) (Cert.PrepbIdeal.main (F := Ideal))) ⟨m, fun _ => 0, g⟩ (fun r => (∀ c : Dev Cert.PrepbIdeal.nD,
      r.2.mem ((c.tc : Thread Cert.PrepbIdeal.nD Cert.PrepbIdeal.τ).loc Cert.PrepbIdeal.main_arg0) = m ((c.tc : Thread Cert.PrepbIdeal.nD Cert.PrepbIdeal.τ).loc Cert.PrepbIdeal.main_arg0)
      ∧ r.2.mem ((c.tc : Thread Cert.PrepbIdeal.nD Cert.PrepbIdeal.τ).loc Cert.PrepbIdeal.main_arg1) = m ((c.tc : Thread Cert.PrepbIdeal.nD Cert.PrepbIdeal.τ).loc Cert.PrepbIdeal.main_arg1)
      ∧ r.2.mem ((c.tc : Thread Cert.PrepbIdeal.nD Cert.PrepbIdeal.τ).loc Cert.PrepbIdeal.main_arg2) = m ((c.tc : Thread Cert.PrepbIdeal.nD Cert.PrepbIdeal.τ).loc Cert.PrepbIdeal.main_arg2))
      ∧ r.2.sem = fun _ => 0)

def quiescent_PrepbIdeal_pre_finite_qk [hPrepbIdeal : Cert.PrepbIdeal.Facts] [hPre_finite_qk : Cert.Pre_finite_qk.Facts] : Prop :=
  ∀ (m : (ℓ : Loc Cert.PrepbIdeal.nD Cert.PrepbIdeal.τ Cert.PrepbIdeal.sig) → Buf (Elt Ideal) ℓ) (g : Dev Cert.PrepbIdeal.nD → PrngReg), Pre_PrepbIdeal_finite_qk m →
    θ_run (Cert.PrepbIdeal.defs (F := Ideal)) (onTc (τ := Cert.PrepbIdeal.τ) (Cert.PrepbIdeal.main (F := Ideal))) ⟨m, fun _ => 0, g⟩ (fun r => (∀ c : Dev Cert.PrepbIdeal.nD,
      r.2.mem ((c.tc : Thread Cert.PrepbIdeal.nD Cert.PrepbIdeal.τ).loc Cert.PrepbIdeal.main_arg0) = m ((c.tc : Thread Cert.PrepbIdeal.nD Cert.PrepbIdeal.τ).loc Cert.PrepbIdeal.main_arg0)
      ∧ r.2.mem ((c.tc : Thread Cert.PrepbIdeal.nD Cert.PrepbIdeal.τ).loc Cert.PrepbIdeal.main_arg1) = m ((c.tc : Thread Cert.PrepbIdeal.nD Cert.PrepbIdeal.τ).loc Cert.PrepbIdeal.main_arg1)
      ∧ r.2.mem ((c.tc : Thread Cert.PrepbIdeal.nD Cert.PrepbIdeal.τ).loc Cert.PrepbIdeal.main_arg2) = m ((c.tc : Thread Cert.PrepbIdeal.nD Cert.PrepbIdeal.τ).loc Cert.PrepbIdeal.main_arg2))
      ∧ r.2.sem = fun _ => 0)

def quiescent_PrepbReferenceIdeal [hPrepbReferenceIdeal : Cert.PrepbReferenceIdeal.Facts] : Prop :=
  ∀ (m : (ℓ : Loc Cert.PrepbReferenceIdeal.nD Cert.PrepbReferenceIdeal.τ Cert.PrepbReferenceIdeal.sig) → Buf (Elt Ideal) ℓ) (g : Dev Cert.PrepbReferenceIdeal.nD → PrngReg), Pre_PrepbReferenceIdeal m →
    θ_run (Cert.PrepbReferenceIdeal.defs (F := Ideal)) (onTc (τ := Cert.PrepbReferenceIdeal.τ) (Cert.PrepbReferenceIdeal.main (F := Ideal))) ⟨m, fun _ => 0, g⟩ (fun r => (∀ c : Dev Cert.PrepbReferenceIdeal.nD,
      r.2.mem ((c.tc : Thread Cert.PrepbReferenceIdeal.nD Cert.PrepbReferenceIdeal.τ).loc Cert.PrepbReferenceIdeal.main_arg0) = m ((c.tc : Thread Cert.PrepbReferenceIdeal.nD Cert.PrepbReferenceIdeal.τ).loc Cert.PrepbReferenceIdeal.main_arg0)
      ∧ r.2.mem ((c.tc : Thread Cert.PrepbReferenceIdeal.nD Cert.PrepbReferenceIdeal.τ).loc Cert.PrepbReferenceIdeal.main_arg1) = m ((c.tc : Thread Cert.PrepbReferenceIdeal.nD Cert.PrepbReferenceIdeal.τ).loc Cert.PrepbReferenceIdeal.main_arg1)
      ∧ r.2.mem ((c.tc : Thread Cert.PrepbReferenceIdeal.nD Cert.PrepbReferenceIdeal.τ).loc Cert.PrepbReferenceIdeal.main_arg2) = m ((c.tc : Thread Cert.PrepbReferenceIdeal.nD Cert.PrepbReferenceIdeal.τ).loc Cert.PrepbReferenceIdeal.main_arg2))
      ∧ r.2.sem = fun _ => 0)

def quiescent_PrepbReferenceIdeal_pre_finite_qk [hPrepbReferenceIdeal : Cert.PrepbReferenceIdeal.Facts] [hPre_finite_qk : Cert.Pre_finite_qk.Facts] : Prop :=
  ∀ (m : (ℓ : Loc Cert.PrepbReferenceIdeal.nD Cert.PrepbReferenceIdeal.τ Cert.PrepbReferenceIdeal.sig) → Buf (Elt Ideal) ℓ) (g : Dev Cert.PrepbReferenceIdeal.nD → PrngReg), Pre_PrepbReferenceIdeal_finite_qk m →
    θ_run (Cert.PrepbReferenceIdeal.defs (F := Ideal)) (onTc (τ := Cert.PrepbReferenceIdeal.τ) (Cert.PrepbReferenceIdeal.main (F := Ideal))) ⟨m, fun _ => 0, g⟩ (fun r => (∀ c : Dev Cert.PrepbReferenceIdeal.nD,
      r.2.mem ((c.tc : Thread Cert.PrepbReferenceIdeal.nD Cert.PrepbReferenceIdeal.τ).loc Cert.PrepbReferenceIdeal.main_arg0) = m ((c.tc : Thread Cert.PrepbReferenceIdeal.nD Cert.PrepbReferenceIdeal.τ).loc Cert.PrepbReferenceIdeal.main_arg0)
      ∧ r.2.mem ((c.tc : Thread Cert.PrepbReferenceIdeal.nD Cert.PrepbReferenceIdeal.τ).loc Cert.PrepbReferenceIdeal.main_arg1) = m ((c.tc : Thread Cert.PrepbReferenceIdeal.nD Cert.PrepbReferenceIdeal.τ).loc Cert.PrepbReferenceIdeal.main_arg1)
      ∧ r.2.mem ((c.tc : Thread Cert.PrepbReferenceIdeal.nD Cert.PrepbReferenceIdeal.τ).loc Cert.PrepbReferenceIdeal.main_arg2) = m ((c.tc : Thread Cert.PrepbReferenceIdeal.nD Cert.PrepbReferenceIdeal.τ).loc Cert.PrepbReferenceIdeal.main_arg2))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1)
      ∧ r.2.mem ((c.tc : Thread Cert.Gup.nD Cert.Gup.τ).loc Cert.Gup.main_arg2) = m ((c.tc : Thread Cert.Gup.nD Cert.Gup.τ).loc Cert.Gup.main_arg2))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
      ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ r.2.sem = fun _ => 0)

def quiescent_GupReferenceIdeal [hGupReferenceIdeal : Cert.GupReferenceIdeal.Facts] : Prop :=
  ∀ (m : (ℓ : Loc Cert.GupReferenceIdeal.nD Cert.GupReferenceIdeal.τ Cert.GupReferenceIdeal.sig) → Buf (Elt Ideal) ℓ) (g : Dev Cert.GupReferenceIdeal.nD → PrngReg), Pre_GupReferenceIdeal m →
    θ_run (Cert.GupReferenceIdeal.defs (F := Ideal)) (onTc (τ := Cert.GupReferenceIdeal.τ) (Cert.GupReferenceIdeal.main (F := Ideal))) ⟨m, fun _ => 0, g⟩ (fun r => (∀ c : Dev Cert.GupReferenceIdeal.nD,
      r.2.mem ((c.tc : Thread Cert.GupReferenceIdeal.nD Cert.GupReferenceIdeal.τ).loc Cert.GupReferenceIdeal.main_arg0) = m ((c.tc : Thread Cert.GupReferenceIdeal.nD Cert.GupReferenceIdeal.τ).loc Cert.GupReferenceIdeal.main_arg0)
      ∧ r.2.mem ((c.tc : Thread Cert.GupReferenceIdeal.nD Cert.GupReferenceIdeal.τ).loc Cert.GupReferenceIdeal.main_arg1) = m ((c.tc : Thread Cert.GupReferenceIdeal.nD Cert.GupReferenceIdeal.τ).loc Cert.GupReferenceIdeal.main_arg1)
      ∧ r.2.mem ((c.tc : Thread Cert.GupReferenceIdeal.nD Cert.GupReferenceIdeal.τ).loc Cert.GupReferenceIdeal.main_arg2) = m ((c.tc : Thread Cert.GupReferenceIdeal.nD Cert.GupReferenceIdeal.τ).loc Cert.GupReferenceIdeal.main_arg2))
      ∧ r.2.sem = fun _ => 0)

def quiescent_Dx1 [hDx1 : Cert.Dx1.Facts] : Prop :=
  ∀ (m : (ℓ : Loc Cert.Dx1.nD Cert.Dx1.τ Cert.Dx1.sig) → Buf (Elt Bits) ℓ) (g : Dev Cert.Dx1.nD → PrngReg), Pre_Dx1 m →
    θ_run (Cert.Dx1.defs (F := Bits)) (onTc (τ := Cert.Dx1.τ) (Cert.Dx1.main (F := Bits))) ⟨m, fun _ => 0, g⟩ (fun r => (∀ c : Dev Cert.Dx1.nD,
      r.2.mem ((c.tc : Thread Cert.Dx1.nD Cert.Dx1.τ).loc Cert.Dx1.main_arg0) = m ((c.tc : Thread Cert.Dx1.nD Cert.Dx1.τ).loc Cert.Dx1.main_arg0)
      ∧ r.2.mem ((c.tc : Thread Cert.Dx1.nD Cert.Dx1.τ).loc Cert.Dx1.main_arg1) = m ((c.tc : Thread Cert.Dx1.nD Cert.Dx1.τ).loc Cert.Dx1.main_arg1)
      ∧ r.2.mem ((c.tc : Thread Cert.Dx1.nD Cert.Dx1.τ).loc Cert.Dx1.main_arg2) = m ((c.tc : Thread Cert.Dx1.nD Cert.Dx1.τ).loc Cert.Dx1.main_arg2)
      ∧ r.2.mem ((c.tc : Thread Cert.Dx1.nD Cert.Dx1.τ).loc Cert.Dx1.main_arg3) = m ((c.tc : Thread Cert.Dx1.nD Cert.Dx1.τ).loc Cert.Dx1.main_arg3))
      ∧ r.2.sem = fun _ => 0)

def quiescent_Dx1Ideal [hDx1Ideal : Cert.Dx1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg), Pre_Dx1Ideal m →
    θ_run (Cert.Dx1Ideal.defs (F := Ideal)) (onTc (τ := Cert.Dx1Ideal.τ) (Cert.Dx1Ideal.main (F := Ideal))) ⟨m, fun _ => 0, g⟩ (fun r => (∀ c : Dev Cert.Dx1Ideal.nD,
      r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
      ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
      ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2)
      ∧ r.2.mem ((c.tc : Thread Cert.Dx1Ideal.nD Cert.Dx1Ideal.τ).loc Cert.Dx1Ideal.main_arg3) = m ((c.tc : Thread Cert.Dx1Ideal.nD Cert.Dx1Ideal.τ).loc Cert.Dx1Ideal.main_arg3))
      ∧ r.2.sem = fun _ => 0)

def quiescent_Dx1ReferenceIdeal [hDx1ReferenceIdeal : Cert.Dx1ReferenceIdeal.Facts] : Prop :=
  ∀ (m : (ℓ : Loc Cert.Dx1ReferenceIdeal.nD Cert.Dx1ReferenceIdeal.τ Cert.Dx1ReferenceIdeal.sig) → Buf (Elt Ideal) ℓ) (g : Dev Cert.Dx1ReferenceIdeal.nD → PrngReg), Pre_Dx1ReferenceIdeal m →
    θ_run (Cert.Dx1ReferenceIdeal.defs (F := Ideal)) (onTc (τ := Cert.Dx1ReferenceIdeal.τ) (Cert.Dx1ReferenceIdeal.main (F := Ideal))) ⟨m, fun _ => 0, g⟩ (fun r => (∀ c : Dev Cert.Dx1ReferenceIdeal.nD,
      r.2.mem ((c.tc : Thread Cert.Dx1ReferenceIdeal.nD Cert.Dx1ReferenceIdeal.τ).loc Cert.Dx1ReferenceIdeal.main_arg0) = m ((c.tc : Thread Cert.Dx1ReferenceIdeal.nD Cert.Dx1ReferenceIdeal.τ).loc Cert.Dx1ReferenceIdeal.main_arg0)
      ∧ r.2.mem ((c.tc : Thread Cert.Dx1ReferenceIdeal.nD Cert.Dx1ReferenceIdeal.τ).loc Cert.Dx1ReferenceIdeal.main_arg1) = m ((c.tc : Thread Cert.Dx1ReferenceIdeal.nD Cert.Dx1ReferenceIdeal.τ).loc Cert.Dx1ReferenceIdeal.main_arg1)
      ∧ r.2.mem ((c.tc : Thread Cert.Dx1ReferenceIdeal.nD Cert.Dx1ReferenceIdeal.τ).loc Cert.Dx1ReferenceIdeal.main_arg2) = m ((c.tc : Thread Cert.Dx1ReferenceIdeal.nD Cert.Dx1ReferenceIdeal.τ).loc Cert.Dx1ReferenceIdeal.main_arg2)
      ∧ r.2.mem ((c.tc : Thread Cert.Dx1ReferenceIdeal.nD Cert.Dx1ReferenceIdeal.τ).loc Cert.Dx1ReferenceIdeal.main_arg3) = m ((c.tc : Thread Cert.Dx1ReferenceIdeal.nD Cert.Dx1ReferenceIdeal.τ).loc Cert.Dx1ReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Ginq [hGinq : Cert.Ginq.Facts] : Prop :=
  ∀ (m : (ℓ : Loc Cert.Ginq.nD Cert.Ginq.τ Cert.Ginq.sig) → Buf (Elt Bits) ℓ) (g : Dev Cert.Ginq.nD → PrngReg), Pre_Ginq m →
    θ_run (Cert.Ginq.defs (F := Bits)) (onTc (τ := Cert.Ginq.τ) (Cert.Ginq.main (F := Bits))) ⟨m, fun _ => 0, g⟩ (fun r => (∀ c : Dev Cert.Ginq.nD,
      r.2.mem ((c.tc : Thread Cert.Ginq.nD Cert.Ginq.τ).loc Cert.Ginq.main_arg0) = m ((c.tc : Thread Cert.Ginq.nD Cert.Ginq.τ).loc Cert.Ginq.main_arg0)
      ∧ r.2.mem ((c.tc : Thread Cert.Ginq.nD Cert.Ginq.τ).loc Cert.Ginq.main_arg1) = m ((c.tc : Thread Cert.Ginq.nD Cert.Ginq.τ).loc Cert.Ginq.main_arg1)
      ∧ r.2.mem ((c.tc : Thread Cert.Ginq.nD Cert.Ginq.τ).loc Cert.Ginq.main_arg2) = m ((c.tc : Thread Cert.Ginq.nD Cert.Ginq.τ).loc Cert.Ginq.main_arg2))
      ∧ r.2.sem = fun _ => 0)

def quiescent_GinqIdeal [hGinqIdeal : Cert.GinqIdeal.Facts] : Prop :=
  ∀ (m : (ℓ : Loc Cert.GinqIdeal.nD Cert.GinqIdeal.τ Cert.GinqIdeal.sig) → Buf (Elt Ideal) ℓ) (g : Dev Cert.GinqIdeal.nD → PrngReg), Pre_GinqIdeal m →
    θ_run (Cert.GinqIdeal.defs (F := Ideal)) (onTc (τ := Cert.GinqIdeal.τ) (Cert.GinqIdeal.main (F := Ideal))) ⟨m, fun _ => 0, g⟩ (fun r => (∀ c : Dev Cert.GinqIdeal.nD,
      r.2.mem ((c.tc : Thread Cert.GinqIdeal.nD Cert.GinqIdeal.τ).loc Cert.GinqIdeal.main_arg0) = m ((c.tc : Thread Cert.GinqIdeal.nD Cert.GinqIdeal.τ).loc Cert.GinqIdeal.main_arg0)
      ∧ r.2.mem ((c.tc : Thread Cert.GinqIdeal.nD Cert.GinqIdeal.τ).loc Cert.GinqIdeal.main_arg1) = m ((c.tc : Thread Cert.GinqIdeal.nD Cert.GinqIdeal.τ).loc Cert.GinqIdeal.main_arg1)
      ∧ r.2.mem ((c.tc : Thread Cert.GinqIdeal.nD Cert.GinqIdeal.τ).loc Cert.GinqIdeal.main_arg2) = m ((c.tc : Thread Cert.GinqIdeal.nD Cert.GinqIdeal.τ).loc Cert.GinqIdeal.main_arg2))
      ∧ r.2.sem = fun _ => 0)

def quiescent_GinqReferenceIdeal [hGinqReferenceIdeal : Cert.GinqReferenceIdeal.Facts] : Prop :=
  ∀ (m : (ℓ : Loc Cert.GinqReferenceIdeal.nD Cert.GinqReferenceIdeal.τ Cert.GinqReferenceIdeal.sig) → Buf (Elt Ideal) ℓ) (g : Dev Cert.GinqReferenceIdeal.nD → PrngReg), Pre_GinqReferenceIdeal m →
    θ_run (Cert.GinqReferenceIdeal.defs (F := Ideal)) (onTc (τ := Cert.GinqReferenceIdeal.τ) (Cert.GinqReferenceIdeal.main (F := Ideal))) ⟨m, fun _ => 0, g⟩ (fun r => (∀ c : Dev Cert.GinqReferenceIdeal.nD,
      r.2.mem ((c.tc : Thread Cert.GinqReferenceIdeal.nD Cert.GinqReferenceIdeal.τ).loc Cert.GinqReferenceIdeal.main_arg0) = m ((c.tc : Thread Cert.GinqReferenceIdeal.nD Cert.GinqReferenceIdeal.τ).loc Cert.GinqReferenceIdeal.main_arg0)
      ∧ r.2.mem ((c.tc : Thread Cert.GinqReferenceIdeal.nD Cert.GinqReferenceIdeal.τ).loc Cert.GinqReferenceIdeal.main_arg1) = m ((c.tc : Thread Cert.GinqReferenceIdeal.nD Cert.GinqReferenceIdeal.τ).loc Cert.GinqReferenceIdeal.main_arg1)
      ∧ r.2.mem ((c.tc : Thread Cert.GinqReferenceIdeal.nD Cert.GinqReferenceIdeal.τ).loc Cert.GinqReferenceIdeal.main_arg2) = m ((c.tc : Thread Cert.GinqReferenceIdeal.nD Cert.GinqReferenceIdeal.τ).loc Cert.GinqReferenceIdeal.main_arg2))
      ∧ r.2.sem = fun _ => 0)

def quiescent_Ging [hGing : Cert.Ging.Facts] : Prop :=
  ∀ (m : (ℓ : Loc Cert.Ging.nD Cert.Ging.τ Cert.Ging.sig) → Buf (Elt Bits) ℓ) (g : Dev Cert.Ging.nD → PrngReg), Pre_Ging m →
    θ_run (Cert.Ging.defs (F := Bits)) (onTc (τ := Cert.Ging.τ) (Cert.Ging.main (F := Bits))) ⟨m, fun _ => 0, g⟩ (fun r => (∀ c : Dev Cert.Ging.nD,
      r.2.mem ((c.tc : Thread Cert.Ging.nD Cert.Ging.τ).loc Cert.Ging.main_arg0) = m ((c.tc : Thread Cert.Ging.nD Cert.Ging.τ).loc Cert.Ging.main_arg0)
      ∧ r.2.mem ((c.tc : Thread Cert.Ging.nD Cert.Ging.τ).loc Cert.Ging.main_arg1) = m ((c.tc : Thread Cert.Ging.nD Cert.Ging.τ).loc Cert.Ging.main_arg1)
      ∧ r.2.mem ((c.tc : Thread Cert.Ging.nD Cert.Ging.τ).loc Cert.Ging.main_arg2) = m ((c.tc : Thread Cert.Ging.nD Cert.Ging.τ).loc Cert.Ging.main_arg2))
      ∧ r.2.sem = fun _ => 0)

def quiescent_GingIdeal [hGingIdeal : Cert.GingIdeal.Facts] : Prop :=
  ∀ (m : (ℓ : Loc Cert.GingIdeal.nD Cert.GingIdeal.τ Cert.GingIdeal.sig) → Buf (Elt Ideal) ℓ) (g : Dev Cert.GingIdeal.nD → PrngReg), Pre_GingIdeal m →
    θ_run (Cert.GingIdeal.defs (F := Ideal)) (onTc (τ := Cert.GingIdeal.τ) (Cert.GingIdeal.main (F := Ideal))) ⟨m, fun _ => 0, g⟩ (fun r => (∀ c : Dev Cert.GingIdeal.nD,
      r.2.mem ((c.tc : Thread Cert.GingIdeal.nD Cert.GingIdeal.τ).loc Cert.GingIdeal.main_arg0) = m ((c.tc : Thread Cert.GingIdeal.nD Cert.GingIdeal.τ).loc Cert.GingIdeal.main_arg0)
      ∧ r.2.mem ((c.tc : Thread Cert.GingIdeal.nD Cert.GingIdeal.τ).loc Cert.GingIdeal.main_arg1) = m ((c.tc : Thread Cert.GingIdeal.nD Cert.GingIdeal.τ).loc Cert.GingIdeal.main_arg1)
      ∧ r.2.mem ((c.tc : Thread Cert.GingIdeal.nD Cert.GingIdeal.τ).loc Cert.GingIdeal.main_arg2) = m ((c.tc : Thread Cert.GingIdeal.nD Cert.GingIdeal.τ).loc Cert.GingIdeal.main_arg2))
      ∧ r.2.sem = fun _ => 0)

def quiescent_GingReferenceIdeal [hGingReferenceIdeal : Cert.GingReferenceIdeal.Facts] : Prop :=
  ∀ (m : (ℓ : Loc Cert.GingReferenceIdeal.nD Cert.GingReferenceIdeal.τ Cert.GingReferenceIdeal.sig) → Buf (Elt Ideal) ℓ) (g : Dev Cert.GingReferenceIdeal.nD → PrngReg), Pre_GingReferenceIdeal m →
    θ_run (Cert.GingReferenceIdeal.defs (F := Ideal)) (onTc (τ := Cert.GingReferenceIdeal.τ) (Cert.GingReferenceIdeal.main (F := Ideal))) ⟨m, fun _ => 0, g⟩ (fun r => (∀ c : Dev Cert.GingReferenceIdeal.nD,
      r.2.mem ((c.tc : Thread Cert.GingReferenceIdeal.nD Cert.GingReferenceIdeal.τ).loc Cert.GingReferenceIdeal.main_arg0) = m ((c.tc : Thread Cert.GingReferenceIdeal.nD Cert.GingReferenceIdeal.τ).loc Cert.GingReferenceIdeal.main_arg0)
      ∧ r.2.mem ((c.tc : Thread Cert.GingReferenceIdeal.nD Cert.GingReferenceIdeal.τ).loc Cert.GingReferenceIdeal.main_arg1) = m ((c.tc : Thread Cert.GingReferenceIdeal.nD Cert.GingReferenceIdeal.τ).loc Cert.GingReferenceIdeal.main_arg1)
      ∧ r.2.mem ((c.tc : Thread Cert.GingReferenceIdeal.nD Cert.GingReferenceIdeal.τ).loc Cert.GingReferenceIdeal.main_arg2) = m ((c.tc : Thread Cert.GingReferenceIdeal.nD Cert.GingReferenceIdeal.τ).loc Cert.GingReferenceIdeal.main_arg2))
      ∧ r.2.sem = fun _ => 0)

def quiescent_Dxq [hDxq : Cert.Dxq.Facts] : Prop :=
  ∀ (m : (ℓ : Loc Cert.Dxq.nD Cert.Dxq.τ Cert.Dxq.sig) → Buf (Elt Bits) ℓ) (g : Dev Cert.Dxq.nD → PrngReg), Pre_Dxq m →
    θ_run (Cert.Dxq.defs (F := Bits)) (onTc (τ := Cert.Dxq.τ) (Cert.Dxq.main (F := Bits))) ⟨m, fun _ => 0, g⟩ (fun r => (∀ c : Dev Cert.Dxq.nD,
      r.2.mem ((c.tc : Thread Cert.Dxq.nD Cert.Dxq.τ).loc Cert.Dxq.main_arg0) = m ((c.tc : Thread Cert.Dxq.nD Cert.Dxq.τ).loc Cert.Dxq.main_arg0)
      ∧ r.2.mem ((c.tc : Thread Cert.Dxq.nD Cert.Dxq.τ).loc Cert.Dxq.main_arg1) = m ((c.tc : Thread Cert.Dxq.nD Cert.Dxq.τ).loc Cert.Dxq.main_arg1)
      ∧ r.2.mem ((c.tc : Thread Cert.Dxq.nD Cert.Dxq.τ).loc Cert.Dxq.main_arg2) = m ((c.tc : Thread Cert.Dxq.nD Cert.Dxq.τ).loc Cert.Dxq.main_arg2)
      ∧ r.2.mem ((c.tc : Thread Cert.Dxq.nD Cert.Dxq.τ).loc Cert.Dxq.main_arg3) = m ((c.tc : Thread Cert.Dxq.nD Cert.Dxq.τ).loc Cert.Dxq.main_arg3))
      ∧ r.2.sem = fun _ => 0)

def quiescent_DxqIdeal [hDxqIdeal : Cert.DxqIdeal.Facts] : Prop :=
  ∀ (m : (ℓ : Loc Cert.DxqIdeal.nD Cert.DxqIdeal.τ Cert.DxqIdeal.sig) → Buf (Elt Ideal) ℓ) (g : Dev Cert.DxqIdeal.nD → PrngReg), Pre_DxqIdeal m →
    θ_run (Cert.DxqIdeal.defs (F := Ideal)) (onTc (τ := Cert.DxqIdeal.τ) (Cert.DxqIdeal.main (F := Ideal))) ⟨m, fun _ => 0, g⟩ (fun r => (∀ c : Dev Cert.DxqIdeal.nD,
      r.2.mem ((c.tc : Thread Cert.DxqIdeal.nD Cert.DxqIdeal.τ).loc Cert.DxqIdeal.main_arg0) = m ((c.tc : Thread Cert.DxqIdeal.nD Cert.DxqIdeal.τ).loc Cert.DxqIdeal.main_arg0)
      ∧ r.2.mem ((c.tc : Thread Cert.DxqIdeal.nD Cert.DxqIdeal.τ).loc Cert.DxqIdeal.main_arg1) = m ((c.tc : Thread Cert.DxqIdeal.nD Cert.DxqIdeal.τ).loc Cert.DxqIdeal.main_arg1)
      ∧ r.2.mem ((c.tc : Thread Cert.DxqIdeal.nD Cert.DxqIdeal.τ).loc Cert.DxqIdeal.main_arg2) = m ((c.tc : Thread Cert.DxqIdeal.nD Cert.DxqIdeal.τ).loc Cert.DxqIdeal.main_arg2)
      ∧ r.2.mem ((c.tc : Thread Cert.DxqIdeal.nD Cert.DxqIdeal.τ).loc Cert.DxqIdeal.main_arg3) = m ((c.tc : Thread Cert.DxqIdeal.nD Cert.DxqIdeal.τ).loc Cert.DxqIdeal.main_arg3))
      ∧ r.2.sem = fun _ => 0)

def quiescent_DxqReferenceIdeal [hDxqReferenceIdeal : Cert.DxqReferenceIdeal.Facts] : Prop :=
  ∀ (m : (ℓ : Loc Cert.DxqReferenceIdeal.nD Cert.DxqReferenceIdeal.τ Cert.DxqReferenceIdeal.sig) → Buf (Elt Ideal) ℓ) (g : Dev Cert.DxqReferenceIdeal.nD → PrngReg), Pre_DxqReferenceIdeal m →
    θ_run (Cert.DxqReferenceIdeal.defs (F := Ideal)) (onTc (τ := Cert.DxqReferenceIdeal.τ) (Cert.DxqReferenceIdeal.main (F := Ideal))) ⟨m, fun _ => 0, g⟩ (fun r => (∀ c : Dev Cert.DxqReferenceIdeal.nD,
      r.2.mem ((c.tc : Thread Cert.DxqReferenceIdeal.nD Cert.DxqReferenceIdeal.τ).loc Cert.DxqReferenceIdeal.main_arg0) = m ((c.tc : Thread Cert.DxqReferenceIdeal.nD Cert.DxqReferenceIdeal.τ).loc Cert.DxqReferenceIdeal.main_arg0)
      ∧ r.2.mem ((c.tc : Thread Cert.DxqReferenceIdeal.nD Cert.DxqReferenceIdeal.τ).loc Cert.DxqReferenceIdeal.main_arg1) = m ((c.tc : Thread Cert.DxqReferenceIdeal.nD Cert.DxqReferenceIdeal.τ).loc Cert.DxqReferenceIdeal.main_arg1)
      ∧ r.2.mem ((c.tc : Thread Cert.DxqReferenceIdeal.nD Cert.DxqReferenceIdeal.τ).loc Cert.DxqReferenceIdeal.main_arg2) = m ((c.tc : Thread Cert.DxqReferenceIdeal.nD Cert.DxqReferenceIdeal.τ).loc Cert.DxqReferenceIdeal.main_arg2)
      ∧ r.2.mem ((c.tc : Thread Cert.DxqReferenceIdeal.nD Cert.DxqReferenceIdeal.τ).loc Cert.DxqReferenceIdeal.main_arg3) = m ((c.tc : Thread Cert.DxqReferenceIdeal.nD Cert.DxqReferenceIdeal.τ).loc Cert.DxqReferenceIdeal.main_arg3))
      ∧ r.2.sem = fun _ => 0)

def quiescent_Dxg [hDxg : Cert.Dxg.Facts] : Prop :=
  ∀ (m : (ℓ : Loc Cert.Dxg.nD Cert.Dxg.τ Cert.Dxg.sig) → Buf (Elt Bits) ℓ) (g : Dev Cert.Dxg.nD → PrngReg), Pre_Dxg m →
    θ_run (Cert.Dxg.defs (F := Bits)) (onTc (τ := Cert.Dxg.τ) (Cert.Dxg.main (F := Bits))) ⟨m, fun _ => 0, g⟩ (fun r => (∀ c : Dev Cert.Dxg.nD,
      r.2.mem ((c.tc : Thread Cert.Dxg.nD Cert.Dxg.τ).loc Cert.Dxg.main_arg0) = m ((c.tc : Thread Cert.Dxg.nD Cert.Dxg.τ).loc Cert.Dxg.main_arg0)
      ∧ r.2.mem ((c.tc : Thread Cert.Dxg.nD Cert.Dxg.τ).loc Cert.Dxg.main_arg1) = m ((c.tc : Thread Cert.Dxg.nD Cert.Dxg.τ).loc Cert.Dxg.main_arg1)
      ∧ r.2.mem ((c.tc : Thread Cert.Dxg.nD Cert.Dxg.τ).loc Cert.Dxg.main_arg2) = m ((c.tc : Thread Cert.Dxg.nD Cert.Dxg.τ).loc Cert.Dxg.main_arg2)
      ∧ r.2.mem ((c.tc : Thread Cert.Dxg.nD Cert.Dxg.τ).loc Cert.Dxg.main_arg3) = m ((c.tc : Thread Cert.Dxg.nD Cert.Dxg.τ).loc Cert.Dxg.main_arg3))
      ∧ r.2.sem = fun _ => 0)

def quiescent_DxgIdeal [hDxgIdeal : Cert.DxgIdeal.Facts] : Prop :=
  ∀ (m : (ℓ : Loc Cert.DxgIdeal.nD Cert.DxgIdeal.τ Cert.DxgIdeal.sig) → Buf (Elt Ideal) ℓ) (g : Dev Cert.DxgIdeal.nD → PrngReg), Pre_DxgIdeal m →
    θ_run (Cert.DxgIdeal.defs (F := Ideal)) (onTc (τ := Cert.DxgIdeal.τ) (Cert.DxgIdeal.main (F := Ideal))) ⟨m, fun _ => 0, g⟩ (fun r => (∀ c : Dev Cert.DxgIdeal.nD,
      r.2.mem ((c.tc : Thread Cert.DxgIdeal.nD Cert.DxgIdeal.τ).loc Cert.DxgIdeal.main_arg0) = m ((c.tc : Thread Cert.DxgIdeal.nD Cert.DxgIdeal.τ).loc Cert.DxgIdeal.main_arg0)
      ∧ r.2.mem ((c.tc : Thread Cert.DxgIdeal.nD Cert.DxgIdeal.τ).loc Cert.DxgIdeal.main_arg1) = m ((c.tc : Thread Cert.DxgIdeal.nD Cert.DxgIdeal.τ).loc Cert.DxgIdeal.main_arg1)
      ∧ r.2.mem ((c.tc : Thread Cert.DxgIdeal.nD Cert.DxgIdeal.τ).loc Cert.DxgIdeal.main_arg2) = m ((c.tc : Thread Cert.DxgIdeal.nD Cert.DxgIdeal.τ).loc Cert.DxgIdeal.main_arg2)
      ∧ r.2.mem ((c.tc : Thread Cert.DxgIdeal.nD Cert.DxgIdeal.τ).loc Cert.DxgIdeal.main_arg3) = m ((c.tc : Thread Cert.DxgIdeal.nD Cert.DxgIdeal.τ).loc Cert.DxgIdeal.main_arg3))
      ∧ r.2.sem = fun _ => 0)

def quiescent_DxgReferenceIdeal [hDxgReferenceIdeal : Cert.DxgReferenceIdeal.Facts] : Prop :=
  ∀ (m : (ℓ : Loc Cert.DxgReferenceIdeal.nD Cert.DxgReferenceIdeal.τ Cert.DxgReferenceIdeal.sig) → Buf (Elt Ideal) ℓ) (g : Dev Cert.DxgReferenceIdeal.nD → PrngReg), Pre_DxgReferenceIdeal m →
    θ_run (Cert.DxgReferenceIdeal.defs (F := Ideal)) (onTc (τ := Cert.DxgReferenceIdeal.τ) (Cert.DxgReferenceIdeal.main (F := Ideal))) ⟨m, fun _ => 0, g⟩ (fun r => (∀ c : Dev Cert.DxgReferenceIdeal.nD,
      r.2.mem ((c.tc : Thread Cert.DxgReferenceIdeal.nD Cert.DxgReferenceIdeal.τ).loc Cert.DxgReferenceIdeal.main_arg0) = m ((c.tc : Thread Cert.DxgReferenceIdeal.nD Cert.DxgReferenceIdeal.τ).loc Cert.DxgReferenceIdeal.main_arg0)
      ∧ r.2.mem ((c.tc : Thread Cert.DxgReferenceIdeal.nD Cert.DxgReferenceIdeal.τ).loc Cert.DxgReferenceIdeal.main_arg1) = m ((c.tc : Thread Cert.DxgReferenceIdeal.nD Cert.DxgReferenceIdeal.τ).loc Cert.DxgReferenceIdeal.main_arg1)
      ∧ r.2.mem ((c.tc : Thread Cert.DxgReferenceIdeal.nD Cert.DxgReferenceIdeal.τ).loc Cert.DxgReferenceIdeal.main_arg2) = m ((c.tc : Thread Cert.DxgReferenceIdeal.nD Cert.DxgReferenceIdeal.τ).loc Cert.DxgReferenceIdeal.main_arg2)
      ∧ r.2.mem ((c.tc : Thread Cert.DxgReferenceIdeal.nD Cert.DxgReferenceIdeal.τ).loc Cert.DxgReferenceIdeal.main_arg3) = m ((c.tc : Thread Cert.DxgReferenceIdeal.nD Cert.DxgReferenceIdeal.τ).loc Cert.DxgReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1)
      ∧ r.2.mem ((c.tc : Thread Cert.Dmix.nD Cert.Dmix.τ).loc Cert.Dmix.main_arg2) = m ((c.tc : Thread Cert.Dmix.nD Cert.Dmix.τ).loc Cert.Dmix.main_arg2)
      ∧ r.2.mem ((c.tc : Thread Cert.Dmix.nD Cert.Dmix.τ).loc Cert.Dmix.main_arg3) = m ((c.tc : Thread Cert.Dmix.nD Cert.Dmix.τ).loc Cert.Dmix.main_arg3)
      ∧ r.2.mem ((c.tc : Thread Cert.Dmix.nD Cert.Dmix.τ).loc Cert.Dmix.main_arg4) = m ((c.tc : Thread Cert.Dmix.nD Cert.Dmix.τ).loc Cert.Dmix.main_arg4)
      ∧ r.2.mem ((c.tc : Thread Cert.Dmix.nD Cert.Dmix.τ).loc Cert.Dmix.main_arg5) = m ((c.tc : Thread Cert.Dmix.nD Cert.Dmix.τ).loc Cert.Dmix.main_arg5)
      ∧ r.2.mem ((c.tc : Thread Cert.Dmix.nD Cert.Dmix.τ).loc Cert.Dmix.main_arg6) = m ((c.tc : Thread Cert.Dmix.nD Cert.Dmix.τ).loc Cert.Dmix.main_arg6)
      ∧ r.2.mem ((c.tc : Thread Cert.Dmix.nD Cert.Dmix.τ).loc Cert.Dmix.main_arg7) = m ((c.tc : Thread Cert.Dmix.nD Cert.Dmix.τ).loc Cert.Dmix.main_arg7))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
      ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2)
      ∧ r.2.mem ((c.tc : Thread Cert.DmixIdeal.nD Cert.DmixIdeal.τ).loc Cert.DmixIdeal.main_arg3) = m ((c.tc : Thread Cert.DmixIdeal.nD Cert.DmixIdeal.τ).loc Cert.DmixIdeal.main_arg3)
      ∧ r.2.mem ((c.tc : Thread Cert.DmixIdeal.nD Cert.DmixIdeal.τ).loc Cert.DmixIdeal.main_arg4) = m ((c.tc : Thread Cert.DmixIdeal.nD Cert.DmixIdeal.τ).loc Cert.DmixIdeal.main_arg4)
      ∧ r.2.mem ((c.tc : Thread Cert.DmixIdeal.nD Cert.DmixIdeal.τ).loc Cert.DmixIdeal.main_arg5) = m ((c.tc : Thread Cert.DmixIdeal.nD Cert.DmixIdeal.τ).loc Cert.DmixIdeal.main_arg5)
      ∧ r.2.mem ((c.tc : Thread Cert.DmixIdeal.nD Cert.DmixIdeal.τ).loc Cert.DmixIdeal.main_arg6) = m ((c.tc : Thread Cert.DmixIdeal.nD Cert.DmixIdeal.τ).loc Cert.DmixIdeal.main_arg6)
      ∧ r.2.mem ((c.tc : Thread Cert.DmixIdeal.nD Cert.DmixIdeal.τ).loc Cert.DmixIdeal.main_arg7) = m ((c.tc : Thread Cert.DmixIdeal.nD Cert.DmixIdeal.τ).loc Cert.DmixIdeal.main_arg7))
      ∧ r.2.sem = fun _ => 0)

def quiescent_DmixReferenceIdeal [hDmixReferenceIdeal : Cert.DmixReferenceIdeal.Facts] : Prop :=
  ∀ (m : (ℓ : Loc Cert.DmixReferenceIdeal.nD Cert.DmixReferenceIdeal.τ Cert.DmixReferenceIdeal.sig) → Buf (Elt Ideal) ℓ) (g : Dev Cert.DmixReferenceIdeal.nD → PrngReg), Pre_DmixReferenceIdeal m →
    θ_run (Cert.DmixReferenceIdeal.defs (F := Ideal)) (onTc (τ := Cert.DmixReferenceIdeal.τ) (Cert.DmixReferenceIdeal.main (F := Ideal))) ⟨m, fun _ => 0, g⟩ (fun r => (∀ c : Dev Cert.DmixReferenceIdeal.nD,
      r.2.mem ((c.tc : Thread Cert.DmixReferenceIdeal.nD Cert.DmixReferenceIdeal.τ).loc Cert.DmixReferenceIdeal.main_arg0) = m ((c.tc : Thread Cert.DmixReferenceIdeal.nD Cert.DmixReferenceIdeal.τ).loc Cert.DmixReferenceIdeal.main_arg0)
      ∧ r.2.mem ((c.tc : Thread Cert.DmixReferenceIdeal.nD Cert.DmixReferenceIdeal.τ).loc Cert.DmixReferenceIdeal.main_arg1) = m ((c.tc : Thread Cert.DmixReferenceIdeal.nD Cert.DmixReferenceIdeal.τ).loc Cert.DmixReferenceIdeal.main_arg1)
      ∧ r.2.mem ((c.tc : Thread Cert.DmixReferenceIdeal.nD Cert.DmixReferenceIdeal.τ).loc Cert.DmixReferenceIdeal.main_arg2) = m ((c.tc : Thread Cert.DmixReferenceIdeal.nD Cert.DmixReferenceIdeal.τ).loc Cert.DmixReferenceIdeal.main_arg2)
      ∧ r.2.mem ((c.tc : Thread Cert.DmixReferenceIdeal.nD Cert.DmixReferenceIdeal.τ).loc Cert.DmixReferenceIdeal.main_arg3) = m ((c.tc : Thread Cert.DmixReferenceIdeal.nD Cert.DmixReferenceIdeal.τ).loc Cert.DmixReferenceIdeal.main_arg3)
      ∧ r.2.mem ((c.tc : Thread Cert.DmixReferenceIdeal.nD Cert.DmixReferenceIdeal.τ).loc Cert.DmixReferenceIdeal.main_arg4) = m ((c.tc : Thread Cert.DmixReferenceIdeal.nD Cert.DmixReferenceIdeal.τ).loc Cert.DmixReferenceIdeal.main_arg4)
      ∧ r.2.mem ((c.tc : Thread Cert.DmixReferenceIdeal.nD Cert.DmixReferenceIdeal.τ).loc Cert.DmixReferenceIdeal.main_arg5) = m ((c.tc : Thread Cert.DmixReferenceIdeal.nD Cert.DmixReferenceIdeal.τ).loc Cert.DmixReferenceIdeal.main_arg5)
      ∧ r.2.mem ((c.tc : Thread Cert.DmixReferenceIdeal.nD Cert.DmixReferenceIdeal.τ).loc Cert.DmixReferenceIdeal.main_arg6) = m ((c.tc : Thread Cert.DmixReferenceIdeal.nD Cert.DmixReferenceIdeal.τ).loc Cert.DmixReferenceIdeal.main_arg6)
      ∧ r.2.mem ((c.tc : Thread Cert.DmixReferenceIdeal.nD Cert.DmixReferenceIdeal.τ).loc Cert.DmixReferenceIdeal.main_arg7) = m ((c.tc : Thread Cert.DmixReferenceIdeal.nD Cert.DmixReferenceIdeal.τ).loc Cert.DmixReferenceIdeal.main_arg7))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1)
      ∧ r.2.mem ((c.tc : Thread Cert.BranchReferenceIdeal.nD Cert.BranchReferenceIdeal.τ).loc Cert.BranchReferenceIdeal.main_arg2) = m ((c.tc : Thread Cert.BranchReferenceIdeal.nD Cert.BranchReferenceIdeal.τ).loc Cert.BranchReferenceIdeal.main_arg2)
      ∧ r.2.mem ((c.tc : Thread Cert.BranchReferenceIdeal.nD Cert.BranchReferenceIdeal.τ).loc Cert.BranchReferenceIdeal.main_arg3) = m ((c.tc : Thread Cert.BranchReferenceIdeal.nD Cert.BranchReferenceIdeal.τ).loc Cert.BranchReferenceIdeal.main_arg3)
      ∧ r.2.mem ((c.tc : Thread Cert.BranchReferenceIdeal.nD Cert.BranchReferenceIdeal.τ).loc Cert.BranchReferenceIdeal.main_arg4) = m ((c.tc : Thread Cert.BranchReferenceIdeal.nD Cert.BranchReferenceIdeal.τ).loc Cert.BranchReferenceIdeal.main_arg4)
      ∧ r.2.mem ((c.tc : Thread Cert.BranchReferenceIdeal.nD Cert.BranchReferenceIdeal.τ).loc Cert.BranchReferenceIdeal.main_arg5) = m ((c.tc : Thread Cert.BranchReferenceIdeal.nD Cert.BranchReferenceIdeal.τ).loc Cert.BranchReferenceIdeal.main_arg5))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1)
      ∧ r.2.mem ((c.tc : Thread Cert.Gout.nD Cert.Gout.τ).loc Cert.Gout.main_arg2) = m ((c.tc : Thread Cert.Gout.nD Cert.Gout.τ).loc Cert.Gout.main_arg2))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1)
      ∧ r.2.mem ((c.tc : Thread Cert.GoutIdeal.nD Cert.GoutIdeal.τ).loc Cert.GoutIdeal.main_arg2) = m ((c.tc : Thread Cert.GoutIdeal.nD Cert.GoutIdeal.τ).loc Cert.GoutIdeal.main_arg2))
      ∧ r.2.sem = fun _ => 0)

def quiescent_GoutReferenceIdeal [hGoutReferenceIdeal : Cert.GoutReferenceIdeal.Facts] : Prop :=
  ∀ (m : (ℓ : Loc Cert.GoutReferenceIdeal.nD Cert.GoutReferenceIdeal.τ Cert.GoutReferenceIdeal.sig) → Buf (Elt Ideal) ℓ) (g : Dev Cert.GoutReferenceIdeal.nD → PrngReg), Pre_GoutReferenceIdeal m →
    θ_run (Cert.GoutReferenceIdeal.defs (F := Ideal)) (onTc (τ := Cert.GoutReferenceIdeal.τ) (Cert.GoutReferenceIdeal.main (F := Ideal))) ⟨m, fun _ => 0, g⟩ (fun r => (∀ c : Dev Cert.GoutReferenceIdeal.nD,
      r.2.mem ((c.tc : Thread Cert.GoutReferenceIdeal.nD Cert.GoutReferenceIdeal.τ).loc Cert.GoutReferenceIdeal.main_arg0) = m ((c.tc : Thread Cert.GoutReferenceIdeal.nD Cert.GoutReferenceIdeal.τ).loc Cert.GoutReferenceIdeal.main_arg0)
      ∧ r.2.mem ((c.tc : Thread Cert.GoutReferenceIdeal.nD Cert.GoutReferenceIdeal.τ).loc Cert.GoutReferenceIdeal.main_arg1) = m ((c.tc : Thread Cert.GoutReferenceIdeal.nD Cert.GoutReferenceIdeal.τ).loc Cert.GoutReferenceIdeal.main_arg1)
      ∧ r.2.mem ((c.tc : Thread Cert.GoutReferenceIdeal.nD Cert.GoutReferenceIdeal.τ).loc Cert.GoutReferenceIdeal.main_arg2) = m ((c.tc : Thread Cert.GoutReferenceIdeal.nD Cert.GoutReferenceIdeal.τ).loc Cert.GoutReferenceIdeal.main_arg2))
      ∧ r.2.sem = fun _ => 0)

def quiescent_Gbra [hGbra : Cert.Gbra.Facts] : Prop :=
  ∀ (m : (ℓ : Loc Cert.Gbra.nD Cert.Gbra.τ Cert.Gbra.sig) → Buf (Elt Bits) ℓ) (g : Dev Cert.Gbra.nD → PrngReg), Pre_Gbra m →
    θ_run (Cert.Gbra.defs (F := Bits)) (onTc (τ := Cert.Gbra.τ) (Cert.Gbra.main (F := Bits))) ⟨m, fun _ => 0, g⟩ (fun r => (∀ c : Dev Cert.Gbra.nD,
      r.2.mem ((c.tc : Thread Cert.Gbra.nD Cert.Gbra.τ).loc Cert.Gbra.main_arg0) = m ((c.tc : Thread Cert.Gbra.nD Cert.Gbra.τ).loc Cert.Gbra.main_arg0)
      ∧ r.2.mem ((c.tc : Thread Cert.Gbra.nD Cert.Gbra.τ).loc Cert.Gbra.main_arg1) = m ((c.tc : Thread Cert.Gbra.nD Cert.Gbra.τ).loc Cert.Gbra.main_arg1)
      ∧ r.2.mem ((c.tc : Thread Cert.Gbra.nD Cert.Gbra.τ).loc Cert.Gbra.main_arg2) = m ((c.tc : Thread Cert.Gbra.nD Cert.Gbra.τ).loc Cert.Gbra.main_arg2))
      ∧ r.2.sem = fun _ => 0)

def quiescent_GbraIdeal [hGbraIdeal : Cert.GbraIdeal.Facts] : Prop :=
  ∀ (m : (ℓ : Loc Cert.GbraIdeal.nD Cert.GbraIdeal.τ Cert.GbraIdeal.sig) → Buf (Elt Ideal) ℓ) (g : Dev Cert.GbraIdeal.nD → PrngReg), Pre_GbraIdeal m →
    θ_run (Cert.GbraIdeal.defs (F := Ideal)) (onTc (τ := Cert.GbraIdeal.τ) (Cert.GbraIdeal.main (F := Ideal))) ⟨m, fun _ => 0, g⟩ (fun r => (∀ c : Dev Cert.GbraIdeal.nD,
      r.2.mem ((c.tc : Thread Cert.GbraIdeal.nD Cert.GbraIdeal.τ).loc Cert.GbraIdeal.main_arg0) = m ((c.tc : Thread Cert.GbraIdeal.nD Cert.GbraIdeal.τ).loc Cert.GbraIdeal.main_arg0)
      ∧ r.2.mem ((c.tc : Thread Cert.GbraIdeal.nD Cert.GbraIdeal.τ).loc Cert.GbraIdeal.main_arg1) = m ((c.tc : Thread Cert.GbraIdeal.nD Cert.GbraIdeal.τ).loc Cert.GbraIdeal.main_arg1)
      ∧ r.2.mem ((c.tc : Thread Cert.GbraIdeal.nD Cert.GbraIdeal.τ).loc Cert.GbraIdeal.main_arg2) = m ((c.tc : Thread Cert.GbraIdeal.nD Cert.GbraIdeal.τ).loc Cert.GbraIdeal.main_arg2))
      ∧ r.2.sem = fun _ => 0)

def quiescent_GbraReferenceIdeal [hGbraReferenceIdeal : Cert.GbraReferenceIdeal.Facts] : Prop :=
  ∀ (m : (ℓ : Loc Cert.GbraReferenceIdeal.nD Cert.GbraReferenceIdeal.τ Cert.GbraReferenceIdeal.sig) → Buf (Elt Ideal) ℓ) (g : Dev Cert.GbraReferenceIdeal.nD → PrngReg), Pre_GbraReferenceIdeal m →
    θ_run (Cert.GbraReferenceIdeal.defs (F := Ideal)) (onTc (τ := Cert.GbraReferenceIdeal.τ) (Cert.GbraReferenceIdeal.main (F := Ideal))) ⟨m, fun _ => 0, g⟩ (fun r => (∀ c : Dev Cert.GbraReferenceIdeal.nD,
      r.2.mem ((c.tc : Thread Cert.GbraReferenceIdeal.nD Cert.GbraReferenceIdeal.τ).loc Cert.GbraReferenceIdeal.main_arg0) = m ((c.tc : Thread Cert.GbraReferenceIdeal.nD Cert.GbraReferenceIdeal.τ).loc Cert.GbraReferenceIdeal.main_arg0)
      ∧ r.2.mem ((c.tc : Thread Cert.GbraReferenceIdeal.nD Cert.GbraReferenceIdeal.τ).loc Cert.GbraReferenceIdeal.main_arg1) = m ((c.tc : Thread Cert.GbraReferenceIdeal.nD Cert.GbraReferenceIdeal.τ).loc Cert.GbraReferenceIdeal.main_arg1)
      ∧ r.2.mem ((c.tc : Thread Cert.GbraReferenceIdeal.nD Cert.GbraReferenceIdeal.τ).loc Cert.GbraReferenceIdeal.main_arg2) = m ((c.tc : Thread Cert.GbraReferenceIdeal.nD Cert.GbraReferenceIdeal.τ).loc Cert.GbraReferenceIdeal.main_arg2))
      ∧ r.2.sem = fun _ => 0)

def quiescent_Gbrb [hGbrb : Cert.Gbrb.Facts] : Prop :=
  ∀ (m : (ℓ : Loc Cert.Gbrb.nD Cert.Gbrb.τ Cert.Gbrb.sig) → Buf (Elt Bits) ℓ) (g : Dev Cert.Gbrb.nD → PrngReg), Pre_Gbrb m →
    θ_run (Cert.Gbrb.defs (F := Bits)) (onTc (τ := Cert.Gbrb.τ) (Cert.Gbrb.main (F := Bits))) ⟨m, fun _ => 0, g⟩ (fun r => (∀ c : Dev Cert.Gbrb.nD,
      r.2.mem ((c.tc : Thread Cert.Gbrb.nD Cert.Gbrb.τ).loc Cert.Gbrb.main_arg0) = m ((c.tc : Thread Cert.Gbrb.nD Cert.Gbrb.τ).loc Cert.Gbrb.main_arg0)
      ∧ r.2.mem ((c.tc : Thread Cert.Gbrb.nD Cert.Gbrb.τ).loc Cert.Gbrb.main_arg1) = m ((c.tc : Thread Cert.Gbrb.nD Cert.Gbrb.τ).loc Cert.Gbrb.main_arg1)
      ∧ r.2.mem ((c.tc : Thread Cert.Gbrb.nD Cert.Gbrb.τ).loc Cert.Gbrb.main_arg2) = m ((c.tc : Thread Cert.Gbrb.nD Cert.Gbrb.τ).loc Cert.Gbrb.main_arg2))
      ∧ r.2.sem = fun _ => 0)

def quiescent_GbrbIdeal [hGbrbIdeal : Cert.GbrbIdeal.Facts] : Prop :=
  ∀ (m : (ℓ : Loc Cert.GbrbIdeal.nD Cert.GbrbIdeal.τ Cert.GbrbIdeal.sig) → Buf (Elt Ideal) ℓ) (g : Dev Cert.GbrbIdeal.nD → PrngReg), Pre_GbrbIdeal m →
    θ_run (Cert.GbrbIdeal.defs (F := Ideal)) (onTc (τ := Cert.GbrbIdeal.τ) (Cert.GbrbIdeal.main (F := Ideal))) ⟨m, fun _ => 0, g⟩ (fun r => (∀ c : Dev Cert.GbrbIdeal.nD,
      r.2.mem ((c.tc : Thread Cert.GbrbIdeal.nD Cert.GbrbIdeal.τ).loc Cert.GbrbIdeal.main_arg0) = m ((c.tc : Thread Cert.GbrbIdeal.nD Cert.GbrbIdeal.τ).loc Cert.GbrbIdeal.main_arg0)
      ∧ r.2.mem ((c.tc : Thread Cert.GbrbIdeal.nD Cert.GbrbIdeal.τ).loc Cert.GbrbIdeal.main_arg1) = m ((c.tc : Thread Cert.GbrbIdeal.nD Cert.GbrbIdeal.τ).loc Cert.GbrbIdeal.main_arg1)
      ∧ r.2.mem ((c.tc : Thread Cert.GbrbIdeal.nD Cert.GbrbIdeal.τ).loc Cert.GbrbIdeal.main_arg2) = m ((c.tc : Thread Cert.GbrbIdeal.nD Cert.GbrbIdeal.τ).loc Cert.GbrbIdeal.main_arg2))
      ∧ r.2.sem = fun _ => 0)

def quiescent_GbrbReferenceIdeal [hGbrbReferenceIdeal : Cert.GbrbReferenceIdeal.Facts] : Prop :=
  ∀ (m : (ℓ : Loc Cert.GbrbReferenceIdeal.nD Cert.GbrbReferenceIdeal.τ Cert.GbrbReferenceIdeal.sig) → Buf (Elt Ideal) ℓ) (g : Dev Cert.GbrbReferenceIdeal.nD → PrngReg), Pre_GbrbReferenceIdeal m →
    θ_run (Cert.GbrbReferenceIdeal.defs (F := Ideal)) (onTc (τ := Cert.GbrbReferenceIdeal.τ) (Cert.GbrbReferenceIdeal.main (F := Ideal))) ⟨m, fun _ => 0, g⟩ (fun r => (∀ c : Dev Cert.GbrbReferenceIdeal.nD,
      r.2.mem ((c.tc : Thread Cert.GbrbReferenceIdeal.nD Cert.GbrbReferenceIdeal.τ).loc Cert.GbrbReferenceIdeal.main_arg0) = m ((c.tc : Thread Cert.GbrbReferenceIdeal.nD Cert.GbrbReferenceIdeal.τ).loc Cert.GbrbReferenceIdeal.main_arg0)
      ∧ r.2.mem ((c.tc : Thread Cert.GbrbReferenceIdeal.nD Cert.GbrbReferenceIdeal.τ).loc Cert.GbrbReferenceIdeal.main_arg1) = m ((c.tc : Thread Cert.GbrbReferenceIdeal.nD Cert.GbrbReferenceIdeal.τ).loc Cert.GbrbReferenceIdeal.main_arg1)
      ∧ r.2.mem ((c.tc : Thread Cert.GbrbReferenceIdeal.nD Cert.GbrbReferenceIdeal.τ).loc Cert.GbrbReferenceIdeal.main_arg2) = m ((c.tc : Thread Cert.GbrbReferenceIdeal.nD Cert.GbrbReferenceIdeal.τ).loc Cert.GbrbReferenceIdeal.main_arg2))
      ∧ r.2.sem = fun _ => 0)

def quiescent_Gbrc [hGbrc : Cert.Gbrc.Facts] : Prop :=
  ∀ (m : (ℓ : Loc Cert.Gbrc.nD Cert.Gbrc.τ Cert.Gbrc.sig) → Buf (Elt Bits) ℓ) (g : Dev Cert.Gbrc.nD → PrngReg), Pre_Gbrc m →
    θ_run (Cert.Gbrc.defs (F := Bits)) (onTc (τ := Cert.Gbrc.τ) (Cert.Gbrc.main (F := Bits))) ⟨m, fun _ => 0, g⟩ (fun r => (∀ c : Dev Cert.Gbrc.nD,
      r.2.mem ((c.tc : Thread Cert.Gbrc.nD Cert.Gbrc.τ).loc Cert.Gbrc.main_arg0) = m ((c.tc : Thread Cert.Gbrc.nD Cert.Gbrc.τ).loc Cert.Gbrc.main_arg0)
      ∧ r.2.mem ((c.tc : Thread Cert.Gbrc.nD Cert.Gbrc.τ).loc Cert.Gbrc.main_arg1) = m ((c.tc : Thread Cert.Gbrc.nD Cert.Gbrc.τ).loc Cert.Gbrc.main_arg1)
      ∧ r.2.mem ((c.tc : Thread Cert.Gbrc.nD Cert.Gbrc.τ).loc Cert.Gbrc.main_arg2) = m ((c.tc : Thread Cert.Gbrc.nD Cert.Gbrc.τ).loc Cert.Gbrc.main_arg2))
      ∧ r.2.sem = fun _ => 0)

def quiescent_GbrcIdeal [hGbrcIdeal : Cert.GbrcIdeal.Facts] : Prop :=
  ∀ (m : (ℓ : Loc Cert.GbrcIdeal.nD Cert.GbrcIdeal.τ Cert.GbrcIdeal.sig) → Buf (Elt Ideal) ℓ) (g : Dev Cert.GbrcIdeal.nD → PrngReg), Pre_GbrcIdeal m →
    θ_run (Cert.GbrcIdeal.defs (F := Ideal)) (onTc (τ := Cert.GbrcIdeal.τ) (Cert.GbrcIdeal.main (F := Ideal))) ⟨m, fun _ => 0, g⟩ (fun r => (∀ c : Dev Cert.GbrcIdeal.nD,
      r.2.mem ((c.tc : Thread Cert.GbrcIdeal.nD Cert.GbrcIdeal.τ).loc Cert.GbrcIdeal.main_arg0) = m ((c.tc : Thread Cert.GbrcIdeal.nD Cert.GbrcIdeal.τ).loc Cert.GbrcIdeal.main_arg0)
      ∧ r.2.mem ((c.tc : Thread Cert.GbrcIdeal.nD Cert.GbrcIdeal.τ).loc Cert.GbrcIdeal.main_arg1) = m ((c.tc : Thread Cert.GbrcIdeal.nD Cert.GbrcIdeal.τ).loc Cert.GbrcIdeal.main_arg1)
      ∧ r.2.mem ((c.tc : Thread Cert.GbrcIdeal.nD Cert.GbrcIdeal.τ).loc Cert.GbrcIdeal.main_arg2) = m ((c.tc : Thread Cert.GbrcIdeal.nD Cert.GbrcIdeal.τ).loc Cert.GbrcIdeal.main_arg2))
      ∧ r.2.sem = fun _ => 0)

def quiescent_GbrcReferenceIdeal [hGbrcReferenceIdeal : Cert.GbrcReferenceIdeal.Facts] : Prop :=
  ∀ (m : (ℓ : Loc Cert.GbrcReferenceIdeal.nD Cert.GbrcReferenceIdeal.τ Cert.GbrcReferenceIdeal.sig) → Buf (Elt Ideal) ℓ) (g : Dev Cert.GbrcReferenceIdeal.nD → PrngReg), Pre_GbrcReferenceIdeal m →
    θ_run (Cert.GbrcReferenceIdeal.defs (F := Ideal)) (onTc (τ := Cert.GbrcReferenceIdeal.τ) (Cert.GbrcReferenceIdeal.main (F := Ideal))) ⟨m, fun _ => 0, g⟩ (fun r => (∀ c : Dev Cert.GbrcReferenceIdeal.nD,
      r.2.mem ((c.tc : Thread Cert.GbrcReferenceIdeal.nD Cert.GbrcReferenceIdeal.τ).loc Cert.GbrcReferenceIdeal.main_arg0) = m ((c.tc : Thread Cert.GbrcReferenceIdeal.nD Cert.GbrcReferenceIdeal.τ).loc Cert.GbrcReferenceIdeal.main_arg0)
      ∧ r.2.mem ((c.tc : Thread Cert.GbrcReferenceIdeal.nD Cert.GbrcReferenceIdeal.τ).loc Cert.GbrcReferenceIdeal.main_arg1) = m ((c.tc : Thread Cert.GbrcReferenceIdeal.nD Cert.GbrcReferenceIdeal.τ).loc Cert.GbrcReferenceIdeal.main_arg1)
      ∧ r.2.mem ((c.tc : Thread Cert.GbrcReferenceIdeal.nD Cert.GbrcReferenceIdeal.τ).loc Cert.GbrcReferenceIdeal.main_arg2) = m ((c.tc : Thread Cert.GbrcReferenceIdeal.nD Cert.GbrcReferenceIdeal.τ).loc Cert.GbrcReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Dgate [hDgate : Cert.Dgate.Facts] : Prop :=
  ∀ (m : (ℓ : Loc Cert.Dgate.nD Cert.Dgate.τ Cert.Dgate.sig) → Buf (Elt Bits) ℓ) (g : Dev Cert.Dgate.nD → PrngReg), Pre_Dgate m →
    θ_run (Cert.Dgate.defs (F := Bits)) (onTc (τ := Cert.Dgate.τ) (Cert.Dgate.main (F := Bits))) ⟨m, fun _ => 0, g⟩ (fun r => (∀ c : Dev Cert.Dgate.nD,
      r.2.mem ((c.tc : Thread Cert.Dgate.nD Cert.Dgate.τ).loc Cert.Dgate.main_arg0) = m ((c.tc : Thread Cert.Dgate.nD Cert.Dgate.τ).loc Cert.Dgate.main_arg0)
      ∧ r.2.mem ((c.tc : Thread Cert.Dgate.nD Cert.Dgate.τ).loc Cert.Dgate.main_arg1) = m ((c.tc : Thread Cert.Dgate.nD Cert.Dgate.τ).loc Cert.Dgate.main_arg1)
      ∧ r.2.mem ((c.tc : Thread Cert.Dgate.nD Cert.Dgate.τ).loc Cert.Dgate.main_arg2) = m ((c.tc : Thread Cert.Dgate.nD Cert.Dgate.τ).loc Cert.Dgate.main_arg2)
      ∧ r.2.mem ((c.tc : Thread Cert.Dgate.nD Cert.Dgate.τ).loc Cert.Dgate.main_arg3) = m ((c.tc : Thread Cert.Dgate.nD Cert.Dgate.τ).loc Cert.Dgate.main_arg3)
      ∧ r.2.mem ((c.tc : Thread Cert.Dgate.nD Cert.Dgate.τ).loc Cert.Dgate.main_arg4) = m ((c.tc : Thread Cert.Dgate.nD Cert.Dgate.τ).loc Cert.Dgate.main_arg4)
      ∧ r.2.mem ((c.tc : Thread Cert.Dgate.nD Cert.Dgate.τ).loc Cert.Dgate.main_arg5) = m ((c.tc : Thread Cert.Dgate.nD Cert.Dgate.τ).loc Cert.Dgate.main_arg5))
      ∧ r.2.sem = fun _ => 0)

def quiescent_DgateIdeal [hDgateIdeal : Cert.DgateIdeal.Facts] : Prop :=
  ∀ (m : (ℓ : Loc Cert.DgateIdeal.nD Cert.DgateIdeal.τ Cert.DgateIdeal.sig) → Buf (Elt Ideal) ℓ) (g : Dev Cert.DgateIdeal.nD → PrngReg), Pre_DgateIdeal m →
    θ_run (Cert.DgateIdeal.defs (F := Ideal)) (onTc (τ := Cert.DgateIdeal.τ) (Cert.DgateIdeal.main (F := Ideal))) ⟨m, fun _ => 0, g⟩ (fun r => (∀ c : Dev Cert.DgateIdeal.nD,
      r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
      ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
      ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2)
      ∧ r.2.mem ((c.tc : Thread Cert.DgateIdeal.nD Cert.DgateIdeal.τ).loc Cert.DgateIdeal.main_arg3) = m ((c.tc : Thread Cert.DgateIdeal.nD Cert.DgateIdeal.τ).loc Cert.DgateIdeal.main_arg3)
      ∧ r.2.mem ((c.tc : Thread Cert.DgateIdeal.nD Cert.DgateIdeal.τ).loc Cert.DgateIdeal.main_arg4) = m ((c.tc : Thread Cert.DgateIdeal.nD Cert.DgateIdeal.τ).loc Cert.DgateIdeal.main_arg4)
      ∧ r.2.mem ((c.tc : Thread Cert.DgateIdeal.nD Cert.DgateIdeal.τ).loc Cert.DgateIdeal.main_arg5) = m ((c.tc : Thread Cert.DgateIdeal.nD Cert.DgateIdeal.τ).loc Cert.DgateIdeal.main_arg5))
      ∧ r.2.sem = fun _ => 0)

def quiescent_DgateReferenceIdeal [hDgateReferenceIdeal : Cert.DgateReferenceIdeal.Facts] : Prop :=
  ∀ (m : (ℓ : Loc Cert.DgateReferenceIdeal.nD Cert.DgateReferenceIdeal.τ Cert.DgateReferenceIdeal.sig) → Buf (Elt Ideal) ℓ) (g : Dev Cert.DgateReferenceIdeal.nD → PrngReg), Pre_DgateReferenceIdeal m →
    θ_run (Cert.DgateReferenceIdeal.defs (F := Ideal)) (onTc (τ := Cert.DgateReferenceIdeal.τ) (Cert.DgateReferenceIdeal.main (F := Ideal))) ⟨m, fun _ => 0, g⟩ (fun r => (∀ c : Dev Cert.DgateReferenceIdeal.nD,
      r.2.mem ((c.tc : Thread Cert.DgateReferenceIdeal.nD Cert.DgateReferenceIdeal.τ).loc Cert.DgateReferenceIdeal.main_arg0) = m ((c.tc : Thread Cert.DgateReferenceIdeal.nD Cert.DgateReferenceIdeal.τ).loc Cert.DgateReferenceIdeal.main_arg0)
      ∧ r.2.mem ((c.tc : Thread Cert.DgateReferenceIdeal.nD Cert.DgateReferenceIdeal.τ).loc Cert.DgateReferenceIdeal.main_arg1) = m ((c.tc : Thread Cert.DgateReferenceIdeal.nD Cert.DgateReferenceIdeal.τ).loc Cert.DgateReferenceIdeal.main_arg1)
      ∧ r.2.mem ((c.tc : Thread Cert.DgateReferenceIdeal.nD Cert.DgateReferenceIdeal.τ).loc Cert.DgateReferenceIdeal.main_arg2) = m ((c.tc : Thread Cert.DgateReferenceIdeal.nD Cert.DgateReferenceIdeal.τ).loc Cert.DgateReferenceIdeal.main_arg2)
      ∧ r.2.mem ((c.tc : Thread Cert.DgateReferenceIdeal.nD Cert.DgateReferenceIdeal.τ).loc Cert.DgateReferenceIdeal.main_arg3) = m ((c.tc : Thread Cert.DgateReferenceIdeal.nD Cert.DgateReferenceIdeal.τ).loc Cert.DgateReferenceIdeal.main_arg3)
      ∧ r.2.mem ((c.tc : Thread Cert.DgateReferenceIdeal.nD Cert.DgateReferenceIdeal.τ).loc Cert.DgateReferenceIdeal.main_arg4) = m ((c.tc : Thread Cert.DgateReferenceIdeal.nD Cert.DgateReferenceIdeal.τ).loc Cert.DgateReferenceIdeal.main_arg4)
      ∧ r.2.mem ((c.tc : Thread Cert.DgateReferenceIdeal.nD Cert.DgateReferenceIdeal.τ).loc Cert.DgateReferenceIdeal.main_arg5) = m ((c.tc : Thread Cert.DgateReferenceIdeal.nD Cert.DgateReferenceIdeal.τ).loc Cert.DgateReferenceIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Prepc [hPrepc : Cert.Prepc.Facts] : Prop :=
  ∀ (m : (ℓ : Loc Cert.Prepc.nD Cert.Prepc.τ Cert.Prepc.sig) → Buf (Elt Bits) ℓ) (g : Dev Cert.Prepc.nD → PrngReg), Pre_Prepc m →
    θ_run (Cert.Prepc.defs (F := Bits)) (onTc (τ := Cert.Prepc.τ) (Cert.Prepc.main (F := Bits))) ⟨m, fun _ => 0, g⟩ (fun r => (∀ c : Dev Cert.Prepc.nD,
      r.2.mem ((c.tc : Thread Cert.Prepc.nD Cert.Prepc.τ).loc Cert.Prepc.main_arg0) = m ((c.tc : Thread Cert.Prepc.nD Cert.Prepc.τ).loc Cert.Prepc.main_arg0))
      ∧ r.2.sem = fun _ => 0)

def quiescent_PrepcIdeal [hPrepcIdeal : Cert.PrepcIdeal.Facts] : Prop :=
  ∀ (m : (ℓ : Loc Cert.PrepcIdeal.nD Cert.PrepcIdeal.τ Cert.PrepcIdeal.sig) → Buf (Elt Ideal) ℓ) (g : Dev Cert.PrepcIdeal.nD → PrngReg), Pre_PrepcIdeal m →
    θ_run (Cert.PrepcIdeal.defs (F := Ideal)) (onTc (τ := Cert.PrepcIdeal.τ) (Cert.PrepcIdeal.main (F := Ideal))) ⟨m, fun _ => 0, g⟩ (fun r => (∀ c : Dev Cert.PrepcIdeal.nD,
      r.2.mem ((c.tc : Thread Cert.PrepcIdeal.nD Cert.PrepcIdeal.τ).loc Cert.PrepcIdeal.main_arg0) = m ((c.tc : Thread Cert.PrepcIdeal.nD Cert.PrepcIdeal.τ).loc Cert.PrepcIdeal.main_arg0))
      ∧ r.2.sem = fun _ => 0)

def quiescent_PrepcReferenceIdeal [hPrepcReferenceIdeal : Cert.PrepcReferenceIdeal.Facts] : Prop :=
  ∀ (m : (ℓ : Loc Cert.PrepcReferenceIdeal.nD Cert.PrepcReferenceIdeal.τ Cert.PrepcReferenceIdeal.sig) → Buf (Elt Ideal) ℓ) (g : Dev Cert.PrepcReferenceIdeal.nD → PrngReg), Pre_PrepcReferenceIdeal m →
    θ_run (Cert.PrepcReferenceIdeal.defs (F := Ideal)) (onTc (τ := Cert.PrepcReferenceIdeal.τ) (Cert.PrepcReferenceIdeal.main (F := Ideal))) ⟨m, fun _ => 0, g⟩ (fun r => (∀ c : Dev Cert.PrepcReferenceIdeal.nD,
      r.2.mem ((c.tc : Thread Cert.PrepcReferenceIdeal.nD Cert.PrepcReferenceIdeal.τ).loc Cert.PrepcReferenceIdeal.main_arg0) = m ((c.tc : Thread Cert.PrepcReferenceIdeal.nD Cert.PrepcReferenceIdeal.τ).loc Cert.PrepcReferenceIdeal.main_arg0))
      ∧ r.2.sem = fun _ => 0)

def quiescent_Postc [hPostc : Cert.Postc.Facts] : Prop :=
  ∀ (m : (ℓ : Loc Cert.Postc.nD Cert.Postc.τ Cert.Postc.sig) → Buf (Elt Bits) ℓ) (g : Dev Cert.Postc.nD → PrngReg), Pre_Postc m →
    θ_run (Cert.Postc.defs (F := Bits)) (onTc (τ := Cert.Postc.τ) (Cert.Postc.main (F := Bits))) ⟨m, fun _ => 0, g⟩ (fun r => (∀ c : Dev Cert.Postc.nD,
      r.2.mem ((c.tc : Thread Cert.Postc.nD Cert.Postc.τ).loc Cert.Postc.main_arg0) = m ((c.tc : Thread Cert.Postc.nD Cert.Postc.τ).loc Cert.Postc.main_arg0)
      ∧ r.2.mem ((c.tc : Thread Cert.Postc.nD Cert.Postc.τ).loc Cert.Postc.main_arg1) = m ((c.tc : Thread Cert.Postc.nD Cert.Postc.τ).loc Cert.Postc.main_arg1)
      ∧ r.2.mem ((c.tc : Thread Cert.Postc.nD Cert.Postc.τ).loc Cert.Postc.main_arg2) = m ((c.tc : Thread Cert.Postc.nD Cert.Postc.τ).loc Cert.Postc.main_arg2)
      ∧ r.2.mem ((c.tc : Thread Cert.Postc.nD Cert.Postc.τ).loc Cert.Postc.main_arg3) = m ((c.tc : Thread Cert.Postc.nD Cert.Postc.τ).loc Cert.Postc.main_arg3)
      ∧ r.2.mem ((c.tc : Thread Cert.Postc.nD Cert.Postc.τ).loc Cert.Postc.main_arg4) = m ((c.tc : Thread Cert.Postc.nD Cert.Postc.τ).loc Cert.Postc.main_arg4))
      ∧ r.2.sem = fun _ => 0)

def quiescent_PostcIdeal [hPostcIdeal : Cert.PostcIdeal.Facts] : Prop :=
  ∀ (m : (ℓ : Loc Cert.PostcIdeal.nD Cert.PostcIdeal.τ Cert.PostcIdeal.sig) → Buf (Elt Ideal) ℓ) (g : Dev Cert.PostcIdeal.nD → PrngReg), Pre_PostcIdeal m →
    θ_run (Cert.PostcIdeal.defs (F := Ideal)) (onTc (τ := Cert.PostcIdeal.τ) (Cert.PostcIdeal.main (F := Ideal))) ⟨m, fun _ => 0, g⟩ (fun r => (∀ c : Dev Cert.PostcIdeal.nD,
      r.2.mem ((c.tc : Thread Cert.PostcIdeal.nD Cert.PostcIdeal.τ).loc Cert.PostcIdeal.main_arg0) = m ((c.tc : Thread Cert.PostcIdeal.nD Cert.PostcIdeal.τ).loc Cert.PostcIdeal.main_arg0)
      ∧ r.2.mem ((c.tc : Thread Cert.PostcIdeal.nD Cert.PostcIdeal.τ).loc Cert.PostcIdeal.main_arg1) = m ((c.tc : Thread Cert.PostcIdeal.nD Cert.PostcIdeal.τ).loc Cert.PostcIdeal.main_arg1)
      ∧ r.2.mem ((c.tc : Thread Cert.PostcIdeal.nD Cert.PostcIdeal.τ).loc Cert.PostcIdeal.main_arg2) = m ((c.tc : Thread Cert.PostcIdeal.nD Cert.PostcIdeal.τ).loc Cert.PostcIdeal.main_arg2)
      ∧ r.2.mem ((c.tc : Thread Cert.PostcIdeal.nD Cert.PostcIdeal.τ).loc Cert.PostcIdeal.main_arg3) = m ((c.tc : Thread Cert.PostcIdeal.nD Cert.PostcIdeal.τ).loc Cert.PostcIdeal.main_arg3)
      ∧ r.2.mem ((c.tc : Thread Cert.PostcIdeal.nD Cert.PostcIdeal.τ).loc Cert.PostcIdeal.main_arg4) = m ((c.tc : Thread Cert.PostcIdeal.nD Cert.PostcIdeal.τ).loc Cert.PostcIdeal.main_arg4))
      ∧ r.2.sem = fun _ => 0)

def quiescent_PostcReferenceIdeal [hPostcReferenceIdeal : Cert.PostcReferenceIdeal.Facts] : Prop :=
  ∀ (m : (ℓ : Loc Cert.PostcReferenceIdeal.nD Cert.PostcReferenceIdeal.τ Cert.PostcReferenceIdeal.sig) → Buf (Elt Ideal) ℓ) (g : Dev Cert.PostcReferenceIdeal.nD → PrngReg), Pre_PostcReferenceIdeal m →
    θ_run (Cert.PostcReferenceIdeal.defs (F := Ideal)) (onTc (τ := Cert.PostcReferenceIdeal.τ) (Cert.PostcReferenceIdeal.main (F := Ideal))) ⟨m, fun _ => 0, g⟩ (fun r => (∀ c : Dev Cert.PostcReferenceIdeal.nD,
      r.2.mem ((c.tc : Thread Cert.PostcReferenceIdeal.nD Cert.PostcReferenceIdeal.τ).loc Cert.PostcReferenceIdeal.main_arg0) = m ((c.tc : Thread Cert.PostcReferenceIdeal.nD Cert.PostcReferenceIdeal.τ).loc Cert.PostcReferenceIdeal.main_arg0)
      ∧ r.2.mem ((c.tc : Thread Cert.PostcReferenceIdeal.nD Cert.PostcReferenceIdeal.τ).loc Cert.PostcReferenceIdeal.main_arg1) = m ((c.tc : Thread Cert.PostcReferenceIdeal.nD Cert.PostcReferenceIdeal.τ).loc Cert.PostcReferenceIdeal.main_arg1)
      ∧ r.2.mem ((c.tc : Thread Cert.PostcReferenceIdeal.nD Cert.PostcReferenceIdeal.τ).loc Cert.PostcReferenceIdeal.main_arg2) = m ((c.tc : Thread Cert.PostcReferenceIdeal.nD Cert.PostcReferenceIdeal.τ).loc Cert.PostcReferenceIdeal.main_arg2)
      ∧ r.2.mem ((c.tc : Thread Cert.PostcReferenceIdeal.nD Cert.PostcReferenceIdeal.τ).loc Cert.PostcReferenceIdeal.main_arg3) = m ((c.tc : Thread Cert.PostcReferenceIdeal.nD Cert.PostcReferenceIdeal.τ).loc Cert.PostcReferenceIdeal.main_arg3)
      ∧ r.2.mem ((c.tc : Thread Cert.PostcReferenceIdeal.nD Cert.PostcReferenceIdeal.τ).loc Cert.PostcReferenceIdeal.main_arg4) = m ((c.tc : Thread Cert.PostcReferenceIdeal.nD Cert.PostcReferenceIdeal.τ).loc Cert.PostcReferenceIdeal.main_arg4))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ r.2.sem = fun _ => 0)

def quiescent_DeltaReferenceIdeal [hDeltaReferenceIdeal : Cert.DeltaReferenceIdeal.Facts] : Prop :=
  ∀ (m : (ℓ : Loc Cert.DeltaReferenceIdeal.nD Cert.DeltaReferenceIdeal.τ Cert.DeltaReferenceIdeal.sig) → Buf (Elt Ideal) ℓ) (g : Dev Cert.DeltaReferenceIdeal.nD → PrngReg), Pre_DeltaReferenceIdeal m →
    θ_run (Cert.DeltaReferenceIdeal.defs (F := Ideal)) (onTc (τ := Cert.DeltaReferenceIdeal.τ) (Cert.DeltaReferenceIdeal.main (F := Ideal))) ⟨m, fun _ => 0, g⟩ (fun r => (∀ c : Dev Cert.DeltaReferenceIdeal.nD,
      r.2.mem ((c.tc : Thread Cert.DeltaReferenceIdeal.nD Cert.DeltaReferenceIdeal.τ).loc Cert.DeltaReferenceIdeal.main_arg0) = m ((c.tc : Thread Cert.DeltaReferenceIdeal.nD Cert.DeltaReferenceIdeal.τ).loc Cert.DeltaReferenceIdeal.main_arg0)
      ∧ r.2.mem ((c.tc : Thread Cert.DeltaReferenceIdeal.nD Cert.DeltaReferenceIdeal.τ).loc Cert.DeltaReferenceIdeal.main_arg1) = m ((c.tc : Thread Cert.DeltaReferenceIdeal.nD Cert.DeltaReferenceIdeal.τ).loc Cert.DeltaReferenceIdeal.main_arg1))
      ∧ r.2.sem = fun _ => 0)

def quiescent_Ain [hAin : Cert.Ain.Facts] : Prop :=
  ∀ (m : (ℓ : Loc Cert.Ain.nD Cert.Ain.τ Cert.Ain.sig) → Buf (Elt Bits) ℓ) (g : Dev Cert.Ain.nD → PrngReg), Pre_Ain m →
    θ_run (Cert.Ain.defs (F := Bits)) (onTc (τ := Cert.Ain.τ) (Cert.Ain.main (F := Bits))) ⟨m, fun _ => 0, g⟩ (fun r => (∀ c : Dev Cert.Ain.nD,
      r.2.mem ((c.tc : Thread Cert.Ain.nD Cert.Ain.τ).loc Cert.Ain.main_arg0) = m ((c.tc : Thread Cert.Ain.nD Cert.Ain.τ).loc Cert.Ain.main_arg0)
      ∧ r.2.mem ((c.tc : Thread Cert.Ain.nD Cert.Ain.τ).loc Cert.Ain.main_arg1) = m ((c.tc : Thread Cert.Ain.nD Cert.Ain.τ).loc Cert.Ain.main_arg1)
      ∧ r.2.mem ((c.tc : Thread Cert.Ain.nD Cert.Ain.τ).loc Cert.Ain.main_arg2) = m ((c.tc : Thread Cert.Ain.nD Cert.Ain.τ).loc Cert.Ain.main_arg2)
      ∧ r.2.mem ((c.tc : Thread Cert.Ain.nD Cert.Ain.τ).loc Cert.Ain.main_arg3) = m ((c.tc : Thread Cert.Ain.nD Cert.Ain.τ).loc Cert.Ain.main_arg3))
      ∧ r.2.sem = fun _ => 0)

def quiescent_AinIdeal [hAinIdeal : Cert.AinIdeal.Facts] : Prop :=
  ∀ (m : (ℓ : Loc Cert.AinIdeal.nD Cert.AinIdeal.τ Cert.AinIdeal.sig) → Buf (Elt Ideal) ℓ) (g : Dev Cert.AinIdeal.nD → PrngReg), Pre_AinIdeal m →
    θ_run (Cert.AinIdeal.defs (F := Ideal)) (onTc (τ := Cert.AinIdeal.τ) (Cert.AinIdeal.main (F := Ideal))) ⟨m, fun _ => 0, g⟩ (fun r => (∀ c : Dev Cert.AinIdeal.nD,
      r.2.mem ((c.tc : Thread Cert.AinIdeal.nD Cert.AinIdeal.τ).loc Cert.AinIdeal.main_arg0) = m ((c.tc : Thread Cert.AinIdeal.nD Cert.AinIdeal.τ).loc Cert.AinIdeal.main_arg0)
      ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
      ∧ r.2.mem ((c.tc : Thread Cert.AinIdeal.nD Cert.AinIdeal.τ).loc Cert.AinIdeal.main_arg2) = m ((c.tc : Thread Cert.AinIdeal.nD Cert.AinIdeal.τ).loc Cert.AinIdeal.main_arg2)
      ∧ r.2.mem ((c.tc : Thread Cert.AinIdeal.nD Cert.AinIdeal.τ).loc Cert.AinIdeal.main_arg3) = m ((c.tc : Thread Cert.AinIdeal.nD Cert.AinIdeal.τ).loc Cert.AinIdeal.main_arg3))
      ∧ r.2.sem = fun _ => 0)

def quiescent_AinReferenceIdeal [hAinReferenceIdeal : Cert.AinReferenceIdeal.Facts] : Prop :=
  ∀ (m : (ℓ : Loc Cert.AinReferenceIdeal.nD Cert.AinReferenceIdeal.τ Cert.AinReferenceIdeal.sig) → Buf (Elt Ideal) ℓ) (g : Dev Cert.AinReferenceIdeal.nD → PrngReg), Pre_AinReferenceIdeal m →
    θ_run (Cert.AinReferenceIdeal.defs (F := Ideal)) (onTc (τ := Cert.AinReferenceIdeal.τ) (Cert.AinReferenceIdeal.main (F := Ideal))) ⟨m, fun _ => 0, g⟩ (fun r => (∀ c : Dev Cert.AinReferenceIdeal.nD,
      r.2.mem ((c.tc : Thread Cert.AinReferenceIdeal.nD Cert.AinReferenceIdeal.τ).loc Cert.AinReferenceIdeal.main_arg0) = m ((c.tc : Thread Cert.AinReferenceIdeal.nD Cert.AinReferenceIdeal.τ).loc Cert.AinReferenceIdeal.main_arg0)
      ∧ r.2.mem ((c.tc : Thread Cert.AinReferenceIdeal.nD Cert.AinReferenceIdeal.τ).loc Cert.AinReferenceIdeal.main_arg1) = m ((c.tc : Thread Cert.AinReferenceIdeal.nD Cert.AinReferenceIdeal.τ).loc Cert.AinReferenceIdeal.main_arg1)
      ∧ r.2.mem ((c.tc : Thread Cert.AinReferenceIdeal.nD Cert.AinReferenceIdeal.τ).loc Cert.AinReferenceIdeal.main_arg2) = m ((c.tc : Thread Cert.AinReferenceIdeal.nD Cert.AinReferenceIdeal.τ).loc Cert.AinReferenceIdeal.main_arg2)
      ∧ r.2.mem ((c.tc : Thread Cert.AinReferenceIdeal.nD Cert.AinReferenceIdeal.τ).loc Cert.AinReferenceIdeal.main_arg3) = m ((c.tc : Thread Cert.AinReferenceIdeal.nD Cert.AinReferenceIdeal.τ).loc Cert.AinReferenceIdeal.main_arg3))
      ∧ r.2.sem = fun _ => 0)

def quiescent_Abra [hAbra : Cert.Abra.Facts] : Prop :=
  ∀ (m : (ℓ : Loc Cert.Abra.nD Cert.Abra.τ Cert.Abra.sig) → Buf (Elt Bits) ℓ) (g : Dev Cert.Abra.nD → PrngReg), Pre_Abra m →
    θ_run (Cert.Abra.defs (F := Bits)) (onTc (τ := Cert.Abra.τ) (Cert.Abra.main (F := Bits))) ⟨m, fun _ => 0, g⟩ (fun r => (∀ c : Dev Cert.Abra.nD,
      r.2.mem ((c.tc : Thread Cert.Abra.nD Cert.Abra.τ).loc Cert.Abra.main_arg0) = m ((c.tc : Thread Cert.Abra.nD Cert.Abra.τ).loc Cert.Abra.main_arg0)
      ∧ r.2.mem ((c.tc : Thread Cert.Abra.nD Cert.Abra.τ).loc Cert.Abra.main_arg1) = m ((c.tc : Thread Cert.Abra.nD Cert.Abra.τ).loc Cert.Abra.main_arg1)
      ∧ r.2.mem ((c.tc : Thread Cert.Abra.nD Cert.Abra.τ).loc Cert.Abra.main_arg2) = m ((c.tc : Thread Cert.Abra.nD Cert.Abra.τ).loc Cert.Abra.main_arg2)
      ∧ r.2.mem ((c.tc : Thread Cert.Abra.nD Cert.Abra.τ).loc Cert.Abra.main_arg3) = m ((c.tc : Thread Cert.Abra.nD Cert.Abra.τ).loc Cert.Abra.main_arg3))
      ∧ r.2.sem = fun _ => 0)

def quiescent_AbraIdeal [hAbraIdeal : Cert.AbraIdeal.Facts] : Prop :=
  ∀ (m : (ℓ : Loc Cert.AbraIdeal.nD Cert.AbraIdeal.τ Cert.AbraIdeal.sig) → Buf (Elt Ideal) ℓ) (g : Dev Cert.AbraIdeal.nD → PrngReg), Pre_AbraIdeal m →
    θ_run (Cert.AbraIdeal.defs (F := Ideal)) (onTc (τ := Cert.AbraIdeal.τ) (Cert.AbraIdeal.main (F := Ideal))) ⟨m, fun _ => 0, g⟩ (fun r => (∀ c : Dev Cert.AbraIdeal.nD,
      r.2.mem ((c.tc : Thread Cert.AbraIdeal.nD Cert.AbraIdeal.τ).loc Cert.AbraIdeal.main_arg0) = m ((c.tc : Thread Cert.AbraIdeal.nD Cert.AbraIdeal.τ).loc Cert.AbraIdeal.main_arg0)
      ∧ r.2.mem ((c.tc : Thread Cert.AbraIdeal.nD Cert.AbraIdeal.τ).loc Cert.AbraIdeal.main_arg1) = m ((c.tc : Thread Cert.AbraIdeal.nD Cert.AbraIdeal.τ).loc Cert.AbraIdeal.main_arg1)
      ∧ r.2.mem ((c.tc : Thread Cert.AbraIdeal.nD Cert.AbraIdeal.τ).loc Cert.AbraIdeal.main_arg2) = m ((c.tc : Thread Cert.AbraIdeal.nD Cert.AbraIdeal.τ).loc Cert.AbraIdeal.main_arg2)
      ∧ r.2.mem ((c.tc : Thread Cert.AbraIdeal.nD Cert.AbraIdeal.τ).loc Cert.AbraIdeal.main_arg3) = m ((c.tc : Thread Cert.AbraIdeal.nD Cert.AbraIdeal.τ).loc Cert.AbraIdeal.main_arg3))
      ∧ r.2.sem = fun _ => 0)

def quiescent_AbraReferenceIdeal [hAbraReferenceIdeal : Cert.AbraReferenceIdeal.Facts] : Prop :=
  ∀ (m : (ℓ : Loc Cert.AbraReferenceIdeal.nD Cert.AbraReferenceIdeal.τ Cert.AbraReferenceIdeal.sig) → Buf (Elt Ideal) ℓ) (g : Dev Cert.AbraReferenceIdeal.nD → PrngReg), Pre_AbraReferenceIdeal m →
    θ_run (Cert.AbraReferenceIdeal.defs (F := Ideal)) (onTc (τ := Cert.AbraReferenceIdeal.τ) (Cert.AbraReferenceIdeal.main (F := Ideal))) ⟨m, fun _ => 0, g⟩ (fun r => (∀ c : Dev Cert.AbraReferenceIdeal.nD,
      r.2.mem ((c.tc : Thread Cert.AbraReferenceIdeal.nD Cert.AbraReferenceIdeal.τ).loc Cert.AbraReferenceIdeal.main_arg0) = m ((c.tc : Thread Cert.AbraReferenceIdeal.nD Cert.AbraReferenceIdeal.τ).loc Cert.AbraReferenceIdeal.main_arg0)
      ∧ r.2.mem ((c.tc : Thread Cert.AbraReferenceIdeal.nD Cert.AbraReferenceIdeal.τ).loc Cert.AbraReferenceIdeal.main_arg1) = m ((c.tc : Thread Cert.AbraReferenceIdeal.nD Cert.AbraReferenceIdeal.τ).loc Cert.AbraReferenceIdeal.main_arg1)
      ∧ r.2.mem ((c.tc : Thread Cert.AbraReferenceIdeal.nD Cert.AbraReferenceIdeal.τ).loc Cert.AbraReferenceIdeal.main_arg2) = m ((c.tc : Thread Cert.AbraReferenceIdeal.nD Cert.AbraReferenceIdeal.τ).loc Cert.AbraReferenceIdeal.main_arg2)
      ∧ r.2.mem ((c.tc : Thread Cert.AbraReferenceIdeal.nD Cert.AbraReferenceIdeal.τ).loc Cert.AbraReferenceIdeal.main_arg3) = m ((c.tc : Thread Cert.AbraReferenceIdeal.nD Cert.AbraReferenceIdeal.τ).loc Cert.AbraReferenceIdeal.main_arg3))
      ∧ r.2.sem = fun _ => 0)

def quiescent_Abrb [hAbrb : Cert.Abrb.Facts] : Prop :=
  ∀ (m : (ℓ : Loc Cert.Abrb.nD Cert.Abrb.τ Cert.Abrb.sig) → Buf (Elt Bits) ℓ) (g : Dev Cert.Abrb.nD → PrngReg), Pre_Abrb m →
    θ_run (Cert.Abrb.defs (F := Bits)) (onTc (τ := Cert.Abrb.τ) (Cert.Abrb.main (F := Bits))) ⟨m, fun _ => 0, g⟩ (fun r => (∀ c : Dev Cert.Abrb.nD,
      r.2.mem ((c.tc : Thread Cert.Abrb.nD Cert.Abrb.τ).loc Cert.Abrb.main_arg0) = m ((c.tc : Thread Cert.Abrb.nD Cert.Abrb.τ).loc Cert.Abrb.main_arg0)
      ∧ r.2.mem ((c.tc : Thread Cert.Abrb.nD Cert.Abrb.τ).loc Cert.Abrb.main_arg1) = m ((c.tc : Thread Cert.Abrb.nD Cert.Abrb.τ).loc Cert.Abrb.main_arg1)
      ∧ r.2.mem ((c.tc : Thread Cert.Abrb.nD Cert.Abrb.τ).loc Cert.Abrb.main_arg2) = m ((c.tc : Thread Cert.Abrb.nD Cert.Abrb.τ).loc Cert.Abrb.main_arg2)
      ∧ r.2.mem ((c.tc : Thread Cert.Abrb.nD Cert.Abrb.τ).loc Cert.Abrb.main_arg3) = m ((c.tc : Thread Cert.Abrb.nD Cert.Abrb.τ).loc Cert.Abrb.main_arg3))
      ∧ r.2.sem = fun _ => 0)

def quiescent_AbrbIdeal [hAbrbIdeal : Cert.AbrbIdeal.Facts] : Prop :=
  ∀ (m : (ℓ : Loc Cert.AbrbIdeal.nD Cert.AbrbIdeal.τ Cert.AbrbIdeal.sig) → Buf (Elt Ideal) ℓ) (g : Dev Cert.AbrbIdeal.nD → PrngReg), Pre_AbrbIdeal m →
    θ_run (Cert.AbrbIdeal.defs (F := Ideal)) (onTc (τ := Cert.AbrbIdeal.τ) (Cert.AbrbIdeal.main (F := Ideal))) ⟨m, fun _ => 0, g⟩ (fun r => (∀ c : Dev Cert.AbrbIdeal.nD,
      r.2.mem ((c.tc : Thread Cert.AbrbIdeal.nD Cert.AbrbIdeal.τ).loc Cert.AbrbIdeal.main_arg0) = m ((c.tc : Thread Cert.AbrbIdeal.nD Cert.AbrbIdeal.τ).loc Cert.AbrbIdeal.main_arg0)
      ∧ r.2.mem ((c.tc : Thread Cert.AbrbIdeal.nD Cert.AbrbIdeal.τ).loc Cert.AbrbIdeal.main_arg1) = m ((c.tc : Thread Cert.AbrbIdeal.nD Cert.AbrbIdeal.τ).loc Cert.AbrbIdeal.main_arg1)
      ∧ r.2.mem ((c.tc : Thread Cert.AbrbIdeal.nD Cert.AbrbIdeal.τ).loc Cert.AbrbIdeal.main_arg2) = m ((c.tc : Thread Cert.AbrbIdeal.nD Cert.AbrbIdeal.τ).loc Cert.AbrbIdeal.main_arg2)
      ∧ r.2.mem ((c.tc : Thread Cert.AbrbIdeal.nD Cert.AbrbIdeal.τ).loc Cert.AbrbIdeal.main_arg3) = m ((c.tc : Thread Cert.AbrbIdeal.nD Cert.AbrbIdeal.τ).loc Cert.AbrbIdeal.main_arg3))
      ∧ r.2.sem = fun _ => 0)

def quiescent_AbrbReferenceIdeal [hAbrbReferenceIdeal : Cert.AbrbReferenceIdeal.Facts] : Prop :=
  ∀ (m : (ℓ : Loc Cert.AbrbReferenceIdeal.nD Cert.AbrbReferenceIdeal.τ Cert.AbrbReferenceIdeal.sig) → Buf (Elt Ideal) ℓ) (g : Dev Cert.AbrbReferenceIdeal.nD → PrngReg), Pre_AbrbReferenceIdeal m →
    θ_run (Cert.AbrbReferenceIdeal.defs (F := Ideal)) (onTc (τ := Cert.AbrbReferenceIdeal.τ) (Cert.AbrbReferenceIdeal.main (F := Ideal))) ⟨m, fun _ => 0, g⟩ (fun r => (∀ c : Dev Cert.AbrbReferenceIdeal.nD,
      r.2.mem ((c.tc : Thread Cert.AbrbReferenceIdeal.nD Cert.AbrbReferenceIdeal.τ).loc Cert.AbrbReferenceIdeal.main_arg0) = m ((c.tc : Thread Cert.AbrbReferenceIdeal.nD Cert.AbrbReferenceIdeal.τ).loc Cert.AbrbReferenceIdeal.main_arg0)
      ∧ r.2.mem ((c.tc : Thread Cert.AbrbReferenceIdeal.nD Cert.AbrbReferenceIdeal.τ).loc Cert.AbrbReferenceIdeal.main_arg1) = m ((c.tc : Thread Cert.AbrbReferenceIdeal.nD Cert.AbrbReferenceIdeal.τ).loc Cert.AbrbReferenceIdeal.main_arg1)
      ∧ r.2.mem ((c.tc : Thread Cert.AbrbReferenceIdeal.nD Cert.AbrbReferenceIdeal.τ).loc Cert.AbrbReferenceIdeal.main_arg2) = m ((c.tc : Thread Cert.AbrbReferenceIdeal.nD Cert.AbrbReferenceIdeal.τ).loc Cert.AbrbReferenceIdeal.main_arg2)
      ∧ r.2.mem ((c.tc : Thread Cert.AbrbReferenceIdeal.nD Cert.AbrbReferenceIdeal.τ).loc Cert.AbrbReferenceIdeal.main_arg3) = m ((c.tc : Thread Cert.AbrbReferenceIdeal.nD Cert.AbrbReferenceIdeal.τ).loc Cert.AbrbReferenceIdeal.main_arg3))
      ∧ r.2.sem = fun _ => 0)

def quiescent_Aout [hAout : Cert.Aout.Facts] : Prop :=
  ∀ (m : (ℓ : Loc Cert.Aout.nD Cert.Aout.τ Cert.Aout.sig) → Buf (Elt Bits) ℓ) (g : Dev Cert.Aout.nD → PrngReg), Pre_Aout m →
    θ_run (Cert.Aout.defs (F := Bits)) (onTc (τ := Cert.Aout.τ) (Cert.Aout.main (F := Bits))) ⟨m, fun _ => 0, g⟩ (fun r => (∀ c : Dev Cert.Aout.nD,
      r.2.mem ((c.tc : Thread Cert.Aout.nD Cert.Aout.τ).loc Cert.Aout.main_arg0) = m ((c.tc : Thread Cert.Aout.nD Cert.Aout.τ).loc Cert.Aout.main_arg0)
      ∧ r.2.mem ((c.tc : Thread Cert.Aout.nD Cert.Aout.τ).loc Cert.Aout.main_arg1) = m ((c.tc : Thread Cert.Aout.nD Cert.Aout.τ).loc Cert.Aout.main_arg1)
      ∧ r.2.mem ((c.tc : Thread Cert.Aout.nD Cert.Aout.τ).loc Cert.Aout.main_arg2) = m ((c.tc : Thread Cert.Aout.nD Cert.Aout.τ).loc Cert.Aout.main_arg2)
      ∧ r.2.mem ((c.tc : Thread Cert.Aout.nD Cert.Aout.τ).loc Cert.Aout.main_arg3) = m ((c.tc : Thread Cert.Aout.nD Cert.Aout.τ).loc Cert.Aout.main_arg3))
      ∧ r.2.sem = fun _ => 0)

def quiescent_AoutIdeal [hAoutIdeal : Cert.AoutIdeal.Facts] : Prop :=
  ∀ (m : (ℓ : Loc Cert.AoutIdeal.nD Cert.AoutIdeal.τ Cert.AoutIdeal.sig) → Buf (Elt Ideal) ℓ) (g : Dev Cert.AoutIdeal.nD → PrngReg), Pre_AoutIdeal m →
    θ_run (Cert.AoutIdeal.defs (F := Ideal)) (onTc (τ := Cert.AoutIdeal.τ) (Cert.AoutIdeal.main (F := Ideal))) ⟨m, fun _ => 0, g⟩ (fun r => (∀ c : Dev Cert.AoutIdeal.nD,
      r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
      ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1)
      ∧ r.2.mem ((c.tc : Thread Cert.AoutIdeal.nD Cert.AoutIdeal.τ).loc Cert.AoutIdeal.main_arg2) = m ((c.tc : Thread Cert.AoutIdeal.nD Cert.AoutIdeal.τ).loc Cert.AoutIdeal.main_arg2)
      ∧ r.2.mem ((c.tc : Thread Cert.AoutIdeal.nD Cert.AoutIdeal.τ).loc Cert.AoutIdeal.main_arg3) = m ((c.tc : Thread Cert.AoutIdeal.nD Cert.AoutIdeal.τ).loc Cert.AoutIdeal.main_arg3))
      ∧ r.2.sem = fun _ => 0)

def quiescent_AoutReferenceIdeal [hAoutReferenceIdeal : Cert.AoutReferenceIdeal.Facts] : Prop :=
  ∀ (m : (ℓ : Loc Cert.AoutReferenceIdeal.nD Cert.AoutReferenceIdeal.τ Cert.AoutReferenceIdeal.sig) → Buf (Elt Ideal) ℓ) (g : Dev Cert.AoutReferenceIdeal.nD → PrngReg), Pre_AoutReferenceIdeal m →
    θ_run (Cert.AoutReferenceIdeal.defs (F := Ideal)) (onTc (τ := Cert.AoutReferenceIdeal.τ) (Cert.AoutReferenceIdeal.main (F := Ideal))) ⟨m, fun _ => 0, g⟩ (fun r => (∀ c : Dev Cert.AoutReferenceIdeal.nD,
      r.2.mem ((c.tc : Thread Cert.AoutReferenceIdeal.nD Cert.AoutReferenceIdeal.τ).loc Cert.AoutReferenceIdeal.main_arg0) = m ((c.tc : Thread Cert.AoutReferenceIdeal.nD Cert.AoutReferenceIdeal.τ).loc Cert.AoutReferenceIdeal.main_arg0)
      ∧ r.2.mem ((c.tc : Thread Cert.AoutReferenceIdeal.nD Cert.AoutReferenceIdeal.τ).loc Cert.AoutReferenceIdeal.main_arg1) = m ((c.tc : Thread Cert.AoutReferenceIdeal.nD Cert.AoutReferenceIdeal.τ).loc Cert.AoutReferenceIdeal.main_arg1)
      ∧ r.2.mem ((c.tc : Thread Cert.AoutReferenceIdeal.nD Cert.AoutReferenceIdeal.τ).loc Cert.AoutReferenceIdeal.main_arg2) = m ((c.tc : Thread Cert.AoutReferenceIdeal.nD Cert.AoutReferenceIdeal.τ).loc Cert.AoutReferenceIdeal.main_arg2)
      ∧ r.2.mem ((c.tc : Thread Cert.AoutReferenceIdeal.nD Cert.AoutReferenceIdeal.τ).loc Cert.AoutReferenceIdeal.main_arg3) = m ((c.tc : Thread Cert.AoutReferenceIdeal.nD Cert.AoutReferenceIdeal.τ).loc Cert.AoutReferenceIdeal.main_arg3))
      ∧ r.2.sem = fun _ => 0)

def quiescent_Aup [hAup : Cert.Aup.Facts] : Prop :=
  ∀ (m : (ℓ : Loc Cert.Aup.nD Cert.Aup.τ Cert.Aup.sig) → Buf (Elt Bits) ℓ) (g : Dev Cert.Aup.nD → PrngReg), Pre_Aup m →
    θ_run (Cert.Aup.defs (F := Bits)) (onTc (τ := Cert.Aup.τ) (Cert.Aup.main (F := Bits))) ⟨m, fun _ => 0, g⟩ (fun r => (∀ c : Dev Cert.Aup.nD,
      r.2.mem ((c.tc : Thread Cert.Aup.nD Cert.Aup.τ).loc Cert.Aup.main_arg0) = m ((c.tc : Thread Cert.Aup.nD Cert.Aup.τ).loc Cert.Aup.main_arg0)
      ∧ r.2.mem ((c.tc : Thread Cert.Aup.nD Cert.Aup.τ).loc Cert.Aup.main_arg1) = m ((c.tc : Thread Cert.Aup.nD Cert.Aup.τ).loc Cert.Aup.main_arg1)
      ∧ r.2.mem ((c.tc : Thread Cert.Aup.nD Cert.Aup.τ).loc Cert.Aup.main_arg2) = m ((c.tc : Thread Cert.Aup.nD Cert.Aup.τ).loc Cert.Aup.main_arg2)
      ∧ r.2.mem ((c.tc : Thread Cert.Aup.nD Cert.Aup.τ).loc Cert.Aup.main_arg3) = m ((c.tc : Thread Cert.Aup.nD Cert.Aup.τ).loc Cert.Aup.main_arg3))
      ∧ r.2.sem = fun _ => 0)

def quiescent_AupIdeal [hAupIdeal : Cert.AupIdeal.Facts] : Prop :=
  ∀ (m : (ℓ : Loc Cert.AupIdeal.nD Cert.AupIdeal.τ Cert.AupIdeal.sig) → Buf (Elt Ideal) ℓ) (g : Dev Cert.AupIdeal.nD → PrngReg), Pre_AupIdeal m →
    θ_run (Cert.AupIdeal.defs (F := Ideal)) (onTc (τ := Cert.AupIdeal.τ) (Cert.AupIdeal.main (F := Ideal))) ⟨m, fun _ => 0, g⟩ (fun r => (∀ c : Dev Cert.AupIdeal.nD,
      r.2.mem ((c.tc : Thread Cert.AupIdeal.nD Cert.AupIdeal.τ).loc Cert.AupIdeal.main_arg0) = m ((c.tc : Thread Cert.AupIdeal.nD Cert.AupIdeal.τ).loc Cert.AupIdeal.main_arg0)
      ∧ r.2.mem ((c.tc : Thread Cert.AupIdeal.nD Cert.AupIdeal.τ).loc Cert.AupIdeal.main_arg1) = m ((c.tc : Thread Cert.AupIdeal.nD Cert.AupIdeal.τ).loc Cert.AupIdeal.main_arg1)
      ∧ r.2.mem ((c.tc : Thread Cert.AupIdeal.nD Cert.AupIdeal.τ).loc Cert.AupIdeal.main_arg2) = m ((c.tc : Thread Cert.AupIdeal.nD Cert.AupIdeal.τ).loc Cert.AupIdeal.main_arg2)
      ∧ r.2.mem ((c.tc : Thread Cert.AupIdeal.nD Cert.AupIdeal.τ).loc Cert.AupIdeal.main_arg3) = m ((c.tc : Thread Cert.AupIdeal.nD Cert.AupIdeal.τ).loc Cert.AupIdeal.main_arg3))
      ∧ r.2.sem = fun _ => 0)

def quiescent_AupReferenceIdeal [hAupReferenceIdeal : Cert.AupReferenceIdeal.Facts] : Prop :=
  ∀ (m : (ℓ : Loc Cert.AupReferenceIdeal.nD Cert.AupReferenceIdeal.τ Cert.AupReferenceIdeal.sig) → Buf (Elt Ideal) ℓ) (g : Dev Cert.AupReferenceIdeal.nD → PrngReg), Pre_AupReferenceIdeal m →
    θ_run (Cert.AupReferenceIdeal.defs (F := Ideal)) (onTc (τ := Cert.AupReferenceIdeal.τ) (Cert.AupReferenceIdeal.main (F := Ideal))) ⟨m, fun _ => 0, g⟩ (fun r => (∀ c : Dev Cert.AupReferenceIdeal.nD,
      r.2.mem ((c.tc : Thread Cert.AupReferenceIdeal.nD Cert.AupReferenceIdeal.τ).loc Cert.AupReferenceIdeal.main_arg0) = m ((c.tc : Thread Cert.AupReferenceIdeal.nD Cert.AupReferenceIdeal.τ).loc Cert.AupReferenceIdeal.main_arg0)
      ∧ r.2.mem ((c.tc : Thread Cert.AupReferenceIdeal.nD Cert.AupReferenceIdeal.τ).loc Cert.AupReferenceIdeal.main_arg1) = m ((c.tc : Thread Cert.AupReferenceIdeal.nD Cert.AupReferenceIdeal.τ).loc Cert.AupReferenceIdeal.main_arg1)
      ∧ r.2.mem ((c.tc : Thread Cert.AupReferenceIdeal.nD Cert.AupReferenceIdeal.τ).loc Cert.AupReferenceIdeal.main_arg2) = m ((c.tc : Thread Cert.AupReferenceIdeal.nD Cert.AupReferenceIdeal.τ).loc Cert.AupReferenceIdeal.main_arg2)
      ∧ r.2.mem ((c.tc : Thread Cert.AupReferenceIdeal.nD Cert.AupReferenceIdeal.τ).loc Cert.AupReferenceIdeal.main_arg3) = m ((c.tc : Thread Cert.AupReferenceIdeal.nD Cert.AupReferenceIdeal.τ).loc Cert.AupReferenceIdeal.main_arg3))
      ∧ r.2.sem = fun _ => 0)

def quiescent_Asmall [hAsmall : Cert.Asmall.Facts] : Prop :=
  ∀ (m : (ℓ : Loc Cert.Asmall.nD Cert.Asmall.τ Cert.Asmall.sig) → Buf (Elt Bits) ℓ) (g : Dev Cert.Asmall.nD → PrngReg), Pre_Asmall m →
    θ_run (Cert.Asmall.defs (F := Bits)) (onTc (τ := Cert.Asmall.τ) (Cert.Asmall.main (F := Bits))) ⟨m, fun _ => 0, g⟩ (fun r => (∀ c : Dev Cert.Asmall.nD,
      r.2.mem ((c.tc : Thread Cert.Asmall.nD Cert.Asmall.τ).loc Cert.Asmall.main_arg0) = m ((c.tc : Thread Cert.Asmall.nD Cert.Asmall.τ).loc Cert.Asmall.main_arg0)
      ∧ r.2.mem ((c.tc : Thread Cert.Asmall.nD Cert.Asmall.τ).loc Cert.Asmall.main_arg1) = m ((c.tc : Thread Cert.Asmall.nD Cert.Asmall.τ).loc Cert.Asmall.main_arg1)
      ∧ r.2.mem ((c.tc : Thread Cert.Asmall.nD Cert.Asmall.τ).loc Cert.Asmall.main_arg2) = m ((c.tc : Thread Cert.Asmall.nD Cert.Asmall.τ).loc Cert.Asmall.main_arg2)
      ∧ r.2.mem ((c.tc : Thread Cert.Asmall.nD Cert.Asmall.τ).loc Cert.Asmall.main_arg3) = m ((c.tc : Thread Cert.Asmall.nD Cert.Asmall.τ).loc Cert.Asmall.main_arg3))
      ∧ r.2.sem = fun _ => 0)

def quiescent_AsmallIdeal [hAsmallIdeal : Cert.AsmallIdeal.Facts] : Prop :=
  ∀ (m : (ℓ : Loc Cert.AsmallIdeal.nD Cert.AsmallIdeal.τ Cert.AsmallIdeal.sig) → Buf (Elt Ideal) ℓ) (g : Dev Cert.AsmallIdeal.nD → PrngReg), Pre_AsmallIdeal m →
    θ_run (Cert.AsmallIdeal.defs (F := Ideal)) (onTc (τ := Cert.AsmallIdeal.τ) (Cert.AsmallIdeal.main (F := Ideal))) ⟨m, fun _ => 0, g⟩ (fun r => (∀ c : Dev Cert.AsmallIdeal.nD,
      r.2.mem ((c.tc : Thread Cert.AsmallIdeal.nD Cert.AsmallIdeal.τ).loc Cert.AsmallIdeal.main_arg0) = m ((c.tc : Thread Cert.AsmallIdeal.nD Cert.AsmallIdeal.τ).loc Cert.AsmallIdeal.main_arg0)
      ∧ r.2.mem ((c.tc : Thread Cert.AsmallIdeal.nD Cert.AsmallIdeal.τ).loc Cert.AsmallIdeal.main_arg1) = m ((c.tc : Thread Cert.AsmallIdeal.nD Cert.AsmallIdeal.τ).loc Cert.AsmallIdeal.main_arg1)
      ∧ r.2.mem ((c.tc : Thread Cert.AsmallIdeal.nD Cert.AsmallIdeal.τ).loc Cert.AsmallIdeal.main_arg2) = m ((c.tc : Thread Cert.AsmallIdeal.nD Cert.AsmallIdeal.τ).loc Cert.AsmallIdeal.main_arg2)
      ∧ r.2.mem ((c.tc : Thread Cert.AsmallIdeal.nD Cert.AsmallIdeal.τ).loc Cert.AsmallIdeal.main_arg3) = m ((c.tc : Thread Cert.AsmallIdeal.nD Cert.AsmallIdeal.τ).loc Cert.AsmallIdeal.main_arg3))
      ∧ r.2.sem = fun _ => 0)

def quiescent_AsmallReferenceIdeal [hAsmallReferenceIdeal : Cert.AsmallReferenceIdeal.Facts] : Prop :=
  ∀ (m : (ℓ : Loc Cert.AsmallReferenceIdeal.nD Cert.AsmallReferenceIdeal.τ Cert.AsmallReferenceIdeal.sig) → Buf (Elt Ideal) ℓ) (g : Dev Cert.AsmallReferenceIdeal.nD → PrngReg), Pre_AsmallReferenceIdeal m →
    θ_run (Cert.AsmallReferenceIdeal.defs (F := Ideal)) (onTc (τ := Cert.AsmallReferenceIdeal.τ) (Cert.AsmallReferenceIdeal.main (F := Ideal))) ⟨m, fun _ => 0, g⟩ (fun r => (∀ c : Dev Cert.AsmallReferenceIdeal.nD,
      r.2.mem ((c.tc : Thread Cert.AsmallReferenceIdeal.nD Cert.AsmallReferenceIdeal.τ).loc Cert.AsmallReferenceIdeal.main_arg0) = m ((c.tc : Thread Cert.AsmallReferenceIdeal.nD Cert.AsmallReferenceIdeal.τ).loc Cert.AsmallReferenceIdeal.main_arg0)
      ∧ r.2.mem ((c.tc : Thread Cert.AsmallReferenceIdeal.nD Cert.AsmallReferenceIdeal.τ).loc Cert.AsmallReferenceIdeal.main_arg1) = m ((c.tc : Thread Cert.AsmallReferenceIdeal.nD Cert.AsmallReferenceIdeal.τ).loc Cert.AsmallReferenceIdeal.main_arg1)
      ∧ r.2.mem ((c.tc : Thread Cert.AsmallReferenceIdeal.nD Cert.AsmallReferenceIdeal.τ).loc Cert.AsmallReferenceIdeal.main_arg2) = m ((c.tc : Thread Cert.AsmallReferenceIdeal.nD Cert.AsmallReferenceIdeal.τ).loc Cert.AsmallReferenceIdeal.main_arg2)
      ∧ r.2.mem ((c.tc : Thread Cert.AsmallReferenceIdeal.nD Cert.AsmallReferenceIdeal.τ).loc Cert.AsmallReferenceIdeal.main_arg3) = m ((c.tc : Thread Cert.AsmallReferenceIdeal.nD Cert.AsmallReferenceIdeal.τ).loc Cert.AsmallReferenceIdeal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Fwd_FwdIdeal : Prop :=
  IdealRules.named_const.Statement Cert.FwdIdeal.κ "log2e" .f32 0x3FB8AA3B#32 (((Real.log 2)⁻¹ : ℝ) : EReal)

def algebraic_FwdIdeal_FwdReferenceIdeal_pre_finite_qkv [hFwdIdeal : Cert.FwdIdeal.Facts] [hFwdReferenceIdeal : Cert.FwdReferenceIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_finite_qkv m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v16_0)) (v1 : (c : Dev Cert.FwdIdeal.nD) → Buf (Elt Ideal) ((c.tc : Thread Cert.FwdIdeal.nD Cert.FwdIdeal.τ).loc Cert.FwdIdeal.main_v18)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v16_0) = v0 c
          ∧ r.2.mem ((c.tc : Thread Cert.FwdIdeal.nD Cert.FwdIdeal.τ).loc Cert.FwdIdeal.main_v18) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v34) = v0 c
          ∧ r.2.mem ((c.tc : Thread Cert.FwdReferenceIdeal.nD Cert.FwdReferenceIdeal.τ).loc Cert.FwdReferenceIdeal.main_v35) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v11)) (v1 : (c : Dev Cert.UpIdeal.nD) → Buf (Elt Ideal) ((c.tc : Thread Cert.UpIdeal.nD Cert.UpIdeal.τ).loc Cert.UpIdeal.main_v12)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v11) = v0 c
          ∧ r.2.mem ((c.tc : Thread Cert.UpIdeal.nD Cert.UpIdeal.τ).loc Cert.UpIdeal.main_v12) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_v15) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Gdown_GdownIdeal : Prop :=
  True

def algebraic_GdownIdeal_GdownReferenceIdeal [hGdownIdeal : Cert.GdownIdeal.Facts] [hGdownReferenceIdeal : Cert.GdownReferenceIdeal.Facts] : Prop :=
  ∀ (m : (ℓ : Loc Cert.GdownIdeal.nD Cert.GdownIdeal.τ Cert.GdownIdeal.sig) → Buf (Elt Ideal) ℓ) (g : Dev Cert.GdownIdeal.nD → PrngReg)
    (m' : (ℓ : Loc Cert.GdownReferenceIdeal.nD Cert.GdownReferenceIdeal.τ Cert.GdownReferenceIdeal.sig) → Buf (Elt Ideal) ℓ) (g' : Dev Cert.GdownReferenceIdeal.nD → PrngReg), Pre_GdownIdeal m →
    (∀ c : Dev Cert.GdownIdeal.nD,
      m' ((c.tc : Thread Cert.GdownReferenceIdeal.nD Cert.GdownReferenceIdeal.τ).loc Cert.GdownReferenceIdeal.main_arg0) = m ((c.tc : Thread Cert.GdownIdeal.nD Cert.GdownIdeal.τ).loc Cert.GdownIdeal.main_arg0)
      ∧ m' ((c.tc : Thread Cert.GdownReferenceIdeal.nD Cert.GdownReferenceIdeal.τ).loc Cert.GdownReferenceIdeal.main_arg1) = m ((c.tc : Thread Cert.GdownIdeal.nD Cert.GdownIdeal.τ).loc Cert.GdownIdeal.main_arg1)
      ∧ m' ((c.tc : Thread Cert.GdownReferenceIdeal.nD Cert.GdownReferenceIdeal.τ).loc Cert.GdownReferenceIdeal.main_arg2) = m ((c.tc : Thread Cert.GdownIdeal.nD Cert.GdownIdeal.τ).loc Cert.GdownIdeal.main_arg2)
      ∧ m' ((c.tc : Thread Cert.GdownReferenceIdeal.nD Cert.GdownReferenceIdeal.τ).loc Cert.GdownReferenceIdeal.main_arg3) = m ((c.tc : Thread Cert.GdownIdeal.nD Cert.GdownIdeal.τ).loc Cert.GdownIdeal.main_arg3)) →
    ∃ (v0 : (c : Dev Cert.GdownIdeal.nD) → Buf (Elt Ideal) ((c.tc : Thread Cert.GdownIdeal.nD Cert.GdownIdeal.τ).loc Cert.GdownIdeal.main_v6)),
      θ_run (Cert.GdownIdeal.defs (F := Ideal)) (onTc (τ := Cert.GdownIdeal.τ) (Cert.GdownIdeal.main (F := Ideal))) ⟨m, fun _ => 0, g⟩ (fun r => ∀ c : Dev Cert.GdownIdeal.nD,
          r.2.mem ((c.tc : Thread Cert.GdownIdeal.nD Cert.GdownIdeal.τ).loc Cert.GdownIdeal.main_v6) = v0 c
          ∧ r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
          ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1)
          ∧ r.2.mem ((c.tc : Thread Cert.GdownIdeal.nD Cert.GdownIdeal.τ).loc Cert.GdownIdeal.main_arg2) = m ((c.tc : Thread Cert.GdownIdeal.nD Cert.GdownIdeal.τ).loc Cert.GdownIdeal.main_arg2)
          ∧ r.2.mem ((c.tc : Thread Cert.GdownIdeal.nD Cert.GdownIdeal.τ).loc Cert.GdownIdeal.main_arg3) = m ((c.tc : Thread Cert.GdownIdeal.nD Cert.GdownIdeal.τ).loc Cert.GdownIdeal.main_arg3))
      ∧ θ_run (Cert.GdownReferenceIdeal.defs (F := Ideal)) (onTc (τ := Cert.GdownReferenceIdeal.τ) (Cert.GdownReferenceIdeal.main (F := Ideal))) ⟨m', fun _ => 0, g'⟩ (fun r => ∀ c : Dev Cert.GdownReferenceIdeal.nD,
          r.2.mem ((c.tc : Thread Cert.GdownReferenceIdeal.nD Cert.GdownReferenceIdeal.τ).loc Cert.GdownReferenceIdeal.main_v5) = v0 c
          ∧ r.2.mem ((c.tc : Thread Cert.GdownReferenceIdeal.nD Cert.GdownReferenceIdeal.τ).loc Cert.GdownReferenceIdeal.main_arg0) = m' ((c.tc : Thread Cert.GdownReferenceIdeal.nD Cert.GdownReferenceIdeal.τ).loc Cert.GdownReferenceIdeal.main_arg0)
          ∧ r.2.mem ((c.tc : Thread Cert.GdownReferenceIdeal.nD Cert.GdownReferenceIdeal.τ).loc Cert.GdownReferenceIdeal.main_arg1) = m' ((c.tc : Thread Cert.GdownReferenceIdeal.nD Cert.GdownReferenceIdeal.τ).loc Cert.GdownReferenceIdeal.main_arg1)
          ∧ r.2.mem ((c.tc : Thread Cert.GdownReferenceIdeal.nD Cert.GdownReferenceIdeal.τ).loc Cert.GdownReferenceIdeal.main_arg2) = m' ((c.tc : Thread Cert.GdownReferenceIdeal.nD Cert.GdownReferenceIdeal.τ).loc Cert.GdownReferenceIdeal.main_arg2)
          ∧ r.2.mem ((c.tc : Thread Cert.GdownReferenceIdeal.nD Cert.GdownReferenceIdeal.τ).loc Cert.GdownReferenceIdeal.main_arg3) = m' ((c.tc : Thread Cert.GdownReferenceIdeal.nD Cert.GdownReferenceIdeal.τ).loc Cert.GdownReferenceIdeal.main_arg3))

def preserves_Dln_DlnIdeal : Prop :=
  True

def algebraic_DlnIdeal_DlnReferenceIdeal_pre_finite_ln [hDlnIdeal : Cert.DlnIdeal.Facts] [hDlnReferenceIdeal : Cert.DlnReferenceIdeal.Facts] [hPre_finite_ln : Cert.Pre_finite_ln.Facts] : Prop :=
  ∀ (m : (ℓ : Loc Cert.DlnIdeal.nD Cert.DlnIdeal.τ Cert.DlnIdeal.sig) → Buf (Elt Ideal) ℓ) (g : Dev Cert.DlnIdeal.nD → PrngReg)
    (m' : (ℓ : Loc Cert.DlnReferenceIdeal.nD Cert.DlnReferenceIdeal.τ Cert.DlnReferenceIdeal.sig) → Buf (Elt Ideal) ℓ) (g' : Dev Cert.DlnReferenceIdeal.nD → PrngReg), Pre_DlnIdeal_finite_ln m →
    (∀ c : Dev Cert.DlnIdeal.nD,
      m' ((c.tc : Thread Cert.DlnReferenceIdeal.nD Cert.DlnReferenceIdeal.τ).loc Cert.DlnReferenceIdeal.main_arg0) = m ((c.tc : Thread Cert.DlnIdeal.nD Cert.DlnIdeal.τ).loc Cert.DlnIdeal.main_arg0)
      ∧ m' ((c.tc : Thread Cert.DlnReferenceIdeal.nD Cert.DlnReferenceIdeal.τ).loc Cert.DlnReferenceIdeal.main_arg1) = m ((c.tc : Thread Cert.DlnIdeal.nD Cert.DlnIdeal.τ).loc Cert.DlnIdeal.main_arg1)
      ∧ m' ((c.tc : Thread Cert.DlnReferenceIdeal.nD Cert.DlnReferenceIdeal.τ).loc Cert.DlnReferenceIdeal.main_arg2) = m ((c.tc : Thread Cert.DlnIdeal.nD Cert.DlnIdeal.τ).loc Cert.DlnIdeal.main_arg2)
      ∧ m' ((c.tc : Thread Cert.DlnReferenceIdeal.nD Cert.DlnReferenceIdeal.τ).loc Cert.DlnReferenceIdeal.main_arg3) = m ((c.tc : Thread Cert.DlnIdeal.nD Cert.DlnIdeal.τ).loc Cert.DlnIdeal.main_arg3)) →
    ∃ (v0 : (c : Dev Cert.DlnIdeal.nD) → Buf (Elt Ideal) ((c.tc : Thread Cert.DlnIdeal.nD Cert.DlnIdeal.τ).loc Cert.DlnIdeal.main_v1_0)) (v1 : (c : Dev Cert.DlnIdeal.nD) → Buf (Elt Ideal) ((c.tc : Thread Cert.DlnIdeal.nD Cert.DlnIdeal.τ).loc Cert.DlnIdeal.main_v2)) (v2 : (c : Dev Cert.DlnIdeal.nD) → Buf (Elt Ideal) ((c.tc : Thread Cert.DlnIdeal.nD Cert.DlnIdeal.τ).loc Cert.DlnIdeal.main_v3)) (v3 : (c : Dev Cert.DlnIdeal.nD) → Buf (Elt Ideal) ((c.tc : Thread Cert.DlnIdeal.nD Cert.DlnIdeal.τ).loc Cert.DlnIdeal.main_v4)),
      θ_run (Cert.DlnIdeal.defs (F := Ideal)) (onTc (τ := Cert.DlnIdeal.τ) (Cert.DlnIdeal.main (F := Ideal))) ⟨m, fun _ => 0, g⟩ (fun r => ∀ c : Dev Cert.DlnIdeal.nD,
          r.2.mem ((c.tc : Thread Cert.DlnIdeal.nD Cert.DlnIdeal.τ).loc Cert.DlnIdeal.main_v1_0) = v0 c
          ∧ r.2.mem ((c.tc : Thread Cert.DlnIdeal.nD Cert.DlnIdeal.τ).loc Cert.DlnIdeal.main_v2) = v1 c
          ∧ r.2.mem ((c.tc : Thread Cert.DlnIdeal.nD Cert.DlnIdeal.τ).loc Cert.DlnIdeal.main_v3) = v2 c
          ∧ r.2.mem ((c.tc : Thread Cert.DlnIdeal.nD Cert.DlnIdeal.τ).loc Cert.DlnIdeal.main_v4) = v3 c
          ∧ r.2.mem ((c.tc : Thread Cert.DlnIdeal.nD Cert.DlnIdeal.τ).loc Cert.DlnIdeal.main_arg0) = m ((c.tc : Thread Cert.DlnIdeal.nD Cert.DlnIdeal.τ).loc Cert.DlnIdeal.main_arg0)
          ∧ r.2.mem ((c.tc : Thread Cert.DlnIdeal.nD Cert.DlnIdeal.τ).loc Cert.DlnIdeal.main_arg1) = m ((c.tc : Thread Cert.DlnIdeal.nD Cert.DlnIdeal.τ).loc Cert.DlnIdeal.main_arg1)
          ∧ r.2.mem ((c.tc : Thread Cert.DlnIdeal.nD Cert.DlnIdeal.τ).loc Cert.DlnIdeal.main_arg2) = m ((c.tc : Thread Cert.DlnIdeal.nD Cert.DlnIdeal.τ).loc Cert.DlnIdeal.main_arg2)
          ∧ r.2.mem ((c.tc : Thread Cert.DlnIdeal.nD Cert.DlnIdeal.τ).loc Cert.DlnIdeal.main_arg3) = m ((c.tc : Thread Cert.DlnIdeal.nD Cert.DlnIdeal.τ).loc Cert.DlnIdeal.main_arg3))
      ∧ θ_run (Cert.DlnReferenceIdeal.defs (F := Ideal)) (onTc (τ := Cert.DlnReferenceIdeal.τ) (Cert.DlnReferenceIdeal.main (F := Ideal))) ⟨m', fun _ => 0, g'⟩ (fun r => ∀ c : Dev Cert.DlnReferenceIdeal.nD,
          r.2.mem ((c.tc : Thread Cert.DlnReferenceIdeal.nD Cert.DlnReferenceIdeal.τ).loc Cert.DlnReferenceIdeal.main_v62) = v0 c
          ∧ r.2.mem ((c.tc : Thread Cert.DlnReferenceIdeal.nD Cert.DlnReferenceIdeal.τ).loc Cert.DlnReferenceIdeal.main_v62) = v1 c
          ∧ r.2.mem ((c.tc : Thread Cert.DlnReferenceIdeal.nD Cert.DlnReferenceIdeal.τ).loc Cert.DlnReferenceIdeal.main_v38) = v2 c
          ∧ r.2.mem ((c.tc : Thread Cert.DlnReferenceIdeal.nD Cert.DlnReferenceIdeal.τ).loc Cert.DlnReferenceIdeal.main_v32) = v3 c
          ∧ r.2.mem ((c.tc : Thread Cert.DlnReferenceIdeal.nD Cert.DlnReferenceIdeal.τ).loc Cert.DlnReferenceIdeal.main_arg0) = m' ((c.tc : Thread Cert.DlnReferenceIdeal.nD Cert.DlnReferenceIdeal.τ).loc Cert.DlnReferenceIdeal.main_arg0)
          ∧ r.2.mem ((c.tc : Thread Cert.DlnReferenceIdeal.nD Cert.DlnReferenceIdeal.τ).loc Cert.DlnReferenceIdeal.main_arg1) = m' ((c.tc : Thread Cert.DlnReferenceIdeal.nD Cert.DlnReferenceIdeal.τ).loc Cert.DlnReferenceIdeal.main_arg1)
          ∧ r.2.mem ((c.tc : Thread Cert.DlnReferenceIdeal.nD Cert.DlnReferenceIdeal.τ).loc Cert.DlnReferenceIdeal.main_arg2) = m' ((c.tc : Thread Cert.DlnReferenceIdeal.nD Cert.DlnReferenceIdeal.τ).loc Cert.DlnReferenceIdeal.main_arg2)
          ∧ r.2.mem ((c.tc : Thread Cert.DlnReferenceIdeal.nD Cert.DlnReferenceIdeal.τ).loc Cert.DlnReferenceIdeal.main_arg3) = m' ((c.tc : Thread Cert.DlnReferenceIdeal.nD Cert.DlnReferenceIdeal.τ).loc Cert.DlnReferenceIdeal.main_arg3))

def preserves_Prepb_PrepbIdeal : Prop :=
  IdealRules.named_const.Statement Cert.PrepbIdeal.κ "scale_log2e" .f32 0x3E38AA3B#32 (((8 * (Real.log 2))⁻¹ : ℝ) : EReal)

def algebraic_PrepbIdeal_PrepbReferenceIdeal_pre_finite_qk [hPrepbIdeal : Cert.PrepbIdeal.Facts] [hPrepbReferenceIdeal : Cert.PrepbReferenceIdeal.Facts] [hPre_finite_qk : Cert.Pre_finite_qk.Facts] : Prop :=
  ∀ (m : (ℓ : Loc Cert.PrepbIdeal.nD Cert.PrepbIdeal.τ Cert.PrepbIdeal.sig) → Buf (Elt Ideal) ℓ) (g : Dev Cert.PrepbIdeal.nD → PrngReg)
    (m' : (ℓ : Loc Cert.PrepbReferenceIdeal.nD Cert.PrepbReferenceIdeal.τ Cert.PrepbReferenceIdeal.sig) → Buf (Elt Ideal) ℓ) (g' : Dev Cert.PrepbReferenceIdeal.nD → PrngReg), Pre_PrepbIdeal_finite_qk m →
    (∀ c : Dev Cert.PrepbIdeal.nD,
      m' ((c.tc : Thread Cert.PrepbReferenceIdeal.nD Cert.PrepbReferenceIdeal.τ).loc Cert.PrepbReferenceIdeal.main_arg0) = m ((c.tc : Thread Cert.PrepbIdeal.nD Cert.PrepbIdeal.τ).loc Cert.PrepbIdeal.main_arg0)
      ∧ m' ((c.tc : Thread Cert.PrepbReferenceIdeal.nD Cert.PrepbReferenceIdeal.τ).loc Cert.PrepbReferenceIdeal.main_arg1) = m ((c.tc : Thread Cert.PrepbIdeal.nD Cert.PrepbIdeal.τ).loc Cert.PrepbIdeal.main_arg1)
      ∧ m' ((c.tc : Thread Cert.PrepbReferenceIdeal.nD Cert.PrepbReferenceIdeal.τ).loc Cert.PrepbReferenceIdeal.main_arg2) = m ((c.tc : Thread Cert.PrepbIdeal.nD Cert.PrepbIdeal.τ).loc Cert.PrepbIdeal.main_arg2)) →
    ∃ (v0 : (c : Dev Cert.PrepbIdeal.nD) → Buf (Elt Ideal) ((c.tc : Thread Cert.PrepbIdeal.nD Cert.PrepbIdeal.τ).loc Cert.PrepbIdeal.main_v66)) (v1 : (c : Dev Cert.PrepbIdeal.nD) → Buf (Elt Ideal) ((c.tc : Thread Cert.PrepbIdeal.nD Cert.PrepbIdeal.τ).loc Cert.PrepbIdeal.main_v67)) (v2 : (c : Dev Cert.PrepbIdeal.nD) → Buf (Elt Ideal) ((c.tc : Thread Cert.PrepbIdeal.nD Cert.PrepbIdeal.τ).loc Cert.PrepbIdeal.main_v68)) (v3 : (c : Dev Cert.PrepbIdeal.nD) → Buf (Elt Ideal) ((c.tc : Thread Cert.PrepbIdeal.nD Cert.PrepbIdeal.τ).loc Cert.PrepbIdeal.main_v69)),
      θ_run (Cert.PrepbIdeal.defs (F := Ideal)) (onTc (τ := Cert.PrepbIdeal.τ) (Cert.PrepbIdeal.main (F := Ideal))) ⟨m, fun _ => 0, g⟩ (fun r => ∀ c : Dev Cert.PrepbIdeal.nD,
          r.2.mem ((c.tc : Thread Cert.PrepbIdeal.nD Cert.PrepbIdeal.τ).loc Cert.PrepbIdeal.main_v66) = v0 c
          ∧ r.2.mem ((c.tc : Thread Cert.PrepbIdeal.nD Cert.PrepbIdeal.τ).loc Cert.PrepbIdeal.main_v67) = v1 c
          ∧ r.2.mem ((c.tc : Thread Cert.PrepbIdeal.nD Cert.PrepbIdeal.τ).loc Cert.PrepbIdeal.main_v68) = v2 c
          ∧ r.2.mem ((c.tc : Thread Cert.PrepbIdeal.nD Cert.PrepbIdeal.τ).loc Cert.PrepbIdeal.main_v69) = v3 c
          ∧ r.2.mem ((c.tc : Thread Cert.PrepbIdeal.nD Cert.PrepbIdeal.τ).loc Cert.PrepbIdeal.main_arg0) = m ((c.tc : Thread Cert.PrepbIdeal.nD Cert.PrepbIdeal.τ).loc Cert.PrepbIdeal.main_arg0)
          ∧ r.2.mem ((c.tc : Thread Cert.PrepbIdeal.nD Cert.PrepbIdeal.τ).loc Cert.PrepbIdeal.main_arg1) = m ((c.tc : Thread Cert.PrepbIdeal.nD Cert.PrepbIdeal.τ).loc Cert.PrepbIdeal.main_arg1)
          ∧ r.2.mem ((c.tc : Thread Cert.PrepbIdeal.nD Cert.PrepbIdeal.τ).loc Cert.PrepbIdeal.main_arg2) = m ((c.tc : Thread Cert.PrepbIdeal.nD Cert.PrepbIdeal.τ).loc Cert.PrepbIdeal.main_arg2))
      ∧ θ_run (Cert.PrepbReferenceIdeal.defs (F := Ideal)) (onTc (τ := Cert.PrepbReferenceIdeal.τ) (Cert.PrepbReferenceIdeal.main (F := Ideal))) ⟨m', fun _ => 0, g'⟩ (fun r => ∀ c : Dev Cert.PrepbReferenceIdeal.nD,
          r.2.mem ((c.tc : Thread Cert.PrepbReferenceIdeal.nD Cert.PrepbReferenceIdeal.τ).loc Cert.PrepbReferenceIdeal.main_v166) = v0 c
          ∧ r.2.mem ((c.tc : Thread Cert.PrepbReferenceIdeal.nD Cert.PrepbReferenceIdeal.τ).loc Cert.PrepbReferenceIdeal.main_v168) = v1 c
          ∧ r.2.mem ((c.tc : Thread Cert.PrepbReferenceIdeal.nD Cert.PrepbReferenceIdeal.τ).loc Cert.PrepbReferenceIdeal.main_v170) = v2 c
          ∧ r.2.mem ((c.tc : Thread Cert.PrepbReferenceIdeal.nD Cert.PrepbReferenceIdeal.τ).loc Cert.PrepbReferenceIdeal.main_v173) = v3 c
          ∧ r.2.mem ((c.tc : Thread Cert.PrepbReferenceIdeal.nD Cert.PrepbReferenceIdeal.τ).loc Cert.PrepbReferenceIdeal.main_arg0) = m' ((c.tc : Thread Cert.PrepbReferenceIdeal.nD Cert.PrepbReferenceIdeal.τ).loc Cert.PrepbReferenceIdeal.main_arg0)
          ∧ r.2.mem ((c.tc : Thread Cert.PrepbReferenceIdeal.nD Cert.PrepbReferenceIdeal.τ).loc Cert.PrepbReferenceIdeal.main_arg1) = m' ((c.tc : Thread Cert.PrepbReferenceIdeal.nD Cert.PrepbReferenceIdeal.τ).loc Cert.PrepbReferenceIdeal.main_arg1)
          ∧ r.2.mem ((c.tc : Thread Cert.PrepbReferenceIdeal.nD Cert.PrepbReferenceIdeal.τ).loc Cert.PrepbReferenceIdeal.main_arg2) = m' ((c.tc : Thread Cert.PrepbReferenceIdeal.nD Cert.PrepbReferenceIdeal.τ).loc Cert.PrepbReferenceIdeal.main_arg2))

def preserves_Gup_GupIdeal : Prop :=
  True

def algebraic_GupIdeal_GupReferenceIdeal [hGupIdeal : Cert.GupIdeal.Facts] [hGupReferenceIdeal : Cert.GupReferenceIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupReferenceIdeal.nD Cert.GupReferenceIdeal.τ Cert.GupReferenceIdeal.sig) → Buf (Elt Ideal) ℓ) (g' : Dev Cert.GupReferenceIdeal.nD → PrngReg), Pre_GupIdeal m →
    (∀ c : Dev Cert.GupIdeal.nD,
      m' ((c.tc : Thread Cert.GupReferenceIdeal.nD Cert.GupReferenceIdeal.τ).loc Cert.GupReferenceIdeal.main_arg0) = m ((c.tc : Thread Cert.GupIdeal.nD Cert.GupIdeal.τ).loc Cert.GupIdeal.main_arg0)
      ∧ m' ((c.tc : Thread Cert.GupReferenceIdeal.nD Cert.GupReferenceIdeal.τ).loc Cert.GupReferenceIdeal.main_arg1) = m ((c.tc : Thread Cert.GupIdeal.nD Cert.GupIdeal.τ).loc Cert.GupIdeal.main_arg1)
      ∧ m' ((c.tc : Thread Cert.GupReferenceIdeal.nD Cert.GupReferenceIdeal.τ).loc Cert.GupReferenceIdeal.main_arg2) = m ((c.tc : Thread Cert.GupIdeal.nD Cert.GupIdeal.τ).loc Cert.GupIdeal.main_arg2)) →
    ∃ (v0 : (c : Dev Cert.GupIdeal.nD) → Buf (Elt Ideal) ((c.tc : Thread Cert.GupIdeal.nD Cert.GupIdeal.τ).loc Cert.GupIdeal.main_v5)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v5) = v0 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
          ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ θ_run (Cert.GupReferenceIdeal.defs (F := Ideal)) (onTc (τ := Cert.GupReferenceIdeal.τ) (Cert.GupReferenceIdeal.main (F := Ideal))) ⟨m', fun _ => 0, g'⟩ (fun r => ∀ c : Dev Cert.GupReferenceIdeal.nD,
          r.2.mem ((c.tc : Thread Cert.GupReferenceIdeal.nD Cert.GupReferenceIdeal.τ).loc Cert.GupReferenceIdeal.main_v2) = v0 c
          ∧ r.2.mem ((c.tc : Thread Cert.GupReferenceIdeal.nD Cert.GupReferenceIdeal.τ).loc Cert.GupReferenceIdeal.main_arg0) = m' ((c.tc : Thread Cert.GupReferenceIdeal.nD Cert.GupReferenceIdeal.τ).loc Cert.GupReferenceIdeal.main_arg0)
          ∧ r.2.mem ((c.tc : Thread Cert.GupReferenceIdeal.nD Cert.GupReferenceIdeal.τ).loc Cert.GupReferenceIdeal.main_arg1) = m' ((c.tc : Thread Cert.GupReferenceIdeal.nD Cert.GupReferenceIdeal.τ).loc Cert.GupReferenceIdeal.main_arg1)
          ∧ r.2.mem ((c.tc : Thread Cert.GupReferenceIdeal.nD Cert.GupReferenceIdeal.τ).loc Cert.GupReferenceIdeal.main_arg2) = m' ((c.tc : Thread Cert.GupReferenceIdeal.nD Cert.GupReferenceIdeal.τ).loc Cert.GupReferenceIdeal.main_arg2))

def preserves_Dx1_Dx1Ideal : Prop :=
  True

def algebraic_Dx1Ideal_Dx1ReferenceIdeal [hDx1Ideal : Cert.Dx1Ideal.Facts] [hDx1ReferenceIdeal : Cert.Dx1ReferenceIdeal.Facts] : Prop :=
  ∀ (m : (ℓ : Loc Cert.Dx1Ideal.nD Cert.Dx1Ideal.τ Cert.Dx1Ideal.sig) → Buf (Elt Ideal) ℓ) (g : Dev Cert.Dx1Ideal.nD → PrngReg)
    (m' : (ℓ : Loc Cert.Dx1ReferenceIdeal.nD Cert.Dx1ReferenceIdeal.τ Cert.Dx1ReferenceIdeal.sig) → Buf (Elt Ideal) ℓ) (g' : Dev Cert.Dx1ReferenceIdeal.nD → PrngReg), Pre_Dx1Ideal m →
    (∀ c : Dev Cert.Dx1Ideal.nD,
      m' ((c.tc : Thread Cert.Dx1ReferenceIdeal.nD Cert.Dx1ReferenceIdeal.τ).loc Cert.Dx1ReferenceIdeal.main_arg0) = m ((c.tc : Thread Cert.Dx1Ideal.nD Cert.Dx1Ideal.τ).loc Cert.Dx1Ideal.main_arg0)
      ∧ m' ((c.tc : Thread Cert.Dx1ReferenceIdeal.nD Cert.Dx1ReferenceIdeal.τ).loc Cert.Dx1ReferenceIdeal.main_arg1) = m ((c.tc : Thread Cert.Dx1Ideal.nD Cert.Dx1Ideal.τ).loc Cert.Dx1Ideal.main_arg1)
      ∧ m' ((c.tc : Thread Cert.Dx1ReferenceIdeal.nD Cert.Dx1ReferenceIdeal.τ).loc Cert.Dx1ReferenceIdeal.main_arg2) = m ((c.tc : Thread Cert.Dx1Ideal.nD Cert.Dx1Ideal.τ).loc Cert.Dx1Ideal.main_arg2)
      ∧ m' ((c.tc : Thread Cert.Dx1ReferenceIdeal.nD Cert.Dx1ReferenceIdeal.τ).loc Cert.Dx1ReferenceIdeal.main_arg3) = m ((c.tc : Thread Cert.Dx1Ideal.nD Cert.Dx1Ideal.τ).loc Cert.Dx1Ideal.main_arg3)) →
    ∃ (v0 : (c : Dev Cert.Dx1Ideal.nD) → Buf (Elt Ideal) ((c.tc : Thread Cert.Dx1Ideal.nD Cert.Dx1Ideal.τ).loc Cert.Dx1Ideal.main_v5)),
      θ_run (Cert.Dx1Ideal.defs (F := Ideal)) (onTc (τ := Cert.Dx1Ideal.τ) (Cert.Dx1Ideal.main (F := Ideal))) ⟨m, fun _ => 0, g⟩ (fun r => ∀ c : Dev Cert.Dx1Ideal.nD,
          r.2.mem ((c.tc : Thread Cert.Dx1Ideal.nD Cert.Dx1Ideal.τ).loc Cert.Dx1Ideal.main_v5) = v0 c
          ∧ r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
          ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
          ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2)
          ∧ r.2.mem ((c.tc : Thread Cert.Dx1Ideal.nD Cert.Dx1Ideal.τ).loc Cert.Dx1Ideal.main_arg3) = m ((c.tc : Thread Cert.Dx1Ideal.nD Cert.Dx1Ideal.τ).loc Cert.Dx1Ideal.main_arg3))
      ∧ θ_run (Cert.Dx1ReferenceIdeal.defs (F := Ideal)) (onTc (τ := Cert.Dx1ReferenceIdeal.τ) (Cert.Dx1ReferenceIdeal.main (F := Ideal))) ⟨m', fun _ => 0, g'⟩ (fun r => ∀ c : Dev Cert.Dx1ReferenceIdeal.nD,
          r.2.mem ((c.tc : Thread Cert.Dx1ReferenceIdeal.nD Cert.Dx1ReferenceIdeal.τ).loc Cert.Dx1ReferenceIdeal.main_v6) = v0 c
          ∧ r.2.mem ((c.tc : Thread Cert.Dx1ReferenceIdeal.nD Cert.Dx1ReferenceIdeal.τ).loc Cert.Dx1ReferenceIdeal.main_arg0) = m' ((c.tc : Thread Cert.Dx1ReferenceIdeal.nD Cert.Dx1ReferenceIdeal.τ).loc Cert.Dx1ReferenceIdeal.main_arg0)
          ∧ r.2.mem ((c.tc : Thread Cert.Dx1ReferenceIdeal.nD Cert.Dx1ReferenceIdeal.τ).loc Cert.Dx1ReferenceIdeal.main_arg1) = m' ((c.tc : Thread Cert.Dx1ReferenceIdeal.nD Cert.Dx1ReferenceIdeal.τ).loc Cert.Dx1ReferenceIdeal.main_arg1)
          ∧ r.2.mem ((c.tc : Thread Cert.Dx1ReferenceIdeal.nD Cert.Dx1ReferenceIdeal.τ).loc Cert.Dx1ReferenceIdeal.main_arg2) = m' ((c.tc : Thread Cert.Dx1ReferenceIdeal.nD Cert.Dx1ReferenceIdeal.τ).loc Cert.Dx1ReferenceIdeal.main_arg2)
          ∧ r.2.mem ((c.tc : Thread Cert.Dx1ReferenceIdeal.nD Cert.Dx1ReferenceIdeal.τ).loc Cert.Dx1ReferenceIdeal.main_arg3) = m' ((c.tc : Thread Cert.Dx1ReferenceIdeal.nD Cert.Dx1ReferenceIdeal.τ).loc Cert.Dx1ReferenceIdeal.main_arg3))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v3)) (v1 : (c : Dev Cert.InIdeal.nD) → Buf (Elt Ideal) ((c.tc : Thread Cert.InIdeal.nD Cert.InIdeal.τ).loc Cert.InIdeal.main_v4)) (v2 : (c : Dev Cert.InIdeal.nD) → Buf (Elt Ideal) ((c.tc : Thread Cert.InIdeal.nD Cert.InIdeal.τ).loc Cert.InIdeal.main_v5)) (v3 : (c : Dev Cert.InIdeal.nD) → Buf (Elt Ideal) ((c.tc : Thread Cert.InIdeal.nD Cert.InIdeal.τ).loc Cert.InIdeal.main_v7)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3) = v0 c
          ∧ r.2.mem ((c.tc : Thread Cert.InIdeal.nD Cert.InIdeal.τ).loc Cert.InIdeal.main_v4) = v1 c
          ∧ r.2.mem ((c.tc : Thread Cert.InIdeal.nD Cert.InIdeal.τ).loc Cert.InIdeal.main_v5) = v2 c
          ∧ r.2.mem ((c.tc : Thread Cert.InIdeal.nD Cert.InIdeal.τ).loc Cert.InIdeal.main_v7) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v1) = v0 c
          ∧ r.2.mem ((c.tc : Thread Cert.InReferenceIdeal.nD Cert.InReferenceIdeal.τ).loc Cert.InReferenceIdeal.main_v2) = v1 c
          ∧ r.2.mem ((c.tc : Thread Cert.InReferenceIdeal.nD Cert.InReferenceIdeal.τ).loc Cert.InReferenceIdeal.main_v3) = v2 c
          ∧ r.2.mem ((c.tc : Thread Cert.InReferenceIdeal.nD Cert.InReferenceIdeal.τ).loc Cert.InReferenceIdeal.main_v4) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Ginq_GinqIdeal : Prop :=
  True

def algebraic_GinqIdeal_GinqReferenceIdeal [hGinqIdeal : Cert.GinqIdeal.Facts] [hGinqReferenceIdeal : Cert.GinqReferenceIdeal.Facts] : Prop :=
  ∀ (m : (ℓ : Loc Cert.GinqIdeal.nD Cert.GinqIdeal.τ Cert.GinqIdeal.sig) → Buf (Elt Ideal) ℓ) (g : Dev Cert.GinqIdeal.nD → PrngReg)
    (m' : (ℓ : Loc Cert.GinqReferenceIdeal.nD Cert.GinqReferenceIdeal.τ Cert.GinqReferenceIdeal.sig) → Buf (Elt Ideal) ℓ) (g' : Dev Cert.GinqReferenceIdeal.nD → PrngReg), Pre_GinqIdeal m →
    (∀ c : Dev Cert.GinqIdeal.nD,
      m' ((c.tc : Thread Cert.GinqReferenceIdeal.nD Cert.GinqReferenceIdeal.τ).loc Cert.GinqReferenceIdeal.main_arg0) = m ((c.tc : Thread Cert.GinqIdeal.nD Cert.GinqIdeal.τ).loc Cert.GinqIdeal.main_arg0)
      ∧ m' ((c.tc : Thread Cert.GinqReferenceIdeal.nD Cert.GinqReferenceIdeal.τ).loc Cert.GinqReferenceIdeal.main_arg1) = m ((c.tc : Thread Cert.GinqIdeal.nD Cert.GinqIdeal.τ).loc Cert.GinqIdeal.main_arg1)
      ∧ m' ((c.tc : Thread Cert.GinqReferenceIdeal.nD Cert.GinqReferenceIdeal.τ).loc Cert.GinqReferenceIdeal.main_arg2) = m ((c.tc : Thread Cert.GinqIdeal.nD Cert.GinqIdeal.τ).loc Cert.GinqIdeal.main_arg2)) →
    ∃ (v0 : (c : Dev Cert.GinqIdeal.nD) → Buf (Elt Ideal) ((c.tc : Thread Cert.GinqIdeal.nD Cert.GinqIdeal.τ).loc Cert.GinqIdeal.main_v3)),
      θ_run (Cert.GinqIdeal.defs (F := Ideal)) (onTc (τ := Cert.GinqIdeal.τ) (Cert.GinqIdeal.main (F := Ideal))) ⟨m, fun _ => 0, g⟩ (fun r => ∀ c : Dev Cert.GinqIdeal.nD,
          r.2.mem ((c.tc : Thread Cert.GinqIdeal.nD Cert.GinqIdeal.τ).loc Cert.GinqIdeal.main_v3) = v0 c
          ∧ r.2.mem ((c.tc : Thread Cert.GinqIdeal.nD Cert.GinqIdeal.τ).loc Cert.GinqIdeal.main_arg0) = m ((c.tc : Thread Cert.GinqIdeal.nD Cert.GinqIdeal.τ).loc Cert.GinqIdeal.main_arg0)
          ∧ r.2.mem ((c.tc : Thread Cert.GinqIdeal.nD Cert.GinqIdeal.τ).loc Cert.GinqIdeal.main_arg1) = m ((c.tc : Thread Cert.GinqIdeal.nD Cert.GinqIdeal.τ).loc Cert.GinqIdeal.main_arg1)
          ∧ r.2.mem ((c.tc : Thread Cert.GinqIdeal.nD Cert.GinqIdeal.τ).loc Cert.GinqIdeal.main_arg2) = m ((c.tc : Thread Cert.GinqIdeal.nD Cert.GinqIdeal.τ).loc Cert.GinqIdeal.main_arg2))
      ∧ θ_run (Cert.GinqReferenceIdeal.defs (F := Ideal)) (onTc (τ := Cert.GinqReferenceIdeal.τ) (Cert.GinqReferenceIdeal.main (F := Ideal))) ⟨m', fun _ => 0, g'⟩ (fun r => ∀ c : Dev Cert.GinqReferenceIdeal.nD,
          r.2.mem ((c.tc : Thread Cert.GinqReferenceIdeal.nD Cert.GinqReferenceIdeal.τ).loc Cert.GinqReferenceIdeal.main_v2) = v0 c
          ∧ r.2.mem ((c.tc : Thread Cert.GinqReferenceIdeal.nD Cert.GinqReferenceIdeal.τ).loc Cert.GinqReferenceIdeal.main_arg0) = m' ((c.tc : Thread Cert.GinqReferenceIdeal.nD Cert.GinqReferenceIdeal.τ).loc Cert.GinqReferenceIdeal.main_arg0)
          ∧ r.2.mem ((c.tc : Thread Cert.GinqReferenceIdeal.nD Cert.GinqReferenceIdeal.τ).loc Cert.GinqReferenceIdeal.main_arg1) = m' ((c.tc : Thread Cert.GinqReferenceIdeal.nD Cert.GinqReferenceIdeal.τ).loc Cert.GinqReferenceIdeal.main_arg1)
          ∧ r.2.mem ((c.tc : Thread Cert.GinqReferenceIdeal.nD Cert.GinqReferenceIdeal.τ).loc Cert.GinqReferenceIdeal.main_arg2) = m' ((c.tc : Thread Cert.GinqReferenceIdeal.nD Cert.GinqReferenceIdeal.τ).loc Cert.GinqReferenceIdeal.main_arg2))

def preserves_Ging_GingIdeal : Prop :=
  True

def algebraic_GingIdeal_GingReferenceIdeal [hGingIdeal : Cert.GingIdeal.Facts] [hGingReferenceIdeal : Cert.GingReferenceIdeal.Facts] : Prop :=
  ∀ (m : (ℓ : Loc Cert.GingIdeal.nD Cert.GingIdeal.τ Cert.GingIdeal.sig) → Buf (Elt Ideal) ℓ) (g : Dev Cert.GingIdeal.nD → PrngReg)
    (m' : (ℓ : Loc Cert.GingReferenceIdeal.nD Cert.GingReferenceIdeal.τ Cert.GingReferenceIdeal.sig) → Buf (Elt Ideal) ℓ) (g' : Dev Cert.GingReferenceIdeal.nD → PrngReg), Pre_GingIdeal m →
    (∀ c : Dev Cert.GingIdeal.nD,
      m' ((c.tc : Thread Cert.GingReferenceIdeal.nD Cert.GingReferenceIdeal.τ).loc Cert.GingReferenceIdeal.main_arg0) = m ((c.tc : Thread Cert.GingIdeal.nD Cert.GingIdeal.τ).loc Cert.GingIdeal.main_arg0)
      ∧ m' ((c.tc : Thread Cert.GingReferenceIdeal.nD Cert.GingReferenceIdeal.τ).loc Cert.GingReferenceIdeal.main_arg1) = m ((c.tc : Thread Cert.GingIdeal.nD Cert.GingIdeal.τ).loc Cert.GingIdeal.main_arg1)
      ∧ m' ((c.tc : Thread Cert.GingReferenceIdeal.nD Cert.GingReferenceIdeal.τ).loc Cert.GingReferenceIdeal.main_arg2) = m ((c.tc : Thread Cert.GingIdeal.nD Cert.GingIdeal.τ).loc Cert.GingIdeal.main_arg2)) →
    ∃ (v0 : (c : Dev Cert.GingIdeal.nD) → Buf (Elt Ideal) ((c.tc : Thread Cert.GingIdeal.nD Cert.GingIdeal.τ).loc Cert.GingIdeal.main_v3)),
      θ_run (Cert.GingIdeal.defs (F := Ideal)) (onTc (τ := Cert.GingIdeal.τ) (Cert.GingIdeal.main (F := Ideal))) ⟨m, fun _ => 0, g⟩ (fun r => ∀ c : Dev Cert.GingIdeal.nD,
          r.2.mem ((c.tc : Thread Cert.GingIdeal.nD Cert.GingIdeal.τ).loc Cert.GingIdeal.main_v3) = v0 c
          ∧ r.2.mem ((c.tc : Thread Cert.GingIdeal.nD Cert.GingIdeal.τ).loc Cert.GingIdeal.main_arg0) = m ((c.tc : Thread Cert.GingIdeal.nD Cert.GingIdeal.τ).loc Cert.GingIdeal.main_arg0)
          ∧ r.2.mem ((c.tc : Thread Cert.GingIdeal.nD Cert.GingIdeal.τ).loc Cert.GingIdeal.main_arg1) = m ((c.tc : Thread Cert.GingIdeal.nD Cert.GingIdeal.τ).loc Cert.GingIdeal.main_arg1)
          ∧ r.2.mem ((c.tc : Thread Cert.GingIdeal.nD Cert.GingIdeal.τ).loc Cert.GingIdeal.main_arg2) = m ((c.tc : Thread Cert.GingIdeal.nD Cert.GingIdeal.τ).loc Cert.GingIdeal.main_arg2))
      ∧ θ_run (Cert.GingReferenceIdeal.defs (F := Ideal)) (onTc (τ := Cert.GingReferenceIdeal.τ) (Cert.GingReferenceIdeal.main (F := Ideal))) ⟨m', fun _ => 0, g'⟩ (fun r => ∀ c : Dev Cert.GingReferenceIdeal.nD,
          r.2.mem ((c.tc : Thread Cert.GingReferenceIdeal.nD Cert.GingReferenceIdeal.τ).loc Cert.GingReferenceIdeal.main_v2) = v0 c
          ∧ r.2.mem ((c.tc : Thread Cert.GingReferenceIdeal.nD Cert.GingReferenceIdeal.τ).loc Cert.GingReferenceIdeal.main_arg0) = m' ((c.tc : Thread Cert.GingReferenceIdeal.nD Cert.GingReferenceIdeal.τ).loc Cert.GingReferenceIdeal.main_arg0)
          ∧ r.2.mem ((c.tc : Thread Cert.GingReferenceIdeal.nD Cert.GingReferenceIdeal.τ).loc Cert.GingReferenceIdeal.main_arg1) = m' ((c.tc : Thread Cert.GingReferenceIdeal.nD Cert.GingReferenceIdeal.τ).loc Cert.GingReferenceIdeal.main_arg1)
          ∧ r.2.mem ((c.tc : Thread Cert.GingReferenceIdeal.nD Cert.GingReferenceIdeal.τ).loc Cert.GingReferenceIdeal.main_arg2) = m' ((c.tc : Thread Cert.GingReferenceIdeal.nD Cert.GingReferenceIdeal.τ).loc Cert.GingReferenceIdeal.main_arg2))

def preserves_Dxq_DxqIdeal : Prop :=
  True

def algebraic_DxqIdeal_DxqReferenceIdeal [hDxqIdeal : Cert.DxqIdeal.Facts] [hDxqReferenceIdeal : Cert.DxqReferenceIdeal.Facts] : Prop :=
  ∀ (m : (ℓ : Loc Cert.DxqIdeal.nD Cert.DxqIdeal.τ Cert.DxqIdeal.sig) → Buf (Elt Ideal) ℓ) (g : Dev Cert.DxqIdeal.nD → PrngReg)
    (m' : (ℓ : Loc Cert.DxqReferenceIdeal.nD Cert.DxqReferenceIdeal.τ Cert.DxqReferenceIdeal.sig) → Buf (Elt Ideal) ℓ) (g' : Dev Cert.DxqReferenceIdeal.nD → PrngReg), Pre_DxqIdeal m →
    (∀ c : Dev Cert.DxqIdeal.nD,
      m' ((c.tc : Thread Cert.DxqReferenceIdeal.nD Cert.DxqReferenceIdeal.τ).loc Cert.DxqReferenceIdeal.main_arg0) = m ((c.tc : Thread Cert.DxqIdeal.nD Cert.DxqIdeal.τ).loc Cert.DxqIdeal.main_arg0)
      ∧ m' ((c.tc : Thread Cert.DxqReferenceIdeal.nD Cert.DxqReferenceIdeal.τ).loc Cert.DxqReferenceIdeal.main_arg1) = m ((c.tc : Thread Cert.DxqIdeal.nD Cert.DxqIdeal.τ).loc Cert.DxqIdeal.main_arg1)
      ∧ m' ((c.tc : Thread Cert.DxqReferenceIdeal.nD Cert.DxqReferenceIdeal.τ).loc Cert.DxqReferenceIdeal.main_arg2) = m ((c.tc : Thread Cert.DxqIdeal.nD Cert.DxqIdeal.τ).loc Cert.DxqIdeal.main_arg2)
      ∧ m' ((c.tc : Thread Cert.DxqReferenceIdeal.nD Cert.DxqReferenceIdeal.τ).loc Cert.DxqReferenceIdeal.main_arg3) = m ((c.tc : Thread Cert.DxqIdeal.nD Cert.DxqIdeal.τ).loc Cert.DxqIdeal.main_arg3)) →
    ∃ (v0 : (c : Dev Cert.DxqIdeal.nD) → Buf (Elt Ideal) ((c.tc : Thread Cert.DxqIdeal.nD Cert.DxqIdeal.τ).loc Cert.DxqIdeal.main_v3)),
      θ_run (Cert.DxqIdeal.defs (F := Ideal)) (onTc (τ := Cert.DxqIdeal.τ) (Cert.DxqIdeal.main (F := Ideal))) ⟨m, fun _ => 0, g⟩ (fun r => ∀ c : Dev Cert.DxqIdeal.nD,
          r.2.mem ((c.tc : Thread Cert.DxqIdeal.nD Cert.DxqIdeal.τ).loc Cert.DxqIdeal.main_v3) = v0 c
          ∧ r.2.mem ((c.tc : Thread Cert.DxqIdeal.nD Cert.DxqIdeal.τ).loc Cert.DxqIdeal.main_arg0) = m ((c.tc : Thread Cert.DxqIdeal.nD Cert.DxqIdeal.τ).loc Cert.DxqIdeal.main_arg0)
          ∧ r.2.mem ((c.tc : Thread Cert.DxqIdeal.nD Cert.DxqIdeal.τ).loc Cert.DxqIdeal.main_arg1) = m ((c.tc : Thread Cert.DxqIdeal.nD Cert.DxqIdeal.τ).loc Cert.DxqIdeal.main_arg1)
          ∧ r.2.mem ((c.tc : Thread Cert.DxqIdeal.nD Cert.DxqIdeal.τ).loc Cert.DxqIdeal.main_arg2) = m ((c.tc : Thread Cert.DxqIdeal.nD Cert.DxqIdeal.τ).loc Cert.DxqIdeal.main_arg2)
          ∧ r.2.mem ((c.tc : Thread Cert.DxqIdeal.nD Cert.DxqIdeal.τ).loc Cert.DxqIdeal.main_arg3) = m ((c.tc : Thread Cert.DxqIdeal.nD Cert.DxqIdeal.τ).loc Cert.DxqIdeal.main_arg3))
      ∧ θ_run (Cert.DxqReferenceIdeal.defs (F := Ideal)) (onTc (τ := Cert.DxqReferenceIdeal.τ) (Cert.DxqReferenceIdeal.main (F := Ideal))) ⟨m', fun _ => 0, g'⟩ (fun r => ∀ c : Dev Cert.DxqReferenceIdeal.nD,
          r.2.mem ((c.tc : Thread Cert.DxqReferenceIdeal.nD Cert.DxqReferenceIdeal.τ).loc Cert.DxqReferenceIdeal.main_v7) = v0 c
          ∧ r.2.mem ((c.tc : Thread Cert.DxqReferenceIdeal.nD Cert.DxqReferenceIdeal.τ).loc Cert.DxqReferenceIdeal.main_arg0) = m' ((c.tc : Thread Cert.DxqReferenceIdeal.nD Cert.DxqReferenceIdeal.τ).loc Cert.DxqReferenceIdeal.main_arg0)
          ∧ r.2.mem ((c.tc : Thread Cert.DxqReferenceIdeal.nD Cert.DxqReferenceIdeal.τ).loc Cert.DxqReferenceIdeal.main_arg1) = m' ((c.tc : Thread Cert.DxqReferenceIdeal.nD Cert.DxqReferenceIdeal.τ).loc Cert.DxqReferenceIdeal.main_arg1)
          ∧ r.2.mem ((c.tc : Thread Cert.DxqReferenceIdeal.nD Cert.DxqReferenceIdeal.τ).loc Cert.DxqReferenceIdeal.main_arg2) = m' ((c.tc : Thread Cert.DxqReferenceIdeal.nD Cert.DxqReferenceIdeal.τ).loc Cert.DxqReferenceIdeal.main_arg2)
          ∧ r.2.mem ((c.tc : Thread Cert.DxqReferenceIdeal.nD Cert.DxqReferenceIdeal.τ).loc Cert.DxqReferenceIdeal.main_arg3) = m' ((c.tc : Thread Cert.DxqReferenceIdeal.nD Cert.DxqReferenceIdeal.τ).loc Cert.DxqReferenceIdeal.main_arg3))

def preserves_Dxg_DxgIdeal : Prop :=
  True

def algebraic_DxgIdeal_DxgReferenceIdeal [hDxgIdeal : Cert.DxgIdeal.Facts] [hDxgReferenceIdeal : Cert.DxgReferenceIdeal.Facts] : Prop :=
  ∀ (m : (ℓ : Loc Cert.DxgIdeal.nD Cert.DxgIdeal.τ Cert.DxgIdeal.sig) → Buf (Elt Ideal) ℓ) (g : Dev Cert.DxgIdeal.nD → PrngReg)
    (m' : (ℓ : Loc Cert.DxgReferenceIdeal.nD Cert.DxgReferenceIdeal.τ Cert.DxgReferenceIdeal.sig) → Buf (Elt Ideal) ℓ) (g' : Dev Cert.DxgReferenceIdeal.nD → PrngReg), Pre_DxgIdeal m →
    (∀ c : Dev Cert.DxgIdeal.nD,
      m' ((c.tc : Thread Cert.DxgReferenceIdeal.nD Cert.DxgReferenceIdeal.τ).loc Cert.DxgReferenceIdeal.main_arg0) = m ((c.tc : Thread Cert.DxgIdeal.nD Cert.DxgIdeal.τ).loc Cert.DxgIdeal.main_arg0)
      ∧ m' ((c.tc : Thread Cert.DxgReferenceIdeal.nD Cert.DxgReferenceIdeal.τ).loc Cert.DxgReferenceIdeal.main_arg1) = m ((c.tc : Thread Cert.DxgIdeal.nD Cert.DxgIdeal.τ).loc Cert.DxgIdeal.main_arg1)
      ∧ m' ((c.tc : Thread Cert.DxgReferenceIdeal.nD Cert.DxgReferenceIdeal.τ).loc Cert.DxgReferenceIdeal.main_arg2) = m ((c.tc : Thread Cert.DxgIdeal.nD Cert.DxgIdeal.τ).loc Cert.DxgIdeal.main_arg2)
      ∧ m' ((c.tc : Thread Cert.DxgReferenceIdeal.nD Cert.DxgReferenceIdeal.τ).loc Cert.DxgReferenceIdeal.main_arg3) = m ((c.tc : Thread Cert.DxgIdeal.nD Cert.DxgIdeal.τ).loc Cert.DxgIdeal.main_arg3)) →
    ∃ (v0 : (c : Dev Cert.DxgIdeal.nD) → Buf (Elt Ideal) ((c.tc : Thread Cert.DxgIdeal.nD Cert.DxgIdeal.τ).loc Cert.DxgIdeal.main_v3)),
      θ_run (Cert.DxgIdeal.defs (F := Ideal)) (onTc (τ := Cert.DxgIdeal.τ) (Cert.DxgIdeal.main (F := Ideal))) ⟨m, fun _ => 0, g⟩ (fun r => ∀ c : Dev Cert.DxgIdeal.nD,
          r.2.mem ((c.tc : Thread Cert.DxgIdeal.nD Cert.DxgIdeal.τ).loc Cert.DxgIdeal.main_v3) = v0 c
          ∧ r.2.mem ((c.tc : Thread Cert.DxgIdeal.nD Cert.DxgIdeal.τ).loc Cert.DxgIdeal.main_arg0) = m ((c.tc : Thread Cert.DxgIdeal.nD Cert.DxgIdeal.τ).loc Cert.DxgIdeal.main_arg0)
          ∧ r.2.mem ((c.tc : Thread Cert.DxgIdeal.nD Cert.DxgIdeal.τ).loc Cert.DxgIdeal.main_arg1) = m ((c.tc : Thread Cert.DxgIdeal.nD Cert.DxgIdeal.τ).loc Cert.DxgIdeal.main_arg1)
          ∧ r.2.mem ((c.tc : Thread Cert.DxgIdeal.nD Cert.DxgIdeal.τ).loc Cert.DxgIdeal.main_arg2) = m ((c.tc : Thread Cert.DxgIdeal.nD Cert.DxgIdeal.τ).loc Cert.DxgIdeal.main_arg2)
          ∧ r.2.mem ((c.tc : Thread Cert.DxgIdeal.nD Cert.DxgIdeal.τ).loc Cert.DxgIdeal.main_arg3) = m ((c.tc : Thread Cert.DxgIdeal.nD Cert.DxgIdeal.τ).loc Cert.DxgIdeal.main_arg3))
      ∧ θ_run (Cert.DxgReferenceIdeal.defs (F := Ideal)) (onTc (τ := Cert.DxgReferenceIdeal.τ) (Cert.DxgReferenceIdeal.main (F := Ideal))) ⟨m', fun _ => 0, g'⟩ (fun r => ∀ c : Dev Cert.DxgReferenceIdeal.nD,
          r.2.mem ((c.tc : Thread Cert.DxgReferenceIdeal.nD Cert.DxgReferenceIdeal.τ).loc Cert.DxgReferenceIdeal.main_v3) = v0 c
          ∧ r.2.mem ((c.tc : Thread Cert.DxgReferenceIdeal.nD Cert.DxgReferenceIdeal.τ).loc Cert.DxgReferenceIdeal.main_arg0) = m' ((c.tc : Thread Cert.DxgReferenceIdeal.nD Cert.DxgReferenceIdeal.τ).loc Cert.DxgReferenceIdeal.main_arg0)
          ∧ r.2.mem ((c.tc : Thread Cert.DxgReferenceIdeal.nD Cert.DxgReferenceIdeal.τ).loc Cert.DxgReferenceIdeal.main_arg1) = m' ((c.tc : Thread Cert.DxgReferenceIdeal.nD Cert.DxgReferenceIdeal.τ).loc Cert.DxgReferenceIdeal.main_arg1)
          ∧ r.2.mem ((c.tc : Thread Cert.DxgReferenceIdeal.nD Cert.DxgReferenceIdeal.τ).loc Cert.DxgReferenceIdeal.main_arg2) = m' ((c.tc : Thread Cert.DxgReferenceIdeal.nD Cert.DxgReferenceIdeal.τ).loc Cert.DxgReferenceIdeal.main_arg2)
          ∧ r.2.mem ((c.tc : Thread Cert.DxgReferenceIdeal.nD Cert.DxgReferenceIdeal.τ).loc Cert.DxgReferenceIdeal.main_arg3) = m' ((c.tc : Thread Cert.DxgReferenceIdeal.nD Cert.DxgReferenceIdeal.τ).loc Cert.DxgReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v9_0)) (v1 : (c : Dev Cert.DownIdeal.nD) → Buf (Elt Ideal) ((c.tc : Thread Cert.DownIdeal.nD Cert.DownIdeal.τ).loc Cert.DownIdeal.main_v9_1)) (v2 : (c : Dev Cert.DownIdeal.nD) → Buf (Elt Ideal) ((c.tc : Thread Cert.DownIdeal.nD Cert.DownIdeal.τ).loc Cert.DownIdeal.main_v10)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v9_0) = v0 c
          ∧ r.2.mem ((c.tc : Thread Cert.DownIdeal.nD Cert.DownIdeal.τ).loc Cert.DownIdeal.main_v9_1) = v1 c
          ∧ r.2.mem ((c.tc : Thread Cert.DownIdeal.nD Cert.DownIdeal.τ).loc Cert.DownIdeal.main_v10) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_v30) = v1 c
          ∧ r.2.mem ((c.tc : Thread Cert.DownReferenceIdeal.nD Cert.DownReferenceIdeal.τ).loc Cert.DownReferenceIdeal.main_v30) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v5_0)) (v1 : (c : Dev Cert.OutIdeal.nD) → Buf (Elt Ideal) ((c.tc : Thread Cert.OutIdeal.nD Cert.OutIdeal.τ).loc Cert.OutIdeal.main_v5_1)) (v2 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5_0) = v0 c
          ∧ r.2.mem ((c.tc : Thread Cert.OutIdeal.nD Cert.OutIdeal.τ).loc Cert.OutIdeal.main_v5_1) = v1 c
          ∧ r.2.mem ((c.tc : Thread Cert.OutIdeal.nD Cert.OutIdeal.τ).loc Cert.OutIdeal.main_v6) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v27) = v1 c
          ∧ r.2.mem ((c.tc : Thread Cert.OutReferenceIdeal.nD Cert.OutReferenceIdeal.τ).loc Cert.OutReferenceIdeal.main_v27) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Dmix_DmixIdeal : Prop :=
  True

def algebraic_DmixIdeal_DmixReferenceIdeal [hDmixIdeal : Cert.DmixIdeal.Facts] [hDmixReferenceIdeal : Cert.DmixReferenceIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixReferenceIdeal.nD Cert.DmixReferenceIdeal.τ Cert.DmixReferenceIdeal.sig) → Buf (Elt Ideal) ℓ) (g' : Dev Cert.DmixReferenceIdeal.nD → PrngReg), Pre_DmixIdeal m →
    (∀ c : Dev Cert.DmixIdeal.nD,
      m' ((c.tc : Thread Cert.DmixReferenceIdeal.nD Cert.DmixReferenceIdeal.τ).loc Cert.DmixReferenceIdeal.main_arg0) = m ((c.tc : Thread Cert.DmixIdeal.nD Cert.DmixIdeal.τ).loc Cert.DmixIdeal.main_arg0)
      ∧ m' ((c.tc : Thread Cert.DmixReferenceIdeal.nD Cert.DmixReferenceIdeal.τ).loc Cert.DmixReferenceIdeal.main_arg1) = m ((c.tc : Thread Cert.DmixIdeal.nD Cert.DmixIdeal.τ).loc Cert.DmixIdeal.main_arg1)
      ∧ m' ((c.tc : Thread Cert.DmixReferenceIdeal.nD Cert.DmixReferenceIdeal.τ).loc Cert.DmixReferenceIdeal.main_arg2) = m ((c.tc : Thread Cert.DmixIdeal.nD Cert.DmixIdeal.τ).loc Cert.DmixIdeal.main_arg2)
      ∧ m' ((c.tc : Thread Cert.DmixReferenceIdeal.nD Cert.DmixReferenceIdeal.τ).loc Cert.DmixReferenceIdeal.main_arg3) = m ((c.tc : Thread Cert.DmixIdeal.nD Cert.DmixIdeal.τ).loc Cert.DmixIdeal.main_arg3)
      ∧ m' ((c.tc : Thread Cert.DmixReferenceIdeal.nD Cert.DmixReferenceIdeal.τ).loc Cert.DmixReferenceIdeal.main_arg4) = m ((c.tc : Thread Cert.DmixIdeal.nD Cert.DmixIdeal.τ).loc Cert.DmixIdeal.main_arg4)
      ∧ m' ((c.tc : Thread Cert.DmixReferenceIdeal.nD Cert.DmixReferenceIdeal.τ).loc Cert.DmixReferenceIdeal.main_arg5) = m ((c.tc : Thread Cert.DmixIdeal.nD Cert.DmixIdeal.τ).loc Cert.DmixIdeal.main_arg5)
      ∧ m' ((c.tc : Thread Cert.DmixReferenceIdeal.nD Cert.DmixReferenceIdeal.τ).loc Cert.DmixReferenceIdeal.main_arg6) = m ((c.tc : Thread Cert.DmixIdeal.nD Cert.DmixIdeal.τ).loc Cert.DmixIdeal.main_arg6)
      ∧ m' ((c.tc : Thread Cert.DmixReferenceIdeal.nD Cert.DmixReferenceIdeal.τ).loc Cert.DmixReferenceIdeal.main_arg7) = m ((c.tc : Thread Cert.DmixIdeal.nD Cert.DmixIdeal.τ).loc Cert.DmixIdeal.main_arg7)) →
    ∃ (v0 : (c : Dev Cert.DmixIdeal.nD) → Buf (Elt Ideal) ((c.tc : Thread Cert.DmixIdeal.nD Cert.DmixIdeal.τ).loc Cert.DmixIdeal.main_v3)) (v1 : (c : Dev Cert.DmixIdeal.nD) → Buf (Elt Ideal) ((c.tc : Thread Cert.DmixIdeal.nD Cert.DmixIdeal.τ).loc Cert.DmixIdeal.main_v7)) (v2 : (c : Dev Cert.DmixIdeal.nD) → Buf (Elt Ideal) ((c.tc : Thread Cert.DmixIdeal.nD Cert.DmixIdeal.τ).loc Cert.DmixIdeal.main_v11)) (v3 : (c : Dev Cert.DmixIdeal.nD) → Buf (Elt Ideal) ((c.tc : Thread Cert.DmixIdeal.nD Cert.DmixIdeal.τ).loc Cert.DmixIdeal.main_v15)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v3) = v0 c
          ∧ r.2.mem ((c.tc : Thread Cert.DmixIdeal.nD Cert.DmixIdeal.τ).loc Cert.DmixIdeal.main_v7) = v1 c
          ∧ r.2.mem ((c.tc : Thread Cert.DmixIdeal.nD Cert.DmixIdeal.τ).loc Cert.DmixIdeal.main_v11) = v2 c
          ∧ r.2.mem ((c.tc : Thread Cert.DmixIdeal.nD Cert.DmixIdeal.τ).loc Cert.DmixIdeal.main_v15) = v3 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
          ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2)
          ∧ r.2.mem ((c.tc : Thread Cert.DmixIdeal.nD Cert.DmixIdeal.τ).loc Cert.DmixIdeal.main_arg3) = m ((c.tc : Thread Cert.DmixIdeal.nD Cert.DmixIdeal.τ).loc Cert.DmixIdeal.main_arg3)
          ∧ r.2.mem ((c.tc : Thread Cert.DmixIdeal.nD Cert.DmixIdeal.τ).loc Cert.DmixIdeal.main_arg4) = m ((c.tc : Thread Cert.DmixIdeal.nD Cert.DmixIdeal.τ).loc Cert.DmixIdeal.main_arg4)
          ∧ r.2.mem ((c.tc : Thread Cert.DmixIdeal.nD Cert.DmixIdeal.τ).loc Cert.DmixIdeal.main_arg5) = m ((c.tc : Thread Cert.DmixIdeal.nD Cert.DmixIdeal.τ).loc Cert.DmixIdeal.main_arg5)
          ∧ r.2.mem ((c.tc : Thread Cert.DmixIdeal.nD Cert.DmixIdeal.τ).loc Cert.DmixIdeal.main_arg6) = m ((c.tc : Thread Cert.DmixIdeal.nD Cert.DmixIdeal.τ).loc Cert.DmixIdeal.main_arg6)
          ∧ r.2.mem ((c.tc : Thread Cert.DmixIdeal.nD Cert.DmixIdeal.τ).loc Cert.DmixIdeal.main_arg7) = m ((c.tc : Thread Cert.DmixIdeal.nD Cert.DmixIdeal.τ).loc Cert.DmixIdeal.main_arg7))
      ∧ θ_run (Cert.DmixReferenceIdeal.defs (F := Ideal)) (onTc (τ := Cert.DmixReferenceIdeal.τ) (Cert.DmixReferenceIdeal.main (F := Ideal))) ⟨m', fun _ => 0, g'⟩ (fun r => ∀ c : Dev Cert.DmixReferenceIdeal.nD,
          r.2.mem ((c.tc : Thread Cert.DmixReferenceIdeal.nD Cert.DmixReferenceIdeal.τ).loc Cert.DmixReferenceIdeal.main_v2) = v0 c
          ∧ r.2.mem ((c.tc : Thread Cert.DmixReferenceIdeal.nD Cert.DmixReferenceIdeal.τ).loc Cert.DmixReferenceIdeal.main_v5) = v1 c
          ∧ r.2.mem ((c.tc : Thread Cert.DmixReferenceIdeal.nD Cert.DmixReferenceIdeal.τ).loc Cert.DmixReferenceIdeal.main_v8) = v2 c
          ∧ r.2.mem ((c.tc : Thread Cert.DmixReferenceIdeal.nD Cert.DmixReferenceIdeal.τ).loc Cert.DmixReferenceIdeal.main_v11) = v3 c
          ∧ r.2.mem ((c.tc : Thread Cert.DmixReferenceIdeal.nD Cert.DmixReferenceIdeal.τ).loc Cert.DmixReferenceIdeal.main_arg0) = m' ((c.tc : Thread Cert.DmixReferenceIdeal.nD Cert.DmixReferenceIdeal.τ).loc Cert.DmixReferenceIdeal.main_arg0)
          ∧ r.2.mem ((c.tc : Thread Cert.DmixReferenceIdeal.nD Cert.DmixReferenceIdeal.τ).loc Cert.DmixReferenceIdeal.main_arg1) = m' ((c.tc : Thread Cert.DmixReferenceIdeal.nD Cert.DmixReferenceIdeal.τ).loc Cert.DmixReferenceIdeal.main_arg1)
          ∧ r.2.mem ((c.tc : Thread Cert.DmixReferenceIdeal.nD Cert.DmixReferenceIdeal.τ).loc Cert.DmixReferenceIdeal.main_arg2) = m' ((c.tc : Thread Cert.DmixReferenceIdeal.nD Cert.DmixReferenceIdeal.τ).loc Cert.DmixReferenceIdeal.main_arg2)
          ∧ r.2.mem ((c.tc : Thread Cert.DmixReferenceIdeal.nD Cert.DmixReferenceIdeal.τ).loc Cert.DmixReferenceIdeal.main_arg3) = m' ((c.tc : Thread Cert.DmixReferenceIdeal.nD Cert.DmixReferenceIdeal.τ).loc Cert.DmixReferenceIdeal.main_arg3)
          ∧ r.2.mem ((c.tc : Thread Cert.DmixReferenceIdeal.nD Cert.DmixReferenceIdeal.τ).loc Cert.DmixReferenceIdeal.main_arg4) = m' ((c.tc : Thread Cert.DmixReferenceIdeal.nD Cert.DmixReferenceIdeal.τ).loc Cert.DmixReferenceIdeal.main_arg4)
          ∧ r.2.mem ((c.tc : Thread Cert.DmixReferenceIdeal.nD Cert.DmixReferenceIdeal.τ).loc Cert.DmixReferenceIdeal.main_arg5) = m' ((c.tc : Thread Cert.DmixReferenceIdeal.nD Cert.DmixReferenceIdeal.τ).loc Cert.DmixReferenceIdeal.main_arg5)
          ∧ r.2.mem ((c.tc : Thread Cert.DmixReferenceIdeal.nD Cert.DmixReferenceIdeal.τ).loc Cert.DmixReferenceIdeal.main_arg6) = m' ((c.tc : Thread Cert.DmixReferenceIdeal.nD Cert.DmixReferenceIdeal.τ).loc Cert.DmixReferenceIdeal.main_arg6)
          ∧ r.2.mem ((c.tc : Thread Cert.DmixReferenceIdeal.nD Cert.DmixReferenceIdeal.τ).loc Cert.DmixReferenceIdeal.main_arg7) = m' ((c.tc : Thread Cert.DmixReferenceIdeal.nD Cert.DmixReferenceIdeal.τ).loc Cert.DmixReferenceIdeal.main_arg7))

def preserves_Branch_BranchIdeal : Prop :=
  True

def algebraic_BranchIdeal_BranchReferenceIdeal [hBranchIdeal : Cert.BranchIdeal.Facts] [hBranchReferenceIdeal : Cert.BranchReferenceIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchIdeal m →
    (∀ c : Dev Cert.BranchIdeal.nD,
      m' ((c.tc : Thread Cert.BranchReferenceIdeal.nD Cert.BranchReferenceIdeal.τ).loc Cert.BranchReferenceIdeal.main_arg0) = m ((c.tc : Thread Cert.BranchIdeal.nD Cert.BranchIdeal.τ).loc Cert.BranchIdeal.main_arg0)
      ∧ m' ((c.tc : Thread Cert.BranchReferenceIdeal.nD Cert.BranchReferenceIdeal.τ).loc Cert.BranchReferenceIdeal.main_arg1) = m ((c.tc : Thread Cert.BranchIdeal.nD Cert.BranchIdeal.τ).loc Cert.BranchIdeal.main_arg1)
      ∧ m' ((c.tc : Thread Cert.BranchReferenceIdeal.nD Cert.BranchReferenceIdeal.τ).loc Cert.BranchReferenceIdeal.main_arg2) = m ((c.tc : Thread Cert.BranchIdeal.nD Cert.BranchIdeal.τ).loc Cert.BranchIdeal.main_arg2)
      ∧ m' ((c.tc : Thread Cert.BranchReferenceIdeal.nD Cert.BranchReferenceIdeal.τ).loc Cert.BranchReferenceIdeal.main_arg3) = m ((c.tc : Thread Cert.BranchIdeal.nD Cert.BranchIdeal.τ).loc Cert.BranchIdeal.main_arg3)
      ∧ m' ((c.tc : Thread Cert.BranchReferenceIdeal.nD Cert.BranchReferenceIdeal.τ).loc Cert.BranchReferenceIdeal.main_arg4) = m ((c.tc : Thread Cert.BranchIdeal.nD Cert.BranchIdeal.τ).loc Cert.BranchIdeal.main_arg4)
      ∧ m' ((c.tc : Thread Cert.BranchReferenceIdeal.nD Cert.BranchReferenceIdeal.τ).loc Cert.BranchReferenceIdeal.main_arg5) = m ((c.tc : Thread Cert.BranchIdeal.nD Cert.BranchIdeal.τ).loc Cert.BranchIdeal.main_arg5)) →
    ∃ (v0 : (c : Dev Cert.BranchIdeal.nD) → Buf (Elt Ideal) ((c.tc : Thread Cert.BranchIdeal.nD Cert.BranchIdeal.τ).loc Cert.BranchIdeal.main_v9)) (v1 : (c : Dev Cert.BranchIdeal.nD) → Buf (Elt Ideal) ((c.tc : Thread Cert.BranchIdeal.nD Cert.BranchIdeal.τ).loc Cert.BranchIdeal.main_v10)) (v2 : (c : Dev Cert.BranchIdeal.nD) → Buf (Elt Ideal) ((c.tc : Thread Cert.BranchIdeal.nD Cert.BranchIdeal.τ).loc Cert.BranchIdeal.main_v11)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v9) = v0 c
          ∧ r.2.mem ((c.tc : Thread Cert.BranchIdeal.nD Cert.BranchIdeal.τ).loc Cert.BranchIdeal.main_v10) = v1 c
          ∧ r.2.mem ((c.tc : Thread Cert.BranchIdeal.nD Cert.BranchIdeal.τ).loc Cert.BranchIdeal.main_v11) = v2 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v0) = v0 c
          ∧ r.2.mem ((c.tc : Thread Cert.BranchReferenceIdeal.nD Cert.BranchReferenceIdeal.τ).loc Cert.BranchReferenceIdeal.main_v1) = v1 c
          ∧ r.2.mem ((c.tc : Thread Cert.BranchReferenceIdeal.nD Cert.BranchReferenceIdeal.τ).loc Cert.BranchReferenceIdeal.main_v2) = v2 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1)
          ∧ r.2.mem ((c.tc : Thread Cert.BranchReferenceIdeal.nD Cert.BranchReferenceIdeal.τ).loc Cert.BranchReferenceIdeal.main_arg2) = m' ((c.tc : Thread Cert.BranchReferenceIdeal.nD Cert.BranchReferenceIdeal.τ).loc Cert.BranchReferenceIdeal.main_arg2)
          ∧ r.2.mem ((c.tc : Thread Cert.BranchReferenceIdeal.nD Cert.BranchReferenceIdeal.τ).loc Cert.BranchReferenceIdeal.main_arg3) = m' ((c.tc : Thread Cert.BranchReferenceIdeal.nD Cert.BranchReferenceIdeal.τ).loc Cert.BranchReferenceIdeal.main_arg3)
          ∧ r.2.mem ((c.tc : Thread Cert.BranchReferenceIdeal.nD Cert.BranchReferenceIdeal.τ).loc Cert.BranchReferenceIdeal.main_arg4) = m' ((c.tc : Thread Cert.BranchReferenceIdeal.nD Cert.BranchReferenceIdeal.τ).loc Cert.BranchReferenceIdeal.main_arg4)
          ∧ r.2.mem ((c.tc : Thread Cert.BranchReferenceIdeal.nD Cert.BranchReferenceIdeal.τ).loc Cert.BranchReferenceIdeal.main_arg5) = m' ((c.tc : Thread Cert.BranchReferenceIdeal.nD Cert.BranchReferenceIdeal.τ).loc Cert.BranchReferenceIdeal.main_arg5))

def preserves_Gout_GoutIdeal : Prop :=
  True

def algebraic_GoutIdeal_GoutReferenceIdeal [hGoutIdeal : Cert.GoutIdeal.Facts] [hGoutReferenceIdeal : Cert.GoutReferenceIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutReferenceIdeal.nD Cert.GoutReferenceIdeal.τ Cert.GoutReferenceIdeal.sig) → Buf (Elt Ideal) ℓ) (g' : Dev Cert.GoutReferenceIdeal.nD → PrngReg), Pre_GoutIdeal m →
    (∀ c : Dev Cert.GoutIdeal.nD,
      m' ((c.tc : Thread Cert.GoutReferenceIdeal.nD Cert.GoutReferenceIdeal.τ).loc Cert.GoutReferenceIdeal.main_arg0) = m ((c.tc : Thread Cert.GoutIdeal.nD Cert.GoutIdeal.τ).loc Cert.GoutIdeal.main_arg0)
      ∧ m' ((c.tc : Thread Cert.GoutReferenceIdeal.nD Cert.GoutReferenceIdeal.τ).loc Cert.GoutReferenceIdeal.main_arg1) = m ((c.tc : Thread Cert.GoutIdeal.nD Cert.GoutIdeal.τ).loc Cert.GoutIdeal.main_arg1)
      ∧ m' ((c.tc : Thread Cert.GoutReferenceIdeal.nD Cert.GoutReferenceIdeal.τ).loc Cert.GoutReferenceIdeal.main_arg2) = m ((c.tc : Thread Cert.GoutIdeal.nD Cert.GoutIdeal.τ).loc Cert.GoutIdeal.main_arg2)) →
    ∃ (v0 : (c : Dev Cert.GoutIdeal.nD) → Buf (Elt Ideal) ((c.tc : Thread Cert.GoutIdeal.nD Cert.GoutIdeal.τ).loc Cert.GoutIdeal.main_v3)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v3) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1)
          ∧ r.2.mem ((c.tc : Thread Cert.GoutIdeal.nD Cert.GoutIdeal.τ).loc Cert.GoutIdeal.main_arg2) = m ((c.tc : Thread Cert.GoutIdeal.nD Cert.GoutIdeal.τ).loc Cert.GoutIdeal.main_arg2))
      ∧ θ_run (Cert.GoutReferenceIdeal.defs (F := Ideal)) (onTc (τ := Cert.GoutReferenceIdeal.τ) (Cert.GoutReferenceIdeal.main (F := Ideal))) ⟨m', fun _ => 0, g'⟩ (fun r => ∀ c : Dev Cert.GoutReferenceIdeal.nD,
          r.2.mem ((c.tc : Thread Cert.GoutReferenceIdeal.nD Cert.GoutReferenceIdeal.τ).loc Cert.GoutReferenceIdeal.main_v2) = v0 c
          ∧ r.2.mem ((c.tc : Thread Cert.GoutReferenceIdeal.nD Cert.GoutReferenceIdeal.τ).loc Cert.GoutReferenceIdeal.main_arg0) = m' ((c.tc : Thread Cert.GoutReferenceIdeal.nD Cert.GoutReferenceIdeal.τ).loc Cert.GoutReferenceIdeal.main_arg0)
          ∧ r.2.mem ((c.tc : Thread Cert.GoutReferenceIdeal.nD Cert.GoutReferenceIdeal.τ).loc Cert.GoutReferenceIdeal.main_arg1) = m' ((c.tc : Thread Cert.GoutReferenceIdeal.nD Cert.GoutReferenceIdeal.τ).loc Cert.GoutReferenceIdeal.main_arg1)
          ∧ r.2.mem ((c.tc : Thread Cert.GoutReferenceIdeal.nD Cert.GoutReferenceIdeal.τ).loc Cert.GoutReferenceIdeal.main_arg2) = m' ((c.tc : Thread Cert.GoutReferenceIdeal.nD Cert.GoutReferenceIdeal.τ).loc Cert.GoutReferenceIdeal.main_arg2))

def preserves_Gbra_GbraIdeal : Prop :=
  True

def algebraic_GbraIdeal_GbraReferenceIdeal [hGbraIdeal : Cert.GbraIdeal.Facts] [hGbraReferenceIdeal : Cert.GbraReferenceIdeal.Facts] : Prop :=
  ∀ (m : (ℓ : Loc Cert.GbraIdeal.nD Cert.GbraIdeal.τ Cert.GbraIdeal.sig) → Buf (Elt Ideal) ℓ) (g : Dev Cert.GbraIdeal.nD → PrngReg)
    (m' : (ℓ : Loc Cert.GbraReferenceIdeal.nD Cert.GbraReferenceIdeal.τ Cert.GbraReferenceIdeal.sig) → Buf (Elt Ideal) ℓ) (g' : Dev Cert.GbraReferenceIdeal.nD → PrngReg), Pre_GbraIdeal m →
    (∀ c : Dev Cert.GbraIdeal.nD,
      m' ((c.tc : Thread Cert.GbraReferenceIdeal.nD Cert.GbraReferenceIdeal.τ).loc Cert.GbraReferenceIdeal.main_arg0) = m ((c.tc : Thread Cert.GbraIdeal.nD Cert.GbraIdeal.τ).loc Cert.GbraIdeal.main_arg0)
      ∧ m' ((c.tc : Thread Cert.GbraReferenceIdeal.nD Cert.GbraReferenceIdeal.τ).loc Cert.GbraReferenceIdeal.main_arg1) = m ((c.tc : Thread Cert.GbraIdeal.nD Cert.GbraIdeal.τ).loc Cert.GbraIdeal.main_arg1)
      ∧ m' ((c.tc : Thread Cert.GbraReferenceIdeal.nD Cert.GbraReferenceIdeal.τ).loc Cert.GbraReferenceIdeal.main_arg2) = m ((c.tc : Thread Cert.GbraIdeal.nD Cert.GbraIdeal.τ).loc Cert.GbraIdeal.main_arg2)) →
    ∃ (v0 : (c : Dev Cert.GbraIdeal.nD) → Buf (Elt Ideal) ((c.tc : Thread Cert.GbraIdeal.nD Cert.GbraIdeal.τ).loc Cert.GbraIdeal.main_v2)),
      θ_run (Cert.GbraIdeal.defs (F := Ideal)) (onTc (τ := Cert.GbraIdeal.τ) (Cert.GbraIdeal.main (F := Ideal))) ⟨m, fun _ => 0, g⟩ (fun r => ∀ c : Dev Cert.GbraIdeal.nD,
          r.2.mem ((c.tc : Thread Cert.GbraIdeal.nD Cert.GbraIdeal.τ).loc Cert.GbraIdeal.main_v2) = v0 c
          ∧ r.2.mem ((c.tc : Thread Cert.GbraIdeal.nD Cert.GbraIdeal.τ).loc Cert.GbraIdeal.main_arg0) = m ((c.tc : Thread Cert.GbraIdeal.nD Cert.GbraIdeal.τ).loc Cert.GbraIdeal.main_arg0)
          ∧ r.2.mem ((c.tc : Thread Cert.GbraIdeal.nD Cert.GbraIdeal.τ).loc Cert.GbraIdeal.main_arg1) = m ((c.tc : Thread Cert.GbraIdeal.nD Cert.GbraIdeal.τ).loc Cert.GbraIdeal.main_arg1)
          ∧ r.2.mem ((c.tc : Thread Cert.GbraIdeal.nD Cert.GbraIdeal.τ).loc Cert.GbraIdeal.main_arg2) = m ((c.tc : Thread Cert.GbraIdeal.nD Cert.GbraIdeal.τ).loc Cert.GbraIdeal.main_arg2))
      ∧ θ_run (Cert.GbraReferenceIdeal.defs (F := Ideal)) (onTc (τ := Cert.GbraReferenceIdeal.τ) (Cert.GbraReferenceIdeal.main (F := Ideal))) ⟨m', fun _ => 0, g'⟩ (fun r => ∀ c : Dev Cert.GbraReferenceIdeal.nD,
          r.2.mem ((c.tc : Thread Cert.GbraReferenceIdeal.nD Cert.GbraReferenceIdeal.τ).loc Cert.GbraReferenceIdeal.main_v2) = v0 c
          ∧ r.2.mem ((c.tc : Thread Cert.GbraReferenceIdeal.nD Cert.GbraReferenceIdeal.τ).loc Cert.GbraReferenceIdeal.main_arg0) = m' ((c.tc : Thread Cert.GbraReferenceIdeal.nD Cert.GbraReferenceIdeal.τ).loc Cert.GbraReferenceIdeal.main_arg0)
          ∧ r.2.mem ((c.tc : Thread Cert.GbraReferenceIdeal.nD Cert.GbraReferenceIdeal.τ).loc Cert.GbraReferenceIdeal.main_arg1) = m' ((c.tc : Thread Cert.GbraReferenceIdeal.nD Cert.GbraReferenceIdeal.τ).loc Cert.GbraReferenceIdeal.main_arg1)
          ∧ r.2.mem ((c.tc : Thread Cert.GbraReferenceIdeal.nD Cert.GbraReferenceIdeal.τ).loc Cert.GbraReferenceIdeal.main_arg2) = m' ((c.tc : Thread Cert.GbraReferenceIdeal.nD Cert.GbraReferenceIdeal.τ).loc Cert.GbraReferenceIdeal.main_arg2))

def preserves_Gbrb_GbrbIdeal : Prop :=
  True

def algebraic_GbrbIdeal_GbrbReferenceIdeal [hGbrbIdeal : Cert.GbrbIdeal.Facts] [hGbrbReferenceIdeal : Cert.GbrbReferenceIdeal.Facts] : Prop :=
  ∀ (m : (ℓ : Loc Cert.GbrbIdeal.nD Cert.GbrbIdeal.τ Cert.GbrbIdeal.sig) → Buf (Elt Ideal) ℓ) (g : Dev Cert.GbrbIdeal.nD → PrngReg)
    (m' : (ℓ : Loc Cert.GbrbReferenceIdeal.nD Cert.GbrbReferenceIdeal.τ Cert.GbrbReferenceIdeal.sig) → Buf (Elt Ideal) ℓ) (g' : Dev Cert.GbrbReferenceIdeal.nD → PrngReg), Pre_GbrbIdeal m →
    (∀ c : Dev Cert.GbrbIdeal.nD,
      m' ((c.tc : Thread Cert.GbrbReferenceIdeal.nD Cert.GbrbReferenceIdeal.τ).loc Cert.GbrbReferenceIdeal.main_arg0) = m ((c.tc : Thread Cert.GbrbIdeal.nD Cert.GbrbIdeal.τ).loc Cert.GbrbIdeal.main_arg0)
      ∧ m' ((c.tc : Thread Cert.GbrbReferenceIdeal.nD Cert.GbrbReferenceIdeal.τ).loc Cert.GbrbReferenceIdeal.main_arg1) = m ((c.tc : Thread Cert.GbrbIdeal.nD Cert.GbrbIdeal.τ).loc Cert.GbrbIdeal.main_arg1)
      ∧ m' ((c.tc : Thread Cert.GbrbReferenceIdeal.nD Cert.GbrbReferenceIdeal.τ).loc Cert.GbrbReferenceIdeal.main_arg2) = m ((c.tc : Thread Cert.GbrbIdeal.nD Cert.GbrbIdeal.τ).loc Cert.GbrbIdeal.main_arg2)) →
    ∃ (v0 : (c : Dev Cert.GbrbIdeal.nD) → Buf (Elt Ideal) ((c.tc : Thread Cert.GbrbIdeal.nD Cert.GbrbIdeal.τ).loc Cert.GbrbIdeal.main_v2)),
      θ_run (Cert.GbrbIdeal.defs (F := Ideal)) (onTc (τ := Cert.GbrbIdeal.τ) (Cert.GbrbIdeal.main (F := Ideal))) ⟨m, fun _ => 0, g⟩ (fun r => ∀ c : Dev Cert.GbrbIdeal.nD,
          r.2.mem ((c.tc : Thread Cert.GbrbIdeal.nD Cert.GbrbIdeal.τ).loc Cert.GbrbIdeal.main_v2) = v0 c
          ∧ r.2.mem ((c.tc : Thread Cert.GbrbIdeal.nD Cert.GbrbIdeal.τ).loc Cert.GbrbIdeal.main_arg0) = m ((c.tc : Thread Cert.GbrbIdeal.nD Cert.GbrbIdeal.τ).loc Cert.GbrbIdeal.main_arg0)
          ∧ r.2.mem ((c.tc : Thread Cert.GbrbIdeal.nD Cert.GbrbIdeal.τ).loc Cert.GbrbIdeal.main_arg1) = m ((c.tc : Thread Cert.GbrbIdeal.nD Cert.GbrbIdeal.τ).loc Cert.GbrbIdeal.main_arg1)
          ∧ r.2.mem ((c.tc : Thread Cert.GbrbIdeal.nD Cert.GbrbIdeal.τ).loc Cert.GbrbIdeal.main_arg2) = m ((c.tc : Thread Cert.GbrbIdeal.nD Cert.GbrbIdeal.τ).loc Cert.GbrbIdeal.main_arg2))
      ∧ θ_run (Cert.GbrbReferenceIdeal.defs (F := Ideal)) (onTc (τ := Cert.GbrbReferenceIdeal.τ) (Cert.GbrbReferenceIdeal.main (F := Ideal))) ⟨m', fun _ => 0, g'⟩ (fun r => ∀ c : Dev Cert.GbrbReferenceIdeal.nD,
          r.2.mem ((c.tc : Thread Cert.GbrbReferenceIdeal.nD Cert.GbrbReferenceIdeal.τ).loc Cert.GbrbReferenceIdeal.main_v2) = v0 c
          ∧ r.2.mem ((c.tc : Thread Cert.GbrbReferenceIdeal.nD Cert.GbrbReferenceIdeal.τ).loc Cert.GbrbReferenceIdeal.main_arg0) = m' ((c.tc : Thread Cert.GbrbReferenceIdeal.nD Cert.GbrbReferenceIdeal.τ).loc Cert.GbrbReferenceIdeal.main_arg0)
          ∧ r.2.mem ((c.tc : Thread Cert.GbrbReferenceIdeal.nD Cert.GbrbReferenceIdeal.τ).loc Cert.GbrbReferenceIdeal.main_arg1) = m' ((c.tc : Thread Cert.GbrbReferenceIdeal.nD Cert.GbrbReferenceIdeal.τ).loc Cert.GbrbReferenceIdeal.main_arg1)
          ∧ r.2.mem ((c.tc : Thread Cert.GbrbReferenceIdeal.nD Cert.GbrbReferenceIdeal.τ).loc Cert.GbrbReferenceIdeal.main_arg2) = m' ((c.tc : Thread Cert.GbrbReferenceIdeal.nD Cert.GbrbReferenceIdeal.τ).loc Cert.GbrbReferenceIdeal.main_arg2))

def preserves_Gbrc_GbrcIdeal : Prop :=
  True

def algebraic_GbrcIdeal_GbrcReferenceIdeal [hGbrcIdeal : Cert.GbrcIdeal.Facts] [hGbrcReferenceIdeal : Cert.GbrcReferenceIdeal.Facts] : Prop :=
  ∀ (m : (ℓ : Loc Cert.GbrcIdeal.nD Cert.GbrcIdeal.τ Cert.GbrcIdeal.sig) → Buf (Elt Ideal) ℓ) (g : Dev Cert.GbrcIdeal.nD → PrngReg)
    (m' : (ℓ : Loc Cert.GbrcReferenceIdeal.nD Cert.GbrcReferenceIdeal.τ Cert.GbrcReferenceIdeal.sig) → Buf (Elt Ideal) ℓ) (g' : Dev Cert.GbrcReferenceIdeal.nD → PrngReg), Pre_GbrcIdeal m →
    (∀ c : Dev Cert.GbrcIdeal.nD,
      m' ((c.tc : Thread Cert.GbrcReferenceIdeal.nD Cert.GbrcReferenceIdeal.τ).loc Cert.GbrcReferenceIdeal.main_arg0) = m ((c.tc : Thread Cert.GbrcIdeal.nD Cert.GbrcIdeal.τ).loc Cert.GbrcIdeal.main_arg0)
      ∧ m' ((c.tc : Thread Cert.GbrcReferenceIdeal.nD Cert.GbrcReferenceIdeal.τ).loc Cert.GbrcReferenceIdeal.main_arg1) = m ((c.tc : Thread Cert.GbrcIdeal.nD Cert.GbrcIdeal.τ).loc Cert.GbrcIdeal.main_arg1)
      ∧ m' ((c.tc : Thread Cert.GbrcReferenceIdeal.nD Cert.GbrcReferenceIdeal.τ).loc Cert.GbrcReferenceIdeal.main_arg2) = m ((c.tc : Thread Cert.GbrcIdeal.nD Cert.GbrcIdeal.τ).loc Cert.GbrcIdeal.main_arg2)) →
    ∃ (v0 : (c : Dev Cert.GbrcIdeal.nD) → Buf (Elt Ideal) ((c.tc : Thread Cert.GbrcIdeal.nD Cert.GbrcIdeal.τ).loc Cert.GbrcIdeal.main_v2)),
      θ_run (Cert.GbrcIdeal.defs (F := Ideal)) (onTc (τ := Cert.GbrcIdeal.τ) (Cert.GbrcIdeal.main (F := Ideal))) ⟨m, fun _ => 0, g⟩ (fun r => ∀ c : Dev Cert.GbrcIdeal.nD,
          r.2.mem ((c.tc : Thread Cert.GbrcIdeal.nD Cert.GbrcIdeal.τ).loc Cert.GbrcIdeal.main_v2) = v0 c
          ∧ r.2.mem ((c.tc : Thread Cert.GbrcIdeal.nD Cert.GbrcIdeal.τ).loc Cert.GbrcIdeal.main_arg0) = m ((c.tc : Thread Cert.GbrcIdeal.nD Cert.GbrcIdeal.τ).loc Cert.GbrcIdeal.main_arg0)
          ∧ r.2.mem ((c.tc : Thread Cert.GbrcIdeal.nD Cert.GbrcIdeal.τ).loc Cert.GbrcIdeal.main_arg1) = m ((c.tc : Thread Cert.GbrcIdeal.nD Cert.GbrcIdeal.τ).loc Cert.GbrcIdeal.main_arg1)
          ∧ r.2.mem ((c.tc : Thread Cert.GbrcIdeal.nD Cert.GbrcIdeal.τ).loc Cert.GbrcIdeal.main_arg2) = m ((c.tc : Thread Cert.GbrcIdeal.nD Cert.GbrcIdeal.τ).loc Cert.GbrcIdeal.main_arg2))
      ∧ θ_run (Cert.GbrcReferenceIdeal.defs (F := Ideal)) (onTc (τ := Cert.GbrcReferenceIdeal.τ) (Cert.GbrcReferenceIdeal.main (F := Ideal))) ⟨m', fun _ => 0, g'⟩ (fun r => ∀ c : Dev Cert.GbrcReferenceIdeal.nD,
          r.2.mem ((c.tc : Thread Cert.GbrcReferenceIdeal.nD Cert.GbrcReferenceIdeal.τ).loc Cert.GbrcReferenceIdeal.main_v2) = v0 c
          ∧ r.2.mem ((c.tc : Thread Cert.GbrcReferenceIdeal.nD Cert.GbrcReferenceIdeal.τ).loc Cert.GbrcReferenceIdeal.main_arg0) = m' ((c.tc : Thread Cert.GbrcReferenceIdeal.nD Cert.GbrcReferenceIdeal.τ).loc Cert.GbrcReferenceIdeal.main_arg0)
          ∧ r.2.mem ((c.tc : Thread Cert.GbrcReferenceIdeal.nD Cert.GbrcReferenceIdeal.τ).loc Cert.GbrcReferenceIdeal.main_arg1) = m' ((c.tc : Thread Cert.GbrcReferenceIdeal.nD Cert.GbrcReferenceIdeal.τ).loc Cert.GbrcReferenceIdeal.main_arg1)
          ∧ r.2.mem ((c.tc : Thread Cert.GbrcReferenceIdeal.nD Cert.GbrcReferenceIdeal.τ).loc Cert.GbrcReferenceIdeal.main_arg2) = m' ((c.tc : Thread Cert.GbrcReferenceIdeal.nD Cert.GbrcReferenceIdeal.τ).loc Cert.GbrcReferenceIdeal.main_arg2))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v6)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v20) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Dgate_DgateIdeal : Prop :=
  True

def algebraic_DgateIdeal_DgateReferenceIdeal [hDgateIdeal : Cert.DgateIdeal.Facts] [hDgateReferenceIdeal : Cert.DgateReferenceIdeal.Facts] : Prop :=
  ∀ (m : (ℓ : Loc Cert.DgateIdeal.nD Cert.DgateIdeal.τ Cert.DgateIdeal.sig) → Buf (Elt Ideal) ℓ) (g : Dev Cert.DgateIdeal.nD → PrngReg)
    (m' : (ℓ : Loc Cert.DgateReferenceIdeal.nD Cert.DgateReferenceIdeal.τ Cert.DgateReferenceIdeal.sig) → Buf (Elt Ideal) ℓ) (g' : Dev Cert.DgateReferenceIdeal.nD → PrngReg), Pre_DgateIdeal m →
    (∀ c : Dev Cert.DgateIdeal.nD,
      m' ((c.tc : Thread Cert.DgateReferenceIdeal.nD Cert.DgateReferenceIdeal.τ).loc Cert.DgateReferenceIdeal.main_arg0) = m ((c.tc : Thread Cert.DgateIdeal.nD Cert.DgateIdeal.τ).loc Cert.DgateIdeal.main_arg0)
      ∧ m' ((c.tc : Thread Cert.DgateReferenceIdeal.nD Cert.DgateReferenceIdeal.τ).loc Cert.DgateReferenceIdeal.main_arg1) = m ((c.tc : Thread Cert.DgateIdeal.nD Cert.DgateIdeal.τ).loc Cert.DgateIdeal.main_arg1)
      ∧ m' ((c.tc : Thread Cert.DgateReferenceIdeal.nD Cert.DgateReferenceIdeal.τ).loc Cert.DgateReferenceIdeal.main_arg2) = m ((c.tc : Thread Cert.DgateIdeal.nD Cert.DgateIdeal.τ).loc Cert.DgateIdeal.main_arg2)
      ∧ m' ((c.tc : Thread Cert.DgateReferenceIdeal.nD Cert.DgateReferenceIdeal.τ).loc Cert.DgateReferenceIdeal.main_arg3) = m ((c.tc : Thread Cert.DgateIdeal.nD Cert.DgateIdeal.τ).loc Cert.DgateIdeal.main_arg3)
      ∧ m' ((c.tc : Thread Cert.DgateReferenceIdeal.nD Cert.DgateReferenceIdeal.τ).loc Cert.DgateReferenceIdeal.main_arg4) = m ((c.tc : Thread Cert.DgateIdeal.nD Cert.DgateIdeal.τ).loc Cert.DgateIdeal.main_arg4)
      ∧ m' ((c.tc : Thread Cert.DgateReferenceIdeal.nD Cert.DgateReferenceIdeal.τ).loc Cert.DgateReferenceIdeal.main_arg5) = m ((c.tc : Thread Cert.DgateIdeal.nD Cert.DgateIdeal.τ).loc Cert.DgateIdeal.main_arg5)) →
    ∃ (v0 : (c : Dev Cert.DgateIdeal.nD) → Buf (Elt Ideal) ((c.tc : Thread Cert.DgateIdeal.nD Cert.DgateIdeal.τ).loc Cert.DgateIdeal.main_v6)) (v1 : (c : Dev Cert.DgateIdeal.nD) → Buf (Elt Ideal) ((c.tc : Thread Cert.DgateIdeal.nD Cert.DgateIdeal.τ).loc Cert.DgateIdeal.main_v7)) (v2 : (c : Dev Cert.DgateIdeal.nD) → Buf (Elt Ideal) ((c.tc : Thread Cert.DgateIdeal.nD Cert.DgateIdeal.τ).loc Cert.DgateIdeal.main_v8)) (v3 : (c : Dev Cert.DgateIdeal.nD) → Buf (Elt Ideal) ((c.tc : Thread Cert.DgateIdeal.nD Cert.DgateIdeal.τ).loc Cert.DgateIdeal.main_v9)) (v4 : (c : Dev Cert.DgateIdeal.nD) → Buf (Elt Ideal) ((c.tc : Thread Cert.DgateIdeal.nD Cert.DgateIdeal.τ).loc Cert.DgateIdeal.main_v10)),
      θ_run (Cert.DgateIdeal.defs (F := Ideal)) (onTc (τ := Cert.DgateIdeal.τ) (Cert.DgateIdeal.main (F := Ideal))) ⟨m, fun _ => 0, g⟩ (fun r => ∀ c : Dev Cert.DgateIdeal.nD,
          r.2.mem ((c.tc : Thread Cert.DgateIdeal.nD Cert.DgateIdeal.τ).loc Cert.DgateIdeal.main_v6) = v0 c
          ∧ r.2.mem ((c.tc : Thread Cert.DgateIdeal.nD Cert.DgateIdeal.τ).loc Cert.DgateIdeal.main_v7) = v1 c
          ∧ r.2.mem ((c.tc : Thread Cert.DgateIdeal.nD Cert.DgateIdeal.τ).loc Cert.DgateIdeal.main_v8) = v2 c
          ∧ r.2.mem ((c.tc : Thread Cert.DgateIdeal.nD Cert.DgateIdeal.τ).loc Cert.DgateIdeal.main_v9) = v3 c
          ∧ r.2.mem ((c.tc : Thread Cert.DgateIdeal.nD Cert.DgateIdeal.τ).loc Cert.DgateIdeal.main_v10) = v4 c
          ∧ r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
          ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
          ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2)
          ∧ r.2.mem ((c.tc : Thread Cert.DgateIdeal.nD Cert.DgateIdeal.τ).loc Cert.DgateIdeal.main_arg3) = m ((c.tc : Thread Cert.DgateIdeal.nD Cert.DgateIdeal.τ).loc Cert.DgateIdeal.main_arg3)
          ∧ r.2.mem ((c.tc : Thread Cert.DgateIdeal.nD Cert.DgateIdeal.τ).loc Cert.DgateIdeal.main_arg4) = m ((c.tc : Thread Cert.DgateIdeal.nD Cert.DgateIdeal.τ).loc Cert.DgateIdeal.main_arg4)
          ∧ r.2.mem ((c.tc : Thread Cert.DgateIdeal.nD Cert.DgateIdeal.τ).loc Cert.DgateIdeal.main_arg5) = m ((c.tc : Thread Cert.DgateIdeal.nD Cert.DgateIdeal.τ).loc Cert.DgateIdeal.main_arg5))
      ∧ θ_run (Cert.DgateReferenceIdeal.defs (F := Ideal)) (onTc (τ := Cert.DgateReferenceIdeal.τ) (Cert.DgateReferenceIdeal.main (F := Ideal))) ⟨m', fun _ => 0, g'⟩ (fun r => ∀ c : Dev Cert.DgateReferenceIdeal.nD,
          r.2.mem ((c.tc : Thread Cert.DgateReferenceIdeal.nD Cert.DgateReferenceIdeal.τ).loc Cert.DgateReferenceIdeal.main_v41) = v0 c
          ∧ r.2.mem ((c.tc : Thread Cert.DgateReferenceIdeal.nD Cert.DgateReferenceIdeal.τ).loc Cert.DgateReferenceIdeal.main_v44) = v1 c
          ∧ r.2.mem ((c.tc : Thread Cert.DgateReferenceIdeal.nD Cert.DgateReferenceIdeal.τ).loc Cert.DgateReferenceIdeal.main_v35) = v2 c
          ∧ r.2.mem ((c.tc : Thread Cert.DgateReferenceIdeal.nD Cert.DgateReferenceIdeal.τ).loc Cert.DgateReferenceIdeal.main_v30) = v3 c
          ∧ r.2.mem ((c.tc : Thread Cert.DgateReferenceIdeal.nD Cert.DgateReferenceIdeal.τ).loc Cert.DgateReferenceIdeal.main_v26) = v4 c
          ∧ r.2.mem ((c.tc : Thread Cert.DgateReferenceIdeal.nD Cert.DgateReferenceIdeal.τ).loc Cert.DgateReferenceIdeal.main_arg0) = m' ((c.tc : Thread Cert.DgateReferenceIdeal.nD Cert.DgateReferenceIdeal.τ).loc Cert.DgateReferenceIdeal.main_arg0)
          ∧ r.2.mem ((c.tc : Thread Cert.DgateReferenceIdeal.nD Cert.DgateReferenceIdeal.τ).loc Cert.DgateReferenceIdeal.main_arg1) = m' ((c.tc : Thread Cert.DgateReferenceIdeal.nD Cert.DgateReferenceIdeal.τ).loc Cert.DgateReferenceIdeal.main_arg1)
          ∧ r.2.mem ((c.tc : Thread Cert.DgateReferenceIdeal.nD Cert.DgateReferenceIdeal.τ).loc Cert.DgateReferenceIdeal.main_arg2) = m' ((c.tc : Thread Cert.DgateReferenceIdeal.nD Cert.DgateReferenceIdeal.τ).loc Cert.DgateReferenceIdeal.main_arg2)
          ∧ r.2.mem ((c.tc : Thread Cert.DgateReferenceIdeal.nD Cert.DgateReferenceIdeal.τ).loc Cert.DgateReferenceIdeal.main_arg3) = m' ((c.tc : Thread Cert.DgateReferenceIdeal.nD Cert.DgateReferenceIdeal.τ).loc Cert.DgateReferenceIdeal.main_arg3)
          ∧ r.2.mem ((c.tc : Thread Cert.DgateReferenceIdeal.nD Cert.DgateReferenceIdeal.τ).loc Cert.DgateReferenceIdeal.main_arg4) = m' ((c.tc : Thread Cert.DgateReferenceIdeal.nD Cert.DgateReferenceIdeal.τ).loc Cert.DgateReferenceIdeal.main_arg4)
          ∧ r.2.mem ((c.tc : Thread Cert.DgateReferenceIdeal.nD Cert.DgateReferenceIdeal.τ).loc Cert.DgateReferenceIdeal.main_arg5) = m' ((c.tc : Thread Cert.DgateReferenceIdeal.nD Cert.DgateReferenceIdeal.τ).loc Cert.DgateReferenceIdeal.main_arg5))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v8) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_Prepc_PrepcIdeal : Prop :=
  True

def algebraic_PrepcIdeal_PrepcReferenceIdeal [hPrepcIdeal : Cert.PrepcIdeal.Facts] [hPrepcReferenceIdeal : Cert.PrepcReferenceIdeal.Facts] : Prop :=
  ∀ (m : (ℓ : Loc Cert.PrepcIdeal.nD Cert.PrepcIdeal.τ Cert.PrepcIdeal.sig) → Buf (Elt Ideal) ℓ) (g : Dev Cert.PrepcIdeal.nD → PrngReg)
    (m' : (ℓ : Loc Cert.PrepcReferenceIdeal.nD Cert.PrepcReferenceIdeal.τ Cert.PrepcReferenceIdeal.sig) → Buf (Elt Ideal) ℓ) (g' : Dev Cert.PrepcReferenceIdeal.nD → PrngReg), Pre_PrepcIdeal m →
    (∀ c : Dev Cert.PrepcIdeal.nD,
      m' ((c.tc : Thread Cert.PrepcReferenceIdeal.nD Cert.PrepcReferenceIdeal.τ).loc Cert.PrepcReferenceIdeal.main_arg0) = m ((c.tc : Thread Cert.PrepcIdeal.nD Cert.PrepcIdeal.τ).loc Cert.PrepcIdeal.main_arg0)) →
    ∃ (v0 : (c : Dev Cert.PrepcIdeal.nD) → Buf (Elt Ideal) ((c.tc : Thread Cert.PrepcIdeal.nD Cert.PrepcIdeal.τ).loc Cert.PrepcIdeal.main_v1)) (v1 : (c : Dev Cert.PrepcIdeal.nD) → Buf (Elt Ideal) ((c.tc : Thread Cert.PrepcIdeal.nD Cert.PrepcIdeal.τ).loc Cert.PrepcIdeal.main_v2)) (v2 : (c : Dev Cert.PrepcIdeal.nD) → Buf (Elt Ideal) ((c.tc : Thread Cert.PrepcIdeal.nD Cert.PrepcIdeal.τ).loc Cert.PrepcIdeal.main_v3)),
      θ_run (Cert.PrepcIdeal.defs (F := Ideal)) (onTc (τ := Cert.PrepcIdeal.τ) (Cert.PrepcIdeal.main (F := Ideal))) ⟨m, fun _ => 0, g⟩ (fun r => ∀ c : Dev Cert.PrepcIdeal.nD,
          r.2.mem ((c.tc : Thread Cert.PrepcIdeal.nD Cert.PrepcIdeal.τ).loc Cert.PrepcIdeal.main_v1) = v0 c
          ∧ r.2.mem ((c.tc : Thread Cert.PrepcIdeal.nD Cert.PrepcIdeal.τ).loc Cert.PrepcIdeal.main_v2) = v1 c
          ∧ r.2.mem ((c.tc : Thread Cert.PrepcIdeal.nD Cert.PrepcIdeal.τ).loc Cert.PrepcIdeal.main_v3) = v2 c
          ∧ r.2.mem ((c.tc : Thread Cert.PrepcIdeal.nD Cert.PrepcIdeal.τ).loc Cert.PrepcIdeal.main_arg0) = m ((c.tc : Thread Cert.PrepcIdeal.nD Cert.PrepcIdeal.τ).loc Cert.PrepcIdeal.main_arg0))
      ∧ θ_run (Cert.PrepcReferenceIdeal.defs (F := Ideal)) (onTc (τ := Cert.PrepcReferenceIdeal.τ) (Cert.PrepcReferenceIdeal.main (F := Ideal))) ⟨m', fun _ => 0, g'⟩ (fun r => ∀ c : Dev Cert.PrepcReferenceIdeal.nD,
          r.2.mem ((c.tc : Thread Cert.PrepcReferenceIdeal.nD Cert.PrepcReferenceIdeal.τ).loc Cert.PrepcReferenceIdeal.main_v4) = v0 c
          ∧ r.2.mem ((c.tc : Thread Cert.PrepcReferenceIdeal.nD Cert.PrepcReferenceIdeal.τ).loc Cert.PrepcReferenceIdeal.main_v1) = v1 c
          ∧ r.2.mem ((c.tc : Thread Cert.PrepcReferenceIdeal.nD Cert.PrepcReferenceIdeal.τ).loc Cert.PrepcReferenceIdeal.main_v2) = v2 c
          ∧ r.2.mem ((c.tc : Thread Cert.PrepcReferenceIdeal.nD Cert.PrepcReferenceIdeal.τ).loc Cert.PrepcReferenceIdeal.main_arg0) = m' ((c.tc : Thread Cert.PrepcReferenceIdeal.nD Cert.PrepcReferenceIdeal.τ).loc Cert.PrepcReferenceIdeal.main_arg0))

def preserves_Postc_PostcIdeal : Prop :=
  True

def algebraic_PostcIdeal_PostcReferenceIdeal [hPostcIdeal : Cert.PostcIdeal.Facts] [hPostcReferenceIdeal : Cert.PostcReferenceIdeal.Facts] : Prop :=
  ∀ (m : (ℓ : Loc Cert.PostcIdeal.nD Cert.PostcIdeal.τ Cert.PostcIdeal.sig) → Buf (Elt Ideal) ℓ) (g : Dev Cert.PostcIdeal.nD → PrngReg)
    (m' : (ℓ : Loc Cert.PostcReferenceIdeal.nD Cert.PostcReferenceIdeal.τ Cert.PostcReferenceIdeal.sig) → Buf (Elt Ideal) ℓ) (g' : Dev Cert.PostcReferenceIdeal.nD → PrngReg), Pre_PostcIdeal m →
    (∀ c : Dev Cert.PostcIdeal.nD,
      m' ((c.tc : Thread Cert.PostcReferenceIdeal.nD Cert.PostcReferenceIdeal.τ).loc Cert.PostcReferenceIdeal.main_arg0) = m ((c.tc : Thread Cert.PostcIdeal.nD Cert.PostcIdeal.τ).loc Cert.PostcIdeal.main_arg0)
      ∧ m' ((c.tc : Thread Cert.PostcReferenceIdeal.nD Cert.PostcReferenceIdeal.τ).loc Cert.PostcReferenceIdeal.main_arg1) = m ((c.tc : Thread Cert.PostcIdeal.nD Cert.PostcIdeal.τ).loc Cert.PostcIdeal.main_arg1)
      ∧ m' ((c.tc : Thread Cert.PostcReferenceIdeal.nD Cert.PostcReferenceIdeal.τ).loc Cert.PostcReferenceIdeal.main_arg2) = m ((c.tc : Thread Cert.PostcIdeal.nD Cert.PostcIdeal.τ).loc Cert.PostcIdeal.main_arg2)
      ∧ m' ((c.tc : Thread Cert.PostcReferenceIdeal.nD Cert.PostcReferenceIdeal.τ).loc Cert.PostcReferenceIdeal.main_arg3) = m ((c.tc : Thread Cert.PostcIdeal.nD Cert.PostcIdeal.τ).loc Cert.PostcIdeal.main_arg3)
      ∧ m' ((c.tc : Thread Cert.PostcReferenceIdeal.nD Cert.PostcReferenceIdeal.τ).loc Cert.PostcReferenceIdeal.main_arg4) = m ((c.tc : Thread Cert.PostcIdeal.nD Cert.PostcIdeal.τ).loc Cert.PostcIdeal.main_arg4)) →
    ∃ (v0 : (c : Dev Cert.PostcIdeal.nD) → Buf (Elt Ideal) ((c.tc : Thread Cert.PostcIdeal.nD Cert.PostcIdeal.τ).loc Cert.PostcIdeal.main_v2)),
      θ_run (Cert.PostcIdeal.defs (F := Ideal)) (onTc (τ := Cert.PostcIdeal.τ) (Cert.PostcIdeal.main (F := Ideal))) ⟨m, fun _ => 0, g⟩ (fun r => ∀ c : Dev Cert.PostcIdeal.nD,
          r.2.mem ((c.tc : Thread Cert.PostcIdeal.nD Cert.PostcIdeal.τ).loc Cert.PostcIdeal.main_v2) = v0 c
          ∧ r.2.mem ((c.tc : Thread Cert.PostcIdeal.nD Cert.PostcIdeal.τ).loc Cert.PostcIdeal.main_arg0) = m ((c.tc : Thread Cert.PostcIdeal.nD Cert.PostcIdeal.τ).loc Cert.PostcIdeal.main_arg0)
          ∧ r.2.mem ((c.tc : Thread Cert.PostcIdeal.nD Cert.PostcIdeal.τ).loc Cert.PostcIdeal.main_arg1) = m ((c.tc : Thread Cert.PostcIdeal.nD Cert.PostcIdeal.τ).loc Cert.PostcIdeal.main_arg1)
          ∧ r.2.mem ((c.tc : Thread Cert.PostcIdeal.nD Cert.PostcIdeal.τ).loc Cert.PostcIdeal.main_arg2) = m ((c.tc : Thread Cert.PostcIdeal.nD Cert.PostcIdeal.τ).loc Cert.PostcIdeal.main_arg2)
          ∧ r.2.mem ((c.tc : Thread Cert.PostcIdeal.nD Cert.PostcIdeal.τ).loc Cert.PostcIdeal.main_arg3) = m ((c.tc : Thread Cert.PostcIdeal.nD Cert.PostcIdeal.τ).loc Cert.PostcIdeal.main_arg3)
          ∧ r.2.mem ((c.tc : Thread Cert.PostcIdeal.nD Cert.PostcIdeal.τ).loc Cert.PostcIdeal.main_arg4) = m ((c.tc : Thread Cert.PostcIdeal.nD Cert.PostcIdeal.τ).loc Cert.PostcIdeal.main_arg4))
      ∧ θ_run (Cert.PostcReferenceIdeal.defs (F := Ideal)) (onTc (τ := Cert.PostcReferenceIdeal.τ) (Cert.PostcReferenceIdeal.main (F := Ideal))) ⟨m', fun _ => 0, g'⟩ (fun r => ∀ c : Dev Cert.PostcReferenceIdeal.nD,
          r.2.mem ((c.tc : Thread Cert.PostcReferenceIdeal.nD Cert.PostcReferenceIdeal.τ).loc Cert.PostcReferenceIdeal.main_v9) = v0 c
          ∧ r.2.mem ((c.tc : Thread Cert.PostcReferenceIdeal.nD Cert.PostcReferenceIdeal.τ).loc Cert.PostcReferenceIdeal.main_arg0) = m' ((c.tc : Thread Cert.PostcReferenceIdeal.nD Cert.PostcReferenceIdeal.τ).loc Cert.PostcReferenceIdeal.main_arg0)
          ∧ r.2.mem ((c.tc : Thread Cert.PostcReferenceIdeal.nD Cert.PostcReferenceIdeal.τ).loc Cert.PostcReferenceIdeal.main_arg1) = m' ((c.tc : Thread Cert.PostcReferenceIdeal.nD Cert.PostcReferenceIdeal.τ).loc Cert.PostcReferenceIdeal.main_arg1)
          ∧ r.2.mem ((c.tc : Thread Cert.PostcReferenceIdeal.nD Cert.PostcReferenceIdeal.τ).loc Cert.PostcReferenceIdeal.main_arg2) = m' ((c.tc : Thread Cert.PostcReferenceIdeal.nD Cert.PostcReferenceIdeal.τ).loc Cert.PostcReferenceIdeal.main_arg2)
          ∧ r.2.mem ((c.tc : Thread Cert.PostcReferenceIdeal.nD Cert.PostcReferenceIdeal.τ).loc Cert.PostcReferenceIdeal.main_arg3) = m' ((c.tc : Thread Cert.PostcReferenceIdeal.nD Cert.PostcReferenceIdeal.τ).loc Cert.PostcReferenceIdeal.main_arg3)
          ∧ r.2.mem ((c.tc : Thread Cert.PostcReferenceIdeal.nD Cert.PostcReferenceIdeal.τ).loc Cert.PostcReferenceIdeal.main_arg4) = m' ((c.tc : Thread Cert.PostcReferenceIdeal.nD Cert.PostcReferenceIdeal.τ).loc Cert.PostcReferenceIdeal.main_arg4))

def preserves_Delta_DeltaIdeal : Prop :=
  True

def algebraic_DeltaIdeal_DeltaReferenceIdeal [hDeltaIdeal : Cert.DeltaIdeal.Facts] [hDeltaReferenceIdeal : Cert.DeltaReferenceIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaReferenceIdeal.nD Cert.DeltaReferenceIdeal.τ Cert.DeltaReferenceIdeal.sig) → Buf (Elt Ideal) ℓ) (g' : Dev Cert.DeltaReferenceIdeal.nD → PrngReg), Pre_DeltaIdeal m →
    (∀ c : Dev Cert.DeltaIdeal.nD,
      m' ((c.tc : Thread Cert.DeltaReferenceIdeal.nD Cert.DeltaReferenceIdeal.τ).loc Cert.DeltaReferenceIdeal.main_arg0) = m ((c.tc : Thread Cert.DeltaIdeal.nD Cert.DeltaIdeal.τ).loc Cert.DeltaIdeal.main_arg0)
      ∧ m' ((c.tc : Thread Cert.DeltaReferenceIdeal.nD Cert.DeltaReferenceIdeal.τ).loc Cert.DeltaReferenceIdeal.main_arg1) = m ((c.tc : Thread Cert.DeltaIdeal.nD Cert.DeltaIdeal.τ).loc Cert.DeltaIdeal.main_arg1)) →
    ∃ (v0 : (c : Dev Cert.DeltaIdeal.nD) → Buf (Elt Ideal) ((c.tc : Thread Cert.DeltaIdeal.nD Cert.DeltaIdeal.τ).loc Cert.DeltaIdeal.main_v2)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v2) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ θ_run (Cert.DeltaReferenceIdeal.defs (F := Ideal)) (onTc (τ := Cert.DeltaReferenceIdeal.τ) (Cert.DeltaReferenceIdeal.main (F := Ideal))) ⟨m', fun _ => 0, g'⟩ (fun r => ∀ c : Dev Cert.DeltaReferenceIdeal.nD,
          r.2.mem ((c.tc : Thread Cert.DeltaReferenceIdeal.nD Cert.DeltaReferenceIdeal.τ).loc Cert.DeltaReferenceIdeal.main_v2) = v0 c
          ∧ r.2.mem ((c.tc : Thread Cert.DeltaReferenceIdeal.nD Cert.DeltaReferenceIdeal.τ).loc Cert.DeltaReferenceIdeal.main_arg0) = m' ((c.tc : Thread Cert.DeltaReferenceIdeal.nD Cert.DeltaReferenceIdeal.τ).loc Cert.DeltaReferenceIdeal.main_arg0)
          ∧ r.2.mem ((c.tc : Thread Cert.DeltaReferenceIdeal.nD Cert.DeltaReferenceIdeal.τ).loc Cert.DeltaReferenceIdeal.main_arg1) = m' ((c.tc : Thread Cert.DeltaReferenceIdeal.nD Cert.DeltaReferenceIdeal.τ).loc Cert.DeltaReferenceIdeal.main_arg1))

def preserves_Ain_AinIdeal : Prop :=
  True

def algebraic_AinIdeal_AinReferenceIdeal [hAinIdeal : Cert.AinIdeal.Facts] [hAinReferenceIdeal : Cert.AinReferenceIdeal.Facts] : Prop :=
  ∀ (m : (ℓ : Loc Cert.AinIdeal.nD Cert.AinIdeal.τ Cert.AinIdeal.sig) → Buf (Elt Ideal) ℓ) (g : Dev Cert.AinIdeal.nD → PrngReg)
    (m' : (ℓ : Loc Cert.AinReferenceIdeal.nD Cert.AinReferenceIdeal.τ Cert.AinReferenceIdeal.sig) → Buf (Elt Ideal) ℓ) (g' : Dev Cert.AinReferenceIdeal.nD → PrngReg), Pre_AinIdeal m →
    (∀ c : Dev Cert.AinIdeal.nD,
      m' ((c.tc : Thread Cert.AinReferenceIdeal.nD Cert.AinReferenceIdeal.τ).loc Cert.AinReferenceIdeal.main_arg0) = m ((c.tc : Thread Cert.AinIdeal.nD Cert.AinIdeal.τ).loc Cert.AinIdeal.main_arg0)
      ∧ m' ((c.tc : Thread Cert.AinReferenceIdeal.nD Cert.AinReferenceIdeal.τ).loc Cert.AinReferenceIdeal.main_arg1) = m ((c.tc : Thread Cert.AinIdeal.nD Cert.AinIdeal.τ).loc Cert.AinIdeal.main_arg1)
      ∧ m' ((c.tc : Thread Cert.AinReferenceIdeal.nD Cert.AinReferenceIdeal.τ).loc Cert.AinReferenceIdeal.main_arg2) = m ((c.tc : Thread Cert.AinIdeal.nD Cert.AinIdeal.τ).loc Cert.AinIdeal.main_arg2)
      ∧ m' ((c.tc : Thread Cert.AinReferenceIdeal.nD Cert.AinReferenceIdeal.τ).loc Cert.AinReferenceIdeal.main_arg3) = m ((c.tc : Thread Cert.AinIdeal.nD Cert.AinIdeal.τ).loc Cert.AinIdeal.main_arg3)) →
    ∃ (v0 : (c : Dev Cert.AinIdeal.nD) → Buf (Elt Ideal) ((c.tc : Thread Cert.AinIdeal.nD Cert.AinIdeal.τ).loc Cert.AinIdeal.main_v5)) (v1 : (c : Dev Cert.AinIdeal.nD) → Buf (Elt Ideal) ((c.tc : Thread Cert.AinIdeal.nD Cert.AinIdeal.τ).loc Cert.AinIdeal.main_v6)) (v2 : (c : Dev Cert.AinIdeal.nD) → Buf (Elt Ideal) ((c.tc : Thread Cert.AinIdeal.nD Cert.AinIdeal.τ).loc Cert.AinIdeal.main_v7)),
      θ_run (Cert.AinIdeal.defs (F := Ideal)) (onTc (τ := Cert.AinIdeal.τ) (Cert.AinIdeal.main (F := Ideal))) ⟨m, fun _ => 0, g⟩ (fun r => ∀ c : Dev Cert.AinIdeal.nD,
          r.2.mem ((c.tc : Thread Cert.AinIdeal.nD Cert.AinIdeal.τ).loc Cert.AinIdeal.main_v5) = v0 c
          ∧ r.2.mem ((c.tc : Thread Cert.AinIdeal.nD Cert.AinIdeal.τ).loc Cert.AinIdeal.main_v6) = v1 c
          ∧ r.2.mem ((c.tc : Thread Cert.AinIdeal.nD Cert.AinIdeal.τ).loc Cert.AinIdeal.main_v7) = v2 c
          ∧ r.2.mem ((c.tc : Thread Cert.AinIdeal.nD Cert.AinIdeal.τ).loc Cert.AinIdeal.main_arg0) = m ((c.tc : Thread Cert.AinIdeal.nD Cert.AinIdeal.τ).loc Cert.AinIdeal.main_arg0)
          ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
          ∧ r.2.mem ((c.tc : Thread Cert.AinIdeal.nD Cert.AinIdeal.τ).loc Cert.AinIdeal.main_arg2) = m ((c.tc : Thread Cert.AinIdeal.nD Cert.AinIdeal.τ).loc Cert.AinIdeal.main_arg2)
          ∧ r.2.mem ((c.tc : Thread Cert.AinIdeal.nD Cert.AinIdeal.τ).loc Cert.AinIdeal.main_arg3) = m ((c.tc : Thread Cert.AinIdeal.nD Cert.AinIdeal.τ).loc Cert.AinIdeal.main_arg3))
      ∧ θ_run (Cert.AinReferenceIdeal.defs (F := Ideal)) (onTc (τ := Cert.AinReferenceIdeal.τ) (Cert.AinReferenceIdeal.main (F := Ideal))) ⟨m', fun _ => 0, g'⟩ (fun r => ∀ c : Dev Cert.AinReferenceIdeal.nD,
          r.2.mem ((c.tc : Thread Cert.AinReferenceIdeal.nD Cert.AinReferenceIdeal.τ).loc Cert.AinReferenceIdeal.main_v23) = v0 c
          ∧ r.2.mem ((c.tc : Thread Cert.AinReferenceIdeal.nD Cert.AinReferenceIdeal.τ).loc Cert.AinReferenceIdeal.main_v4) = v1 c
          ∧ r.2.mem ((c.tc : Thread Cert.AinReferenceIdeal.nD Cert.AinReferenceIdeal.τ).loc Cert.AinReferenceIdeal.main_v10) = v2 c
          ∧ r.2.mem ((c.tc : Thread Cert.AinReferenceIdeal.nD Cert.AinReferenceIdeal.τ).loc Cert.AinReferenceIdeal.main_arg0) = m' ((c.tc : Thread Cert.AinReferenceIdeal.nD Cert.AinReferenceIdeal.τ).loc Cert.AinReferenceIdeal.main_arg0)
          ∧ r.2.mem ((c.tc : Thread Cert.AinReferenceIdeal.nD Cert.AinReferenceIdeal.τ).loc Cert.AinReferenceIdeal.main_arg1) = m' ((c.tc : Thread Cert.AinReferenceIdeal.nD Cert.AinReferenceIdeal.τ).loc Cert.AinReferenceIdeal.main_arg1)
          ∧ r.2.mem ((c.tc : Thread Cert.AinReferenceIdeal.nD Cert.AinReferenceIdeal.τ).loc Cert.AinReferenceIdeal.main_arg2) = m' ((c.tc : Thread Cert.AinReferenceIdeal.nD Cert.AinReferenceIdeal.τ).loc Cert.AinReferenceIdeal.main_arg2)
          ∧ r.2.mem ((c.tc : Thread Cert.AinReferenceIdeal.nD Cert.AinReferenceIdeal.τ).loc Cert.AinReferenceIdeal.main_arg3) = m' ((c.tc : Thread Cert.AinReferenceIdeal.nD Cert.AinReferenceIdeal.τ).loc Cert.AinReferenceIdeal.main_arg3))

def preserves_Abra_AbraIdeal : Prop :=
  True

def algebraic_AbraIdeal_AbraReferenceIdeal [hAbraIdeal : Cert.AbraIdeal.Facts] [hAbraReferenceIdeal : Cert.AbraReferenceIdeal.Facts] : Prop :=
  ∀ (m : (ℓ : Loc Cert.AbraIdeal.nD Cert.AbraIdeal.τ Cert.AbraIdeal.sig) → Buf (Elt Ideal) ℓ) (g : Dev Cert.AbraIdeal.nD → PrngReg)
    (m' : (ℓ : Loc Cert.AbraReferenceIdeal.nD Cert.AbraReferenceIdeal.τ Cert.AbraReferenceIdeal.sig) → Buf (Elt Ideal) ℓ) (g' : Dev Cert.AbraReferenceIdeal.nD → PrngReg), Pre_AbraIdeal m →
    (∀ c : Dev Cert.AbraIdeal.nD,
      m' ((c.tc : Thread Cert.AbraReferenceIdeal.nD Cert.AbraReferenceIdeal.τ).loc Cert.AbraReferenceIdeal.main_arg0) = m ((c.tc : Thread Cert.AbraIdeal.nD Cert.AbraIdeal.τ).loc Cert.AbraIdeal.main_arg0)
      ∧ m' ((c.tc : Thread Cert.AbraReferenceIdeal.nD Cert.AbraReferenceIdeal.τ).loc Cert.AbraReferenceIdeal.main_arg1) = m ((c.tc : Thread Cert.AbraIdeal.nD Cert.AbraIdeal.τ).loc Cert.AbraIdeal.main_arg1)
      ∧ m' ((c.tc : Thread Cert.AbraReferenceIdeal.nD Cert.AbraReferenceIdeal.τ).loc Cert.AbraReferenceIdeal.main_arg2) = m ((c.tc : Thread Cert.AbraIdeal.nD Cert.AbraIdeal.τ).loc Cert.AbraIdeal.main_arg2)
      ∧ m' ((c.tc : Thread Cert.AbraReferenceIdeal.nD Cert.AbraReferenceIdeal.τ).loc Cert.AbraReferenceIdeal.main_arg3) = m ((c.tc : Thread Cert.AbraIdeal.nD Cert.AbraIdeal.τ).loc Cert.AbraIdeal.main_arg3)) →
    ∃ (v0 : (c : Dev Cert.AbraIdeal.nD) → Buf (Elt Ideal) ((c.tc : Thread Cert.AbraIdeal.nD Cert.AbraIdeal.τ).loc Cert.AbraIdeal.main_v5)) (v1 : (c : Dev Cert.AbraIdeal.nD) → Buf (Elt Ideal) ((c.tc : Thread Cert.AbraIdeal.nD Cert.AbraIdeal.τ).loc Cert.AbraIdeal.main_v6)) (v2 : (c : Dev Cert.AbraIdeal.nD) → Buf (Elt Ideal) ((c.tc : Thread Cert.AbraIdeal.nD Cert.AbraIdeal.τ).loc Cert.AbraIdeal.main_v7)),
      θ_run (Cert.AbraIdeal.defs (F := Ideal)) (onTc (τ := Cert.AbraIdeal.τ) (Cert.AbraIdeal.main (F := Ideal))) ⟨m, fun _ => 0, g⟩ (fun r => ∀ c : Dev Cert.AbraIdeal.nD,
          r.2.mem ((c.tc : Thread Cert.AbraIdeal.nD Cert.AbraIdeal.τ).loc Cert.AbraIdeal.main_v5) = v0 c
          ∧ r.2.mem ((c.tc : Thread Cert.AbraIdeal.nD Cert.AbraIdeal.τ).loc Cert.AbraIdeal.main_v6) = v1 c
          ∧ r.2.mem ((c.tc : Thread Cert.AbraIdeal.nD Cert.AbraIdeal.τ).loc Cert.AbraIdeal.main_v7) = v2 c
          ∧ r.2.mem ((c.tc : Thread Cert.AbraIdeal.nD Cert.AbraIdeal.τ).loc Cert.AbraIdeal.main_arg0) = m ((c.tc : Thread Cert.AbraIdeal.nD Cert.AbraIdeal.τ).loc Cert.AbraIdeal.main_arg0)
          ∧ r.2.mem ((c.tc : Thread Cert.AbraIdeal.nD Cert.AbraIdeal.τ).loc Cert.AbraIdeal.main_arg1) = m ((c.tc : Thread Cert.AbraIdeal.nD Cert.AbraIdeal.τ).loc Cert.AbraIdeal.main_arg1)
          ∧ r.2.mem ((c.tc : Thread Cert.AbraIdeal.nD Cert.AbraIdeal.τ).loc Cert.AbraIdeal.main_arg2) = m ((c.tc : Thread Cert.AbraIdeal.nD Cert.AbraIdeal.τ).loc Cert.AbraIdeal.main_arg2)
          ∧ r.2.mem ((c.tc : Thread Cert.AbraIdeal.nD Cert.AbraIdeal.τ).loc Cert.AbraIdeal.main_arg3) = m ((c.tc : Thread Cert.AbraIdeal.nD Cert.AbraIdeal.τ).loc Cert.AbraIdeal.main_arg3))
      ∧ θ_run (Cert.AbraReferenceIdeal.defs (F := Ideal)) (onTc (τ := Cert.AbraReferenceIdeal.τ) (Cert.AbraReferenceIdeal.main (F := Ideal))) ⟨m', fun _ => 0, g'⟩ (fun r => ∀ c : Dev Cert.AbraReferenceIdeal.nD,
          r.2.mem ((c.tc : Thread Cert.AbraReferenceIdeal.nD Cert.AbraReferenceIdeal.τ).loc Cert.AbraReferenceIdeal.main_v23) = v0 c
          ∧ r.2.mem ((c.tc : Thread Cert.AbraReferenceIdeal.nD Cert.AbraReferenceIdeal.τ).loc Cert.AbraReferenceIdeal.main_v4) = v1 c
          ∧ r.2.mem ((c.tc : Thread Cert.AbraReferenceIdeal.nD Cert.AbraReferenceIdeal.τ).loc Cert.AbraReferenceIdeal.main_v10) = v2 c
          ∧ r.2.mem ((c.tc : Thread Cert.AbraReferenceIdeal.nD Cert.AbraReferenceIdeal.τ).loc Cert.AbraReferenceIdeal.main_arg0) = m' ((c.tc : Thread Cert.AbraReferenceIdeal.nD Cert.AbraReferenceIdeal.τ).loc Cert.AbraReferenceIdeal.main_arg0)
          ∧ r.2.mem ((c.tc : Thread Cert.AbraReferenceIdeal.nD Cert.AbraReferenceIdeal.τ).loc Cert.AbraReferenceIdeal.main_arg1) = m' ((c.tc : Thread Cert.AbraReferenceIdeal.nD Cert.AbraReferenceIdeal.τ).loc Cert.AbraReferenceIdeal.main_arg1)
          ∧ r.2.mem ((c.tc : Thread Cert.AbraReferenceIdeal.nD Cert.AbraReferenceIdeal.τ).loc Cert.AbraReferenceIdeal.main_arg2) = m' ((c.tc : Thread Cert.AbraReferenceIdeal.nD Cert.AbraReferenceIdeal.τ).loc Cert.AbraReferenceIdeal.main_arg2)
          ∧ r.2.mem ((c.tc : Thread Cert.AbraReferenceIdeal.nD Cert.AbraReferenceIdeal.τ).loc Cert.AbraReferenceIdeal.main_arg3) = m' ((c.tc : Thread Cert.AbraReferenceIdeal.nD Cert.AbraReferenceIdeal.τ).loc Cert.AbraReferenceIdeal.main_arg3))

def preserves_Abrb_AbrbIdeal : Prop :=
  True

def algebraic_AbrbIdeal_AbrbReferenceIdeal [hAbrbIdeal : Cert.AbrbIdeal.Facts] [hAbrbReferenceIdeal : Cert.AbrbReferenceIdeal.Facts] : Prop :=
  ∀ (m : (ℓ : Loc Cert.AbrbIdeal.nD Cert.AbrbIdeal.τ Cert.AbrbIdeal.sig) → Buf (Elt Ideal) ℓ) (g : Dev Cert.AbrbIdeal.nD → PrngReg)
    (m' : (ℓ : Loc Cert.AbrbReferenceIdeal.nD Cert.AbrbReferenceIdeal.τ Cert.AbrbReferenceIdeal.sig) → Buf (Elt Ideal) ℓ) (g' : Dev Cert.AbrbReferenceIdeal.nD → PrngReg), Pre_AbrbIdeal m →
    (∀ c : Dev Cert.AbrbIdeal.nD,
      m' ((c.tc : Thread Cert.AbrbReferenceIdeal.nD Cert.AbrbReferenceIdeal.τ).loc Cert.AbrbReferenceIdeal.main_arg0) = m ((c.tc : Thread Cert.AbrbIdeal.nD Cert.AbrbIdeal.τ).loc Cert.AbrbIdeal.main_arg0)
      ∧ m' ((c.tc : Thread Cert.AbrbReferenceIdeal.nD Cert.AbrbReferenceIdeal.τ).loc Cert.AbrbReferenceIdeal.main_arg1) = m ((c.tc : Thread Cert.AbrbIdeal.nD Cert.AbrbIdeal.τ).loc Cert.AbrbIdeal.main_arg1)
      ∧ m' ((c.tc : Thread Cert.AbrbReferenceIdeal.nD Cert.AbrbReferenceIdeal.τ).loc Cert.AbrbReferenceIdeal.main_arg2) = m ((c.tc : Thread Cert.AbrbIdeal.nD Cert.AbrbIdeal.τ).loc Cert.AbrbIdeal.main_arg2)
      ∧ m' ((c.tc : Thread Cert.AbrbReferenceIdeal.nD Cert.AbrbReferenceIdeal.τ).loc Cert.AbrbReferenceIdeal.main_arg3) = m ((c.tc : Thread Cert.AbrbIdeal.nD Cert.AbrbIdeal.τ).loc Cert.AbrbIdeal.main_arg3)) →
    ∃ (v0 : (c : Dev Cert.AbrbIdeal.nD) → Buf (Elt Ideal) ((c.tc : Thread Cert.AbrbIdeal.nD Cert.AbrbIdeal.τ).loc Cert.AbrbIdeal.main_v5)) (v1 : (c : Dev Cert.AbrbIdeal.nD) → Buf (Elt Ideal) ((c.tc : Thread Cert.AbrbIdeal.nD Cert.AbrbIdeal.τ).loc Cert.AbrbIdeal.main_v6)) (v2 : (c : Dev Cert.AbrbIdeal.nD) → Buf (Elt Ideal) ((c.tc : Thread Cert.AbrbIdeal.nD Cert.AbrbIdeal.τ).loc Cert.AbrbIdeal.main_v7)),
      θ_run (Cert.AbrbIdeal.defs (F := Ideal)) (onTc (τ := Cert.AbrbIdeal.τ) (Cert.AbrbIdeal.main (F := Ideal))) ⟨m, fun _ => 0, g⟩ (fun r => ∀ c : Dev Cert.AbrbIdeal.nD,
          r.2.mem ((c.tc : Thread Cert.AbrbIdeal.nD Cert.AbrbIdeal.τ).loc Cert.AbrbIdeal.main_v5) = v0 c
          ∧ r.2.mem ((c.tc : Thread Cert.AbrbIdeal.nD Cert.AbrbIdeal.τ).loc Cert.AbrbIdeal.main_v6) = v1 c
          ∧ r.2.mem ((c.tc : Thread Cert.AbrbIdeal.nD Cert.AbrbIdeal.τ).loc Cert.AbrbIdeal.main_v7) = v2 c
          ∧ r.2.mem ((c.tc : Thread Cert.AbrbIdeal.nD Cert.AbrbIdeal.τ).loc Cert.AbrbIdeal.main_arg0) = m ((c.tc : Thread Cert.AbrbIdeal.nD Cert.AbrbIdeal.τ).loc Cert.AbrbIdeal.main_arg0)
          ∧ r.2.mem ((c.tc : Thread Cert.AbrbIdeal.nD Cert.AbrbIdeal.τ).loc Cert.AbrbIdeal.main_arg1) = m ((c.tc : Thread Cert.AbrbIdeal.nD Cert.AbrbIdeal.τ).loc Cert.AbrbIdeal.main_arg1)
          ∧ r.2.mem ((c.tc : Thread Cert.AbrbIdeal.nD Cert.AbrbIdeal.τ).loc Cert.AbrbIdeal.main_arg2) = m ((c.tc : Thread Cert.AbrbIdeal.nD Cert.AbrbIdeal.τ).loc Cert.AbrbIdeal.main_arg2)
          ∧ r.2.mem ((c.tc : Thread Cert.AbrbIdeal.nD Cert.AbrbIdeal.τ).loc Cert.AbrbIdeal.main_arg3) = m ((c.tc : Thread Cert.AbrbIdeal.nD Cert.AbrbIdeal.τ).loc Cert.AbrbIdeal.main_arg3))
      ∧ θ_run (Cert.AbrbReferenceIdeal.defs (F := Ideal)) (onTc (τ := Cert.AbrbReferenceIdeal.τ) (Cert.AbrbReferenceIdeal.main (F := Ideal))) ⟨m', fun _ => 0, g'⟩ (fun r => ∀ c : Dev Cert.AbrbReferenceIdeal.nD,
          r.2.mem ((c.tc : Thread Cert.AbrbReferenceIdeal.nD Cert.AbrbReferenceIdeal.τ).loc Cert.AbrbReferenceIdeal.main_v23) = v0 c
          ∧ r.2.mem ((c.tc : Thread Cert.AbrbReferenceIdeal.nD Cert.AbrbReferenceIdeal.τ).loc Cert.AbrbReferenceIdeal.main_v4) = v1 c
          ∧ r.2.mem ((c.tc : Thread Cert.AbrbReferenceIdeal.nD Cert.AbrbReferenceIdeal.τ).loc Cert.AbrbReferenceIdeal.main_v10) = v2 c
          ∧ r.2.mem ((c.tc : Thread Cert.AbrbReferenceIdeal.nD Cert.AbrbReferenceIdeal.τ).loc Cert.AbrbReferenceIdeal.main_arg0) = m' ((c.tc : Thread Cert.AbrbReferenceIdeal.nD Cert.AbrbReferenceIdeal.τ).loc Cert.AbrbReferenceIdeal.main_arg0)
          ∧ r.2.mem ((c.tc : Thread Cert.AbrbReferenceIdeal.nD Cert.AbrbReferenceIdeal.τ).loc Cert.AbrbReferenceIdeal.main_arg1) = m' ((c.tc : Thread Cert.AbrbReferenceIdeal.nD Cert.AbrbReferenceIdeal.τ).loc Cert.AbrbReferenceIdeal.main_arg1)
          ∧ r.2.mem ((c.tc : Thread Cert.AbrbReferenceIdeal.nD Cert.AbrbReferenceIdeal.τ).loc Cert.AbrbReferenceIdeal.main_arg2) = m' ((c.tc : Thread Cert.AbrbReferenceIdeal.nD Cert.AbrbReferenceIdeal.τ).loc Cert.AbrbReferenceIdeal.main_arg2)
          ∧ r.2.mem ((c.tc : Thread Cert.AbrbReferenceIdeal.nD Cert.AbrbReferenceIdeal.τ).loc Cert.AbrbReferenceIdeal.main_arg3) = m' ((c.tc : Thread Cert.AbrbReferenceIdeal.nD Cert.AbrbReferenceIdeal.τ).loc Cert.AbrbReferenceIdeal.main_arg3))

def preserves_Aout_AoutIdeal : Prop :=
  True

def algebraic_AoutIdeal_AoutReferenceIdeal [hAoutIdeal : Cert.AoutIdeal.Facts] [hAoutReferenceIdeal : Cert.AoutReferenceIdeal.Facts] : Prop :=
  ∀ (m : (ℓ : Loc Cert.AoutIdeal.nD Cert.AoutIdeal.τ Cert.AoutIdeal.sig) → Buf (Elt Ideal) ℓ) (g : Dev Cert.AoutIdeal.nD → PrngReg)
    (m' : (ℓ : Loc Cert.AoutReferenceIdeal.nD Cert.AoutReferenceIdeal.τ Cert.AoutReferenceIdeal.sig) → Buf (Elt Ideal) ℓ) (g' : Dev Cert.AoutReferenceIdeal.nD → PrngReg), Pre_AoutIdeal m →
    (∀ c : Dev Cert.AoutIdeal.nD,
      m' ((c.tc : Thread Cert.AoutReferenceIdeal.nD Cert.AoutReferenceIdeal.τ).loc Cert.AoutReferenceIdeal.main_arg0) = m ((c.tc : Thread Cert.AoutIdeal.nD Cert.AoutIdeal.τ).loc Cert.AoutIdeal.main_arg0)
      ∧ m' ((c.tc : Thread Cert.AoutReferenceIdeal.nD Cert.AoutReferenceIdeal.τ).loc Cert.AoutReferenceIdeal.main_arg1) = m ((c.tc : Thread Cert.AoutIdeal.nD Cert.AoutIdeal.τ).loc Cert.AoutIdeal.main_arg1)
      ∧ m' ((c.tc : Thread Cert.AoutReferenceIdeal.nD Cert.AoutReferenceIdeal.τ).loc Cert.AoutReferenceIdeal.main_arg2) = m ((c.tc : Thread Cert.AoutIdeal.nD Cert.AoutIdeal.τ).loc Cert.AoutIdeal.main_arg2)
      ∧ m' ((c.tc : Thread Cert.AoutReferenceIdeal.nD Cert.AoutReferenceIdeal.τ).loc Cert.AoutReferenceIdeal.main_arg3) = m ((c.tc : Thread Cert.AoutIdeal.nD Cert.AoutIdeal.τ).loc Cert.AoutIdeal.main_arg3)) →
    ∃ (v0 : (c : Dev Cert.AoutIdeal.nD) → Buf (Elt Ideal) ((c.tc : Thread Cert.AoutIdeal.nD Cert.AoutIdeal.τ).loc Cert.AoutIdeal.main_v5)) (v1 : (c : Dev Cert.AoutIdeal.nD) → Buf (Elt Ideal) ((c.tc : Thread Cert.AoutIdeal.nD Cert.AoutIdeal.τ).loc Cert.AoutIdeal.main_v6)) (v2 : (c : Dev Cert.AoutIdeal.nD) → Buf (Elt Ideal) ((c.tc : Thread Cert.AoutIdeal.nD Cert.AoutIdeal.τ).loc Cert.AoutIdeal.main_v7)),
      θ_run (Cert.AoutIdeal.defs (F := Ideal)) (onTc (τ := Cert.AoutIdeal.τ) (Cert.AoutIdeal.main (F := Ideal))) ⟨m, fun _ => 0, g⟩ (fun r => ∀ c : Dev Cert.AoutIdeal.nD,
          r.2.mem ((c.tc : Thread Cert.AoutIdeal.nD Cert.AoutIdeal.τ).loc Cert.AoutIdeal.main_v5) = v0 c
          ∧ r.2.mem ((c.tc : Thread Cert.AoutIdeal.nD Cert.AoutIdeal.τ).loc Cert.AoutIdeal.main_v6) = v1 c
          ∧ r.2.mem ((c.tc : Thread Cert.AoutIdeal.nD Cert.AoutIdeal.τ).loc Cert.AoutIdeal.main_v7) = v2 c
          ∧ r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
          ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1)
          ∧ r.2.mem ((c.tc : Thread Cert.AoutIdeal.nD Cert.AoutIdeal.τ).loc Cert.AoutIdeal.main_arg2) = m ((c.tc : Thread Cert.AoutIdeal.nD Cert.AoutIdeal.τ).loc Cert.AoutIdeal.main_arg2)
          ∧ r.2.mem ((c.tc : Thread Cert.AoutIdeal.nD Cert.AoutIdeal.τ).loc Cert.AoutIdeal.main_arg3) = m ((c.tc : Thread Cert.AoutIdeal.nD Cert.AoutIdeal.τ).loc Cert.AoutIdeal.main_arg3))
      ∧ θ_run (Cert.AoutReferenceIdeal.defs (F := Ideal)) (onTc (τ := Cert.AoutReferenceIdeal.τ) (Cert.AoutReferenceIdeal.main (F := Ideal))) ⟨m', fun _ => 0, g'⟩ (fun r => ∀ c : Dev Cert.AoutReferenceIdeal.nD,
          r.2.mem ((c.tc : Thread Cert.AoutReferenceIdeal.nD Cert.AoutReferenceIdeal.τ).loc Cert.AoutReferenceIdeal.main_v23) = v0 c
          ∧ r.2.mem ((c.tc : Thread Cert.AoutReferenceIdeal.nD Cert.AoutReferenceIdeal.τ).loc Cert.AoutReferenceIdeal.main_v4) = v1 c
          ∧ r.2.mem ((c.tc : Thread Cert.AoutReferenceIdeal.nD Cert.AoutReferenceIdeal.τ).loc Cert.AoutReferenceIdeal.main_v10) = v2 c
          ∧ r.2.mem ((c.tc : Thread Cert.AoutReferenceIdeal.nD Cert.AoutReferenceIdeal.τ).loc Cert.AoutReferenceIdeal.main_arg0) = m' ((c.tc : Thread Cert.AoutReferenceIdeal.nD Cert.AoutReferenceIdeal.τ).loc Cert.AoutReferenceIdeal.main_arg0)
          ∧ r.2.mem ((c.tc : Thread Cert.AoutReferenceIdeal.nD Cert.AoutReferenceIdeal.τ).loc Cert.AoutReferenceIdeal.main_arg1) = m' ((c.tc : Thread Cert.AoutReferenceIdeal.nD Cert.AoutReferenceIdeal.τ).loc Cert.AoutReferenceIdeal.main_arg1)
          ∧ r.2.mem ((c.tc : Thread Cert.AoutReferenceIdeal.nD Cert.AoutReferenceIdeal.τ).loc Cert.AoutReferenceIdeal.main_arg2) = m' ((c.tc : Thread Cert.AoutReferenceIdeal.nD Cert.AoutReferenceIdeal.τ).loc Cert.AoutReferenceIdeal.main_arg2)
          ∧ r.2.mem ((c.tc : Thread Cert.AoutReferenceIdeal.nD Cert.AoutReferenceIdeal.τ).loc Cert.AoutReferenceIdeal.main_arg3) = m' ((c.tc : Thread Cert.AoutReferenceIdeal.nD Cert.AoutReferenceIdeal.τ).loc Cert.AoutReferenceIdeal.main_arg3))

def preserves_Aup_AupIdeal : Prop :=
  True

def algebraic_AupIdeal_AupReferenceIdeal [hAupIdeal : Cert.AupIdeal.Facts] [hAupReferenceIdeal : Cert.AupReferenceIdeal.Facts] : Prop :=
  ∀ (m : (ℓ : Loc Cert.AupIdeal.nD Cert.AupIdeal.τ Cert.AupIdeal.sig) → Buf (Elt Ideal) ℓ) (g : Dev Cert.AupIdeal.nD → PrngReg)
    (m' : (ℓ : Loc Cert.AupReferenceIdeal.nD Cert.AupReferenceIdeal.τ Cert.AupReferenceIdeal.sig) → Buf (Elt Ideal) ℓ) (g' : Dev Cert.AupReferenceIdeal.nD → PrngReg), Pre_AupIdeal m →
    (∀ c : Dev Cert.AupIdeal.nD,
      m' ((c.tc : Thread Cert.AupReferenceIdeal.nD Cert.AupReferenceIdeal.τ).loc Cert.AupReferenceIdeal.main_arg0) = m ((c.tc : Thread Cert.AupIdeal.nD Cert.AupIdeal.τ).loc Cert.AupIdeal.main_arg0)
      ∧ m' ((c.tc : Thread Cert.AupReferenceIdeal.nD Cert.AupReferenceIdeal.τ).loc Cert.AupReferenceIdeal.main_arg1) = m ((c.tc : Thread Cert.AupIdeal.nD Cert.AupIdeal.τ).loc Cert.AupIdeal.main_arg1)
      ∧ m' ((c.tc : Thread Cert.AupReferenceIdeal.nD Cert.AupReferenceIdeal.τ).loc Cert.AupReferenceIdeal.main_arg2) = m ((c.tc : Thread Cert.AupIdeal.nD Cert.AupIdeal.τ).loc Cert.AupIdeal.main_arg2)
      ∧ m' ((c.tc : Thread Cert.AupReferenceIdeal.nD Cert.AupReferenceIdeal.τ).loc Cert.AupReferenceIdeal.main_arg3) = m ((c.tc : Thread Cert.AupIdeal.nD Cert.AupIdeal.τ).loc Cert.AupIdeal.main_arg3)) →
    ∃ (v0 : (c : Dev Cert.AupIdeal.nD) → Buf (Elt Ideal) ((c.tc : Thread Cert.AupIdeal.nD Cert.AupIdeal.τ).loc Cert.AupIdeal.main_v5)) (v1 : (c : Dev Cert.AupIdeal.nD) → Buf (Elt Ideal) ((c.tc : Thread Cert.AupIdeal.nD Cert.AupIdeal.τ).loc Cert.AupIdeal.main_v6)) (v2 : (c : Dev Cert.AupIdeal.nD) → Buf (Elt Ideal) ((c.tc : Thread Cert.AupIdeal.nD Cert.AupIdeal.τ).loc Cert.AupIdeal.main_v7)),
      θ_run (Cert.AupIdeal.defs (F := Ideal)) (onTc (τ := Cert.AupIdeal.τ) (Cert.AupIdeal.main (F := Ideal))) ⟨m, fun _ => 0, g⟩ (fun r => ∀ c : Dev Cert.AupIdeal.nD,
          r.2.mem ((c.tc : Thread Cert.AupIdeal.nD Cert.AupIdeal.τ).loc Cert.AupIdeal.main_v5) = v0 c
          ∧ r.2.mem ((c.tc : Thread Cert.AupIdeal.nD Cert.AupIdeal.τ).loc Cert.AupIdeal.main_v6) = v1 c
          ∧ r.2.mem ((c.tc : Thread Cert.AupIdeal.nD Cert.AupIdeal.τ).loc Cert.AupIdeal.main_v7) = v2 c
          ∧ r.2.mem ((c.tc : Thread Cert.AupIdeal.nD Cert.AupIdeal.τ).loc Cert.AupIdeal.main_arg0) = m ((c.tc : Thread Cert.AupIdeal.nD Cert.AupIdeal.τ).loc Cert.AupIdeal.main_arg0)
          ∧ r.2.mem ((c.tc : Thread Cert.AupIdeal.nD Cert.AupIdeal.τ).loc Cert.AupIdeal.main_arg1) = m ((c.tc : Thread Cert.AupIdeal.nD Cert.AupIdeal.τ).loc Cert.AupIdeal.main_arg1)
          ∧ r.2.mem ((c.tc : Thread Cert.AupIdeal.nD Cert.AupIdeal.τ).loc Cert.AupIdeal.main_arg2) = m ((c.tc : Thread Cert.AupIdeal.nD Cert.AupIdeal.τ).loc Cert.AupIdeal.main_arg2)
          ∧ r.2.mem ((c.tc : Thread Cert.AupIdeal.nD Cert.AupIdeal.τ).loc Cert.AupIdeal.main_arg3) = m ((c.tc : Thread Cert.AupIdeal.nD Cert.AupIdeal.τ).loc Cert.AupIdeal.main_arg3))
      ∧ θ_run (Cert.AupReferenceIdeal.defs (F := Ideal)) (onTc (τ := Cert.AupReferenceIdeal.τ) (Cert.AupReferenceIdeal.main (F := Ideal))) ⟨m', fun _ => 0, g'⟩ (fun r => ∀ c : Dev Cert.AupReferenceIdeal.nD,
          r.2.mem ((c.tc : Thread Cert.AupReferenceIdeal.nD Cert.AupReferenceIdeal.τ).loc Cert.AupReferenceIdeal.main_v23) = v0 c
          ∧ r.2.mem ((c.tc : Thread Cert.AupReferenceIdeal.nD Cert.AupReferenceIdeal.τ).loc Cert.AupReferenceIdeal.main_v4) = v1 c
          ∧ r.2.mem ((c.tc : Thread Cert.AupReferenceIdeal.nD Cert.AupReferenceIdeal.τ).loc Cert.AupReferenceIdeal.main_v10) = v2 c
          ∧ r.2.mem ((c.tc : Thread Cert.AupReferenceIdeal.nD Cert.AupReferenceIdeal.τ).loc Cert.AupReferenceIdeal.main_arg0) = m' ((c.tc : Thread Cert.AupReferenceIdeal.nD Cert.AupReferenceIdeal.τ).loc Cert.AupReferenceIdeal.main_arg0)
          ∧ r.2.mem ((c.tc : Thread Cert.AupReferenceIdeal.nD Cert.AupReferenceIdeal.τ).loc Cert.AupReferenceIdeal.main_arg1) = m' ((c.tc : Thread Cert.AupReferenceIdeal.nD Cert.AupReferenceIdeal.τ).loc Cert.AupReferenceIdeal.main_arg1)
          ∧ r.2.mem ((c.tc : Thread Cert.AupReferenceIdeal.nD Cert.AupReferenceIdeal.τ).loc Cert.AupReferenceIdeal.main_arg2) = m' ((c.tc : Thread Cert.AupReferenceIdeal.nD Cert.AupReferenceIdeal.τ).loc Cert.AupReferenceIdeal.main_arg2)
          ∧ r.2.mem ((c.tc : Thread Cert.AupReferenceIdeal.nD Cert.AupReferenceIdeal.τ).loc Cert.AupReferenceIdeal.main_arg3) = m' ((c.tc : Thread Cert.AupReferenceIdeal.nD Cert.AupReferenceIdeal.τ).loc Cert.AupReferenceIdeal.main_arg3))

def preserves_Asmall_AsmallIdeal : Prop :=
  True

def algebraic_AsmallIdeal_AsmallReferenceIdeal [hAsmallIdeal : Cert.AsmallIdeal.Facts] [hAsmallReferenceIdeal : Cert.AsmallReferenceIdeal.Facts] : Prop :=
  ∀ (m : (ℓ : Loc Cert.AsmallIdeal.nD Cert.AsmallIdeal.τ Cert.AsmallIdeal.sig) → Buf (Elt Ideal) ℓ) (g : Dev Cert.AsmallIdeal.nD → PrngReg)
    (m' : (ℓ : Loc Cert.AsmallReferenceIdeal.nD Cert.AsmallReferenceIdeal.τ Cert.AsmallReferenceIdeal.sig) → Buf (Elt Ideal) ℓ) (g' : Dev Cert.AsmallReferenceIdeal.nD → PrngReg), Pre_AsmallIdeal m →
    (∀ c : Dev Cert.AsmallIdeal.nD,
      m' ((c.tc : Thread Cert.AsmallReferenceIdeal.nD Cert.AsmallReferenceIdeal.τ).loc Cert.AsmallReferenceIdeal.main_arg0) = m ((c.tc : Thread Cert.AsmallIdeal.nD Cert.AsmallIdeal.τ).loc Cert.AsmallIdeal.main_arg0)
      ∧ m' ((c.tc : Thread Cert.AsmallReferenceIdeal.nD Cert.AsmallReferenceIdeal.τ).loc Cert.AsmallReferenceIdeal.main_arg1) = m ((c.tc : Thread Cert.AsmallIdeal.nD Cert.AsmallIdeal.τ).loc Cert.AsmallIdeal.main_arg1)
      ∧ m' ((c.tc : Thread Cert.AsmallReferenceIdeal.nD Cert.AsmallReferenceIdeal.τ).loc Cert.AsmallReferenceIdeal.main_arg2) = m ((c.tc : Thread Cert.AsmallIdeal.nD Cert.AsmallIdeal.τ).loc Cert.AsmallIdeal.main_arg2)
      ∧ m' ((c.tc : Thread Cert.AsmallReferenceIdeal.nD Cert.AsmallReferenceIdeal.τ).loc Cert.AsmallReferenceIdeal.main_arg3) = m ((c.tc : Thread Cert.AsmallIdeal.nD Cert.AsmallIdeal.τ).loc Cert.AsmallIdeal.main_arg3)) →
    ∃ (v0 : (c : Dev Cert.AsmallIdeal.nD) → Buf (Elt Ideal) ((c.tc : Thread Cert.AsmallIdeal.nD Cert.AsmallIdeal.τ).loc Cert.AsmallIdeal.main_v0_0)) (v1 : (c : Dev Cert.AsmallIdeal.nD) → Buf (Elt Ideal) ((c.tc : Thread Cert.AsmallIdeal.nD Cert.AsmallIdeal.τ).loc Cert.AsmallIdeal.main_v0_1)) (v2 : (c : Dev Cert.AsmallIdeal.nD) → Buf (Elt Ideal) ((c.tc : Thread Cert.AsmallIdeal.nD Cert.AsmallIdeal.τ).loc Cert.AsmallIdeal.main_v0_2)),
      θ_run (Cert.AsmallIdeal.defs (F := Ideal)) (onTc (τ := Cert.AsmallIdeal.τ) (Cert.AsmallIdeal.main (F := Ideal))) ⟨m, fun _ => 0, g⟩ (fun r => ∀ c : Dev Cert.AsmallIdeal.nD,
          r.2.mem ((c.tc : Thread Cert.AsmallIdeal.nD Cert.AsmallIdeal.τ).loc Cert.AsmallIdeal.main_v0_0) = v0 c
          ∧ r.2.mem ((c.tc : Thread Cert.AsmallIdeal.nD Cert.AsmallIdeal.τ).loc Cert.AsmallIdeal.main_v0_1) = v1 c
          ∧ r.2.mem ((c.tc : Thread Cert.AsmallIdeal.nD Cert.AsmallIdeal.τ).loc Cert.AsmallIdeal.main_v0_2) = v2 c
          ∧ r.2.mem ((c.tc : Thread Cert.AsmallIdeal.nD Cert.AsmallIdeal.τ).loc Cert.AsmallIdeal.main_arg0) = m ((c.tc : Thread Cert.AsmallIdeal.nD Cert.AsmallIdeal.τ).loc Cert.AsmallIdeal.main_arg0)
          ∧ r.2.mem ((c.tc : Thread Cert.AsmallIdeal.nD Cert.AsmallIdeal.τ).loc Cert.AsmallIdeal.main_arg1) = m ((c.tc : Thread Cert.AsmallIdeal.nD Cert.AsmallIdeal.τ).loc Cert.AsmallIdeal.main_arg1)
          ∧ r.2.mem ((c.tc : Thread Cert.AsmallIdeal.nD Cert.AsmallIdeal.τ).loc Cert.AsmallIdeal.main_arg2) = m ((c.tc : Thread Cert.AsmallIdeal.nD Cert.AsmallIdeal.τ).loc Cert.AsmallIdeal.main_arg2)
          ∧ r.2.mem ((c.tc : Thread Cert.AsmallIdeal.nD Cert.AsmallIdeal.τ).loc Cert.AsmallIdeal.main_arg3) = m ((c.tc : Thread Cert.AsmallIdeal.nD Cert.AsmallIdeal.τ).loc Cert.AsmallIdeal.main_arg3))
      ∧ θ_run (Cert.AsmallReferenceIdeal.defs (F := Ideal)) (onTc (τ := Cert.AsmallReferenceIdeal.τ) (Cert.AsmallReferenceIdeal.main (F := Ideal))) ⟨m', fun _ => 0, g'⟩ (fun r => ∀ c : Dev Cert.AsmallReferenceIdeal.nD,
          r.2.mem ((c.tc : Thread Cert.AsmallReferenceIdeal.nD Cert.AsmallReferenceIdeal.τ).loc Cert.AsmallReferenceIdeal.main_v23) = v0 c
          ∧ r.2.mem ((c.tc : Thread Cert.AsmallReferenceIdeal.nD Cert.AsmallReferenceIdeal.τ).loc Cert.AsmallReferenceIdeal.main_v4) = v1 c
          ∧ r.2.mem ((c.tc : Thread Cert.AsmallReferenceIdeal.nD Cert.AsmallReferenceIdeal.τ).loc Cert.AsmallReferenceIdeal.main_v10) = v2 c
          ∧ r.2.mem ((c.tc : Thread Cert.AsmallReferenceIdeal.nD Cert.AsmallReferenceIdeal.τ).loc Cert.AsmallReferenceIdeal.main_arg0) = m' ((c.tc : Thread Cert.AsmallReferenceIdeal.nD Cert.AsmallReferenceIdeal.τ).loc Cert.AsmallReferenceIdeal.main_arg0)
          ∧ r.2.mem ((c.tc : Thread Cert.AsmallReferenceIdeal.nD Cert.AsmallReferenceIdeal.τ).loc Cert.AsmallReferenceIdeal.main_arg1) = m' ((c.tc : Thread Cert.AsmallReferenceIdeal.nD Cert.AsmallReferenceIdeal.τ).loc Cert.AsmallReferenceIdeal.main_arg1)
          ∧ r.2.mem ((c.tc : Thread Cert.AsmallReferenceIdeal.nD Cert.AsmallReferenceIdeal.τ).loc Cert.AsmallReferenceIdeal.main_arg2) = m' ((c.tc : Thread Cert.AsmallReferenceIdeal.nD Cert.AsmallReferenceIdeal.τ).loc Cert.AsmallReferenceIdeal.main_arg2)
          ∧ r.2.mem ((c.tc : Thread Cert.AsmallReferenceIdeal.nD Cert.AsmallReferenceIdeal.τ).loc Cert.AsmallReferenceIdeal.main_arg3) = m' ((c.tc : Thread Cert.AsmallReferenceIdeal.nD Cert.AsmallReferenceIdeal.τ).loc Cert.AsmallReferenceIdeal.main_arg3))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdReferenceIdeal : Cert.FwdReferenceIdeal.Facts) (hUp : Cert.Up.Facts) (hUpIdeal : Cert.UpIdeal.Facts) (hUpReferenceIdeal : Cert.UpReferenceIdeal.Facts) (hGdown : Cert.Gdown.Facts) (hGdownIdeal : Cert.GdownIdeal.Facts) (hGdownReferenceIdeal : Cert.GdownReferenceIdeal.Facts) (hDln : Cert.Dln.Facts) (hDlnIdeal : Cert.DlnIdeal.Facts) (hDlnReferenceIdeal : Cert.DlnReferenceIdeal.Facts) (hPrepb : Cert.Prepb.Facts) (hPrepbIdeal : Cert.PrepbIdeal.Facts) (hPrepbReferenceIdeal : Cert.PrepbReferenceIdeal.Facts) (hGup : Cert.Gup.Facts) (hGupIdeal : Cert.GupIdeal.Facts) (hGupReferenceIdeal : Cert.GupReferenceIdeal.Facts) (hDx1 : Cert.Dx1.Facts) (hDx1Ideal : Cert.Dx1Ideal.Facts) (hDx1ReferenceIdeal : Cert.Dx1ReferenceIdeal.Facts) (hIn : Cert.In.Facts) (hInIdeal : Cert.InIdeal.Facts) (hInReferenceIdeal : Cert.InReferenceIdeal.Facts) (hGinq : Cert.Ginq.Facts) (hGinqIdeal : Cert.GinqIdeal.Facts) (hGinqReferenceIdeal : Cert.GinqReferenceIdeal.Facts) (hGing : Cert.Ging.Facts) (hGingIdeal : Cert.GingIdeal.Facts) (hGingReferenceIdeal : Cert.GingReferenceIdeal.Facts) (hDxq : Cert.Dxq.Facts) (hDxqIdeal : Cert.DxqIdeal.Facts) (hDxqReferenceIdeal : Cert.DxqReferenceIdeal.Facts) (hDxg : Cert.Dxg.Facts) (hDxgIdeal : Cert.DxgIdeal.Facts) (hDxgReferenceIdeal : Cert.DxgReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hDmix : Cert.Dmix.Facts) (hDmixIdeal : Cert.DmixIdeal.Facts) (hDmixReferenceIdeal : Cert.DmixReferenceIdeal.Facts) (hBranch : Cert.Branch.Facts) (hBranchIdeal : Cert.BranchIdeal.Facts) (hBranchReferenceIdeal : Cert.BranchReferenceIdeal.Facts) (hGout : Cert.Gout.Facts) (hGoutIdeal : Cert.GoutIdeal.Facts) (hGoutReferenceIdeal : Cert.GoutReferenceIdeal.Facts) (hGbra : Cert.Gbra.Facts) (hGbraIdeal : Cert.GbraIdeal.Facts) (hGbraReferenceIdeal : Cert.GbraReferenceIdeal.Facts) (hGbrb : Cert.Gbrb.Facts) (hGbrbIdeal : Cert.GbrbIdeal.Facts) (hGbrbReferenceIdeal : Cert.GbrbReferenceIdeal.Facts) (hGbrc : Cert.Gbrc.Facts) (hGbrcIdeal : Cert.GbrcIdeal.Facts) (hGbrcReferenceIdeal : Cert.GbrcReferenceIdeal.Facts) (hGate : Cert.Gate.Facts) (hGateIdeal : Cert.GateIdeal.Facts) (hGateReferenceIdeal : Cert.GateReferenceIdeal.Facts) (hDgate : Cert.Dgate.Facts) (hDgateIdeal : Cert.DgateIdeal.Facts) (hDgateReferenceIdeal : Cert.DgateReferenceIdeal.Facts) (hLoss : Cert.Loss.Facts) (hLossIdeal : Cert.LossIdeal.Facts) (hLossReferenceIdeal : Cert.LossReferenceIdeal.Facts) (hPrepc : Cert.Prepc.Facts) (hPrepcIdeal : Cert.PrepcIdeal.Facts) (hPrepcReferenceIdeal : Cert.PrepcReferenceIdeal.Facts) (hPostc : Cert.Postc.Facts) (hPostcIdeal : Cert.PostcIdeal.Facts) (hPostcReferenceIdeal : Cert.PostcReferenceIdeal.Facts) (hDelta : Cert.Delta.Facts) (hDeltaIdeal : Cert.DeltaIdeal.Facts) (hDeltaReferenceIdeal : Cert.DeltaReferenceIdeal.Facts) (hAin : Cert.Ain.Facts) (hAinIdeal : Cert.AinIdeal.Facts) (hAinReferenceIdeal : Cert.AinReferenceIdeal.Facts) (hAbra : Cert.Abra.Facts) (hAbraIdeal : Cert.AbraIdeal.Facts) (hAbraReferenceIdeal : Cert.AbraReferenceIdeal.Facts) (hAbrb : Cert.Abrb.Facts) (hAbrbIdeal : Cert.AbrbIdeal.Facts) (hAbrbReferenceIdeal : Cert.AbrbReferenceIdeal.Facts) (hAout : Cert.Aout.Facts) (hAoutIdeal : Cert.AoutIdeal.Facts) (hAoutReferenceIdeal : Cert.AoutReferenceIdeal.Facts) (hAup : Cert.Aup.Facts) (hAupIdeal : Cert.AupIdeal.Facts) (hAupReferenceIdeal : Cert.AupReferenceIdeal.Facts) (hAsmall : Cert.Asmall.Facts) (hAsmallIdeal : Cert.AsmallIdeal.Facts) (hAsmallReferenceIdeal : Cert.AsmallReferenceIdeal.Facts) (hPre_finite : Cert.Pre_finite.Facts) (hPre_finite_qkv : Cert.Pre_finite_qkv.Facts) (hPre_finite_ln : Cert.Pre_finite_ln.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fwd (hFwd := hFwd)
    ∧ quiescent_FwdIdeal (hFwdIdeal := hFwdIdeal)
    ∧ quiescent_FwdIdeal_pre_finite_qkv (hFwdIdeal := hFwdIdeal) (hPre_finite_qkv := hPre_finite_qkv)
    ∧ quiescent_FwdReferenceIdeal (hFwdReferenceIdeal := hFwdReferenceIdeal)
    ∧ quiescent_FwdReferenceIdeal_pre_finite_qkv (hFwdReferenceIdeal := hFwdReferenceIdeal) (hPre_finite_qkv := hPre_finite_qkv)
    ∧ quiescent_Up (hUp := hUp)
    ∧ quiescent_UpIdeal (hUpIdeal := hUpIdeal)
    ∧ quiescent_UpReferenceIdeal (hUpReferenceIdeal := hUpReferenceIdeal)
    ∧ quiescent_Gdown (hGdown := hGdown)
    ∧ quiescent_GdownIdeal (hGdownIdeal := hGdownIdeal)
    ∧ quiescent_GdownReferenceIdeal (hGdownReferenceIdeal := hGdownReferenceIdeal)
    ∧ quiescent_Dln (hDln := hDln)
    ∧ quiescent_DlnIdeal (hDlnIdeal := hDlnIdeal)
    ∧ quiescent_DlnIdeal_pre_finite_ln (hDlnIdeal := hDlnIdeal) (hPre_finite_ln := hPre_finite_ln)
    ∧ quiescent_DlnReferenceIdeal (hDlnReferenceIdeal := hDlnReferenceIdeal)
    ∧ quiescent_DlnReferenceIdeal_pre_finite_ln (hDlnReferenceIdeal := hDlnReferenceIdeal) (hPre_finite_ln := hPre_finite_ln)
    ∧ quiescent_Prepb (hPrepb := hPrepb)
    ∧ quiescent_PrepbIdeal (hPrepbIdeal := hPrepbIdeal)
    ∧ quiescent_PrepbIdeal_pre_finite_qk (hPrepbIdeal := hPrepbIdeal) (hPre_finite_qk := hPre_finite_qk)
    ∧ quiescent_PrepbReferenceIdeal (hPrepbReferenceIdeal := hPrepbReferenceIdeal)
    ∧ quiescent_PrepbReferenceIdeal_pre_finite_qk (hPrepbReferenceIdeal := hPrepbReferenceIdeal) (hPre_finite_qk := hPre_finite_qk)
    ∧ quiescent_Gup (hGup := hGup)
    ∧ quiescent_GupIdeal (hGupIdeal := hGupIdeal)
    ∧ quiescent_GupReferenceIdeal (hGupReferenceIdeal := hGupReferenceIdeal)
    ∧ quiescent_Dx1 (hDx1 := hDx1)
    ∧ quiescent_Dx1Ideal (hDx1Ideal := hDx1Ideal)
    ∧ quiescent_Dx1ReferenceIdeal (hDx1ReferenceIdeal := hDx1ReferenceIdeal)
    ∧ quiescent_In (hIn := hIn)
    ∧ quiescent_InIdeal (hInIdeal := hInIdeal)
    ∧ quiescent_InReferenceIdeal (hInReferenceIdeal := hInReferenceIdeal)
    ∧ quiescent_Ginq (hGinq := hGinq)
    ∧ quiescent_GinqIdeal (hGinqIdeal := hGinqIdeal)
    ∧ quiescent_GinqReferenceIdeal (hGinqReferenceIdeal := hGinqReferenceIdeal)
    ∧ quiescent_Ging (hGing := hGing)
    ∧ quiescent_GingIdeal (hGingIdeal := hGingIdeal)
    ∧ quiescent_GingReferenceIdeal (hGingReferenceIdeal := hGingReferenceIdeal)
    ∧ quiescent_Dxq (hDxq := hDxq)
    ∧ quiescent_DxqIdeal (hDxqIdeal := hDxqIdeal)
    ∧ quiescent_DxqReferenceIdeal (hDxqReferenceIdeal := hDxqReferenceIdeal)
    ∧ quiescent_Dxg (hDxg := hDxg)
    ∧ quiescent_DxgIdeal (hDxgIdeal := hDxgIdeal)
    ∧ quiescent_DxgReferenceIdeal (hDxgReferenceIdeal := hDxgReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_Dmix (hDmix := hDmix)
    ∧ quiescent_DmixIdeal (hDmixIdeal := hDmixIdeal)
    ∧ quiescent_DmixReferenceIdeal (hDmixReferenceIdeal := hDmixReferenceIdeal)
    ∧ quiescent_Branch (hBranch := hBranch)
    ∧ quiescent_BranchIdeal (hBranchIdeal := hBranchIdeal)
    ∧ quiescent_BranchReferenceIdeal (hBranchReferenceIdeal := hBranchReferenceIdeal)
    ∧ quiescent_Gout (hGout := hGout)
    ∧ quiescent_GoutIdeal (hGoutIdeal := hGoutIdeal)
    ∧ quiescent_GoutReferenceIdeal (hGoutReferenceIdeal := hGoutReferenceIdeal)
    ∧ quiescent_Gbra (hGbra := hGbra)
    ∧ quiescent_GbraIdeal (hGbraIdeal := hGbraIdeal)
    ∧ quiescent_GbraReferenceIdeal (hGbraReferenceIdeal := hGbraReferenceIdeal)
    ∧ quiescent_Gbrb (hGbrb := hGbrb)
    ∧ quiescent_GbrbIdeal (hGbrbIdeal := hGbrbIdeal)
    ∧ quiescent_GbrbReferenceIdeal (hGbrbReferenceIdeal := hGbrbReferenceIdeal)
    ∧ quiescent_Gbrc (hGbrc := hGbrc)
    ∧ quiescent_GbrcIdeal (hGbrcIdeal := hGbrcIdeal)
    ∧ quiescent_GbrcReferenceIdeal (hGbrcReferenceIdeal := hGbrcReferenceIdeal)
    ∧ quiescent_Gate (hGate := hGate)
    ∧ quiescent_GateIdeal (hGateIdeal := hGateIdeal)
    ∧ quiescent_GateReferenceIdeal (hGateReferenceIdeal := hGateReferenceIdeal)
    ∧ quiescent_Dgate (hDgate := hDgate)
    ∧ quiescent_DgateIdeal (hDgateIdeal := hDgateIdeal)
    ∧ quiescent_DgateReferenceIdeal (hDgateReferenceIdeal := hDgateReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Prepc (hPrepc := hPrepc)
    ∧ quiescent_PrepcIdeal (hPrepcIdeal := hPrepcIdeal)
    ∧ quiescent_PrepcReferenceIdeal (hPrepcReferenceIdeal := hPrepcReferenceIdeal)
    ∧ quiescent_Postc (hPostc := hPostc)
    ∧ quiescent_PostcIdeal (hPostcIdeal := hPostcIdeal)
    ∧ quiescent_PostcReferenceIdeal (hPostcReferenceIdeal := hPostcReferenceIdeal)
    ∧ quiescent_Delta (hDelta := hDelta)
    ∧ quiescent_DeltaIdeal (hDeltaIdeal := hDeltaIdeal)
    ∧ quiescent_DeltaReferenceIdeal (hDeltaReferenceIdeal := hDeltaReferenceIdeal)
    ∧ quiescent_Ain (hAin := hAin)
    ∧ quiescent_AinIdeal (hAinIdeal := hAinIdeal)
    ∧ quiescent_AinReferenceIdeal (hAinReferenceIdeal := hAinReferenceIdeal)
    ∧ quiescent_Abra (hAbra := hAbra)
    ∧ quiescent_AbraIdeal (hAbraIdeal := hAbraIdeal)
    ∧ quiescent_AbraReferenceIdeal (hAbraReferenceIdeal := hAbraReferenceIdeal)
    ∧ quiescent_Abrb (hAbrb := hAbrb)
    ∧ quiescent_AbrbIdeal (hAbrbIdeal := hAbrbIdeal)
    ∧ quiescent_AbrbReferenceIdeal (hAbrbReferenceIdeal := hAbrbReferenceIdeal)
    ∧ quiescent_Aout (hAout := hAout)
    ∧ quiescent_AoutIdeal (hAoutIdeal := hAoutIdeal)
    ∧ quiescent_AoutReferenceIdeal (hAoutReferenceIdeal := hAoutReferenceIdeal)
    ∧ quiescent_Aup (hAup := hAup)
    ∧ quiescent_AupIdeal (hAupIdeal := hAupIdeal)
    ∧ quiescent_AupReferenceIdeal (hAupReferenceIdeal := hAupReferenceIdeal)
    ∧ quiescent_Asmall (hAsmall := hAsmall)
    ∧ quiescent_AsmallIdeal (hAsmallIdeal := hAsmallIdeal)
    ∧ quiescent_AsmallReferenceIdeal (hAsmallReferenceIdeal := hAsmallReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Fwd_FwdIdeal
    ∧ algebraic_FwdIdeal_FwdReferenceIdeal_pre_finite_qkv (hFwdIdeal := hFwdIdeal) (hFwdReferenceIdeal := hFwdReferenceIdeal) (hPre_finite_qkv := hPre_finite_qkv)
    ∧ preserves_Up_UpIdeal
    ∧ algebraic_UpIdeal_UpReferenceIdeal (hUpIdeal := hUpIdeal) (hUpReferenceIdeal := hUpReferenceIdeal)
    ∧ preserves_Gdown_GdownIdeal
    ∧ algebraic_GdownIdeal_GdownReferenceIdeal (hGdownIdeal := hGdownIdeal) (hGdownReferenceIdeal := hGdownReferenceIdeal)
    ∧ preserves_Dln_DlnIdeal
    ∧ algebraic_DlnIdeal_DlnReferenceIdeal_pre_finite_ln (hDlnIdeal := hDlnIdeal) (hDlnReferenceIdeal := hDlnReferenceIdeal) (hPre_finite_ln := hPre_finite_ln)
    ∧ preserves_Prepb_PrepbIdeal
    ∧ algebraic_PrepbIdeal_PrepbReferenceIdeal_pre_finite_qk (hPrepbIdeal := hPrepbIdeal) (hPrepbReferenceIdeal := hPrepbReferenceIdeal) (hPre_finite_qk := hPre_finite_qk)
    ∧ preserves_Gup_GupIdeal
    ∧ algebraic_GupIdeal_GupReferenceIdeal (hGupIdeal := hGupIdeal) (hGupReferenceIdeal := hGupReferenceIdeal)
    ∧ preserves_Dx1_Dx1Ideal
    ∧ algebraic_Dx1Ideal_Dx1ReferenceIdeal (hDx1Ideal := hDx1Ideal) (hDx1ReferenceIdeal := hDx1ReferenceIdeal)
    ∧ preserves_In_InIdeal
    ∧ algebraic_InIdeal_InReferenceIdeal (hInIdeal := hInIdeal) (hInReferenceIdeal := hInReferenceIdeal)
    ∧ preserves_Ginq_GinqIdeal
    ∧ algebraic_GinqIdeal_GinqReferenceIdeal (hGinqIdeal := hGinqIdeal) (hGinqReferenceIdeal := hGinqReferenceIdeal)
    ∧ preserves_Ging_GingIdeal
    ∧ algebraic_GingIdeal_GingReferenceIdeal (hGingIdeal := hGingIdeal) (hGingReferenceIdeal := hGingReferenceIdeal)
    ∧ preserves_Dxq_DxqIdeal
    ∧ algebraic_DxqIdeal_DxqReferenceIdeal (hDxqIdeal := hDxqIdeal) (hDxqReferenceIdeal := hDxqReferenceIdeal)
    ∧ preserves_Dxg_DxgIdeal
    ∧ algebraic_DxgIdeal_DxgReferenceIdeal (hDxgIdeal := hDxgIdeal) (hDxgReferenceIdeal := hDxgReferenceIdeal)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_Dmix_DmixIdeal
    ∧ algebraic_DmixIdeal_DmixReferenceIdeal (hDmixIdeal := hDmixIdeal) (hDmixReferenceIdeal := hDmixReferenceIdeal)
    ∧ preserves_Branch_BranchIdeal
    ∧ algebraic_BranchIdeal_BranchReferenceIdeal (hBranchIdeal := hBranchIdeal) (hBranchReferenceIdeal := hBranchReferenceIdeal)
    ∧ preserves_Gout_GoutIdeal
    ∧ algebraic_GoutIdeal_GoutReferenceIdeal (hGoutIdeal := hGoutIdeal) (hGoutReferenceIdeal := hGoutReferenceIdeal)
    ∧ preserves_Gbra_GbraIdeal
    ∧ algebraic_GbraIdeal_GbraReferenceIdeal (hGbraIdeal := hGbraIdeal) (hGbraReferenceIdeal := hGbraReferenceIdeal)
    ∧ preserves_Gbrb_GbrbIdeal
    ∧ algebraic_GbrbIdeal_GbrbReferenceIdeal (hGbrbIdeal := hGbrbIdeal) (hGbrbReferenceIdeal := hGbrbReferenceIdeal)
    ∧ preserves_Gbrc_GbrcIdeal
    ∧ algebraic_GbrcIdeal_GbrcReferenceIdeal (hGbrcIdeal := hGbrcIdeal) (hGbrcReferenceIdeal := hGbrcReferenceIdeal)
    ∧ preserves_Gate_GateIdeal
    ∧ algebraic_GateIdeal_GateReferenceIdeal (hGateIdeal := hGateIdeal) (hGateReferenceIdeal := hGateReferenceIdeal)
    ∧ preserves_Dgate_DgateIdeal
    ∧ algebraic_DgateIdeal_DgateReferenceIdeal (hDgateIdeal := hDgateIdeal) (hDgateReferenceIdeal := hDgateReferenceIdeal)
    ∧ preserves_Loss_LossIdeal
    ∧ algebraic_LossIdeal_LossReferenceIdeal (hLossIdeal := hLossIdeal) (hLossReferenceIdeal := hLossReferenceIdeal)
    ∧ preserves_Prepc_PrepcIdeal
    ∧ algebraic_PrepcIdeal_PrepcReferenceIdeal (hPrepcIdeal := hPrepcIdeal) (hPrepcReferenceIdeal := hPrepcReferenceIdeal)
    ∧ preserves_Postc_PostcIdeal
    ∧ algebraic_PostcIdeal_PostcReferenceIdeal (hPostcIdeal := hPostcIdeal) (hPostcReferenceIdeal := hPostcReferenceIdeal)
    ∧ preserves_Delta_DeltaIdeal
    ∧ algebraic_DeltaIdeal_DeltaReferenceIdeal (hDeltaIdeal := hDeltaIdeal) (hDeltaReferenceIdeal := hDeltaReferenceIdeal)
    ∧ preserves_Ain_AinIdeal
    ∧ algebraic_AinIdeal_AinReferenceIdeal (hAinIdeal := hAinIdeal) (hAinReferenceIdeal := hAinReferenceIdeal)
    ∧ preserves_Abra_AbraIdeal
    ∧ algebraic_AbraIdeal_AbraReferenceIdeal (hAbraIdeal := hAbraIdeal) (hAbraReferenceIdeal := hAbraReferenceIdeal)
    ∧ preserves_Abrb_AbrbIdeal
    ∧ algebraic_AbrbIdeal_AbrbReferenceIdeal (hAbrbIdeal := hAbrbIdeal) (hAbrbReferenceIdeal := hAbrbReferenceIdeal)
    ∧ preserves_Aout_AoutIdeal
    ∧ algebraic_AoutIdeal_AoutReferenceIdeal (hAoutIdeal := hAoutIdeal) (hAoutReferenceIdeal := hAoutReferenceIdeal)
    ∧ preserves_Aup_AupIdeal
    ∧ algebraic_AupIdeal_AupReferenceIdeal (hAupIdeal := hAupIdeal) (hAupReferenceIdeal := hAupReferenceIdeal)
    ∧ preserves_Asmall_AsmallIdeal
    ∧ algebraic_AsmallIdeal_AsmallReferenceIdeal (hAsmallIdeal := hAsmallIdeal) (hAsmallReferenceIdeal := hAsmallReferenceIdeal)
-- ==== Pre_finite.lean ====
abbrev S8192x512 : Shape := ⟨2, ![8192, 512]⟩
abbrev S8192x128 : Shape := ⟨2, ![8192, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x512 .f32) (main_arg1 : FVec F S8192x128 .f32) (main_arg2 : FVec F S8192x128 .f32) (main_arg3 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_finite_ln.lean ====
abbrev S8192x1024 : Shape := ⟨2, ![8192, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1024 .f32) (main_arg1 : FVec F S1024 .f32) (main_arg2 : FVec F S1024 .f32) (main_arg3 : FVec F S8192x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S8192x1024 .f32 := Host.absf main_arg3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Pre_finite_qk.lean ====
abbrev S8192x768 : Shape := ⟨2, ![8192, 768]⟩
abbrev S64 : Shape := ⟨1, ![64]⟩
abbrev S8192x640 : Shape := ⟨2, ![8192, 640]⟩
abbrev S_ : Shape := ⟨0, ![]⟩

class Facts : Prop where
  slices_S8192x768_S8192x640_0_0 : S8192x768.Slices ![0, 0] S8192x640
  bcast_S_S8192x640 : S_.BroadcastsInDim S8192x640 (![] : Fin 0 → Fin S8192x640.rank)
  reducesTo_S8192x640_S_d0_1 : S8192x640.ReducesTo [0, 1] S_
  h_S_ : 0 < S_.numel

variable [Facts]

def fn {F : FTy → Type} [FloatOps F] (main_arg0 : FVec F S8192x768 .f32) (main_arg1 : FVec F S64 .f32) (main_arg2 : FVec F S64 .f32) : IVec S_ 1 :=
  let main_v0 : FVec F S8192x640 .f32 := (extractStridedSlice S8192x640 ![0, 0] · slices_S8192x768_S8192x640_0_0) main_arg0
  let main_v1 : FVec F S8192x640 .f32 := Host.absf main_v0
  let main_cst : FVec F S_ .f32 := constant S_ .f32 0x7F800000#32
  let main_v2 : FVec F S8192x640 .f32 := broadcastInDim S8192x640 ![] bcast_S_S8192x640 main_cst
  let main_v3 : IVec S8192x640 1 := cmpf .olt main_v1 main_v2
  let main_c : IVec S_ 1 := constantI S_ 1 1#1
  let main_v4 : IVec S_ 1 := (fun x v => Host.reduce IntOp.andi x v reducesTo_S8192x640_S_d0_1 h_S_) main_v3 main_c
  main_v4
-- ==== Pre_finite_qkv.lean ====
abbrev S8192x512 : Shape := ⟨2, ![8192, 512]⟩
abbrev S8192x128 : Shape := ⟨2, ![8192, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S8192x512 .f32) (main_arg1 : FVec F S8192x128 .f32) (main_arg2 : FVec F S8192x128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S8192x512 : Shape := ⟨2, ![8192, 512]⟩
abbrev S8192x128 : Shape := ⟨2, ![8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8192x8x64 : Shape := ⟨3, ![8192, 8, 64]⟩
abbrev S8192x8 : Shape := ⟨2, ![8192, 8]⟩
abbrev S8x8192 : Shape := ⟨2, ![8, 8192]⟩
abbrev S8192x64 : Shape := ⟨2, ![8192, 64]⟩
abbrev S8192x256 : Shape := ⟨2, ![8192, 256]⟩
abbrev S4x2x8192 : Shape := ⟨3, ![4, 2, 8192]⟩
abbrev S4x8x8192 : Shape := ⟨3, ![4, 8, 8192]⟩
abbrev S2048x128 : Shape := ⟨2, ![2048, 128]⟩
abbrev S1024x128 : Shape := ⟨2, ![1024, 128]⟩
abbrev S1x8x1024 : Shape := ⟨3, ![1, 8, 1024]⟩
abbrev S2x8x128x1024 : Shape := ⟨4, ![2, 8, 128, 1024]⟩
abbrev S128x1024 : Shape := ⟨2, ![128, 1024]⟩
abbrev S1x1x128x1024 : Shape := ⟨4, ![1, 1, 128, 1024]⟩
abbrev S8x1024 : Shape := ⟨2, ![8, 1024]⟩
abbrev S1x128 : Shape := ⟨2, ![1, 128]⟩
abbrev S2048x1024 : Shape := ⟨2, ![2048, 1024]⟩
abbrev S1x1024 : Shape := ⟨2, ![1, 1024]⟩
abbrev S128x1 : Shape := ⟨2, ![128, 1]⟩

abbrev nBuf : Space → Nat
  | .hbm => 101
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S8192x2x4x64, .f32⟩
  | .hbm, ⟨5, _⟩ => ⟨S8192x2x64, .f32⟩
  | .hbm, ⟨6, _⟩ => ⟨S8192x2x4x64, .f32⟩
  | .hbm, ⟨7, _⟩ => ⟨S8192x2x64, .f32⟩
  | .hbm, ⟨8, _⟩ => ⟨S8192x2x64, .f32⟩
  | .hbm, ⟨9, _⟩ => ⟨S2x8192x8192x4, .f32⟩
  | .hbm, ⟨10, _⟩ => ⟨S2x4x8192x8192, .f32⟩
  | .hbm, ⟨11, _⟩ => ⟨S_, .f32⟩
  | .hbm, ⟨12, _⟩ => ⟨S2x4x8192, .f32⟩
  | .hbm, ⟨13, _⟩ => ⟨S_, .f32⟩
  | .hbm, ⟨14, _⟩ => ⟨S2x4x8192, .f32⟩
  | .hbm, ⟨15, _⟩ => ⟨S2x4x8192, .f32⟩
  | .hbm, ⟨16, _⟩ => ⟨S2x4x8192x1, .f32⟩
  | .hbm, ⟨17, _⟩ => ⟨S2x4x8192x8192, .f32⟩
  | .hbm, ⟨18, _⟩ => ⟨S2x4x8192x8192, .f32⟩
  | .hbm, ⟨19, _⟩ => ⟨S2x4x8192x8192, .f32⟩
  | .hbm, ⟨20, _⟩ => ⟨S_, .f32⟩
  | .hbm, ⟨21, _⟩ => ⟨S2x4x8192, .f32⟩
  | .hbm, ⟨22, _⟩ => ⟨S2x4x8192x1, .f32⟩
  | .hbm, ⟨23, _⟩ => ⟨S2x4x8192x8192, .f32⟩
  | .hbm, ⟨24, _⟩ => ⟨S2x4x8192x8192, .f32⟩
  | .hbm, ⟨25, _⟩ => ⟨S2x64x4x8192, .f32⟩
  | .hbm, ⟨26, _⟩ => ⟨S8192x2x4x64, .f32⟩
  | .hbm, ⟨27, _⟩ => ⟨S8192x512, .f32⟩
  | .hbm, ⟨28, _⟩ => ⟨S2x8192x8192x4, .f32⟩
  | .hbm, ⟨29, _⟩ => ⟨S2x4x8192x8192, .f32⟩
  | .hbm, ⟨30, _⟩ => ⟨S_, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S_, .f32⟩
  | .hbm, ⟨37, _⟩ => ⟨S2x4x8192, .f32⟩
  | .hbm, ⟨38, _⟩ => ⟨S2x4x8192, .f32⟩
  | .hbm, ⟨39, _⟩ => ⟨S2x4x8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x4x8192, .f32⟩
  | .hbm, ⟨44, _⟩ => ⟨S2x4x8192, .f32⟩
  | .hbm, ⟨45, _⟩ => ⟨S8192x512, .f32⟩
  | .hbm, ⟨46, _⟩ => ⟨S8192x8x64, .f32⟩
  | .hbm, ⟨47, _⟩ => ⟨S_, .f32⟩
  | .hbm, ⟨48, _⟩ => ⟨S8192x8, .f32⟩
  | .hbm, ⟨49, _⟩ => ⟨S8x8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S8192x512, .bf16⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S8192x64, .f32⟩
  | .hbm, ⟨60, _⟩ => ⟨S8192x256, .f32⟩
  | .hbm, ⟨61, _⟩ => ⟨S8192x256, .bf16⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x64, .f32⟩
  | .hbm, ⟨66, _⟩ => ⟨S8192x256, .f32⟩
  | .hbm, ⟨67, _⟩ => ⟨S8192x256, .bf16⟩
  | .hbm, ⟨68, _⟩ => ⟨S4x2x8192, .f32⟩
  | .hbm, ⟨69, _⟩ => ⟨S_, .i32⟩
  | .hbm, ⟨70, _⟩ => ⟨S_, .f32⟩
  | .hbm, ⟨71, _⟩ => ⟨S4x8x8192, .f32⟩
  | .hbm, ⟨72, _⟩ => ⟨S4x2x8192, .f32⟩
  | .hbm, ⟨73, _⟩ => ⟨S_, .i32⟩
  | .hbm, ⟨74, _⟩ => ⟨S_, .f32⟩
  | .hbm, ⟨75, _⟩ => ⟨S4x8x8192, .f32⟩
  | .hbm, ⟨76, _⟩ => ⟨S8192x512, .f32⟩
  | .hbm, ⟨77, _⟩ => ⟨S8192x256, .f32⟩
  | .hbm, ⟨78, _⟩ => ⟨S8192x256, .f32⟩
  | .hbm, ⟨79, _⟩ => ⟨S1x128, .i32⟩
  | .hbm, ⟨80, _⟩ => ⟨S_, .i32⟩
  | .hbm, ⟨81, _⟩ => ⟨S1x128, .i32⟩
  | .hbm, ⟨82, _⟩ => ⟨S1x128, .i32⟩
  | .hbm, ⟨83, _⟩ => ⟨S_, .i32⟩
  | .hbm, ⟨84, _⟩ => ⟨S1x128, .i32⟩
  | .hbm, ⟨85, _⟩ => ⟨S1x128, .i1⟩
  | .hbm, ⟨86, _⟩ => ⟨S8192x128, .f32⟩
  | .hbm, ⟨87, _⟩ => ⟨S8192x128, .f32⟩
  | .hbm, ⟨88, _⟩ => ⟨S8192x128, .i1⟩
  | .hbm, ⟨89, _⟩ => ⟨S8192x128, .f32⟩
  | .hbm, ⟨90, _⟩ => ⟨S1x128, .i32⟩
  | .hbm, ⟨91, _⟩ => ⟨S_, .i32⟩
  | .hbm, ⟨92, _⟩ => ⟨S1x128, .i32⟩
  | .hbm, ⟨93, _⟩ => ⟨S1x128, .i32⟩
  | .hbm, ⟨94, _⟩ => ⟨S_, .i32⟩
  | .hbm, ⟨95, _⟩ => ⟨S1x128, .i32⟩
  | .hbm, ⟨96, _⟩ => ⟨S1x128, .i1⟩
  | .hbm, ⟨97, _⟩ => ⟨S8192x128, .f32⟩
  | .hbm, ⟨98, _⟩ => ⟨S8192x128, .f32⟩
  | .hbm, ⟨99, _⟩ => ⟨S8192x128, .i1⟩
  | .hbm, ⟨100, _⟩ => ⟨S8192x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2x8x128x1024, .f32⟩
  | .local _ .vmem, ⟨19, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c : Ref sig .tc := ⟨.hbm, 69, rfl⟩
abbrev main_call0_v0 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_call1_v0 : Ref sig .tc := ⟨.hbm, 74, rfl⟩
abbrev main_v59 : Ref sig .tc := ⟨.hbm, 75, rfl⟩
abbrev main_v60_0 : Ref sig .tc := ⟨.hbm, 76, rfl⟩
abbrev main_v60_1 : Ref sig .tc := ⟨.hbm, 77, rfl⟩
abbrev main_v60_2 : Ref sig .tc := ⟨.hbm, 78, rfl⟩
abbrev main_v61 : Ref sig .tc := ⟨.hbm, 79, rfl⟩
abbrev main_c_8 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call2_v0 : Ref sig .tc := ⟨.hbm, 88, rfl⟩
abbrev main_v68 : Ref sig .tc := ⟨.hbm, 89, rfl⟩
abbrev main_v69 : Ref sig .tc := ⟨.hbm, 90, rfl⟩
abbrev main_c_10 : Ref sig .tc := ⟨.hbm, 91, rfl⟩
abbrev main_v70 : Ref sig .tc := ⟨.hbm, 92, rfl⟩
abbrev main_v71 : Ref sig .tc := ⟨.hbm, 93, rfl⟩
abbrev main_c_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call3_v0 : Ref sig .tc := ⟨.hbm, 99, rfl⟩
abbrev main_v76 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![2, 4, 2, 8], ![false, false, false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 4 → Nat :=
  let arg2 : BitVec 32 := BitVec.ofNat 32 (i 2).val
  let v109 : Index := Scalar.indexCast arg2
  let arg3 : BitVec 32 := BitVec.ofNat 32 (i 3).val
  let v110 : Index := Scalar.indexCast arg3
  let c0_47 : Index := 0#32
  let c0_48 : Index := 0#32
  ![v109.toNat, v110.toNat, 0, 0]
def k0_off2 (i : grid0.Coords) : Fin 4 → Nat :=
  let arg2 : BitVec 32 := BitVec.ofNat 32 (i 2).val
  let v82 : Index := Scalar.indexCast arg2
  let arg3 : BitVec 32 := BitVec.ofNat 32 (i 3).val
  let v83 : Index := Scalar.indexCast arg3
  let c0_37 : Index := 0#32
  let c0_38 : Index := 0#32
  ![v82.toNat, v83.toNat, 0, 0]
def k0_cond3 (i : grid0.Coords) : BitVec 1 :=
  let arg1 : BitVec 32 := BitVec.ofNat 32 (i 1).val
  let c3_i32 : BitVec 32 := 3#32
  let v100 : BitVec 1 := Scalar.cmpi .eq arg1 c3_i32
  let v101 : BitVec 32 := Scalar.extui v100
  let c0_i32_44 : BitVec 32 := 0#32
  let v102 : BitVec 1 := Scalar.cmpi .ne v101 c0_i32_44
  v102

def k0_off3 (i : grid0.Coords) : Fin 4 → Nat :=
  let arg2 : BitVec 32 := BitVec.ofNat 32 (i 2).val
  let v108 : Index := Scalar.indexCast arg2
  let arg3 : BitVec 32 := BitVec.ofNat 32 (i 3).val
  let v109 : Index := Scalar.indexCast arg3
  let c0_46 : Index := 0#32
  let c0_47 : Index := 0#32
  ![v108.toNat, v109.toNat, 0, 0]
def k0_mult1 (i : grid0.Coords) : BitVec 32 :=
  let c2_i32 : BitVec 32 := 2#32
  let arg0 : BitVec 32 := BitVec.ofNat 32 (i 0).val
  let v116 : BitVec 32 := Scalar.muli c2_i32 arg0
  let arg2 : BitVec 32 := BitVec.ofNat 32 (i 2).val
  let v117 : BitVec 32 := Scalar.addi v116 arg2
  let c128_i32 : BitVec 32 := 128#32
  let v118 : BitVec 32 := Scalar.muli v117 c128_i32
  v118
def k0_mult2 (i : grid0.Coords) : BitVec 32 :=
  let arg3 : BitVec 32 := BitVec.ofNat 32 (i 3).val
  let c1024_i32 : BitVec 32 := 1024#32
  let v120 : BitVec 32 := Scalar.muli arg3 c1024_i32
  v120
def k0_off4 (i : grid0.Coords) : Fin 2 → Nat :=
  let arg3 : BitVec 32 := BitVec.ofNat 32 (i 3).val
  let c1024_i32 : BitVec 32 := 1024#32
  let v120 : BitVec 32 := Scalar.muli arg3 c1024_i32
  let v121 : BitVec 32 := v120
  let c2_i32 : BitVec 32 := 2#32
  let arg0 : BitVec 32 := BitVec.ofNat 32 (i 0).val
  let v116 : BitVec 32 := Scalar.muli c2_i32 arg0
  let arg2 : BitVec 32 := BitVec.ofNat 32 (i 2).val
  let v117 : BitVec 32 := Scalar.addi v116 arg2
  let c128_i32 : BitVec 32 := 128#32
  let v118 : BitVec 32 := Scalar.muli v117 c128_i32
  let v119 : BitVec 32 := v118
  ![v121.toNat, v119.toNat]
def k0_cond4 (i : grid0.Coords) : BitVec 1 :=
  let arg2 : BitVec 32 := BitVec.ofNat 32 (i 2).val
  let c1_i32 : BitVec 32 := 1#32
  let v103 : BitVec 1 := Scalar.cmpi .eq arg2 c1_i32
  let arg3 : BitVec 32 := BitVec.ofNat 32 (i 3).val
  let c7_i32 : BitVec 32 := 7#32
  let v104 : BitVec 1 := Scalar.cmpi .eq arg3 c7_i32
  let v105 : BitVec 1 := Scalar.andi v103 v104
  let v106 : BitVec 32 := Scalar.extui v105
  let c0_i32_45 : BitVec 32 := 0#32
  let v107 : BitVec 1 := Scalar.cmpi .ne v106 c0_i32_45
  v107

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg0
  let v1 : BitVec 32 := Scalar.addi v0 arg2
  let c0_i32 : BitVec 32 := 0#32
  ![arg3.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg0
  let v1 : BitVec 32 := Scalar.addi v0 arg2
  let c0_i32 : BitVec 32 := 0#32
  ![arg3.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  ![v1.toNat, c0_i32.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  ![v1.toNat, c0_i32.toNat, arg3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]
-- ==== KernelIdeal.lean ====
abbrev S8192x512 : Shape := ⟨2, ![8192, 512]⟩
abbrev S8192x128 : Shape := ⟨2, ![8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8192x8x64 : Shape := ⟨3, ![8192, 8, 64]⟩
abbrev S8192x8 : Shape := ⟨2, ![8192, 8]⟩
abbrev S8x8192 : Shape := ⟨2, ![8, 8192]⟩
abbrev S8192x64 : Shape := ⟨2, ![8192, 64]⟩
abbrev S8192x256 : Shape := ⟨2, ![8192, 256]⟩
abbrev S4x2x8192 : Shape := ⟨3, ![4, 2, 8192]⟩
abbrev S4x8x8192 : Shape := ⟨3, ![4, 8, 8192]⟩
abbrev S2048x128 : Shape := ⟨2, ![2048, 128]⟩
abbrev S1024x128 : Shape := ⟨2, ![1024, 128]⟩
abbrev S1x8x1024 : Shape := ⟨3, ![1, 8, 1024]⟩
abbrev S2x8x128x1024 : Shape := ⟨4, ![2, 8, 128, 1024]⟩
abbrev S128x1024 : Shape := ⟨2, ![128, 1024]⟩
abbrev S1x1x128x1024 : Shape := ⟨4, ![1, 1, 128, 1024]⟩
abbrev S8x1024 : Shape := ⟨2, ![8, 1024]⟩
abbrev S1x128 : Shape := ⟨2, ![1, 128]⟩
abbrev S2048x1024 : Shape := ⟨2, ![2048, 1024]⟩
abbrev S1x1024 : Shape := ⟨2, ![1, 1024]⟩
abbrev S128x1 : Shape := ⟨2, ![128, 1]⟩

abbrev nBuf : Space → Nat
  | .hbm => 101
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S8192x2x4x64, .f32⟩
  | .hbm, ⟨5, _⟩ => ⟨S8192x2x64, .f32⟩
  | .hbm, ⟨6, _⟩ => ⟨S8192x2x4x64, .f32⟩
  | .hbm, ⟨7, _⟩ => ⟨S8192x2x64, .f32⟩
  | .hbm, ⟨8, _⟩ => ⟨S8192x2x64, .f32⟩
  | .hbm, ⟨9, _⟩ => ⟨S2x8192x8192x4, .f32⟩
  | .hbm, ⟨10, _⟩ => ⟨S2x4x8192x8192, .f32⟩
  | .hbm, ⟨11, _⟩ => ⟨S_, .f32⟩
  | .hbm, ⟨12, _⟩ => ⟨S2x4x8192, .f32⟩
  | .hbm, ⟨13, _⟩ => ⟨S_, .f32⟩
  | .hbm, ⟨14, _⟩ => ⟨S2x4x8192, .f32⟩
  | .hbm, ⟨15, _⟩ => ⟨S2x4x8192, .f32⟩
  | .hbm, ⟨16, _⟩ => ⟨S2x4x8192x1, .f32⟩
  | .hbm, ⟨17, _⟩ => ⟨S2x4x8192x8192, .f32⟩
  | .hbm, ⟨18, _⟩ => ⟨S2x4x8192x8192, .f32⟩
  | .hbm, ⟨19, _⟩ => ⟨S2x4x8192x8192, .f32⟩
  | .hbm, ⟨20, _⟩ => ⟨S_, .f32⟩
  | .hbm, ⟨21, _⟩ => ⟨S2x4x8192, .f32⟩
  | .hbm, ⟨22, _⟩ => ⟨S2x4x8192x1, .f32⟩
  | .hbm, ⟨23, _⟩ => ⟨S2x4x8192x8192, .f32⟩
  | .hbm, ⟨24, _⟩ => ⟨S2x4x8192x8192, .f32⟩
  | .hbm, ⟨25, _⟩ => ⟨S2x64x4x8192, .f32⟩
  | .hbm, ⟨26, _⟩ => ⟨S8192x2x4x64, .f32⟩
  | .hbm, ⟨27, _⟩ => ⟨S8192x512, .f32⟩
  | .hbm, ⟨28, _⟩ => ⟨S2x8192x8192x4, .f32⟩
  | .hbm, ⟨29, _⟩ => ⟨S2x4x8192x8192, .f32⟩
  | .hbm, ⟨30, _⟩ => ⟨S_, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S_, .f32⟩
  | .hbm, ⟨37, _⟩ => ⟨S2x4x8192, .f32⟩
  | .hbm, ⟨38, _⟩ => ⟨S2x4x8192, .f32⟩
  | .hbm, ⟨39, _⟩ => ⟨S2x4x8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x4x8192, .f32⟩
  | .hbm, ⟨44, _⟩ => ⟨S2x4x8192, .f32⟩
  | .hbm, ⟨45, _⟩ => ⟨S8192x512, .f32⟩
  | .hbm, ⟨46, _⟩ => ⟨S8192x8x64, .f32⟩
  | .hbm, ⟨47, _⟩ => ⟨S_, .f32⟩
  | .hbm, ⟨48, _⟩ => ⟨S8192x8, .f32⟩
  | .hbm, ⟨49, _⟩ => ⟨S8x8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S8192x512, .bf16⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S8192x64, .f32⟩
  | .hbm, ⟨60, _⟩ => ⟨S8192x256, .f32⟩
  | .hbm, ⟨61, _⟩ => ⟨S8192x256, .bf16⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x64, .f32⟩
  | .hbm, ⟨66, _⟩ => ⟨S8192x256, .f32⟩
  | .hbm, ⟨67, _⟩ => ⟨S8192x256, .bf16⟩
  | .hbm, ⟨68, _⟩ => ⟨S4x2x8192, .f32⟩
  | .hbm, ⟨69, _⟩ => ⟨S_, .i32⟩
  | .hbm, ⟨70, _⟩ => ⟨S_, .f32⟩
  | .hbm, ⟨71, _⟩ => ⟨S4x8x8192, .f32⟩
  | .hbm, ⟨72, _⟩ => ⟨S4x2x8192, .f32⟩
  | .hbm, ⟨73, _⟩ => ⟨S_, .i32⟩
  | .hbm, ⟨74, _⟩ => ⟨S_, .f32⟩
  | .hbm, ⟨75, _⟩ => ⟨S4x8x8192, .f32⟩
  | .hbm, ⟨76, _⟩ => ⟨S8192x512, .f32⟩
  | .hbm, ⟨77, _⟩ => ⟨S8192x256, .f32⟩
  | .hbm, ⟨78, _⟩ => ⟨S8192x256, .f32⟩
  | .hbm, ⟨79, _⟩ => ⟨S1x128, .i32⟩
  | .hbm, ⟨80, _⟩ => ⟨S_, .i32⟩
  | .hbm, ⟨81, _⟩ => ⟨S1x128, .i32⟩
  | .hbm, ⟨82, _⟩ => ⟨S1x128, .i32⟩
  | .hbm, ⟨83, _⟩ => ⟨S_, .i32⟩
  | .hbm, ⟨84, _⟩ => ⟨S1x128, .i32⟩
  | .hbm, ⟨85, _⟩ => ⟨S1x128, .i1⟩
  | .hbm, ⟨86, _⟩ => ⟨S8192x128, .f32⟩
  | .hbm, ⟨87, _⟩ => ⟨S8192x128, .f32⟩
  | .hbm, ⟨88, _⟩ => ⟨S8192x128, .i1⟩
  | .hbm, ⟨89, _⟩ => ⟨S8192x128, .f32⟩
  | .hbm, ⟨90, _⟩ => ⟨S1x128, .i32⟩
  | .hbm, ⟨91, _⟩ => ⟨S_, .i32⟩
  | .hbm, ⟨92, _⟩ => ⟨S1x128, .i32⟩
  | .hbm, ⟨93, _⟩ => ⟨S1x128, .i32⟩
  | .hbm, ⟨94, _⟩ => ⟨S_, .i32⟩
  | .hbm, ⟨95, _⟩ => ⟨S1x128, .i32⟩
  | .hbm, ⟨96, _⟩ => ⟨S1x128, .i1⟩
  | .hbm, ⟨97, _⟩ => ⟨S8192x128, .f32⟩
  | .hbm, ⟨98, _⟩ => ⟨S8192x128, .f32⟩
  | .hbm, ⟨99, _⟩ => ⟨S8192x128, .i1⟩
  | .hbm, ⟨100, _⟩ => ⟨S8192x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2x8x128x1024, .f32⟩
  | .local _ .vmem, ⟨19, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c : Ref sig .tc := ⟨.hbm, 69, rfl⟩
abbrev main_call0_v0 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_call1_v0 : Ref sig .tc := ⟨.hbm, 74, rfl⟩
abbrev main_v59 : Ref sig .tc := ⟨.hbm, 75, rfl⟩
abbrev main_v60_0 : Ref sig .tc := ⟨.hbm, 76, rfl⟩
abbrev main_v60_1 : Ref sig .tc := ⟨.hbm, 77, rfl⟩
abbrev main_v60_2 : Ref sig .tc := ⟨.hbm, 78, rfl⟩
abbrev main_v61 : Ref sig .tc := ⟨.hbm, 79, rfl⟩
abbrev main_c_8 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call2_v0 : Ref sig .tc := ⟨.hbm, 88, rfl⟩
abbrev main_v68 : Ref sig .tc := ⟨.hbm, 89, rfl⟩
abbrev main_v69 : Ref sig .tc := ⟨.hbm, 90, rfl⟩
abbrev main_c_10 : Ref sig .tc := ⟨.hbm, 91, rfl⟩
abbrev main_v70 : Ref sig .tc := ⟨.hbm, 92, rfl⟩
abbrev main_v71 : Ref sig .tc := ⟨.hbm, 93, rfl⟩
abbrev main_c_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call3_v0 : Ref sig .tc := ⟨.hbm, 99, rfl⟩
abbrev main_v76 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := ⟨4, ![2, 4, 2, 8], ![false, false, false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 4 → Nat :=
  let arg2 : BitVec 32 := BitVec.ofNat 32 (i 2).val
  let v109 : Index := Scalar.indexCast arg2
  let arg3 : BitVec 32 := BitVec.ofNat 32 (i 3).val
  let v110 : Index := Scalar.indexCast arg3
  let c0_47 : Index := 0#32
  let c0_48 : Index := 0#32
  ![v109.toNat, v110.toNat, 0, 0]
def k0_off2 (i : grid0.Coords) : Fin 4 → Nat :=
  let arg2 : BitVec 32 := BitVec.ofNat 32 (i 2).val
  let v82 : Index := Scalar.indexCast arg2
  let arg3 : BitVec 32 := BitVec.ofNat 32 (i 3).val
  let v83 : Index := Scalar.indexCast arg3
  let c0_37 : Index := 0#32
  let c0_38 : Index := 0#32
  ![v82.toNat, v83.toNat, 0, 0]
def k0_cond3 (i : grid0.Coords) : BitVec 1 :=
  let arg1 : BitVec 32 := BitVec.ofNat 32 (i 1).val
  let c3_i32 : BitVec 32 := 3#32
  let v100 : BitVec 1 := Scalar.cmpi .eq arg1 c3_i32
  let v101 : BitVec 32 := Scalar.extui v100
  let c0_i32_44 : BitVec 32 := 0#32
  let v102 : BitVec 1 := Scalar.cmpi .ne v101 c0_i32_44
  v102

def k0_off3 (i : grid0.Coords) : Fin 4 → Nat :=
  let arg2 : BitVec 32 := BitVec.ofNat 32 (i 2).val
  let v108 : Index := Scalar.indexCast arg2
  let arg3 : BitVec 32 := BitVec.ofNat 32 (i 3).val
  let v109 : Index := Scalar.indexCast arg3
  let c0_46 : Index := 0#32
  let c0_47 : Index := 0#32
  ![v108.toNat, v109.toNat, 0, 0]
def k0_mult1 (i : grid0.Coords) : BitVec 32 :=
  let c2_i32 : BitVec 32 := 2#32
  let arg0 : BitVec 32 := BitVec.ofNat 32 (i 0).val
  let v116 : BitVec 32 := Scalar.muli c2_i32 arg0
  let arg2 : BitVec 32 := BitVec.ofNat 32 (i 2).val
  let v117 : BitVec 32 := Scalar.addi v116 arg2
  let c128_i32 : BitVec 32 := 128#32
  let v118 : BitVec 32 := Scalar.muli v117 c128_i32
  v118
def k0_mult2 (i : grid0.Coords) : BitVec 32 :=
  let arg3 : BitVec 32 := BitVec.ofNat 32 (i 3).val
  let c1024_i32 : BitVec 32 := 1024#32
  let v120 : BitVec 32 := Scalar.muli arg3 c1024_i32
  v120
def k0_off4 (i : grid0.Coords) : Fin 2 → Nat :=
  let arg3 : BitVec 32 := BitVec.ofNat 32 (i 3).val
  let c1024_i32 : BitVec 32 := 1024#32
  let v120 : BitVec 32 := Scalar.muli arg3 c1024_i32
  let v121 : BitVec 32 := v120
  let c2_i32 : BitVec 32 := 2#32
  let arg0 : BitVec 32 := BitVec.ofNat 32 (i 0).val
  let v116 : BitVec 32 := Scalar.muli c2_i32 arg0
  let arg2 : BitVec 32 := BitVec.ofNat 32 (i 2).val
  let v117 : BitVec 32 := Scalar.addi v116 arg2
  let c128_i32 : BitVec 32 := 128#32
  let v118 : BitVec 32 := Scalar.muli v117 c128_i32
  let v119 : BitVec 32 := v118
  ![v121.toNat, v119.toNat]
def k0_cond4 (i : grid0.Coords) : BitVec 1 :=
  let arg2 : BitVec 32 := BitVec.ofNat 32 (i 2).val
  let c1_i32 : BitVec 32 := 1#32
  let v103 : BitVec 1 := Scalar.cmpi .eq arg2 c1_i32
  let arg3 : BitVec 32 := BitVec.ofNat 32 (i 3).val
  let c7_i32 : BitVec 32 := 7#32
  let v104 : BitVec 1 := Scalar.cmpi .eq arg3 c7_i32
  let v105 : BitVec 1 := Scalar.andi v103 v104
  let v106 : BitVec 32 := Scalar.extui v105
  let c0_i32_45 : BitVec 32 := 0#32
  let v107 : BitVec 1 := Scalar.cmpi .ne v106 c0_i32_45
  v107

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg0
  let v1 : BitVec 32 := Scalar.addi v0 arg2
  let c0_i32 : BitVec 32 := 0#32
  ![arg3.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg0
  let v1 : BitVec 32 := Scalar.addi v0 arg2
  let c0_i32 : BitVec 32 := 0#32
  ![arg3.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  ![v1.toNat, c0_i32.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  ![v1.toNat, c0_i32.toNat, arg3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]
-- ==== ReferenceIdeal.lean ====
abbrev S8192x512 : Shape := ⟨2, ![8192, 512]⟩
abbrev S8192x128 : Shape := ⟨2, ![8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S2x64x8192 : Shape := ⟨3, ![2, 64, 8192]⟩
abbrev S2x8192x4x64 : Shape := ⟨4, ![2, 8192, 4, 64]⟩
abbrev S2x8192x64 : Shape := ⟨3, ![2, 8192, 64]⟩

abbrev nBuf : Space → Nat
  | .hbm => 77
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S8192x2x4x64, .f32⟩
  | .hbm, ⟨5, _⟩ => ⟨S8192x2x64, .f32⟩
  | .hbm, ⟨6, _⟩ => ⟨S8192x2x64, .f32⟩
  | .hbm, ⟨7, _⟩ => ⟨S2x8192x8192x4, .f32⟩
  | .hbm, ⟨8, _⟩ => ⟨S2x4x8192x8192, .f32⟩
  | .hbm, ⟨9, _⟩ => ⟨S_, .f32⟩
  | .hbm, ⟨10, _⟩ => ⟨S2x4x8192, .f32⟩
  | .hbm, ⟨11, _⟩ => ⟨S2x4x8192x1, .f32⟩
  | .hbm, ⟨12, _⟩ => ⟨S2x4x8192x8192, .f32⟩
  | .hbm, ⟨13, _⟩ => ⟨S2x4x8192x8192, .i1⟩
  | .hbm, ⟨14, _⟩ => ⟨S2x4x8192x8192, .f32⟩
  | .hbm, ⟨15, _⟩ => ⟨S_, .f32⟩
  | .hbm, ⟨16, _⟩ => ⟨S2x4x8192, .f32⟩
  | .hbm, ⟨17, _⟩ => ⟨S_, .f32⟩
  | .hbm, ⟨18, _⟩ => ⟨S2x4x8192, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .i1⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S_, .f32⟩
  | .hbm, ⟨29, _⟩ => ⟨S2x4x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192, .f32⟩
  | .hbm, ⟨34, _⟩ => ⟨S2x4x8192x1, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S_, .f32⟩
  | .hbm, ⟨39, _⟩ => ⟨S2x4x8192, .f32⟩
  | .hbm, ⟨40, _⟩ => ⟨S2x4x8192x1, .f32⟩
  | .hbm, ⟨41, _⟩ => ⟨S2x4x8192x8192, .f32⟩
  | .hbm, ⟨42, _⟩ => ⟨S2x4x8192x8192, .f32⟩
  | .hbm, ⟨43, _⟩ => ⟨S2x4x8192x1, .f32⟩
  | .hbm, ⟨44, _⟩ => ⟨S_, .f32⟩
  | .hbm, ⟨45, _⟩ => ⟨S2x4x8192x1, .f32⟩
  | .hbm, ⟨46, _⟩ => ⟨S2x4x8192x1, .f32⟩
  | .hbm, ⟨47, _⟩ => ⟨S2x64x4x8192, .f32⟩
  | .hbm, ⟨48, _⟩ => ⟨S8192x2x4x64, .f32⟩
  | .hbm, ⟨49, _⟩ => ⟨S8192x512, .f32⟩
  | .hbm, ⟨50, _⟩ => ⟨S8192x2x4x64, .f32⟩
  | .hbm, ⟨51, _⟩ => ⟨S2x64x4x8192, .f32⟩
  | .hbm, ⟨52, _⟩ => ⟨S2x4x8192x8192, .f32⟩
  | .hbm, ⟨53, _⟩ => ⟨S2x64x8192, .f32⟩
  | .hbm, ⟨54, _⟩ => ⟨S8192x2x64, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S_, .f32⟩
  | .hbm, ⟨59, _⟩ => ⟨S2x4x8192, .f32⟩
  | .hbm, ⟨60, _⟩ => ⟨S2x4x8192x1, .f32⟩
  | .hbm, ⟨61, _⟩ => ⟨S2x4x8192x1, .f32⟩
  | .hbm, ⟨62, _⟩ => ⟨S2x4x8192x8192, .f32⟩
  | .hbm, ⟨63, _⟩ => ⟨S2x4x8192x8192, .f32⟩
  | .hbm, ⟨64, _⟩ => ⟨S_, .f32⟩
  | .hbm, ⟨65, _⟩ => ⟨S2x4x8192, .f32⟩
  | .hbm, ⟨66, _⟩ => ⟨S2x4x8192x8192, .f32⟩
  | .hbm, ⟨67, _⟩ => ⟨S2x4x8192x8192, .f32⟩
  | .hbm, ⟨68, _⟩ => ⟨S2x4x8192x8192, .f32⟩
  | .hbm, ⟨69, _⟩ => ⟨S2x8192x8192x4, .f32⟩
  | .hbm, ⟨70, _⟩ => ⟨S2x8192x4x64, .f32⟩
  | .hbm, ⟨71, _⟩ => ⟨S8192x2x4x64, .f32⟩
  | .hbm, ⟨72, _⟩ => ⟨S2x8192x64, .f32⟩
  | .hbm, ⟨73, _⟩ => ⟨S8192x2x64, .f32⟩
  | .hbm, ⟨74, _⟩ => ⟨S8192x128, .f32⟩
  | .hbm, ⟨75, _⟩ => ⟨S8192x128, .f32⟩
  | .hbm, ⟨76, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Fwd.lean ====
abbrev S8192x512 : Shape := ⟨2, ![8192, 512]⟩
abbrev S8192x128 : Shape := ⟨2, ![8192, 128]⟩
abbrev S_ : Shape := ⟨0, ![]⟩
abbrev S8192x64 : Shape := ⟨2, ![8192, 64]⟩
abbrev S8192x256 : Shape := ⟨2, ![8192, 256]⟩
abbrev S4x8x8192 : Shape := ⟨3, ![4, 8, 8192]⟩
abbrev S1024x128 : Shape := ⟨2, ![1024, 128]⟩
abbrev S2048x128 : Shape := ⟨2, ![2048, 128]⟩
abbrev S1x8x1024 : Shape := ⟨3, ![1, 8, 1024]⟩
abbrev S2x1x1024 : Shape := ⟨3, ![2, 1, 1024]⟩
abbrev S2x128x1024 : Shape := ⟨3, ![2, 128, 1024]⟩
abbrev S1x128 : Shape := ⟨2, ![1, 128]⟩
abbrev S2048x1024 : Shape := ⟨2, ![2048, 1024]⟩
abbrev S1x1x1024 : Shape := ⟨3, ![1, 1, 1024]⟩
abbrev S1x1024 : Shape := ⟨2, ![1, 1024]⟩
abbrev S1024 : Shape := ⟨1, ![1024]⟩
abbrev S128x1024 : Shape := ⟨2, ![128, 1024]⟩
abbrev S1x128x1024 : Shape := ⟨3, ![1, 128, 1024]⟩
abbrev S64x1024 : Shape := ⟨2, ![64, 1024]⟩
abbrev S6x1024 : Shape := ⟨2, ![6, 1024]⟩
abbrev S8x1024 : Shape := ⟨2, ![8, 1024]⟩
abbrev S4x2x8192 : Shape := ⟨3, ![4, 2, 8192]⟩
abbrev S8x8192 : Shape := ⟨2, ![8, 8192]⟩

abbrev nBuf : Space → Nat
  | .hbm => 25
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S8192x64, .f32⟩
  | .hbm, ⟨9, _⟩ => ⟨S8192x256, .f32⟩
  | .hbm, ⟨10, _⟩ => ⟨S8192x256, .bf16⟩
  | .hbm, ⟨11, _⟩ => ⟨S8192x64, .f32⟩
  | .hbm, ⟨12, _⟩ => ⟨S8192x64, .f32⟩
  | .hbm, ⟨13, _⟩ => ⟨S8192x256, .f32⟩
  | .hbm, ⟨14, _⟩ => ⟨S8192x256, .bf16⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .bf16⟩
  | .hbm, ⟨21, _⟩ => ⟨S8192x512, .f32⟩
  | .hbm, ⟨22, _⟩ => ⟨S4x8x8192, .f32⟩
  | .hbm, ⟨23, _⟩ => ⟨S4x2x8192, .f32⟩
  | .hbm, ⟨24, _⟩ => ⟨S8x8192, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S1x8x1024, .f32⟩
  | .local _ .vmem, ⟨9, _⟩ => ⟨S1x8x1024, .f32⟩
  | .local _ .vmem, ⟨10, _⟩ => ⟨S2x1x1024, .f32⟩
  | .local _ .vmem, ⟨11, _⟩ => ⟨S2x128x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v71 : BitVec 1 := Scalar.cmpi .eq arg2 c3_i32
  let v72 : BitVec 32 := Scalar.extui v71
  let c0_i32_37 : BitVec 32 := 0#32
  let v73 : BitVec 1 := Scalar.cmpi .ne v72 c0_i32_37
  v73

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FwdIdeal.lean ====
variable {F : FTy → Type} [FloatOps F] [Named F]
def κ : String → Option EReal := fun
  | "log2e" => some (((Real.log 2)⁻¹ : ℝ) : EReal)
  | _ => none
-- ==== FwdReferenceIdeal.lean ====
abbrev S8192x512 : Shape := ⟨2, ![8192, 512]⟩
abbrev S8192x128 : Shape := ⟨2, ![8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8x8192 : Shape := ⟨2, ![8, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x2x4x64, .f32⟩
  | .hbm, ⟨4, _⟩ => ⟨S8192x2x64, .f32⟩
  | .hbm, ⟨5, _⟩ => ⟨S2x8192x8192x4, .f32⟩
  | .hbm, ⟨6, _⟩ => ⟨S2x4x8192x8192, .f32⟩
  | .hbm, ⟨7, _⟩ => ⟨S_, .f32⟩
  | .hbm, ⟨8, _⟩ => ⟨S2x4x8192, .f32⟩
  | .hbm, ⟨9, _⟩ => ⟨S2x4x8192x1, .f32⟩
  | .hbm, ⟨10, _⟩ => ⟨S2x4x8192x8192, .f32⟩
  | .hbm, ⟨11, _⟩ => ⟨S2x4x8192x8192, .f32⟩
  | .hbm, ⟨12, _⟩ => ⟨S2x4x8192x8192, .f32⟩
  | .hbm, ⟨13, _⟩ => ⟨S_, .f32⟩
  | .hbm, ⟨14, _⟩ => ⟨S2x4x8192, .f32⟩
  | .hbm, ⟨15, _⟩ => ⟨S2x4x8192, .f32⟩
  | .hbm, ⟨16, _⟩ => ⟨S2x4x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x4x8192, .f32⟩
  | .hbm, ⟨21, _⟩ => ⟨S2x4x8192, .f32⟩
  | .hbm, ⟨22, _⟩ => ⟨S8192x2x4x64, .f32⟩
  | .hbm, ⟨23, _⟩ => ⟨S8192x2x64, .f32⟩
  | .hbm, ⟨24, _⟩ => ⟨S8192x2x64, .f32⟩
  | .hbm, ⟨25, _⟩ => ⟨S2x8192x8192x4, .f32⟩
  | .hbm, ⟨26, _⟩ => ⟨S2x4x8192x8192, .f32⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S_, .f32⟩
  | .hbm, ⟨37, _⟩ => ⟨S2x4x8192, .f32⟩
  | .hbm, ⟨38, _⟩ => ⟨S2x4x8192x1, .f32⟩
  | .hbm, ⟨39, _⟩ => ⟨S2x4x8192x8192, .f32⟩
  | .hbm, ⟨40, _⟩ => ⟨S2x4x8192x8192, .f32⟩
  | .hbm, ⟨41, _⟩ => ⟨S2x64x4x8192, .f32⟩
  | .hbm, ⟨42, _⟩ => ⟨S8192x2x4x64, .f32⟩
  | .hbm, ⟨43, _⟩ => ⟨S8192x512, .f32⟩
  | .hbm, ⟨44, _⟩ => ⟨S8x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S8192x4096 : Shape := ⟨2, ![8192, 4096]⟩
abbrev S1024x1024 : Shape := ⟨2, ![1024, 1024]⟩
abbrev S1x1x1024x1024 : Shape := ⟨4, ![1, 1, 1024, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4x1024, .f32⟩
  | .hbm, ⟨6, _⟩ => ⟨S4x1024x1024, .f32⟩
  | .hbm, ⟨7, _⟩ => ⟨S4x1x1024x1024, .f32⟩
  | .hbm, ⟨8, _⟩ => ⟨S4x1x1024x1024, .bf16⟩
  | .hbm, ⟨9, _⟩ => ⟨S8192x4096, .bf16⟩
  | .hbm, ⟨10, _⟩ => ⟨S8192x1024, .bf16⟩
  | .hbm, ⟨11, _⟩ => ⟨S4x1024x1024, .f32⟩
  | .hbm, ⟨12, _⟩ => ⟨S4x1x1024x1024, .f32⟩
  | .hbm, ⟨13, _⟩ => ⟨S4x1x1024x1024, .bf16⟩
  | .hbm, ⟨14, _⟩ => ⟨S8192x4096, .bf16⟩
  | .hbm, ⟨15, _⟩ => ⟨S8192x4096, .f32⟩
  | .hbm, ⟨16, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1x1024x1024, .bf16⟩
  | .local _ .vmem, ⟨9, _⟩ => ⟨S1x1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi v0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, c0_i32_12.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, c0_i32_12.toNat, v27.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== UpReferenceIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .i1⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x1024, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_call1_cst : Ref sig .tc := ⟨.hbm, 10, rfl⟩
abbrev main_call1_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Gdown.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 13
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x1024, .bf16⟩
  | .hbm, ⟨11, _⟩ => ⟨S4096x1024, .bf16⟩
  | .hbm, ⟨12, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdownReferenceIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S1024x4096, .f32⟩
  | .hbm, ⟨11, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Dln.lean ====
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S8x1024, .f32⟩
  | .hbm, ⟨9, _⟩ => ⟨S8192x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v45 : BitVec 32 := Scalar.extui v39
  let c0_i32_18 : BitVec 32 := 0#32
  let v46 : BitVec 1 := Scalar.cmpi .ne v45 c0_i32_18
  v46

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v47 : BitVec 1 := Scalar.xori v39 v_true
  let v48 : BitVec 32 := Scalar.extui v47
  let c0_i32_19 : BitVec 32 := 0#32
  let v49 : BitVec 1 := Scalar.cmpi .ne v48 c0_i32_19
  v49

def k0_cond3 (i : grid0.Coords) : BitVec 1 :=
  let arg0 : BitVec 32 := BitVec.ofNat 32 (i 0).val
  let c0_i32 : BitVec 32 := 0#32
  let v39 : BitVec 1 := Scalar.cmpi .eq arg0 c0_i32
  let v52 : BitVec 32 := Scalar.extui v39
  let c0_i32_21 : BitVec 32 := 0#32
  let v53 : BitVec 1 := Scalar.cmpi .ne v52 c0_i32_21
  v53

def k0_cond4 (i : grid0.Coords) : BitVec 1 :=
  let arg0 : BitVec 32 := BitVec.ofNat 32 (i 0).val
  let c0_i32 : BitVec 32 := 0#32
  let v39 : BitVec 1 := Scalar.cmpi .eq arg0 c0_i32
  let true_22 : BitVec 1 := 1#1
  let v54 : BitVec 1 := Scalar.xori v39 true_22
  let v55 : BitVec 32 := Scalar.extui v54
  let c0_i32_23 : BitVec 32 := 0#32
  let v56 : BitVec 1 := Scalar.cmpi .ne v55 c0_i32_23
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DlnReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Prepb.lean ====
abbrev S8192x768 : Shape := ⟨2, ![8192, 768]⟩
abbrev S64 : Shape := ⟨1, ![64]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x8x64 : Shape := ⟨4, ![1, 8192, 8, 64]⟩
abbrev S8192x512 : Shape := ⟨2, ![8192, 512]⟩
abbrev S1x8192x2x64 : Shape := ⟨4, ![1, 8192, 2, 64]⟩
abbrev S8192x128 : Shape := ⟨2, ![8192, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S8192x256 : Shape := ⟨2, ![8192, 256]⟩
abbrev S512x768 : Shape := ⟨2, ![512, 768]⟩
abbrev S512x512 : Shape := ⟨2, ![512, 512]⟩
abbrev S512x128 : Shape := ⟨2, ![512, 128]⟩
abbrev S512x256 : Shape := ⟨2, ![512, 256]⟩
abbrev S128x128 : Shape := ⟨2, ![128, 128]⟩

abbrev nBuf : Space → Nat
  | .hbm => 120
  | .vmem => 24
  | .smem => 0
  | _ => 0

abbrev bufTy : (tb : Table) → Fin (tcTables nBuf tb) → BufTy
  | .hbm, ⟨0, _⟩ => ⟨S8192x768, .f32⟩
  | .hbm, ⟨1, _⟩ => ⟨S64, .f32⟩
  | .hbm, ⟨2, _⟩ => ⟨S64, .f32⟩
  | .hbm, ⟨3, _⟩ => ⟨S8192, .i32⟩
  | .hbm, ⟨4, _⟩ => ⟨S_, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S_, .i1⟩
  | .hbm, ⟨38, _⟩ => ⟨S8192, .i1⟩
  | .hbm, ⟨39, _⟩ => ⟨S8192, .i1⟩
  | .hbm, ⟨40, _⟩ => ⟨S8192, .i1⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S8192, .f32⟩
  | .hbm, ⟨53, _⟩ => ⟨S8192x1, .f32⟩
  | .hbm, ⟨54, _⟩ => ⟨S1x16, .f32⟩
  | .hbm, ⟨55, _⟩ => ⟨S8192x16, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S_, .f32⟩
  | .hbm, ⟨61, _⟩ => ⟨S8192x16, .f32⟩
  | .hbm, ⟨62, _⟩ => ⟨S8192x16, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S8192, .f32⟩
  | .hbm, ⟨72, _⟩ => ⟨S8192x1, .f32⟩
  | .hbm, ⟨73, _⟩ => ⟨S1x16, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S_, .f32⟩
  | .hbm, ⟨80, _⟩ => ⟨S8192x16, .f32⟩
  | .hbm, ⟨81, _⟩ => ⟨S8192x16, .f32⟩
  | .hbm, ⟨82, _⟩ => ⟨S8192x64, .f32⟩
  | .hbm, ⟨83, _⟩ => ⟨S8192x64, .f32⟩
  | .hbm, ⟨84, _⟩ => ⟨S8192x64, .f32⟩
  | .hbm, ⟨85, _⟩ => ⟨S1x8192x1x64, .f32⟩
  | .hbm, ⟨86, _⟩ => ⟨S1x8192x8x64, .f32⟩
  | .hbm, ⟨87, _⟩ => ⟨S8192x512, .f32⟩
  | .hbm, ⟨88, _⟩ => ⟨S1x8192x1x64, .f32⟩
  | .hbm, ⟨89, _⟩ => ⟨S1x8192x8x64, .f32⟩
  | .hbm, ⟨90, _⟩ => ⟨S8192x512, .f32⟩
  | .hbm, ⟨91, _⟩ => ⟨S1x8192x1x64, .f32⟩
  | .hbm, ⟨92, _⟩ => ⟨S1x8192x8x64, .f32⟩
  | .hbm, ⟨93, _⟩ => ⟨S8192x512, .f32⟩
  | .hbm, ⟨94, _⟩ => ⟨S1x8192x1x64, .f32⟩
  | .hbm, ⟨95, _⟩ => ⟨S1x8192x2x64, .f32⟩
  | .hbm, ⟨96, _⟩ => ⟨S8192x128, .f32⟩
  | .hbm, ⟨97, _⟩ => ⟨S1x8192x1x64, .f32⟩
  | .hbm, ⟨98, _⟩ => ⟨S1x8192x2x64, .f32⟩
  | .hbm, ⟨99, _⟩ => ⟨S8192x128, .f32⟩
  | .hbm, ⟨100, _⟩ => ⟨S1x8192x1x64, .f32⟩
  | .hbm, ⟨101, _⟩ => ⟨S1x8192x2x64, .f32⟩
  | .hbm, ⟨102, _⟩ => ⟨S8192x128, .f32⟩
  | .hbm, ⟨103, _⟩ => ⟨S8192x768, .bf16⟩
  | .hbm, ⟨104, _⟩ => ⟨S1x64, .f32⟩
  | .hbm, ⟨105, _⟩ => ⟨S8x64, .f32⟩
  | .hbm, ⟨106, _⟩ => ⟨S512, .f32⟩
  | .hbm, ⟨107, _⟩ => ⟨S1x512, .f32⟩
  | .hbm, ⟨108, _⟩ => ⟨S1x64, .f32⟩
  | .hbm, ⟨109, _⟩ => ⟨S2x64, .f32⟩
  | .hbm, ⟨110, _⟩ => ⟨S128, .f32⟩
  | .hbm, ⟨111, _⟩ => ⟨S1x128, .f32⟩
  | .hbm, ⟨112, _⟩ => ⟨S8192x512, .bf16⟩
  | .hbm, ⟨113, _⟩ => ⟨S8192x256, .bf16⟩
  | .hbm, ⟨114, _⟩ => ⟨S8192x256, .bf16⟩
  | .hbm, ⟨115, _⟩ => ⟨S8192x256, .bf16⟩
  | .hbm, ⟨116, _⟩ => ⟨S8192x512, .f32⟩
  | .hbm, ⟨117, _⟩ => ⟨S8192x256, .f32⟩
  | .hbm, ⟨118, _⟩ => ⟨S8192x256, .f32⟩
  | .hbm, ⟨119, _⟩ => ⟨S8192x256, .f32⟩
  | .local _ .vmem, ⟨0, _⟩ => ⟨S512x768, .bf16⟩
  | .local _ .vmem, ⟨1, _⟩ => ⟨S512x768, .bf16⟩
  | .local _ .vmem, ⟨2, _⟩ => ⟨S1x512, .f32⟩
  | .local _ .vmem, ⟨3, _⟩ => ⟨S1x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_cst : Ref sig .tc := ⟨.hbm, 46, rfl⟩
abbrev main_v5 : Ref sig .tc := ⟨.hbm, 47, rfl⟩
abbrev main_v6 : Ref sig .tc := ⟨.hbm, 48, rfl⟩
abbrev main_cst_1 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_3 : Ref sig .tc := ⟨.hbm, 65, rfl⟩
abbrev main_v21 : Ref sig .tc := ⟨.hbm, 66, rfl⟩
abbrev main_v22 : Ref sig .tc := ⟨.hbm, 67, rfl⟩
abbrev main_cst_4 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_5 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65_0 : Ref sig .tc := ⟨.hbm, 112, rfl⟩
abbrev main_v65_1 : Ref sig .tc := ⟨.hbm, 113, rfl⟩
abbrev main_v65_2 : Ref sig .tc := ⟨.hbm, 114, rfl⟩
abbrev main_v65_3 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PrepbIdeal.lean ====
variable {F : FTy → Type} [FloatOps F] [Named F]
def κ : String → Option EReal := fun
  | "scale_log2e" => some (((8 * (Real.log 2))⁻¹ : ℝ) : EReal)
  | _ => none
-- ==== PrepbReferenceIdeal.lean ====
abbrev S8192x768 : Shape := ⟨2, ![8192, 768]⟩
abbrev S64 : Shape := ⟨1, ![64]⟩
abbrev S8192x512 : Shape := ⟨2, ![8192, 512]⟩
abbrev S8192x8x64 : Shape := ⟨3, ![8192, 8, 64]⟩
abbrev S8192x128 : Shape := ⟨2, ![8192, 128]⟩
abbrev S8192x2x64 : Shape := ⟨3, ![8192, 2, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩
abbrev S8192 : Shape := ⟨1, ![8192]⟩
abbrev S8192x8x32 : Shape := ⟨3, ![8192, 8, 32]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S8192x2 : Shape := ⟨2, ![8192, 2]⟩
abbrev S8192x2x1 : Shape := ⟨3, ![8192, 2, 1]⟩
abbrev S8192x2x32 : Shape := ⟨3, ![8192, 2, 32]⟩
abbrev S8192x2x16 : Shape := ⟨3, ![8192, 2, 16]⟩
abbrev S8192x2x128 : Shape := ⟨3, ![8192, 2, 128]⟩
abbrev S8192x256 : Shape := ⟨2, ![8192, 256]⟩

abbrev nBuf : Space → Nat
  | .hbm => 270
  | .vmem => 0
  | .smem => 0
  | _ => 0

abbrev hbmTy0_0 (i : Nat) : BufTy := match i % 128 with
  | 0 => ⟨S8192x768, .f32⟩
  | 1 => ⟨S64, .f32⟩
  | 2 => ⟨S64, .f32⟩
  | 3 => ⟨S8192x512, .f32⟩
  | 4 => ⟨S8192x8x64, .f32⟩
  | 5 => ⟨S8192x128, .f32⟩
  | 6 => ⟨S8192x2x64, .f32⟩
  | 7 => ⟨S8192x128, .f32⟩
  | 8 => ⟨S8192x2x64, .f32⟩
  | 9 => ⟨S8192x8x64, .f32⟩
  | 10 => ⟨S_, .f32⟩
  | 11 => ⟨S8192x8, .f32⟩
  | 12 => ⟨S8192x8x1, .f32⟩
  | 13 => ⟨S_, .f32⟩
  | 14 => ⟨S8192x8x1, .f32⟩
  | 15 => ⟨S8192x8x1, .f32⟩
  | 16 => ⟨S_, .f32⟩
  | 17 => ⟨S8192x8x1, .f32⟩
  | 18 => ⟨S8192x8x1, .f32⟩
  | 19 => ⟨S8192x8x1, .f32⟩
  | 20 => ⟨S8192x8x64, .f32⟩
  | 21 => ⟨S8192x8x64, .f32⟩
  | 22 => ⟨S1x1x64, .f32⟩
  | 23 => ⟨S8192x8x64, .f32⟩
  | 24 => ⟨S8192x8x64, .f32⟩
  | 25 => ⟨S8192, .i32⟩
  | 26 => ⟨S8192x8x32, .f32⟩
  | 27 => ⟨S_, .i32⟩
  | 28 => ⟨S_, .i32⟩
  | 29 => ⟨S8192, .i32⟩
  | 30 => ⟨S8192, .i32⟩
  | 31 => ⟨S8192, .i32⟩
  | 32 => ⟨S_, .i32⟩
  | 33 => ⟨S8192, .i32⟩
  | 34 => ⟨S8192, .i1⟩
  | 35 => ⟨S8192, .i32⟩
  | 36 => ⟨S8192, .i32⟩
  | 37 => ⟨S_, .i32⟩
  | 38 => ⟨S8192, .i32⟩
  | 39 => ⟨S8192, .i1⟩
  | 40 => ⟨S8192, .i1⟩
  | 41 => ⟨S_, .i32⟩
  | 42 => ⟨S8192, .i32⟩
  | 43 => ⟨S8192, .i32⟩
  | 44 => ⟨S8192, .i32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S8192, .f32⟩
  | 54 => ⟨S8192x1, .f32⟩
  | 55 => ⟨S1x16, .f32⟩
  | 56 => ⟨S8192x16, .f32⟩
  | 57 => ⟨S8192x16, .f32⟩
  | 58 => ⟨S8192x16, .f32⟩
  | 59 => ⟨S8192x16, .f32⟩
  | 60 => ⟨S8192x1x16, .f32⟩
  | 61 => ⟨S8192x16, .f32⟩
  | 62 => ⟨S8192x1x16, .f32⟩
  | 63 => ⟨S8192x8x16, .f32⟩
  | 64 => ⟨S8192x8x16, .f32⟩
  | 65 => ⟨S8192x8x16, .f32⟩
  | 66 => ⟨S8192x8x16, .f32⟩
  | 67 => ⟨S8192x8x16, .f32⟩
  | 68 => ⟨S8192x8x16, .f32⟩
  | 69 => ⟨S8192x8x16, .f32⟩
  | 70 => ⟨S8192x8x16, .f32⟩
  | 71 => ⟨S8192x8x16, .f32⟩
  | 72 => ⟨S8192x8x16, .f32⟩
  | 73 => ⟨S8192x8x16, .f32⟩
  | 74 => ⟨S8192x8x16, .f32⟩
  | 75 => ⟨S8192x8x32, .f32⟩
  | 76 => ⟨S8192x8x32, .f32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i1⟩
  | 88 => ⟨S_, .i32⟩
  | 89 => ⟨S8192, .i32⟩
  | 90 => ⟨S8192, .i1⟩
  | 91 => ⟨S_, .i32⟩
  | 92 => ⟨S_, .i1⟩
  | 93 => ⟨S8192, .i1⟩
  | 94 => ⟨S8192, .i1⟩
  | 95 => ⟨S8192, .i1⟩
  | 96 => ⟨S8192, .i32⟩
  | 97 => ⟨S8192, .i32⟩
  | 98 => ⟨S8192, .i32⟩
  | 99 => ⟨S16, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S8192, .f32⟩
  | 108 => ⟨S8192x1, .f32⟩
  | 109 => ⟨S1x16, .f32⟩
  | 110 => ⟨S8192x16, .f32⟩
  | 111 => ⟨S8192x16, .f32⟩
  | 112 => ⟨S8192x16, .f32⟩
  | 113 => ⟨S8192x16, .f32⟩
  | 114 => ⟨S8192x1x16, .f32⟩
  | 115 => ⟨S8192x16, .f32⟩
  | 116 => ⟨S8192x1x16, .f32⟩
  | 117 => ⟨S8192x8x16, .f32⟩
  | 118 => ⟨S8192x8x16, .f32⟩
  | 119 => ⟨S8192x8x16, .f32⟩
  | 120 => ⟨S8192x8x16, .f32⟩
  | 121 => ⟨S8192x8x16, .f32⟩
  | 122 => ⟨S8192x8x16, .f32⟩
  | 123 => ⟨S8192x8x16, .f32⟩
  | 124 => ⟨S8192x8x16, .f32⟩
  | 125 => ⟨S8192x8x16, .f32⟩
  | 126 => ⟨S8192x8x16, .f32⟩
  | 127 => ⟨S8192x8x16, .f32⟩
  | _ => ⟨S8192x768, .f32⟩

abbrev hbmTy0_1 (i : Nat) : BufTy := match i % 128 with
  | 0 => ⟨S8192x8x16, .f32⟩
  | 1 => ⟨S8192x8x32, .f32⟩
  | 2 => ⟨S8192x8x64, .f32⟩
  | 3 => ⟨S_, .f32⟩
  | 4 => ⟨S8192x8x64, .f32⟩
  | 5 => ⟨S8192x8x64, .f32⟩
  | 6 => ⟨S_, .f32⟩
  | 7 => ⟨S_, .f32⟩
  | 8 => ⟨S_, .f32⟩
  | 9 => ⟨S8192x8x64, .f32⟩
  | 10 => ⟨S8192x8x64, .f32⟩
  | 11 => ⟨S8192x2x64, .f32⟩
  | 12 => ⟨S_, .f32⟩
  | 13 => ⟨S8192x2, .f32⟩
  | 14 => ⟨S8192x2x1, .f32⟩
  | 15 => ⟨S_, .f32⟩
  | 16 => ⟨S8192x2x1, .f32⟩
  | 17 => ⟨S8192x2x1, .f32⟩
  | 18 => ⟨S_, .f32⟩
  | 19 => ⟨S8192x2x1, .f32⟩
  | 20 => ⟨S8192x2x1, .f32⟩
  | 21 => ⟨S8192x2x1, .f32⟩
  | 22 => ⟨S8192x2x64, .f32⟩
  | 23 => ⟨S8192x2x64, .f32⟩
  | 24 => ⟨S1x1x64, .f32⟩
  | 25 => ⟨S8192x2x64, .f32⟩
  | 26 => ⟨S8192x2x64, .f32⟩
  | 27 => ⟨S8192, .i32⟩
  | 28 => ⟨S8192x2x32, .f32⟩
  | 29 => ⟨S_, .i32⟩
  | 30 => ⟨S_, .i32⟩
  | 31 => ⟨S8192, .i32⟩
  | 32 => ⟨S8192, .i32⟩
  | 33 => ⟨S8192, .i32⟩
  | 34 => ⟨S_, .i32⟩
  | 35 => ⟨S8192, .i32⟩
  | 36 => ⟨S8192, .i1⟩
  | 37 => ⟨S8192, .i32⟩
  | 38 => ⟨S8192, .i32⟩
  | 39 => ⟨S_, .i32⟩
  | 40 => ⟨S8192, .i32⟩
  | 41 => ⟨S8192, .i1⟩
  | 42 => ⟨S8192, .i1⟩
  | 43 => ⟨S_, .i32⟩
  | 44 => ⟨S8192, .i32⟩
  | 45 => ⟨S8192, .i32⟩
  | 46 => ⟨S8192, .i32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S8192, .f32⟩
  | 56 => ⟨S8192x1, .f32⟩
  | 57 => ⟨S1x16, .f32⟩
  | 58 => ⟨S8192x16, .f32⟩
  | 59 => ⟨S8192x16, .f32⟩
  | 60 => ⟨S8192x16, .f32⟩
  | 61 => ⟨S8192x16, .f32⟩
  | 62 => ⟨S8192x1x16, .f32⟩
  | 63 => ⟨S8192x16, .f32⟩
  | 64 => ⟨S8192x1x16, .f32⟩
  | 65 => ⟨S8192x2x16, .f32⟩
  | 66 => ⟨S8192x2x16, .f32⟩
  | 67 => ⟨S8192x2x16, .f32⟩
  | 68 => ⟨S8192x2x16, .f32⟩
  | 69 => ⟨S8192x2x16, .f32⟩
  | 70 => ⟨S8192x2x16, .f32⟩
  | 71 => ⟨S8192x2x16, .f32⟩
  | 72 => ⟨S8192x2x16, .f32⟩
  | 73 => ⟨S8192x2x16, .f32⟩
  | 74 => ⟨S8192x2x16, .f32⟩
  | 75 => ⟨S8192x2x16, .f32⟩
  | 76 => ⟨S8192x2x16, .f32⟩
  | 77 => ⟨S8192x2x32, .f32⟩
  | 78 => ⟨S8192x2x32, .f32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S8192, .i32⟩
  | 86 => ⟨S8192, .i32⟩
  | 87 => ⟨S_, .i32⟩
  | 88 => ⟨S8192, .i32⟩
  | 89 => ⟨S8192, .i1⟩
  | 90 => ⟨S_, .i32⟩
  | 91 => ⟨S8192, .i32⟩
  | 92 => ⟨S8192, .i1⟩
  | 93 => ⟨S_, .i32⟩
  | 94 => ⟨S_, .i1⟩
  | 95 => ⟨S8192, .i1⟩
  | 96 => ⟨S8192, .i1⟩
  | 97 => ⟨S8192, .i1⟩
  | 98 => ⟨S8192, .i32⟩
  | 99 => ⟨S8192, .i32⟩
  | 100 => ⟨S8192, .i32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S8192, .f32⟩
  | 110 => ⟨S8192x1, .f32⟩
  | 111 => ⟨S1x16, .f32⟩
  | 112 => ⟨S8192x16, .f32⟩
  | 113 => ⟨S8192x16, .f32⟩
  | 114 => ⟨S8192x16, .f32⟩
  | 115 => ⟨S8192x16, .f32⟩
  | 116 => ⟨S8192x1x16, .f32⟩
  | 117 => ⟨S8192x16, .f32⟩
  | 118 => ⟨S8192x1x16, .f32⟩
  | 119 => ⟨S8192x2x16, .f32⟩
  | 120 => ⟨S8192x2x16, .f32⟩
  | 121 => ⟨S8192x2x16, .f32⟩
  | 122 => ⟨S8192x2x16, .f32⟩
  | 123 => ⟨S8192x2x16, .f32⟩
  | 124 => ⟨S8192x2x16, .f32⟩
  | 125 => ⟨S8192x2x16, .f32⟩
  | 126 => ⟨S8192x2x16, .f32⟩
  | 127 => ⟨S8192x2x16, .f32⟩
  | _ => ⟨S8192x768, .f32⟩

abbrev hbmTy0_2 (i : Nat) : BufTy := match i % 128 with
  | 0 => ⟨S8192x2x16, .f32⟩
  | 1 => ⟨S8192x2x16, .f32⟩
  | 2 => ⟨S8192x2x16, .f32⟩
  | 3 => ⟨S8192x2x32, .f32⟩
  | 4 => ⟨S8192x2x64, .f32⟩
  | 5 => ⟨S8192x512, .f32⟩
  | 6 => ⟨S8192x2x128, .f32⟩
  | 7 => ⟨S8192x256, .f32⟩
  | 8 => ⟨S8192x2x128, .f32⟩
  | 9 => ⟨S8192x256, .f32⟩
  | 10 => ⟨S_, .f32⟩
  | 11 => ⟨S8192x2x64, .f32⟩
  | 12 => ⟨S8192x2x128, .f32⟩
  | 13 => ⟨S8192x256, .f32⟩
  | _ => ⟨S8192x768, .f32⟩

abbrev hbmTy (i : Nat) : BufTy := match i / 128 with
  | 0 => hbmTy0_0 i
  | 1 => hbmTy0_1 i
  | 2 => hbmTy0_2 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_4 : Ref sig .tc := ⟨.hbm, 77, rfl⟩
abbrev main_call1_v0 : Ref sig .tc := ⟨.hbm, 78, rfl⟩
abbrev main_call1_c : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_c_1 : Ref sig .tc := ⟨.hbm, 85, rfl⟩
abbrev main_call1_v5 : Ref sig .tc := ⟨.hbm, 86, rfl⟩
abbrev main_call1_v6 : Ref sig .tc := ⟨.hbm, 87, rfl⟩
abbrev main_call1_c_2 : Ref sig .tc := ⟨.hbm, 88, rfl⟩
abbrev main_call1_v7 : Ref sig .tc := ⟨.hbm, 89, rfl⟩
abbrev main_call1_v8 : Ref sig .tc := ⟨.hbm, 90, rfl⟩
abbrev main_call1_c_3 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_5 : Ref sig .tc := ⟨.hbm, 101, rfl⟩
abbrev main_v55 : Ref sig .tc := ⟨.hbm, 102, rfl⟩
abbrev main_v56 : Ref sig .tc := ⟨.hbm, 103, rfl⟩
abbrev main_cst_6 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_7 : Ref sig .tc := ⟨.hbm, 131, rfl⟩
abbrev main_v83 : Ref sig .tc := ⟨.hbm, 132, rfl⟩
abbrev main_v84 : Ref sig .tc := ⟨.hbm, 133, rfl⟩
abbrev main_cst_8 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_9 : Ref sig .tc := ⟨.hbm, 140, rfl⟩
abbrev main_v90 : Ref sig .tc := ⟨.hbm, 141, rfl⟩
abbrev main_v91 : Ref sig .tc := ⟨.hbm, 142, rfl⟩
abbrev main_cst_10 : Ref sig .tc := ⟨.hbm, 143, rfl⟩
abbrev main_v92 : Ref sig .tc := ⟨.hbm, 144, rfl⟩
abbrev main_v93 : Ref sig .tc := ⟨.hbm, 145, rfl⟩
abbrev main_cst_11 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_12 : Ref sig .tc := ⟨.hbm, 157, rfl⟩
abbrev main_call2_v0 : Ref sig .tc := ⟨.hbm, 158, rfl⟩
abbrev main_call2_v1 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_v8 : Ref sig .tc := ⟨.hbm, 166, rfl⟩
abbrev main_call2_c : Ref sig .tc := ⟨.hbm, 167, rfl⟩
abbrev main_call2_v9 : Ref sig .tc := ⟨.hbm, 168, rfl⟩
abbrev main_call2_v10 : Ref sig .tc := ⟨.hbm, 169, rfl⟩
abbrev main_call2_v11 : Ref sig .tc := ⟨.hbm, 170, rfl⟩
abbrev main_call2_c_0 : Ref sig .tc := ⟨.hbm, 171, rfl⟩
abbrev main_call2_v12 : Ref sig .tc := ⟨.hbm, 172, rfl⟩
abbrev main_call2_v13 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_cst_13 : Ref sig .tc := ⟨.hbm, 177, rfl⟩
abbrev main_v107 : Ref sig .tc := ⟨.hbm, 178, rfl⟩
abbrev main_v108 : Ref sig .tc := ⟨.hbm, 179, rfl⟩
abbrev main_cst_14 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_c_15 : Ref sig .tc := ⟨.hbm, 207, rfl⟩
abbrev main_call3_v0 : Ref sig .tc := ⟨.hbm, 208, rfl⟩
abbrev main_call3_c : Ref sig .tc := ⟨.hbm, 209, rfl⟩
abbrev main_call3_v1 : Ref sig .tc := ⟨.hbm, 210, rfl⟩
abbrev main_call3_c_0 : Ref sig .tc := ⟨.hbm, 211, rfl⟩
abbrev main_call3_v2 : Ref sig .tc := ⟨.hbm, 212, rfl⟩
abbrev main_call3_v3 : Ref sig .tc := ⟨.hbm, 213, rfl⟩
abbrev main_call3_v4 : Ref sig .tc := ⟨.hbm, 214, rfl⟩
abbrev main_call3_c_1 : Ref sig .tc := ⟨.hbm, 215, rfl⟩
abbrev main_call3_v5 : Ref sig .tc := ⟨.hbm, 216, rfl⟩
abbrev main_call3_v6 : Ref sig .tc := ⟨.hbm, 217, rfl⟩
abbrev main_call3_c_2 : Ref sig .tc := ⟨.hbm, 218, rfl⟩
abbrev main_call3_v7 : Ref sig .tc := ⟨.hbm, 219, rfl⟩
abbrev main_call3_v8 : Ref sig .tc := ⟨.hbm, 220, rfl⟩
abbrev main_call3_c_3 : Ref sig .tc := ⟨.hbm, 221, rfl⟩
abbrev main_call3_v9 : Ref sig .tc := ⟨.hbm, 222, rfl⟩
abbrev main_call3_v10 : Ref sig .tc := ⟨.hbm, 223, rfl⟩
abbrev main_call3_v11 : Ref sig .tc := ⟨.hbm, 224, rfl⟩
abbrev main_call3_v12 : Ref sig .tc := ⟨.hbm, 225, rfl⟩
abbrev main_call3_v13 : Ref sig .tc := ⟨.hbm, 226, rfl⟩
abbrev main_call3_v14 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_cst_16 : Ref sig .tc := ⟨.hbm, 231, rfl⟩
abbrev main_v138 : Ref sig .tc := ⟨.hbm, 232, rfl⟩
abbrev main_v139 : Ref sig .tc := ⟨.hbm, 233, rfl⟩
abbrev main_cst_17 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_cst_18 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩

abbrev nD : Nat := 1
abbrev τ : Topo := Topo.v7x

variable {F : FTy → Type} [FloatOps F]
-- ==== Gup.lean ====
abbrev S8192x1024 : Shape := ⟨2, ![8192, 1024]⟩
abbrev S1024x4096 : Shape := ⟨2, ![1024, 4096]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩
abbrev S1024x4x1024 : Shape := ⟨3, ![1024, 4, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .bf16⟩
  | .hbm, ⟨4, _⟩ => ⟨S8192x4096, .bf16⟩
  | .hbm, ⟨5, _⟩ => ⟨S4x1024x1024, .bf16⟩
  | .hbm, ⟨6, _⟩ => ⟨S1024x4x1024, .bf16⟩
  | .hbm, ⟨7, _⟩ => ⟨S1024x4096, .bf16⟩
  | .hbm, ⟨8, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupReferenceIdeal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dx1.lean ====
abbrev S8192x1024 : Shape := ⟨2, ![8192, 1024]⟩
abbrev S1024x4096 : Shape := ⟨2, ![1024, 4096]⟩
abbrev S8192x4096 : Shape := ⟨2, ![8192, 4096]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S1024x1024 : Shape := ⟨2, ![1024, 1024]⟩
abbrev S1x1x1024x1024 : Shape := ⟨4, ![1, 1, 1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .f32⟩
  | .hbm, ⟨4, _⟩ => ⟨S8192x4096, .bf16⟩
  | .hbm, ⟨5, _⟩ => ⟨S1024x4x1024, .f32⟩
  | .hbm, ⟨6, _⟩ => ⟨S4x1024x1024, .f32⟩
  | .hbm, ⟨7, _⟩ => ⟨S4x1x1024x1024, .f32⟩
  | .hbm, ⟨8, _⟩ => ⟨S4x1x1024x1024, .bf16⟩
  | .hbm, ⟨9, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi v0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, c0_i32_12.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dx1ReferenceIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x4096, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== In.lean ====
abbrev S8192x1024 : Shape := ⟨2, ![8192, 1024]⟩
abbrev S1024x5376 : Shape := ⟨2, ![1024, 5376]⟩
abbrev S1x1024x5376 : Shape := ⟨3, ![1, 1024, 5376]⟩
abbrev S8192x768 : Shape := ⟨2, ![8192, 768]⟩
abbrev S1024x1024 : Shape := ⟨2, ![1024, 1024]⟩
abbrev S1x1024x768 : Shape := ⟨3, ![1, 1024, 768]⟩
abbrev S1024x768 : Shape := ⟨2, ![1024, 768]⟩
abbrev S8192x3072 : Shape := ⟨2, ![8192, 3072]⟩

abbrev nBuf : Space → Nat
  | .hbm => 10
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x1024, .bf16⟩
  | .hbm, ⟨3, _⟩ => ⟨S1x1024x5376, .f32⟩
  | .hbm, ⟨4, _⟩ => ⟨S1x1024x5376, .bf16⟩
  | .hbm, ⟨5, _⟩ => ⟨S8192x768, .f32⟩
  | .hbm, ⟨6, _⟩ => ⟨S8192x768, .f32⟩
  | .hbm, ⟨7, _⟩ => ⟨S8192x768, .f32⟩
  | .hbm, ⟨8, _⟩ => ⟨S8192x3072, .bf16⟩
  | .hbm, ⟨9, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1024x768, .f32⟩
  | .local _ .vmem, ⟨4, _⟩ => ⟨S1024x768, .f32⟩
  | .local _ .vmem, ⟨5, _⟩ => ⟨S1024x1024, .bf16⟩
  | .local _ .vmem, ⟨6, _⟩ => ⟨S1024x1024, .bf16⟩
  | .local _ .vmem, ⟨7, _⟩ => ⟨S1x1024x768, .bf16⟩
  | .local _ .vmem, ⟨8, _⟩ => ⟨S1024x768, .f32⟩
  | .local _ .vmem, ⟨9, _⟩ => ⟨S1024x768, .f32⟩
  | .local _ .vmem, ⟨10, _⟩ => ⟨S1024x1024, .bf16⟩
  | .local _ .vmem, ⟨11, _⟩ => ⟨S1024x1024, .bf16⟩
  | .local _ .vmem, ⟨12, _⟩ => ⟨S1x1024x768, .bf16⟩
  | .local _ .vmem, ⟨13, _⟩ => ⟨S1024x768, .f32⟩
  | .local _ .vmem, ⟨14, _⟩ => ⟨S1024x768, .f32⟩
  | .local _ .vmem, ⟨15, _⟩ => ⟨S1024x1024, .bf16⟩
  | .local _ .vmem, ⟨16, _⟩ => ⟨S1024x1024, .bf16⟩
  | .local _ .vmem, ⟨17, _⟩ => ⟨S1x1024x768, .bf16⟩
  | .local _ .vmem, ⟨18, _⟩ => ⟨S1x1024x768, .bf16⟩
  | .local _ .vmem, ⟨19, _⟩ => ⟨S1024x768, .bf16⟩
  | .local _ .vmem, ⟨20, _⟩ => ⟨S1024x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let c0_i32_0 : BitVec 32 := 0#32
  ![c0_i32.toNat, arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x1024x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![c0_i32.toNat, arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1x1024x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  let c0_i32_0 : BitVec 32 := 0#32
  ![c0_i32.toNat, arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x1024x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== InReferenceIdeal.lean ====
abbrev S8192x1024 : Shape := ⟨2, ![8192, 1024]⟩
abbrev S1024x5376 : Shape := ⟨2, ![1024, 5376]⟩
abbrev S8192x5376 : Shape := ⟨2, ![8192, 5376]⟩
abbrev S8192x768 : Shape := ⟨2, ![8192, 768]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x5376, .f32⟩
  | .hbm, ⟨3, _⟩ => ⟨S8192x768, .f32⟩
  | .hbm, ⟨4, _⟩ => ⟨S8192x768, .f32⟩
  | .hbm, ⟨5, _⟩ => ⟨S8192x768, .f32⟩
  | .hbm, ⟨6, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Ginq.lean ====
abbrev S8192x1024 : Shape := ⟨2, ![8192, 1024]⟩
abbrev S1024x2304 : Shape := ⟨2, ![1024, 2304]⟩
abbrev S8192x2304 : Shape := ⟨2, ![8192, 2304]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2304, .f32⟩
  | .hbm, ⟨2, _⟩ => ⟨S8192x2304, .f32⟩
  | .hbm, ⟨3, _⟩ => ⟨S8192x1024, .bf16⟩
  | .hbm, ⟨4, _⟩ => ⟨S8192x2304, .bf16⟩
  | .hbm, ⟨5, _⟩ => ⟨S1024x2304, .bf16⟩
  | .hbm, ⟨6, _⟩ => ⟨S1024x2304, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinqIdeal.lean ====
abbrev S8192x1024 : Shape := ⟨2, ![8192, 1024]⟩
abbrev S1024x2304 : Shape := ⟨2, ![1024, 2304]⟩
abbrev S8192x2304 : Shape := ⟨2, ![8192, 2304]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2304, .f32⟩
  | .hbm, ⟨2, _⟩ => ⟨S8192x2304, .f32⟩
  | .hbm, ⟨3, _⟩ => ⟨S8192x1024, .bf16⟩
  | .hbm, ⟨4, _⟩ => ⟨S8192x2304, .bf16⟩
  | .hbm, ⟨5, _⟩ => ⟨S1024x2304, .bf16⟩
  | .hbm, ⟨6, _⟩ => ⟨S1024x2304, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinqReferenceIdeal.lean ====
abbrev S8192x1024 : Shape := ⟨2, ![8192, 1024]⟩
abbrev S1024x2304 : Shape := ⟨2, ![1024, 2304]⟩
abbrev S8192x2304 : Shape := ⟨2, ![8192, 2304]⟩
abbrev S2304x1024 : Shape := ⟨2, ![2304, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2304, .f32⟩
  | .hbm, ⟨2, _⟩ => ⟨S8192x2304, .f32⟩
  | .hbm, ⟨3, _⟩ => ⟨S8192x2304, .f32⟩
  | .hbm, ⟨4, _⟩ => ⟨S2304x1024, .f32⟩
  | .hbm, ⟨5, _⟩ => ⟨S1024x2304, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ging.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .bf16⟩
  | .hbm, ⟨6, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GingIdeal.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .bf16⟩
  | .hbm, ⟨6, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GingReferenceIdeal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dxq.lean ====
abbrev S8192x1024 : Shape := ⟨2, ![8192, 1024]⟩
abbrev S1024x5376 : Shape := ⟨2, ![1024, 5376]⟩
abbrev S8192x2304 : Shape := ⟨2, ![8192, 2304]⟩
abbrev S1x1024x5376 : Shape := ⟨3, ![1, 1024, 5376]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x2304, .f32⟩
  | .hbm, ⟨3, _⟩ => ⟨S8192x1024, .f32⟩
  | .hbm, ⟨4, _⟩ => ⟨S8192x2304, .bf16⟩
  | .hbm, ⟨5, _⟩ => ⟨S1x1024x5376, .f32⟩
  | .hbm, ⟨6, _⟩ => ⟨S1x1024x5376, .bf16⟩
  | .hbm, ⟨7, _⟩ => ⟨S8192x1024, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32_7 : BitVec 32 := 2#32
  let v13 : BitVec 1 := Scalar.cmpi .eq arg2 c2_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxqReferenceIdeal.lean ====
abbrev S8192x1024 : Shape := ⟨2, ![8192, 1024]⟩
abbrev S1024x5376 : Shape := ⟨2, ![1024, 5376]⟩
abbrev S8192x2304 : Shape := ⟨2, ![8192, 2304]⟩
abbrev S_ : Shape := ⟨0, ![]⟩
abbrev S1024x2304 : Shape := ⟨2, ![1024, 2304]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x2304, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S1024x2304, .f32⟩
  | .hbm, ⟨8, _⟩ => ⟨S8192x2304, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Dxg.lean ====
abbrev S8192x1024 : Shape := ⟨2, ![8192, 1024]⟩
abbrev S1024x5376 : Shape := ⟨2, ![1024, 5376]⟩
abbrev S8192x3072 : Shape := ⟨2, ![8192, 3072]⟩
abbrev S1x1024x5376 : Shape := ⟨3, ![1, 1024, 5376]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x3072, .f32⟩
  | .hbm, ⟨3, _⟩ => ⟨S8192x1024, .f32⟩
  | .hbm, ⟨4, _⟩ => ⟨S8192x3072, .bf16⟩
  | .hbm, ⟨5, _⟩ => ⟨S1x1024x5376, .f32⟩
  | .hbm, ⟨6, _⟩ => ⟨S1x1024x5376, .bf16⟩
  | .hbm, ⟨7, _⟩ => ⟨S8192x1024, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  let c0_i32_0 : BitVec 32 := 0#32
  ![c0_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxgReferenceIdeal.lean ====
abbrev S8192x1024 : Shape := ⟨2, ![8192, 1024]⟩
abbrev S1024x5376 : Shape := ⟨2, ![1024, 5376]⟩
abbrev S8192x3072 : Shape := ⟨2, ![8192, 3072]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x3072, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x1024, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Down.lean ====
abbrev S8192x1024 : Shape := ⟨2, ![8192, 1024]⟩
abbrev S1024x4096 : Shape := ⟨2, ![1024, 4096]⟩
abbrev S4096x1024 : Shape := ⟨2, ![4096, 1024]⟩
abbrev S1024 : Shape := ⟨1, ![1024]⟩
abbrev S8192x4096 : Shape := ⟨2, ![8192, 4096]⟩
abbrev S_ : Shape := ⟨0, ![]⟩
abbrev S4x1024x1024 : Shape := ⟨3, ![4, 1024, 1024]⟩
abbrev S4x1x1024x1024 : Shape := ⟨4, ![4, 1, 1024, 1024]⟩
abbrev S1x1024 : Shape := ⟨2, ![1, 1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 20
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S4x1024x1024, .f32⟩
  | .hbm, ⟨12, _⟩ => ⟨S4x1x1024x1024, .f32⟩
  | .hbm, ⟨13, _⟩ => ⟨S4x1x1024x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi arg2 c1_i32
  let c0_i32_0 : BitVec 32 := 0#32
  let v2 : BitVec 1 := Scalar.cmpi .sgt arg2 c0_i32_0
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg2 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, c0_i32_12.toNat, v27.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DownReferenceIdeal.lean ====
abbrev S8192x1024 : Shape := ⟨2, ![8192, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S1x1024x1024, .f32⟩
  | .hbm, ⟨7, _⟩ => ⟨S1x1024x1024, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== OutReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Dmix.lean ====
abbrev S1024x1024 : Shape := ⟨2, ![1024, 1024]⟩
abbrev S256x1024 : Shape := ⟨2, ![256, 1024]⟩
abbrev S512x1024 : Shape := ⟨2, ![512, 1024]⟩
abbrev S8192x1024 : Shape := ⟨2, ![8192, 1024]⟩
abbrev S1x1024x1024 : Shape := ⟨3, ![1, 1024, 1024]⟩
abbrev S1x256x1024 : Shape := ⟨3, ![1, 256, 1024]⟩
abbrev S8192x256 : Shape := ⟨2, ![8192, 256]⟩
abbrev S1024x256 : Shape := ⟨2, ![1024, 256]⟩
abbrev S1x512x1024 : Shape := ⟨3, ![1, 512, 1024]⟩
abbrev S8192x512 : Shape := ⟨2, ![8192, 512]⟩
abbrev S1024x512 : Shape := ⟨2, ![1024, 512]⟩

abbrev nBuf : Space → Nat
  | .hbm => 24
  | .vmem => 20
  | .smem => 0
  | _ => 0

abbrev bufTy : (tb : Table) → Fin (tcTables nBuf tb) → BufTy
  | .hbm, ⟨0, _⟩ => ⟨S1024x1024, .f32⟩
  | .hbm, ⟨1, _⟩ => ⟨S256x1024, .f32⟩
  | .hbm, ⟨2, _⟩ => ⟨S512x1024, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S1x1024x1024, .f32⟩
  | .hbm, ⟨10, _⟩ => ⟨S1x1024x1024, .bf16⟩
  | .hbm, ⟨11, _⟩ => ⟨S8192x1024, .f32⟩
  | .hbm, ⟨12, _⟩ => ⟨S8192x1024, .bf16⟩
  | .hbm, ⟨13, _⟩ => ⟨S1x256x1024, .f32⟩
  | .hbm, ⟨14, _⟩ => ⟨S1x256x1024, .bf16⟩
  | .hbm, ⟨15, _⟩ => ⟨S8192x256, .f32⟩
  | .hbm, ⟨16, _⟩ => ⟨S8192x1024, .bf16⟩
  | .hbm, ⟨17, _⟩ => ⟨S1x512x1024, .f32⟩
  | .hbm, ⟨18, _⟩ => ⟨S1x512x1024, .bf16⟩
  | .hbm, ⟨19, _⟩ => ⟨S8192x512, .f32⟩
  | .hbm, ⟨20, _⟩ => ⟨S8192x1024, .bf16⟩
  | .hbm, ⟨21, _⟩ => ⟨S1x256x1024, .f32⟩
  | .hbm, ⟨22, _⟩ => ⟨S1x256x1024, .bf16⟩
  | .hbm, ⟨23, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x256x1024, .bf16⟩
  | .local _ .vmem, ⟨8, _⟩ => ⟨S1024x256, .f32⟩
  | .local _ .vmem, ⟨9, _⟩ => ⟨S1024x256, .f32⟩
  | .local _ .vmem, ⟨10, _⟩ => ⟨S1024x1024, .bf16⟩
  | .local _ .vmem, ⟨11, _⟩ => ⟨S1024x1024, .bf16⟩
  | .local _ .vmem, ⟨12, _⟩ => ⟨S1x512x1024, .bf16⟩
  | .local _ .vmem, ⟨13, _⟩ => ⟨S1024x512, .f32⟩
  | .local _ .vmem, ⟨14, _⟩ => ⟨S1024x512, .f32⟩
  | .local _ .vmem, ⟨15, _⟩ => ⟨S1024x1024, .bf16⟩
  | .local _ .vmem, ⟨16, _⟩ => ⟨S1024x1024, .bf16⟩
  | .local _ .vmem, ⟨17, _⟩ => ⟨S1x256x1024, .bf16⟩
  | .local _ .vmem, ⟨18, _⟩ => ⟨S1024x256, .f32⟩
  | .local _ .vmem, ⟨19, _⟩ => ⟨S1024x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, arg1.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, arg1.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1x512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, arg1.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1x256x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== DmixReferenceIdeal.lean ====
abbrev S1024x1024 : Shape := ⟨2, ![1024, 1024]⟩
abbrev S256x1024 : Shape := ⟨2, ![256, 1024]⟩
abbrev S512x1024 : Shape := ⟨2, ![512, 1024]⟩
abbrev S8192x1024 : Shape := ⟨2, ![8192, 1024]⟩
abbrev S_ : Shape := ⟨0, ![]⟩
abbrev S8192x256 : Shape := ⟨2, ![8192, 256]⟩
abbrev S8192x512 : Shape := ⟨2, ![8192, 512]⟩

abbrev nBuf : Space → Nat
  | .hbm => 24
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S256x1024, .f32⟩
  | .hbm, ⟨2, _⟩ => ⟨S512x1024, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x256, .f32⟩
  | .hbm, ⟨14, _⟩ => ⟨S8192x1024, .f32⟩
  | .hbm, ⟨15, _⟩ => ⟨S8192x256, .f32⟩
  | .hbm, ⟨16, _⟩ => ⟨S_, .f32⟩
  | .hbm, ⟨17, _⟩ => ⟨S8192x512, .f32⟩
  | .hbm, ⟨18, _⟩ => ⟨S8192x1024, .f32⟩
  | .hbm, ⟨19, _⟩ => ⟨S8192x512, .f32⟩
  | .hbm, ⟨20, _⟩ => ⟨S_, .f32⟩
  | .hbm, ⟨21, _⟩ => ⟨S8192x256, .f32⟩
  | .hbm, ⟨22, _⟩ => ⟨S8192x1024, .f32⟩
  | .hbm, ⟨23, _⟩ => ⟨S8192x256, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Branch.lean ====
abbrev S8192x256 : Shape := ⟨2, ![8192, 256]⟩
abbrev S8192x512 : Shape := ⟨2, ![8192, 512]⟩
abbrev S256x1024 : Shape := ⟨2, ![256, 1024]⟩
abbrev S512x1024 : Shape := ⟨2, ![512, 1024]⟩
abbrev S1x256x1024 : Shape := ⟨3, ![1, 256, 1024]⟩
abbrev S8192x1024 : Shape := ⟨2, ![8192, 1024]⟩
abbrev S1024x256 : Shape := ⟨2, ![1024, 256]⟩
abbrev S1024x1024 : Shape := ⟨2, ![1024, 1024]⟩
abbrev S1x512x1024 : Shape := ⟨3, ![1, 512, 1024]⟩
abbrev S1024x512 : Shape := ⟨2, ![1024, 512]⟩

abbrev nBuf : Space → Nat
  | .hbm => 18
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S256x1024, .f32⟩
  | .hbm, ⟨4, _⟩ => ⟨S512x1024, .f32⟩
  | .hbm, ⟨5, _⟩ => ⟨S256x1024, .f32⟩
  | .hbm, ⟨6, _⟩ => ⟨S1x256x1024, .f32⟩
  | .hbm, ⟨7, _⟩ => ⟨S1x256x1024, .bf16⟩
  | .hbm, ⟨8, _⟩ => ⟨S8192x1024, .bf16⟩
  | .hbm, ⟨9, _⟩ => ⟨S1x512x1024, .f32⟩
  | .hbm, ⟨10, _⟩ => ⟨S1x512x1024, .bf16⟩
  | .hbm, ⟨11, _⟩ => ⟨S8192x1024, .bf16⟩
  | .hbm, ⟨12, _⟩ => ⟨S1x256x1024, .f32⟩
  | .hbm, ⟨13, _⟩ => ⟨S1x256x1024, .bf16⟩
  | .hbm, ⟨14, _⟩ => ⟨S8192x1024, .bf16⟩
  | .hbm, ⟨15, _⟩ => ⟨S8192x1024, .f32⟩
  | .hbm, ⟨16, _⟩ => ⟨S8192x1024, .f32⟩
  | .hbm, ⟨17, _⟩ => ⟨S8192x1024, .f32⟩
  | .local _ .vmem, ⟨0, _⟩ => ⟨S1024x256, .f32⟩
  | .local _ .vmem, ⟨1, _⟩ => ⟨S1024x256, .f32⟩
  | .local _ .vmem, ⟨2, _⟩ => ⟨S1x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x512, .f32⟩
  | .local _ .vmem, ⟨6, _⟩ => ⟨S1024x512, .f32⟩
  | .local _ .vmem, ⟨7, _⟩ => ⟨S1x512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x256, .f32⟩
  | .local _ .vmem, ⟨11, _⟩ => ⟨S1024x256, .f32⟩
  | .local _ .vmem, ⟨12, _⟩ => ⟨S1x256x1024, .bf16⟩
  | .local _ .vmem, ⟨13, _⟩ => ⟨S1024x1024, .bf16⟩
  | .local _ .vmem, ⟨14, _⟩ => ⟨S1024x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1x256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== BranchReferenceIdeal.lean ====
abbrev S8192x256 : Shape := ⟨2, ![8192, 256]⟩
abbrev S8192x512 : Shape := ⟨2, ![8192, 512]⟩
abbrev S256x1024 : Shape := ⟨2, ![256, 1024]⟩
abbrev S512x1024 : Shape := ⟨2, ![512, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S256x1024, .f32⟩
  | .hbm, ⟨4, _⟩ => ⟨S512x1024, .f32⟩
  | .hbm, ⟨5, _⟩ => ⟨S256x1024, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Gout.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GoutReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Gbra.lean ====
abbrev S8192x256 : Shape := ⟨2, ![8192, 256]⟩
abbrev S256x1024 : Shape := ⟨2, ![256, 1024]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | .hbm, ⟨4, _⟩ => ⟨S256x1024, .bf16⟩
  | .hbm, ⟨5, _⟩ => ⟨S256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GbraIdeal.lean ====
abbrev S8192x256 : Shape := ⟨2, ![8192, 256]⟩
abbrev S256x1024 : Shape := ⟨2, ![256, 1024]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | .hbm, ⟨4, _⟩ => ⟨S256x1024, .bf16⟩
  | .hbm, ⟨5, _⟩ => ⟨S256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GbraReferenceIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .f32⟩
  | .hbm, ⟨4, _⟩ => ⟨S1024x256, .f32⟩
  | .hbm, ⟨5, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Gbrb.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GbrbIdeal.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GbrbReferenceIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Gbrc.lean ====
abbrev S8192x256 : Shape := ⟨2, ![8192, 256]⟩
abbrev S256x1024 : Shape := ⟨2, ![256, 1024]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | .hbm, ⟨4, _⟩ => ⟨S256x1024, .bf16⟩
  | .hbm, ⟨5, _⟩ => ⟨S256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GbrcIdeal.lean ====
abbrev S8192x256 : Shape := ⟨2, ![8192, 256]⟩
abbrev S256x1024 : Shape := ⟨2, ![256, 1024]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | .hbm, ⟨4, _⟩ => ⟨S256x1024, .bf16⟩
  | .hbm, ⟨5, _⟩ => ⟨S256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GbrcReferenceIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .f32⟩
  | .hbm, ⟨4, _⟩ => ⟨S1024x256, .f32⟩
  | .hbm, ⟨5, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Gate.lean ====
abbrev S8192x3072 : Shape := ⟨2, ![8192, 3072]⟩
abbrev S3072 : Shape := ⟨1, ![3072]⟩
abbrev S8192x1024 : Shape := ⟨2, ![8192, 1024]⟩
abbrev S1x3072 : Shape := ⟨2, ![1, 3072]⟩
abbrev S512x3072 : Shape := ⟨2, ![512, 3072]⟩
abbrev S512x1024 : Shape := ⟨2, ![512, 1024]⟩
abbrev S1x1024 : Shape := ⟨2, ![1, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8192x3072, .f32⟩
  | .hbm, ⟨1, _⟩ => ⟨S3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x3072, .bf16⟩
  | .hbm, ⟨6, _⟩ => ⟨S1x3072, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateReferenceIdeal.lean ====
abbrev S8192x3072 : Shape := ⟨2, ![8192, 3072]⟩
abbrev S3072 : Shape := ⟨1, ![3072]⟩
abbrev S8192x1024 : Shape := ⟨2, ![8192, 1024]⟩
abbrev S1x3072 : Shape := ⟨2, ![1, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x3072, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S8192x3x1024, .f32⟩
  | .hbm, ⟨17, _⟩ => ⟨S8192x1x1024, .f32⟩
  | .hbm, ⟨18, _⟩ => ⟨S8192x1024, .f32⟩
  | .hbm, ⟨19, _⟩ => ⟨S8192x1024, .f32⟩
  | .hbm, ⟨20, _⟩ => ⟨S8192x1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Dgate.lean ====
abbrev S8192x3072 : Shape := ⟨2, ![8192, 3072]⟩
abbrev S3072 : Shape := ⟨1, ![3072]⟩
abbrev S8192x1024 : Shape := ⟨2, ![8192, 1024]⟩
abbrev S1x3072 : Shape := ⟨2, ![1, 3072]⟩
abbrev S8x3072 : Shape := ⟨2, ![8, 3072]⟩
abbrev S512x1024 : Shape := ⟨2, ![512, 1024]⟩
abbrev S512x3072 : Shape := ⟨2, ![512, 3072]⟩
abbrev S1x1024 : Shape := ⟨2, ![1, 1024]⟩
abbrev S64x8x3072 : Shape := ⟨3, ![64, 8, 3072]⟩
abbrev S_ : Shape := ⟨0, ![]⟩

abbrev nBuf : Space → Nat
  | .hbm => 22
  | .vmem => 20
  | .smem => 0
  | _ => 0

abbrev bufTy : (tb : Table) → Fin (tcTables nBuf tb) → BufTy
  | .hbm, ⟨0, _⟩ => ⟨S8192x3072, .f32⟩
  | .hbm, ⟨1, _⟩ => ⟨S3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x3072, .bf16⟩
  | .hbm, ⟨7, _⟩ => ⟨S1x3072, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x3072, .bf16⟩
  | .hbm, ⟨15, _⟩ => ⟨S8x3072, .f32⟩
  | .hbm, ⟨16, _⟩ => ⟨S8192x3072, .f32⟩
  | .hbm, ⟨17, _⟩ => ⟨S_, .f32⟩
  | .hbm, ⟨18, _⟩ => ⟨S3072, .f32⟩
  | .hbm, ⟨19, _⟩ => ⟨S8192x1024, .f32⟩
  | .hbm, ⟨20, _⟩ => ⟨S8192x1024, .f32⟩
  | .hbm, ⟨21, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S1x3072, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x3072, .bf16⟩
  | .local _ .vmem, ⟨18, _⟩ => ⟨S512x3072, .bf16⟩
  | .local _ .vmem, ⟨19, _⟩ => ⟨S8x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v62 : BitVec 32 := Scalar.extui v51
  let c0_i32_22 : BitVec 32 := 0#32
  let v63 : BitVec 1 := Scalar.cmpi .ne v62 c0_i32_22
  v63

def k0_cond2 (i : grid0.Coords) : BitVec 1 :=
  let arg0 : BitVec 32 := BitVec.ofNat 32 (i 0).val
  let c0_i32 : BitVec 32 := 0#32
  let v51 : BitVec 1 := Scalar.cmpi .eq arg0 c0_i32
  let v_true : BitVec 1 := 1#1
  let v64 : BitVec 1 := Scalar.xori v51 v_true
  let v65 : BitVec 32 := Scalar.extui v64
  let c0_i32_23 : BitVec 32 := 0#32
  let v66 : BitVec 1 := Scalar.cmpi .ne v65 c0_i32_23
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DgateReferenceIdeal.lean ====
abbrev S8192x3072 : Shape := ⟨2, ![8192, 3072]⟩
abbrev S3072 : Shape := ⟨1, ![3072]⟩
abbrev S8192x1024 : Shape := ⟨2, ![8192, 1024]⟩
abbrev S1x3072 : Shape := ⟨2, ![1, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x3072, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1x1024, .f32⟩
  | .hbm, ⟨38, _⟩ => ⟨S_, .f32⟩
  | .hbm, ⟨39, _⟩ => ⟨S8192x3x1024, .f32⟩
  | .hbm, ⟨40, _⟩ => ⟨S8192x1024, .f32⟩
  | .hbm, ⟨41, _⟩ => ⟨S8192x1024, .f32⟩
  | .hbm, ⟨42, _⟩ => ⟨S8192x1x1024, .f32⟩
  | .hbm, ⟨43, _⟩ => ⟨S_, .f32⟩
  | .hbm, ⟨44, _⟩ => ⟨S8192x3x1024, .f32⟩
  | .hbm, ⟨45, _⟩ => ⟨S8192x3x1024, .f32⟩
  | .hbm, ⟨46, _⟩ => ⟨S8192x1024, .f32⟩
  | .hbm, ⟨47, _⟩ => ⟨S8192x1024, .f32⟩
  | .hbm, ⟨48, _⟩ => ⟨S8192x1x1024, .f32⟩
  | .hbm, ⟨49, _⟩ => ⟨S_, .f32⟩
  | .hbm, ⟨50, _⟩ => ⟨S8192x3x1024, .f32⟩
  | .hbm, ⟨51, _⟩ => ⟨S8192x3x1024, .f32⟩
  | .hbm, ⟨52, _⟩ => ⟨S8192x3072, .f32⟩
  | .hbm, ⟨53, _⟩ => ⟨S8192x3072, .f32⟩
  | .hbm, ⟨54, _⟩ => ⟨S_, .f32⟩
  | .hbm, ⟨55, _⟩ => ⟨S3072, .f32⟩
  | .hbm, ⟨56, _⟩ => ⟨S1x3072, .f32⟩
  | .hbm, ⟨57, _⟩ => ⟨S_, .f32⟩
  | .hbm, ⟨58, _⟩ => ⟨S3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Loss.lean ====
abbrev S8192x1024 : Shape := ⟨2, ![8192, 1024]⟩
abbrev S8x1024 : Shape := ⟨2, ![8, 1024]⟩
abbrev S512x1024 : Shape := ⟨2, ![512, 1024]⟩
abbrev S64x8x1024 : Shape := ⟨3, ![64, 8, 1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x1024, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v9 : BitVec 32 := Scalar.extui v6
  let c0_i32_4 : BitVec 32 := 0#32
  let v10 : BitVec 1 := Scalar.cmpi .ne v9 c0_i32_4
  v10

def k0_cond2 (i : grid0.Coords) : BitVec 1 :=
  let arg0 : BitVec 32 := BitVec.ofNat 32 (i 0).val
  let c0_i32 : BitVec 32 := 0#32
  let v6 : BitVec 1 := Scalar.cmpi .eq arg0 c0_i32
  let v_true : BitVec 1 := 1#1
  let v11 : BitVec 1 := Scalar.xori v6 v_true
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Prepc.lean ====
abbrev S8192x768 : Shape := ⟨2, ![8192, 768]⟩
abbrev S8192x256 : Shape := ⟨2, ![8192, 256]⟩
abbrev S512x768 : Shape := ⟨2, ![512, 768]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .f32⟩
  | .hbm, ⟨5, _⟩ => ⟨S8192x256, .f32⟩
  | .hbm, ⟨6, _⟩ => ⟨S8192x256, .f32⟩
  | .local _ .vmem, ⟨0, _⟩ => ⟨S512x768, .f32⟩
  | .local _ .vmem, ⟨1, _⟩ => ⟨S512x768, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrepcReferenceIdeal.lean ====
abbrev S8192x768 : Shape := ⟨2, ![8192, 768]⟩
abbrev S8192x256 : Shape := ⟨2, ![8192, 256]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192x256, .f32⟩
  | .hbm, ⟨6, _⟩ => ⟨S8192x256, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Postc.lean ====
abbrev S8192x768 : Shape := ⟨2, ![8192, 768]⟩
abbrev S8192x256 : Shape := ⟨2, ![8192, 256]⟩
abbrev S8192x2304 : Shape := ⟨2, ![8192, 2304]⟩
abbrev S512x256 : Shape := ⟨2, ![512, 256]⟩
abbrev S512x768 : Shape := ⟨2, ![512, 768]⟩

abbrev nBuf : Space → Nat
  | .hbm => 8
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x2304, .f32⟩
  | .hbm, ⟨5, _⟩ => ⟨S8192x2304, .bf16⟩
  | .hbm, ⟨6, _⟩ => ⟨S8192x2304, .bf16⟩
  | .hbm, ⟨7, _⟩ => ⟨S8192x2304, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x768, .bf16⟩
  | .local _ .vmem, ⟨7, _⟩ => ⟨S512x768, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostcReferenceIdeal.lean ====
abbrev S8192x768 : Shape := ⟨2, ![8192, 768]⟩
abbrev S8192x256 : Shape := ⟨2, ![8192, 256]⟩
abbrev S8192x2304 : Shape := ⟨2, ![8192, 2304]⟩
abbrev S8192x1536 : Shape := ⟨2, ![8192, 1536]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x2304, .f32⟩
  | .hbm, ⟨5, _⟩ => ⟨S8192x1536, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S8192x768, .f32⟩
  | .hbm, ⟨16, _⟩ => ⟨S8192x2304, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Delta.lean ====
abbrev S8192x512 : Shape := ⟨2, ![8192, 512]⟩
abbrev S4x8x8192 : Shape := ⟨3, ![4, 8, 8192]⟩
abbrev S1024x128 : Shape := ⟨2, ![1024, 128]⟩
abbrev S1x8x1024 : Shape := ⟨3, ![1, 8, 1024]⟩
abbrev S8x128 : Shape := ⟨2, ![8, 128]⟩
abbrev S8x1024 : Shape := ⟨2, ![8, 1024]⟩
abbrev S4x2x8192 : Shape := ⟨3, ![4, 2, 8192]⟩
abbrev S8x8192 : Shape := ⟨2, ![8, 8192]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S4x8x8192, .f32⟩
  | .hbm, ⟨3, _⟩ => ⟨S4x2x8192, .f32⟩
  | .hbm, ⟨4, _⟩ => ⟨S8x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x8x1024, .f32⟩
  | .local _ .vmem, ⟨5, _⟩ => ⟨S1x8x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DeltaReferenceIdeal.lean ====
abbrev S8192x512 : Shape := ⟨2, ![8192, 512]⟩
abbrev S8192x8x64 : Shape := ⟨3, ![8192, 8, 64]⟩
abbrev S8x8192 : Shape := ⟨2, ![8, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8x64, .f32⟩
  | .hbm, ⟨3, _⟩ => ⟨S8192x8x64, .f32⟩
  | .hbm, ⟨4, _⟩ => ⟨S8x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ain.lean ====
abbrev S4x1024x1344 : Shape := ⟨3, ![4, 1024, 1344]⟩
abbrev S4096x1344 : Shape := ⟨2, ![4096, 1344]⟩
abbrev S256x1344 : Shape := ⟨2, ![256, 1344]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1344, .f32⟩
  | .hbm, ⟨1, _⟩ => ⟨S4x1024x1344, .f32⟩
  | .hbm, ⟨2, _⟩ => ⟨S4x1024x1344, .f32⟩
  | .hbm, ⟨3, _⟩ => ⟨S4x1024x1344, .f32⟩
  | .hbm, ⟨4, _⟩ => ⟨S4096x1344, .f32⟩
  | .hbm, ⟨5, _⟩ => ⟨S4096x1344, .f32⟩
  | .hbm, ⟨6, _⟩ => ⟨S4096x1344, .f32⟩
  | .hbm, ⟨7, _⟩ => ⟨S4096x1344, .f32⟩
  | .hbm, ⟨8, _⟩ => ⟨S4096x1344, .f32⟩
  | .hbm, ⟨9, _⟩ => ⟨S4096x1344, .f32⟩
  | .hbm, ⟨10, _⟩ => ⟨S4096x1344, .f32⟩
  | .hbm, ⟨11, _⟩ => ⟨S4x1024x1344, .f32⟩
  | .hbm, ⟨12, _⟩ => ⟨S4x1024x1344, .f32⟩
  | .hbm, ⟨13, _⟩ => ⟨S4x1024x1344, .f32⟩
  | .local _ .vmem, ⟨0, _⟩ => ⟨S256x1344, .f32⟩
  | .local _ .vmem, ⟨1, _⟩ => ⟨S256x1344, .f32⟩
  | .local _ .vmem, ⟨2, _⟩ => ⟨S256x1344, .f32⟩
  | .local _ .vmem, ⟨3, _⟩ => ⟨S256x1344, .f32⟩
  | .local _ .vmem, ⟨4, _⟩ => ⟨S256x1344, .f32⟩
  | .local _ .vmem, ⟨5, _⟩ => ⟨S256x1344, .f32⟩
  | .local _ .vmem, ⟨6, _⟩ => ⟨S256x1344, .f32⟩
  | .local _ .vmem, ⟨7, _⟩ => ⟨S256x1344, .f32⟩
  | .local _ .vmem, ⟨8, _⟩ => ⟨S256x1344, .f32⟩
  | .local _ .vmem, ⟨9, _⟩ => ⟨S256x1344, .f32⟩
  | .local _ .vmem, ⟨10, _⟩ => ⟨S256x1344, .f32⟩
  | .local _ .vmem, ⟨11, _⟩ => ⟨S256x1344, .f32⟩
  | .local _ .vmem, ⟨12, _⟩ => ⟨S256x1344, .f32⟩
  | .local _ .vmem, ⟨13, _⟩ => ⟨S256x1344, .f32⟩
  | _, _ => ⟨S4x1024x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AinIdeal.lean ====
abbrev S4x1024x1344 : Shape := ⟨3, ![4, 1024, 1344]⟩
abbrev S4096x1344 : Shape := ⟨2, ![4096, 1344]⟩
abbrev S256x1344 : Shape := ⟨2, ![256, 1344]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1344, .f32⟩
  | .hbm, ⟨1, _⟩ => ⟨S4x1024x1344, .f32⟩
  | .hbm, ⟨2, _⟩ => ⟨S4x1024x1344, .f32⟩
  | .hbm, ⟨3, _⟩ => ⟨S4x1024x1344, .f32⟩
  | .hbm, ⟨4, _⟩ => ⟨S4096x1344, .f32⟩
  | .hbm, ⟨5, _⟩ => ⟨S4096x1344, .f32⟩
  | .hbm, ⟨6, _⟩ => ⟨S4096x1344, .f32⟩
  | .hbm, ⟨7, _⟩ => ⟨S4096x1344, .f32⟩
  | .hbm, ⟨8, _⟩ => ⟨S4096x1344, .f32⟩
  | .hbm, ⟨9, _⟩ => ⟨S4096x1344, .f32⟩
  | .hbm, ⟨10, _⟩ => ⟨S4096x1344, .f32⟩
  | .hbm, ⟨11, _⟩ => ⟨S4x1024x1344, .f32⟩
  | .hbm, ⟨12, _⟩ => ⟨S4x1024x1344, .f32⟩
  | .hbm, ⟨13, _⟩ => ⟨S4x1024x1344, .f32⟩
  | .local _ .vmem, ⟨0, _⟩ => ⟨S256x1344, .f32⟩
  | .local _ .vmem, ⟨1, _⟩ => ⟨S256x1344, .f32⟩
  | .local _ .vmem, ⟨2, _⟩ => ⟨S256x1344, .f32⟩
  | .local _ .vmem, ⟨3, _⟩ => ⟨S256x1344, .f32⟩
  | .local _ .vmem, ⟨4, _⟩ => ⟨S256x1344, .f32⟩
  | .local _ .vmem, ⟨5, _⟩ => ⟨S256x1344, .f32⟩
  | .local _ .vmem, ⟨6, _⟩ => ⟨S256x1344, .f32⟩
  | .local _ .vmem, ⟨7, _⟩ => ⟨S256x1344, .f32⟩
  | .local _ .vmem, ⟨8, _⟩ => ⟨S256x1344, .f32⟩
  | .local _ .vmem, ⟨9, _⟩ => ⟨S256x1344, .f32⟩
  | .local _ .vmem, ⟨10, _⟩ => ⟨S256x1344, .f32⟩
  | .local _ .vmem, ⟨11, _⟩ => ⟨S256x1344, .f32⟩
  | .local _ .vmem, ⟨12, _⟩ => ⟨S256x1344, .f32⟩
  | .local _ .vmem, ⟨13, _⟩ => ⟨S256x1344, .f32⟩
  | _, _ => ⟨S4x1024x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AinReferenceIdeal.lean ====
abbrev S4x1024x1344 : Shape := ⟨3, ![4, 1024, 1344]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1344, .f32⟩
  | .hbm, ⟨1, _⟩ => ⟨S4x1024x1344, .f32⟩
  | .hbm, ⟨2, _⟩ => ⟨S4x1024x1344, .f32⟩
  | .hbm, ⟨3, _⟩ => ⟨S4x1024x1344, .f32⟩
  | .hbm, ⟨4, _⟩ => ⟨S_, .f32⟩
  | .hbm, ⟨5, _⟩ => ⟨S4x1024x1344, .f32⟩
  | .hbm, ⟨6, _⟩ => ⟨S4x1024x1344, .f32⟩
  | .hbm, ⟨7, _⟩ => ⟨S_, .f32⟩
  | .hbm, ⟨8, _⟩ => ⟨S4x1024x1344, .f32⟩
  | .hbm, ⟨9, _⟩ => ⟨S4x1024x1344, .f32⟩
  | .hbm, ⟨10, _⟩ => ⟨S4x1024x1344, .f32⟩
  | .hbm, ⟨11, _⟩ => ⟨S_, .f32⟩
  | .hbm, ⟨12, _⟩ => ⟨S4x1024x1344, .f32⟩
  | .hbm, ⟨13, _⟩ => ⟨S4x1024x1344, .f32⟩
  | .hbm, ⟨14, _⟩ => ⟨S4x1024x1344, .f32⟩
  | .hbm, ⟨15, _⟩ => ⟨S_, .f32⟩
  | .hbm, ⟨16, _⟩ => ⟨S4x1024x1344, .f32⟩
  | .hbm, ⟨17, _⟩ => ⟨S4x1024x1344, .f32⟩
  | .hbm, ⟨18, _⟩ => ⟨S4x1024x1344, .f32⟩
  | .hbm, ⟨19, _⟩ => ⟨S_, .f32⟩
  | .hbm, ⟨20, _⟩ => ⟨S4x1024x1344, .f32⟩
  | .hbm, ⟨21, _⟩ => ⟨S4x1024x1344, .f32⟩
  | .hbm, ⟨22, _⟩ => ⟨S_, .f32⟩
  | .hbm, ⟨23, _⟩ => ⟨S4x1024x1344, .f32⟩
  | .hbm, ⟨24, _⟩ => ⟨S4x1024x1344, .f32⟩
  | .hbm, ⟨25, _⟩ => ⟨S4x1024x1344, .f32⟩
  | .hbm, ⟨26, _⟩ => ⟨S_, .f32⟩
  | .hbm, ⟨27, _⟩ => ⟨S4x1024x1344, .f32⟩
  | .hbm, ⟨28, _⟩ => ⟨S4x1024x1344, .f32⟩
  | .hbm, ⟨29, _⟩ => ⟨S4x1024x1344, .f32⟩
  | .hbm, ⟨30, _⟩ => ⟨S_, .f32⟩
  | .hbm, ⟨31, _⟩ => ⟨S4x1024x1344, .f32⟩
  | .hbm, ⟨32, _⟩ => ⟨S4x1024x1344, .f32⟩
  | .hbm, ⟨33, _⟩ => ⟨S4x1024x1344, .f32⟩
  | .hbm, ⟨34, _⟩ => ⟨S_, .f32⟩
  | .hbm, ⟨35, _⟩ => ⟨S4x1024x1344, .f32⟩
  | .hbm, ⟨36, _⟩ => ⟨S4x1024x1344, .f32⟩
  | _, _ => ⟨S4x1024x1344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Abra.lean ====
abbrev S4x256x256 : Shape := ⟨3, ![4, 256, 256]⟩
abbrev S1024x256 : Shape := ⟨2, ![1024, 256]⟩
abbrev S256x256 : Shape := ⟨2, ![256, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S4x256x256, .f32⟩
  | .hbm, ⟨12, _⟩ => ⟨S4x256x256, .f32⟩
  | .hbm, ⟨13, _⟩ => ⟨S4x256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AbraIdeal.lean ====
abbrev S4x256x256 : Shape := ⟨3, ![4, 256, 256]⟩
abbrev S1024x256 : Shape := ⟨2, ![1024, 256]⟩
abbrev S256x256 : Shape := ⟨2, ![256, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S4x256x256, .f32⟩
  | .hbm, ⟨12, _⟩ => ⟨S4x256x256, .f32⟩
  | .hbm, ⟨13, _⟩ => ⟨S4x256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AbraReferenceIdeal.lean ====
abbrev S4x256x256 : Shape := ⟨3, ![4, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S_, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Abrb.lean ====
abbrev S4x512x256 : Shape := ⟨3, ![4, 512, 256]⟩
abbrev S2048x256 : Shape := ⟨2, ![2048, 256]⟩
abbrev S256x256 : Shape := ⟨2, ![256, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S4x512x256, .f32⟩
  | .hbm, ⟨12, _⟩ => ⟨S4x512x256, .f32⟩
  | .hbm, ⟨13, _⟩ => ⟨S4x512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AbrbIdeal.lean ====
abbrev S4x512x256 : Shape := ⟨3, ![4, 512, 256]⟩
abbrev S2048x256 : Shape := ⟨2, ![2048, 256]⟩
abbrev S256x256 : Shape := ⟨2, ![256, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S4x512x256, .f32⟩
  | .hbm, ⟨12, _⟩ => ⟨S4x512x256, .f32⟩
  | .hbm, ⟨13, _⟩ => ⟨S4x512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AbrbReferenceIdeal.lean ====
abbrev S4x512x256 : Shape := ⟨3, ![4, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Aout.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AoutIdeal.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AoutReferenceIdeal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Aup.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AupIdeal.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AupReferenceIdeal.lean ====
abbrev S4x1024x1024 : Shape := ⟨3, ![4, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Asmall.lean ====
abbrev S288x128 : Shape := ⟨2, ![288, 128]⟩
abbrev S144x128 : Shape := ⟨2, ![144, 128]⟩

abbrev nBuf : Space → Nat
  | .hbm => 7
  | .vmem => 14
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S288x128, .f32⟩
  | .hbm, ⟨5, _⟩ => ⟨S288x128, .f32⟩
  | .hbm, ⟨6, _⟩ => ⟨S288x128, .f32⟩
  | .local _ .vmem, ⟨0, _⟩ => ⟨S144x128, .f32⟩
  | .local _ .vmem, ⟨1, _⟩ => ⟨S144x128, .f32⟩
  | .local _ .vmem, ⟨2, _⟩ => ⟨S144x128, .f32⟩
  | .local _ .vmem, ⟨3, _⟩ => ⟨S144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | .local _ .vmem, ⟨7, _⟩ => ⟨S144x128, .f32⟩
  | .local _ .vmem, ⟨8, _⟩ => ⟨S144x128, .f32⟩
  | .local _ .vmem, ⟨9, _⟩ => ⟨S144x128, .f32⟩
  | .local _ .vmem, ⟨10, _⟩ => ⟨S144x128, .f32⟩
  | .local _ .vmem, ⟨11, _⟩ => ⟨S144x128, .f32⟩
  | .local _ .vmem, ⟨12, _⟩ => ⟨S144x128, .f32⟩
  | .local _ .vmem, ⟨13, _⟩ => ⟨S144x128, .f32⟩
  | _, _ => ⟨S288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S144x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AsmallReferenceIdeal.lean ====
abbrev S288x128 : Shape := ⟨2, ![288, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S_, .f32⟩
  | .hbm, ⟨5, _⟩ => ⟨S288x128, .f32⟩
  | .hbm, ⟨6, _⟩ => ⟨S288x128, .f32⟩
  | .hbm, ⟨7, _⟩ => ⟨S_, .f32⟩
  | .hbm, ⟨8, _⟩ => ⟨S288x128, .f32⟩
  | .hbm, ⟨9, _⟩ => ⟨S288x128, .f32⟩
  | .hbm, ⟨10, _⟩ => ⟨S288x128, .f32⟩
  | .hbm, ⟨11, _⟩ => ⟨S_, .f32⟩
  | .hbm, ⟨12, _⟩ => ⟨S288x128, .f32⟩
  | .hbm, ⟨13, _⟩ => ⟨S288x128, .f32⟩
  | .hbm, ⟨14, _⟩ => ⟨S288x128, .f32⟩
  | .hbm, ⟨15, _⟩ => ⟨S_, .f32⟩
  | .hbm, ⟨16, _⟩ => ⟨S288x128, .f32⟩
  | .hbm, ⟨17, _⟩ => ⟨S288x128, .f32⟩
  | .hbm, ⟨18, _⟩ => ⟨S288x128, .f32⟩
  | .hbm, ⟨19, _⟩ => ⟨S_, .f32⟩
  | .hbm, ⟨20, _⟩ => ⟨S288x128, .f32⟩
  | .hbm, ⟨21, _⟩ => ⟨S288x128, .f32⟩
  | .hbm, ⟨22, _⟩ => ⟨S_, .f32⟩
  | .hbm, ⟨23, _⟩ => ⟨S288x128, .f32⟩
  | .hbm, ⟨24, _⟩ => ⟨S288x128, .f32⟩
  | .hbm, ⟨25, _⟩ => ⟨S288x128, .f32⟩
  | .hbm, ⟨26, _⟩ => ⟨S_, .f32⟩
  | .hbm, ⟨27, _⟩ => ⟨S288x128, .f32⟩
  | .hbm, ⟨28, _⟩ => ⟨S288x128, .f32⟩
  | .hbm, ⟨29, _⟩ => ⟨S288x128, .f32⟩
  | .hbm, ⟨30, _⟩ => ⟨S_, .f32⟩
  | .hbm, ⟨31, _⟩ => ⟨S288x128, .f32⟩
  | .hbm, ⟨32, _⟩ => ⟨S288x128, .f32⟩
  | .hbm, ⟨33, _⟩ => ⟨S288x128, .f32⟩
  | .hbm, ⟨34, _⟩ => ⟨S_, .f32⟩
  | .hbm, ⟨35, _⟩ => ⟨S288x128, .f32⟩
  | .hbm, ⟨36, _⟩ => ⟨S288x128, .f32⟩
  | _, _ => ⟨S288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
/- Grouped-query attention and its gradient over the reals, of arrays read at natural-number positions,
   and the laws by which a tiled, base-two computation of it agrees. -/
module

public import Mathlib.Analysis.SpecialFunctions.Pow.Real
public import Mathlib.Analysis.SpecialFunctions.Log.Basic
public import Mathlib.Data.EReal.Operations
public import Mathlib.Algebra.BigOperators.Fin
public import Mathlib.Algebra.BigOperators.Field
public import Mathlib.Tactic.Ring
public import Mathlib.Tactic.FieldSimp

@[expose] public section

noncomputable section

namespace Cert.Attn

open Finset

/-! ## Sums -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

theorem coe_sum_fin (n : ℕ) (f : ℕ → ℝ) : ∑ i : Fin n, ((f i : ℝ) : EReal) = ((∑ i ∈ range n, f i : ℝ) : EReal) := by
  rw [coe_sum, Finset.sum_range]

theorem sum_mul_range (a b : ℕ) (f : ℕ → ℝ) : ∑ t ∈ range (a * b), f t = ∑ x ∈ range a, ∑ y ∈ range b, f (x * b + y) := by
  induction a with
  | zero => simp
  | succ a ih => rw [Nat.succ_mul, sum_range_add, sum_range_succ, ih]

/-- A sum over two halves of which one is masked away. -/
theorem sum_half (h : ℕ) (hh : h < 2) (f : ℕ → ℝ) :
    ∑ l ∈ range 128, (if l / 64 = h then f l else 0) = ∑ d ∈ range 64, f (64 * h + d) := by
  have key : ∀ x : ℕ, ∑ y ∈ range 64, (if (x * 64 + y) / 64 = h then f (x * 64 + y) else 0) = if x = h then ∑ y ∈ range 64, f (x * 64 + y) else 0 := fun x => by
    rw [sum_congr rfl fun y hy => by rw [show (x * 64 + y) / 64 = x by have := mem_range.1 hy; omega]]
    split <;> simp
  rw [show (128 : ℕ) = 2 * 64 from rfl, sum_mul_range, sum_congr rfl fun x _ => key x, sum_ite_eq' , if_pos (mem_range.2 hh)]
  exact sum_congr rfl fun d _ => by rw [mul_comm]

/-! ## The attention and its gradient -/

variable (q k v ct : ℕ → ℕ → ℝ)

/-- Query `i` of head `g` of group `e` against key `j`. -/
def sc (e g i j : ℕ) : ℝ := ∑ d ∈ range 64, k j (64 * e + d) * q i (256 * e + 64 * g + d)
def mx (e g i : ℕ) : ℝ := ((univ : Finset (Fin 8192)).sup fun j : Fin 8192 => ((sc q k e g i j : ℝ) : EReal)).toReal
def ex (e g i j : ℕ) : ℝ := Real.exp (sc q k e g i j - mx q k e g i)
def sm (e g i : ℕ) : ℝ := ∑ j ∈ range 8192, ex q k e g i j
def pr (e g i j : ℕ) : ℝ := ex q k e g i j / sm q k e g i
/-- The attention's output. -/
def ao (i e g d : ℕ) : ℝ := ∑ j ∈ range 8192, v j (64 * e + d) * pr q k e g i j
def dp (e g i j : ℕ) : ℝ := ∑ d ∈ range 64, ct i (256 * e + 64 * g + d) * v j (64 * e + d)
def dl (e g i : ℕ) : ℝ := ∑ j ∈ range 8192, pr q k e g i j * dp v ct e g i j
def ds (e g i j : ℕ) : ℝ := pr q k e g i j * (dp v ct e g i j - dl q k v ct e g i)
def dq (i c : ℕ) : ℝ := ∑ j ∈ range 8192, ds q k v ct (c / 256) (c / 64 % 4) i j * k j (64 * (c / 256) + c % 64)
def dk (j c : ℕ) : ℝ := ∑ i ∈ range 8192, ∑ g ∈ range 4, ds q k v ct (c / 64) g i j * q i (256 * (c / 64) + 64 * g + c % 64)
def dv (j c : ℕ) : ℝ := ∑ i ∈ range 8192, ∑ g ∈ range 4, pr q k (c / 64) g i j * ct i (256 * (c / 64) + 64 * g + c % 64)

theorem coe_mx (e g i : ℕ) : ((mx q k e g i : ℝ) : EReal) = (univ : Finset (Fin 8192)).fold max ⊥ fun j : Fin 8192 => ((sc q k e g i j : ℝ) : EReal) := by
  have hs : ((univ : Finset (Fin 8192)).fold max ⊥ fun j : Fin 8192 => ((sc q k e g i j : ℝ) : EReal)) = (univ : Finset (Fin 8192)).sup fun j : Fin 8192 => ((sc q k e g i j : ℝ) : EReal) := rfl
  rw [hs]
  refine EReal.coe_toReal ?_ ?_
  · refine ne_of_lt ((Finset.sup_lt_iff (bot_lt_top)).2 fun j _ => EReal.coe_lt_top _)
  · have h : ((sc q k e g i 0 : ℝ) : EReal) ≤ (univ : Finset (Fin 8192)).sup fun j : Fin 8192 => ((sc q k e g i j : ℝ) : EReal) :=
      Finset.le_sup (f := fun j : Fin 8192 => ((sc q k e g i j : ℝ) : EReal)) (mem_univ (⟨0, by norm_num⟩ : Fin 8192))
    exact ne_of_gt (lt_of_lt_of_le (EReal.bot_lt_coe _) h)

theorem sm_pos (e g i : ℕ) : 0 < sm q k e g i := sum_pos (fun j _ => Real.exp_pos _) ⟨0, by simp⟩
theorem log2_pos : 0 < Real.log 2 := Real.log_pos (by norm_num)

/-- The weight, from the row's saved base-two log-sum. -/
theorem pr_rpow (e g i j : ℕ) :
    Real.rpow 2 (sc q k e g i j / Real.log 2 - (mx q k e g i + Real.log (sm q k e g i)) / Real.log 2) = pr q k e g i j := by
  have h2 := log2_pos.ne'
  have hs := sm_pos q k e g i
  rw [Real.rpow_eq_pow]
  rw [Real.rpow_def_of_pos (by norm_num), ← sub_div, mul_div_cancel₀ _ h2, ← sub_sub, Real.exp_sub, Real.exp_log hs]
  rfl

/-- The score over a lane-duplicated key row and a masked query row scaled to base two. -/
theorem sc_dup (e jj h i j : ℕ) (hh : h < 2) :
    ∑ l ∈ range 128, k j (64 * e + l % 64) * (if l / 64 = h then q i (256 * e + 128 * jj + l) / Real.log 2 else 0)
      = sc q k e (2 * jj + h) i j / Real.log 2 := by
  rw [sum_congr rfl fun l _ => by rw [mul_ite, mul_zero], sum_half h hh fun l => k j (64 * e + l % 64) * (q i (256 * e + 128 * jj + l) / Real.log 2)]
  unfold sc; rw [Finset.sum_div]
  refine sum_congr rfl fun d hd => ?_
  have := mem_range.1 hd
  rw [show (64 * h + d) % 64 = d by omega, show 256 * e + 128 * jj + (64 * h + d) = 256 * e + 64 * (2 * jj + h) + d by omega]
  ring

theorem dp_dup (e jj h i j : ℕ) (hh : h < 2) :
    ∑ l ∈ range 128, v j (64 * e + l % 64) * (if l / 64 = h then ct i (256 * e + 128 * jj + l) else 0) = dp v ct e (2 * jj + h) i j := by
  rw [sum_congr rfl fun l _ => by rw [mul_ite, mul_zero], sum_half h hh fun l => v j (64 * e + l % 64) * ct i (256 * e + 128 * jj + l)]
  refine sum_congr rfl fun d hd => ?_
  have := mem_range.1 hd
  rw [show (64 * h + d) % 64 = d by omega, show 256 * e + 128 * jj + (64 * h + d) = 256 * e + 64 * (2 * jj + h) + d by omega]
  ring

/-- The row's correction is the output's product with its cotangent. -/
theorem dl_out (e g i : ℕ) : ∑ d ∈ range 64, ct i (256 * e + 64 * g + d) * ao q k v i e g d = dl q k v ct e g i := by
  unfold ao dl dp
  simp only [mul_sum]
  rw [sum_comm]
  refine sum_congr rfl fun j _ => sum_congr rfl fun d _ => ?_
  ring

/-- The two halves of the lanes, each a tile's sum for its own head, make the sum over the group's four heads. -/
theorem sum_heads (f : ℕ → ℕ → ℝ) :
    (∑ t ∈ range 16, ∑ s ∈ range 1024, f (2 * (t / 8)) (1024 * (t % 8) + s)) + (∑ t ∈ range 16, ∑ s ∈ range 1024, f (2 * (t / 8) + 1) (1024 * (t % 8) + s))
      = ∑ i ∈ range 8192, ∑ g ∈ range 4, f g i := by
  have h : ∀ b : ℕ, ∑ t ∈ range 16, ∑ s ∈ range 1024, f (2 * (t / 8) + b) (1024 * (t % 8) + s) = ∑ x ∈ range 2, ∑ i ∈ range 8192, f (2 * x + b) i := fun b => by
    rw [show (16 : ℕ) = 2 * 8 from rfl, sum_mul_range]
    refine sum_congr rfl fun x _ => ?_
    rw [show (8192 : ℕ) = 8 * 1024 from rfl, sum_mul_range]
    refine sum_congr rfl fun y hy => sum_congr rfl fun s _ => ?_
    have := mem_range.1 hy
    rw [show (x * 8 + y) / 8 = x by omega, show (x * 8 + y) % 8 = y by omega, mul_comm 1024 y]
  have h0 := h 0; have h1 := h 1
  simp only [add_zero] at h0
  rw [h0, h1, sum_comm (s := range 2), sum_comm (s := range 2), ← sum_add_distrib]
  refine sum_congr rfl fun i _ => ?_
  rw [sum_range_succ (n := 3), sum_range_succ (n := 2), sum_range_succ (n := 1), sum_range_one, sum_range_succ (n := 1), sum_range_one, sum_range_succ (n := 1), sum_range_one]
  norm_num
  ring

end Cert.Attn
-- ==== Proof.Consts.lean ====
/- The float constants the programs spell, as extended reals. -/
module

public import Idealize.ShloMosaic.PureOps.Ideal

@[expose] public section

noncomputable section

namespace Cert.Consts

open Idealize.ShloMosaic

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem ofBits_two : Ideal.ofBits .f32 0x40000000#32 = ((2 : ℝ) : EReal) := by
  simp [Ideal.ofBits, Ideal.ieee, -EReal.coe_mul]; try norm_num

/-- A quotient of reals by a real that is not zero. -/
theorem div_real (x : ℝ) {y : ℝ} (h : y ≠ 0) : Ideal.div (x : EReal) (y : EReal) = ((x / y : ℝ) : EReal) := by
  rw [Ideal.div_coe h, ← EReal.coe_mul, mul_one_div]
theorem log_real {x : ℝ} (h : 0 < x) : Ideal.log (x : EReal) = ((Real.log x : ℝ) : EReal) := if_neg (not_le.2 h)

end Cert.Consts

end
-- ==== Proof.RefStages.lean ====
/- The reference's values stage by stage, and each stage's element as a real number of Reals.lean where
   the arguments are real. -/
module

public import proofs.«01_k».proof.Proof.Reals
public import proofs.«01_k».proof.Proof.Consts
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen Cert.Attn Cert.Consts
open Idealize.ShloMosaic Idealize.ShloMosaic.TcCoe
open Idealize.SL.Sem

abbrev I32 (s : Shape) : Type := FVec Ideal s .f32

def Q4 (a : I32 S8192x512) : I32 S8192x2x4x64 := shapeCast _ a shapeCasts_S8192x512_S8192x2x4x64
def K3 (a : I32 S8192x128) : I32 S8192x2x64 := shapeCast _ a shapeCasts_S8192x128_S8192x2x64
def Sc (a0 : I32 S8192x512) (a1 : I32 S8192x128) : I32 S2x4x8192x8192 :=
  transpose S2x4x8192x8192 [0, 3, 2, 1] (Host.dotGeneral dot_S8192x2x64_S8192x2x4x64_S2x8192x8192x4_2_3_0_02_1_1 none (K3 a1) (Q4 a0)) transposes_S2x8192x8192x4_S2x4x8192x8192_0_3_2_1
def Mx (a0 : I32 S8192x512) (a1 : I32 S8192x128) : I32 S2x4x8192 :=
  Host.reduce FloatOps.maximumf (Sc a0 a1) (constant S_ .f32 0xFF800000#32) reducesTo_S2x4x8192x8192_S2x4x8192_d3 h_S_
def MxB (a0 : I32 S8192x512) (a1 : I32 S8192x128) : I32 S2x4x8192 :=
  maximumf (broadcastInDim S2x4x8192 ![] bcast_S_S2x4x8192 (constant S_ .f32 0xFF800000#32)) (Mx a0 a1)
def Ex (a0 : I32 S8192x512) (a1 : I32 S8192x128) : I32 S2x4x8192x8192 :=
  Host.exp (subf (Sc a0 a1) (broadcastInDim S2x4x8192x8192 ![0, 1, 2, 3] bcast_S2x4x8192x1_S2x4x8192x8192_0_1_2_3 (broadcastInDim S2x4x8192x1 ![0, 1, 2] bcast_S2x4x8192_S2x4x8192x1_0_1_2 (MxB a0 a1))))
def Sm (a0 : I32 S8192x512) (a1 : I32 S8192x128) : I32 S2x4x8192x1 :=
  broadcastInDim S2x4x8192x1 ![0, 1, 2] bcast_S2x4x8192_S2x4x8192x1_0_1_2 (Host.reduceAdd (Ex a0 a1) (constant S_ .f32 0x00000000#32) reducesTo_S2x4x8192x8192_S2x4x8192_d3 h_S_)
def Pr (a0 : I32 S8192x512) (a1 : I32 S8192x128) : I32 S2x4x8192x8192 :=
  Host.divf (Ex a0 a1) (broadcastInDim S2x4x8192x8192 ![0, 1, 2, 3] bcast_S2x4x8192x1_S2x4x8192x8192_0_1_2_3 (Sm a0 a1))
def CtT (a3 : I32 S8192x512) : I32 S2x64x4x8192 := transpose S2x64x4x8192 [1, 3, 2, 0] (Q4 a3) transposes_S8192x2x4x64_S2x64x4x8192_1_3_2_0
def Dp (a2 : I32 S8192x128) (a3 : I32 S8192x512) : I32 S2x4x8192x8192 :=
  Host.dotGeneral dot_S2x64x4x8192_S8192x2x64_S2x4x8192x8192_1_2_23_0_0_1 none (CtT a3) (K3 a2)
def Sq (a0 : I32 S8192x512) (a1 : I32 S8192x128) : I32 S2x4x8192x8192 :=
  broadcastInDim S2x4x8192x8192 ![0, 1, 2, 3] bcast_S2x4x8192x1_S2x4x8192x8192_0_1_2_3
    (Host.divf (broadcastInDim S2x4x8192x1 ![] bcast_S_S2x4x8192x1 (constant S_ .f32 0x3F800000#32)) (mulf (Sm a0 a1) (Sm a0 a1)))
def Co (a0 : I32 S8192x512) (a1 a2 : I32 S8192x128) (a3 : I32 S8192x512) : I32 S2x4x8192 :=
  Host.reduceAdd (Host.negf (shapeCast S2x4x8192x1 (Host.reduceAdd (mulf (mulf (Dp a2 a3) (Sq a0 a1)) (Ex a0 a1)) (constant S_ .f32 0x00000000#32) reducesTo_S2x4x8192x8192_S2x4x8192_d3 h_S_) shapeCasts_S2x4x8192_S2x4x8192x1)) (constant S_ .f32 0x00000000#32) reducesTo_S2x4x8192x1_S2x4x8192_d3 h_S_
def DsT (a0 : I32 S8192x512) (a1 a2 : I32 S8192x128) (a3 : I32 S8192x512) : I32 S2x8192x8192x4 :=
  transpose S2x8192x8192x4 [0, 3, 2, 1] (mulf (addf (Host.divf (Dp a2 a3) (broadcastInDim S2x4x8192x8192 ![0, 1, 2, 3] bcast_S2x4x8192x1_S2x4x8192x8192_0_1_2_3 (Sm a0 a1)))
    (broadcastInDim S2x4x8192x8192 ![0, 1, 2] bcast_S2x4x8192_S2x4x8192x8192_0_1_2 (Co a0 a1 a2 a3))) (Ex a0 a1)) transposes_S2x4x8192x8192_S2x8192x8192x4_0_3_2_1
def DqV (a0 : I32 S8192x512) (a1 a2 : I32 S8192x128) (a3 : I32 S8192x512) : I32 S8192x512 :=
  shapeCast _ (transpose S8192x2x4x64 [1, 0, 2, 3] (Host.dotGeneral dot_S2x8192x8192x4_S8192x2x64_S2x8192x4x64_1_0_23_2_0_1 none (DsT a0 a1 a2 a3) (K3 a1)) transposes_S2x8192x4x64_S8192x2x4x64_1_0_2_3) shapeCasts_S8192x2x4x64_S8192x512
def DkV (a0 : I32 S8192x512) (a1 a2 : I32 S8192x128) (a3 : I32 S8192x512) : I32 S8192x128 :=
  shapeCast _ (transpose S8192x2x64 [1, 0, 2] (Host.dotGeneral dot_S2x8192x8192x4_S8192x2x4x64_S2x8192x64_23_02_1_3_0_1 none (DsT a0 a1 a2 a3) (Q4 a0)) transposes_S2x8192x64_S8192x2x64_1_0_2) shapeCasts_S8192x2x64_S8192x128
def DvV (a0 : I32 S8192x512) (a1 : I32 S8192x128) (a3 : I32 S8192x512) : I32 S8192x128 :=
  shapeCast _ (transpose S8192x2x64 [2, 0, 1] (Host.dotGeneral dot_S2x64x4x8192_S2x4x8192x8192_S2x64x8192_23_12_1_3_0_0 none (CtT a3) (Pr a0 a1)) transposes_S2x64x8192_S8192x2x64_2_0_1) shapeCasts_S8192x2x64_S8192x128

/-- An argument array is real: `f` at each place. -/
def IsReal {a b : ℕ} (x : (⟨2, ![a, b]⟩ : Shape).Idx → EReal) (f : ℕ → ℕ → ℝ) : Prop := ∀ (i : Fin a) (j : Fin b), x (ix2 i j) = ((f i j : ℝ) : EReal)

section
variable {a0 : I32 S8192x512} {a1 a2 : I32 S8192x128} {a3 : I32 S8192x512} {q k v ct : ℕ → ℕ → ℝ}

theorem Q4_at (h : IsReal a0 q) (i : Fin 8192) (e : Fin 2) (g : Fin 4) (d : Fin 64) :
    Q4 a0 (ix4 i e g d) = ((q i (256 * e.val + 64 * g.val + d.val) : ℝ) : EReal) := by
  unfold Q4; pointwise; rw [h]; congr 2; simp only; omega
theorem K3_at (h : IsReal a1 k) (i : Fin 8192) (e : Fin 2) (d : Fin 64) : K3 a1 (ix3 i e d) = ((k i (64 * e.val + d.val) : ℝ) : EReal) := by
  unfold K3; pointwise; rw [h]; congr 2; simp only; omega

theorem Sc_at (h0 : IsReal a0 q) (h1 : IsReal a1 k) (e : Fin 2) (g : Fin 4) (i j : Fin 8192) :
    Sc a0 a1 (ix4 e g i j) = ((sc q k e g i j : ℝ) : EReal) := by
  unfold Sc; pointwise
  simp only [Q4_at h0, K3_at h1, ← EReal.coe_mul]
  exact coe_sum_fin 64 fun d => k j (64 * e.val + d) * q i (256 * e.val + 64 * g.val + d)

theorem Mx_at (h0 : IsReal a0 q) (h1 : IsReal a1 k) (e : Fin 2) (g : Fin 4) (i : Fin 8192) :
    Mx a0 a1 (ix3 e g i) = ((mx q k e g i : ℝ) : EReal) := by
  unfold Mx; pointwise
  simp only [Sc_at h0 h1]
  rw [coe_mx, ofBits_bot]
theorem maxB_at (x : I32 S2x4x8192) (y : S2x4x8192.Idx) :
    (maximumf (broadcastInDim S2x4x8192 ![] bcast_S_S2x4x8192 (constant S_ .f32 0xFF800000#32)) x : I32 S2x4x8192) y = max (Ideal.ofBits .f32 0xFF800000#32) (x y) := rfl
theorem MxB_at (h0 : IsReal a0 q) (h1 : IsReal a1 k) (e : Fin 2) (g : Fin 4) (i : Fin 8192) :
    MxB a0 a1 (ix3 e g i) = ((mx q k e g i : ℝ) : EReal) := by
  unfold MxB; rw [maxB_at, Mx_at h0 h1, ofBits_bot]; exact max_eq_right bot_le
theorem Ex_at (h0 : IsReal a0 q) (h1 : IsReal a1 k) (e : Fin 2) (g : Fin 4) (i j : Fin 8192) :
    Ex a0 a1 (ix4 e g i j) = ((ex q k e g i j : ℝ) : EReal) := by
  unfold Ex; pointwise
  rw [Sc_at h0 h1, MxB_at h0 h1]; rfl
theorem Sm_at (h0 : IsReal a0 q) (h1 : IsReal a1 k) (e : Fin 2) (g : Fin 4) (i : Fin 8192) :
    Sm a0 a1 (ix4 e g i 0) = ((sm q k e g i : ℝ) : EReal) := by
  unfold Sm; pointwise
  simp only [Ex_at h0 h1]
  exact coe_sum_fin 8192 fun j => ex q k e.val g.val i.val j
theorem Pr_at (h0 : IsReal a0 q) (h1 : IsReal a1 k) (e : Fin 2) (g : Fin 4) (i j : Fin 8192) :
    Pr a0 a1 (ix4 e g i j) = ((pr q k e g i j : ℝ) : EReal) := by
  unfold Pr; pointwise
  simp only [Ex_at h0 h1, Sm_at h0 h1]
  exact div_real _ (sm_pos ..).ne'
theorem CtT_at (h3 : IsReal a3 ct) (i : Fin 8192) (e : Fin 2) (g : Fin 4) (d : Fin 64) :
    CtT a3 (ix4 e d g i) = ((ct i (256 * e.val + 64 * g.val + d.val) : ℝ) : EReal) := by
  unfold CtT; pointwise; exact Q4_at h3 ..
theorem Dp_at (h2 : IsReal a2 v) (h3 : IsReal a3 ct) (e : Fin 2) (g : Fin 4) (i j : Fin 8192) :
    Dp a2 a3 (ix4 e g i j) = ((dp v ct e g i j : ℝ) : EReal) := by
  unfold Dp; pointwise
  simp only [CtT_at h3, K3_at h2, ← EReal.coe_mul]
  exact coe_sum_fin 64 fun d => ct i (256 * e.val + 64 * g.val + d) * v j (64 * e.val + d)
theorem Co_at (h0 : IsReal a0 q) (h1 : IsReal a1 k) (h2 : IsReal a2 v) (h3 : IsReal a3 ct) (e : Fin 2) (g : Fin 4) (i : Fin 8192) :
    Co a0 a1 a2 a3 (ix3 e g i) = ((-(dl q k v ct e g i / sm q k e g i) : ℝ) : EReal) := by
  unfold Co Sq; pointwise
  simp only [Ex_at h0 h1, Sm_at h0 h1, Dp_at h2 h3]
  have hs := (sm_pos q k e.val g.val i.val).ne'
  rw [← EReal.coe_mul, ← EReal.coe_one, div_real _ (mul_ne_zero hs hs)]
  simp only [← EReal.coe_mul]
  rw [Fin.sum_univ_one, coe_sum_fin 8192 fun j => dp v ct e.val g.val i.val j * (1 / (sm q k e.val g.val i.val * sm q k e.val g.val i.val)) * ex q k e.val g.val i.val j, ← EReal.coe_neg]
  congr 2
  unfold dl; rw [Finset.sum_div]
  refine Finset.sum_congr rfl fun j _ => ?_
  unfold pr; field_simp
theorem DsT_at (h0 : IsReal a0 q) (h1 : IsReal a1 k) (h2 : IsReal a2 v) (h3 : IsReal a3 ct) (e : Fin 2) (g : Fin 4) (i j : Fin 8192) :
    DsT a0 a1 a2 a3 (ix4 e j i g) = ((ds q k v ct e g i j : ℝ) : EReal) := by
  unfold DsT; pointwise
  simp only [Ex_at h0 h1, Sm_at h0 h1, Dp_at h2 h3, Co_at h0 h1 h2 h3]
  have hs := (sm_pos q k e.val g.val i.val).ne'
  rw [div_real _ hs, ← EReal.coe_add, ← EReal.coe_mul]
  congr 1
  unfold ds pr; field_simp; ring
theorem DqV_at (h0 : IsReal a0 q) (h1 : IsReal a1 k) (h2 : IsReal a2 v) (h3 : IsReal a3 ct) : IsReal (DqV a0 a1 a2 a3) (dq q k v ct) := fun i c => by
  unfold DqV; pointwise
  simp only [DsT_at h0 h1 h2 h3, K3_at h1]
  simp only [← EReal.coe_mul]
  exact coe_sum_fin 8192 fun j => ds q k v ct (c.val / 256) (c.val / 64 % 4) i.val j * k j (64 * (c.val / 256) + c.val % 64)
theorem DkV_at (h0 : IsReal a0 q) (h1 : IsReal a1 k) (h2 : IsReal a2 v) (h3 : IsReal a3 ct) : IsReal (DkV a0 a1 a2 a3) (dk q k v ct) := fun i c => by
  unfold DkV; pointwise
  simp only [DsT_at h0 h1 h2 h3, Q4_at h0]
  simp only [← EReal.coe_mul]
  rw [Finset.sum_congr rfl fun i' _ => coe_sum_fin 4 fun g => ds q k v ct (c.val / 64) g i'.val i.val * q i'.val (256 * (c.val / 64) + 64 * g + c.val % 64)]
  exact coe_sum_fin 8192 fun i' => ∑ g ∈ Finset.range 4, ds q k v ct (c.val / 64) g i' i.val * q i' (256 * (c.val / 64) + 64 * g + c.val % 64)
theorem DvV_at (h0 : IsReal a0 q) (h1 : IsReal a1 k) (h3 : IsReal a3 ct) : IsReal (DvV a0 a1 a3) (dv q k ct) := fun i c => by
  unfold DvV; pointwise
  simp only [CtT_at h3, Pr_at h0 h1]
  simp only [← EReal.coe_mul]
  rw [Finset.sum_comm, Finset.sum_congr rfl fun i' _ => coe_sum_fin 4 fun g => ct i'.val (256 * (c.val / 64) + 64 * g + c.val % 64) * pr q k (c.val / 64) g i'.val i.val]
  rw [coe_sum_fin 8192 fun i' => ∑ g ∈ Finset.range 4, ct i' (256 * (c.val / 64) + 64 * g + c.val % 64) * pr q k (c.val / 64) g i' i.val]
  congr 1
  exact Finset.sum_congr rfl fun i' _ => Finset.sum_congr rfl fun g _ => mul_comm _ _
end

/-! ## The run's terms are the stages -/

open Cert.ReferenceIdeal.Value in
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = DqV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v59) = DkV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v58) = DvV (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2.1.trans rfl, (h c).2.2.1.trans rfl, (h c).2.2.2⟩) (run m ρ)

end Cert.ReferenceIdeal.Hand
-- ==== Proof.Finite.lean ====
/- The precondition's stated side conditions, and what it says: every element of the arguments is a real number. -/
module

public import proofs.«01_k».proof.Pre_finite
public import proofs.«01_k».proof.Proof.RefStages
public import Idealize.ShloMosaic.Lib.ReduceAll

@[expose] public section

namespace Cert.Pre_finite.Hand

open Idealize.ShloMosaic Cert.Pre_finite

theorem bcast_S_S8192x512 : S_.BroadcastsInDim S8192x512 (![] : Fin 0 → Fin S8192x512.rank) := by decide
theorem reducesTo_S8192x512_S_d0_1 : S8192x512.ReducesTo [0, 1] S_ := by decide
theorem h_S_ : 0 < S_.numel := by decide
theorem bcast_S_S8192x128 : S_.BroadcastsInDim S8192x128 (![] : Fin 0 → Fin S8192x128.rank) := by decide
theorem reducesTo_S8192x128_S_d0_1 : S8192x128.ReducesTo [0, 1] S_ := by decide

theorem facts : Cert.Pre_finite.Facts where
  bcast_S_S8192x512 := bcast_S_S8192x512
  reducesTo_S8192x512_S_d0_1 := reducesTo_S8192x512_S_d0_1
  h_S_ := h_S_
  bcast_S_S8192x128 := bcast_S_S8192x128
  reducesTo_S8192x128_S_d0_1 := reducesTo_S8192x128_S_d0_1

attribute [local instance] facts

open Cert.ReferenceIdeal.Hand (I32 IsReal)

instance : Subsingleton S_.Idx := ⟨fun a b => funext fun i => i.elim0⟩

theorem real_of {s : Shape} {axes : List (Fin s.rank)} (x : FVec Ideal s .f32) (hb : S_.BroadcastsInDim s ![]) (hr : s.ReducesTo axes S_) (hu : 0 < S_.numel)
    (h : Host.reduce IntOp.andi (cmpf .olt (Host.absf x) (broadcastInDim s ![] hb (constant S_ .f32 0x7F800000#32))) (constantI S_ 1 1#1) hr hu ix0 = 1#1) (i : s.Idx) :
    ∃ r : ℝ, x i = (r : EReal) := by
  have hi := Host.reduce_andi_all _ _ hr hu ix0 h i
  have hlt : max (x i : EReal) (-(x i)) < Ideal.ofBits .f32 0x7F800000#32 := by
    have h2 : Ideal.cmp .olt (max (x i : EReal) (-(x i))) (Ideal.ofBits .f32 0x7F800000#32) = 1#1 := hi
    have h3 : (decide (max (x i : EReal) (-(x i)) < Ideal.ofBits .f32 0x7F800000#32)) = true := by
      cases hd : decide (max (x i : EReal) (-(x i)) < Ideal.ofBits .f32 0x7F800000#32) with
      | true => rfl
      | false =>
        have h4 : BitVec.ofBool (decide (max (x i : EReal) (-(x i)) < Ideal.ofBits .f32 0x7F800000#32)) = 1#1 := h2
        rw [hd] at h4
        exact absurd h4 (by decide)
    exact of_decide_eq_true h3
  rw [Cert.Consts.ofBits_top] at hlt
  have h1 : (x i : EReal) ≠ ⊤ := fun e => by rw [e] at hlt; simp at hlt
  have h2 : (x i : EReal) ≠ ⊥ := fun e => by rw [e] at hlt; simp at hlt
  exact ⟨EReal.toReal (x i), (EReal.coe_toReal h1 h2).symm⟩

theorem isReal_of {a b : ℕ} (x : FVec Ideal ⟨2, ![a, b]⟩ .f32) (h : ∀ i, ∃ r : ℝ, x i = (r : EReal)) : ∃ f, IsReal x f := by
  choose f hf using h
  refine ⟨fun i j => if hij : i < a ∧ j < b then f (ix2 ⟨i, hij.1⟩ ⟨j, hij.2⟩) else 0, fun i j => ?_⟩
  beta_reduce
  rw [dif_pos ⟨i.isLt, j.isLt⟩]
  exact hf _

theorem reals (a0 : I32 S8192x512) (a1 a2 : I32 S8192x128) (a3 : I32 S8192x512) (h : fn (F := Ideal) a0 a1 a2 a3 = fun _ => 1#1) :
    (∃ f, IsReal a0 f) ∧ (∃ f, IsReal a1 f) ∧ (∃ f, IsReal a2 f) ∧ ∃ f, IsReal a3 f := by
  have h := congrFun h ix0
  unfold fn fn_part1 at h
  obtain ⟨h012, h3⟩ := IntOp.andi_eq_one.1 h
  obtain ⟨h01, h2⟩ := IntOp.andi_eq_one.1 h012
  obtain ⟨h0, h1⟩ := IntOp.andi_eq_one.1 h01
  exact ⟨isReal_of a0 (real_of a0 _ _ _ h0), isReal_of a1 (real_of a1 _ _ _ h1), isReal_of a2 (real_of a2 _ _ _ h2), isReal_of a3 (real_of a3 _ _ _ h3)⟩

end Cert.Pre_finite.Hand
-- ==== Proof.KernelIdeal.Body.lean ====
/- One point of the attention-gradient kernel: what its body leaves in each buffer it writes,
   as plain functions of the blocks it reads and of what the buffers held, and the run that shows it. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-! ## What a point computes -/

/-- The first point of a sweep over the rows: the two accumulators are cleared there. -/
def cond1 (i : grid0.Coords) : BitVec 1 :=
  Scalar.cmpi .ne ((Scalar.extui (Scalar.andi (Scalar.cmpi .eq (BitVec.ofNat 32 (i 2).val) 0#32) (Scalar.cmpi .eq (BitVec.ofNat 32 (i 3).val) 0#32)) : BitVec 32)) 0#32

/-- Where the point's slab of the transposed query gradients lies. -/
def slabOff (i : grid0.Coords) : Fin 4 → ℕ := ![(i 2).val, (i 3).val, 0, 0]
theorem slabOff_inb (i : grid0.Coords) : ∀ a, slabOff i a + S1x1x128x1024.size a ≤ S2x8x128x1024.size a := by
  have h2 : (i 2).val < 2 := (i 2).isLt
  have h3 : (i 3).val < 8 := (i 3).isLt
  intro a; fin_cases a <;> simp [slabOff, S1x1x128x1024, S2x8x128x1024] <;> omega
/-- Where the point's tile of the query gradient lies in the result. -/
def tileOff (i : grid0.Coords) : Fin 2 → ℕ := ![1024 * (i 3).val, 256 * (i 0).val + 128 * (i 2).val]

def zero16 : F .bf16 := Scalar.ofBits .bf16 0x0000#16
/-- The two heads' score gradients at the point. -/
def ds0 (x4 : Vec F S2048x128 .bf16) (x5 : Vec F S2048x128 .bf16) (x6 : Vec F S1024x128 .bf16) (x7 : Vec F S1024x128 .f32) (x8 x9 : Vec F S1x8x1024 .f32) : FVec F S2048x1024 .bf16 :=
  k0_pay23 (k0_pay10 x4) (k0_pay11 x5) (k0_pay12 x7) (k0_pay13 x8) (k0_pay14 x9) k0_pay15 (k0_pay17 x6)
def ds1 (x4 : Vec F S2048x128 .bf16) (x5 : Vec F S2048x128 .bf16) (x6 : Vec F S1024x128 .bf16) (x7 : Vec F S1024x128 .f32) (x8 x9 : Vec F S1x8x1024 .f32) : FVec F S2048x1024 .bf16 :=
  k0_pay24 (k0_pay9 x6) (k0_pay10 x4) (k0_pay11 x5) (k0_pay12 x7) (k0_pay13 x8) (k0_pay14 x9) k0_pay16 zero16

variable (i : grid0.Coords) (x4 x5 : Vec F S2048x128 .bf16) (x6 : Vec F S1024x128 .bf16) (x7 : Vec F S1024x128 .f32) (x8 x9 : Vec F S1x8x1024 .f32)
  (a13 a14 : Vec F S2048x128 .f32) (a15 : Vec F S2x8x128x1024 .f32) (a16 : Vec F S1024x128 .f32) (a10 : Vec F S8192x512 .f32) (d11 d12 : Vec F S2048x128 .f32)

/-- The accumulator of the key gradient after the point. -/
def nextDk : Vec F S2048x128 .f32 :=
  k0_pay1 (k0_pay17 x6) (k0_pay18 (k0_pay9 x6) k0_pay16 zero16) (ds0 x4 x5 x6 x7 x8 x9) (ds1 x4 x5 x6 x7 x8 x9)
    (if cond1 i = 1#1 then k0_pay6 else a13)
/-- The accumulator of the value gradient after the point. -/
def nextDv : Vec F S2048x128 .f32 :=
  k0_pay25 (k0_pay9 x6) (k0_pay10 x4) (k0_pay12 x7) (k0_pay13 x8) k0_pay15 k0_pay16 (k0_pay17 x6) zero16
    (if cond1 i = 1#1 then k0_pay7 else a14)
/-- The transposed query gradients, the point's slab cleared at the first key tile. -/
def clearDq : Vec F S2x8x128x1024 .f32 :=
  if k0_cond2 i = 1#1 then VecWindow.put a15 (slabOff i) S1x1x128x1024.size (k0_pay8 (F := F)) else a15
def nextDq : Vec F S2x8x128x1024 .f32 :=
  VecWindow.put (clearDq i a15) (slabOff i) S1x1x128x1024.size
    (k0_pay2 (k0_pay10 x4) (ds0 x4 x5 x6 x7 x8 x9) (ds1 x4 x5 x6 x7 x8 x9) (VecWindow.window (clearDq i a15) (slabOff i) S1x1x128x1024.size (slabOff_inb i)))
/-- The staging tile, turned back from the slab at the last key tile. -/
def nextStage : Vec F S1024x128 .f32 :=
  if k0_cond3 i = 1#1 then k0_pay3 (VecWindow.window (nextDq i x4 x5 x6 x7 x8 x9 a15) (slabOff i) S1x1x128x1024.size (slabOff_inb i)) else a16
def nextOut : Vec F S8192x512 .f32 :=
  if k0_cond3 i = 1#1 then VecWindow.put a10 (tileOff i) S1024x128.size (nextStage i x4 x5 x6 x7 x8 x9 a15 a16) else a10
def outDk : Vec F S2048x128 .f32 :=
  if k0_cond4 i = 1#1 then k0_pay4 (nextDk i x4 x5 x6 x7 x8 x9 a13) (nextDk i x4 x5 x6 x7 x8 x9 a13) else d11
def outDv : Vec F S2048x128 .f32 :=
  if k0_cond4 i = 1#1 then k0_pay5 (nextDv i x4 x6 x7 x8 a14) (nextDv i x4 x6 x7 x8 a14) else d12

abbrev scM0_0 : Memref sig .tc .vmem S2048x128 .f32 := Memref.whole cc0_scratch0
abbrev scM0_1 : Memref sig .tc .vmem S2048x128 .f32 := Memref.whole cc0_scratch1
abbrev scM0_2 : Memref sig .tc .vmem S2x8x128x1024 .f32 := Memref.whole cc0_scratch2
abbrev scM0_3 : Memref sig .tc .vmem S1024x128 .f32 := Memref.whole cc0_scratch3
abbrev hbM0_0 : Memref sig .tc .hbm S8192x512 .f32 := Memref.whole main_v60_0

/-! ## Loads and stores of a point's buffers by values -/

section Loads
variable {κ : Kind} {sp : Space} {e : EltTy}

theorem load_2048 (v : View sig κ sp S2048x128 e) (f : v.ty.Contents (Elt F)) (inb) :
    v.readAt (Elt F) (Rect.unit (s := S2048x128) ![0, 0] ![2048, 128] inb).toLoadRect f = v.read (Elt F) f := View.readAt_full v f inb
theorem load_1024 (v : View sig κ sp S1024x128 e) (f : v.ty.Contents (Elt F)) (inb) :
    v.readAt (Elt F) (Rect.unit (s := S1024x128) ![0, 0] ![1024, 128] inb).toLoadRect f = v.read (Elt F) f := View.readAt_full v f inb
theorem load_8 (v : View sig κ sp S1x8x1024 e) (f : v.ty.Contents (Elt F)) (inb) :
    v.readAt (Elt F) (Rect.unit (s := S1x8x1024) ![0, 0, 0] ![1, 8, 1024] inb).toLoadRect f = v.read (Elt F) f := View.readAt_full v f inb
theorem store_2048 (v : View sig κ sp S2048x128 e) (f : v.ty.Contents (Elt F)) (inb) (w) (L) :
    v.read (Elt F) (v.writes (Elt F) f (⟨Rect.unit (s := S2048x128) ![0, 0] ![2048, 128] inb, w⟩ :: L)) = w := View.read_writes_full v f inb w L
theorem store_1024 (v : View sig κ sp S1024x128 e) (f : v.ty.Contents (Elt F)) (inb) (w) (L) :
    v.read (Elt F) (v.writes (Elt F) f (⟨Rect.unit (s := S1024x128) ![0, 0] ![1024, 128] inb, w⟩ :: L)) = w := View.read_writes_full v f inb w L
theorem load_slab2 (v : View sig κ sp S2x8x128x1024 e) (f : v.ty.Contents (Elt F)) (i : grid0.Coords) (inb) :
    v.readAt (Elt F) (Rect.unit (s := S2x8x128x1024) (k0_off2 i) ![1, 1, 128, 1024] inb).toLoadRect f
      = VecWindow.window (v.read (Elt F) f) (slabOff i) S1x1x128x1024.size (slabOff_inb i) := View.readAt_unit v f inb (k0_off2_eq i) _
theorem load_slab3 (v : View sig κ sp S2x8x128x1024 e) (f : v.ty.Contents (Elt F)) (i : grid0.Coords) (inb) :
    v.readAt (Elt F) (Rect.unit (s := S2x8x128x1024) (k0_off3 i) ![1, 1, 128, 1024] inb).toLoadRect f
      = VecWindow.window (v.read (Elt F) f) (slabOff i) S1x1x128x1024.size (slabOff_inb i) := View.readAt_unit v f inb (k0_off3_eq i) _
theorem store_slab1 (v : View sig κ sp S2x8x128x1024 e) (f : v.ty.Contents (Elt F)) (i : grid0.Coords) (inb) (w) (L) :
    v.read (Elt F) (v.writes (Elt F) f (⟨Rect.unit (s := S2x8x128x1024) (k0_off1 i) ![1, 1, 128, 1024] inb, w⟩ :: L))
      = VecWindow.put (v.read (Elt F) (v.writes (Elt F) f L)) (slabOff i) S1x1x128x1024.size w := View.read_writes_cons_put v f inb w L (k0_off1_eq i)
theorem store_slab2 (v : View sig κ sp S2x8x128x1024 e) (f : v.ty.Contents (Elt F)) (i : grid0.Coords) (inb) (w) (L) :
    v.read (Elt F) (v.writes (Elt F) f (⟨Rect.unit (s := S2x8x128x1024) (k0_off2 i) ![1, 1, 128, 1024] inb, w⟩ :: L))
      = VecWindow.put (v.read (Elt F) (v.writes (Elt F) f L)) (slabOff i) S1x1x128x1024.size w := View.read_writes_cons_put v f inb w L (k0_off2_eq i)
theorem reload_slab (v : View sig κ sp S2x8x128x1024 .f32) (i : grid0.Coords) (inb inb') (w) (L) :
    v.readCov (Val := Elt F) (⟨Rect.unit (s := S2x8x128x1024) (k0_off2 i) ![1, 1, 128, 1024] inb, w⟩ :: L) (Rect.unit (s := S2x8x128x1024) (k0_off3 i) ![1, 1, 128, 1024] inb').toLoadRect = w := by
  unfold View.readCov
  rw [load_slab3, store_slab2]
  exact VecWindow.window_put_same _ _ _ _ _
theorem reload_2048 (v : View sig κ sp S2048x128 e) (inb inb') (w) (L) :
    v.readCov (Val := Elt F) (⟨Rect.unit (s := S2048x128) ![0, 0] ![2048, 128] inb, w⟩ :: L) (Rect.unit (s := S2048x128) ![0, 0] ![2048, 128] inb').toLoadRect = w := by
  unfold View.readCov
  rw [load_2048, store_2048]
theorem land_tile (v : View sig κ sp S8192x512 e) (f : v.ty.Contents (Elt F)) (i : grid0.Coords) (inb) (w) :
    v.read (Elt F) (View.write (Elt F) (v.slice (Rect.unit (s := S8192x512) (k0_off4 i) ![1024, 128] inb)) f w Finset.univ)
      = VecWindow.put (v.read (Elt F) f) (tileOff i) S1024x128.size w :=
  View.read_writes_cons_put v f inb w [] (k0_off4_eq i)

end Loads

set_option maxHeartbeats 3200000 in
/-- One point's run, whatever the conditions: each buffer it writes ends at the function above of what was there. -/
theorem kernelRun0 (c : Dev nD) (arg4 : Memref sig .tc .vmem S2048x128 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1x8x1024 .f32) (harg8 : arg8.IsWhole) (arg9 : Memref sig .tc .vmem S1x8x1024 .f32) (harg9 : arg9.IsWhole) (arg11 : Memref sig .tc .vmem S2048x128 .f32) (harg11 : arg11.IsWhole) (arg12 : Memref sig .tc .vmem S2048x128 .f32) (harg12 : arg12.IsWhole)
    (W : Waits sig Unit) (K : PUnit → sProp 𝕄) :
    iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg11 fullShare d11 ∗ owns (c : Thread nD τ) arg12 fullShare d12
        ∗ owns (c : Thread nD τ) scM0_0 fullShare a13 ∗ owns (c : Thread nD τ) scM0_1 fullShare a14
        ∗ owns (c : Thread nD τ) scM0_2 fullShare a15 ∗ owns (c : Thread nD τ) scM0_3 fullShare a16
        ∗ owns (c : Thread nD τ) hbM0_0 fullShare a10
        ∗ semVal ((c : Thread nD τ), SemLoc.dma 16) 0 ∗ owes (c : Thread nD τ) 0 W
        ∗ (iprop(owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ owns (c : Thread nD τ) arg9 fullShare x9
            ∗ owns (c : Thread nD τ) arg11 fullShare (outDk i x4 x5 x6 x7 x8 x9 a13 d11) ∗ owns (c : Thread nD τ) arg12 fullShare (outDv i x4 x6 x7 x8 a14 d12)
            ∗ owns (c : Thread nD τ) scM0_0 fullShare (nextDk i x4 x5 x6 x7 x8 x9 a13) ∗ owns (c : Thread nD τ) scM0_1 fullShare (nextDv i x4 x6 x7 x8 a14)
            ∗ owns (c : Thread nD τ) scM0_2 fullShare (nextDq i x4 x5 x6 x7 x8 x9 a15) ∗ owns (c : Thread nD τ) scM0_3 fullShare (nextStage i x4 x5 x6 x7 x8 x9 a15 a16)
            ∗ owns (c : Thread nD τ) hbM0_0 fullShare (nextOut i x4 x5 x6 x7 x8 x9 a15 a16 a10)
            ∗ semVal ((c : Thread nD τ), SemLoc.dma 16) 0 ∗ (∃ W', owes (c : Thread nD τ) 0 W')) -∗ K ⟨⟩))
      ⊢ wp frame (wpE (defs₀ (F := F)) Variants.none c none) Set.univ
          (cc0_attn_b_bwd i arg4 harg4 arg5 harg5 arg6 harg6 arg7 harg7 arg8 harg8 arg9 harg9 hbM0_0 (Memref.isWhole_whole _) arg11 harg11 arg12 harg12
            scM0_0 (Memref.isWhole_whole _) scM0_1 (Memref.isWhole_whole _) scM0_2 (Memref.isWhole_whole _) scM0_3 (Memref.isWhole_whole _) cc0_scratch4) K := by
  simp only [cc0_attn_b_bwd_eq_skeleton]; unfold cc0_attn_b_bwd_skel
  simp only [k0_part1_eq_skeleton, k0_part2_eq_skeleton]; unfold k0_part1_skel k0_part2_skel
  unfold owns
  iintro ⟨⟨%f4, %e4, H4⟩, ⟨%f5, %e5, H5⟩, ⟨%f6, %e6, H6⟩, ⟨%f7, %e7, H7⟩, ⟨%f8, %e8, H8⟩, ⟨%f9, %e9, H9⟩, ⟨%f11, %e11, H11⟩, ⟨%f12, %e12, H12⟩,
    ⟨%f13, %e13, H13⟩, ⟨%f14, %e14, H14⟩, ⟨%f15, %e15, H15⟩, ⟨%f16, %e16, H16⟩, ⟨%f10, %e10, H10⟩, Hs, HW, Hk⟩
  subst e4 e5 e6 e7 e8 e9 e11 e12 e13 e14 e15 e16 e10
  sl_exec
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H11]
  · iexists _; isplitr; swap; · iexact H11
    ipureintro
    sl_unfold_run_names
    unfold outDk nextDk ds0 ds1 zero16
    by_cases h1 : cond1 i = 1#1 <;> by_cases h4 : k0_cond4 i = 1#1 <;>
      (unfold cond1 at h1 ⊢; simp only [h1, h4, ↓reduceDIte, ↓reduceIte, load_2048, load_1024, load_8, store_2048, store_1024, load_slab2, store_slab1, store_slab2, reload_slab, reload_2048, land_tile,
        View.writes_nil, VecWindow.window_put_same])
  isplitl [H12]
  · iexists _; isplitr; swap; · iexact H12
    ipureintro
    sl_unfold_run_names
    unfold outDv nextDv zero16
    by_cases h1 : cond1 i = 1#1 <;> by_cases h4 : k0_cond4 i = 1#1 <;>
      (unfold cond1 at h1 ⊢; simp only [h1, h4, ↓reduceDIte, ↓reduceIte, load_2048, load_1024, load_8, store_2048, store_1024, load_slab2, store_slab1, store_slab2, reload_slab, reload_2048, land_tile,
        View.writes_nil, VecWindow.window_put_same])
  isplitl [H13]
  · iexists _; isplitr; swap; · iexact H13
    ipureintro
    sl_unfold_run_names
    unfold nextDk ds0 ds1 zero16
    by_cases h1 : cond1 i = 1#1 <;>
      (unfold cond1 at h1 ⊢; simp only [h1, ↓reduceDIte, ↓reduceIte, load_2048, load_1024, load_8, store_2048, store_1024, load_slab2, store_slab1, store_slab2, reload_slab, reload_2048, land_tile,
        View.writes_nil, VecWindow.window_put_same])
  isplitl [H14]
  · iexists _; isplitr; swap; · iexact H14
    ipureintro
    sl_unfold_run_names
    unfold nextDv zero16
    by_cases h1 : cond1 i = 1#1 <;>
      (unfold cond1 at h1 ⊢; simp only [h1, ↓reduceDIte, ↓reduceIte, load_2048, load_1024, load_8, store_2048, store_1024, load_slab2, store_slab1, store_slab2, reload_slab, reload_2048, land_tile,
        View.writes_nil, VecWindow.window_put_same])
  isplitl [H15]
  · iexists _; isplitr; swap; · iexact H15
    ipureintro
    sl_unfold_run_names
    unfold nextDq clearDq ds0 ds1 zero16
    by_cases h2 : k0_cond2 i = 1#1 <;>
      (simp only [h2, ↓reduceDIte, ↓reduceIte, load_2048, load_1024, load_8, store_2048, store_1024, load_slab2, store_slab1, store_slab2, reload_slab, reload_2048, land_tile,
        View.writes_nil, VecWindow.window_put_same])
  isplitl [H16]
  · iexists _; isplitr; swap; · iexact H16
    ipureintro
    sl_unfold_run_names
    unfold nextStage nextDq clearDq ds0 ds1 zero16
    by_cases h2 : k0_cond2 i = 1#1 <;> by_cases h3 : k0_cond3 i = 1#1 <;>
      (simp only [h2, h3, ↓reduceDIte, ↓reduceIte, load_2048, load_1024, load_8, store_2048, store_1024, load_slab2, store_slab1, store_slab2, reload_slab, reload_2048, land_tile,
        View.writes_nil, VecWindow.window_put_same])
  isplitl [H10]
  · iexists _; isplitr; swap; · iexact H10
    ipureintro
    sl_unfold_run_names
    unfold nextOut nextStage nextDq clearDq ds0 ds1 zero16
    by_cases h2 : k0_cond2 i = 1#1 <;> by_cases h3 : k0_cond3 i = 1#1 <;>
      (simp only [h2, h3, ↓reduceDIte, ↓reduceIte, load_2048, load_1024, load_8, store_2048, store_1024, load_slab2, store_slab1, store_slab2, reload_slab, reload_2048, land_tile,
        View.writes_nil, VecWindow.window_put_same])
  isplitl [Hs]; · iexact Hs
  iexists _; iexact HW

end Cert.KernelIdeal.Hand
-- ==== Proof.KernelIdeal.State.lean ====
/- What the attention-gradient kernel's buffers hold after `n` points, in closed form from the
   blocks the points read: the accumulators of the key and value gradients, each slab of the transposed query gradients,
   and the query gradient in HBM; and that one point's run keeps the description. -/
module

public import proofs.«01_k».proof.Proof.KernelIdeal.Body

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-! ## The grid's points by their numbers -/

/-- Point number `n` of the grid. -/
def pt (n : ℕ) : Fin cfg0.N := ⟨n % 128, Nat.mod_lt _ (by decide)⟩
/-- Its coordinates. -/
abbrev co (n : ℕ) : grid0.Coords := grid0.coords (pt n)

theorem pt_eq (t : Fin cfg0.N) : pt t.val = t := Fin.ext (Nat.mod_eq_of_lt (lt_of_lt_of_eq t.isLt N_0))
theorem coords_val : ∀ t : Fin grid0.N, (grid0.coords t 0).val = t.val / 64 ∧ (grid0.coords t 1).val = t.val / 16 % 4
    ∧ (grid0.coords t 2).val = t.val / 8 % 2 ∧ (grid0.coords t 3).val = t.val % 8 := by decide +kernel
theorem conds : ∀ t : Fin grid0.N, (cond1 (grid0.coords t) = 1#1 ↔ t.val % 16 = 0) ∧ (k0_cond2 (grid0.coords t) = 1#1 ↔ t.val / 16 % 4 = 0)
    ∧ (k0_cond3 (grid0.coords t) = 1#1 ↔ t.val / 16 % 4 = 3) ∧ (k0_cond4 (grid0.coords t) = 1#1 ↔ t.val % 16 = 15) := by decide +kernel

section Pure
variable (X4 X5 : ℕ → Vec F S2048x128 .bf16) (X6 : ℕ → Vec F S1024x128 .bf16) (X7 : ℕ → Vec F S1024x128 .f32) (X8 X9 : ℕ → Vec F S1x8x1024 .f32)

/-- Point `n`'s score gradients, and what it adds to each accumulator. -/
def D0 (n : ℕ) := ds0 (X4 n) (X5 n) (X6 n) (X7 n) (X8 n) (X9 n)
def D1 (n : ℕ) := ds1 (X4 n) (X5 n) (X6 n) (X7 n) (X8 n) (X9 n)
def stepDk (n : ℕ) (a : Vec F S2048x128 .f32) : Vec F S2048x128 .f32 :=
  k0_pay1 (k0_pay17 (X6 n)) (k0_pay18 (k0_pay9 (X6 n)) k0_pay16 zero16) (D0 X4 X5 X6 X7 X8 X9 n) (D1 X4 X5 X6 X7 X8 X9 n) a
def stepDv (n : ℕ) (a : Vec F S2048x128 .f32) : Vec F S2048x128 .f32 :=
  k0_pay25 (k0_pay9 (X6 n)) (k0_pay10 (X4 n)) (k0_pay12 (X7 n)) (k0_pay13 (X8 n)) k0_pay15 k0_pay16 (k0_pay17 (X6 n)) zero16 a
def stepDq (n : ℕ) (a : Vec F S1x1x128x1024 .f32) : Vec F S1x1x128x1024 .f32 :=
  k0_pay2 (k0_pay10 (X4 n)) (D0 X4 X5 X6 X7 X8 X9 n) (D1 X4 X5 X6 X7 X8 X9 n) a

/-- The key (value) gradient's accumulator after points `n … n + j` of a sweep that begins at `n`. -/
def dkV (n : ℕ) : ℕ → Vec F S2048x128 .f32
  | 0 => stepDk X4 X5 X6 X7 X8 X9 n k0_pay6
  | j + 1 => stepDk X4 X5 X6 X7 X8 X9 (n + (j + 1)) (dkV n j)
def dvV (n : ℕ) : ℕ → Vec F S2048x128 .f32
  | 0 => stepDv X4 X6 X7 X8 n k0_pay7
  | j + 1 => stepDv X4 X6 X7 X8 (n + (j + 1)) (dvV n j)
/-- A slab of the transposed query gradients after the key tiles `0 … k`; `n` is the point that meets it at key tile 0. -/
def slabV (n : ℕ) : ℕ → Vec F S1x1x128x1024 .f32
  | 0 => stepDq X4 X5 X6 X7 X8 X9 n k0_pay8
  | k + 1 => stepDq X4 X5 X6 X7 X8 X9 (n + 16 * (k + 1)) (slabV n k)
/-- The query gradient in HBM after `n` points, from what it held first. -/
def outV (a : Vec F S8192x512 .f32) : ℕ → Vec F S8192x512 .f32
  | 0 => a
  | n + 1 => if n / 16 % 4 = 3 then
      VecWindow.put (outV a n) (tileOff (co n)) S1024x128.size (k0_pay3 (slabV X4 X5 X6 X7 X8 X9 (64 * (n / 64) + n % 16) 3)) else outV a n

/-- Where slab `p` of the sixteen lies. -/
def pOff (p : ℕ) : Fin 4 → ℕ := ![p / 8, p % 8, 0, 0]
theorem pOff_inb (p : ℕ) (hp : p < 16) : ∀ a, pOff p a + S1x1x128x1024.size a ≤ S2x8x128x1024.size a := by
  intro a; fin_cases a <;> simp [pOff, S1x1x128x1024, S2x8x128x1024] <;> omega
theorem slabOff_eq (n : ℕ) (hn : n < 128) : slabOff (co n) = pOff (n % 16) := by
  have h := coords_val (pt n)
  have e : (pt n).val = n := Nat.mod_eq_of_lt hn
  rw [e] at h
  unfold slabOff pOff
  have h2 : (co n 2).val = n % 16 / 8 := h.2.2.1.trans (by omega)
  have h3 : (co n 3).val = n % 16 % 8 := h.2.2.2.trans (by omega)
  rw [h2, h3]
def slab (x : Vec F S2x8x128x1024 .f32) (p : ℕ) (hp : p < 16) : Vec F S1x1x128x1024 .f32 :=
  VecWindow.window x (pOff p) S1x1x128x1024.size (pOff_inb p hp)
theorem window_slab (x : Vec F S2x8x128x1024 .f32) (n : ℕ) (hn : n < 128) :
    VecWindow.window x (slabOff (co n)) S1x1x128x1024.size (slabOff_inb (co n)) = slab x (n % 16) (Nat.mod_lt _ (by decide)) := by
  have h : ∀ o o' : Fin 4 → ℕ, o = o' → ∀ (i : ∀ a, o a + S1x1x128x1024.size a ≤ S2x8x128x1024.size a) (i' : ∀ a, o' a + S1x1x128x1024.size a ≤ S2x8x128x1024.size a),
      VecWindow.window x o S1x1x128x1024.size i = VecWindow.window x o' S1x1x128x1024.size i' := by rintro _ _ rfl _ _; rfl
  exact h _ _ (slabOff_eq n hn) _ _
theorem slab_put_ne (x : Vec F S2x8x128x1024 .f32) (n : ℕ) (hn : n < 128) (w : Vec F S1x1x128x1024 .f32) (p : ℕ) (hp : p < 16) (h : p ≠ n % 16) :
    slab (VecWindow.put x (slabOff (co n)) S1x1x128x1024.size w) p hp = slab x p hp := by
  rw [slabOff_eq n hn]
  unfold slab
  by_cases h8 : p / 8 = n % 16 / 8
  · refine VecWindow.window_put_of_disjoint _ _ _ _ _ _ _ (1 : Fin 4) ?_
    show p % 8 + 1 ≤ n % 16 % 8 ∨ n % 16 % 8 + 1 ≤ p % 8
    omega
  · refine VecWindow.window_put_of_disjoint _ _ _ _ _ _ _ (0 : Fin 4) ?_
    show p / 8 + 1 ≤ n % 16 / 8 ∨ n % 16 / 8 + 1 ≤ p / 8
    omega
theorem slab_put_same (x : Vec F S2x8x128x1024 .f32) (n : ℕ) (hn : n < 128) (w : Vec F S1x1x128x1024 .f32) :
    slab (VecWindow.put x (slabOff (co n)) S1x1x128x1024.size w) (n % 16) (Nat.mod_lt _ (by decide)) = w := by
  rw [← window_slab _ n hn]
  exact VecWindow.window_put_same _ _ _ _ _

variable (a0 : Vec F S8192x512 .f32)

/-- What the buffers hold after `n` points. -/
structure Inv (n : ℕ) (a13 a14 : Vec F S2048x128 .f32) (a15 : Vec F S2x8x128x1024 .f32) (a10 : Vec F S8192x512 .f32) : Prop where
  dk : n % 16 ≠ 0 → a13 = dkV X4 X5 X6 X7 X8 X9 (16 * (n / 16)) (n % 16 - 1)
  dv : n % 16 ≠ 0 → a14 = dvV X4 X6 X7 X8 (16 * (n / 16)) (n % 16 - 1)
  new : ∀ p (hp : p < 16), p < n % 16 → slab a15 p hp = slabV X4 X5 X6 X7 X8 X9 (64 * (n / 64) + p) (n / 16 % 4)
  old : ∀ p (hp : p < 16), n % 16 ≤ p → n / 16 % 4 ≠ 0 → slab a15 p hp = slabV X4 X5 X6 X7 X8 X9 (64 * (n / 64) + p) (n / 16 % 4 - 1)
  out : a10 = outV X4 X5 X6 X7 X8 X9 a0 n

theorem Inv.zero (a13 a14 : Vec F S2048x128 .f32) (a15 : Vec F S2x8x128x1024 .f32) : Inv X4 X5 X6 X7 X8 X9 a0 0 a13 a14 a15 a0 where
  dk h := absurd rfl h
  dv h := absurd rfl h
  new p hp h := absurd h (Nat.not_lt_zero _)
  old p hp _ h := absurd rfl h
  out := rfl

variable {X4 X5 X6 X7 X8 X9 a0} {n : ℕ} {a13 a14 : Vec F S2048x128 .f32} {a15 : Vec F S2x8x128x1024 .f32} {a16 : Vec F S1024x128 .f32} {a10 : Vec F S8192x512 .f32}

theorem cond_n (hn : n < 128) : (cond1 (co n) = 1#1 ↔ n % 16 = 0) ∧ (k0_cond2 (co n) = 1#1 ↔ n / 16 % 4 = 0)
    ∧ (k0_cond3 (co n) = 1#1 ↔ n / 16 % 4 = 3) ∧ (k0_cond4 (co n) = 1#1 ↔ n % 16 = 15) := by
  have h := conds (pt n)
  have e : (pt n).val = n := Nat.mod_eq_of_lt hn
  rwa [e] at h

theorem Inv.nextDk (I : Inv X4 X5 X6 X7 X8 X9 a0 n a13 a14 a15 a10) (hn : n < 128) :
    Hand.nextDk (co n) (X4 n) (X5 n) (X6 n) (X7 n) (X8 n) (X9 n) a13 = dkV X4 X5 X6 X7 X8 X9 (16 * (n / 16)) (n % 16) := by
  change stepDk X4 X5 X6 X7 X8 X9 n (if cond1 (co n) = 1#1 then k0_pay6 else a13) = _
  by_cases h : n % 16 = 0
  · rw [if_pos ((cond_n hn).1.mpr h), h]
    have e : 16 * (n / 16) = n := by omega
    rw [e]; rfl
  · rw [if_neg (mt (cond_n hn).1.mp h), I.dk h]
    obtain ⟨j, hj⟩ : ∃ j, n % 16 = j + 1 := ⟨n % 16 - 1, by omega⟩
    rw [hj]
    have e : 16 * (n / 16) + (j + 1) = n := by omega
    show _ = stepDk X4 X5 X6 X7 X8 X9 (16 * (n / 16) + (j + 1)) _
    rw [e]; rfl
theorem Inv.nextDv (I : Inv X4 X5 X6 X7 X8 X9 a0 n a13 a14 a15 a10) (hn : n < 128) :
    Hand.nextDv (co n) (X4 n) (X6 n) (X7 n) (X8 n) a14 = dvV X4 X6 X7 X8 (16 * (n / 16)) (n % 16) := by
  change stepDv X4 X6 X7 X8 n (if cond1 (co n) = 1#1 then k0_pay7 else a14) = _
  by_cases h : n % 16 = 0
  · rw [if_pos ((cond_n hn).1.mpr h), h]
    have e : 16 * (n / 16) = n := by omega
    rw [e]; rfl
  · rw [if_neg (mt (cond_n hn).1.mp h), I.dv h]
    obtain ⟨j, hj⟩ : ∃ j, n % 16 = j + 1 := ⟨n % 16 - 1, by omega⟩
    rw [hj]
    have e : 16 * (n / 16) + (j + 1) = n := by omega
    show _ = stepDv X4 X6 X7 X8 (16 * (n / 16) + (j + 1)) _
    rw [e]; rfl

/-- The point's slab afterwards. -/
theorem Inv.nextSlab (I : Inv X4 X5 X6 X7 X8 X9 a0 n a13 a14 a15 a10) (hn : n < 128) :
    slab (nextDq (co n) (X4 n) (X5 n) (X6 n) (X7 n) (X8 n) (X9 n) a15) (n % 16) (Nat.mod_lt _ (by decide))
      = slabV X4 X5 X6 X7 X8 X9 (64 * (n / 64) + n % 16) (n / 16 % 4) := by
  unfold nextDq
  rw [slab_put_same _ n hn, window_slab _ n hn]
  change stepDq X4 X5 X6 X7 X8 X9 n _ = _
  unfold clearDq
  by_cases h : n / 16 % 4 = 0
  · rw [if_pos ((cond_n hn).2.1.mpr h), slab_put_same _ n hn, h]
    have e : 64 * (n / 64) + n % 16 = n := by omega
    rw [e]; rfl
  · rw [if_neg (mt (cond_n hn).2.1.mp h), I.old _ _ le_rfl h]
    obtain ⟨j, hj⟩ : ∃ j, n / 16 % 4 = j + 1 := ⟨n / 16 % 4 - 1, by omega⟩
    rw [hj]
    have e : 64 * (n / 64) + n % 16 + 16 * (j + 1) = n := by omega
    show _ = stepDq X4 X5 X6 X7 X8 X9 (64 * (n / 64) + n % 16 + 16 * (j + 1)) _
    rw [e]; rfl
/-- The other slabs are left. -/
theorem slab_nextDq_ne (hn : n < 128) (p : ℕ) (hp : p < 16) (h : p ≠ n % 16) :
    slab (nextDq (co n) (X4 n) (X5 n) (X6 n) (X7 n) (X8 n) (X9 n) a15) p hp = slab a15 p hp := by
  unfold nextDq
  rw [slab_put_ne _ n hn _ p hp h]
  unfold clearDq
  split_ifs
  · exact slab_put_ne _ n hn _ p hp h
  · rfl

/-- One point's run keeps the description. -/
theorem Inv.step (I : Inv X4 X5 X6 X7 X8 X9 a0 n a13 a14 a15 a10) (hn : n < 128) :
    Inv X4 X5 X6 X7 X8 X9 a0 (n + 1) (Hand.nextDk (co n) (X4 n) (X5 n) (X6 n) (X7 n) (X8 n) (X9 n) a13) (Hand.nextDv (co n) (X4 n) (X6 n) (X7 n) (X8 n) a14)
      (nextDq (co n) (X4 n) (X5 n) (X6 n) (X7 n) (X8 n) (X9 n) a15) (nextOut (co n) (X4 n) (X5 n) (X6 n) (X7 n) (X8 n) (X9 n) a15 a16 a10) where
  dk h := by
    have e1 : (n + 1) / 16 = n / 16 := by omega
    have e2 : (n + 1) % 16 - 1 = n % 16 := by omega
    rw [e1, e2]; exact I.nextDk hn
  dv h := by
    have e1 : (n + 1) / 16 = n / 16 := by omega
    have e2 : (n + 1) % 16 - 1 = n % 16 := by omega
    rw [e1, e2]; exact I.nextDv hn
  new p hp h := by
    have e1 : (n + 1) / 16 = n / 16 := by omega
    have e2 : (n + 1) / 64 = n / 64 := by omega
    rw [e1, e2]
    by_cases hpn : p = n % 16
    · subst hpn; exact I.nextSlab hn
    · rw [slab_nextDq_ne hn p hp hpn]
      exact I.new p hp (by omega)
  old p hp h h4 := by
    by_cases hl : n % 16 = 15
    · have e1 : (n + 1) / 16 % 4 - 1 = n / 16 % 4 := by omega
      have e2 : (n + 1) / 64 = n / 64 := by omega
      rw [e1, e2]
      by_cases hpn : p = n % 16
      · subst hpn; exact I.nextSlab hn
      · rw [slab_nextDq_ne hn p hp hpn]
        exact I.new p hp (by omega)
    · have e1 : (n + 1) / 16 = n / 16 := by omega
      have e2 : (n + 1) / 64 = n / 64 := by omega
      rw [e1] at h4 ⊢
      rw [e2, slab_nextDq_ne hn p hp (by omega)]
      exact I.old p hp (by omega) h4
  out := by
    show _ = if n / 16 % 4 = 3 then _ else _
    unfold nextOut
    by_cases h : n / 16 % 4 = 3
    · rw [if_pos ((cond_n hn).2.2.1.mpr h), if_pos h, ← I.out]
      unfold nextStage
      rw [if_pos ((cond_n hn).2.2.1.mpr h), window_slab _ n hn, I.nextSlab hn, h]
    · rw [if_neg (mt (cond_n hn).2.2.1.mp h), if_neg h]; exact I.out

end Pure

end Cert.KernelIdeal.Hand
-- ==== Proof.KernelIdeal.Run.lean ====
/- The attention-gradient program's run: at the end the three arrays the call writes hold the
   closed forms of State.lean, every other buffer what the host lines after the call leave, every counter zero. -/
module

public import proofs.«01_k».proof.Proof.KernelIdeal.State
public import Idealize.ShloMosaic.Lib.Pipeline.FrameSuffixV

@[expose] public section

set_option maxRecDepth 16384

noncomputable section

namespace Cert.KernelIdeal.Hand

open Cert.KernelIdeal Cert.KernelIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The blocks by point numbers, and the closed forms at them -/

def B4 (c : Dev nD) (n : ℕ) : Vec F S2048x128 .bf16 := iblk m c 0 (pt n)
def B5 (c : Dev nD) (n : ℕ) : Vec F S2048x128 .bf16 := iblk m c 1 (pt n)
def B6 (c : Dev nD) (n : ℕ) : Vec F S1024x128 .bf16 := iblk m c 2 (pt n)
def B7 (c : Dev nD) (n : ℕ) : Vec F S1024x128 .f32 := iblk m c 3 (pt n)
def B8 (c : Dev nD) (n : ℕ) : Vec F S1x8x1024 .f32 := iblk m c 4 (pt n)
def B9 (c : Dev nD) (n : ℕ) : Vec F S1x8x1024 .f32 := iblk m c 5 (pt n)

abbrev dkAt (c : Dev nD) := dkV (B4 m c) (B5 m c) (B6 m c) (B7 m c) (B8 m c) (B9 m c)
abbrev dvAt (c : Dev nD) := dvV (B4 m c) (B6 m c) (B7 m c) (B8 m c)
abbrev slabAt (c : Dev nD) := slabV (B4 m c) (B5 m c) (B6 m c) (B7 m c) (B8 m c) (B9 m c)
abbrev outAt (c : Dev nD) := outV (B4 m c) (B5 m c) (B6 m c) (B7 m c) (B8 m c) (B9 m c) (V m c main_v60_0)
abbrev InvAt (c : Dev nD) := Inv (B4 m c) (B5 m c) (B6 m c) (B7 m c) (B8 m c) (B9 m c) (V m c main_v60_0)
/-- The blocks written back at the end of a sweep. -/
def dkBlk (c : Dev nD) (n : ℕ) : Vec F S2048x128 .f32 := k0_pay4 (dkAt m c (16 * (n / 16)) (n % 16)) (dkAt m c (16 * (n / 16)) (n % 16))
def dvBlk (c : Dev nD) (n : ℕ) : Vec F S2048x128 .f32 := k0_pay5 (dvAt m c (16 * (n / 16)) (n % 16)) (dvAt m c (16 * (n / 16)) (n % 16))

/-! ## The invariant -/

abbrev osem0 : Fin 1 → SemLoc sig := fun j => (![SemLoc.dma 16] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0) := by
  rw [Pipeline.ownSems0_eq_of_list c osem0 [0] (by decide) (by decide)]; rfl
def H0 : Finset (Ref sig .tc) := ∅
def R0 : Finset (Ref sig .tc) := {main_v60_0}
theorem H0_sub : H0 ⊆ Pipeline.restRefs sig spec0 := Finset.empty_subset _
theorem R0_sub : R0 ⊆ Pipeline.restRefs sig spec0 \ H0 := by
  intro b hb
  rw [R0, Finset.mem_singleton] at hb
  subst hb
  exact Finset.mem_sdiff.mpr ⟨Pipeline.mem_restRefs_of main_v60_0 (by decide) (by decide), Finset.notMem_empty _⟩

/-- What the written buffer is given back at: only the query gradient's array matters. -/
def G (c : Dev nD) (b : Ref sig .tc) : Buf (Elt F) ((c.tc : Thread nD τ).loc b) :=
  Function.update (β := fun b => Buf (Elt F) ((c.tc : Thread nD τ).loc b)) (V m c) main_v60_0 (outAt m c 128) b

def Phi (c : Dev nD) (n : ℕ) : sProp 𝕄 :=
  iprop(∃ a13 a14 a15 a16 a10, ⌜InvAt m c n a13 a14 a15 a10⌝
    ∗ owns (c : Thread nD τ) scM0_0 fullShare a13 ∗ owns (c : Thread nD τ) scM0_1 fullShare a14
    ∗ owns (c : Thread nD τ) scM0_2 fullShare a15 ∗ owns (c : Thread nD τ) scM0_3 fullShare a16
    ∗ owns (c : Thread nD τ) hbM0_0 fullShare a10 ∗ semVal ((c : Thread nD τ), SemLoc.dma 16) 0)

theorem bigSep_R0 (c : Dev nD) (G' : (b : Ref sig .tc) → Buf (Elt F) ((c.tc : Thread nD τ).loc b)) :
    (bigSep R0 (fun b => ((c.tc : Thread nD τ).loc b) ↦{fullShare} G' b) : sProp 𝕄) = iprop(((c.tc : Thread nD τ).loc main_v60_0) ↦{fullShare} G' main_v60_0) := by
  rw [BI.bigSep_eq_bigSepL_of_eq [main_v60_0] (by decide) (by decide)]; rfl
theorem bigSep_H0 (Φ : Ref sig .tc → sProp 𝕄) : bigSep H0 Φ = iprop(emp) := BI.bigSep_empty

theorem PhiDRV_eq (c : Dev nD) (G' : (c : Dev nD) → (b : Ref sig .tc) → Buf (Elt F) ((c.tc : Thread nD τ).loc b)) :
    (Pipeline.ΦDRV osem0 spec0 H0 R0 (V m) G' c : sProp 𝕄)
      = iprop(iprop((∃ d, owns (c : Thread nD τ) scM0_0 fullShare d) ∗ (∃ d, owns (c : Thread nD τ) scM0_1 fullShare d)
                ∗ (∃ d, owns (c : Thread nD τ) scM0_2 fullShare d) ∗ (∃ d, owns (c : Thread nD τ) scM0_3 fullShare d))
          ∗ semVal ((c : Thread nD τ), SemLoc.dma 16) 0 ∗ emp ∗ owns (c : Thread nD τ) hbM0_0 fullShare (G' c main_v60_0)) := by
  unfold Pipeline.ΦDRV
  rw [scopedRest0_eq, ownSems00_eq, bigSep_H0, bigSep_R0]
  simp only [scM0_0, scM0_1, scM0_2, scM0_3, hbM0_0, owns_whole]; try rfl

theorem Phi_in (c : Dev nD) : (Pipeline.ΦDRV osem0 spec0 H0 R0 (V m) (V m) c : sProp 𝕄) ⊢ Phi m c 0 := by
  rw [PhiDRV_eq]; unfold Phi
  iintro ⟨⟨⟨%d0, H0⟩, ⟨%d1, H1⟩, ⟨%d2, H2⟩, ⟨%d3, H3⟩⟩, Hs, -, Ho⟩
  iexists d0, d1, d2, d3, (V m c main_v60_0)
  isplitr
  · ipureintro; exact Inv.zero _ _ _ _ _ _ _ _ _ _
  iframe H0 H1 H2 H3 Ho Hs

theorem Phi_out (c : Dev nD) : (Phi m c 128 : sProp 𝕄) ⊢ Pipeline.ΦDRV osem0 spec0 H0 R0 (V m) (G m) c := by
  rw [PhiDRV_eq]; unfold Phi
  iintro ⟨%a13, %a14, %a15, %a16, %a10, %I, H0, H1, H2, H3, Ho, Hs⟩
  have e : a10 = G m c main_v60_0 := I.out.trans (Function.update_self (β := fun b => Buf (Elt F) ((c.tc : Thread nD τ).loc b)) main_v60_0 _ _).symm
  rw [← e]
  isplitl [H0 H1 H2 H3]
  · isplitl [H0]; · iexists _; iexact H0
    isplitl [H1]; · iexists _; iexact H1
    isplitl [H2]; · iexists _; iexact H2
    iexists _; iexact H3
  isplitl [Hs]; · iexact Hs
  isplitr; · iempintro
  iexact Ho

/-! ## The proof data and the body obligation -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dkBlk m c t.val
    | ⟨7, _⟩ => dvBlk m c t.val
  Φ n := Phi m c n.val
  q _ := fullShare
  owed _ := 0

theorem A_eq (c : Dev nD) (w : Fin cfg0.W) : (dats m 0 c).A w = V m c (Pipeline.arrRef spec0 w) := by
  dsimp only [dats]
theorem after0_6 (c : Dev nD) (t : Fin cfg0.N) : (dats m 0 c).after 6 t = dkBlk m c t.val := by dsimp only [dats]
theorem after0_7 (c : Dev nD) (t : Fin cfg0.N) : (dats m 0 c).after 7 t = dvBlk m c t.val := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- What the body leaves in a window it writes only at the end of a sweep. -/
def left (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem left_intro (c : Dev nD) (w : Fin cfg0.W) (t : Fin cfg0.N) (hid : cfg0.idle w (cfg0.grid.coords t) = !(k0_cond4 (cfg0.grid.coords t) == 1#1))
    (hfl : (cfg0.win w).flush t = true ↔ t.val % 16 = 15) (X) (d) (h1 : k0_cond4 (cfg0.grid.coords t) = 1#1 → X = (dats m 0 c).after w t)
    (h2 : k0_cond4 (cfg0.grid.coords t) ≠ 1#1 → X = (dats m 0 c).before w t d) :
    owns (c : Thread nD τ) ((cfg0.win w).stage (cfg0.slots t w)) fullShare X ⊢ (left m c w t : sProp 𝕄) := by
  unfold left
  have h4 : k0_cond4 (cfg0.grid.coords t) = 1#1 ↔ t.val % 16 = 15 := (conds t).2.2.2
  by_cases h : k0_cond4 (cfg0.grid.coords t) = 1#1
  · rw [hid, h, h1 h]; exact .rfl
  · have e : (k0_cond4 (cfg0.grid.coords t) == 1#1) = false := by simpa using h
    have ef : (cfg0.win w).flush t = false := by
      cases hf : (cfg0.win w).flush t
      · rfl
      · exact absurd (h4.mpr (hfl.mp hf)) h
    rw [hid, e, ef, h2 h]
    show _ ⊢ iprop(∃ d, _)
    iintro H; iexists d; iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ left m c 6 t ∗ left m c 7 t)

theorem sound_body (c : Dev nD) (t : Fin cfg0.N) :
    bodyPre m c t ⊢ wp frame (wpE (defs₀ (F := F)) Variants.none c none) Set.univ (bodyAt0 t) (fun _ => bodyPost m c t) := by
  have ht : t.val < 128 := lt_of_lt_of_eq t.isLt N_0
  have hp : pt t.val = t := pt_eq t
  have e4 : B4 m c t.val = iblk m c 0 t := by unfold B4; rw [hp]
  have e5 : B5 m c t.val = iblk m c 1 t := by unfold B5; rw [hp]
  have e6 : B6 m c t.val = iblk m c 2 t := by unfold B6; rw [hp]
  have e7 : B7 m c t.val = iblk m c 3 t := by unfold B7; rw [hp]
  have e8 : B8 m c t.val = iblk m c 4 t := by unfold B8; rw [hp]
  have e9 : B9 m c t.val = iblk m c 5 t := by unfold B9; rw [hp]
  have ec : co t.val = grid0.coords t := by unfold co; rw [hp]
  unfold bodyPre bodyPost bodyAt0
  rw [show (dats m 0 c).Φ t.castSucc = Phi m c t.val from rfl, show (dats m 0 c).Φ t.succ = Phi m c (t.val + 1) from rfl]
  rw [after0_0, after0_1, after0_2, after0_3, after0_4, after0_5]
  simp only [before0_0, before0_1, before0_2, before0_3, before0_4, before0_5]
  unfold Dat.owesAt Pipeline.owesWithin Phi
  rw [show (dats m 0 c).owed t.castSucc = 0 from rfl, show (dats m 0 c).owed t.succ = 0 from rfl]
  iintro ⟨⟨%a13, %a14, %a15, %a16, %a10, %I, HS0, HS1, HS2, HS3, Ho, Hs⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun0 (grid0.coords t) (iblk m c 0 t) (iblk m c 1 t) (iblk m c 2 t) (iblk m c 3 t) (iblk m c 4 t) (iblk m c 5 t) a13 a14 a15 a16 a10
    ((dats m 0 c).before 6 t d6) ((dats m 0 c).before 7 t d7) c _ _ _ _ _ _ _ _ _ _ _ _ _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [Ho]; · iexact Ho
  isplitl [Hs]; · iexact Hs
  isplitl [HW]; · iexact HW
  iintro ⟨H0, H1, H2, H3, H4, H5, H6, H7, HS0, HS1, HS2, HS3, Ho, Hs, ⟨%W', HW'⟩⟩
  isplitl [HS0 HS1 HS2 HS3 Ho Hs]
  · iexists _, _, _, _, _
    isplitr
    swap
    · iframe HS0 HS1 HS2 HS3 Ho Hs
    ipureintro
    have := I.step (a16 := a16) ht
    rw [e4, e5, e6, e7, e8, e9, ec] at this
    exact this
  isplitl [HW']
  · iexists W'; isplitr; · ipureintro; exact fun _ _ => Or.inl trivial
    iexact HW'
  iframe H0 H1 H2 H3 H4 H5
  have hdk := I.nextDk ht
  have hdv := I.nextDv ht
  rw [e4, e5, e6, e7, e8, e9, ec] at hdk
  rw [e4, e6, e7, e8, ec] at hdv
  isplitl [H6]
  · iapply (left_intro m c 6 t rfl (flush0_6 t) _ d6 (fun h => by
      rw [after0_6]; unfold outDk dkBlk; rw [if_pos h, hdk]) (fun h => by unfold outDk; rw [if_neg h])) $$ H6
  · iapply (left_intro m c 7 t rfl (flush0_7 t) _ d7 (fun h => by
      rw [after0_7]; unfold outDv dvBlk; rw [if_pos h, hdv]) (fun h => by unfold outDv; rw [if_neg h])) $$ H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainU (𝒱₀ : Variants) : Pipeline.HMainK (Ix := Unit) (Name := ℕ) (U := Pipeline.UD sig nD τ) (Lvl := ℕ) cfgs 0 defs₀ 𝒱₀ m (main (F := F))
    (V m) (fun _ => Pipeline.chain (([hostOps1, hostOps1_1, hostOps1_2, hostOps1_3] : List (List (HloOp τ sig (Elt F)))).map StableHlo.seq)) :=
  Pipeline.hmain_around cfgs 0 defs₀ 𝒱₀ m main [hostOps0, hostOps0_1, hostOps0_2, hostOps0_3] [hostOps1, hostOps1_1, hostOps1_2, hostOps1_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The host lines' outcome after the call. -/
def fin (c : Dev nD) : Valuation τ sig (Elt F) :=
  StableHlo.after [hostOps1, hostOps1_1, hostOps1_2, hostOps1_3].flatten
    (Pipeline.withArrays spec0 c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD,
      (∀ w : Fin 8, r.2.mem ((spec0 w).arr.view.loc (c.tc : Thread nD τ)) = (dats m 0 c).arrAt w cfg0.N)
      ∧ ∀ b ∈ Pipeline.restRefs sig spec0, r.2.mem ((c.tc : Thread nD τ).loc b) = fin m c (Proc.devRef .tc b))
      ∧ r.2.sem = fun _ => 0) :=
  Pipeline.θ_run_frame_dmaR_aroundV (Q' := _) (hQ' := fun r h => h) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1, hostOps1_1, hostOps1_2, hostOps1_3])
    (hsub := sfx_sub) (hfresh := sfx_fresh) (hkeep := sfx_keeps) (G := G m) (hmain := hmainU m Variants.none) (hA := A_eq m)
    (hin := fun c => Phi_in m c) (hout := fun c => Phi_out m c)

end Cert.KernelIdeal.Hand
-- ==== Proof.KernelIdeal.Frame.lean ====
/- The attention-gradient program's frame from its run (Run.lean): the four arguments end as they
   began, since neither the call nor a host line after it writes them. -/
module

public import proofs.«01_k».proof.Proof.KernelIdeal.Run

@[expose] public section

set_option maxRecDepth 16384

noncomputable section

namespace Cert.KernelIdeal.Hand

open Cert.KernelIdeal Cert.KernelIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

theorem fin_arg0 (c : Dev nD) : fin m c (Proc.devRef .tc main_arg0) = m ((c.tc : Thread nD τ).loc main_arg0) := by
  unfold fin
  rw [StableHlo.after_of_forall_not_mem (b := Proc.devRef .tc main_arg0) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0))]
  exact (Pipeline.withR_of_not_mem (V0 m c) R0 c (G m c) main_arg0 (by decide)).trans (V_main_arg0 m c)

theorem fin_arg1 (c : Dev nD) : fin m c (Proc.devRef .tc main_arg1) = m ((c.tc : Thread nD τ).loc main_arg1) := by
  unfold fin
  rw [StableHlo.after_of_forall_not_mem (b := Proc.devRef .tc main_arg1) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c _ _ main_arg1 (by exact (by decide : ∀ w, Pipeline.arrRef spec0 w ≠ main_arg1))]
  exact (Pipeline.withR_of_not_mem (V0 m c) R0 c (G m c) main_arg1 (by decide)).trans (V_main_arg1 m c)

theorem fin_arg2 (c : Dev nD) : fin m c (Proc.devRef .tc main_arg2) = m ((c.tc : Thread nD τ).loc main_arg2) := by
  unfold fin
  rw [StableHlo.after_of_forall_not_mem (b := Proc.devRef .tc main_arg2) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c _ _ main_arg2 (by exact (by decide : ∀ w, Pipeline.arrRef spec0 w ≠ main_arg2))]
  exact (Pipeline.withR_of_not_mem (V0 m c) R0 c (G m c) main_arg2 (by decide)).trans (V_main_arg2 m c)

theorem fin_dq (c : Dev nD) : fin m c (Proc.devRef .tc main_v60_0) = outAt m c 128 := by
  unfold fin
  rw [StableHlo.after_of_forall_not_mem (b := Proc.devRef .tc main_v60_0) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c _ _ main_v60_0 (by exact (by decide : ∀ w, Pipeline.arrRef spec0 w ≠ main_v60_0))]
  exact (Pipeline.withR_of_mem (V0 m c) R0 c (G m c) main_v60_0 (by decide)).trans (Function.update_self ..)

/-- The run with the arguments read: they end as launched, and the counters at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (by decide))).trans (fin_arg0 m c),
     ((h.1 c).2 main_arg1 (Pipeline.mem_restRefs_of main_arg1 (by decide) (by decide))).trans (fin_arg1 m c),
     ((h.1 c).2 main_arg2 (Pipeline.mem_restRefs_of main_arg2 (by decide) (by decide))).trans (fin_arg2 m c),
     ((h.1 c).1 3).trans (((dats m 0 c).arrAt_in 3 rfl _).trans ((A_eq m c 3).trans (V_main_arg3 m c)))⟩, h.2⟩) (run_main m ρ)

/-- The run with the results read as well: each result array at what the host lines after the call leave in it. -/
theorem run_out : θ_run defs (onTc (τ := τ) (main (F := F))) (s₀ m ρ) (fun r => ∀ c : Dev nD,
      r.2.mem ((c.tc : Thread nD τ).loc main_v60_0) = outAt m c 128
      ∧ r.2.mem ((c.tc : Thread nD τ).loc main_v68) = fin m c (Proc.devRef .tc main_v68)
      ∧ r.2.mem ((c.tc : Thread nD τ).loc main_v76) = fin m c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).2 main_v60_0 (Pipeline.mem_restRefs_of main_v60_0 (by decide) (by decide))).trans (fin_dq m c),
     (h.1 c).2 main_v68 (Pipeline.mem_restRefs_of main_v68 (by decide) (by decide)),
     (h.1 c).2 main_v76 (Pipeline.mem_restRefs_of main_v76 (by decide) (by decide)),
     ((h.1 c).2 main_arg0 (Pipeline.mem_restRefs_of main_arg0 (by decide) (by decide))).trans (fin_arg0 m c),
     ((h.1 c).2 main_arg1 (Pipeline.mem_restRefs_of main_arg1 (by decide) (by decide))).trans (fin_arg1 m c),
     ((h.1 c).2 main_arg2 (Pipeline.mem_restRefs_of main_arg2 (by decide) (by decide))).trans (fin_arg2 m c),
     ((h.1 c).1 3).trans (((dats m 0 c).arrAt_in 3 rfl _).trans ((A_eq m c 3).trans (V_main_arg3 m c)))⟩) (run_main m ρ)

end Cert.KernelIdeal.Hand
-- ==== Proof.Frames.lean ====
/- The frames of the three programs and the named constant's ledger entry. -/
module

public import proofs.«01_k».proof.Defs
public import proofs.«01_k».proof.Proof.Finite
public import proofs.«01_k».proof.Proof.Kernel.Frame
public import proofs.«01_k».proof.Proof.KernelIdeal.Frame
public import proofs.«01_k».proof.Proof.Gen.ReferenceIdeal
public import proofs.«01_k».proof.Proof.Gen.ReferenceIdeal.Run

@[expose] public section

noncomputable section

namespace Cert.Hand

open Idealize.ShloMosaic Idealize.SL.Sem

theorem frame_p : Cert.quiescent_Kernel := fun m g _ => Cert.Kernel.Hand.run_frame m g
theorem frame_pi : Cert.quiescent_KernelIdeal := fun m g _ => Cert.KernelIdeal.Hand.run_frame m g
theorem frame_ri : Cert.quiescent_ReferenceIdeal := fun m g _ =>
  (θ_run Cert.ReferenceIdeal.defs _ _).mono (fun r h => ⟨fun c => (h c).2.2.2,
    Idealize.ShloMosaic.sem_eq_zero_of_no_sems (by decide) r.2⟩) (Cert.ReferenceIdeal.Value.run (F := Ideal) m g)
theorem frame_pi_pre : Cert.quiescent_KernelIdeal_pre_finite (hPre_finite := Cert.Pre_finite.Hand.facts) := fun m g _ => frame_pi m g trivial
theorem frame_ri_pre : Cert.quiescent_ReferenceIdeal_pre_finite (hPre_finite := Cert.Pre_finite.Hand.facts) := fun m g _ => frame_ri m g trivial
theorem preserves : Cert.preserves_Kernel_KernelIdeal :=
  IdealRules.named_const.statement Cert.KernelIdeal.κ "ln2" .f32 0x3F317218#32 ((Real.log 2 : ℝ) : EReal) rfl

end Cert.Hand
-- ==== Proof.Operands.lean ====
/- What the host lines before the call leave in the arrays its windows read, and each element as a real
   number of Reals.lean where the arguments are real. -/
module

public import proofs.«01_k».proof.Proof.RefStages
public import proofs.«01_k».proof.Proof.KernelIdeal.Run
public import Idealize.ShloMosaic.Lib.Claim

@[expose] public section

set_option maxRecDepth 16384

noncomputable section

namespace Cert.KernelIdeal.Hand

open Cert.KernelIdeal Cert.KernelIdeal.Gen Cert.Attn Cert.Consts
open Cert.ReferenceIdeal.Hand (I32 Q4 K3 Sc Mx Pr IsReal)
open Idealize.ShloMosaic TcCoe Tactic

def log2V : I32 S_ := Host.log (constant S_ .f32 0x40000000#32)
/-- The row's saved log-sum, in base two. -/
def LseV (a0 : I32 S8192x512) (a1 : I32 S8192x128) : I32 S2x4x8192 :=
  Host.divf (addf (Mx a0 a1) (Host.log (Host.reduceAdd (Host.exp (subf (Sc a0 a1) (broadcastInDim S2x4x8192x8192 ![0, 1, 2, 3] bcast_S2x4x8192x1_S2x4x8192x8192_0_1_2_3
    (broadcastInDim S2x4x8192x1 ![0, 1, 2] bcast_S2x4x8192_S2x4x8192x1_0_1_2 (Mx a0 a1))))) (constant S_ .f32 0x00000000#32) reducesTo_S2x4x8192x8192_S2x4x8192_d3 h_S_)))
    (broadcastInDim S2x4x8192 ![] bcast_S_S2x4x8192 log2V)
/-- The attention's output, saved. -/
def OutV (a0 : I32 S8192x512) (a1 a2 : I32 S8192x128) : I32 S8192x512 :=
  shapeCast _ (transpose S8192x2x4x64 [3, 0, 2, 1] (Host.dotGeneral dot_S8192x2x64_S2x4x8192x8192_S2x64x4x8192_0_3_2_12_1_0 none (K3 a2) (Pr a0 a1)) transposes_S2x64x4x8192_S8192x2x4x64_3_0_2_1) shapeCasts_S8192x2x4x64_S8192x512
def DlV (a0 : I32 S8192x512) (a1 a2 : I32 S8192x128) (a3 : I32 S8192x512) : I32 S8x8192 :=
  transpose S8x8192 [1, 0] (Host.reduceAdd (shapeCast S8192x8x64 (mulf a3 (OutV a0 a1 a2)) shapeCasts_S8192x512_S8192x8x64) (constant S_ .f32 0x00000000#32) reducesTo_S8192x8x64_S8192x8_d2 h_S_) transposes_S8192x8_S8x8192_1_0
def padV (x : I32 S4x2x8192) : I32 S4x8x8192 :=
  pad S4x8x8192 ![0, 0, 0] ![0, 6, 0] ![0, 0, 0] x (sitofp .f32 (constantI S_ 32 0#32)) pads_S4x2x8192_S4x8x8192_000_060_000 h_S_
def dupV (x : I32 S8192x128) : FVec Ideal S8192x256 .bf16 :=
  truncf .bf16 (concatenate S8192x256 1 [⟨S8192x64, extractStridedSlice S8192x64 ![0, 0] x slices_S8192x128_S8192x64_0_0⟩, ⟨S8192x64, extractStridedSlice S8192x64 ![0, 0] x slices_S8192x128_S8192x64_0_0⟩,
    ⟨S8192x64, extractStridedSlice S8192x64 ![0, 64] x slices_S8192x128_S8192x64_0_64⟩, ⟨S8192x64, extractStridedSlice S8192x64 ![0, 64] x slices_S8192x128_S8192x64_0_64⟩] concatenates_S8192x64_S8192x64_S8192x64_S8192x64_S8192x256_d1) bitsLt_bf16_f32
def qsV (x : I32 S8192x512) : FVec Ideal S8192x512 .bf16 := truncf .bf16 (Host.divf x (broadcastInDim S8192x512 ![] bcast_S_S8192x512 log2V)) bitsLt_bf16_f32

variable (m : (ℓ : Loc nD τ sig) → Buf (Elt Ideal) ℓ) (c : Dev nD)

abbrev A0 : I32 S8192x512 := m ((c.tc : Thread nD τ).loc main_arg0)
abbrev A1 : I32 S8192x128 := m ((c.tc : Thread nD τ).loc main_arg1)
abbrev A2 : I32 S8192x128 := m ((c.tc : Thread nD τ).loc main_arg2)
abbrev A3 : I32 S8192x512 := m ((c.tc : Thread nD τ).loc main_arg3)

set_option maxHeartbeats 4000000 in
theorem V_k : V m c main_v49 = dupV (A1 m c) := by entry_read; try rfl
set_option maxHeartbeats 4000000 in
theorem V_v : V m c main_v55 = dupV (A2 m c) := by entry_read; try rfl
set_option maxHeartbeats 4000000 in
theorem V_q : V m c main_v43 = qsV (A0 m c) := by entry_read; try rfl
set_option maxHeartbeats 4000000 in
theorem V_lse : V m c main_v57 = padV (shapeCast S4x2x8192 (LseV (A0 m c) (A1 m c)) shapeCasts_S2x4x8192_S4x2x8192) := by
  unfold V V0
  simp only [hostOps0, hostOps0_1, hostOps0_2, hostOps0_3, List.flatten_cons, List.flatten_nil, List.append_nil, List.cons_append, List.nil_append]
  after_results
  rfl
set_option maxHeartbeats 4000000 in
theorem V_dl : V m c main_v59 = padV (shapeCast S4x2x8192 (DlV (A0 m c) (A1 m c) (A2 m c) (A3 m c)) shapeCasts_S8x8192_S4x2x8192) := by
  unfold V V0
  simp only [hostOps0, hostOps0_1, hostOps0_2, hostOps0_3, List.flatten_cons, List.flatten_nil, List.append_nil, List.cons_append, List.nil_append]
  after_results
  rfl

section
variable {a0 : I32 S8192x512} {a1 a2 : I32 S8192x128} {a3 : I32 S8192x512} {q k v ct : ℕ → ℕ → ℝ}

theorem log2V_at (y : S_.Idx) : log2V y = ((Real.log 2 : ℝ) : EReal) := by
  have h : log2V y = Ideal.log (Ideal.ofBits .f32 0x40000000#32) := rfl
  rw [h, ofBits_two, log_real (by norm_num)]

theorem dupV_at (h1 : IsReal a1 k) (r : Fin 8192) (l : Fin 256) : dupV a1 (ix2 r l) = ((k r (64 * (l.val / 128) + l.val % 64) : ℝ) : EReal) := by
  unfold dupV; pointwise
  simp only [h1 _ _]
  have := l.isLt
  split_ifs <;> (congr 2; omega)

theorem qsV_at (h0 : IsReal a0 q) (r : Fin 8192) (l : Fin 512) : qsV a0 (ix2 r l) = ((q r l / Real.log 2 : ℝ) : EReal) := by
  unfold qsV; pointwise
  rw [h0, log2V_at, div_real _ log2_pos.ne']

theorem lseOf_at (M : I32 S2x4x8192) (S : I32 S2x4x8192x8192) (L : I32 S_) (e : Fin 2) (g : Fin 4) (i : Fin 8192) :
    (Host.divf (addf M (Host.log (Host.reduceAdd (Host.exp (subf S (broadcastInDim S2x4x8192x8192 ![0, 1, 2, 3] bcast_S2x4x8192x1_S2x4x8192x8192_0_1_2_3
    (broadcastInDim S2x4x8192x1 ![0, 1, 2] bcast_S2x4x8192_S2x4x8192x1_0_1_2 M)))) (constant S_ .f32 0x00000000#32) reducesTo_S2x4x8192x8192_S2x4x8192_d3 h_S_)))
    (broadcastInDim S2x4x8192 ![] bcast_S_S2x4x8192 L) : I32 S2x4x8192) (ix3 e g i)
      = Ideal.div (M (ix3 e g i) + Ideal.log (∑ x, Ideal.exp (S (ix4 e g i x) - M (ix3 e g i)))) (L ix0) := by pointwise

theorem LseV_at (h0 : IsReal a0 q) (h1 : IsReal a1 k) (e : Fin 2) (g : Fin 4) (i : Fin 8192) :
    LseV a0 a1 (ix3 e g i) = (((mx q k e g i + Real.log (sm q k e g i)) / Real.log 2 : ℝ) : EReal) := by
  unfold LseV
  rw [lseOf_at, log2V_at]
  simp only [Cert.ReferenceIdeal.Hand.Sc_at h0 h1, Cert.ReferenceIdeal.Hand.Mx_at h0 h1, ← EReal.coe_sub, Ideal.exp_coe]
  have hs : ∑ x : Fin 8192, ((Real.exp (sc q k e g i x - mx q k e g i) : ℝ) : EReal) = ((sm q k e g i : ℝ) : EReal) := coe_sum_fin 8192 fun j => ex q k e g i j
  rw [hs, log_real (sm_pos ..), ← EReal.coe_add, div_real _ log2_pos.ne']
theorem OutV_at (h0 : IsReal a0 q) (h1 : IsReal a1 k) (h2 : IsReal a2 v) (i : Fin 8192) (l : Fin 512) :
    OutV a0 a1 a2 (ix2 i l) = ((ao q k v i (l / 256) (l / 64 % 4) (l % 64) : ℝ) : EReal) := by
  unfold OutV; pointwise
  simp only [Cert.ReferenceIdeal.Hand.Pr_at h0 h1, Cert.ReferenceIdeal.Hand.K3_at h2]
  simp only [← EReal.coe_mul]
  exact coe_sum_fin 8192 fun j => v j (64 * (l.val / 256) + l.val % 64) * pr q k (l.val / 256) (l.val / 64 % 4) i.val j
theorem DlV_at (h0 : IsReal a0 q) (h1 : IsReal a1 k) (h2 : IsReal a2 v) (h3 : IsReal a3 ct) (h : Fin 8) (i : Fin 8192) :
    DlV a0 a1 a2 a3 (ix2 h i) = ((dl q k v ct (h / 4) (h % 4) i : ℝ) : EReal) := by
  unfold DlV; pointwise
  simp only [h3 _ _, OutV_at h0 h1 h2]
  simp only [← EReal.coe_mul]
  rw [coe_sum_fin 64 fun d => ct i.val (h.val * 64 + d) * ao q k v i.val ((h.val * 64 + d) / 256) ((h.val * 64 + d) / 64 % 4) ((h.val * 64 + d) % 64), ← dl_out]
  congr 1
  refine Finset.sum_congr rfl fun d hd => ?_
  have := Finset.mem_range.1 hd
  have := h.isLt
  congr 2 <;> omega
theorem lse_at (h0 : IsReal a0 q) (h1 : IsReal a1 k) (a : Fin 4) (h : Fin 8) (hh : h.val < 2) (i : Fin 8192) :
    padV (shapeCast S4x2x8192 (LseV a0 a1) shapeCasts_S2x4x8192_S4x2x8192) (ix3 a h i)
      = (((mx q k (a / 2) (2 * (a % 2) + h) i + Real.log (sm q k (a / 2) (2 * (a % 2) + h) i)) / Real.log 2 : ℝ) : EReal) := by
  unfold padV; pointwise
  rw [dif_pos hh, LseV_at h0 h1]
  have e1 : a.val % 2 * 2 + h.val = 2 * (a.val % 2) + h.val := by omega
  simp only [e1]
theorem dl_at (h0 : IsReal a0 q) (h1 : IsReal a1 k) (h2 : IsReal a2 v) (h3 : IsReal a3 ct) (a : Fin 4) (h : Fin 8) (hh : h.val < 2) (i : Fin 8192) :
    padV (shapeCast S4x2x8192 (DlV a0 a1 a2 a3) shapeCasts_S8x8192_S4x2x8192) (ix3 a h i)
      = ((dl q k v ct (a / 2) (2 * (a % 2) + h) i : ℝ) : EReal) := by
  unfold padV; pointwise
  rw [dif_pos hh, DlV_at h0 h1 h2 h3]
  have e1 : (a.val * 2 + h.val) / 4 = a.val / 2 := by omega
  have e2 : (a.val * 2 + h.val) % 4 = 2 * (a.val % 2) + h.val := by omega
  simp only [e1, e2]
end

end Cert.KernelIdeal.Hand
-- ==== Proof.Point.lean ====
module

public import proofs.«01_k».proof.Proof.RefStages
public import proofs.«01_k».proof.Proof.KernelIdeal.State
public import Idealize.ShloMosaic.Lib.Claim

@[expose] public section

set_option maxRecDepth 16384

noncomputable section

namespace Cert.KernelIdeal.Hand

open Cert.KernelIdeal Cert.KernelIdeal.Gen Cert.Attn Cert.Consts
open Cert.ReferenceIdeal.Hand (IsReal)
open Idealize.ShloMosaic TcCoe Tactic

/- What one point of the grid adds to each accumulator, element by element, where its blocks hold real numbers. -/

/-! ## The lane masks -/

theorem mask0 : ∀ l : Fin 128, k0_pay15 (ix2 (0 : Fin 1) l) = if l.val / 64 = 0 then 1#1 else 0#1 := by decide +kernel
theorem mask1 : ∀ l : Fin 128, k0_pay16 (ix2 (0 : Fin 1) l) = if l.val / 64 = 1 then 1#1 else 0#1 := by decide +kernel

variable {x4 x5 : Vec Ideal S2048x128 .bf16} {x6 : Vec Ideal S1024x128 .bf16} {x7 : Vec Ideal S1024x128 .f32} {x8 x9 : Vec Ideal S1x8x1024 .f32}
  {K V Q C : ℕ → ℕ → ℝ} {L D : ℕ → ℕ → ℝ}

theorem sel_if (p : Prop) [Decidable p] (x : ℝ) : Scalar.select (if p then 1#1 else 0#1) (x : EReal) 0 = ((if p then x else 0 : ℝ) : EReal) := by
  by_cases h : p <;> simp [h, Scalar.select]

/-- A block of real numbers masked to head `h`'s lanes. -/
abbrev msk (Q : ℕ → ℕ → ℝ) (h : ℕ) (r l : ℕ) : ℝ := if l / 64 = h then Q r l else 0
/-- The first rows of a saved row statistic. -/
def IsStat (x : Vec Ideal S1x8x1024 .f32) (L : ℕ → ℕ → ℝ) : Prop :=
  ∀ (h : Fin 8) (_ : h.val < 2) (r : Fin 1024), x (ix3 (0 : Fin 1) h r) = ((L h.val r.val : ℝ) : EReal)

theorem q0_at (h6 : IsReal x6 Q) : IsReal (k0_pay17 x6) (msk Q 0) := by
  intro r l
  pointwise [k0_pay17, k0_pay9]
  rw [mask0, h6]
  exact sel_if _ _
theorem q1_at (h6 : IsReal x6 Q) : IsReal (k0_pay18 (k0_pay9 x6) k0_pay16 zero16) (msk Q 1) := by
  intro r l
  pointwise [k0_pay18, k0_pay9, zero16]
  rw [mask1, h6]
  exact sel_if _ _
theorem c0_at (h7 : IsReal x7 C) : IsReal (k0_pay19 (k0_pay12 x7) k0_pay15) (msk C 0) := by
  intro r l
  pointwise [k0_pay19, k0_pay12]
  rw [mask0, h7]
  exact sel_if _ _
theorem c1_at (h7 : IsReal x7 C) : IsReal (k0_pay20 (k0_pay12 x7) k0_pay16) (msk C 1) := by
  intro r l
  pointwise [k0_pay20, k0_pay12]
  rw [mask1, h7]
  exact sel_if _ _

/-- A point's weights and score gradients. -/
def pP (K Q : ℕ → ℕ → ℝ) (L : ℕ → ℕ → ℝ) (h s r : ℕ) : ℝ := Real.rpow 2 ((∑ l ∈ Finset.range 128, K s l * msk Q h r l) - L h r)
def dP (K V Q C L D : ℕ → ℕ → ℝ) (h s r : ℕ) : ℝ := pP K Q L h s r * ((∑ l ∈ Finset.range 128, V s l * msk C h r l) - D h r)

theorem p0_gen (x4 : Vec Ideal S2048x128 .bf16) (y : FVec Ideal S1024x128 .bf16) (x8 : Vec Ideal S1x8x1024 .f32) (s : Fin 2048) (r : Fin 1024) :
    k0_pay21 (k0_pay10 x4) (k0_pay13 x8) y (ix2 s r) = Ideal.exp2 ((∑ l : Fin 128, x4 (ix2 s l) * y (ix2 r l)) - x8 (ix3 (0 : Fin 1) (0 : Fin 8) r)) := by
  pointwise [k0_pay21, k0_pay10, k0_pay13]
  rfl
theorem p1_gen (x4 : Vec Ideal S2048x128 .bf16) (x6 : Vec Ideal S1024x128 .bf16) (x8 : Vec Ideal S1x8x1024 .f32) (s : Fin 2048) (r : Fin 1024) :
    k0_pay22 (k0_pay9 x6) (k0_pay10 x4) (k0_pay13 x8) k0_pay16 zero16 (ix2 s r)
      = Ideal.exp2 ((∑ l : Fin 128, x4 (ix2 s l) * k0_pay18 (k0_pay9 x6) k0_pay16 zero16 (ix2 r l)) - x8 (ix3 (0 : Fin 1) (1 : Fin 8) r)) := by
  unfold k0_pay22
  generalize k0_pay18 (k0_pay9 x6) k0_pay16 zero16 = y
  pointwise [k0_pay10, k0_pay13]
  rfl
theorem d0_gen (x4 x5 : Vec Ideal S2048x128 .bf16) (x6 : Vec Ideal S1024x128 .bf16) (x7 : Vec Ideal S1024x128 .f32) (x8 x9 : Vec Ideal S1x8x1024 .f32) (s : Fin 2048) (r : Fin 1024) :
    ds0 x4 x5 x6 x7 x8 x9 (ix2 s r) = k0_pay21 (k0_pay10 x4) (k0_pay13 x8) (k0_pay17 x6) (ix2 s r)
      * ((∑ l : Fin 128, x5 (ix2 s l) * k0_pay19 (k0_pay12 x7) k0_pay15 (ix2 r l)) - x9 (ix3 (0 : Fin 1) (0 : Fin 8) r)) := by
  unfold ds0 k0_pay23
  generalize k0_pay19 (k0_pay12 x7) k0_pay15 = y
  generalize k0_pay21 (k0_pay10 x4) (k0_pay13 x8) (k0_pay17 x6) = p
  pointwise [k0_pay11, k0_pay14]
theorem d1_gen (x4 x5 : Vec Ideal S2048x128 .bf16) (x6 : Vec Ideal S1024x128 .bf16) (x7 : Vec Ideal S1024x128 .f32) (x8 x9 : Vec Ideal S1x8x1024 .f32) (s : Fin 2048) (r : Fin 1024) :
    ds1 x4 x5 x6 x7 x8 x9 (ix2 s r) = k0_pay22 (k0_pay9 x6) (k0_pay10 x4) (k0_pay13 x8) k0_pay16 zero16 (ix2 s r)
      * ((∑ l : Fin 128, x5 (ix2 s l) * k0_pay20 (k0_pay12 x7) k0_pay16 (ix2 r l)) - x9 (ix3 (0 : Fin 1) (1 : Fin 8) r)) := by
  unfold ds1 k0_pay24
  generalize k0_pay20 (k0_pay12 x7) k0_pay16 = y
  generalize k0_pay22 (k0_pay9 x6) (k0_pay10 x4) (k0_pay13 x8) k0_pay16 zero16 = p
  pointwise [k0_pay11, k0_pay14]

theorem p0_at (h4 : IsReal x4 K) (h6 : IsReal x6 Q) (h8 : IsStat x8 L) : IsReal (k0_pay21 (k0_pay10 x4) (k0_pay13 x8) (k0_pay17 x6)) (pP K Q L 0) := by
  intro s r
  rw [p0_gen, h8 0 (by decide)]
  simp only [h4 _ _, q0_at h6 _ _, ← EReal.coe_mul]
  rw [coe_sum_fin 128 fun l => K s.val l * msk Q 0 r.val l, ← EReal.coe_sub, Ideal.exp2_coe]; rfl
theorem p1_at (h4 : IsReal x4 K) (h6 : IsReal x6 Q) (h8 : IsStat x8 L) : IsReal (k0_pay22 (k0_pay9 x6) (k0_pay10 x4) (k0_pay13 x8) k0_pay16 zero16) (pP K Q L 1) := by
  intro s r
  rw [p1_gen, h8 1 (by decide)]
  simp only [h4 _ _, q1_at h6 _ _, ← EReal.coe_mul]
  rw [coe_sum_fin 128 fun l => K s.val l * msk Q 1 r.val l, ← EReal.coe_sub, Ideal.exp2_coe]; rfl
theorem d0_at (h4 : IsReal x4 K) (h5 : IsReal x5 V) (h6 : IsReal x6 Q) (h7 : IsReal x7 C) (h8 : IsStat x8 L) (h9 : IsStat x9 D) :
    IsReal (ds0 x4 x5 x6 x7 x8 x9) (dP K V Q C L D 0) := by
  intro s r
  rw [d0_gen, h9 0 (by decide), p0_at h4 h6 h8]
  simp only [h5 _ _, c0_at h7 _ _, ← EReal.coe_mul]
  rw [coe_sum_fin 128 fun l => V s.val l * msk C 0 r.val l, ← EReal.coe_sub, ← EReal.coe_mul]; rfl
theorem d1_at (h4 : IsReal x4 K) (h5 : IsReal x5 V) (h6 : IsReal x6 Q) (h7 : IsReal x7 C) (h8 : IsStat x8 L) (h9 : IsStat x9 D) :
    IsReal (ds1 x4 x5 x6 x7 x8 x9) (dP K V Q C L D 1) := by
  intro s r
  rw [d1_gen, h9 1 (by decide), p1_at h4 h6 h8]
  simp only [h5 _ _, c1_at h7 _ _, ← EReal.coe_mul]
  rw [coe_sum_fin 128 fun l => V s.val l * msk C 1 r.val l, ← EReal.coe_sub, ← EReal.coe_mul]; rfl

/-! ## What is added -/

variable {E0 E1 A : ℕ → ℕ → ℝ}

theorem add_pair {N : ℕ} (a : ℝ) (f g : ℕ → ℝ) : ((a : ℝ) : EReal) + ((∑ x ∈ Finset.range N, f x : ℝ) + (∑ x ∈ Finset.range N, g x : ℝ))
    = ((a + ∑ x ∈ Finset.range N, (f x + g x) : ℝ) : EReal) := by
  rw [← EReal.coe_add, ← EReal.coe_add, Finset.sum_add_distrib]

/-- The key gradient's step. -/
theorem dkStep_at {y0 y1 : FVec Ideal S1024x128 .bf16} {z0 z1 : FVec Ideal S2048x1024 .bf16} {a : Vec Ideal S2048x128 .f32} {Q0 Q1 : ℕ → ℕ → ℝ}
    (h0 : IsReal y0 Q0) (h1 : IsReal y1 Q1) (g0 : IsReal z0 E0) (g1 : IsReal z1 E1) (ha : IsReal a A) :
    IsReal (k0_pay1 y0 y1 z0 z1 a) fun s l => A s l + ∑ r ∈ Finset.range 1024, (E0 s r * Q0 r l + E1 s r * Q1 r l) := by
  intro s l
  pointwise [k0_pay1]
  simp only [h0 _ _, h1 _ _, g0 _ _, g1 _ _, ha _ _, ← EReal.coe_mul]
  rw [coe_sum_fin 1024 fun r => E0 s.val r * Q0 r l.val, coe_sum_fin 1024 fun r => E1 s.val r * Q1 r l.val]
  exact add_pair ..

theorem dv_gen (x4 : Vec Ideal S2048x128 .bf16) (x6 : Vec Ideal S1024x128 .bf16) (x7 : Vec Ideal S1024x128 .f32) (x8 : Vec Ideal S1x8x1024 .f32) (a : Vec Ideal S2048x128 .f32) :
    k0_pay25 (k0_pay9 x6) (k0_pay10 x4) (k0_pay12 x7) (k0_pay13 x8) k0_pay15 k0_pay16 (k0_pay17 x6) zero16 a
      = k0_pay1 (k0_pay19 (k0_pay12 x7) k0_pay15) (k0_pay20 (k0_pay12 x7) k0_pay16) (k0_pay21 (k0_pay10 x4) (k0_pay13 x8) (k0_pay17 x6))
        (k0_pay22 (k0_pay9 x6) (k0_pay10 x4) (k0_pay13 x8) k0_pay16 zero16) a := by
  unfold k0_pay25 k0_pay1
  rfl

theorem lane0 : ∀ l : Fin 128, IntOp.cmpi .slt (BitVec.ofNat 32 l.val) 64#32 = if l.val / 64 = 0 then 1#1 else 0#1 := by decide +kernel

/-- The query gradient's step. -/
theorem dqStep_at {z0 z1 : FVec Ideal S2048x1024 .bf16} {a : Vec Ideal S1x1x128x1024 .f32} (h4 : IsReal x4 K) (g0 : IsReal z0 E0) (g1 : IsReal z1 E1)
    (ha : ∀ (l : Fin 128) (r : Fin 1024), a (ix4 (0 : Fin 1) (0 : Fin 1) l r) = ((A l r : ℝ) : EReal)) (l : Fin 128) (r : Fin 1024) :
    k0_pay2 (k0_pay10 x4) z0 z1 a (ix4 (0 : Fin 1) (0 : Fin 1) l r)
      = ((A l r + ∑ s ∈ Finset.range 2048, K s l * (if l.val / 64 = 0 then E0 s r else E1 s r) : ℝ) : EReal) := by
  pointwise [k0_pay2, k0_pay10]
  simp only [h4 _ _, g0 _ _, g1 _ _, ha _ _, ← EReal.coe_mul]
  rw [coe_sum_fin 2048 fun s => K s l * E0 s r, coe_sum_fin 2048 fun s => K s l * E1 s r]
  rw [lane0]
  by_cases h : l.val / 64 = 0
  · simp only [if_pos h, ← EReal.coe_add]; rfl
  · simp only [if_neg h, ← EReal.coe_add]; rfl

/-! ## The point's numbers in the terms of the problem -/

section
variable (q k v ct : ℕ → ℕ → ℝ) (e kk jj i : ℕ)
/-- The blocks of the point `(e, kk, jj, i)`. -/
abbrev Kb (r l : ℕ) : ℝ := k (2048 * kk + r) (64 * e + l % 64)
abbrev Qb (r l : ℕ) : ℝ := q (1024 * i + r) (256 * e + 128 * jj + l) / Real.log 2
abbrev Cb (r l : ℕ) : ℝ := ct (1024 * i + r) (256 * e + 128 * jj + l)
abbrev Lb (h r : ℕ) : ℝ := (mx q k e (2 * jj + h) (1024 * i + r) + Real.log (sm q k e (2 * jj + h) (1024 * i + r))) / Real.log 2
abbrev Db (h r : ℕ) : ℝ := dl q k v ct e (2 * jj + h) (1024 * i + r)

theorem pP_eq (h s r : ℕ) (hh : h < 2) : pP (Kb k e kk) (Qb q e jj i) (Lb q k e jj i) h s r = pr q k e (2 * jj + h) (1024 * i + r) (2048 * kk + s) := by
  unfold pP
  rw [← pr_rpow, ← sc_dup q k e jj h (1024 * i + r) (2048 * kk + s) hh]
theorem dP_eq (h s r : ℕ) (hh : h < 2) : dP (Kb k e kk) (Kb v e kk) (Qb q e jj i) (Cb ct e jj i) (Lb q k e jj i) (Db q k v ct e jj i) h s r
    = ds q k v ct e (2 * jj + h) (1024 * i + r) (2048 * kk + s) := by
  unfold dP ds
  rw [pP_eq q k e kk jj i h s r hh, ← dp_dup v ct e jj h (1024 * i + r) (2048 * kk + s) hh]
end

section
variable {q k v ct : ℕ → ℕ → ℝ} {e kk jj i : ℕ} {a : Vec Ideal S2048x128 .f32}
  (h4 : IsReal x4 (Kb k e kk)) (h5 : IsReal x5 (Kb v e kk)) (h6 : IsReal x6 (Qb q e jj i)) (h7 : IsReal x7 (Cb ct e jj i))
  (h8 : IsStat x8 (Lb q k e jj i)) (h9 : IsStat x9 (Db q k v ct e jj i))

include h4 h5 h6 h7 h8 h9 in
theorem dkPoint (ha : IsReal a A) : IsReal (k0_pay1 (k0_pay17 x6) (k0_pay18 (k0_pay9 x6) k0_pay16 zero16) (ds0 x4 x5 x6 x7 x8 x9) (ds1 x4 x5 x6 x7 x8 x9) a)
    fun s l => A s l + ∑ r ∈ Finset.range 1024, ds q k v ct e (2 * jj + l / 64) (1024 * i + r) (2048 * kk + s) * (q (1024 * i + r) (256 * e + 128 * jj + l) / Real.log 2) := by
  intro s l
  rw [dkStep_at (q0_at h6) (q1_at h6) (d0_at h4 h5 h6 h7 h8 h9) (d1_at h4 h5 h6 h7 h8 h9) ha]
  have := l.isLt
  beta_reduce
  congr 2
  refine Finset.sum_congr rfl fun r _ => ?_
  rw [dP_eq _ _ _ _ _ _ _ _ _ _ _ (by decide), dP_eq _ _ _ _ _ _ _ _ _ _ _ (by decide)]
  unfold msk
  by_cases h : l.val / 64 = 0
  · rw [if_pos h, if_neg (by omega), h, mul_zero, add_zero]
  · have h1 : l.val / 64 = 1 := by omega
    rw [if_neg h, if_pos h1, h1, mul_zero, zero_add]

include h4 h6 h7 h8 in
theorem dvPoint (ha : IsReal a A) : IsReal (k0_pay25 (k0_pay9 x6) (k0_pay10 x4) (k0_pay12 x7) (k0_pay13 x8) k0_pay15 k0_pay16 (k0_pay17 x6) zero16 a)
    fun s l => A s l + ∑ r ∈ Finset.range 1024, pr q k e (2 * jj + l / 64) (1024 * i + r) (2048 * kk + s) * ct (1024 * i + r) (256 * e + 128 * jj + l) := by
  intro s l
  rw [dv_gen, dkStep_at (c0_at h7) (c1_at h7) (p0_at h4 h6 h8) (p1_at h4 h6 h8) ha]
  have := l.isLt
  beta_reduce
  congr 2
  refine Finset.sum_congr rfl fun r _ => ?_
  rw [pP_eq _ _ _ _ _ _ _ _ _ (by decide), pP_eq _ _ _ _ _ _ _ _ _ (by decide)]
  unfold msk
  by_cases h : l.val / 64 = 0
  · rw [if_pos h, if_neg (by omega), h, mul_zero, add_zero]
  · have h1 : l.val / 64 = 1 := by omega
    rw [if_neg h, if_pos h1, h1, mul_zero, zero_add]

include h4 h5 h6 h7 h8 h9 in
theorem dqPoint {a : Vec Ideal S1x1x128x1024 .f32} (ha : ∀ (l : Fin 128) (r : Fin 1024), a (ix4 (0 : Fin 1) (0 : Fin 1) l r) = ((A l r : ℝ) : EReal)) (l : Fin 128) (r : Fin 1024) :
    k0_pay2 (k0_pay10 x4) (ds0 x4 x5 x6 x7 x8 x9) (ds1 x4 x5 x6 x7 x8 x9) a (ix4 (0 : Fin 1) (0 : Fin 1) l r)
      = ((A l r + ∑ s ∈ Finset.range 2048, ds q k v ct e (2 * jj + l / 64) (1024 * i + r) (2048 * kk + s) * k (2048 * kk + s) (64 * e + l % 64) : ℝ) : EReal) := by
  rw [dqStep_at h4 (d0_at h4 h5 h6 h7 h8 h9) (d1_at h4 h5 h6 h7 h8 h9) ha]
  have := l.isLt
  beta_reduce
  congr 2
  refine Finset.sum_congr rfl fun s _ => ?_
  rw [dP_eq _ _ _ _ _ _ _ _ _ _ _ (by decide), dP_eq _ _ _ _ _ _ _ _ _ _ _ (by decide), mul_comm]
  by_cases h : l.val / 64 = 0
  · rw [if_pos h, h]
  · have h1 : l.val / 64 = 1 := by omega
    rw [if_neg h, h1]
end

/-! ## Cleared accumulators, and what is written back -/

theorem z6_at : IsReal (k0_pay6 (F := Ideal)) fun _ _ => 0 := by intro s l; pointwise [k0_pay6]; try rfl
theorem z7_at : IsReal (k0_pay7 (F := Ideal)) fun _ _ => 0 := by intro s l; pointwise [k0_pay7]; try rfl
theorem z8_at (l : Fin 128) (r : Fin 1024) : k0_pay8 (F := Ideal) (ix4 (0 : Fin 1) (0 : Fin 1) l r) = ((0 : ℝ) : EReal) := by pointwise [k0_pay8]; try rfl
theorem tr_at (a : Vec Ideal S1x1x128x1024 .f32) (r : Fin 1024) (l : Fin 128) : k0_pay3 a (ix2 r l) = a (ix4 (0 : Fin 1) (0 : Fin 1) l r) := by pointwise [k0_pay3]
theorem dvOut_at {a : Vec Ideal S2048x128 .f32} (ha : IsReal a A) : IsReal (k0_pay5 a a) fun s l => A s l + A s ((l + 64) % 128) := by
  intro s l
  pointwise [k0_pay5]
  rw [ha, ha, ← EReal.coe_add]
  rfl
theorem ln2_val : (Named.named κ "ln2" 0x3F317218#32 : Ideal .f32) = ((Real.log 2 : ℝ) : EReal) := by
  rfl
theorem dkOut_at {a : Vec Ideal S2048x128 .f32} (ha : IsReal a A) : IsReal (k0_pay4 a a) fun s l => (A s l + A s ((l + 64) % 128)) * Real.log 2 := by
  intro s l
  pointwise [k0_pay4]
  rw [ha, ha, ← EReal.coe_add, ln2_val, ← EReal.coe_mul]
  rfl
end Cert.KernelIdeal.Hand
-- ==== Proof.Blocks.lean ====
module

public import proofs.«01_k».proof.Proof.Operands
public import proofs.«01_k».proof.Proof.Point
public import Idealize.ShloMosaic.Lib.Pipeline.ValueKit

@[expose] public section

set_option maxRecDepth 16384

noncomputable section

namespace Cert.KernelIdeal.Hand

open Cert.KernelIdeal Cert.KernelIdeal.Gen Cert.Attn Cert.Consts
open Cert.ReferenceIdeal.Hand (I32 IsReal)
open Idealize.ShloMosaic TcCoe Tactic

/- The blocks a point of the grid reads, element by element. -/

variable {m : (ℓ : Loc nD τ sig) → Buf (Elt Ideal) ℓ} {c : Dev nD}

theorem idx : ∀ t : Fin grid0.N, (win0_0.index t = ![t.val / 16 % 4, t.val / 64]) ∧ (win0_1.index t = ![t.val / 16 % 4, t.val / 64])
    ∧ (win0_2.index t = ![t.val % 8, 2 * (t.val / 64) + t.val / 8 % 2]) ∧ (win0_3.index t = ![t.val % 8, 2 * (t.val / 64) + t.val / 8 % 2])
    ∧ (win0_4.index t = ![2 * (t.val / 64) + t.val / 8 % 2, 0, t.val % 8]) ∧ (win0_5.index t = ![2 * (t.val / 64) + t.val / 8 % 2, 0, t.val % 8]) := by decide +kernel

variable {q k v ct : ℕ → ℕ → ℝ}

/-- The point's coordinates read off its number. -/
abbrev eN (n : ℕ) : ℕ := n / 64
abbrev kN (n : ℕ) : ℕ := n / 16 % 4
abbrev jN (n : ℕ) : ℕ := n / 8 % 2
abbrev iN (n : ℕ) : ℕ := n % 8

theorem t_lt (t : Fin cfg0.N) : t.val < 128 := lt_of_lt_of_eq t.isLt N_0
theorem pt_val {n : ℕ} (hn : n < 128) : (pt n).val = n := Nat.mod_eq_of_lt hn

theorem blk0 (t : Fin cfg0.N) (r : Fin 2048) (l : Fin 128) : iblk m c 0 t (ix2 r l)
    = V m c main_v49 (ix2 (⟨2048 * (t.val / 16 % 4) + r.val, by omega⟩ : Fin 8192) (⟨128 * (t.val / 64) + l.val, by have := t_lt t; omega⟩ : Fin 256)) := by
  blk_ext [iblk, idx t]
theorem blk1 (t : Fin cfg0.N) (r : Fin 2048) (l : Fin 128) : iblk m c 1 t (ix2 r l)
    = V m c main_v55 (ix2 (⟨2048 * (t.val / 16 % 4) + r.val, by omega⟩ : Fin 8192) (⟨128 * (t.val / 64) + l.val, by have := t_lt t; omega⟩ : Fin 256)) := by
  blk_ext [iblk, idx t]
theorem blk2 (t : Fin cfg0.N) (r : Fin 1024) (l : Fin 128) : iblk m c 2 t (ix2 r l)
    = V m c main_v43 (ix2 (⟨1024 * (t.val % 8) + r.val, by omega⟩ : Fin 8192) (⟨256 * (t.val / 64) + 128 * (t.val / 8 % 2) + l.val, by have := t_lt t; omega⟩ : Fin 512)) := by
  blk_ext [iblk, idx t]
theorem blk3 (t : Fin cfg0.N) (r : Fin 1024) (l : Fin 128) : iblk m c 3 t (ix2 r l)
    = V m c main_arg3 (ix2 (⟨1024 * (t.val % 8) + r.val, by omega⟩ : Fin 8192) (⟨256 * (t.val / 64) + 128 * (t.val / 8 % 2) + l.val, by have := t_lt t; omega⟩ : Fin 512)) := by
  blk_ext [iblk, idx t]
theorem blk4 (t : Fin cfg0.N) (h : Fin 8) (r : Fin 1024) : iblk m c 4 t (ix3 (0 : Fin 1) h r)
    = V m c main_v57 (ix3 (⟨2 * (t.val / 64) + t.val / 8 % 2, by have := t_lt t; omega⟩ : Fin 4) h (⟨1024 * (t.val % 8) + r.val, by omega⟩ : Fin 8192)) := by
  blk_ext [iblk, idx t]
theorem blk5 (t : Fin cfg0.N) (h : Fin 8) (r : Fin 1024) : iblk m c 5 t (ix3 (0 : Fin 1) h r)
    = V m c main_v59 (ix3 (⟨2 * (t.val / 64) + t.val / 8 % 2, by have := t_lt t; omega⟩ : Fin 4) h (⟨1024 * (t.val % 8) + r.val, by omega⟩ : Fin 8192)) := by
  blk_ext [iblk, idx t]

theorem B4_at (h1 : IsReal (A1 m c) k) {n : ℕ} (hn : n < 128) : IsReal (B4 m c n) (Kb k (eN n) (kN n)) := by
  intro r l
  have hl := l.isLt
  refine (blk0 (m := m) (c := c) (pt n) r l).trans ?_
  rw [V_k, dupV_at h1]
  simp only [pt_val hn]
  rw [show 64 * ((128 * (n / 64) + l.val) / 128) + (128 * (n / 64) + l.val) % 64 = 64 * (n / 64) + l.val % 64 by omega]
theorem B5_at (h2 : IsReal (A2 m c) v) {n : ℕ} (hn : n < 128) : IsReal (B5 m c n) (Kb v (eN n) (kN n)) := by
  intro r l
  have hl := l.isLt
  refine (blk1 (m := m) (c := c) (pt n) r l).trans ?_
  rw [V_v, dupV_at h2]
  simp only [pt_val hn]
  rw [show 64 * ((128 * (n / 64) + l.val) / 128) + (128 * (n / 64) + l.val) % 64 = 64 * (n / 64) + l.val % 64 by omega]
theorem B6_at (h0 : IsReal (A0 m c) q) {n : ℕ} (hn : n < 128) : IsReal (B6 m c n) (Qb q (eN n) (jN n) (iN n)) := by
  intro r l
  refine (blk2 (m := m) (c := c) (pt n) r l).trans ?_
  rw [V_q, qsV_at h0]
  simp only [pt_val hn]
theorem B7_at (h3 : IsReal (A3 m c) ct) {n : ℕ} (hn : n < 128) : IsReal (B7 m c n) (Cb ct (eN n) (jN n) (iN n)) := by
  intro r l
  refine (blk3 (m := m) (c := c) (pt n) r l).trans ?_
  refine (h3 _ _).trans ?_
  simp only [pt_val hn]
theorem B8_at (h0 : IsReal (A0 m c) q) (h1 : IsReal (A1 m c) k) {n : ℕ} (hn : n < 128) : IsStat (B8 m c n) (Lb q k (eN n) (jN n) (iN n)) := by
  intro h hh r
  refine (blk4 (m := m) (c := c) (pt n) h r).trans ?_
  rw [V_lse, lse_at h0 h1 _ _ hh]
  simp only [pt_val hn]
  rw [show (2 * (n / 64) + n / 8 % 2) / 2 = n / 64 by omega, show (2 * (n / 64) + n / 8 % 2) % 2 = n / 8 % 2 by omega]
theorem B9_at (h0 : IsReal (A0 m c) q) (h1 : IsReal (A1 m c) k) (h2 : IsReal (A2 m c) v) (h3 : IsReal (A3 m c) ct) {n : ℕ} (hn : n < 128) :
    IsStat (B9 m c n) (Db q k v ct (eN n) (jN n) (iN n)) := by
  intro h hh r
  refine (blk5 (m := m) (c := c) (pt n) h r).trans ?_
  rw [V_dl, dl_at h0 h1 h2 h3 _ _ hh]
  simp only [pt_val hn]
  rw [show (2 * (n / 64) + n / 8 % 2) / 2 = n / 64 by omega, show (2 * (n / 64) + n / 8 % 2) % 2 = n / 8 % 2 by omega]

end Cert.KernelIdeal.Hand
-- ==== Proof.Accum.lean ====
module

public import proofs.«01_k».proof.Proof.Blocks

@[expose] public section

set_option maxRecDepth 16384

noncomputable section

namespace Cert.KernelIdeal.Hand

open Cert.KernelIdeal Cert.KernelIdeal.Gen Cert.Attn Cert.Consts
open Cert.ReferenceIdeal.Hand (I32 IsReal)
open Idealize.ShloMosaic TcCoe Tactic
open Finset (range)

/- The accumulators over a sweep as real sums, and the three result arrays. -/

/-! ## A sweep over the heads and rows, folded over the two halves of the lanes -/

/-- What lane `l` of an accumulator has met after `N` points of its sweep; `f` at head, row and column of the kv group's 256. -/
def acc (f : ℕ → ℕ → ℕ → ℝ) (N l : ℕ) : ℝ := ∑ t ∈ range N, ∑ r ∈ range 1024, f (2 * (t / 8) + l / 64) (1024 * (t % 8) + r) (128 * (t / 8) + l)

theorem acc_half (f : ℕ → ℕ → ℕ → ℝ) (h d : ℕ) (hd : d < 64) :
    acc f 16 (64 * h + d) = ∑ t ∈ range 16, ∑ r ∈ range 1024, (fun g i => f g i (64 * g + d)) (2 * (t / 8) + h) (1024 * (t % 8) + r) := by
  unfold acc
  refine Finset.sum_congr rfl fun t _ => Finset.sum_congr rfl fun r _ => ?_
  beta_reduce
  rw [show (64 * h + d) / 64 = h by omega, show 128 * (t / 8) + (64 * h + d) = 64 * (2 * (t / 8) + h) + d by omega]

theorem acc_pair (f : ℕ → ℕ → ℕ → ℝ) (l : ℕ) (hl : l < 128) :
    acc f 16 l + acc f 16 ((l + 64) % 128) = ∑ i ∈ range 8192, ∑ g ∈ range 4, f g i (64 * g + l % 64) := by
  have hs := sum_heads fun g i => f g i (64 * g + l % 64)
  have h0 := acc_half f 0 (l % 64) (by omega)
  have h1 := acc_half f 1 (l % 64) (by omega)
  rw [← hs]
  simp only [add_zero] at h0
  rw [← h0, ← h1]
  by_cases h : l < 64
  · rw [show 64 * 0 + l % 64 = l by omega, show 64 * 1 + l % 64 = (l + 64) % 128 by omega]
  · rw [show 64 * 1 + l % 64 = l by omega, show 64 * 0 + l % 64 = (l + 64) % 128 by omega, add_comm]

section
variable {m : (ℓ : Loc nD τ sig) → Buf (Elt Ideal) ℓ} {c : Dev nD} {q k v ct : ℕ → ℕ → ℝ}
variable (h0 : IsReal (A0 m c) q) (h1 : IsReal (A1 m c) k) (h2 : IsReal (A2 m c) v) (h3 : IsReal (A3 m c) ct)

/-- The summands of the value's and the key's gradient. -/
abbrev fV (q k ct : ℕ → ℕ → ℝ) (e j : ℕ) (g i x : ℕ) : ℝ := pr q k e g i j * ct i (256 * e + x)
abbrev fK (q k v ct : ℕ → ℕ → ℝ) (e j : ℕ) (g i x : ℕ) : ℝ := ds q k v ct e g i j * (q i (256 * e + x) / Real.log 2)

include h0 h1 h3 in
theorem dvStep {n : ℕ} (hn : n < 128) {a : Vec Ideal S2048x128 .f32} {A : ℕ → ℕ → ℝ} (ha : IsReal a A) :
    IsReal (stepDv (B4 m c) (B6 m c) (B7 m c) (B8 m c) n a) fun s l => A s l + ∑ r ∈ range 1024,
      fV q k ct (n / 64) (2048 * (n / 16 % 4) + s) (2 * (n / 8 % 2) + l / 64) (1024 * (n % 8) + r) (128 * (n / 8 % 2) + l) := by
  intro s l
  refine (dvPoint (B4_at h1 hn) (B6_at h0 hn) (B7_at h3 hn) (B8_at h0 h1 hn) ha s l).trans ?_
  simp only [fV, add_assoc]
include h0 h1 h2 h3 in
theorem dkStep {n : ℕ} (hn : n < 128) {a : Vec Ideal S2048x128 .f32} {A : ℕ → ℕ → ℝ} (ha : IsReal a A) :
    IsReal (stepDk (B4 m c) (B5 m c) (B6 m c) (B7 m c) (B8 m c) (B9 m c) n a) fun s l => A s l + ∑ r ∈ range 1024,
      fK q k v ct (n / 64) (2048 * (n / 16 % 4) + s) (2 * (n / 8 % 2) + l / 64) (1024 * (n % 8) + r) (128 * (n / 8 % 2) + l) := by
  intro s l
  refine (dkPoint (B4_at h1 hn) (B5_at h2 hn) (B6_at h0 hn) (B7_at h3 hn) (B8_at h0 h1 hn) (B9_at h0 h1 h2 h3 hn) ha s l).trans ?_
  simp only [fK, add_assoc]
include h0 h1 h2 h3 in
theorem dqStep {n : ℕ} (hn : n < 128) {a : Vec Ideal S1x1x128x1024 .f32} {A : ℕ → ℕ → ℝ}
    (ha : ∀ (l : Fin 128) (r : Fin 1024), a (ix4 (0 : Fin 1) (0 : Fin 1) l r) = ((A l r : ℝ) : EReal)) (l : Fin 128) (r : Fin 1024) :
    stepDq (B4 m c) (B5 m c) (B6 m c) (B7 m c) (B8 m c) (B9 m c) n a (ix4 (0 : Fin 1) (0 : Fin 1) l r) = ((A l r + ∑ s ∈ range 2048,
      ds q k v ct (n / 64) (2 * (n / 8 % 2) + l / 64) (1024 * (n % 8) + r) (2048 * (n / 16 % 4) + s) * k (2048 * (n / 16 % 4) + s) (64 * (n / 64) + l % 64) : ℝ) : EReal) :=
  dqPoint (B4_at h1 hn) (B5_at h2 hn) (B6_at h0 hn) (B7_at h3 hn) (B8_at h0 h1 hn) (B9_at h0 h1 h2 h3 hn) ha l r

theorem acc_succ (f : ℕ → ℕ → ℕ → ℝ) (N l : ℕ) : acc f (N + 1) l = acc f N l + ∑ r ∈ range 1024, f (2 * (N / 8) + l / 64) (1024 * (N % 8) + r) (128 * (N / 8) + l) :=
  Finset.sum_range_succ ..
theorem acc_zero (f : ℕ → ℕ → ℕ → ℝ) (l : ℕ) : acc f 0 l = 0 := rfl

theorem co_sweep (b j : ℕ) (hb : b < 8) (hj : j < 16) : (16 * b + j) / 64 = b / 4 ∧ (16 * b + j) / 16 % 4 = b % 4 ∧ (16 * b + j) / 8 % 2 = j / 8 ∧ (16 * b + j) % 8 = j % 8 := by omega

include h0 h1 h3 in
theorem dvAcc (b : ℕ) (hb : b < 8) (j : ℕ) (hj : j < 16) :
    IsReal (dvAt m c (16 * b) j) fun s l => acc (fV q k ct (b / 4) (2048 * (b % 4) + s)) (j + 1) l := by
  induction j with
  | zero =>
    intro s l
    have h := dvStep h0 h1 h3 (n := 16 * b + 0) (by omega) z7_at s l
    refine h.trans ?_
    obtain ⟨e1, e2, e3, e4⟩ := co_sweep b 0 hb hj
    beta_reduce
    rw [acc_succ, acc_zero, e1, e2, e3, e4]
  | succ j ih =>
    intro s l
    have h := dvStep h0 h1 h3 (n := 16 * b + (j + 1)) (by omega) (ih (by omega)) s l
    refine h.trans ?_
    obtain ⟨e1, e2, e3, e4⟩ := co_sweep b (j + 1) hb hj
    beta_reduce
    rw [acc_succ _ (j + 1), e1, e2, e3, e4]

include h0 h1 h2 h3 in
theorem dkAcc (b : ℕ) (hb : b < 8) (j : ℕ) (hj : j < 16) :
    IsReal (dkAt m c (16 * b) j) fun s l => acc (fK q k v ct (b / 4) (2048 * (b % 4) + s)) (j + 1) l := by
  induction j with
  | zero =>
    intro s l
    have h := dkStep h0 h1 h2 h3 (n := 16 * b + 0) (by omega) z6_at s l
    refine h.trans ?_
    obtain ⟨e1, e2, e3, e4⟩ := co_sweep b 0 hb hj
    beta_reduce
    rw [acc_succ, acc_zero, e1, e2, e3, e4]
  | succ j ih =>
    intro s l
    have h := dkStep h0 h1 h2 h3 (n := 16 * b + (j + 1)) (by omega) (ih (by omega)) s l
    refine h.trans ?_
    obtain ⟨e1, e2, e3, e4⟩ := co_sweep b (j + 1) hb hj
    beta_reduce
    rw [acc_succ _ (j + 1), e1, e2, e3, e4]

include h0 h1 h3 in
/-- The value gradient's block written back at the end of sweep `b`. -/
theorem dvBlk_at (b : ℕ) (hb : b < 8) : IsReal (dvBlk m c (16 * b + 15)) fun s l => dv q k ct (2048 * (b % 4) + s) (64 * (b / 4) + l % 64) := by
  intro s l
  have hl := l.isLt
  unfold dvBlk
  rw [show (16 * b + 15) / 16 = b by omega, show (16 * b + 15) % 16 = 15 by omega]
  refine (dvOut_at (dvAcc h0 h1 h3 b hb 15 (by decide)) s l).trans ?_
  beta_reduce
  rw [acc_pair _ _ l.isLt]
  unfold dv
  rw [show (64 * (b / 4) + l.val % 64) / 64 = b / 4 by omega, show (64 * (b / 4) + l.val % 64) % 64 = l.val % 64 by omega]
  simp only [fV, add_assoc]

include h0 h1 h2 h3 in
/-- The key gradient's. -/
theorem dkBlk_at (b : ℕ) (hb : b < 8) : IsReal (dkBlk m c (16 * b + 15)) fun s l => dk q k v ct (2048 * (b % 4) + s) (64 * (b / 4) + l % 64) := by
  intro s l
  have hl := l.isLt
  unfold dkBlk
  rw [show (16 * b + 15) / 16 = b by omega, show (16 * b + 15) % 16 = 15 by omega]
  refine (dkOut_at (dkAcc h0 h1 h2 h3 b hb 15 (by decide)) s l).trans ?_
  beta_reduce
  rw [acc_pair _ _ l.isLt]
  unfold dk
  rw [show (64 * (b / 4) + l.val % 64) / 64 = b / 4 by omega, show (64 * (b / 4) + l.val % 64) % 64 = l.val % 64 by omega]
  rw [Finset.sum_mul]
  refine congrArg (fun x : ℝ => (x : EReal)) (Finset.sum_congr rfl fun i _ => ?_)
  rw [Finset.sum_mul]
  refine Finset.sum_congr rfl fun g _ => ?_
  simp only [fK, add_assoc]
  rw [mul_assoc, div_mul_cancel₀ _ log2_pos.ne']

/-! ## The query gradient -/

include h0 h1 h2 h3 in
theorem slabAcc (e p : ℕ) (he : e < 2) (hp : p < 16) (x : ℕ) (hx : x < 4) (l : Fin 128) (r : Fin 1024) :
    slabAt m c (64 * e + p) x (ix4 (0 : Fin 1) (0 : Fin 1) l r) = ((∑ y ∈ range (x + 1), ∑ s ∈ range 2048,
      ds q k v ct e (2 * (p / 8) + l / 64) (1024 * (p % 8) + r) (2048 * y + s) * k (2048 * y + s) (64 * e + l % 64) : ℝ) : EReal) := by
  induction x generalizing l r with
  | zero =>
    have h := dqStep h0 h1 h2 h3 (n := 64 * e + p) (by omega) (A := fun _ _ => 0) z8_at l r
    refine h.trans ?_
    rw [zero_add 1, Finset.sum_range_one, zero_add, show (64 * e + p) / 64 = e by omega, show (64 * e + p) / 16 % 4 = 0 by omega, show (64 * e + p) / 8 % 2 = p / 8 by omega, show (64 * e + p) % 8 = p % 8 by omega]
  | succ x ih =>
    have h := dqStep h0 h1 h2 h3 (n := 64 * e + p + 16 * (x + 1)) (by omega) (A := fun l r => ∑ y ∈ range (x + 1), ∑ s ∈ range 2048,
      ds q k v ct e (2 * (p / 8) + l / 64) (1024 * (p % 8) + r) (2048 * y + s) * k (2048 * y + s) (64 * e + l % 64)) (ih (by omega)) l r
    refine h.trans ?_
    rw [Finset.sum_range_succ _ (x + 1), show (64 * e + p + 16 * (x + 1)) / 64 = e by omega, show (64 * e + p + 16 * (x + 1)) / 16 % 4 = x + 1 by omega,
      show (64 * e + p + 16 * (x + 1)) / 8 % 2 = p / 8 by omega, show (64 * e + p + 16 * (x + 1)) % 8 = p % 8 by omega]

include h0 h1 h2 h3 in
theorem tile_at (e p : ℕ) (he : e < 2) (hp : p < 16) :
    IsReal (k0_pay3 (slabAt m c (64 * e + p) 3)) fun r l => dq q k v ct (1024 * (p % 8) + r) (256 * e + 128 * (p / 8) + l) := by
  intro r l
  have hl := l.isLt
  rw [tr_at, slabAcc h0 h1 h2 h3 e p he hp 3 (by decide)]
  beta_reduce
  unfold dq
  rw [show (8192 : ℕ) = 4 * 2048 from rfl, sum_mul_range, show (256 * e + 128 * (p / 8) + l.val) / 256 = e by omega, show (256 * e + 128 * (p / 8) + l.val) / 64 % 4 = 2 * (p / 8) + l.val / 64 by omega,
    show (256 * e + 128 * (p / 8) + l.val) % 64 = l.val % 64 by omega]
  simp only [mul_comm 2048]

/-- The point that writes an element of the query gradient. -/
abbrev wN (R C : ℕ) : ℕ := 64 * (C / 256) + 48 + 8 * (C / 128 % 2) + R / 1024

include h0 h1 h2 h3 in
theorem out_at (n : ℕ) (hn : n ≤ 128) (R : Fin 8192) (C : Fin 512) (hw : wN R C < n) : outAt m c n (ix2 R C) = ((dq q k v ct R C : ℝ) : EReal) := by
  have hR := R.isLt
  have hC := C.isLt
  have ew : wN R C = 64 * (C.val / 256) + 48 + 8 * (C.val / 128 % 2) + R.val / 1024 := rfl
  induction n with
  | zero => omega
  | succ n ih =>
    obtain ⟨c0, c1, c2, c3⟩ := coords_val (pt n)
    rw [pt_val (by omega)] at c0 c1 c2 c3
    show (if n / 16 % 4 = 3 then VecWindow.put (outAt m c n) (tileOff (co n)) S1024x128.size (k0_pay3 (slabAt m c (64 * (n / 64) + n % 16) 3)) else outAt m c n) (ix2 R C) = _
    by_cases h3' : n / 16 % 4 = 3
    · rw [if_pos h3']
      unfold VecWindow.put
      by_cases h : wN R C = n
      · have hh : ∀ a, tileOff (co n) a ≤ ((ix2 R C : S8192x512.Idx) a).val ∧ ((ix2 R C : S8192x512.Idx) a).val < tileOff (co n) a + S1024x128.size a := by
          intro a
          fin_cases a
          · show 1024 * (grid0.coords (pt n) 3).val ≤ R.val ∧ R.val < 1024 * (grid0.coords (pt n) 3).val + 1024
            rw [c3]; omega
          · show 256 * (grid0.coords (pt n) 0).val + 128 * (grid0.coords (pt n) 2).val ≤ C.val ∧ C.val < 256 * (grid0.coords (pt n) 0).val + 128 * (grid0.coords (pt n) 2).val + 128
            rw [c0, c2]; omega
        rw [dif_pos hh]
        have hu : (Rect.unitLocal (s := S8192x512) (off := tileOff (co n)) (size := S1024x128.size) (ix2 R C) hh : S1024x128.Idx)
            = ix2 (⟨R.val % 1024, by omega⟩ : Fin 1024) (⟨C.val % 128, by omega⟩ : Fin 128) := by
          funext a
          fin_cases a
          · refine Fin.ext ?_
            show R.val - 1024 * (grid0.coords (pt n) 3).val = R.val % 1024
            rw [c3]; omega
          · refine Fin.ext ?_
            show C.val - (256 * (grid0.coords (pt n) 0).val + 128 * (grid0.coords (pt n) 2).val) = C.val % 128
            rw [c0, c2]; omega
        refine (congrArg (k0_pay3 (slabAt m c (64 * (n / 64) + n % 16) 3)) hu).trans ?_
        rw [tile_at h0 h1 h2 h3 (n / 64) (n % 16) (by omega) (by omega)]
        beta_reduce
        rw [show 1024 * (n % 16 % 8) + R.val % 1024 = R.val by omega, show 256 * (n / 64) + 128 * (n % 16 / 8) + C.val % 128 = C.val by omega]
      · have hh : ¬ ∀ a, tileOff (co n) a ≤ ((ix2 R C : S8192x512.Idx) a).val ∧ ((ix2 R C : S8192x512.Idx) a).val < tileOff (co n) a + S1024x128.size a := by
          intro hall
          have i0 : 1024 * (grid0.coords (pt n) 3).val ≤ R.val ∧ R.val < 1024 * (grid0.coords (pt n) 3).val + 1024 := hall 0
          have i1 : 256 * (grid0.coords (pt n) 0).val + 128 * (grid0.coords (pt n) 2).val ≤ C.val ∧ C.val < 256 * (grid0.coords (pt n) 0).val + 128 * (grid0.coords (pt n) 2).val + 128 := hall 1
          rw [c3] at i0
          rw [c0, c2] at i1
          omega
        rw [dif_neg hh]
        exact ih (by omega) (by omega)
    · rw [if_neg h3']
      exact ih (by omega) (by omega)

end

end Cert.KernelIdeal.Hand
-- ==== Proof.Results.lean ====
module

public import proofs.«01_k».proof.Proof.Accum

@[expose] public section

set_option maxRecDepth 16384

noncomputable section

namespace Cert.KernelIdeal.Hand

open Cert.KernelIdeal Cert.KernelIdeal.Gen Cert.Attn Cert.Consts
open Cert.ReferenceIdeal.Hand (I32 IsReal)
open Idealize.ShloMosaic Idealize.ShloMosaic.TcCoe Idealize.ShloMosaic.Tactic

/- Hand-written, untrusted. What the call and the host lines after it leave in the three results. -/

theorem idx67 : ∀ t : Fin grid0.N, (win0_6.index t = ![t.val / 16 % 4, t.val / 64]) ∧ (win0_7.index t = ![t.val / 16 % 4, t.val / 64]) := by decide +kernel

section
variable {m : (ℓ : Loc nD τ sig) → Buf (Elt Ideal) ℓ} {c : Dev nD} {q k v ct : ℕ → ℕ → ℝ}
variable (h0 : IsReal (A0 m c) q) (h1 : IsReal (A1 m c) k) (h2 : IsReal (A2 m c) v) (h3 : IsReal (A3 m c) ct)

include h0 h1 h2 h3 in
/-- The key gradient over twice its lanes: each group's half-filled 128 lanes twice. -/
theorem arr6 : (dats m 0 c).arrAt 6 cfg0.N = (fun y : S8192x256.Idx => ((dk q k v ct (y 0).val (64 * ((y 1).val / 128) + (y 1).val % 64) : ℝ) : EReal)) := by
  refine (dats m 0 c).arrAt_eq_of_covers 6 _ (by decide +kernel) fun t hf y => ?_
  have ht := t_lt t
  have hb : t.val = 16 * (t.val / 16) + 15 := by have := (flush0_6 t).1 hf; omega
  have hl : (y 1).val < 128 := (y 1).isLt
  blk_simp [idx67 t]
  rw [after0_6]
  have e := dkBlk_at h0 h1 h2 h3 (t.val / 16) (by omega) (y 0) (y 1)
  rw [← hb] at e
  refine ((congrArg (dkBlk m c t.val) (eq_ix2 (n0 := 2048) (n1 := 128) y)).trans e).trans ?_
  beta_reduce
  rw [show 2048 * (t.val / 16 % 4) + (y 0).val = t.val / 16 % 4 * 2048 + (y 0).val by omega,
    show 64 * (t.val / 16 / 4) + (y 1).val % 64 = 64 * ((t.val / 64 * 128 + (y 1).val) / 128) + (t.val / 64 * 128 + (y 1).val) % 64 by omega]
include h0 h1 h3 in
theorem arr7 : (dats m 0 c).arrAt 7 cfg0.N = (fun y : S8192x256.Idx => ((dv q k ct (y 0).val (64 * ((y 1).val / 128) + (y 1).val % 64) : ℝ) : EReal)) := by
  refine (dats m 0 c).arrAt_eq_of_covers 7 _ (by decide +kernel) fun t hf y => ?_
  have ht := t_lt t
  have hb : t.val = 16 * (t.val / 16) + 15 := by have := (flush0_7 t).1 hf; omega
  have hl : (y 1).val < 128 := (y 1).isLt
  blk_simp [idx67 t]
  rw [after0_7]
  have e := dvBlk_at h0 h1 h3 (t.val / 16) (by omega) (y 0) (y 1)
  rw [← hb] at e
  refine ((congrArg (dvBlk m c t.val) (eq_ix2 (n0 := 2048) (n1 := 128) y)).trans e).trans ?_
  beta_reduce
  rw [show 2048 * (t.val / 16 % 4) + (y 0).val = t.val / 16 % 4 * 2048 + (y 0).val by omega,
    show 64 * (t.val / 16 / 4) + (y 1).val % 64 = 64 * ((t.val / 64 * 128 + (y 1).val) / 128) + (t.val / 64 * 128 + (y 1).val) % 64 by omega]
end

/-- The host lines after the call: each group's lanes taken out of the doubled array. -/
def undupV (x : I32 S8192x256) : I32 S8192x128 :=
  select (broadcastInDim S8192x128 ![0, 1] bcast_S1x128_S8192x128_0_1
      (cmpi .slt (andi (iotaInDim S1x128 32 1) (broadcastInDim S1x128 ![] bcast_S_S1x128 (constantI S_ 32 127#32))) (broadcastInDim S1x128 ![] bcast_S_S1x128 (constantI S_ 32 64#32))))
    (extractStridedSlice S8192x128 ![0, 0] x slices_S8192x256_S8192x128_0_0) (extractStridedSlice S8192x128 ![0, 128] x slices_S8192x256_S8192x128_0_128)

theorem lane_sel : ∀ l : Fin 128, IntOp.cmpi .slt (IntOp.andi (BitVec.ofNat 32 l.val) 127#32) 64#32 = if l.val / 64 = 0 then 1#1 else 0#1 := by decide +kernel

theorem undupV_at {x : I32 S8192x256} {f : ℕ → ℕ → ℝ} (hx : ∀ (r : Fin 8192) (l : Fin 256), x (ix2 r l) = ((f r (64 * (l.val / 128) + l.val % 64) : ℝ) : EReal)) : IsReal (undupV x) f := by
  intro r l
  have hl := l.isLt
  unfold undupV; pointwise
  rw [lane_sel, hx, hx]
  by_cases h : l.val / 64 = 0
  · rw [if_pos h]
    show ((f r.val (64 * (l.val / 128) + l.val % 64) : ℝ) : EReal) = _
    rw [show 64 * (l.val / 128) + l.val % 64 = l.val by omega]
  · rw [if_neg h]
    show ((f r.val (64 * ((128 + l.val) / 128) + (128 + l.val) % 64) : ℝ) : EReal) = _
    rw [show 64 * ((128 + l.val) / 128) + (128 + l.val) % 64 = l.val by omega]

theorem fin68 (m : (ℓ : Loc nD τ sig) → Buf (Elt Ideal) ℓ) (c : Dev nD) : fin m c (Proc.devRef .tc main_v68) = undupV ((dats m 0 c).arrAt 6 cfg0.N) := by
  unfold fin
  simp only [hostOps1, hostOps1_1, hostOps1_2, hostOps1_3, List.flatten_cons, List.flatten_nil, List.append_nil, List.cons_append, List.nil_append]
  after_results
  have e : Pipeline.withArrays spec0 c (Pipeline.withR (V0 m c) R0 c (G m c)) (fun w => (dats m 0 c).arrAt w cfg0.N) (Proc.devRef .tc main_v60_1)
      = (dats m 0 c).arrAt 6 cfg0.N := Pipeline.withArrays_arr spec0 (by decide) c _ _ 6
  rw [e]
  rfl
theorem fin76 (m : (ℓ : Loc nD τ sig) → Buf (Elt Ideal) ℓ) (c : Dev nD) : fin m c (Proc.devRef .tc main_v76) = undupV ((dats m 0 c).arrAt 7 cfg0.N) := by
  unfold fin
  simp only [hostOps1, hostOps1_1, hostOps1_2, hostOps1_3, List.flatten_cons, List.flatten_nil, List.append_nil, List.cons_append, List.nil_append]
  after_results
  have e : Pipeline.withArrays spec0 c (Pipeline.withR (V0 m c) R0 c (G m c)) (fun w => (dats m 0 c).arrAt w cfg0.N) (Proc.devRef .tc main_v60_2)
      = (dats m 0 c).arrAt 7 cfg0.N := Pipeline.withArrays_arr spec0 (by decide) c _ _ 7
  rw [e]
  rfl

section
variable {m : (ℓ : Loc nD τ sig) → Buf (Elt Ideal) ℓ} {c : Dev nD} {q k v ct : ℕ → ℕ → ℝ}
variable (h0 : IsReal (A0 m c) q) (h1 : IsReal (A1 m c) k) (h2 : IsReal (A2 m c) v) (h3 : IsReal (A3 m c) ct)

include h0 h1 h2 h3 in
theorem res0 : IsReal (outAt m c 128) (dq q k v ct) := fun R C => by
  have hR := R.isLt
  have hC := C.isLt
  exact out_at h0 h1 h2 h3 128 (le_refl _) R C (show 64 * (C.val / 256) + 48 + 8 * (C.val / 128 % 2) + R.val / 1024 < 128 by omega)
include h0 h1 h2 h3 in
theorem res1 : IsReal (fin m c (Proc.devRef .tc main_v68)) (dk q k v ct) := by
  rw [fin68, arr6 h0 h1 h2 h3]
  exact undupV_at fun _ _ => rfl
include h0 h1 h3 in
theorem res2 : IsReal (fin m c (Proc.devRef .tc main_v76)) (dv q k ct) := by
  rw [fin76, arr7 h0 h1 h3]
  exact undupV_at fun _ _ => rfl
end

end Cert.KernelIdeal.Hand
-- ==== Proof.Algebraic.lean ====
/- The kernel's three results are the reference's, where the arguments are finite. -/
module

public import proofs.«01_k».proof.Defs
public import proofs.«01_k».proof.Proof.Finite
public import proofs.«01_k».proof.Proof.Results
public import proofs.«01_k».proof.Proof.KernelIdeal.Frame

@[expose] public section

noncomputable section

namespace Cert.Hand

open Idealize.ShloMosaic Idealize.ShloMosaic.TcCoe Idealize.SL.Sem
open Cert.ReferenceIdeal.Hand (IsReal DqV DkV DvV DqV_at DkV_at DvV_at)

theorem IsReal.ext {a b : ℕ} {x y : (⟨2, ![a, b]⟩ : Shape).Idx → EReal} {f : ℕ → ℕ → ℝ} (hx : IsReal x f) (hy : IsReal y f) : x = y := by
  funext i
  exact ((congrArg x (eq_ix2 (n0 := a) (n1 := b) i)).trans (hx (i 0) (i 1))).trans ((congrArg y (eq_ix2 (n0 := a) (n1 := b) i)).trans (hy (i 0) (i 1))).symm

theorem algebraic : Cert.algebraic_KernelIdeal_ReferenceIdeal_pre_finite (hPre_finite := Cert.Pre_finite.Hand.facts) := by
  intro m g m' g' hpre hagree
  refine ⟨fun c => Cert.KernelIdeal.Hand.outAt m c 128, fun c => Cert.KernelIdeal.Hand.fin m c (Proc.devRef .tc Cert.KernelIdeal.main_v68),
    fun c => Cert.KernelIdeal.Hand.fin m c (Proc.devRef .tc Cert.KernelIdeal.main_v76), Cert.KernelIdeal.Hand.run_out m g, ?_⟩
  refine (θ_run Cert.ReferenceIdeal.defs _ _).mono (fun r h c => ?_) (Cert.ReferenceIdeal.Hand.run_stages m' g')
  obtain ⟨r0, r1, r2, ra⟩ := h c
  obtain ⟨⟨q, h0⟩, ⟨k, h1⟩, ⟨v, h2⟩, ⟨ct, h3⟩⟩ := Cert.Pre_finite.Hand.reals _ _ _ _ (hpre c)
  obtain ⟨e0, e1, e2, e3⟩ := hagree c
  rw [e0, e1, e2, e3] at r0 r1
  rw [e0, e1, e3] at r2
  exact ⟨r0.trans (IsReal.ext (DqV_at h0 h1 h2 h3) (Cert.KernelIdeal.Hand.res0 h0 h1 h2 h3)),
    r1.trans (IsReal.ext (DkV_at h0 h1 h2 h3) (Cert.KernelIdeal.Hand.res1 h0 h1 h2 h3)),
    r2.trans (IsReal.ext (DvV_at h0 h1 h3) (Cert.KernelIdeal.Hand.res2 h0 h1 h3)), ra⟩

end Cert.Hand
-- ==== Proof.Imports.lean ====
module

public import proofs.«01_k».proof.Proof.Gen.Up.Frame
public import proofs.«01_k».proof.Proof.Gen.Gdown.Frame
public import proofs.«01_k».proof.Proof.Gen.Gup.Frame
public import proofs.«01_k».proof.Proof.Gen.Dx1.Frame
public import proofs.«01_k».proof.Proof.Gen.In.Frame
public import proofs.«01_k».proof.Proof.Gen.Ginq.Frame
public import proofs.«01_k».proof.Proof.Gen.Ging.Frame
public import proofs.«01_k».proof.Proof.Gen.Dxq.Frame
public import proofs.«01_k».proof.Proof.Gen.Dxg.Frame
public import proofs.«01_k».proof.Proof.Gen.Down.Frame
public import proofs.«01_k».proof.Proof.Gen.Out.Frame
public import proofs.«01_k».proof.Proof.Gen.Dmix.Frame
public import proofs.«01_k».proof.Proof.Gen.Branch.Frame
public import proofs.«01_k».proof.Proof.Gen.Gout.Frame
public import proofs.«01_k».proof.Proof.Gen.Gbra.Frame
public import proofs.«01_k».proof.Proof.Gen.Gbrb.Frame
public import proofs.«01_k».proof.Proof.Gen.Gbrc.Frame
public import proofs.«01_k».proof.Proof.Gen.Fwd.Frame
public import proofs.«01_k».proof.Proof.Gen.Gate.Frame
public import proofs.«01_k».proof.Proof.Gen.Dgate.Frame
public import proofs.«01_k».proof.Proof.Gen.Loss.Frame
public import proofs.«01_k».proof.Proof.Gen.Delta.Frame
public import proofs.«01_k».proof.Proof.Gen.Ain.Frame
public import proofs.«01_k».proof.Proof.Gen.Abra.Frame
public import proofs.«01_k».proof.Proof.Gen.Abrb.Frame
public import proofs.«01_k».proof.Proof.Gen.Aout.Frame
public import proofs.«01_k».proof.Proof.Gen.Aup.Frame
public import proofs.«01_k».proof.Proof.Gen.Asmall.Frame
public import proofs.«01_k».proof.Proof.Gen.Dln.Frame
public import proofs.«01_k».proof.Proof.Gen.Prepc.Frame
public import proofs.«01_k».proof.Proof.Gen.Prepb.Frame
public import proofs.«01_k».proof.Proof.Gen.Postc.Frame
-- ==== Proof.FwdIdeal.Finite.lean ====
/- The forward call's precondition: its stated side conditions, and that every element of the three arguments is a real number. -/
module

public import proofs.«01_k».proof.Pre_finite_qkv
public import proofs.«01_k».proof.Proof.Finite

@[expose] public section

namespace Cert.Pre_finite_qkv.Hand

open Idealize.ShloMosaic Cert.Pre_finite_qkv
open Cert.ReferenceIdeal.Hand (I32 IsReal)
open Cert.Pre_finite.Hand (isReal_of real_of)

theorem facts : Cert.Pre_finite_qkv.Facts where
  bcast_S_S8192x512 := by decide
  reducesTo_S8192x512_S_d0_1 := by decide
  h_S_ := by decide
  bcast_S_S8192x128 := by decide
  reducesTo_S8192x128_S_d0_1 := by decide

attribute [local instance] facts

theorem reals (a0 : I32 S8192x512) (a1 a2 : I32 S8192x128) (h : fn (F := Ideal) a0 a1 a2 = fun _ => 1#1) :
    (∃ f, IsReal a0 f) ∧ (∃ f, IsReal a1 f) ∧ ∃ f, IsReal a2 f := by
  have h := congrFun h ix0
  unfold fn at h
  obtain ⟨h01, h2⟩ := IntOp.andi_eq_one.1 h
  obtain ⟨h0, h1⟩ := IntOp.andi_eq_one.1 h01
  exact ⟨isReal_of a0 (real_of a0 _ _ _ h0), isReal_of a1 (real_of a1 _ _ _ h1), isReal_of a2 (real_of a2 _ _ _ h2)⟩

end Cert.Pre_finite_qkv.Hand
-- ==== Proof.FwdIdeal.Point.lean ====
/- What one point of the attention's forward grid does to its row maximum and to its weighted sums, element by element, where its
   blocks hold real numbers: any real number serves as the row's running maximum. -/
module

public import proofs.«01_k».proof.Proof.Point
public import proofs.«01_k».proof.Proof.Gen.FwdIdeal.Skeleton

@[expose] public section

set_option maxRecDepth 16384

noncomputable section

namespace Cert.FwdIdeal.Hand

open Cert.FwdIdeal Cert.FwdIdeal.Gen Cert.Attn Cert.Consts
open Cert.ReferenceIdeal.Hand (IsReal)
open Cert.KernelIdeal.Hand (msk sel_if)
open Idealize.ShloMosaic TcCoe Tactic

variable {x3 : Vec Ideal S1024x128 .bf16} {x5 x7 : Vec Ideal S2048x128 .bf16} {Q K V : ℕ → ℕ → ℝ}

/-- Keys against the queries of head `h`. -/
def sS (K Q : ℕ → ℕ → ℝ) (h s r : ℕ) : ℝ := ∑ l ∈ Finset.range 128, K s l * msk Q h r l

theorem lane0 : ∀ l : Fin 128, IntOp.cmpi .slt (IntOp.andi (BitVec.ofNat 32 l.val) 127#32) 64#32 = if l.val / 64 = 0 then 1#1 else 0#1 := by decide +kernel
theorem lane1 : ∀ l : Fin 128, IntOp.xori (IntOp.cmpi .slt (IntOp.andi (BitVec.ofNat 32 l.val) 127#32) 64#32) 1#1 = if l.val / 64 = 1 then 1#1 else 0#1 := by
  decide +kernel

theorem sS_sum (h s r : ℕ) : ∑ l : Fin 128, (((if l.val / 64 = h then K s l.val * Q r l.val else 0 : ℝ)) : EReal) = ((sS K Q h s r : ℝ) : EReal) := by
  rw [coe_sum_fin 128 fun l => if l / 64 = h then K s l * Q r l else 0]
  unfold sS
  simp only [msk, mul_ite, mul_zero]
theorem s0_at (h5 : IsReal x5 K) (h3 : IsReal x3 Q) : IsReal (k0_pay14 x3 x5) (sS K Q 0) := by
  intro s r
  pointwise [k0_pay14, k0_pay11, k0_pay10, k0_pay13]
  simp only [h5 _ _, h3 _ _, lane0, ← EReal.coe_mul, sel_if]
  exact sS_sum 0 s r
theorem s1_at (h5 : IsReal x5 K) (h3 : IsReal x3 Q) : IsReal (k0_pay15 x3 x5) (sS K Q 1) := by
  intro s r
  pointwise [k0_pay15, k0_pay11, k0_pay10, k0_pay13]
  simp only [h5 _ _, h3 _ _, lane1, ← EReal.coe_mul, sel_if]
  exact sS_sum 1 s r

/-- A row's new maximum. -/
def nm (S : ℕ → ℕ → ℝ) (μ : ℕ → ℝ) (r : ℕ) : ℝ :=
  (max ((μ r : ℝ) : EReal) ((Finset.univ : Finset (Fin 2048)).fold max ⊥ fun j : Fin 2048 => ((S j r : ℝ) : EReal))).toReal
theorem coe_nm (S : ℕ → ℕ → ℝ) (μ : ℕ → ℝ) (r : ℕ) :
    max ((μ r : ℝ) : EReal) ((Finset.univ : Finset (Fin 2048)).fold max ⊥ fun j : Fin 2048 => ((S j r : ℝ) : EReal)) = ((nm S μ r : ℝ) : EReal) := by
  refine (EReal.coe_toReal (ne_of_lt (max_lt (EReal.coe_lt_top _) ?_)) (ne_of_gt (lt_of_lt_of_le (EReal.bot_lt_coe _) (le_max_left _ _)))).symm
  exact (Finset.fold_max_lt _).2 ⟨bot_lt_top, fun j _ => EReal.coe_lt_top _⟩
/-- A row's new weighted sums. -/
def na (V S : ℕ → ℕ → ℝ) (μ : ℕ → ℝ) (A : ℕ → ℕ → ℝ) (l r : ℕ) : ℝ :=
  A l r * Real.rpow 2 (μ r - nm S μ r) + ∑ s ∈ Finset.range 2048, V s l * Real.rpow 2 (S s r - nm S μ r)

variable {y : Vec Ideal S1x1x1024 .f32} {z : Vec Ideal S1x128x1024 .f32} {μ : ℕ → ℝ} {A S : ℕ → ℕ → ℝ}

theorem fold_gen (st : FVec Ideal S2048x1024 .f32) (r : Fin 1024) :
    multiReduction .maximumf [0] S1024 st 0xFF800000#32 reduces_S2048x1024_S1024 (.inl rfl) rfl (ix1 r)
      = (Finset.univ : Finset (Fin 2048)).fold max (Ideal.ofBits .f32 0xFF800000#32) fun j : Fin 2048 => st (ix2 j r) := by
  pointwise
theorem cast_gen (v : FVec Ideal S1024 .f32) (r : Fin 1024) : shapeCast S1x1024 v shapeCasts_S1024_S1x1024 (ix2 (0 : Fin 1) r) = v (ix1 r) := by
  pointwise
theorem max0_gen (st : FVec Ideal S2048x1024 .f32) (y : FVec Ideal S1x1024 .f32) (r : Fin 1024) :
    maximumf y (shapeCast S1x1024 (multiReduction .maximumf [0] S1024 st 0xFF800000#32 reduces_S2048x1024_S1024 (.inl rfl) rfl) shapeCasts_S1024_S1x1024) (ix2 (0 : Fin 1) r)
      = max (y (ix2 (0 : Fin 1) r)) ((Finset.univ : Finset (Fin 2048)).fold max ⊥ fun j : Fin 2048 => st (ix2 j r)) :=
  congrArg (max (y (ix2 (0 : Fin 1) r)) : EReal → EReal) ((cast_gen _ r).trans ((fold_gen st r).trans (by rw [ofBits_bot])))
theorem acc_gen (st : FVec Ideal S2048x1024 .f32) (a b : FVec Ideal S1x1024 .f32) (x7 : Vec Ideal S2048x128 .bf16) (z : Vec Ideal S1x128x1024 .f32) (l : Fin 128) (r : Fin 1024) :
    k0_pay22 (k0_pay12 x7) st a b z (ix3 (0 : Fin 1) l r) = z (ix3 (0 : Fin 1) l r) * Ideal.exp2 (a (ix2 (0 : Fin 1) r) - b (ix2 (0 : Fin 1) r))
      + ∑ s : Fin 2048, x7 (ix2 s l) * Ideal.exp2 (st (ix2 s r) - b (ix2 (0 : Fin 1) r)) := by
  pointwise [k0_pay22, k0_pay12]
  rfl
theorem acc1_gen (st : FVec Ideal S2048x1024 .f32) (a : FVec Ideal S1x1024 .f32) (b : FVec Ideal S1024 .f32) (x7 : FVec Ideal S2048x128 .bf16) (z : Vec Ideal S1x128x1024 .f32) :
    k0_pay1 (k0_pay24 x7 st a b z) = k0_pay22 x7 st a (k0_pay20 a b) z := rfl

theorem row16 (r : Fin 1024) : k0_pay16 y (ix2 (0 : Fin 1) r) = y (ix3 (0 : Fin 1) (0 : Fin 1) r) := by pointwise [k0_pay16]
theorem row21 (x : FVec Ideal S1x1024 .f32) (r : Fin 1024) : k0_pay21 x (ix3 (0 : Fin 1) (0 : Fin 1) r) = x (ix2 (0 : Fin 1) r) := by pointwise [k0_pay21]

/-- Where the scores, the values, the running maximum and the running sums are real, the new maximum is, … -/
theorem nm_at {st : FVec Ideal S2048x1024 .f32} (hs : IsReal st S) (hy : ∀ r : Fin 1024, y (ix3 (0 : Fin 1) (0 : Fin 1) r) = ((μ r : ℝ) : EReal)) (r : Fin 1024) :
    maximumf (k0_pay16 y) (shapeCast S1x1024 (multiReduction .maximumf [0] S1024 st 0xFF800000#32 reduces_S2048x1024_S1024 (.inl rfl) rfl) shapeCasts_S1024_S1x1024) (ix2 (0 : Fin 1) r)
      = ((nm S μ r : ℝ) : EReal) := by
  rw [max0_gen, row16, hy]
  simp only [hs _ _]
  exact coe_nm S μ r
/-- … and the new sums are. -/
theorem na_at {st : FVec Ideal S2048x1024 .f32} {b : FVec Ideal S1x1024 .f32} (hs : IsReal st S) (h7 : IsReal x7 V)
    (hy : ∀ r : Fin 1024, y (ix3 (0 : Fin 1) (0 : Fin 1) r) = ((μ r : ℝ) : EReal)) (hb : ∀ r : Fin 1024, b (ix2 (0 : Fin 1) r) = ((nm S μ r : ℝ) : EReal))
    (hz : ∀ (l : Fin 128) (r : Fin 1024), z (ix3 (0 : Fin 1) l r) = ((A l r : ℝ) : EReal)) (l : Fin 128) (r : Fin 1024) :
    k0_pay22 (k0_pay12 x7) st (k0_pay16 y) b z (ix3 (0 : Fin 1) l r) = ((na V S μ A l r : ℝ) : EReal) := by
  rw [acc_gen, row16, hy, hb, hz]
  simp only [hs _ _, h7 _ _, ← EReal.coe_sub, Ideal.exp2_coe, ← EReal.coe_mul]
  rw [coe_sum_fin 2048 fun s => V s l.val * Real.rpow 2 (S s r.val - nm S μ r.val), ← EReal.coe_add]
  rfl

theorem o_gen (a b : Vec Ideal S1x128x1024 .f32) (r : Fin 1024) (l : Fin 128) : k0_pay6 a b (ix2 r l)
    = if l.val / 64 = 0 then Ideal.div (a (ix3 (0 : Fin 1) (⟨l.val % 64, by omega⟩ : Fin 128) r)) (a (ix3 (0 : Fin 1) (64 : Fin 128) r))
      else Ideal.div (b (ix3 (0 : Fin 1) (⟨l.val % 64, by omega⟩ : Fin 128) r)) (b (ix3 (0 : Fin 1) (64 : Fin 128) r)) := by
  pointwise [k0_pay6, k0_pay4, k0_pay5, k0_pay2, k0_pay3]
  have hl := l.isLt
  by_cases h : l.val < 64
  · rw [dif_pos h, if_pos (by omega), show (⟨l.val % 64, by omega⟩ : Fin 128) = l from Fin.ext (Nat.mod_eq_of_lt h)]
  · have e : (⟨l.val % 64, by omega⟩ : Fin 128) = ⟨l.val - 64, by omega⟩ := Fin.ext (by show l.val % 64 = l.val - 64; omega)
    refine (dif_neg h).trans (Eq.trans ?_ (if_neg (show ¬l.val / 64 = 0 by omega)).symm)
    exact congrArg (fun x => Ideal.div (b (ix3 (0 : Fin 1) x r)) (b (ix3 (0 : Fin 1) (64 : Fin 128) r))) e.symm
theorem lse0_gen (a b : Vec Ideal S1x128x1024 .f32) (y z : Vec Ideal S1x1x1024 .f32) (r : Fin 1024) : k0_pay7 a b y z (ix3 (0 : Fin 1) (0 : Fin 8) r)
    = y (ix3 (0 : Fin 1) (0 : Fin 1) r) + Ideal.log (a (ix3 (0 : Fin 1) (64 : Fin 128) r)) * (((Real.log 2)⁻¹ : ℝ) : EReal) := by
  pointwise [k0_pay7, k0_pay4, k0_pay5, k0_pay2, k0_pay3]
  rfl
theorem lse1_gen (a b : Vec Ideal S1x128x1024 .f32) (y z : Vec Ideal S1x1x1024 .f32) (r : Fin 1024) : k0_pay7 a b y z (ix3 (0 : Fin 1) (1 : Fin 8) r)
    = z (ix3 (0 : Fin 1) (0 : Fin 1) r) + Ideal.log (b (ix3 (0 : Fin 1) (64 : Fin 128) r)) * (((Real.log 2)⁻¹ : ℝ) : EReal) := by
  pointwise [k0_pay7, k0_pay4, k0_pay5, k0_pay2, k0_pay3]
  rfl

end Cert.FwdIdeal.Hand
-- ==== Proof.FwdIdeal.Value.lean ====
/- What the attention's forward call leaves in its scratch at each point of the grid: for some real number per row, the sums over the
   keys met so far of the weights taken relative to it. -/
module

public import proofs.«01_k».proof.Proof.FwdIdeal.Point
public import proofs.«01_k».proof.Proof.Operands
public import proofs.«01_k».proof.Proof.Gen.FwdIdeal.Frame
public import Idealize.ShloMosaic.Lib.Pipeline.ReadBack
public import Idealize.ShloMosaic.Lib.Pipeline.ValueKit
public import Idealize.ShloMosaic.Lib.Claim

@[expose] public section

set_option maxRecDepth 16384

noncomputable section

namespace Cert.FwdIdeal.Hand

open Cert.FwdIdeal Cert.FwdIdeal.Gen Cert.Attn Cert.Consts
open Cert.ReferenceIdeal.Hand (I32 IsReal)
open Cert.KernelIdeal.Hand (msk dupV dupV_at qsV qsV_at)
open Idealize.ShloMosaic TcCoe Tactic Idealize.SL.Sem

/-! ## The two halves of a scratch -/

section
variable {a b : ℕ} {X : Vec Ideal (⟨3, ![2, a, b]⟩ : Shape) .f32}

theorem ld_half (h : Fin 2) (inb) (x : Fin a) (y : Fin b) :
    View.ld X (Rect.unit (s := (⟨3, ![2, a, b]⟩ : Shape)) ![h.val, 0, 0] ![1, a, b] inb) (ix3 (0 : Fin 1) x y) = X (ix3 h x y) :=
  View.ld_unit_apply_of X _ _ inb _ _ fun d => by fin_cases d <;> simp [ix3]

theorem canon_one (inb1) (w1 : (⟨3, ![1, a, b]⟩ : Shape).Idx → EReal) (L : List (View.Piece (Elt Ideal) (⟨3, ![2, a, b]⟩ : Shape) .f32)) (x : Fin a) (y : Fin b) :
    View.canon (Val := Elt Ideal) (⟨Rect.unit (s := (⟨3, ![2, a, b]⟩ : Shape)) ![1, 0, 0] ![1, a, b] inb1, w1⟩ :: L) (ix3 (1 : Fin 2) x y) = w1 (ix3 (0 : Fin 1) x y) := by
  have e : ix3 (1 : Fin 2) x y = (Rect.unit (s := (⟨3, ![2, a, b]⟩ : Shape)) ![1, 0, 0] ![1, a, b] inb1).emb (ix3 (0 : Fin 1) x y) := by
    funext d; refine Fin.ext ?_; fin_cases d <;> simp [ix3, Rect.emb_apply]
  rw [e]
  exact View.canon_cons_emb (Rect.unit (s := (⟨3, ![2, a, b]⟩ : Shape)) ![1, 0, 0] ![1, a, b] inb1) w1 L _
theorem canon_zero (inb1 inb0) (w1 w0 : (⟨3, ![1, a, b]⟩ : Shape).Idx → EReal) (L : List (View.Piece (Elt Ideal) (⟨3, ![2, a, b]⟩ : Shape) .f32)) (x : Fin a) (y : Fin b) :
    View.canon (Val := Elt Ideal) (⟨Rect.unit (s := (⟨3, ![2, a, b]⟩ : Shape)) ![1, 0, 0] ![1, a, b] inb1, w1⟩ ::
      ⟨Rect.unit (s := (⟨3, ![2, a, b]⟩ : Shape)) ![0, 0, 0] ![1, a, b] inb0, w0⟩ :: L) (ix3 (0 : Fin 2) x y) = w0 (ix3 (0 : Fin 1) x y) := by
  have e : ix3 (0 : Fin 2) x y = (Rect.unit (s := (⟨3, ![2, a, b]⟩ : Shape)) ![0, 0, 0] ![1, a, b] inb0).emb (ix3 (0 : Fin 1) x y) := by
    funext d; refine Fin.ext ?_; fin_cases d <;> simp [ix3, Rect.emb_apply]
  refine (View.canon_cons_of_not_mem _ _ fun h => ?_).trans ?_
  · have hm : ∀ d : Fin 3, (![1, 0, 0] : Fin 3 → ℕ) d ≤ (ix3 (0 : Fin 2) x y d).val ∧ (ix3 (0 : Fin 2) x y d).val < (![1, 0, 0] : Fin 3 → ℕ) d + (![1, a, b] : Fin 3 → ℕ) d :=
      (Rect.mem_set_unit (inb := inb1)).1 h
    exact absurd (hm 0).1 (by simp [ix3])
  · rw [e]
    exact View.canon_cons_emb (Rect.unit (s := (⟨3, ![2, a, b]⟩ : Shape)) ![0, 0, 0] ![1, a, b] inb0) w0 L _
end

variable (m : (ℓ : Loc nD τ sig) → Buf (Elt Ideal) ℓ)

/-- The maximum's and the sums' scratch at a point, from their contents before it. -/
abbrev half1 (X : Vec Ideal S2x1x1024 .f32) (h : ℕ) (inb : ∀ d, (![h, 0, 0] : Fin 3 → ℕ) d + (![1, 1, 1024] : Fin 3 → ℕ) d ≤ S2x1x1024.size d) : Vec Ideal S1x1x1024 .f32 :=
  View.ld X (Rect.unit (s := S2x1x1024) ![h, 0, 0] ![1, 1, 1024] inb)
abbrev half128 (X : Vec Ideal S2x128x1024 .f32) (h : ℕ) (inb : ∀ d, (![h, 0, 0] : Fin 3 → ℕ) d + (![1, 128, 1024] : Fin 3 → ℕ) d ≤ S2x128x1024.size d) : Vec Ideal S1x128x1024 .f32 :=
  View.ld X (Rect.unit (s := S2x128x1024) ![h, 0, 0] ![1, 128, 1024] inb)
/-- The four halves a point stores. -/
def pm0 (c : Dev nD) (t : Fin cfg0.N) (X : Vec Ideal S2x1x1024 .f32) : Vec Ideal S1x1x1024 .f32 :=
  k0_pay21 (k0_pay18 (iblk m c 0 t) (iblk m c 1 t) (half1 X 0 inb_S2x1x1024_S1x1x1024_0_0_0))
def pm1 (c : Dev nD) (t : Fin cfg0.N) (X : Vec Ideal S2x1x1024 .f32) : Vec Ideal S1x1x1024 .f32 :=
  k0_pay23 (k0_pay17 (half1 X 1 inb_S2x1x1024_S1x1x1024_1_0_0)) (k0_pay19 (iblk m c 0 t) (iblk m c 1 t))
def pa0 (c : Dev nD) (t : Fin cfg0.N) (X : Vec Ideal S2x1x1024 .f32) (Y : Vec Ideal S2x128x1024 .f32) : Vec Ideal S1x128x1024 .f32 :=
  k0_pay22 (k0_pay12 (iblk m c 2 t)) (k0_pay14 (iblk m c 0 t) (iblk m c 1 t)) (k0_pay16 (half1 X 0 inb_S2x1x1024_S1x1x1024_0_0_0))
    (k0_pay18 (iblk m c 0 t) (iblk m c 1 t) (half1 X 0 inb_S2x1x1024_S1x1x1024_0_0_0)) (half128 Y 0 inb_S2x128x1024_S1x128x1024_0_0_0)
def pa1 (c : Dev nD) (t : Fin cfg0.N) (X : Vec Ideal S2x1x1024 .f32) (Y : Vec Ideal S2x128x1024 .f32) : Vec Ideal S1x128x1024 .f32 :=
  k0_pay1 (k0_pay24 (k0_pay12 (iblk m c 2 t)) (k0_pay15 (iblk m c 0 t) (iblk m c 1 t)) (k0_pay17 (half1 X 1 inb_S2x1x1024_S1x1x1024_1_0_0))
    (k0_pay19 (iblk m c 0 t) (iblk m c 1 t)) (half128 Y 1 inb_S2x128x1024_S1x128x1024_1_0_0))

/-- A scratch holding given halves. -/
def Has {a b : ℕ} (X : (⟨3, ![2, a, b]⟩ : Shape).Idx → EReal) (w0 w1 : (⟨3, ![1, a, b]⟩ : Shape).Idx → EReal) : Prop :=
  ∀ (x : Fin a) (y : Fin b), X (ix3 (0 : Fin 2) x y) = w0 (ix3 (0 : Fin 1) x y) ∧ X (ix3 (1 : Fin 2) x y) = w1 (ix3 (0 : Fin 1) x y)

theorem first (c : Dev nD) (n : ℕ) (hn : n < cfg0.N) (h : n % 4 = 0) :
    Has (outsAt0 m c n hn).2.2.1 (pm0 m c ⟨n, hn⟩ (k0_pay8 (F := Ideal))) (pm1 m c ⟨n, hn⟩ (k0_pay8 (F := Ideal)))
    ∧ Has (outsAt0 m c n hn).2.2.2 (pa0 m c ⟨n, hn⟩ (k0_pay8 (F := Ideal)) (k0_pay9 (F := Ideal))) (pa1 m c ⟨n, hn⟩ (k0_pay8 (F := Ideal)) (k0_pay9 (F := Ideal))) := by
  rw [outsAt0_A m c ⟨n, hn⟩ h (by dsimp only; omega)]
  constructor
  · intro x y
    frame_open
    simp (disch := decide) only [↓ View.readCov_skip, ↓ View.readCov_cons_toLoadRect, ↓ View.readCov_fill]
    frame_out
    exact ⟨canon_zero _ _ _ _ _ x y, canon_one _ _ _ x y⟩
  · intro x y
    frame_open
    simp (disch := decide) only [↓ View.readCov_skip, ↓ View.readCov_cons_toLoadRect, ↓ View.readCov_fill]
    frame_out
    exact ⟨canon_zero _ _ _ _ _ x y, canon_one _ _ _ x y⟩

theorem next (c : Dev nD) (n : ℕ) (hn : n + 1 < cfg0.N) (h : (n + 1) % 4 ≠ 0 ∧ (n + 1) % 4 ≠ 3) :
    Has (outsAt0 m c (n + 1) hn).2.2.1 (pm0 m c ⟨n + 1, hn⟩ (outsAt0 m c n (Nat.lt_of_succ_lt hn)).2.2.1) (pm1 m c ⟨n + 1, hn⟩ (outsAt0 m c n (Nat.lt_of_succ_lt hn)).2.2.1)
    ∧ Has (outsAt0 m c (n + 1) hn).2.2.2 (pa0 m c ⟨n + 1, hn⟩ (outsAt0 m c n (Nat.lt_of_succ_lt hn)).2.2.1 (outsAt0 m c n (Nat.lt_of_succ_lt hn)).2.2.2)
      (pa1 m c ⟨n + 1, hn⟩ (outsAt0 m c n (Nat.lt_of_succ_lt hn)).2.2.1 (outsAt0 m c n (Nat.lt_of_succ_lt hn)).2.2.2) := by
  rw [outsAt0_B m c ⟨n + 1, hn⟩ h.1 h.2]
  constructor
  · intro x y
    frame_open
    simp (disch := decide) only [↓ View.readCov_skip, ↓ View.readCov_cons_toLoadRect, ↓ View.readCov_fill]
    frame_out
    simp only [read_unread_whole]
    exact ⟨canon_zero _ _ _ _ _ x y, canon_one _ _ _ x y⟩
  · intro x y
    frame_open
    simp (disch := decide) only [↓ View.readCov_skip, ↓ View.readCov_cons_toLoadRect, ↓ View.readCov_fill]
    frame_out
    simp only [read_unread_whole]
    exact ⟨canon_zero _ _ _ _ _ x y, canon_one _ _ _ x y⟩
theorem last_o (c : Dev nD) (n : ℕ) (hn : n + 1 < cfg0.N) (h : (n + 1) % 4 = 3) :
    (outsAt0 m c (n + 1) hn).1 = k0_pay6 (pa0 m c ⟨n + 1, hn⟩ (outsAt0 m c n (Nat.lt_of_succ_lt hn)).2.2.1 (outsAt0 m c n (Nat.lt_of_succ_lt hn)).2.2.2)
      (pa1 m c ⟨n + 1, hn⟩ (outsAt0 m c n (Nat.lt_of_succ_lt hn)).2.2.1 (outsAt0 m c n (Nat.lt_of_succ_lt hn)).2.2.2) := by
  rw [outsAt0_C m c ⟨n + 1, hn⟩ (by dsimp only; omega) h]
  frame_open
  simp (disch := decide) only [↓ View.readCov_skip, ↓ View.readCov_cons_toLoadRect, ↓ View.readCov_fill]
  frame_out
  simp only [read_unread_whole]
  rfl
theorem last_l (c : Dev nD) (n : ℕ) (hn : n + 1 < cfg0.N) (h : (n + 1) % 4 = 3) :
    (outsAt0 m c (n + 1) hn).2.1 = k0_pay7 (pa0 m c ⟨n + 1, hn⟩ (outsAt0 m c n (Nat.lt_of_succ_lt hn)).2.2.1 (outsAt0 m c n (Nat.lt_of_succ_lt hn)).2.2.2)
      (pa1 m c ⟨n + 1, hn⟩ (outsAt0 m c n (Nat.lt_of_succ_lt hn)).2.2.1 (outsAt0 m c n (Nat.lt_of_succ_lt hn)).2.2.2)
      (pm0 m c ⟨n + 1, hn⟩ (outsAt0 m c n (Nat.lt_of_succ_lt hn)).2.2.1) (pm1 m c ⟨n + 1, hn⟩ (outsAt0 m c n (Nat.lt_of_succ_lt hn)).2.2.1) := by
  rw [outsAt0_C m c ⟨n + 1, hn⟩ (by dsimp only; omega) h]
  frame_open
  simp (disch := decide) only [↓ View.readCov_skip, ↓ View.readCov_cons_toLoadRect, ↓ View.readCov_fill]
  frame_out
  simp only [read_unread_whole]
  rfl

/-! ## The blocks a point reads -/

section
variable {m} {c : Dev nD} {q k v : ℕ → ℕ → ℝ}

abbrev A0 (m : (ℓ : Loc nD τ sig) → Buf (Elt Ideal) ℓ) (c : Dev nD) : I32 S8192x512 := m ((c.tc : Thread nD τ).loc main_arg0)
abbrev A1 (m : (ℓ : Loc nD τ sig) → Buf (Elt Ideal) ℓ) (c : Dev nD) : I32 S8192x128 := m ((c.tc : Thread nD τ).loc main_arg1)
abbrev A2 (m : (ℓ : Loc nD τ sig) → Buf (Elt Ideal) ℓ) (c : Dev nD) : I32 S8192x128 := m ((c.tc : Thread nD τ).loc main_arg2)

/-- The values' lanes beside lanes of ones. -/
def onesV (x : I32 S8192x128) : FVec Ideal S8192x256 .bf16 :=
  truncf .bf16 (concatenate S8192x256 1 [⟨S8192x64, extractStridedSlice S8192x64 ![0, 0] x slices_S8192x128_S8192x64_0_0⟩, ⟨S8192x64, broadcastInDim S8192x64 ![] bcast_S_S8192x64 (constant S_ .f32 0x3F800000#32)⟩,
    ⟨S8192x64, extractStridedSlice S8192x64 ![0, 64] x slices_S8192x128_S8192x64_0_64⟩, ⟨S8192x64, broadcastInDim S8192x64 ![] bcast_S_S8192x64 (constant S_ .f32 0x3F800000#32)⟩] concatenates_S8192x64_S8192x64_S8192x64_S8192x64_S8192x256_d1) bitsLt_bf16_f32

theorem V_k : V m c main_v6 = dupV (A1 m c) := by entry_read; try rfl
theorem V_v : V m c main_v10 = onesV (A2 m c) := by entry_read; try rfl
theorem V_q : V m c main_v15 = qsV (A0 m c) := by entry_read; try rfl

/-- Lane `l` of key `j`'s value block in group `e`: the values, then ones. -/
def vo (v : ℕ → ℕ → ℝ) (e j l : ℕ) : ℝ := if l < 64 then v j (64 * e + l) else 1

theorem onesV_at {a2 : I32 S8192x128} (h2 : IsReal a2 v) (r : Fin 8192) (l : Fin 256) : onesV a2 (ix2 r l) = ((vo v (l.val / 128) r (l.val % 128) : ℝ) : EReal) := by
  unfold onesV vo; pointwise
  simp only [h2 _ _]
  have hl := l.isLt
  by_cases p0 : l.val < 64
  · rw [dif_pos p0, if_pos (by omega), show 64 * (l.val / 128) + l.val % 128 = l.val by omega]
  rw [dif_neg p0]
  by_cases p1 : l.val - 64 < 64
  · rw [dif_pos p1, if_neg (by omega)]; rfl
  rw [dif_neg p1]
  by_cases p2 : l.val - 64 - 64 < 64
  · rw [dif_pos p2, if_pos (by omega), show 64 * (l.val / 128) + l.val % 128 = 64 + (l.val - 64 - 64) by omega]
  · rw [dif_neg p2, if_neg (by omega)]; rfl

theorem t_lt (t : Fin cfg0.N) : t.val < 128 := lt_of_lt_of_eq t.isLt N_0
theorem idx : ∀ t : Fin grid0.N, (win0_0.index t = ![t.val / 4 % 8, t.val / 32]) ∧ (win0_1.index t = ![t.val % 4, t.val / 64]) ∧ (win0_2.index t = ![t.val % 4, t.val / 64])
    ∧ (win0_3.index t = ![t.val / 4 % 8, t.val / 32]) ∧ (win0_4.index t = ![t.val / 32, 0, t.val / 4 % 8]) := by decide +kernel

theorem blk0 (t : Fin cfg0.N) (r : Fin 1024) (l : Fin 128) : iblk m c 0 t (ix2 r l)
    = V m c main_v15 (ix2 (⟨1024 * (t.val / 4 % 8) + r.val, by omega⟩ : Fin 8192) (⟨128 * (t.val / 32) + l.val, by have := t_lt t; omega⟩ : Fin 512)) := by
  blk_ext [iblk, idx t]
theorem blk1 (t : Fin cfg0.N) (r : Fin 2048) (l : Fin 128) : iblk m c 1 t (ix2 r l)
    = V m c main_v6 (ix2 (⟨2048 * (t.val % 4) + r.val, by omega⟩ : Fin 8192) (⟨128 * (t.val / 64) + l.val, by have := t_lt t; omega⟩ : Fin 256)) := by
  blk_ext [iblk, idx t]
theorem blk2 (t : Fin cfg0.N) (r : Fin 2048) (l : Fin 128) : iblk m c 2 t (ix2 r l)
    = V m c main_v10 (ix2 (⟨2048 * (t.val % 4) + r.val, by omega⟩ : Fin 8192) (⟨128 * (t.val / 64) + l.val, by have := t_lt t; omega⟩ : Fin 256)) := by
  blk_ext [iblk, idx t]

abbrev Qb (q : ℕ → ℕ → ℝ) (n r l : ℕ) : ℝ := q (1024 * (n / 4 % 8) + r) (256 * (n / 64) + 128 * (n / 32 % 2) + l) / Real.log 2
abbrev Kb (k : ℕ → ℕ → ℝ) (n s l : ℕ) : ℝ := k (2048 * (n % 4) + s) (64 * (n / 64) + l % 64)
abbrev Vb (v : ℕ → ℕ → ℝ) (n s l : ℕ) : ℝ := vo v (n / 64) (2048 * (n % 4) + s) l

theorem b0_at (h0 : IsReal (A0 m c) q) (t : Fin cfg0.N) : IsReal (show Vec Ideal S1024x128 .bf16 from iblk m c 0 t) (Qb q t.val) := by
  intro r l
  refine (blk0 (m := m) (c := c) t r l).trans ?_
  rw [V_q, qsV_at h0]
  dsimp only
  rw [show 128 * (t.val / 32) + l.val = 256 * (t.val / 64) + 128 * (t.val / 32 % 2) + l.val by omega]
theorem b1_at (h1 : IsReal (A1 m c) k) (t : Fin cfg0.N) : IsReal (show Vec Ideal S2048x128 .bf16 from iblk m c 1 t) (Kb k t.val) := by
  intro r l
  have hl := l.isLt
  refine (blk1 (m := m) (c := c) t r l).trans ?_
  rw [V_k, dupV_at h1]
  dsimp only
  rw [show 64 * ((128 * (t.val / 64) + l.val) / 128) + (128 * (t.val / 64) + l.val) % 64 = 64 * (t.val / 64) + l.val % 64 by omega]
theorem b2_at (h2 : IsReal (A2 m c) v) (t : Fin cfg0.N) : IsReal (show Vec Ideal S2048x128 .bf16 from iblk m c 2 t) (Vb v t.val) := by
  intro r l
  have hl := l.isLt
  refine (blk2 (m := m) (c := c) t r l).trans ?_
  rw [V_v, onesV_at h2]
  dsimp only
  rw [show (128 * (t.val / 64) + l.val) / 128 = t.val / 64 by omega, show (128 * (t.val / 64) + l.val) % 128 = l.val by omega]
end

end Cert.FwdIdeal.Hand
-- ==== Proof.FwdIdeal.Online.lean ====
/- The attention's softmax taken a block of keys at a time: weights relative to any real number give the same quotient, and changing the
   number rescales the sums. -/
module

public import proofs.«01_k».proof.Proof.FwdIdeal.Value

@[expose] public section

set_option maxRecDepth 16384

noncomputable section

namespace Cert.FwdIdeal.Hand

open Cert.FwdIdeal Cert.FwdIdeal.Gen Cert.Attn Cert.Consts
open Cert.ReferenceIdeal.Hand (I32 IsReal)
open Idealize.ShloMosaic TcCoe Tactic Idealize.SL.Sem

/-! ## Over the reals -/

section
variable (q k v : ℕ → ℕ → ℝ)

/-- The first `N` keys' weighted sum in lane `l`, relative to `μ`. -/
def ws (e g i : ℕ) (μ : ℝ) (N l : ℕ) : ℝ := ∑ j ∈ Finset.range N, vo v e j l * Real.rpow 2 (sc q k e g i j / Real.log 2 - μ)

theorem ws_add (e g i : ℕ) (μ ν : ℝ) (N l : ℕ) :
    ws q k v e g i μ N l * Real.rpow 2 (μ - ν) + ∑ s ∈ Finset.range 2048, vo v e (N + s) l * Real.rpow 2 (sc q k e g i (N + s) / Real.log 2 - ν)
      = ws q k v e g i ν (N + 2048) l := by
  unfold ws
  rw [Finset.sum_range_add, Finset.sum_mul]
  congr 1
  refine Finset.sum_congr rfl fun j _ => ?_
  rw [mul_assoc]
  congr 1
  simp only [Real.rpow_eq_pow]
  rw [← Real.rpow_add (by norm_num)]
  congr 1
  ring

theorem weight (e g i j : ℕ) (μ : ℝ) :
    Real.rpow 2 (sc q k e g i j / Real.log 2 - μ) = ex q k e g i j * Real.rpow 2 (mx q k e g i / Real.log 2 - μ) := by
  have h2 := log2_pos.ne'
  unfold ex
  simp only [Real.rpow_eq_pow]
  rw [Real.rpow_def_of_pos (by norm_num), Real.rpow_def_of_pos (by norm_num), ← Real.exp_add]
  congr 1
  field_simp
  ring
theorem ws_one (e g i : ℕ) (μ : ℝ) : ws q k v e g i μ 8192 64 = sm q k e g i * Real.rpow 2 (mx q k e g i / Real.log 2 - μ) := by
  unfold ws sm
  rw [Finset.sum_mul]
  refine Finset.sum_congr rfl fun j _ => ?_
  rw [weight, vo, if_neg (by norm_num), one_mul]
theorem rpow_pos (x : ℝ) : 0 < Real.rpow 2 x := Real.rpow_pos_of_pos (by norm_num) x
theorem ws_pos (e g i : ℕ) (μ : ℝ) : 0 < ws q k v e g i μ 8192 64 := by
  rw [ws_one]; exact mul_pos (sm_pos ..) (rpow_pos _)
theorem ws_ao (e g i : ℕ) (μ : ℝ) (d : ℕ) (hd : d < 64) : ws q k v e g i μ 8192 d / ws q k v e g i μ 8192 64 = ao q k v i e g d := by
  rw [ws_one, div_eq_iff (mul_pos (sm_pos ..) (rpow_pos _)).ne']
  unfold ws ao
  rw [Finset.sum_mul]
  refine Finset.sum_congr rfl fun j _ => ?_
  rw [weight, vo, if_pos hd]
  unfold pr
  have hs := (sm_pos q k e g i).ne'
  field_simp
theorem ws_lse (e g i : ℕ) (μ : ℝ) :
    μ + Real.log (ws q k v e g i μ 8192 64) * (Real.log 2)⁻¹ = (mx q k e g i + Real.log (sm q k e g i)) / Real.log 2 := by
  have h2 := log2_pos.ne'
  rw [ws_one, Real.log_mul (sm_pos ..).ne' (rpow_pos _).ne', Real.rpow_eq_pow, Real.log_rpow (by norm_num)]
  field_simp
  ring
end

/-! ## What the scratch holds -/

variable {m : (ℓ : Loc nD τ sig) → Buf (Elt Ideal) ℓ} {c : Dev nD} {q k v : ℕ → ℕ → ℝ}

theorem cst_real : ∃ r : ℝ, Ideal.ofBits .f32 0xF149F2CA#32 = (r : EReal) := by
  simp [Ideal.ofBits, Ideal.ieee]
  exact ⟨_, rfl⟩
theorem pay8_at : ∃ r : ℝ, ∀ y : S2x1x1024.Idx, k0_pay8 (F := Ideal) y = (r : EReal) := by
  obtain ⟨r, hr⟩ := cst_real
  exact ⟨r, fun y => hr⟩
theorem pay9_at (y : S2x128x1024.Idx) : k0_pay9 (F := Ideal) y = ((0 : ℝ) : EReal) := by
  unfold k0_pay9; pointwise
  rfl

/-- The scores of a point, of head `h` of its two. -/
abbrev T (q k : ℕ → ℕ → ℝ) (n h r j : ℕ) : ℝ := sc q k (n / 64) (2 * (n / 32 % 2) + h) (1024 * (n / 4 % 8) + r) j

theorem sS_T (n h s r : ℕ) (hh : h < 2) : sS (Kb k n) (Qb q n) h s r = T q k n h r (2048 * (n % 4) + s) / Real.log 2 := by
  unfold sS
  exact sc_dup q k (n / 64) (n / 32 % 2) h (1024 * (n / 4 % 8) + r) (2048 * (n % 4) + s) hh

/-- The maxima and the sums before a point are real. -/
def Was (X : Vec Ideal S2x1x1024 .f32) (Y : Vec Ideal S2x128x1024 .f32) (μ : ℕ → ℕ → ℝ) (A : ℕ → ℕ → ℕ → ℝ) : Prop :=
  (∀ (h : Fin 2) (r : Fin 1024), X (ix3 h (0 : Fin 1) r) = ((μ h r : ℝ) : EReal)) ∧ ∀ (h : Fin 2) (l : Fin 128) (r : Fin 1024), Y (ix3 h l r) = ((A h l r : ℝ) : EReal)

section
variable {X : Vec Ideal S2x1x1024 .f32} {Y : Vec Ideal S2x128x1024 .f32} {μ : ℕ → ℕ → ℝ} {A : ℕ → ℕ → ℕ → ℝ} (h0 : IsReal (A0 m c) q) (h1 : IsReal (A1 m c) k) (h2 : IsReal (A2 m c) v)
  (hX : Was X Y μ A) (t : Fin cfg0.N)
include h0 h1 hX

abbrev nS (q k : ℕ → ℕ → ℝ) (n h : ℕ) (μ : ℕ → ℕ → ℝ) : ℕ → ℝ := nm (sS (Kb k n) (Qb q n) h) (μ h)

theorem half1_at (h : Fin 2) (inb) (r : Fin 1024) : half1 X h.val inb (ix3 (0 : Fin 1) (0 : Fin 1) r) = ((μ h r : ℝ) : EReal) :=
  (ld_half h inb 0 r).trans (hX.1 h r)
theorem half128_at (h : Fin 2) (inb) (l : Fin 128) (r : Fin 1024) : half128 Y h.val inb (ix3 (0 : Fin 1) l r) = ((A h l r : ℝ) : EReal) :=
  (ld_half h inb l r).trans (hX.2 h l r)

theorem pay18_at (r : Fin 1024) : k0_pay18 (iblk m c 0 t) (iblk m c 1 t) (half1 X 0 inb_S2x1x1024_S1x1x1024_0_0_0) (ix2 (0 : Fin 1) r) = ((nS q k t.val 0 μ r : ℝ) : EReal) :=
  nm_at (s0_at (b1_at h1 t) (b0_at h0 t)) (half1_at h0 h1 hX 0 _) r
theorem pay20_at (r : Fin 1024) : k0_pay20 (k0_pay17 (half1 X 1 inb_S2x1x1024_S1x1x1024_1_0_0)) (k0_pay19 (iblk m c 0 t) (iblk m c 1 t)) (ix2 (0 : Fin 1) r) = ((nS q k t.val 1 μ r : ℝ) : EReal) :=
  nm_at (s1_at (b1_at h1 t) (b0_at h0 t)) (half1_at h0 h1 hX 1 _) r
theorem pm0_at (r : Fin 1024) : pm0 m c t X (ix3 (0 : Fin 1) (0 : Fin 1) r) = ((nS q k t.val 0 μ r : ℝ) : EReal) :=
  (row21 _ r).trans (pay18_at h0 h1 hX t r)
theorem pm1_at (r : Fin 1024) : pm1 m c t X (ix3 (0 : Fin 1) (0 : Fin 1) r) = ((nS q k t.val 1 μ r : ℝ) : EReal) :=
  (row21 _ r).trans (pay20_at h0 h1 hX t r)
include h2
theorem pa0_at (l : Fin 128) (r : Fin 1024) :
    pa0 m c t X Y (ix3 (0 : Fin 1) l r) = ((na (Vb v t.val) (sS (Kb k t.val) (Qb q t.val) 0) (μ 0) (A 0) l r : ℝ) : EReal) :=
  na_at (s0_at (b1_at h1 t) (b0_at h0 t)) (b2_at h2 t) (half1_at h0 h1 hX 0 _) (pay18_at h0 h1 hX t) (half128_at h0 h1 hX 0 _) l r
theorem pa1_at (l : Fin 128) (r : Fin 1024) :
    pa1 m c t X Y (ix3 (0 : Fin 1) l r) = ((na (Vb v t.val) (sS (Kb k t.val) (Qb q t.val) 1) (μ 1) (A 1) l r : ℝ) : EReal) :=
  (congrFun (acc1_gen _ _ _ _ _) _).trans
    (na_at (s1_at (b1_at h1 t) (b0_at h0 t)) (b2_at h2 t) (half1_at h0 h1 hX 1 _) (pay20_at h0 h1 hX t) (half128_at h0 h1 hX 1 _) l r)
end

/-- The sums over the keys met up to and with point `n`. -/
abbrev upTo (q k v : ℕ → ℕ → ℝ) (n : ℕ) (μ : ℕ → ℕ → ℝ) (N : ℕ) : ℕ → ℕ → ℕ → ℝ :=
  fun h l r => ws q k v (n / 64) (2 * (n / 32 % 2) + h) (1024 * (n / 4 % 8) + r) (μ h r) N l

theorem na_ws (n h l r : ℕ) (hh : h < 2) (μ : ℕ → ℕ → ℝ) :
    na (Vb v n) (sS (Kb k n) (Qb q n) h) (μ h) (upTo q k v n μ (2048 * (n % 4)) h) l r = upTo q k v n (fun h => nS q k n h μ) (2048 * (n % 4) + 2048) h l r := by
  unfold na
  refine Eq.trans ?_ (ws_add q k v _ _ _ (μ h r) _ _ _)
  congr 1
  refine Finset.sum_congr rfl fun s _ => ?_
  rw [sS_T n h s r hh]

/-- What the stored halves of a point are, as `Was`. -/
theorem was_of {M : Vec Ideal S2x1x1024 .f32} {Z : Vec Ideal S2x128x1024 .f32} {w0 w1 z0 z1} {μ : ℕ → ℕ → ℝ} {A : ℕ → ℕ → ℕ → ℝ}
    (hM : Has M w0 w1) (hZ : Has Z z0 z1)
    (e0 : ∀ r : Fin 1024, w0 (ix3 (0 : Fin 1) (0 : Fin 1) r) = ((μ 0 r : ℝ) : EReal)) (e1 : ∀ r : Fin 1024, w1 (ix3 (0 : Fin 1) (0 : Fin 1) r) = ((μ 1 r : ℝ) : EReal))
    (f0 : ∀ (l : Fin 128) (r : Fin 1024), z0 (ix3 (0 : Fin 1) l r) = ((A 0 l r : ℝ) : EReal)) (f1 : ∀ (l : Fin 128) (r : Fin 1024), z1 (ix3 (0 : Fin 1) l r) = ((A 1 l r : ℝ) : EReal)) :
    Was M Z μ A := by
  constructor
  · intro h r
    fin_cases h
    · exact (hM 0 r).1.trans (e0 r)
    · exact (hM 0 r).2.trans (e1 r)
  · intro h l r
    fin_cases h
    · exact (hZ l r).1.trans (f0 l r)
    · exact (hZ l r).2.trans (f1 l r)

/-- One point's step: from sums over the keys before it to the sums with its own. -/
theorem step (h0 : IsReal (A0 m c) q) (h1 : IsReal (A1 m c) k) (h2 : IsReal (A2 m c) v) {X M : Vec Ideal S2x1x1024 .f32} {Y Z : Vec Ideal S2x128x1024 .f32} {μ : ℕ → ℕ → ℝ}
    (t : Fin cfg0.N) (hX : Was X Y μ (upTo q k v t.val μ (2048 * (t.val % 4)))) (hM : Has M (pm0 m c t X) (pm1 m c t X)) (hZ : Has Z (pa0 m c t X Y) (pa1 m c t X Y)) :
    Was M Z (fun h => nS q k t.val h μ) (upTo q k v t.val (fun h => nS q k t.val h μ) (2048 * (t.val % 4) + 2048)) :=
  was_of hM hZ (pm0_at h0 h1 hX t) (pm1_at h0 h1 hX t)
    (fun l r => (pa0_at h0 h1 h2 hX t l r).trans (congrArg (fun x : ℝ => (x : EReal)) (na_ws t.val 0 l r (by norm_num) μ)))
    (fun l r => (pa1_at h0 h1 h2 hX t l r).trans (congrArg (fun x : ℝ => (x : EReal)) (na_ws t.val 1 l r (by norm_num) μ)))

theorem was_start (n : ℕ) (h : n % 4 = 0) : ∃ μ, Was (k0_pay8 (F := Ideal)) (k0_pay9 (F := Ideal)) μ (upTo q k v n μ (2048 * (n % 4))) := by
  obtain ⟨r, hr⟩ := pay8_at
  refine ⟨fun _ _ => r, fun _ _ => hr _, fun _ _ _ => (pay9_at _).trans ?_⟩
  rw [h]
  simp [upTo, ws]

theorem inv (h0 : IsReal (A0 m c) q) (h1 : IsReal (A1 m c) k) (h2 : IsReal (A2 m c) v) : ∀ (n : ℕ) (hn : n < cfg0.N), n % 4 ≠ 3 →
    ∃ μ, Was (outsAt0 m c n hn).2.2.1 (outsAt0 m c n hn).2.2.2 μ (upTo q k v n μ (2048 * (n % 4) + 2048)) := by
  intro n
  induction n with
  | zero =>
    intro hn _
    obtain ⟨μ, hμ⟩ := was_start (q := q) (k := k) (v := v) 0 rfl
    exact ⟨_, step h0 h1 h2 ⟨0, hn⟩ hμ (first m c 0 hn rfl).1 (first m c 0 hn rfl).2⟩
  | succ n ih =>
    intro hn h3
    by_cases h : (n + 1) % 4 = 0
    · obtain ⟨μ, hμ⟩ := was_start (q := q) (k := k) (v := v) (n + 1) h
      exact ⟨_, step h0 h1 h2 ⟨n + 1, hn⟩ hμ (first m c (n + 1) hn h).1 (first m c (n + 1) hn h).2⟩
    · obtain ⟨μ, hμ⟩ := ih (Nat.lt_of_succ_lt hn) (by omega)
      have e := next m c n hn ⟨h, h3⟩
      refine ⟨_, step h0 h1 h2 ⟨n + 1, hn⟩ (μ := μ) ?_ e.1 e.2⟩
      dsimp only
      rw [show upTo q k v (n + 1) μ (2048 * ((n + 1) % 4)) = upTo q k v n μ (2048 * (n % 4) + 2048) by
        unfold upTo
        rw [show (n + 1) / 64 = n / 64 by omega, show (n + 1) / 32 = n / 32 by omega, show (n + 1) / 4 = n / 4 by omega, show 2048 * ((n + 1) % 4) = 2048 * (n % 4) + 2048 by omega]]
      exact hμ

/-! ## What a row of points leaves -/

theorem lse_gen (a b : Vec Ideal S1x128x1024 .f32) (y z : Vec Ideal S1x1x1024 .f32) (h : Fin 8) (hh : 2 ≤ h.val) (r : Fin 1024) :
    k0_pay7 a b y z (ix3 (0 : Fin 1) h r) = 0 := by
  pointwise [k0_pay7, k0_pay4, k0_pay5, k0_pay2, k0_pay3]
  rw [dif_neg (by omega), dif_neg (by omega)]

/-- The log-sums' array: two rows to a pair of heads, then zeros. -/
def lseR (q k : ℕ → ℕ → ℝ) (a h i : ℕ) : ℝ :=
  if h < 2 then (mx q k (a / 2) (2 * (a % 2) + h) i + Real.log (sm q k (a / 2) (2 * (a % 2) + h) i)) / Real.log 2 else 0

theorem lsum (e g i : ℕ) (μ : ℝ) : ((μ : ℝ) : EReal) + Ideal.log ((ws q k v e g i μ 8192 64 : ℝ) : EReal) * (((Real.log 2)⁻¹ : ℝ) : EReal)
    = (((mx q k e g i + Real.log (sm q k e g i)) / Real.log 2 : ℝ) : EReal) := by
  rw [log_real (ws_pos ..), ← EReal.coe_mul, ← EReal.coe_add, ws_lse]

section
variable (h0 : IsReal (A0 m c) q) (h1 : IsReal (A1 m c) k) (h2 : IsReal (A2 m c) v) (n : ℕ) (hn : n + 1 < cfg0.N) (h : (n + 1) % 4 = 3)
include h0 h1 h2 h

/-- The last point's four halves. -/
theorem fin : ∃ ν : ℕ → ℕ → ℝ, ∀ r : Fin 1024,
    pm0 m c ⟨n + 1, hn⟩ (outsAt0 m c n (Nat.lt_of_succ_lt hn)).2.2.1 (ix3 (0 : Fin 1) (0 : Fin 1) r) = ((ν 0 r : ℝ) : EReal)
    ∧ pm1 m c ⟨n + 1, hn⟩ (outsAt0 m c n (Nat.lt_of_succ_lt hn)).2.2.1 (ix3 (0 : Fin 1) (0 : Fin 1) r) = ((ν 1 r : ℝ) : EReal)
    ∧ ∀ l : Fin 128, pa0 m c ⟨n + 1, hn⟩ (outsAt0 m c n (Nat.lt_of_succ_lt hn)).2.2.1 (outsAt0 m c n (Nat.lt_of_succ_lt hn)).2.2.2 (ix3 (0 : Fin 1) l r) = ((upTo q k v (n + 1) ν 8192 0 l r : ℝ) : EReal)
      ∧ pa1 m c ⟨n + 1, hn⟩ (outsAt0 m c n (Nat.lt_of_succ_lt hn)).2.2.1 (outsAt0 m c n (Nat.lt_of_succ_lt hn)).2.2.2 (ix3 (0 : Fin 1) l r) = ((upTo q k v (n + 1) ν 8192 1 l r : ℝ) : EReal) := by
  obtain ⟨μ, hμ⟩ := inv h0 h1 h2 n (Nat.lt_of_succ_lt hn) (by omega)
  rw [show upTo q k v n μ (2048 * (n % 4) + 2048) = upTo q k v (n + 1) μ (2048 * ((n + 1) % 4)) by
    unfold upTo
    rw [show (n + 1) / 64 = n / 64 by omega, show (n + 1) / 32 = n / 32 by omega, show (n + 1) / 4 = n / 4 by omega, show 2048 * ((n + 1) % 4) = 2048 * (n % 4) + 2048 by omega]] at hμ
  have e := fun j l r hj => na_ws (q := q) (k := k) (v := v) (n + 1) j l r hj μ
  rw [show 2048 * ((n + 1) % 4) + 2048 = 8192 by omega] at e
  exact ⟨fun h => nS q k (n + 1) h μ, fun r => ⟨pm0_at h0 h1 hμ ⟨n + 1, hn⟩ r, pm1_at h0 h1 hμ ⟨n + 1, hn⟩ r, fun l =>
    ⟨(pa0_at h0 h1 h2 hμ ⟨n + 1, hn⟩ l r).trans (congrArg (fun x : ℝ => (x : EReal)) (e 0 l r (by norm_num))),
      (pa1_at h0 h1 h2 hμ ⟨n + 1, hn⟩ l r).trans (congrArg (fun x : ℝ => (x : EReal)) (e 1 l r (by norm_num)))⟩⟩⟩

theorem o_last (r : Fin 1024) (l : Fin 128) : (outsAt0 m c (n + 1) hn).1 (ix2 r l)
    = ((ao q k v (1024 * ((n + 1) / 4 % 8) + r) ((n + 1) / 64) (2 * ((n + 1) / 32 % 2) + l.val / 64) (l.val % 64) : ℝ) : EReal) := by
  obtain ⟨ν, hν⟩ := fin h0 h1 h2 n hn h
  rw [last_o m c n hn h, o_gen]
  have hl := l.isLt
  by_cases p : l.val / 64 = 0
  · rw [if_pos p, ((hν r).2.2 _).1, ((hν r).2.2 _).1, p]
    exact (div_real _ (ws_pos ..).ne').trans (congrArg (fun x : ℝ => (x : EReal)) (ws_ao q k v _ _ _ _ _ (by dsimp only; omega)))
  · rw [if_neg p, ((hν r).2.2 _).2, ((hν r).2.2 _).2, show l.val / 64 = 1 by omega]
    exact (div_real _ (ws_pos ..).ne').trans (congrArg (fun x : ℝ => (x : EReal)) (ws_ao q k v _ _ _ _ _ (by dsimp only; omega)))

theorem l_last (x : Fin 8) (r : Fin 1024) : (outsAt0 m c (n + 1) hn).2.1 (ix3 (0 : Fin 1) x r)
    = ((lseR q k ((n + 1) / 32) x (1024 * ((n + 1) / 4 % 8) + r) : ℝ) : EReal) := by
  obtain ⟨ν, hν⟩ := fin h0 h1 h2 n hn h
  rw [last_l m c n hn h]
  unfold lseR
  rw [show (n + 1) / 32 / 2 = (n + 1) / 64 by omega]
  by_cases p : x.val < 2
  · rw [if_pos p]
    by_cases p0 : x.val = 0
    · obtain rfl : x = 0 := Fin.ext p0
      rw [lse0_gen, (hν r).1, ((hν r).2.2 _).1]
      exact lsum ..
    · obtain rfl : x = 1 := Fin.ext (show x.val = 1 by omega)
      rw [lse1_gen, (hν r).2.1, ((hν r).2.2 _).2]
      exact lsum ..
  · rw [if_neg p, lse_gen _ _ _ _ _ (by omega)]
    rfl
end

/-! ## The arrays -/

section
variable (h0 : IsReal (A0 m c) q) (h1 : IsReal (A1 m c) k) (h2 : IsReal (A2 m c) v)
include h0 h1 h2

theorem arr3 : (dats m 0 c).arrAt 3 (cfgs 0).N
    = fun y : S8192x512.Idx => ((ao q k v (y 0).val ((y 1).val / 256) ((y 1).val / 64 % 4) ((y 1).val % 64) : ℝ) : EReal) := by
  refine (dats m 0 c).arrAt_eq_of_covers 3 _ (by decide +kernel) fun t hf y => ?_
  have hm := (flush0_3 t).1 hf
  have hN := t_lt t
  obtain ⟨n, hn⟩ : ∃ n, t.val = n + 1 := ⟨t.val - 1, by omega⟩
  obtain ⟨t, ht⟩ := t
  dsimp only at hn hm hN
  subst hn
  have hl : (y 1).val < 128 := (y 1).isLt
  rw [after0_3]
  refine (congrArg _ (eq_ix2 (n0 := 1024) (n1 := 128) y)).trans ((o_last h0 h1 h2 n ht (by omega) (y 0) (y 1)).trans ?_)
  blk_simp [idx ⟨n + 1, ht⟩]
  dsimp only
  rw [show (n + 1) / 4 % 8 * 1024 = 1024 * ((n + 1) / 4 % 8) by omega, show ((n + 1) / 32 * 128 + (y 1).val) / 256 = (n + 1) / 64 by omega,
    show ((n + 1) / 32 * 128 + (y 1).val) / 64 % 4 = 2 * ((n + 1) / 32 % 2) + (y 1).val / 64 by omega, show ((n + 1) / 32 * 128 + (y 1).val) % 64 = (y 1).val % 64 by omega]
theorem arr4 : (dats m 0 c).arrAt 4 (cfgs 0).N = fun y : S4x8x8192.Idx => ((lseR q k (y 0) (y 1) (y 2) : ℝ) : EReal) := by
  refine (dats m 0 c).arrAt_eq_of_covers 4 _ (by decide +kernel) fun t hf y => ?_
  have hm := (flush0_4 t).1 hf
  have hN := t_lt t
  obtain ⟨n, hn⟩ : ∃ n, t.val = n + 1 := ⟨t.val - 1, by omega⟩
  obtain ⟨t, ht⟩ := t
  dsimp only at hn hm hN
  subst hn
  have hl : (y 1).val < 8 := (y 1).isLt
  rw [after0_4]
  have hy : y = ix3 (0 : Fin 1) (y 1) (y 2) := by
    funext d; fin_cases d
    · exact Subsingleton.elim (α := Fin 1) _ _
    · rfl
    · rfl
  refine (congrArg _ hy).trans ((l_last h0 h1 h2 n ht (by omega) (y 1) (y 2)).trans ?_)
  blk_simp [idx ⟨n + 1, ht⟩]
  dsimp only
  rw [show (n + 1) / 4 % 8 * 1024 = 1024 * ((n + 1) / 4 % 8) by omega]
end

end Cert.FwdIdeal.Hand
-- ==== Proof.FwdIdeal.Algebraic.lean ====
/- Hand-written, untrusted. The forward call's two results are the reference's, where the arguments are finite. -/
module

public import proofs.«01_k».proof.Defs
public import proofs.«01_k».proof.Proof.Algebraic
public import proofs.«01_k».proof.Proof.FwdIdeal.Finite
public import proofs.«01_k».proof.Proof.FwdIdeal.Online
public import proofs.«01_k».proof.Proof.Gen.FwdReferenceIdeal.Run

@[expose] public section

set_option maxRecDepth 16384

noncomputable section

namespace Cert.FwdIdeal.Hand

open Cert.FwdIdeal Cert.FwdIdeal.Gen Cert.Attn
open Cert.ReferenceIdeal.Hand (I32 IsReal)
open Cert.KernelIdeal.Hand (OutV LseV OutV_at LseV_at)
open Idealize.ShloMosaic Idealize.ShloMosaic.TcCoe Idealize.ShloMosaic.Tactic Idealize.SL.Sem

variable (m : (ℓ : Loc nD τ sig) → Buf (Elt Ideal) ℓ)

/-- The reference's results. -/
abbrev REFo (a0 : I32 S8192x512) (a1 a2 : I32 S8192x128) : I32 S8192x512 := OutV a0 a1 a2
abbrev REFl (a0 : I32 S8192x512) (a1 : I32 S8192x128) : I32 S8x8192 := shapeCast _ (LseV a0 a1) Cert.FwdReferenceIdeal.Gen.shapeCasts_S2x4x8192_S8x8192

theorem tail_l (c : Dev nD) : Pipeline.afterTail₀ cfgs (dats m) 0 (V0 m) [hostOps1] c main_v18
    = shapeCast S8x8192 (extractStridedSlice S4x2x8192 ![0, 0, 0] ((dats m 0 c).arrAt 4 (cfgs 0).N) slices_S4x8x8192_S4x2x8192_0_0_0) shapeCasts_S4x2x8192_S8x8192 := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v16_1)
      = (dats m 0 c).arrAt 4 cfg0.N := Pipeline.withArrays_arr spec0 (by decide) c _ _ 4
  rw [e]
  rfl

variable {m} {c : Dev nD} {q k v : ℕ → ℕ → ℝ}

theorem res_o (h0 : IsReal (A0 m c) q) (h1 : IsReal (A1 m c) k) (h2 : IsReal (A2 m c) v) :
    (dats m 0 c).arrAt 3 (cfgs 0).N = REFo (A0 m c) (A1 m c) (A2 m c) := by
  rw [arr3 h0 h1 h2]
  refine Cert.Hand.IsReal.ext (f := fun i l => ao q k v i (l / 256) (l / 64 % 4) (l % 64)) (fun i l => rfl) (fun i l => OutV_at h0 h1 h2 i l)
theorem res_l (h0 : IsReal (A0 m c) q) (h1 : IsReal (A1 m c) k) (h2 : IsReal (A2 m c) v) :
    Pipeline.afterTail₀ cfgs (dats m) 0 (V0 m) [hostOps1] c main_v18 = REFl (A0 m c) (A1 m c) := by
  rw [tail_l, arr4 h0 h1 h2]
  refine Cert.Hand.IsReal.ext (f := fun a i => (mx q k (a / 4) (a % 4) i + Real.log (sm q k (a / 4) (a % 4) i)) / Real.log 2) (fun a i => ?_) (fun a i => ?_)
  · have ha := a.isLt
    pointwise
    unfold lseR
    rw [if_pos (by omega), show a.val / 2 / 2 = a.val / 4 by omega, show 2 * (a.val / 2 % 2) + a.val % 2 = a.val % 4 by omega]
  · unfold REFl
    pointwise
    exact LseV_at h0 h1 _ _ _

theorem algebraic : Cert.algebraic_FwdIdeal_FwdReferenceIdeal_pre_finite_qkv (hPre_finite_qkv := Cert.Pre_finite_qkv.Hand.facts) := by
  intro m g m' g' hpre hagree
  refine ⟨fun c => REFo (A0 m c) (A1 m c) (A2 m c), fun c => REFl (A0 m c) (A1 m c), ?_, ?_⟩
  · refine (θ_run defs _ _).mono (fun r h c => ?_) (θ_run_and (run_main m g) (unchanged m g))
    obtain ⟨⟨q, h0⟩, ⟨k, h1⟩, ⟨v, h2⟩⟩ := Cert.Pre_finite_qkv.Hand.reals _ _ _ (hpre c)
    exact ⟨((h.1 c).1 3).trans (res_o h0 h1 h2), ((h.1 c).2 main_v18 (by decide)).trans (res_l h0 h1 h2), h.2 c⟩
  · refine (θ_run Cert.FwdReferenceIdeal.defs _ _).mono (fun r h c => ?_) (Cert.FwdReferenceIdeal.Value.run (F := Ideal) m' g')
    obtain ⟨r0, r1, ra⟩ := h c
    obtain ⟨e0, e1, e2⟩ := hagree c
    rw [e0, e1, e2] at r0
    rw [e0, e1] at r1
    exact ⟨r0, r1, ra⟩

end Cert.FwdIdeal.Hand
-- ==== Proof.Adam.lean ====
/- One step of the optimiser on one number, with the constants as they are stored. -/
module

public import Idealize.ShloMosaic.Lib.Pipeline.ValueKit
public import Idealize.ShloMosaic.Lib.Claim

@[expose] public section

noncomputable section

namespace Cert.Adam

open Idealize.ShloMosaic

/-- The stored constant. -/
abbrev con (b : BitVec 32) : EReal := Ideal.ofBits .f32 b
/-- The new first moment. -/
abbrev mom (g a : EReal) : EReal := con 0x3F666666#32 * a + con 0x3DCCCCCD#32 * g
/-- The new second moment. -/
abbrev var (g b : EReal) : EReal := con 0x3F7FBE77#32 * b + con 0x3A83126F#32 * (g * g)
/-- The weight's change. -/
abbrev upd (w g a b : EReal) : EReal :=
  con 0xBA83126F#32 * (Ideal.div (Ideal.div (mom g a) (con 0x3F26BD02#32)) (Ideal.sqrt (Ideal.div (var g b) (con 0x3C231ACC#32)) + con 0x322BCC77#32)
    + con 0x3C23D70A#32 * w)

end Cert.Adam

end
-- ==== Proof.AbraIdeal.Value.lean ====
/- The optimiser's step on the branch projections of mixers A and C: every point writes its own rows. -/
module

public import proofs.«01_k».proof.Proof.Gen.AbraIdeal.Frame
public import proofs.«01_k».proof.Proof.Gen.AbraReferenceIdeal.Run
public import proofs.«01_k».proof.Proof.Adam
public import proofs.«01_k».proof.Defs

@[expose] public section

set_option maxRecDepth 16384

noncomputable section

namespace Cert.AbraIdeal.Hand

open Cert.AbraIdeal Cert.AbraIdeal.Gen Cert.Adam
open Idealize.ShloMosaic TcCoe Tactic Idealize.SL.Sem

variable (m : (ℓ : Loc nD τ sig) → Buf (Elt Ideal) ℓ)

abbrev SA : Shape := S4x256x256
abbrev SF : Shape := S1024x256
abbrev SB : Shape := S256x256

/-- A constant of the reference, everywhere. -/
abbrev ALL (b : BitVec 32) : FVec Ideal SA .f32 := broadcastInDim SA ![] Cert.AbraReferenceIdeal.Gen.bcast_S_S4x256x256 (constant Cert.AbraReferenceIdeal.S_ .f32 b)
/-- The reference's three results: the weights' change and the two new moments. -/
abbrev MOM (g a : FVec Ideal SA .f32) : FVec Ideal SA .f32 := addf (mulf (ALL 0x3F666666#32) a) (mulf (ALL 0x3DCCCCCD#32) g)
abbrev VAR (g b : FVec Ideal SA .f32) : FVec Ideal SA .f32 := addf (mulf (ALL 0x3F7FBE77#32) b) (mulf (ALL 0x3A83126F#32) (mulf g g))
abbrev UPD (w g a b : FVec Ideal SA .f32) : FVec Ideal SA .f32 :=
  mulf (ALL 0xBA83126F#32) (addf (Host.divf (Host.divf (MOM g a) (ALL 0x3F26BD02#32)) (addf (Host.sqrt (Host.divf (VAR g b) (ALL 0x3C231ACC#32))) (ALL 0x322BCC77#32)))
    (mulf (ALL 0x3C23D70A#32) w))

/-- The weights, the gradient and the two moments. -/
abbrev arg0 (c : Dev nD) : FVec Ideal SA .f32 := m ((c : Thread nD τ).loc main_arg0)
abbrev arg1 (c : Dev nD) : FVec Ideal SA .f32 := m ((c : Thread nD τ).loc main_arg1)
abbrev arg2 (c : Dev nD) : FVec Ideal SA .f32 := m ((c : Thread nD τ).loc main_arg2)
abbrev arg3 (c : Dev nD) : FVec Ideal SA .f32 := m ((c : Thread nD τ).loc main_arg3)

/-- The argument's rows, one layer after another. -/
abbrev flat0 (c : Dev nD) : FVec Ideal SF .f32 := shapeCast SF (arg0 m c) shapeCasts_S4x256x256_S1024x256
abbrev flat1 (c : Dev nD) : FVec Ideal SF .f32 := shapeCast SF (arg1 m c) shapeCasts_S4x256x256_S1024x256
abbrev flat2 (c : Dev nD) : FVec Ideal SF .f32 := shapeCast SF (arg2 m c) shapeCasts_S4x256x256_S1024x256
abbrev flat3 (c : Dev nD) : FVec Ideal SF .f32 := shapeCast SF (arg3 m c) shapeCasts_S4x256x256_S1024x256

theorem upd_at (w g a b : Vec Ideal SB .f32) (i : SB.Idx) : k0_pay4 (F := Ideal) w g a b i = upd (w i) (g i) (a i) (b i) := by
  pointwise [k0_pay4, k0_pay3, k0_pay2, k0_pay1, upd, mom, var]
theorem mom_at (g a : Vec Ideal SB .f32) (i : SB.Idx) : k0_pay2 (F := Ideal) g a i = mom (g i) (a i) := by
  pointwise [k0_pay2, k0_pay1, mom]
theorem var_at (g b : Vec Ideal SB .f32) (i : SB.Idx) : k0_pay3 (F := Ideal) g b i = var (g i) (b i) := by
  pointwise [k0_pay3, k0_pay1, var]

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem entry0 (c : Dev nD) : V m c main_v0 = flat0 m c := by
  show V m c main_v0 = shapeCast SF (arg0 m c) shapeCasts_S4x256x256_S1024x256
  entry_read; rfl
theorem blk0 (c : Dev nD) (t : Fin cfg0.N) (y : SB.Idx) : (show FVec Ideal SB .f32 from iblk m c 0 t) y = flat0 m c
    (ix2 ⟨t.val * 256 + (y 0).val, by have : (y 0).val < 256 := (y 0).isLt; have : t.val < 4 := lt_of_lt_of_eq t.isLt N_0; omega⟩ (y 1)) := by
  rw [← entry0]
  blk_ext [iblk, idx t]
theorem entry1 (c : Dev nD) : V m c main_v1 = flat1 m c := by
  show V m c main_v1 = shapeCast SF (arg1 m c) shapeCasts_S4x256x256_S1024x256
  entry_read; rfl
theorem blk1 (c : Dev nD) (t : Fin cfg0.N) (y : SB.Idx) : (show FVec Ideal SB .f32 from iblk m c 1 t) y = flat1 m c
    (ix2 ⟨t.val * 256 + (y 0).val, by have : (y 0).val < 256 := (y 0).isLt; have : t.val < 4 := lt_of_lt_of_eq t.isLt N_0; omega⟩ (y 1)) := by
  rw [← entry1]
  blk_ext [iblk, idx t]
theorem entry2 (c : Dev nD) : V m c main_v2 = flat2 m c := by
  show V m c main_v2 = shapeCast SF (arg2 m c) shapeCasts_S4x256x256_S1024x256
  entry_read; rfl
theorem blk2 (c : Dev nD) (t : Fin cfg0.N) (y : SB.Idx) : (show FVec Ideal SB .f32 from iblk m c 2 t) y = flat2 m c
    (ix2 ⟨t.val * 256 + (y 0).val, by have : (y 0).val < 256 := (y 0).isLt; have : t.val < 4 := lt_of_lt_of_eq t.isLt N_0; omega⟩ (y 1)) := by
  rw [← entry2]
  blk_ext [iblk, idx t]
theorem entry3 (c : Dev nD) : V m c main_v3 = flat3 m c := by
  show V m c main_v3 = shapeCast SF (arg3 m c) shapeCasts_S4x256x256_S1024x256
  entry_read; rfl
theorem blk3 (c : Dev nD) (t : Fin cfg0.N) (y : SB.Idx) : (show FVec Ideal SB .f32 from iblk m c 3 t) y = flat3 m c
    (ix2 ⟨t.val * 256 + (y 0).val, by have : (y 0).val < 256 := (y 0).isLt; have : t.val < 4 := lt_of_lt_of_eq t.isLt N_0; omega⟩ (y 1)) := by
  rw [← entry3]
  blk_ext [iblk, idx t]

theorem final_upd (c : Dev nD) : (dats m 0 c).arrAt 4 (cfgs 0).N = fun i : SF.Idx => upd (flat0 m c i) (flat1 m c i) (flat2 m c i) (flat3 m c i) := by
  refine (dats m 0 c).arrAt_eq_of_covers 4 _ (by decide +kernel) fun t hf y => ?_
  blk_simp
  rw [after0_4]
  frame_out
  refine (upd_at _ _ _ _ y).trans ?_
  refine (congr (congr (congr (congrArg upd (blk0 m c t y)) (blk1 m c t y)) (blk2 m c t y)) (blk3 m c t y)).trans ?_
  blk_point [idx t]
theorem final_mom (c : Dev nD) : (dats m 0 c).arrAt 5 (cfgs 0).N = fun i : SF.Idx => mom (flat1 m c i) (flat2 m c i) := by
  refine (dats m 0 c).arrAt_eq_of_covers 5 _ (by decide +kernel) fun t hf y => ?_
  blk_simp
  rw [after0_5]
  frame_out
  refine (mom_at _ _ y).trans ((congrArg₂ mom (blk1 m c t y) (blk2 m c t y)).trans ?_)
  blk_point [idx t]
theorem final_var (c : Dev nD) : (dats m 0 c).arrAt 6 (cfgs 0).N = fun i : SF.Idx => var (flat1 m c i) (flat3 m c i) := by
  refine (dats m 0 c).arrAt_eq_of_covers 6 _ (by decide +kernel) fun t hf y => ?_
  blk_simp
  rw [after0_6]
  frame_out
  refine (var_at _ _ y).trans ((congrArg₂ var (blk1 m c t y) (blk3 m c t y)).trans ?_)
  blk_point [idx t]

theorem same_upd (a b c d : FVec Ideal SA .f32) :
    shapeCast SA (fun i : SF.Idx => upd (shapeCast SF a shapeCasts_S4x256x256_S1024x256 i) (shapeCast SF b shapeCasts_S4x256x256_S1024x256 i) (shapeCast SF c shapeCasts_S4x256x256_S1024x256 i) (shapeCast SF d shapeCasts_S4x256x256_S1024x256 i)) shapeCasts_S1024x256_S4x256x256 = UPD a b c d := by
  show (fun j => upd (shapeCast SA (shapeCast SF a shapeCasts_S4x256x256_S1024x256) shapeCasts_S1024x256_S4x256x256 j) (shapeCast SA (shapeCast SF b shapeCasts_S4x256x256_S1024x256) shapeCasts_S1024x256_S4x256x256 j) (shapeCast SA (shapeCast SF c shapeCasts_S4x256x256_S1024x256) shapeCasts_S1024x256_S4x256x256 j) (shapeCast SA (shapeCast SF d shapeCasts_S4x256x256_S1024x256) shapeCasts_S1024x256_S4x256x256 j)) = UPD a b c d
  simp only [shapeCast_shapeCast]
  funext j
  pointwise [UPD, upd, mom, var, con, MOM, VAR, ALL]
theorem tail_upd (c : Dev nD) : Pipeline.afterTail₀ cfgs (dats m) 0 (V0 m) [hostOps1] c main_v5 = UPD (arg0 m c) (arg1 m c) (arg2 m c) (arg3 m c) := by
  refine Eq.trans ?_ (same_upd (arg0 m c) (arg1 m c) (arg2 m c) (arg3 m c))
  unfold Pipeline.afterTail₀ hostOps1
  after_results
  exact congrArg (fun x : FVec Ideal SF .f32 => shapeCast SA x shapeCasts_S1024x256_S4x256x256) ((Pipeline.withArrays_arr spec0 (by decide) c (V0 m c) (fun w => (dats m 0 c).arrAt w (cfgs 0).N) 4).trans (final_upd m c))
theorem same_mom (b c : FVec Ideal SA .f32) :
    shapeCast SA (fun i : SF.Idx => mom (shapeCast SF b shapeCasts_S4x256x256_S1024x256 i) (shapeCast SF c shapeCasts_S4x256x256_S1024x256 i)) shapeCasts_S1024x256_S4x256x256 = MOM b c := by
  show (fun j => mom (shapeCast SA (shapeCast SF b shapeCasts_S4x256x256_S1024x256) shapeCasts_S1024x256_S4x256x256 j) (shapeCast SA (shapeCast SF c shapeCasts_S4x256x256_S1024x256) shapeCasts_S1024x256_S4x256x256 j)) = MOM b c
  simp only [shapeCast_shapeCast]
  funext j
  pointwise [MOM, upd, mom, var, con, MOM, VAR, ALL]
theorem tail_mom (c : Dev nD) : Pipeline.afterTail₀ cfgs (dats m) 0 (V0 m) [hostOps1] c main_v6 = MOM (arg1 m c) (arg2 m c) := by
  refine Eq.trans ?_ (same_mom (arg1 m c) (arg2 m c))
  unfold Pipeline.afterTail₀ hostOps1
  after_results
  exact congrArg (fun x : FVec Ideal SF .f32 => shapeCast SA x shapeCasts_S1024x256_S4x256x256) ((Pipeline.withArrays_arr spec0 (by decide) c (V0 m c) (fun w => (dats m 0 c).arrAt w (cfgs 0).N) 5).trans (final_mom m c))
theorem same_var (b d : FVec Ideal SA .f32) :
    shapeCast SA (fun i : SF.Idx => var (shapeCast SF b shapeCasts_S4x256x256_S1024x256 i) (shapeCast SF d shapeCasts_S4x256x256_S1024x256 i)) shapeCasts_S1024x256_S4x256x256 = VAR b d := by
  show (fun j => var (shapeCast SA (shapeCast SF b shapeCasts_S4x256x256_S1024x256) shapeCasts_S1024x256_S4x256x256 j) (shapeCast SA (shapeCast SF d shapeCasts_S4x256x256_S1024x256) shapeCasts_S1024x256_S4x256x256 j)) = VAR b d
  simp only [shapeCast_shapeCast]
  funext j
  pointwise [VAR, upd, mom, var, con, MOM, VAR, ALL]
theorem tail_var (c : Dev nD) : Pipeline.afterTail₀ cfgs (dats m) 0 (V0 m) [hostOps1] c main_v7 = VAR (arg1 m c) (arg3 m c) := by
  refine Eq.trans ?_ (same_var (arg1 m c) (arg3 m c))
  unfold Pipeline.afterTail₀ hostOps1
  after_results
  exact congrArg (fun x : FVec Ideal SF .f32 => shapeCast SA x shapeCasts_S1024x256_S4x256x256) ((Pipeline.withArrays_arr spec0 (by decide) c (V0 m c) (fun w => (dats m 0 c).arrAt w (cfgs 0).N) 6).trans (final_var m c))

theorem algebraic : Cert.algebraic_AbraIdeal_AbraReferenceIdeal := by
  intro m g m' g' _ hagree
  refine ⟨fun c => UPD (arg0 m c) (arg1 m c) (arg2 m c) (arg3 m c), fun c => MOM (arg1 m c) (arg2 m c), fun c => VAR (arg1 m c) (arg3 m c), ?_, ?_⟩
  · refine (θ_run defs _ _).mono (fun r h c => ⟨((h.1 c).2 main_v5 (by decide)).trans (tail_upd m c), ((h.1 c).2 main_v6 (by decide)).trans (tail_mom m c), ((h.1 c).2 main_v7 (by decide)).trans (tail_var m c), h.2 c⟩)
      (θ_run_and (run_main m g) (unchanged m g))
  · refine (θ_run Cert.AbraReferenceIdeal.defs _ _).mono (fun r h c => ?_) (Cert.AbraReferenceIdeal.Value.run (F := Ideal) m' g')
    obtain ⟨h0, h1, h2, ha⟩ := h c
    obtain ⟨e0, e1, e2, e3⟩ := hagree c
    rw [e0, e1, e2, e3] at h0
    rw [e1, e2] at h1
    rw [e1, e3] at h2
    exact ⟨h0, h1, h2, ha⟩

end Cert.AbraIdeal.Hand
-- ==== Proof.AbrbIdeal.Value.lean ====
/- The optimiser's step on the branch projection of mixer B: every point writes its own rows. -/
module

public import proofs.«01_k».proof.Proof.Gen.AbrbIdeal.Frame
public import proofs.«01_k».proof.Proof.Gen.AbrbReferenceIdeal.Run
public import proofs.«01_k».proof.Proof.Adam
public import proofs.«01_k».proof.Defs

@[expose] public section

set_option maxRecDepth 16384

noncomputable section

namespace Cert.AbrbIdeal.Hand

open Cert.AbrbIdeal Cert.AbrbIdeal.Gen Cert.Adam
open Idealize.ShloMosaic TcCoe Tactic Idealize.SL.Sem

variable (m : (ℓ : Loc nD τ sig) → Buf (Elt Ideal) ℓ)

abbrev SA : Shape := S4x512x256
abbrev SF : Shape := S2048x256
abbrev SB : Shape := S256x256

/-- A constant of the reference, everywhere. -/
abbrev ALL (b : BitVec 32) : FVec Ideal SA .f32 := broadcastInDim SA ![] Cert.AbrbReferenceIdeal.Gen.bcast_S_S4x512x256 (constant Cert.AbrbReferenceIdeal.S_ .f32 b)
/-- The reference's three results: the weights' change and the two new moments. -/
abbrev MOM (g a : FVec Ideal SA .f32) : FVec Ideal SA .f32 := addf (mulf (ALL 0x3F666666#32) a) (mulf (ALL 0x3DCCCCCD#32) g)
abbrev VAR (g b : FVec Ideal SA .f32) : FVec Ideal SA .f32 := addf (mulf (ALL 0x3F7FBE77#32) b) (mulf (ALL 0x3A83126F#32) (mulf g g))
abbrev UPD (w g a b : FVec Ideal SA .f32) : FVec Ideal SA .f32 :=
  mulf (ALL 0xBA83126F#32) (addf (Host.divf (Host.divf (MOM g a) (ALL 0x3F26BD02#32)) (addf (Host.sqrt (Host.divf (VAR g b) (ALL 0x3C231ACC#32))) (ALL 0x322BCC77#32)))
    (mulf (ALL 0x3C23D70A#32) w))

/-- The weights, the gradient and the two moments. -/
abbrev arg0 (c : Dev nD) : FVec Ideal SA .f32 := m ((c : Thread nD τ).loc main_arg0)
abbrev arg1 (c : Dev nD) : FVec Ideal SA .f32 := m ((c : Thread nD τ).loc main_arg1)
abbrev arg2 (c : Dev nD) : FVec Ideal SA .f32 := m ((c : Thread nD τ).loc main_arg2)
abbrev arg3 (c : Dev nD) : FVec Ideal SA .f32 := m ((c : Thread nD τ).loc main_arg3)

/-- The argument's rows, one layer after another. -/
abbrev flat0 (c : Dev nD) : FVec Ideal SF .f32 := shapeCast SF (arg0 m c) shapeCasts_S4x512x256_S2048x256
abbrev flat1 (c : Dev nD) : FVec Ideal SF .f32 := shapeCast SF (arg1 m c) shapeCasts_S4x512x256_S2048x256
abbrev flat2 (c : Dev nD) : FVec Ideal SF .f32 := shapeCast SF (arg2 m c) shapeCasts_S4x512x256_S2048x256
abbrev flat3 (c : Dev nD) : FVec Ideal SF .f32 := shapeCast SF (arg3 m c) shapeCasts_S4x512x256_S2048x256

theorem upd_at (w g a b : Vec Ideal SB .f32) (i : SB.Idx) : k0_pay4 (F := Ideal) w g a b i = upd (w i) (g i) (a i) (b i) := by
  pointwise [k0_pay4, k0_pay3, k0_pay2, k0_pay1, upd, mom, var]
theorem mom_at (g a : Vec Ideal SB .f32) (i : SB.Idx) : k0_pay2 (F := Ideal) g a i = mom (g i) (a i) := by
  pointwise [k0_pay2, k0_pay1, mom]
theorem var_at (g b : Vec Ideal SB .f32) (i : SB.Idx) : k0_pay3 (F := Ideal) g b i = var (g i) (b i) := by
  pointwise [k0_pay3, k0_pay1, var]

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem entry0 (c : Dev nD) : V m c main_v0 = flat0 m c := by
  show V m c main_v0 = shapeCast SF (arg0 m c) shapeCasts_S4x512x256_S2048x256
  entry_read; rfl
theorem blk0 (c : Dev nD) (t : Fin cfg0.N) (y : SB.Idx) : (show FVec Ideal SB .f32 from iblk m c 0 t) y = flat0 m c
    (ix2 ⟨t.val * 256 + (y 0).val, by have : (y 0).val < 256 := (y 0).isLt; have : t.val < 8 := lt_of_lt_of_eq t.isLt N_0; omega⟩ (y 1)) := by
  rw [← entry0]
  blk_ext [iblk, idx t]
theorem entry1 (c : Dev nD) : V m c main_v1 = flat1 m c := by
  show V m c main_v1 = shapeCast SF (arg1 m c) shapeCasts_S4x512x256_S2048x256
  entry_read; rfl
theorem blk1 (c : Dev nD) (t : Fin cfg0.N) (y : SB.Idx) : (show FVec Ideal SB .f32 from iblk m c 1 t) y = flat1 m c
    (ix2 ⟨t.val * 256 + (y 0).val, by have : (y 0).val < 256 := (y 0).isLt; have : t.val < 8 := lt_of_lt_of_eq t.isLt N_0; omega⟩ (y 1)) := by
  rw [← entry1]
  blk_ext [iblk, idx t]
theorem entry2 (c : Dev nD) : V m c main_v2 = flat2 m c := by
  show V m c main_v2 = shapeCast SF (arg2 m c) shapeCasts_S4x512x256_S2048x256
  entry_read; rfl
theorem blk2 (c : Dev nD) (t : Fin cfg0.N) (y : SB.Idx) : (show FVec Ideal SB .f32 from iblk m c 2 t) y = flat2 m c
    (ix2 ⟨t.val * 256 + (y 0).val, by have : (y 0).val < 256 := (y 0).isLt; have : t.val < 8 := lt_of_lt_of_eq t.isLt N_0; omega⟩ (y 1)) := by
  rw [← entry2]
  blk_ext [iblk, idx t]
theorem entry3 (c : Dev nD) : V m c main_v3 = flat3 m c := by
  show V m c main_v3 = shapeCast SF (arg3 m c) shapeCasts_S4x512x256_S2048x256
  entry_read; rfl
theorem blk3 (c : Dev nD) (t : Fin cfg0.N) (y : SB.Idx) : (show FVec Ideal SB .f32 from iblk m c 3 t) y = flat3 m c
    (ix2 ⟨t.val * 256 + (y 0).val, by have : (y 0).val < 256 := (y 0).isLt; have : t.val < 8 := lt_of_lt_of_eq t.isLt N_0; omega⟩ (y 1)) := by
  rw [← entry3]
  blk_ext [iblk, idx t]

theorem final_upd (c : Dev nD) : (dats m 0 c).arrAt 4 (cfgs 0).N = fun i : SF.Idx => upd (flat0 m c i) (flat1 m c i) (flat2 m c i) (flat3 m c i) := by
  refine (dats m 0 c).arrAt_eq_of_covers 4 _ (by decide +kernel) fun t hf y => ?_
  blk_simp
  rw [after0_4]
  frame_out
  refine (upd_at _ _ _ _ y).trans ?_
  refine (congr (congr (congr (congrArg upd (blk0 m c t y)) (blk1 m c t y)) (blk2 m c t y)) (blk3 m c t y)).trans ?_
  blk_point [idx t]
theorem final_mom (c : Dev nD) : (dats m 0 c).arrAt 5 (cfgs 0).N = fun i : SF.Idx => mom (flat1 m c i) (flat2 m c i) := by
  refine (dats m 0 c).arrAt_eq_of_covers 5 _ (by decide +kernel) fun t hf y => ?_
  blk_simp
  rw [after0_5]
  frame_out
  refine (mom_at _ _ y).trans ((congrArg₂ mom (blk1 m c t y) (blk2 m c t y)).trans ?_)
  blk_point [idx t]
theorem final_var (c : Dev nD) : (dats m 0 c).arrAt 6 (cfgs 0).N = fun i : SF.Idx => var (flat1 m c i) (flat3 m c i) := by
  refine (dats m 0 c).arrAt_eq_of_covers 6 _ (by decide +kernel) fun t hf y => ?_
  blk_simp
  rw [after0_6]
  frame_out
  refine (var_at _ _ y).trans ((congrArg₂ var (blk1 m c t y) (blk3 m c t y)).trans ?_)
  blk_point [idx t]

theorem same_upd (a b c d : FVec Ideal SA .f32) :
    shapeCast SA (fun i : SF.Idx => upd (shapeCast SF a shapeCasts_S4x512x256_S2048x256 i) (shapeCast SF b shapeCasts_S4x512x256_S2048x256 i) (shapeCast SF c shapeCasts_S4x512x256_S2048x256 i) (shapeCast SF d shapeCasts_S4x512x256_S2048x256 i)) shapeCasts_S2048x256_S4x512x256 = UPD a b c d := by
  show (fun j => upd (shapeCast SA (shapeCast SF a shapeCasts_S4x512x256_S2048x256) shapeCasts_S2048x256_S4x512x256 j) (shapeCast SA (shapeCast SF b shapeCasts_S4x512x256_S2048x256) shapeCasts_S2048x256_S4x512x256 j) (shapeCast SA (shapeCast SF c shapeCasts_S4x512x256_S2048x256) shapeCasts_S2048x256_S4x512x256 j) (shapeCast SA (shapeCast SF d shapeCasts_S4x512x256_S2048x256) shapeCasts_S2048x256_S4x512x256 j)) = UPD a b c d
  simp only [shapeCast_shapeCast]
  funext j
  pointwise [UPD, upd, mom, var, con, MOM, VAR, ALL]
theorem tail_upd (c : Dev nD) : Pipeline.afterTail₀ cfgs (dats m) 0 (V0 m) [hostOps1] c main_v5 = UPD (arg0 m c) (arg1 m c) (arg2 m c) (arg3 m c) := by
  refine Eq.trans ?_ (same_upd (arg0 m c) (arg1 m c) (arg2 m c) (arg3 m c))
  unfold Pipeline.afterTail₀ hostOps1
  after_results
  exact congrArg (fun x : FVec Ideal SF .f32 => shapeCast SA x shapeCasts_S2048x256_S4x512x256) ((Pipeline.withArrays_arr spec0 (by decide) c (V0 m c) (fun w => (dats m 0 c).arrAt w (cfgs 0).N) 4).trans (final_upd m c))
theorem same_mom (b c : FVec Ideal SA .f32) :
    shapeCast SA (fun i : SF.Idx => mom (shapeCast SF b shapeCasts_S4x512x256_S2048x256 i) (shapeCast SF c shapeCasts_S4x512x256_S2048x256 i)) shapeCasts_S2048x256_S4x512x256 = MOM b c := by
  show (fun j => mom (shapeCast SA (shapeCast SF b shapeCasts_S4x512x256_S2048x256) shapeCasts_S2048x256_S4x512x256 j) (shapeCast SA (shapeCast SF c shapeCasts_S4x512x256_S2048x256) shapeCasts_S2048x256_S4x512x256 j)) = MOM b c
  simp only [shapeCast_shapeCast]
  funext j
  pointwise [MOM, upd, mom, var, con, MOM, VAR, ALL]
theorem tail_mom (c : Dev nD) : Pipeline.afterTail₀ cfgs (dats m) 0 (V0 m) [hostOps1] c main_v6 = MOM (arg1 m c) (arg2 m c) := by
  refine Eq.trans ?_ (same_mom (arg1 m c) (arg2 m c))
  unfold Pipeline.afterTail₀ hostOps1
  after_results
  exact congrArg (fun x : FVec Ideal SF .f32 => shapeCast SA x shapeCasts_S2048x256_S4x512x256) ((Pipeline.withArrays_arr spec0 (by decide) c (V0 m c) (fun w => (dats m 0 c).arrAt w (cfgs 0).N) 5).trans (final_mom m c))
theorem same_var (b d : FVec Ideal SA .f32) :
    shapeCast SA (fun i : SF.Idx => var (shapeCast SF b shapeCasts_S4x512x256_S2048x256 i) (shapeCast SF d shapeCasts_S4x512x256_S2048x256 i)) shapeCasts_S2048x256_S4x512x256 = VAR b d := by
  show (fun j => var (shapeCast SA (shapeCast SF b shapeCasts_S4x512x256_S2048x256) shapeCasts_S2048x256_S4x512x256 j) (shapeCast SA (shapeCast SF d shapeCasts_S4x512x256_S2048x256) shapeCasts_S2048x256_S4x512x256 j)) = VAR b d
  simp only [shapeCast_shapeCast]
  funext j
  pointwise [VAR, upd, mom, var, con, MOM, VAR, ALL]
theorem tail_var (c : Dev nD) : Pipeline.afterTail₀ cfgs (dats m) 0 (V0 m) [hostOps1] c main_v7 = VAR (arg1 m c) (arg3 m c) := by
  refine Eq.trans ?_ (same_var (arg1 m c) (arg3 m c))
  unfold Pipeline.afterTail₀ hostOps1
  after_results
  exact congrArg (fun x : FVec Ideal SF .f32 => shapeCast SA x shapeCasts_S2048x256_S4x512x256) ((Pipeline.withArrays_arr spec0 (by decide) c (V0 m c) (fun w => (dats m 0 c).arrAt w (cfgs 0).N) 6).trans (final_var m c))

theorem algebraic : Cert.algebraic_AbrbIdeal_AbrbReferenceIdeal := by
  intro m g m' g' _ hagree
  refine ⟨fun c => UPD (arg0 m c) (arg1 m c) (arg2 m c) (arg3 m c), fun c => MOM (arg1 m c) (arg2 m c), fun c => VAR (arg1 m c) (arg3 m c), ?_, ?_⟩
  · refine (θ_run defs _ _).mono (fun r h c => ⟨((h.1 c).2 main_v5 (by decide)).trans (tail_upd m c), ((h.1 c).2 main_v6 (by decide)).trans (tail_mom m c), ((h.1 c).2 main_v7 (by decide)).trans (tail_var m c), h.2 c⟩)
      (θ_run_and (run_main m g) (unchanged m g))
  · refine (θ_run Cert.AbrbReferenceIdeal.defs _ _).mono (fun r h c => ?_) (Cert.AbrbReferenceIdeal.Value.run (F := Ideal) m' g')
    obtain ⟨h0, h1, h2, ha⟩ := h c
    obtain ⟨e0, e1, e2, e3⟩ := hagree c
    rw [e0, e1, e2, e3] at h0
    rw [e1, e2] at h1
    rw [e1, e3] at h2
    exact ⟨h0, h1, h2, ha⟩

end Cert.AbrbIdeal.Hand
-- ==== Proof.AinIdeal.Value.lean ====
/- The optimiser's step on the input projection: every point writes its own rows. -/
module

public import proofs.«01_k».proof.Proof.Gen.AinIdeal.Frame
public import proofs.«01_k».proof.Proof.Gen.AinReferenceIdeal.Run
public import proofs.«01_k».proof.Proof.Adam
public import proofs.«01_k».proof.Defs

@[expose] public section

set_option maxRecDepth 16384

noncomputable section

namespace Cert.AinIdeal.Hand

open Cert.AinIdeal Cert.AinIdeal.Gen Cert.Adam
open Idealize.ShloMosaic TcCoe Tactic Idealize.SL.Sem

variable (m : (ℓ : Loc nD τ sig) → Buf (Elt Ideal) ℓ)

abbrev SA : Shape := S4x1024x1344
abbrev SF : Shape := S4096x1344
abbrev SB : Shape := S256x1344

/-- A constant of the reference, everywhere. -/
abbrev ALL (b : BitVec 32) : FVec Ideal SA .f32 := broadcastInDim SA ![] Cert.AinReferenceIdeal.Gen.bcast_S_S4x1024x1344 (constant Cert.AinReferenceIdeal.S_ .f32 b)
/-- The reference's three results: the weights' change and the two new moments. -/
abbrev MOM (g a : FVec Ideal SA .f32) : FVec Ideal SA .f32 := addf (mulf (ALL 0x3F666666#32) a) (mulf (ALL 0x3DCCCCCD#32) g)
abbrev VAR (g b : FVec Ideal SA .f32) : FVec Ideal SA .f32 := addf (mulf (ALL 0x3F7FBE77#32) b) (mulf (ALL 0x3A83126F#32) (mulf g g))
abbrev UPD (w g a b : FVec Ideal SA .f32) : FVec Ideal SA .f32 :=
  mulf (ALL 0xBA83126F#32) (addf (Host.divf (Host.divf (MOM g a) (ALL 0x3F26BD02#32)) (addf (Host.sqrt (Host.divf (VAR g b) (ALL 0x3C231ACC#32))) (ALL 0x322BCC77#32)))
    (mulf (ALL 0x3C23D70A#32) w))

/-- The weights, the gradient and the two moments. -/
abbrev arg0 (c : Dev nD) : FVec Ideal SA .f32 := m ((c : Thread nD τ).loc main_arg0)
abbrev arg1 (c : Dev nD) : FVec Ideal SA .f32 := m ((c : Thread nD τ).loc main_arg1)
abbrev arg2 (c : Dev nD) : FVec Ideal SA .f32 := m ((c : Thread nD τ).loc main_arg2)
abbrev arg3 (c : Dev nD) : FVec Ideal SA .f32 := m ((c : Thread nD τ).loc main_arg3)

/-- The argument's rows, one layer after another. -/
abbrev flat0 (c : Dev nD) : FVec Ideal SF .f32 := shapeCast SF (arg0 m c) shapeCasts_S4x1024x1344_S4096x1344
abbrev flat1 (c : Dev nD) : FVec Ideal SF .f32 := shapeCast SF (arg1 m c) shapeCasts_S4x1024x1344_S4096x1344
abbrev flat2 (c : Dev nD) : FVec Ideal SF .f32 := shapeCast SF (arg2 m c) shapeCasts_S4x1024x1344_S4096x1344
abbrev flat3 (c : Dev nD) : FVec Ideal SF .f32 := shapeCast SF (arg3 m c) shapeCasts_S4x1024x1344_S4096x1344

theorem upd_at (w g a b : Vec Ideal SB .f32) (i : SB.Idx) : k0_pay4 (F := Ideal) w g a b i = upd (w i) (g i) (a i) (b i) := by
  pointwise [k0_pay4, k0_pay3, k0_pay2, k0_pay1, upd, mom, var]
theorem mom_at (g a : Vec Ideal SB .f32) (i : SB.Idx) : k0_pay2 (F := Ideal) g a i = mom (g i) (a i) := by
  pointwise [k0_pay2, k0_pay1, mom]
theorem var_at (g b : Vec Ideal SB .f32) (i : SB.Idx) : k0_pay3 (F := Ideal) g b i = var (g i) (b i) := by
  pointwise [k0_pay3, k0_pay1, var]

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem entry0 (c : Dev nD) : V m c main_v0 = flat0 m c := by
  show V m c main_v0 = shapeCast SF (arg0 m c) shapeCasts_S4x1024x1344_S4096x1344
  entry_read; rfl
theorem blk0 (c : Dev nD) (t : Fin cfg0.N) (y : SB.Idx) : (show FVec Ideal SB .f32 from iblk m c 0 t) y = flat0 m c
    (ix2 ⟨t.val * 256 + (y 0).val, by have : (y 0).val < 256 := (y 0).isLt; have : t.val < 16 := lt_of_lt_of_eq t.isLt N_0; omega⟩ (y 1)) := by
  rw [← entry0]
  blk_ext [iblk, idx t]
theorem entry1 (c : Dev nD) : V m c main_v1 = flat1 m c := by
  show V m c main_v1 = shapeCast SF (arg1 m c) shapeCasts_S4x1024x1344_S4096x1344
  entry_read; rfl
theorem blk1 (c : Dev nD) (t : Fin cfg0.N) (y : SB.Idx) : (show FVec Ideal SB .f32 from iblk m c 1 t) y = flat1 m c
    (ix2 ⟨t.val * 256 + (y 0).val, by have : (y 0).val < 256 := (y 0).isLt; have : t.val < 16 := lt_of_lt_of_eq t.isLt N_0; omega⟩ (y 1)) := by
  rw [← entry1]
  blk_ext [iblk, idx t]
theorem entry2 (c : Dev nD) : V m c main_v2 = flat2 m c := by
  show V m c main_v2 = shapeCast SF (arg2 m c) shapeCasts_S4x1024x1344_S4096x1344
  entry_read; rfl
theorem blk2 (c : Dev nD) (t : Fin cfg0.N) (y : SB.Idx) : (show FVec Ideal SB .f32 from iblk m c 2 t) y = flat2 m c
    (ix2 ⟨t.val * 256 + (y 0).val, by have : (y 0).val < 256 := (y 0).isLt; have : t.val < 16 := lt_of_lt_of_eq t.isLt N_0; omega⟩ (y 1)) := by
  rw [← entry2]
  blk_ext [iblk, idx t]
theorem entry3 (c : Dev nD) : V m c main_v3 = flat3 m c := by
  show V m c main_v3 = shapeCast SF (arg3 m c) shapeCasts_S4x1024x1344_S4096x1344
  entry_read; rfl
theorem blk3 (c : Dev nD) (t : Fin cfg0.N) (y : SB.Idx) : (show FVec Ideal SB .f32 from iblk m c 3 t) y = flat3 m c
    (ix2 ⟨t.val * 256 + (y 0).val, by have : (y 0).val < 256 := (y 0).isLt; have : t.val < 16 := lt_of_lt_of_eq t.isLt N_0; omega⟩ (y 1)) := by
  rw [← entry3]
  blk_ext [iblk, idx t]

theorem final_upd (c : Dev nD) : (dats m 0 c).arrAt 4 (cfgs 0).N = fun i : SF.Idx => upd (flat0 m c i) (flat1 m c i) (flat2 m c i) (flat3 m c i) := by
  refine (dats m 0 c).arrAt_eq_of_covers 4 _ (by decide +kernel) fun t hf y => ?_
  blk_simp
  rw [after0_4]
  frame_out
  refine (upd_at _ _ _ _ y).trans ?_
  refine (congr (congr (congr (congrArg upd (blk0 m c t y)) (blk1 m c t y)) (blk2 m c t y)) (blk3 m c t y)).trans ?_
  blk_point [idx t]
theorem final_mom (c : Dev nD) : (dats m 0 c).arrAt 5 (cfgs 0).N = fun i : SF.Idx => mom (flat1 m c i) (flat2 m c i) := by
  refine (dats m 0 c).arrAt_eq_of_covers 5 _ (by decide +kernel) fun t hf y => ?_
  blk_simp
  rw [after0_5]
  frame_out
  refine (mom_at _ _ y).trans ((congrArg₂ mom (blk1 m c t y) (blk2 m c t y)).trans ?_)
  blk_point [idx t]
theorem final_var (c : Dev nD) : (dats m 0 c).arrAt 6 (cfgs 0).N = fun i : SF.Idx => var (flat1 m c i) (flat3 m c i) := by
  refine (dats m 0 c).arrAt_eq_of_covers 6 _ (by decide +kernel) fun t hf y => ?_
  blk_simp
  rw [after0_6]
  frame_out
  refine (var_at _ _ y).trans ((congrArg₂ var (blk1 m c t y) (blk3 m c t y)).trans ?_)
  blk_point [idx t]

theorem same_upd (a b c d : FVec Ideal SA .f32) :
    shapeCast SA (fun i : SF.Idx => upd (shapeCast SF a shapeCasts_S4x1024x1344_S4096x1344 i) (shapeCast SF b shapeCasts_S4x1024x1344_S4096x1344 i) (shapeCast SF c shapeCasts_S4x1024x1344_S4096x1344 i) (shapeCast SF d shapeCasts_S4x1024x1344_S4096x1344 i)) shapeCasts_S4096x1344_S4x1024x1344 = UPD a b c d := by
  show (fun j => upd (shapeCast SA (shapeCast SF a shapeCasts_S4x1024x1344_S4096x1344) shapeCasts_S4096x1344_S4x1024x1344 j) (shapeCast SA (shapeCast SF b shapeCasts_S4x1024x1344_S4096x1344) shapeCasts_S4096x1344_S4x1024x1344 j) (shapeCast SA (shapeCast SF c shapeCasts_S4x1024x1344_S4096x1344) shapeCasts_S4096x1344_S4x1024x1344 j) (shapeCast SA (shapeCast SF d shapeCasts_S4x1024x1344_S4096x1344) shapeCasts_S4096x1344_S4x1024x1344 j)) = UPD a b c d
  simp only [shapeCast_shapeCast]
  funext j
  pointwise [UPD, upd, mom, var, con, MOM, VAR, ALL]
theorem tail_upd (c : Dev nD) : Pipeline.afterTail₀ cfgs (dats m) 0 (V0 m) [hostOps1] c main_v5 = UPD (arg0 m c) (arg1 m c) (arg2 m c) (arg3 m c) := by
  refine Eq.trans ?_ (same_upd (arg0 m c) (arg1 m c) (arg2 m c) (arg3 m c))
  unfold Pipeline.afterTail₀ hostOps1
  after_results
  exact congrArg (fun x : FVec Ideal SF .f32 => shapeCast SA x shapeCasts_S4096x1344_S4x1024x1344) ((Pipeline.withArrays_arr spec0 (by decide) c (V0 m c) (fun w => (dats m 0 c).arrAt w (cfgs 0).N) 4).trans (final_upd m c))
theorem same_mom (b c : FVec Ideal SA .f32) :
    shapeCast SA (fun i : SF.Idx => mom (shapeCast SF b shapeCasts_S4x1024x1344_S4096x1344 i) (shapeCast SF c shapeCasts_S4x1024x1344_S4096x1344 i)) shapeCasts_S4096x1344_S4x1024x1344 = MOM b c := by
  show (fun j => mom (shapeCast SA (shapeCast SF b shapeCasts_S4x1024x1344_S4096x1344) shapeCasts_S4096x1344_S4x1024x1344 j) (shapeCast SA (shapeCast SF c shapeCasts_S4x1024x1344_S4096x1344) shapeCasts_S4096x1344_S4x1024x1344 j)) = MOM b c
  simp only [shapeCast_shapeCast]
  funext j
  pointwise [MOM, upd, mom, var, con, MOM, VAR, ALL]
theorem tail_mom (c : Dev nD) : Pipeline.afterTail₀ cfgs (dats m) 0 (V0 m) [hostOps1] c main_v6 = MOM (arg1 m c) (arg2 m c) := by
  refine Eq.trans ?_ (same_mom (arg1 m c) (arg2 m c))
  unfold Pipeline.afterTail₀ hostOps1
  after_results
  exact congrArg (fun x : FVec Ideal SF .f32 => shapeCast SA x shapeCasts_S4096x1344_S4x1024x1344) ((Pipeline.withArrays_arr spec0 (by decide) c (V0 m c) (fun w => (dats m 0 c).arrAt w (cfgs 0).N) 5).trans (final_mom m c))
theorem same_var (b d : FVec Ideal SA .f32) :
    shapeCast SA (fun i : SF.Idx => var (shapeCast SF b shapeCasts_S4x1024x1344_S4096x1344 i) (shapeCast SF d shapeCasts_S4x1024x1344_S4096x1344 i)) shapeCasts_S4096x1344_S4x1024x1344 = VAR b d := by
  show (fun j => var (shapeCast SA (shapeCast SF b shapeCasts_S4x1024x1344_S4096x1344) shapeCasts_S4096x1344_S4x1024x1344 j) (shapeCast SA (shapeCast SF d shapeCasts_S4x1024x1344_S4096x1344) shapeCasts_S4096x1344_S4x1024x1344 j)) = VAR b d
  simp only [shapeCast_shapeCast]
  funext j
  pointwise [VAR, upd, mom, var, con, MOM, VAR, ALL]
theorem tail_var (c : Dev nD) : Pipeline.afterTail₀ cfgs (dats m) 0 (V0 m) [hostOps1] c main_v7 = VAR (arg1 m c) (arg3 m c) := by
  refine Eq.trans ?_ (same_var (arg1 m c) (arg3 m c))
  unfold Pipeline.afterTail₀ hostOps1
  after_results
  exact congrArg (fun x : FVec Ideal SF .f32 => shapeCast SA x shapeCasts_S4096x1344_S4x1024x1344) ((Pipeline.withArrays_arr spec0 (by decide) c (V0 m c) (fun w => (dats m 0 c).arrAt w (cfgs 0).N) 6).trans (final_var m c))

theorem algebraic : Cert.algebraic_AinIdeal_AinReferenceIdeal := by
  intro m g m' g' _ hagree
  refine ⟨fun c => UPD (arg0 m c) (arg1 m c) (arg2 m c) (arg3 m c), fun c => MOM (arg1 m c) (arg2 m c), fun c => VAR (arg1 m c) (arg3 m c), ?_, ?_⟩
  · refine (θ_run defs _ _).mono (fun r h c => ⟨((h.1 c).2 main_v5 (by decide)).trans (tail_upd m c), ((h.1 c).2 main_v6 (by decide)).trans (tail_mom m c), ((h.1 c).2 main_v7 (by decide)).trans (tail_var m c), h.2 c⟩)
      (θ_run_and (run_main m g) (unchanged m g))
  · refine (θ_run Cert.AinReferenceIdeal.defs _ _).mono (fun r h c => ?_) (Cert.AinReferenceIdeal.Value.run (F := Ideal) m' g')
    obtain ⟨h0, h1, h2, ha⟩ := h c
    obtain ⟨e0, e1, e2, e3⟩ := hagree c
    rw [e0, e1, e2, e3] at h0
    rw [e1, e2] at h1
    rw [e1, e3] at h2
    exact ⟨h0, h1, h2, ha⟩

end Cert.AinIdeal.Hand
-- ==== Proof.AoutIdeal.Value.lean ====
/- The optimiser's step on the output projection: every point writes its own rows. -/
module

public import proofs.«01_k».proof.Proof.Gen.AoutIdeal.Frame
public import proofs.«01_k».proof.Proof.Gen.AoutReferenceIdeal.Run
public import proofs.«01_k».proof.Proof.Adam
public import proofs.«01_k».proof.Defs

@[expose] public section

set_option maxRecDepth 16384

noncomputable section

namespace Cert.AoutIdeal.Hand

open Cert.AoutIdeal Cert.AoutIdeal.Gen Cert.Adam
open Idealize.ShloMosaic TcCoe Tactic Idealize.SL.Sem

variable (m : (ℓ : Loc nD τ sig) → Buf (Elt Ideal) ℓ)

abbrev SA : Shape := S4x256x1024
abbrev SF : Shape := S1024x1024
abbrev SB : Shape := S256x1024

/-- A constant of the reference, everywhere. -/
abbrev ALL (b : BitVec 32) : FVec Ideal SA .f32 := broadcastInDim SA ![] Cert.AoutReferenceIdeal.Gen.bcast_S_S4x256x1024 (constant Cert.AoutReferenceIdeal.S_ .f32 b)
/-- The reference's three results: the weights' change and the two new moments. -/
abbrev MOM (g a : FVec Ideal SA .f32) : FVec Ideal SA .f32 := addf (mulf (ALL 0x3F666666#32) a) (mulf (ALL 0x3DCCCCCD#32) g)
abbrev VAR (g b : FVec Ideal SA .f32) : FVec Ideal SA .f32 := addf (mulf (ALL 0x3F7FBE77#32) b) (mulf (ALL 0x3A83126F#32) (mulf g g))
abbrev UPD (w g a b : FVec Ideal SA .f32) : FVec Ideal SA .f32 :=
  mulf (ALL 0xBA83126F#32) (addf (Host.divf (Host.divf (MOM g a) (ALL 0x3F26BD02#32)) (addf (Host.sqrt (Host.divf (VAR g b) (ALL 0x3C231ACC#32))) (ALL 0x322BCC77#32)))
    (mulf (ALL 0x3C23D70A#32) w))

/-- The weights, the gradient and the two moments. -/
abbrev arg0 (c : Dev nD) : FVec Ideal SA .f32 := m ((c : Thread nD τ).loc main_arg0)
abbrev arg1 (c : Dev nD) : FVec Ideal SA .f32 := m ((c : Thread nD τ).loc main_arg1)
abbrev arg2 (c : Dev nD) : FVec Ideal SA .f32 := m ((c : Thread nD τ).loc main_arg2)
abbrev arg3 (c : Dev nD) : FVec Ideal SA .f32 := m ((c : Thread nD τ).loc main_arg3)

/-- The argument's rows, one layer after another. -/
abbrev flat0 (c : Dev nD) : FVec Ideal SF .f32 := shapeCast SF (arg0 m c) shapeCasts_S4x256x1024_S1024x1024
abbrev flat1 (c : Dev nD) : FVec Ideal SF .f32 := shapeCast SF (arg1 m c) shapeCasts_S4x256x1024_S1024x1024
abbrev flat2 (c : Dev nD) : FVec Ideal SF .f32 := shapeCast SF (arg2 m c) shapeCasts_S4x256x1024_S1024x1024
abbrev flat3 (c : Dev nD) : FVec Ideal SF .f32 := shapeCast SF (arg3 m c) shapeCasts_S4x256x1024_S1024x1024

theorem upd_at (w g a b : Vec Ideal SB .f32) (i : SB.Idx) : k0_pay4 (F := Ideal) w g a b i = upd (w i) (g i) (a i) (b i) := by
  pointwise [k0_pay4, k0_pay3, k0_pay2, k0_pay1, upd, mom, var]
theorem mom_at (g a : Vec Ideal SB .f32) (i : SB.Idx) : k0_pay2 (F := Ideal) g a i = mom (g i) (a i) := by
  pointwise [k0_pay2, k0_pay1, mom]
theorem var_at (g b : Vec Ideal SB .f32) (i : SB.Idx) : k0_pay3 (F := Ideal) g b i = var (g i) (b i) := by
  pointwise [k0_pay3, k0_pay1, var]

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem entry0 (c : Dev nD) : V m c main_v0 = flat0 m c := by
  show V m c main_v0 = shapeCast SF (arg0 m c) shapeCasts_S4x256x1024_S1024x1024
  entry_read; rfl
theorem blk0 (c : Dev nD) (t : Fin cfg0.N) (y : SB.Idx) : (show FVec Ideal SB .f32 from iblk m c 0 t) y = flat0 m c
    (ix2 ⟨t.val * 256 + (y 0).val, by have : (y 0).val < 256 := (y 0).isLt; have : t.val < 4 := lt_of_lt_of_eq t.isLt N_0; omega⟩ (y 1)) := by
  rw [← entry0]
  blk_ext [iblk, idx t]
theorem entry1 (c : Dev nD) : V m c main_v1 = flat1 m c := by
  show V m c main_v1 = shapeCast SF (arg1 m c) shapeCasts_S4x256x1024_S1024x1024
  entry_read; rfl
theorem blk1 (c : Dev nD) (t : Fin cfg0.N) (y : SB.Idx) : (show FVec Ideal SB .f32 from iblk m c 1 t) y = flat1 m c
    (ix2 ⟨t.val * 256 + (y 0).val, by have : (y 0).val < 256 := (y 0).isLt; have : t.val < 4 := lt_of_lt_of_eq t.isLt N_0; omega⟩ (y 1)) := by
  rw [← entry1]
  blk_ext [iblk, idx t]
theorem entry2 (c : Dev nD) : V m c main_v2 = flat2 m c := by
  show V m c main_v2 = shapeCast SF (arg2 m c) shapeCasts_S4x256x1024_S1024x1024
  entry_read; rfl
theorem blk2 (c : Dev nD) (t : Fin cfg0.N) (y : SB.Idx) : (show FVec Ideal SB .f32 from iblk m c 2 t) y = flat2 m c
    (ix2 ⟨t.val * 256 + (y 0).val, by have : (y 0).val < 256 := (y 0).isLt; have : t.val < 4 := lt_of_lt_of_eq t.isLt N_0; omega⟩ (y 1)) := by
  rw [← entry2]
  blk_ext [iblk, idx t]
theorem entry3 (c : Dev nD) : V m c main_v3 = flat3 m c := by
  show V m c main_v3 = shapeCast SF (arg3 m c) shapeCasts_S4x256x1024_S1024x1024
  entry_read; rfl
theorem blk3 (c : Dev nD) (t : Fin cfg0.N) (y : SB.Idx) : (show FVec Ideal SB .f32 from iblk m c 3 t) y = flat3 m c
    (ix2 ⟨t.val * 256 + (y 0).val, by have : (y 0).val < 256 := (y 0).isLt; have : t.val < 4 := lt_of_lt_of_eq t.isLt N_0; omega⟩ (y 1)) := by
  rw [← entry3]
  blk_ext [iblk, idx t]

theorem final_upd (c : Dev nD) : (dats m 0 c).arrAt 4 (cfgs 0).N = fun i : SF.Idx => upd (flat0 m c i) (flat1 m c i) (flat2 m c i) (flat3 m c i) := by
  refine (dats m 0 c).arrAt_eq_of_covers 4 _ (by decide +kernel) fun t hf y => ?_
  blk_simp
  rw [after0_4]
  frame_out
  refine (upd_at _ _ _ _ y).trans ?_
  refine (congr (congr (congr (congrArg upd (blk0 m c t y)) (blk1 m c t y)) (blk2 m c t y)) (blk3 m c t y)).trans ?_
  blk_point [idx t]
theorem final_mom (c : Dev nD) : (dats m 0 c).arrAt 5 (cfgs 0).N = fun i : SF.Idx => mom (flat1 m c i) (flat2 m c i) := by
  refine (dats m 0 c).arrAt_eq_of_covers 5 _ (by decide +kernel) fun t hf y => ?_
  blk_simp
  rw [after0_5]
  frame_out
  refine (mom_at _ _ y).trans ((congrArg₂ mom (blk1 m c t y) (blk2 m c t y)).trans ?_)
  blk_point [idx t]
theorem final_var (c : Dev nD) : (dats m 0 c).arrAt 6 (cfgs 0).N = fun i : SF.Idx => var (flat1 m c i) (flat3 m c i) := by
  refine (dats m 0 c).arrAt_eq_of_covers 6 _ (by decide +kernel) fun t hf y => ?_
  blk_simp
  rw [after0_6]
  frame_out
  refine (var_at _ _ y).trans ((congrArg₂ var (blk1 m c t y) (blk3 m c t y)).trans ?_)
  blk_point [idx t]

theorem same_upd (a b c d : FVec Ideal SA .f32) :
    shapeCast SA (fun i : SF.Idx => upd (shapeCast SF a shapeCasts_S4x256x1024_S1024x1024 i) (shapeCast SF b shapeCasts_S4x256x1024_S1024x1024 i) (shapeCast SF c shapeCasts_S4x256x1024_S1024x1024 i) (shapeCast SF d shapeCasts_S4x256x1024_S1024x1024 i)) shapeCasts_S1024x1024_S4x256x1024 = UPD a b c d := by
  show (fun j => upd (shapeCast SA (shapeCast SF a shapeCasts_S4x256x1024_S1024x1024) shapeCasts_S1024x1024_S4x256x1024 j) (shapeCast SA (shapeCast SF b shapeCasts_S4x256x1024_S1024x1024) shapeCasts_S1024x1024_S4x256x1024 j) (shapeCast SA (shapeCast SF c shapeCasts_S4x256x1024_S1024x1024) shapeCasts_S1024x1024_S4x256x1024 j) (shapeCast SA (shapeCast SF d shapeCasts_S4x256x1024_S1024x1024) shapeCasts_S1024x1024_S4x256x1024 j)) = UPD a b c d
  simp only [shapeCast_shapeCast]
  funext j
  pointwise [UPD, upd, mom, var, con, MOM, VAR, ALL]
theorem tail_upd (c : Dev nD) : Pipeline.afterTail₀ cfgs (dats m) 0 (V0 m) [hostOps1] c main_v5 = UPD (arg0 m c) (arg1 m c) (arg2 m c) (arg3 m c) := by
  refine Eq.trans ?_ (same_upd (arg0 m c) (arg1 m c) (arg2 m c) (arg3 m c))
  unfold Pipeline.afterTail₀ hostOps1
  after_results
  exact congrArg (fun x : FVec Ideal SF .f32 => shapeCast SA x shapeCasts_S1024x1024_S4x256x1024) ((Pipeline.withArrays_arr spec0 (by decide) c (V0 m c) (fun w => (dats m 0 c).arrAt w (cfgs 0).N) 4).trans (final_upd m c))
theorem same_mom (b c : FVec Ideal SA .f32) :
    shapeCast SA (fun i : SF.Idx => mom (shapeCast SF b shapeCasts_S4x256x1024_S1024x1024 i) (shapeCast SF c shapeCasts_S4x256x1024_S1024x1024 i)) shapeCasts_S1024x1024_S4x256x1024 = MOM b c := by
  show (fun j => mom (shapeCast SA (shapeCast SF b shapeCasts_S4x256x1024_S1024x1024) shapeCasts_S1024x1024_S4x256x1024 j) (shapeCast SA (shapeCast SF c shapeCasts_S4x256x1024_S1024x1024) shapeCasts_S1024x1024_S4x256x1024 j)) = MOM b c
  simp only [shapeCast_shapeCast]
  funext j
  pointwise [MOM, upd, mom, var, con, MOM, VAR, ALL]
theorem tail_mom (c : Dev nD) : Pipeline.afterTail₀ cfgs (dats m) 0 (V0 m) [hostOps1] c main_v6 = MOM (arg1 m c) (arg2 m c) := by
  refine Eq.trans ?_ (same_mom (arg1 m c) (arg2 m c))
  unfold Pipeline.afterTail₀ hostOps1
  after_results
  exact congrArg (fun x : FVec Ideal SF .f32 => shapeCast SA x shapeCasts_S1024x1024_S4x256x1024) ((Pipeline.withArrays_arr spec0 (by decide) c (V0 m c) (fun w => (dats m 0 c).arrAt w (cfgs 0).N) 5).trans (final_mom m c))
theorem same_var (b d : FVec Ideal SA .f32) :
    shapeCast SA (fun i : SF.Idx => var (shapeCast SF b shapeCasts_S4x256x1024_S1024x1024 i) (shapeCast SF d shapeCasts_S4x256x1024_S1024x1024 i)) shapeCasts_S1024x1024_S4x256x1024 = VAR b d := by
  show (fun j => var (shapeCast SA (shapeCast SF b shapeCasts_S4x256x1024_S1024x1024) shapeCasts_S1024x1024_S4x256x1024 j) (shapeCast SA (shapeCast SF d shapeCasts_S4x256x1024_S1024x1024) shapeCasts_S1024x1024_S4x256x1024 j)) = VAR b d
  simp only [shapeCast_shapeCast]
  funext j
  pointwise [VAR, upd, mom, var, con, MOM, VAR, ALL]
theorem tail_var (c : Dev nD) : Pipeline.afterTail₀ cfgs (dats m) 0 (V0 m) [hostOps1] c main_v7 = VAR (arg1 m c) (arg3 m c) := by
  refine Eq.trans ?_ (same_var (arg1 m c) (arg3 m c))
  unfold Pipeline.afterTail₀ hostOps1
  after_results
  exact congrArg (fun x : FVec Ideal SF .f32 => shapeCast SA x shapeCasts_S1024x1024_S4x256x1024) ((Pipeline.withArrays_arr spec0 (by decide) c (V0 m c) (fun w => (dats m 0 c).arrAt w (cfgs 0).N) 6).trans (final_var m c))

theorem algebraic : Cert.algebraic_AoutIdeal_AoutReferenceIdeal := by
  intro m g m' g' _ hagree
  refine ⟨fun c => UPD (arg0 m c) (arg1 m c) (arg2 m c) (arg3 m c), fun c => MOM (arg1 m c) (arg2 m c), fun c => VAR (arg1 m c) (arg3 m c), ?_, ?_⟩
  · refine (θ_run defs _ _).mono (fun r h c => ⟨((h.1 c).2 main_v5 (by decide)).trans (tail_upd m c), ((h.1 c).2 main_v6 (by decide)).trans (tail_mom m c), ((h.1 c).2 main_v7 (by decide)).trans (tail_var m c), h.2 c⟩)
      (θ_run_and (run_main m g) (unchanged m g))
  · refine (θ_run Cert.AoutReferenceIdeal.defs _ _).mono (fun r h c => ?_) (Cert.AoutReferenceIdeal.Value.run (F := Ideal) m' g')
    obtain ⟨h0, h1, h2, ha⟩ := h c
    obtain ⟨e0, e1, e2, e3⟩ := hagree c
    rw [e0, e1, e2, e3] at h0
    rw [e1, e2] at h1
    rw [e1, e3] at h2
    exact ⟨h0, h1, h2, ha⟩

end Cert.AoutIdeal.Hand
-- ==== Proof.AsmallIdeal.Value.lean ====
/- The optimiser's step on the small weights: every point writes its own rows. -/
module

public import proofs.«01_k».proof.Proof.Gen.AsmallIdeal.Frame
public import proofs.«01_k».proof.Proof.Gen.AsmallReferenceIdeal.Run
public import proofs.«01_k».proof.Proof.Adam
public import proofs.«01_k».proof.Defs

@[expose] public section

set_option maxRecDepth 16384

noncomputable section

namespace Cert.AsmallIdeal.Hand

open Cert.AsmallIdeal Cert.AsmallIdeal.Gen Cert.Adam
open Idealize.ShloMosaic TcCoe Tactic Idealize.SL.Sem

variable (m : (ℓ : Loc nD τ sig) → Buf (Elt Ideal) ℓ)

abbrev SA : Shape := S288x128
abbrev SF : Shape := S288x128
abbrev SB : Shape := S144x128

/-- A constant of the reference, everywhere. -/
abbrev ALL (b : BitVec 32) : FVec Ideal SA .f32 := broadcastInDim SA ![] Cert.AsmallReferenceIdeal.Gen.bcast_S_S288x128 (constant Cert.AsmallReferenceIdeal.S_ .f32 b)
/-- The reference's three results: the weights' change and the two new moments. -/
abbrev MOM (g a : FVec Ideal SA .f32) : FVec Ideal SA .f32 := addf (mulf (ALL 0x3F666666#32) a) (mulf (ALL 0x3DCCCCCD#32) g)
abbrev VAR (g b : FVec Ideal SA .f32) : FVec Ideal SA .f32 := addf (mulf (ALL 0x3F7FBE77#32) b) (mulf (ALL 0x3A83126F#32) (mulf g g))
abbrev UPD (w g a b : FVec Ideal SA .f32) : FVec Ideal SA .f32 :=
  mulf (ALL 0xBA83126F#32) (addf (Host.divf (Host.divf (MOM g a) (ALL 0x3F26BD02#32)) (addf (Host.sqrt (Host.divf (VAR g b) (ALL 0x3C231ACC#32))) (ALL 0x322BCC77#32)))
    (mulf (ALL 0x3C23D70A#32) w))

/-- The weights, the gradient and the two moments. -/
abbrev arg0 (c : Dev nD) : FVec Ideal SA .f32 := m ((c : Thread nD τ).loc main_arg0)
abbrev arg1 (c : Dev nD) : FVec Ideal SA .f32 := m ((c : Thread nD τ).loc main_arg1)
abbrev arg2 (c : Dev nD) : FVec Ideal SA .f32 := m ((c : Thread nD τ).loc main_arg2)
abbrev arg3 (c : Dev nD) : FVec Ideal SA .f32 := m ((c : Thread nD τ).loc main_arg3)

/-- The argument's rows as the call gets them. -/
abbrev flat0 (c : Dev nD) : FVec Ideal SF .f32 := arg0 m c
abbrev flat1 (c : Dev nD) : FVec Ideal SF .f32 := arg1 m c
abbrev flat2 (c : Dev nD) : FVec Ideal SF .f32 := arg2 m c
abbrev flat3 (c : Dev nD) : FVec Ideal SF .f32 := arg3 m c

theorem upd_at (w g a b : Vec Ideal SB .f32) (i : SB.Idx) : k0_pay3 (F := Ideal) w g a b i = upd (w i) (g i) (a i) (b i) := by
  pointwise [k0_pay3, k0_pay2, k0_pay1, upd, mom, var]
theorem mom_at (g a : Vec Ideal SB .f32) (i : SB.Idx) : k0_pay1 (F := Ideal) g a i = mom (g i) (a i) := by
  pointwise [k0_pay1, mom]
theorem var_at (g b : Vec Ideal SB .f32) (i : SB.Idx) : k0_pay2 (F := Ideal) g b i = var (g i) (b i) := by
  pointwise [k0_pay2, var]

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem entry0 (c : Dev nD) : V m c main_arg0 = flat0 m c := V_main_arg0 m c
theorem blk0 (c : Dev nD) (t : Fin cfg0.N) (y : SB.Idx) : (show FVec Ideal SB .f32 from iblk m c 0 t) y = flat0 m c
    (ix2 ⟨t.val * 144 + (y 0).val, by have : (y 0).val < 144 := (y 0).isLt; have : t.val < 2 := lt_of_lt_of_eq t.isLt N_0; omega⟩ (y 1)) := by
  rw [← entry0]
  blk_ext [iblk, idx t]
theorem entry1 (c : Dev nD) : V m c main_arg1 = flat1 m c := V_main_arg1 m c
theorem blk1 (c : Dev nD) (t : Fin cfg0.N) (y : SB.Idx) : (show FVec Ideal SB .f32 from iblk m c 1 t) y = flat1 m c
    (ix2 ⟨t.val * 144 + (y 0).val, by have : (y 0).val < 144 := (y 0).isLt; have : t.val < 2 := lt_of_lt_of_eq t.isLt N_0; omega⟩ (y 1)) := by
  rw [← entry1]
  blk_ext [iblk, idx t]
theorem entry2 (c : Dev nD) : V m c main_arg2 = flat2 m c := V_main_arg2 m c
theorem blk2 (c : Dev nD) (t : Fin cfg0.N) (y : SB.Idx) : (show FVec Ideal SB .f32 from iblk m c 2 t) y = flat2 m c
    (ix2 ⟨t.val * 144 + (y 0).val, by have : (y 0).val < 144 := (y 0).isLt; have : t.val < 2 := lt_of_lt_of_eq t.isLt N_0; omega⟩ (y 1)) := by
  rw [← entry2]
  blk_ext [iblk, idx t]
theorem entry3 (c : Dev nD) : V m c main_arg3 = flat3 m c := V_main_arg3 m c
theorem blk3 (c : Dev nD) (t : Fin cfg0.N) (y : SB.Idx) : (show FVec Ideal SB .f32 from iblk m c 3 t) y = flat3 m c
    (ix2 ⟨t.val * 144 + (y 0).val, by have : (y 0).val < 144 := (y 0).isLt; have : t.val < 2 := lt_of_lt_of_eq t.isLt N_0; omega⟩ (y 1)) := by
  rw [← entry3]
  blk_ext [iblk, idx t]

theorem final_upd (c : Dev nD) : (dats m 0 c).arrAt 4 (cfgs 0).N = fun i : SF.Idx => upd (flat0 m c i) (flat1 m c i) (flat2 m c i) (flat3 m c i) := by
  refine (dats m 0 c).arrAt_eq_of_covers 4 _ (by decide +kernel) fun t hf y => ?_
  blk_simp
  rw [after0_4]
  frame_out
  refine (upd_at _ _ _ _ y).trans ?_
  refine (congr (congr (congr (congrArg upd (blk0 m c t y)) (blk1 m c t y)) (blk2 m c t y)) (blk3 m c t y)).trans ?_
  blk_point [idx t]
theorem final_mom (c : Dev nD) : (dats m 0 c).arrAt 5 (cfgs 0).N = fun i : SF.Idx => mom (flat1 m c i) (flat2 m c i) := by
  refine (dats m 0 c).arrAt_eq_of_covers 5 _ (by decide +kernel) fun t hf y => ?_
  blk_simp
  rw [after0_5]
  frame_out
  refine (mom_at _ _ y).trans ((congrArg₂ mom (blk1 m c t y) (blk2 m c t y)).trans ?_)
  blk_point [idx t]
theorem final_var (c : Dev nD) : (dats m 0 c).arrAt 6 (cfgs 0).N = fun i : SF.Idx => var (flat1 m c i) (flat3 m c i) := by
  refine (dats m 0 c).arrAt_eq_of_covers 6 _ (by decide +kernel) fun t hf y => ?_
  blk_simp
  rw [after0_6]
  frame_out
  refine (var_at _ _ y).trans ((congrArg₂ var (blk1 m c t y) (blk3 m c t y)).trans ?_)
  blk_point [idx t]

theorem same_upd (a b c d : FVec Ideal SA .f32) : (fun i : SF.Idx => upd (a i) (b i) (c i) (d i)) = UPD a b c d := by
  funext j
  pointwise [UPD, upd, mom, var, con, MOM, VAR, ALL]
theorem same_mom (b c : FVec Ideal SA .f32) : (fun i : SF.Idx => mom (b i) (c i)) = MOM b c := by
  funext j
  pointwise [MOM, upd, mom, var, con, MOM, VAR, ALL]
theorem same_var (b d : FVec Ideal SA .f32) : (fun i : SF.Idx => var (b i) (d i)) = VAR b d := by
  funext j
  pointwise [VAR, upd, mom, var, con, MOM, VAR, ALL]

theorem algebraic : Cert.algebraic_AsmallIdeal_AsmallReferenceIdeal := by
  intro m g m' g' _ hagree
  refine ⟨fun c => UPD (arg0 m c) (arg1 m c) (arg2 m c) (arg3 m c), fun c => MOM (arg1 m c) (arg2 m c), fun c => VAR (arg1 m c) (arg3 m c), ?_, ?_⟩
  · refine (θ_run defs _ _).mono (fun r h c => ⟨((h.1 c).1 4).trans ((final_upd m c).trans (same_upd (arg0 m c) (arg1 m c) (arg2 m c) (arg3 m c))), ((h.1 c).1 5).trans ((final_mom m c).trans (same_mom (arg1 m c) (arg2 m c))), ((h.1 c).1 6).trans ((final_var m c).trans (same_var (arg1 m c) (arg3 m c))), h.2 c⟩)
      (θ_run_and (run_main m g) (unchanged m g))
  · refine (θ_run Cert.AsmallReferenceIdeal.defs _ _).mono (fun r h c => ?_) (Cert.AsmallReferenceIdeal.Value.run (F := Ideal) m' g')
    obtain ⟨h0, h1, h2, ha⟩ := h c
    obtain ⟨e0, e1, e2, e3⟩ := hagree c
    rw [e0, e1, e2, e3] at h0
    rw [e1, e2] at h1
    rw [e1, e3] at h2
    exact ⟨h0, h1, h2, ha⟩

end Cert.AsmallIdeal.Hand
-- ==== Proof.AupIdeal.Value.lean ====
/- The optimiser's step on the channel mixer's two projections: every point writes its own rows. -/
module

public import proofs.«01_k».proof.Proof.Gen.AupIdeal.Frame
public import proofs.«01_k».proof.Proof.Gen.AupReferenceIdeal.Run
public import proofs.«01_k».proof.Proof.Adam
public import proofs.«01_k».proof.Defs

@[expose] public section

set_option maxRecDepth 16384

noncomputable section

namespace Cert.AupIdeal.Hand

open Cert.AupIdeal Cert.AupIdeal.Gen Cert.Adam
open Idealize.ShloMosaic TcCoe Tactic Idealize.SL.Sem

variable (m : (ℓ : Loc nD τ sig) → Buf (Elt Ideal) ℓ)

abbrev SA : Shape := S4x1024x1024
abbrev SF : Shape := S4096x1024
abbrev SB : Shape := S256x1024

/-- A constant of the reference, everywhere. -/
abbrev ALL (b : BitVec 32) : FVec Ideal SA .f32 := broadcastInDim SA ![] Cert.AupReferenceIdeal.Gen.bcast_S_S4x1024x1024 (constant Cert.AupReferenceIdeal.S_ .f32 b)
/-- The reference's three results: the weights' change and the two new moments. -/
abbrev MOM (g a : FVec Ideal SA .f32) : FVec Ideal SA .f32 := addf (mulf (ALL 0x3F666666#32) a) (mulf (ALL 0x3DCCCCCD#32) g)
abbrev VAR (g b : FVec Ideal SA .f32) : FVec Ideal SA .f32 := addf (mulf (ALL 0x3F7FBE77#32) b) (mulf (ALL 0x3A83126F#32) (mulf g g))
abbrev UPD (w g a b : FVec Ideal SA .f32) : FVec Ideal SA .f32 :=
  mulf (ALL 0xBA83126F#32) (addf (Host.divf (Host.divf (MOM g a) (ALL 0x3F26BD02#32)) (addf (Host.sqrt (Host.divf (VAR g b) (ALL 0x3C231ACC#32))) (ALL 0x322BCC77#32)))
    (mulf (ALL 0x3C23D70A#32) w))

/-- The weights, the gradient and the two moments. -/
abbrev arg0 (c : Dev nD) : FVec Ideal SA .f32 := m ((c : Thread nD τ).loc main_arg0)
abbrev arg1 (c : Dev nD) : FVec Ideal SA .f32 := m ((c : Thread nD τ).loc main_arg1)
abbrev arg2 (c : Dev nD) : FVec Ideal SA .f32 := m ((c : Thread nD τ).loc main_arg2)
abbrev arg3 (c : Dev nD) : FVec Ideal SA .f32 := m ((c : Thread nD τ).loc main_arg3)

/-- The argument's rows, one layer after another. -/
abbrev flat0 (c : Dev nD) : FVec Ideal SF .f32 := shapeCast SF (arg0 m c) shapeCasts_S4x1024x1024_S4096x1024
abbrev flat1 (c : Dev nD) : FVec Ideal SF .f32 := shapeCast SF (arg1 m c) shapeCasts_S4x1024x1024_S4096x1024
abbrev flat2 (c : Dev nD) : FVec Ideal SF .f32 := shapeCast SF (arg2 m c) shapeCasts_S4x1024x1024_S4096x1024
abbrev flat3 (c : Dev nD) : FVec Ideal SF .f32 := shapeCast SF (arg3 m c) shapeCasts_S4x1024x1024_S4096x1024

theorem upd_at (w g a b : Vec Ideal SB .f32) (i : SB.Idx) : k0_pay4 (F := Ideal) w g a b i = upd (w i) (g i) (a i) (b i) := by
  pointwise [k0_pay4, k0_pay3, k0_pay2, k0_pay1, upd, mom, var]
theorem mom_at (g a : Vec Ideal SB .f32) (i : SB.Idx) : k0_pay2 (F := Ideal) g a i = mom (g i) (a i) := by
  pointwise [k0_pay2, k0_pay1, mom]
theorem var_at (g b : Vec Ideal SB .f32) (i : SB.Idx) : k0_pay3 (F := Ideal) g b i = var (g i) (b i) := by
  pointwise [k0_pay3, k0_pay1, var]

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem entry0 (c : Dev nD) : V m c main_v0 = flat0 m c := by
  show V m c main_v0 = shapeCast SF (arg0 m c) shapeCasts_S4x1024x1024_S4096x1024
  entry_read; rfl
theorem blk0 (c : Dev nD) (t : Fin cfg0.N) (y : SB.Idx) : (show FVec Ideal SB .f32 from iblk m c 0 t) y = flat0 m c
    (ix2 ⟨t.val * 256 + (y 0).val, by have : (y 0).val < 256 := (y 0).isLt; have : t.val < 16 := lt_of_lt_of_eq t.isLt N_0; omega⟩ (y 1)) := by
  rw [← entry0]
  blk_ext [iblk, idx t]
theorem entry1 (c : Dev nD) : V m c main_v1 = flat1 m c := by
  show V m c main_v1 = shapeCast SF (arg1 m c) shapeCasts_S4x1024x1024_S4096x1024
  entry_read; rfl
theorem blk1 (c : Dev nD) (t : Fin cfg0.N) (y : SB.Idx) : (show FVec Ideal SB .f32 from iblk m c 1 t) y = flat1 m c
    (ix2 ⟨t.val * 256 + (y 0).val, by have : (y 0).val < 256 := (y 0).isLt; have : t.val < 16 := lt_of_lt_of_eq t.isLt N_0; omega⟩ (y 1)) := by
  rw [← entry1]
  blk_ext [iblk, idx t]
theorem entry2 (c : Dev nD) : V m c main_v2 = flat2 m c := by
  show V m c main_v2 = shapeCast SF (arg2 m c) shapeCasts_S4x1024x1024_S4096x1024
  entry_read; rfl
theorem blk2 (c : Dev nD) (t : Fin cfg0.N) (y : SB.Idx) : (show FVec Ideal SB .f32 from iblk m c 2 t) y = flat2 m c
    (ix2 ⟨t.val * 256 + (y 0).val, by have : (y 0).val < 256 := (y 0).isLt; have : t.val < 16 := lt_of_lt_of_eq t.isLt N_0; omega⟩ (y 1)) := by
  rw [← entry2]
  blk_ext [iblk, idx t]
theorem entry3 (c : Dev nD) : V m c main_v3 = flat3 m c := by
  show V m c main_v3 = shapeCast SF (arg3 m c) shapeCasts_S4x1024x1024_S4096x1024
  entry_read; rfl
theorem blk3 (c : Dev nD) (t : Fin cfg0.N) (y : SB.Idx) : (show FVec Ideal SB .f32 from iblk m c 3 t) y = flat3 m c
    (ix2 ⟨t.val * 256 + (y 0).val, by have : (y 0).val < 256 := (y 0).isLt; have : t.val < 16 := lt_of_lt_of_eq t.isLt N_0; omega⟩ (y 1)) := by
  rw [← entry3]
  blk_ext [iblk, idx t]

theorem final_upd (c : Dev nD) : (dats m 0 c).arrAt 4 (cfgs 0).N = fun i : SF.Idx => upd (flat0 m c i) (flat1 m c i) (flat2 m c i) (flat3 m c i) := by
  refine (dats m 0 c).arrAt_eq_of_covers 4 _ (by decide +kernel) fun t hf y => ?_
  blk_simp
  rw [after0_4]
  frame_out
  refine (upd_at _ _ _ _ y).trans ?_
  refine (congr (congr (congr (congrArg upd (blk0 m c t y)) (blk1 m c t y)) (blk2 m c t y)) (blk3 m c t y)).trans ?_
  blk_point [idx t]
theorem final_mom (c : Dev nD) : (dats m 0 c).arrAt 5 (cfgs 0).N = fun i : SF.Idx => mom (flat1 m c i) (flat2 m c i) := by
  refine (dats m 0 c).arrAt_eq_of_covers 5 _ (by decide +kernel) fun t hf y => ?_
  blk_simp
  rw [after0_5]
  frame_out
  refine (mom_at _ _ y).trans ((congrArg₂ mom (blk1 m c t y) (blk2 m c t y)).trans ?_)
  blk_point [idx t]
theorem final_var (c : Dev nD) : (dats m 0 c).arrAt 6 (cfgs 0).N = fun i : SF.Idx => var (flat1 m c i) (flat3 m c i) := by
  refine (dats m 0 c).arrAt_eq_of_covers 6 _ (by decide +kernel) fun t hf y => ?_
  blk_simp
  rw [after0_6]
  frame_out
  refine (var_at _ _ y).trans ((congrArg₂ var (blk1 m c t y) (blk3 m c t y)).trans ?_)
  blk_point [idx t]

theorem same_upd (a b c d : FVec Ideal SA .f32) :
    shapeCast SA (fun i : SF.Idx => upd (shapeCast SF a shapeCasts_S4x1024x1024_S4096x1024 i) (shapeCast SF b shapeCasts_S4x1024x1024_S4096x1024 i) (shapeCast SF c shapeCasts_S4x1024x1024_S4096x1024 i) (shapeCast SF d shapeCasts_S4x1024x1024_S4096x1024 i)) shapeCasts_S4096x1024_S4x1024x1024 = UPD a b c d := by
  show (fun j => upd (shapeCast SA (shapeCast SF a shapeCasts_S4x1024x1024_S4096x1024) shapeCasts_S4096x1024_S4x1024x1024 j) (shapeCast SA (shapeCast SF b shapeCasts_S4x1024x1024_S4096x1024) shapeCasts_S4096x1024_S4x1024x1024 j) (shapeCast SA (shapeCast SF c shapeCasts_S4x1024x1024_S4096x1024) shapeCasts_S4096x1024_S4x1024x1024 j) (shapeCast SA (shapeCast SF d shapeCasts_S4x1024x1024_S4096x1024) shapeCasts_S4096x1024_S4x1024x1024 j)) = UPD a b c d
  simp only [shapeCast_shapeCast]
  funext j
  pointwise [UPD, upd, mom, var, con, MOM, VAR, ALL]
theorem tail_upd (c : Dev nD) : Pipeline.afterTail₀ cfgs (dats m) 0 (V0 m) [hostOps1] c main_v5 = UPD (arg0 m c) (arg1 m c) (arg2 m c) (arg3 m c) := by
  refine Eq.trans ?_ (same_upd (arg0 m c) (arg1 m c) (arg2 m c) (arg3 m c))
  unfold Pipeline.afterTail₀ hostOps1
  after_results
  exact congrArg (fun x : FVec Ideal SF .f32 => shapeCast SA x shapeCasts_S4096x1024_S4x1024x1024) ((Pipeline.withArrays_arr spec0 (by decide) c (V0 m c) (fun w => (dats m 0 c).arrAt w (cfgs 0).N) 4).trans (final_upd m c))
theorem same_mom (b c : FVec Ideal SA .f32) :
    shapeCast SA (fun i : SF.Idx => mom (shapeCast SF b shapeCasts_S4x1024x1024_S4096x1024 i) (shapeCast SF c shapeCasts_S4x1024x1024_S4096x1024 i)) shapeCasts_S4096x1024_S4x1024x1024 = MOM b c := by
  show (fun j => mom (shapeCast SA (shapeCast SF b shapeCasts_S4x1024x1024_S4096x1024) shapeCasts_S4096x1024_S4x1024x1024 j) (shapeCast SA (shapeCast SF c shapeCasts_S4x1024x1024_S4096x1024) shapeCasts_S4096x1024_S4x1024x1024 j)) = MOM b c
  simp only [shapeCast_shapeCast]
  funext j
  pointwise [MOM, upd, mom, var, con, MOM, VAR, ALL]
theorem tail_mom (c : Dev nD) : Pipeline.afterTail₀ cfgs (dats m) 0 (V0 m) [hostOps1] c main_v6 = MOM (arg1 m c) (arg2 m c) := by
  refine Eq.trans ?_ (same_mom (arg1 m c) (arg2 m c))
  unfold Pipeline.afterTail₀ hostOps1
  after_results
  exact congrArg (fun x : FVec Ideal SF .f32 => shapeCast SA x shapeCasts_S4096x1024_S4x1024x1024) ((Pipeline.withArrays_arr spec0 (by decide) c (V0 m c) (fun w => (dats m 0 c).arrAt w (cfgs 0).N) 5).trans (final_mom m c))
theorem same_var (b d : FVec Ideal SA .f32) :
    shapeCast SA (fun i : SF.Idx => var (shapeCast SF b shapeCasts_S4x1024x1024_S4096x1024 i) (shapeCast SF d shapeCasts_S4x1024x1024_S4096x1024 i)) shapeCasts_S4096x1024_S4x1024x1024 = VAR b d := by
  show (fun j => var (shapeCast SA (shapeCast SF b shapeCasts_S4x1024x1024_S4096x1024) shapeCasts_S4096x1024_S4x1024x1024 j) (shapeCast SA (shapeCast SF d shapeCasts_S4x1024x1024_S4096x1024) shapeCasts_S4096x1024_S4x1024x1024 j)) = VAR b d
  simp only [shapeCast_shapeCast]
  funext j
  pointwise [VAR, upd, mom, var, con, MOM, VAR, ALL]
theorem tail_var (c : Dev nD) : Pipeline.afterTail₀ cfgs (dats m) 0 (V0 m) [hostOps1] c main_v7 = VAR (arg1 m c) (arg3 m c) := by
  refine Eq.trans ?_ (same_var (arg1 m c) (arg3 m c))
  unfold Pipeline.afterTail₀ hostOps1
  after_results
  exact congrArg (fun x : FVec Ideal SF .f32 => shapeCast SA x shapeCasts_S4096x1024_S4x1024x1024) ((Pipeline.withArrays_arr spec0 (by decide) c (V0 m c) (fun w => (dats m 0 c).arrAt w (cfgs 0).N) 6).trans (final_var m c))

theorem algebraic : Cert.algebraic_AupIdeal_AupReferenceIdeal := by
  intro m g m' g' _ hagree
  refine ⟨fun c => UPD (arg0 m c) (arg1 m c) (arg2 m c) (arg3 m c), fun c => MOM (arg1 m c) (arg2 m c), fun c => VAR (arg1 m c) (arg3 m c), ?_, ?_⟩
  · refine (θ_run defs _ _).mono (fun r h c => ⟨((h.1 c).2 main_v5 (by decide)).trans (tail_upd m c), ((h.1 c).2 main_v6 (by decide)).trans (tail_mom m c), ((h.1 c).2 main_v7 (by decide)).trans (tail_var m c), h.2 c⟩)
      (θ_run_and (run_main m g) (unchanged m g))
  · refine (θ_run Cert.AupReferenceIdeal.defs _ _).mono (fun r h c => ?_) (Cert.AupReferenceIdeal.Value.run (F := Ideal) m' g')
    obtain ⟨h0, h1, h2, ha⟩ := h c
    obtain ⟨e0, e1, e2, e3⟩ := hagree c
    rw [e0, e1, e2, e3] at h0
    rw [e1, e2] at h1
    rw [e1, e3] at h2
    exact ⟨h0, h1, h2, ha⟩

end Cert.AupIdeal.Hand
-- ==== Proof.BranchIdeal.Launch.lean ====
/- What every buffer holds when the regions and the host lines around them are done. -/
module

public import proofs.«01_k».proof.Proof.Gen.BranchIdeal.Frame

@[expose] public section

noncomputable section

namespace Cert.BranchIdeal.Hand

open Cert.BranchIdeal Cert.BranchIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the pipelines ends at the last segment boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨A, B, C⟩
      isplitl [A B]
      · isplitl [A]; · iexact A
        iexact B
      iexact C⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨A, -, C, -, B, -⟩, -⟩
      imodintro
      isplitl [A]; · iexact A
      isplitl [B]; · iexists _; iexact B
      iexists ∅; iexact C)
    (QY := fun c s => ∀ b ∈ Pipeline.ucRefs τ sig, s.mem (((c : Thread nD τ)).1, b) = W7 m ρ c b)
    (hfin := fun c s => by
      iintro ⟨⟨A, -⟩, S⟩
      unfold StableHlo.held
      imodintro
      iapply (pointsTo_read_all (Pipeline.ucRefs τ sig) (fun b => (((c : Thread nD τ)).1, b)) (W7 m ρ c) s)
      isplitl [A] <;> iassumption)
    (hQ := fun _ h _ => h)

end Cert.BranchIdeal.Hand
-- ==== Proof.BranchIdeal.Value.lean ====
/- The three branches' projections: every point writes its own block. -/
module

public import proofs.«01_k».proof.Proof.BranchIdeal.Launch
public import proofs.«01_k».proof.Proof.Gen.BranchReferenceIdeal.Run
public import proofs.«01_k».proof.Defs
public import Idealize.ShloMosaic.Lib.Pipeline.ValueKit
public import Idealize.ShloMosaic.Lib.Claim

@[expose] public section

set_option maxRecDepth 16384

noncomputable section

namespace Cert.BranchIdeal.Hand

open Cert.BranchIdeal Cert.BranchIdeal.Gen
open Idealize.ShloMosaic TcCoe Tactic Idealize.SL.Sem

variable (m : (ℓ : Loc nD τ sig) → Buf (Elt Ideal) ℓ) (ρ : Dev nD → PrngReg)

/-- The call's operands, as the launch has them. -/
abbrev in0 (c : Dev nD) : FVec Ideal S8192x256 .f32 := m ((c : Thread nD τ).loc main_arg0)
abbrev wt0 (c : Dev nD) : FVec Ideal S256x1024 .f32 := m ((c : Thread nD τ).loc main_arg3)
abbrev in1 (c : Dev nD) : FVec Ideal S8192x512 .f32 := m ((c : Thread nD τ).loc main_arg1)
abbrev wt1 (c : Dev nD) : FVec Ideal S512x1024 .f32 := m ((c : Thread nD τ).loc main_arg4)
abbrev in2 (c : Dev nD) : FVec Ideal S8192x256 .f32 := m ((c : Thread nD τ).loc main_arg2)
abbrev wt2 (c : Dev nD) : FVec Ideal S256x1024 .f32 := m ((c : Thread nD τ).loc main_arg5)
/-- The branch's projection. -/
abbrev RES0 (x : FVec Ideal S8192x256 .f32) (w : FVec Ideal S256x1024 .f32) : FVec Ideal S8192x1024 .f32 :=
  Host.dotGeneral Cert.BranchReferenceIdeal.dot_S8192x256_S256x1024_S8192x1024_1_0_0_1_n_n none x w
/-- The branch's projection. -/
abbrev RES1 (x : FVec Ideal S8192x512 .f32) (w : FVec Ideal S512x1024 .f32) : FVec Ideal S8192x1024 .f32 :=
  Host.dotGeneral Cert.BranchReferenceIdeal.dot_S8192x512_S512x1024_S8192x1024_1_0_0_1_n_n none x w
/-- The branch's projection. -/
abbrev RES2 (x : FVec Ideal S8192x256 .f32) (w : FVec Ideal S256x1024 .f32) : FVec Ideal S8192x1024 .f32 :=
  Host.dotGeneral Cert.BranchReferenceIdeal.dot_S8192x256_S256x1024_S8192x1024_1_0_0_1_n_n none x w

/-! ## Mixer A's branch -/

theorem left0 (c : Dev nD) : V1 m ρ c main_arg0 = in0 m c := W1_args m ρ c main_arg0 (by decide)
theorem right0 (c : Dev nD) (k : Fin 256) (j : Fin 1024) :
    (show FVec Ideal S1x256x1024 .bf16 from V1 m ρ c main_v1) (ix3 0 k j) = wt0 m c (ix2 k j) := by
  have e : V1 m ρ c main_v1 = (truncf .bf16 (broadcastInDim S1x256x1024 ![1, 2] bcast_S256x1024_S1x256x1024_1_2 (wt0 m c)) bitsLt_bf16_f32 :
      FVec Ideal S1x256x1024 .bf16) := by
    dsimp only [V1, W1]; after_results
  rw [e]
  pointwise

theorem idx0 : ∀ t : Fin cfg0.N, win0_0.index t = ![t.val, 0] ∧ win0_1.index t = ![0, 0, 0] ∧ win0_2.index t = ![t.val, 0] :=
  (by decide +kernel : ∀ t : Fin grid0.N, _)

theorem pay0_at (x : Vec Ideal S1024x256 .f32) (y : Vec Ideal S1x256x1024 .bf16) (i : S1024x1024.Idx) :
    k0_pay1 (F := Ideal) x y i = ∑ k : Fin 256, x (ix2 (i 0) k) * y (ix3 0 k (i 1)) := by
  pointwise [k0_pay1]

theorem left0_at (c : Dev nD) (t : Fin cfg0.N) (i : Fin 1024) (k : Fin 256) :
    (show FVec Ideal S1024x256 .f32 from iblk0 (V1 m ρ) c 0 t) (ix2 i k) = in0 m c (ix2 ⟨t.val * 1024 + i.val, by
      have : t.val < 8 := lt_of_lt_of_eq t.isLt N_0; omega⟩ k) := by
  rw [← left0 m ρ]
  blk_ext [iblk0, idx0 t]
theorem right0_at (c : Dev nD) (t : Fin cfg0.N) (k : Fin 256) (j : Fin 1024) :
    (show FVec Ideal S1x256x1024 .bf16 from iblk0 (V1 m ρ) c 1 t) (ix3 0 k j) = wt0 m c (ix2 k j) := by
  refine Eq.trans ?_ (right0 m ρ c k j)
  blk_ext [iblk0, idx0 t]

theorem final0 (c : Dev nD) : (dat0 (V1 m ρ) c).arrAt 2 cfg0.N = RES0 (in0 m c) (wt0 m c) := by
  refine (dat0 (V1 m ρ) c).arrAt_eq_of_covers 2 _ (by decide +kernel) fun t hf y => ?_
  blk_simp
  rw [after0_2]
  frame_out
  refine (pay0_at _ _ y).trans ?_
  pointwise [RES0]
  refine Finset.sum_congr rfl fun k _ => ?_
  refine (congrArg₂ (· * · : EReal → EReal → EReal) (left0_at m ρ c t (y 0) k) (right0_at m ρ c t k (y 1))).trans ?_
  blk_point [idx0 t]

/-! ## Mixer B's branch -/

theorem left1 (c : Dev nD) : V3 m ρ c main_arg1 = in1 m c := W3_args m ρ c main_arg1 (by decide)
theorem right1 (c : Dev nD) (k : Fin 512) (j : Fin 1024) :
    (show FVec Ideal S1x512x1024 .bf16 from V3 m ρ c main_v4) (ix3 0 k j) = wt1 m c (ix2 k j) := by
  have e : V3 m ρ c main_v4 = (truncf .bf16 (broadcastInDim S1x512x1024 ![1, 2] bcast_S512x1024_S1x512x1024_1_2 (wt1 m c)) bitsLt_bf16_f32 :
      FVec Ideal S1x512x1024 .bf16) := by
    dsimp only [V3, W3]; after_results
    rw [W2_args m ρ c main_arg4 (by decide)]
  rw [e]
  pointwise

theorem idx1 : ∀ t : Fin cfg1.N, win1_0.index t = ![t.val, 0] ∧ win1_1.index t = ![0, 0, 0] ∧ win1_2.index t = ![t.val, 0] :=
  (by decide +kernel : ∀ t : Fin grid1.N, _)

theorem pay1_at (x : Vec Ideal S1024x512 .f32) (y : Vec Ideal S1x512x1024 .bf16) (i : S1024x1024.Idx) :
    k1_pay1 (F := Ideal) x y i = ∑ k : Fin 512, x (ix2 (i 0) k) * y (ix3 0 k (i 1)) := by
  pointwise [k1_pay1]

theorem left1_at (c : Dev nD) (t : Fin cfg1.N) (i : Fin 1024) (k : Fin 512) :
    (show FVec Ideal S1024x512 .f32 from iblk1 (V3 m ρ) c 0 t) (ix2 i k) = in1 m c (ix2 ⟨t.val * 1024 + i.val, by
      have : t.val < 8 := lt_of_lt_of_eq t.isLt N_1; omega⟩ k) := by
  rw [← left1 m ρ]
  blk_ext [iblk1, idx1 t]
theorem right1_at (c : Dev nD) (t : Fin cfg1.N) (k : Fin 512) (j : Fin 1024) :
    (show FVec Ideal S1x512x1024 .bf16 from iblk1 (V3 m ρ) c 1 t) (ix3 0 k j) = wt1 m c (ix2 k j) := by
  refine Eq.trans ?_ (right1 m ρ c k j)
  blk_ext [iblk1, idx1 t]

theorem final1 (c : Dev nD) : (dat1 (V3 m ρ) c).arrAt 2 cfg1.N = RES1 (in1 m c) (wt1 m c) := by
  refine (dat1 (V3 m ρ) c).arrAt_eq_of_covers 2 _ (by decide +kernel) fun t hf y => ?_
  blk_simp
  rw [after1_2]
  frame_out
  refine (pay1_at _ _ y).trans ?_
  pointwise [RES1]
  refine Finset.sum_congr rfl fun k _ => ?_
  refine (congrArg₂ (· * · : EReal → EReal → EReal) (left1_at m ρ c t (y 0) k) (right1_at m ρ c t k (y 1))).trans ?_
  blk_point [idx1 t]

/-! ## Mixer C's branch -/

theorem left2 (c : Dev nD) : V5 m ρ c main_arg2 = in2 m c := W5_args m ρ c main_arg2 (by decide)
theorem right2 (c : Dev nD) (k : Fin 256) (j : Fin 1024) :
    (show FVec Ideal S1x256x1024 .bf16 from V5 m ρ c main_v7) (ix3 0 k j) = wt2 m c (ix2 k j) := by
  have e : V5 m ρ c main_v7 = (truncf .bf16 (broadcastInDim S1x256x1024 ![1, 2] bcast_S256x1024_S1x256x1024_1_2 (wt2 m c)) bitsLt_bf16_f32 :
      FVec Ideal S1x256x1024 .bf16) := by
    dsimp only [V5, W5]; after_results
    rw [W4_args m ρ c main_arg5 (by decide)]
  rw [e]
  pointwise

theorem idx2 : ∀ t : Fin cfg2.N, win2_0.index t = ![t.val, 0] ∧ win2_1.index t = ![0, 0, 0] ∧ win2_2.index t = ![t.val, 0] :=
  (by decide +kernel : ∀ t : Fin grid2.N, _)

theorem pay2_at (x : Vec Ideal S1024x256 .f32) (y : Vec Ideal S1x256x1024 .bf16) (i : S1024x1024.Idx) :
    k2_pay1 (F := Ideal) x y i = ∑ k : Fin 256, x (ix2 (i 0) k) * y (ix3 0 k (i 1)) := by
  pointwise [k2_pay1]

theorem left2_at (c : Dev nD) (t : Fin cfg2.N) (i : Fin 1024) (k : Fin 256) :
    (show FVec Ideal S1024x256 .f32 from iblk2 (V5 m ρ) c 0 t) (ix2 i k) = in2 m c (ix2 ⟨t.val * 1024 + i.val, by
      have : t.val < 8 := lt_of_lt_of_eq t.isLt N_2; omega⟩ k) := by
  rw [← left2 m ρ]
  blk_ext [iblk2, idx2 t]
theorem right2_at (c : Dev nD) (t : Fin cfg2.N) (k : Fin 256) (j : Fin 1024) :
    (show FVec Ideal S1x256x1024 .bf16 from iblk2 (V5 m ρ) c 1 t) (ix3 0 k j) = wt2 m c (ix2 k j) := by
  refine Eq.trans ?_ (right2 m ρ c k j)
  blk_ext [iblk2, idx2 t]

theorem final2 (c : Dev nD) : (dat2 (V5 m ρ) c).arrAt 2 cfg2.N = RES2 (in2 m c) (wt2 m c) := by
  refine (dat2 (V5 m ρ) c).arrAt_eq_of_covers 2 _ (by decide +kernel) fun t hf y => ?_
  blk_simp
  rw [after2_2]
  frame_out
  refine (pay2_at _ _ y).trans ?_
  pointwise [RES2]
  refine Finset.sum_congr rfl fun k _ => ?_
  refine (congrArg₂ (· * · : EReal → EReal → EReal) (left2_at m ρ c t (y 0) k) (right2_at m ρ c t k (y 1))).trans ?_
  blk_point [idx2 t]

/-! ## The results -/

theorem tail0 (c : Dev nD) : W7 m ρ c main_v9 = RES0 (in0 m c) (wt0 m c) := by
  dsimp only [W7]; after_results
  exact (W6_of m ρ c main_v2 (by decide)).trans ((W5_of m ρ c main_v2 (by decide)).trans ((W4_of m ρ c main_v2 (by decide)).trans ((W3_of m ρ c main_v2 (by decide)).trans ((W2_arr m ρ c 2).trans (final0 m ρ c)))))
theorem tail1 (c : Dev nD) : W7 m ρ c main_v10 = RES1 (in1 m c) (wt1 m c) := by
  dsimp only [W7]; after_results
  exact (W6_of m ρ c main_v5 (by decide)).trans ((W5_of m ρ c main_v5 (by decide)).trans ((W4_arr m ρ c 2).trans (final1 m ρ c)))
theorem tail2 (c : Dev nD) : W7 m ρ c main_v11 = RES2 (in2 m c) (wt2 m c) := by
  dsimp only [W7]; after_results
  exact (W6_arr m ρ c 2).trans (final2 m ρ c)

theorem algebraic : Cert.algebraic_BranchIdeal_BranchReferenceIdeal := by
  intro m g m' g' _ hagree
  refine ⟨fun c => RES0 (in0 m c) (wt0 m c), fun c => RES1 (in1 m c) (wt1 m c), fun c => RES2 (in2 m c) (wt2 m c), ?_, ?_⟩
  · refine (θ_run defs _ _).mono (fun r h c => ⟨(h.1 c _ (mem_uc main_v9 (by decide))).trans (tail0 m g c),
      (h.1 c _ (mem_uc main_v10 (by decide))).trans (tail1 m g c),
      (h.1 c _ (mem_uc main_v11 (by decide))).trans (tail2 m g c), h.2 c⟩) (θ_run_and (run_all m g) (unchanged m g))
  · refine (θ_run Cert.BranchReferenceIdeal.defs _ _).mono (fun r h c => ?_) (Cert.BranchReferenceIdeal.Value.run (F := Ideal) m' g')
    obtain ⟨h0, h1, h2, ha⟩ := h c
    obtain ⟨e0, e1, e2, e3, e4, e5⟩ := hagree c
    rw [e0, e3] at h0
    rw [e1, e4] at h1
    rw [e2, e5] at h2
    exact ⟨h0, h1, h2, ha⟩

end Cert.BranchIdeal.Hand
-- ==== Proof.DeltaIdeal.Value.lean ====
/- Hand-written, untrusted. The rows' products of attention's output and its gradient: a point's mask gathers the two heads of its lanes. -/
module

public import proofs.«01_k».proof.Proof.Gen.DeltaIdeal.Frame
public import proofs.«01_k».proof.Proof.Gen.DeltaReferenceIdeal.Run
public import proofs.«01_k».proof.Defs
public import Idealize.ShloMosaic.Lib.Pipeline.ValueKit
public import Idealize.ShloMosaic.Lib.Claim

@[expose] public section

set_option maxRecDepth 16384

noncomputable section

namespace Cert.DeltaIdeal.Hand

open Cert.DeltaIdeal Cert.DeltaIdeal.Gen
open Idealize.ShloMosaic Idealize.ShloMosaic.TcCoe Idealize.ShloMosaic.Tactic Idealize.SL.Sem

variable (m : (ℓ : Loc nD τ sig) → Buf (Elt Ideal) ℓ)

/-- The reference's result. -/
abbrev RES (x y : FVec Ideal S8192x512 .f32) : FVec Ideal S8x8192 .f32 :=
  Host.dotGeneral Cert.DeltaReferenceIdeal.dot_S8192x8x64_S8192x8x64_S8x8192_2_2_n_n_10_10 none (shapeCast _ x Cert.DeltaReferenceIdeal.Gen.shapeCasts_S8192x512_S8192x8x64)
    (shapeCast _ y Cert.DeltaReferenceIdeal.Gen.shapeCasts_S8192x512_S8192x8x64)

/-- The gradient and the output. -/
abbrev ct (c : Dev nD) : FVec Ideal S8192x512 .f32 := m ((c : Thread nD τ).loc main_arg0)
@[inherit_doc ct] abbrev oo (c : Dev nD) : FVec Ideal S8192x512 .f32 := m ((c : Thread nD τ).loc main_arg1)

theorem entry_ct (c : Dev nD) : V m c main_arg0 = ct m c := V_main_arg0 m c
theorem entry_oo (c : Dev nD) : V m c main_arg1 = oo m c := V_main_arg1 m c

theorem idx : ∀ t : Fin cfg0.N, win0_0.index t = ![t.val % 8, t.val / 8] ∧ win0_1.index t = ![t.val % 8, t.val / 8] ∧ win0_2.index t = ![t.val / 8, 0, t.val % 8] :=
  (by decide +kernel : ∀ t : Fin grid0.N, _)

theorem ct_at (c : Dev nD) (t : Fin cfg0.N) (i : Fin 1024) (j : Fin 128) :
    (show FVec Ideal S1024x128 .f32 from iblk m c 0 t) (ix2 i j) = ct m c (ix2 ⟨t.val % 8 * 1024 + i.val, by omega⟩ ⟨t.val / 8 * 128 + j.val, by
      have : t.val < 32 := lt_of_lt_of_eq t.isLt N_0; omega⟩) := by
  rw [← entry_ct]
  blk_ext [iblk, idx t]
theorem oo_at (c : Dev nD) (t : Fin cfg0.N) (i : Fin 1024) (j : Fin 128) :
    (show FVec Ideal S1024x128 .f32 from iblk m c 1 t) (ix2 i j) = oo m c (ix2 ⟨t.val % 8 * 1024 + i.val, by omega⟩ ⟨t.val / 8 * 128 + j.val, by
      have : t.val < 32 := lt_of_lt_of_eq t.isLt N_0; omega⟩) := by
  rw [← entry_oo]
  blk_ext [iblk, idx t]

/-- The mask of a point: row `r` takes the lanes of head `r` of the two. -/
theorem mask_at : ∀ (r : Fin 8) (l : Fin 128), IntOp.ori
    (IntOp.andi (IntOp.cmpi CmpIPredicate.eq (BitVec.ofNat 32 r.val) 0#32) (IntOp.cmpi CmpIPredicate.slt (BitVec.ofNat 32 l.val) 64#32))
    (IntOp.andi (IntOp.cmpi CmpIPredicate.eq (BitVec.ofNat 32 r.val) 1#32) (IntOp.cmpi CmpIPredicate.sge (BitVec.ofNat 32 l.val) 64#32))
      = if l.val / 64 = r.val then 1#1 else 0#1 := by decide +kernel

theorem select_if (p : Prop) [Decidable p] (a b : EReal) : Scalar.select (if p then 1#1 else 0#1) a b = if p then a else b := by
  by_cases h : p <;> simp [h, Scalar.select]

theorem pay_at (x y : Vec Ideal S1024x128 .f32) (i : S1x8x1024.Idx) :
    k0_pay1 (F := Ideal) x y i = ∑ l : Fin 128, if l.val / 64 = (i 1).val then x (ix2 (i 2) l) * y (ix2 (i 2) l) else 0 := by
  pointwise [k0_pay1]
  refine Finset.sum_congr rfl fun l _ => ?_
  refine Eq.trans (congrArg (fun w => Scalar.select w (x (ix2 (i 2) l) * y (ix2 (i 2) l)) (0 : EReal)) (mask_at (i 1) l)) ?_
  exact select_if _ _ _

/-- What the call leaves: a pair of heads, eight rows of which two are used, the tokens. -/
abbrev W (x y : FVec Ideal S8192x512 .f32) : FVec Ideal S4x8x8192 .f32 := fun i : S4x8x8192.Idx =>
  ∑ l : Fin 128, if l.val / 64 = (i 1).val then x (ix2 (i 2) ⟨(i 0).val * 128 + l.val, by have : (i 0).val < 4 := (i 0).isLt; omega⟩)
    * y (ix2 (i 2) ⟨(i 0).val * 128 + l.val, by have : (i 0).val < 4 := (i 0).isLt; omega⟩) else 0

theorem final (c : Dev nD) : (dats m 0 c).arrAt 2 (cfgs 0).N = W (ct m c) (oo m c) := by
  refine (dats m 0 c).arrAt_eq_of_covers 2 _ (by decide +kernel) fun t hf y => ?_
  blk_simp
  rw [after0_2]
  frame_out
  refine (pay_at _ _ y).trans ((Finset.sum_congr rfl fun l _ => congrArg (fun z : EReal => if l.val / 64 = (y 1).val then z else 0)
    (congrArg₂ (· * · : EReal → EReal → EReal) (ct_at m c t (y 2) l) (oo_at m c t (y 2) l))).trans ?_)
  have hN : t.val < 32 := lt_of_lt_of_eq t.isLt N_0
  have h2 : (y 2).val < 1024 := (y 2).isLt
  have key : ∀ A : FVec Ideal S4x8x8192 .f32, A (ix3 ⟨t.val / 8, by omega⟩ (y 1) ⟨t.val % 8 * 1024 + (y 2).val, by omega⟩)
      = A (((View.whole main_v0).slice (win0_2.rect t)).emb y) := fun A => by
    blk_point [idx t]
  exact key (W (ct m c) (oo m c))

theorem tail_eq (x y : FVec Ideal S8192x512 .f32) :
    shapeCast S8x8192 (extractStridedSlice S4x2x8192 ![0, 0, 0] (W x y) slices_S4x8x8192_S4x2x8192_0_0_0) shapeCasts_S4x2x8192_S8x8192 = RES x y := by
  funext i
  pointwise [RES]
  have h0 : (i 0).val < 8 := (i 0).isLt
  refine (Fin.sum_mul_add_fin 2 64 _).symm.trans ?_
  rw [Finset.sum_eq_single (⟨(i 0).val % 2, Nat.mod_lt _ (by omega)⟩ : Fin 2)]
  · refine Finset.sum_congr rfl fun d _ => ?_
    have hd := d.isLt
    rw [if_pos (by dsimp only; show _ = (i 0).val % 2; omega)]
    have hc : (i 0).val / 2 * 128 + ((i 0).val % 2 * 64 + d.val) = (i 0).val * 64 + d.val := by omega
    refine congrArg₂ (· * · : EReal → EReal → EReal) (congrArg (fun k => x (ix2 (i 1) k)) (Fin.ext hc)) (congrArg (fun k => y (ix2 (i 1) k)) (Fin.ext hc))
  · intro b _ hb
    refine Finset.sum_eq_zero fun d _ => ?_
    have hd := d.isLt
    have hb' : b.val ≠ (i 0).val % 2 := fun h => hb (Fin.ext h)
    rw [if_neg (by dsimp only; show ¬ _ = (i 0).val % 2; omega)]
  · exact fun h => absurd (Finset.mem_univ _) h

theorem tail (c : Dev nD) : Pipeline.afterTail₀ cfgs (dats m) 0 (V0 m) [hostOps1] c main_v2
    = (shapeCast S8x8192 (extractStridedSlice S4x2x8192 ![0, 0, 0] ((dats m 0 c).arrAt 2 (cfgs 0).N : FVec Ideal S4x8x8192 .f32) slices_S4x8x8192_S4x2x8192_0_0_0)
      shapeCasts_S4x2x8192_S8x8192 : FVec Ideal S8x8192 .f32) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v0)
      = (dats m 0 c).arrAt 2 cfg0.N := Pipeline.withArrays_arr spec0 (by decide) c _ _ 2
  rw [e]
  rfl

theorem algebraic : Cert.algebraic_DeltaIdeal_DeltaReferenceIdeal := by
  intro m g m' g' _ hagree
  refine ⟨fun c => RES (ct m c) (oo m c), ?_, ?_⟩
  · refine (θ_run defs _ _).mono (fun r h c => ⟨((h.1 c).2 main_v2 (by decide)).trans ((tail m c).trans ?_), h.2 c⟩)
      (θ_run_and (run_main m g) (unchanged m g))
    rw [final]
    exact tail_eq _ _
  · refine (θ_run Cert.DeltaReferenceIdeal.defs _ _).mono (fun r h c => ?_) (Cert.DeltaReferenceIdeal.Value.run (F := Ideal) m' g')
    obtain ⟨hr, ha⟩ := h c
    obtain ⟨e0, e1⟩ := hagree c
    rw [e0, e1] at hr
    exact ⟨hr, ha⟩

end Cert.DeltaIdeal.Hand
-- ==== Proof.Sig.lean ====
/- The gate of one channel of one branch. -/
module

public import Idealize.ShloMosaic.Lib.Pipeline.ValueKit
public import Idealize.ShloMosaic.Lib.Claim

@[expose] public section

noncomputable section

namespace Cert.Sig

open Idealize.ShloMosaic

/-- The sigmoid, spelled as both sides spell it. -/
abbrev sg (z : EReal) : EReal := Ideal.div 1 (1 + Ideal.exp (-z))

/-- The column of a branch's logit. -/
abbrev col (a : Fin 3) (j : Fin 1024) : Fin 3072 := ⟨a.val * 1024 + j.val, by have := a.isLt; omega⟩

end Cert.Sig

end
-- ==== Proof.Rows.lean ====
/- Sixteen blocks of sixty-four groups of eight rows are all the rows. -/
module

public import Idealize.ShloMosaic.Lib.Pipeline.ValueKit
public import Idealize.ShloMosaic.Lib.Claim

@[expose] public section

noncomputable section

namespace Cert.Rows

open Idealize.ShloMosaic Idealize.ShloMosaic.Tactic

/-- A row of an eight-row group within a block. -/
abbrev row (k : Fin 64) (r : Fin 8) : Fin 512 := ⟨k.val * 8 + r.val, by omega⟩
/-- A row of a block within the array. -/
abbrev glob (s : Fin 16) (i : Fin 512) : Fin 8192 := ⟨s.val * 512 + i.val, by omega⟩

theorem sum_rows (f : Fin 8192 → EReal) : ∑ r : Fin 8, ∑ s : Fin 16, ∑ k : Fin 64, f (glob s (row k r)) = ∑ x : Fin 8192, f x := by
  rw [Finset.sum_comm]
  refine Eq.trans (Finset.sum_congr rfl fun s _ => ?_) (Fin.sum_mul_add_fin 16 512 f)
  rw [Finset.sum_comm]
  exact Fin.sum_mul_add_fin 64 8 fun i => f (glob s i)

theorem coe_mul_sum {ι : Type} (s : Finset ι) (r : ℝ) (hr : 0 ≤ r) (f : ι → EReal) : (r : EReal) * ∑ i ∈ s, f i = ∑ i ∈ s, (r : EReal) * f i := by
  classical
  induction s using Finset.induction with
  | empty => simp
  | insert a s ha ih => rw [Finset.sum_insert ha, Finset.sum_insert ha, EReal.left_distrib_of_nonneg_of_ne_top (EReal.coe_nonneg.2 hr) (EReal.coe_ne_top r), ih]

/-- A quotient by 1024 in a sum is the sum's. -/
theorem sum_div {n : ℕ} (f : Fin n → EReal) : ∑ i : Fin n, Ideal.div (f i) ((1024 : ℝ) : EReal) = Ideal.div (∑ i : Fin n, f i) ((1024 : ℝ) : EReal) := by
  have h : (1024 : ℝ) ≠ 0 := by norm_num
  simp only [Ideal.div_coe h]
  rw [mul_comm, coe_mul_sum _ _ (by norm_num)]
  exact Finset.sum_congr rfl fun i _ => mul_comm _ _

theorem half_eq : Ideal.ofBits .f32 0x3F000000#32 = ((1 / 2 : ℝ) : EReal) := by
  simp [Ideal.ofBits, Ideal.ieee, -EReal.coe_mul]
  norm_num
theorem width_eq : Ideal.ofBits .f32 0x44800000#32 = ((1024 : ℝ) : EReal) := by
  simp [Ideal.ofBits, Ideal.ieee, -EReal.coe_mul]
  norm_num
theorem two_eq : Ideal.ofBits .f32 0x40000000#32 = ((2 : ℝ) : EReal) := by
  simp [Ideal.ofBits, Ideal.ieee, -EReal.coe_mul]
  norm_num
theorem inv_eq : Ideal.ofBits .f32 0x3A800000#32 = ((1 / 1024 : ℝ) : EReal) := by
  simp [Ideal.ofBits, Ideal.ieee, -EReal.coe_mul]
  norm_num

end Cert.Rows

end
-- ==== Proof.DgateIdeal.Value.lean ====
/- The gradients through the gates: every point writes its own rows and adds its columns' sums to the accumulator. -/
module

public import proofs.«01_k».proof.Proof.Gen.DgateIdeal.Frame
public import proofs.«01_k».proof.Proof.Gen.DgateReferenceIdeal.Run
public import proofs.«01_k».proof.Proof.Sig
public import proofs.«01_k».proof.Proof.Rows
public import proofs.«01_k».proof.Defs

@[expose] public section

set_option maxRecDepth 16384

noncomputable section

namespace Cert.DgateIdeal.Hand

open Cert.DgateIdeal Cert.DgateIdeal.Gen Cert.Sig Cert.Rows
open Idealize.ShloMosaic TcCoe Tactic Idealize.SL.Sem

variable (m : (ℓ : Loc nD τ sig) → Buf (Elt Ideal) ℓ)

/-- The reference's sigmoids, and the gates they are in three groups of columns. -/
abbrev SIGS (l : FVec Ideal S8192x3072 .f32) (b : FVec Ideal S3072 .f32) : FVec Ideal Cert.DgateReferenceIdeal.S8192x3072 .f32 :=
  Host.divf (broadcastInDim Cert.DgateReferenceIdeal.S8192x3072 ![] Cert.DgateReferenceIdeal.Gen.bcast_S_S8192x3072 (constant Cert.DgateReferenceIdeal.S_ .f32 0x3F800000#32))
    (addf (broadcastInDim Cert.DgateReferenceIdeal.S8192x3072 ![] Cert.DgateReferenceIdeal.Gen.bcast_S_S8192x3072 (constant Cert.DgateReferenceIdeal.S_ .f32 0x3F800000#32))
      (Host.exp (Host.negf (addf l (broadcastInDim Cert.DgateReferenceIdeal.S8192x3072 ![0, 1] Cert.DgateReferenceIdeal.Gen.bcast_S1x3072_S8192x3072_0_1
        (broadcastInDim Cert.DgateReferenceIdeal.S1x3072 ![1] Cert.DgateReferenceIdeal.Gen.bcast_S3072_S1x3072_1 b))))))
abbrev GATES (l : FVec Ideal S8192x3072 .f32) (b : FVec Ideal S3072 .f32) : FVec Ideal Cert.DgateReferenceIdeal.S8192x3x1024 .f32 :=
  shapeCast _ (SIGS l b) Cert.DgateReferenceIdeal.Gen.shapeCasts_S8192x3072_S8192x3x1024
/-- The gradient as the reference reads it. -/
abbrev DM (d : FVec Ideal S8192x1024 .f32) : FVec Ideal Cert.DgateReferenceIdeal.S8192x1024 .f32 :=
  shapeCast _ d Cert.DgateReferenceIdeal.Gen.shapeCasts_S8192x1024_S8192x1024
/-- The reference's gradients of the three branches. -/
abbrev DPA (l : FVec Ideal S8192x3072 .f32) (b : FVec Ideal S3072 .f32) (d : FVec Ideal S8192x1024 .f32) : FVec Ideal S8192x1024 .f32 :=
  mulf (shapeCast _ (extractStridedSlice Cert.DgateReferenceIdeal.S8192x1x1024 ![0, 0, 0] (GATES l b) Cert.DgateReferenceIdeal.Gen.slices_S8192x3x1024_S8192x1x1024_0_0_0)
    Cert.DgateReferenceIdeal.Gen.shapeCasts_S8192x1x1024_S8192x1024) (DM d)
abbrev DPB (l : FVec Ideal S8192x3072 .f32) (b : FVec Ideal S3072 .f32) (d : FVec Ideal S8192x1024 .f32) : FVec Ideal S8192x1024 .f32 :=
  mulf (shapeCast _ (extractStridedSlice Cert.DgateReferenceIdeal.S8192x1x1024 ![0, 1, 0] (GATES l b) Cert.DgateReferenceIdeal.Gen.slices_S8192x3x1024_S8192x1x1024_0_1_0)
    Cert.DgateReferenceIdeal.Gen.shapeCasts_S8192x1x1024_S8192x1024) (DM d)
abbrev DPC (l : FVec Ideal S8192x3072 .f32) (b : FVec Ideal S3072 .f32) (d : FVec Ideal S8192x1024 .f32) : FVec Ideal S8192x1024 .f32 :=
  mulf (shapeCast _ (extractStridedSlice Cert.DgateReferenceIdeal.S8192x1x1024 ![0, 2, 0] (GATES l b) Cert.DgateReferenceIdeal.Gen.slices_S8192x3x1024_S8192x1x1024_0_2_0)
    Cert.DgateReferenceIdeal.Gen.shapeCasts_S8192x1x1024_S8192x1024) (DM d)
/-- The reference's gradient of the logits. -/
abbrev DLOG (l : FVec Ideal S8192x3072 .f32) (b : FVec Ideal S3072 .f32) (p q r d : FVec Ideal S8192x1024 .f32) : FVec Ideal S8192x3072 .f32 :=
  mulf (shapeCast _ (addf (addf
      (pad Cert.DgateReferenceIdeal.S8192x3x1024 ![0, 2, 0] ![0, 0, 0] ![0, 0, 0] (broadcastInDim Cert.DgateReferenceIdeal.S8192x1x1024 ![0, 2] Cert.DgateReferenceIdeal.Gen.bcast_S8192x1024_S8192x1x1024_0_2
        (mulf (DM d) r)) (constant Cert.DgateReferenceIdeal.S_ .f32 0x00000000#32) Cert.DgateReferenceIdeal.Gen.pads_S8192x1x1024_S8192x3x1024_000_200_000 Cert.DgateReferenceIdeal.Gen.h_S_)
      (pad Cert.DgateReferenceIdeal.S8192x3x1024 ![0, 1, 0] ![0, 1, 0] ![0, 0, 0] (broadcastInDim Cert.DgateReferenceIdeal.S8192x1x1024 ![0, 2] Cert.DgateReferenceIdeal.Gen.bcast_S8192x1024_S8192x1x1024_0_2
        (mulf (DM d) q)) (constant Cert.DgateReferenceIdeal.S_ .f32 0x00000000#32) Cert.DgateReferenceIdeal.Gen.pads_S8192x1x1024_S8192x3x1024_000_110_000 Cert.DgateReferenceIdeal.Gen.h_S_))
      (pad Cert.DgateReferenceIdeal.S8192x3x1024 ![0, 0, 0] ![0, 2, 0] ![0, 0, 0] (broadcastInDim Cert.DgateReferenceIdeal.S8192x1x1024 ![0, 2] Cert.DgateReferenceIdeal.Gen.bcast_S8192x1024_S8192x1x1024_0_2
        (mulf (DM d) p)) (constant Cert.DgateReferenceIdeal.S_ .f32 0x00000000#32) Cert.DgateReferenceIdeal.Gen.pads_S8192x1x1024_S8192x3x1024_000_020_000 Cert.DgateReferenceIdeal.Gen.h_S_))
      Cert.DgateReferenceIdeal.Gen.shapeCasts_S8192x3x1024_S8192x3072)
    (mulf (SIGS l b) (subf (broadcastInDim Cert.DgateReferenceIdeal.S8192x3072 ![] Cert.DgateReferenceIdeal.Gen.bcast_S_S8192x3072 (constant Cert.DgateReferenceIdeal.S_ .f32 0x3F800000#32)) (SIGS l b)))
/-- The reference's gradient of the gates' bias. -/
abbrev DBG (x : FVec Ideal S8192x3072 .f32) : FVec Ideal S3072 .f32 :=
  Host.reduceAdd (shapeCast _ (Host.reduceAdd x (constant Cert.DgateReferenceIdeal.S_ .f32 0x00000000#32) Cert.DgateReferenceIdeal.Gen.reducesTo_S8192x3072_S3072_d0 Cert.DgateReferenceIdeal.Gen.h_S_)
    Cert.DgateReferenceIdeal.Gen.shapeCasts_S3072_S1x3072) (constant Cert.DgateReferenceIdeal.S_ .f32 0x00000000#32) Cert.DgateReferenceIdeal.Gen.reducesTo_S1x3072_S3072_d0 Cert.DgateReferenceIdeal.Gen.h_S_

/-- The gradient of a logit, from its branch, the gradient of the sum and the logit. -/
abbrev dl (d p z : EReal) : EReal := d * p * sg z * (1 - sg z)

/-- The gradient of a point's logits. -/
abbrev KL (d : Vec Ideal S512x1024 .f32) (l : Vec Ideal S512x3072 .bf16) (b : Vec Ideal S1x3072 .f32) (p q r : Vec Ideal S512x1024 .bf16) : FVec Ideal S512x3072 .f32 :=
  k0_pay1 (k0_pay12 l b) (k0_pay13 d l b p) (k0_pay14 d l b q) (k0_pay15 d l b r) (Scalar.ofBits .f32 0x3F800000#32)

theorem kl_a (d : Vec Ideal S512x1024 .f32) (l : Vec Ideal S512x3072 .bf16) (b : Vec Ideal S1x3072 .f32) (p q r : Vec Ideal S512x1024 .bf16) (i : Fin 512) (j : Fin 1024) :
    KL d l b p q r (ix2 i (col 0 j)) = dl (d (ix2 i j)) (p (ix2 i j)) (l (ix2 i (col 0 j)) + b (ix2 0 (col 0 j))) := by
  pointwise [KL, k0_pay1, k0_pay8, k0_pay9, k0_pay10, k0_pay11, k0_pay12, k0_pay13, k0_pay14, k0_pay15, dl, sg, col]
  rfl
theorem ref_a (l : FVec Ideal S8192x3072 .f32) (b : FVec Ideal S3072 .f32) (p q r d : FVec Ideal S8192x1024 .f32) (i : Fin 8192) (j : Fin 1024) :
    DLOG l b p q r d (ix2 i (col 0 j)) = dl (d (ix2 i j)) (p (ix2 i j)) (l (ix2 i (col 0 j)) + b (ix1 (col 0 j))) := by
  have hj := j.isLt
  pointwise [DLOG, SIGS, DM, dl, sg, col]
  split_ifs <;> try omega
  have e : ∀ h : j.val % 1024 < 1024, (⟨j.val % 1024, h⟩ : Fin 1024) = j := fun h => Fin.ext (by show j.val % 1024 = j.val; omega)
  simp only [zero_add, add_zero, e, mul_assoc]
theorem dp_a (d : Vec Ideal S512x1024 .f32) (l : Vec Ideal S512x3072 .bf16) (b : Vec Ideal S1x3072 .f32) (i : Fin 512) (j : Fin 1024) :
    k0_pay2 (F := Ideal) d (k0_pay10 l b) (ix2 i j) = d (ix2 i j) * sg (l (ix2 i (col 0 j)) + b (ix2 0 (col 0 j))) := by
  pointwise [k0_pay2, k0_pay8, k0_pay9, k0_pay10, sg, col]
  rfl
theorem dref_a (l : FVec Ideal S8192x3072 .f32) (b : FVec Ideal S3072 .f32) (d : FVec Ideal S8192x1024 .f32) (i : Fin 8192) (j : Fin 1024) :
    DPA l b d (ix2 i j) = d (ix2 i j) * sg (l (ix2 i (col 0 j)) + b (ix1 (col 0 j))) := by
  pointwise [DPA, SIGS, DM, GATES, sg, col]
  exact mul_comm _ _
theorem kl_b (d : Vec Ideal S512x1024 .f32) (l : Vec Ideal S512x3072 .bf16) (b : Vec Ideal S1x3072 .f32) (p q r : Vec Ideal S512x1024 .bf16) (i : Fin 512) (j : Fin 1024) :
    KL d l b p q r (ix2 i (col 1 j)) = dl (d (ix2 i j)) (q (ix2 i j)) (l (ix2 i (col 1 j)) + b (ix2 0 (col 1 j))) := by
  pointwise [KL, k0_pay1, k0_pay8, k0_pay9, k0_pay10, k0_pay11, k0_pay12, k0_pay13, k0_pay14, k0_pay15, dl, sg, col]
  rfl
theorem ref_b (l : FVec Ideal S8192x3072 .f32) (b : FVec Ideal S3072 .f32) (p q r d : FVec Ideal S8192x1024 .f32) (i : Fin 8192) (j : Fin 1024) :
    DLOG l b p q r d (ix2 i (col 1 j)) = dl (d (ix2 i j)) (q (ix2 i j)) (l (ix2 i (col 1 j)) + b (ix1 (col 1 j))) := by
  have hj := j.isLt
  pointwise [DLOG, SIGS, DM, dl, sg, col]
  split_ifs <;> try omega
  have e : ∀ h : (1024 + j.val) % 1024 < 1024, (⟨(1024 + j.val) % 1024, h⟩ : Fin 1024) = j := fun h => Fin.ext (by show (1024 + j.val) % 1024 = j.val; omega)
  simp only [zero_add, add_zero, e, mul_assoc]
theorem dp_b (d : Vec Ideal S512x1024 .f32) (l : Vec Ideal S512x3072 .bf16) (b : Vec Ideal S1x3072 .f32) (i : Fin 512) (j : Fin 1024) :
    k0_pay3 (F := Ideal) d (k0_pay11 l b) (ix2 i j) = d (ix2 i j) * sg (l (ix2 i (col 1 j)) + b (ix2 0 (col 1 j))) := by
  pointwise [k0_pay3, k0_pay8, k0_pay9, k0_pay11, sg, col]
  rfl
theorem dref_b (l : FVec Ideal S8192x3072 .f32) (b : FVec Ideal S3072 .f32) (d : FVec Ideal S8192x1024 .f32) (i : Fin 8192) (j : Fin 1024) :
    DPB l b d (ix2 i j) = d (ix2 i j) * sg (l (ix2 i (col 1 j)) + b (ix1 (col 1 j))) := by
  pointwise [DPB, SIGS, DM, GATES, sg, col]
  exact mul_comm _ _
theorem kl_c (d : Vec Ideal S512x1024 .f32) (l : Vec Ideal S512x3072 .bf16) (b : Vec Ideal S1x3072 .f32) (p q r : Vec Ideal S512x1024 .bf16) (i : Fin 512) (j : Fin 1024) :
    KL d l b p q r (ix2 i (col 2 j)) = dl (d (ix2 i j)) (r (ix2 i j)) (l (ix2 i (col 2 j)) + b (ix2 0 (col 2 j))) := by
  have hj := j.isLt
  pointwise [KL, k0_pay1, k0_pay8, k0_pay9, k0_pay10, k0_pay11, k0_pay12, k0_pay13, k0_pay14, k0_pay15, dl, sg, col]
  split_ifs <;> try omega
  have e : ∀ h, (⟨2048 + j.val - 1024 - 1024, h⟩ : Fin 1024) = j := fun h => Fin.ext (by show 2048 + j.val - 1024 - 1024 = j.val; omega)
  have e' : ∀ h, (⟨2048 + (2048 + j.val - 1024 - 1024), h⟩ : Fin 3072) = ⟨2048 + j.val, by omega⟩ := fun h => Fin.ext (by show 2048 + (2048 + j.val - 1024 - 1024) = 2048 + j.val; omega)
  simp only [e, e']
  rfl
theorem ref_c (l : FVec Ideal S8192x3072 .f32) (b : FVec Ideal S3072 .f32) (p q r d : FVec Ideal S8192x1024 .f32) (i : Fin 8192) (j : Fin 1024) :
    DLOG l b p q r d (ix2 i (col 2 j)) = dl (d (ix2 i j)) (r (ix2 i j)) (l (ix2 i (col 2 j)) + b (ix1 (col 2 j))) := by
  have hj := j.isLt
  pointwise [DLOG, SIGS, DM, dl, sg, col]
  split_ifs <;> try omega
  have e : ∀ h : (2048 + j.val) % 1024 < 1024, (⟨(2048 + j.val) % 1024, h⟩ : Fin 1024) = j := fun h => Fin.ext (by show (2048 + j.val) % 1024 = j.val; omega)
  simp only [zero_add, add_zero, e, mul_assoc]
theorem dp_c (d : Vec Ideal S512x1024 .f32) (l : Vec Ideal S512x3072 .bf16) (b : Vec Ideal S1x3072 .f32) (i : Fin 512) (j : Fin 1024) :
    k0_pay4 (F := Ideal) d (k0_pay12 l b) (ix2 i j) = d (ix2 i j) * sg (l (ix2 i (col 2 j)) + b (ix2 0 (col 2 j))) := by
  pointwise [k0_pay4, k0_pay8, k0_pay9, k0_pay12, sg, col]
  rfl
theorem dref_c (l : FVec Ideal S8192x3072 .f32) (b : FVec Ideal S3072 .f32) (d : FVec Ideal S8192x1024 .f32) (i : Fin 8192) (j : Fin 1024) :
    DPC l b d (ix2 i j) = d (ix2 i j) * sg (l (ix2 i (col 2 j)) + b (ix1 (col 2 j))) := by
  pointwise [DPC, SIGS, DM, GATES, sg, col]
  exact mul_comm _ _
theorem dbg_at (x : FVec Ideal S8192x3072 .f32) (j : Fin 3072) : DBG x (ix1 j) = ∑ i : Fin 8192, x (ix2 i j) := by
  pointwise [DBG]
  exact Fintype.sum_unique _
theorem bg_out (x : FVec Ideal S8x3072 .f32) (j : Fin 3072) :
    (Host.reduceAdd x (constant S_ .f32 0x00000000#32) reducesTo_S8x3072_S3072_d0 h_S_ : FVec Ideal S3072 .f32) (ix1 j) = ∑ i : Fin 8, x (ix2 i j) := by
  pointwise

theorem col_cases (x : Fin 3072) : (∃ j, x = col 0 j) ∨ (∃ j, x = col 1 j) ∨ (∃ j, x = col 2 j) := by
  have hx := x.isLt
  rcases Nat.lt_or_ge x.val 1024 with h | h
  · exact .inl ⟨⟨x.val, h⟩, Fin.ext (by show x.val = 0 * 1024 + x.val; omega)⟩
  · rcases Nat.lt_or_ge x.val 2048 with h' | h'
    · exact .inr (.inl ⟨⟨x.val - 1024, by omega⟩, Fin.ext (by show x.val = 1 * 1024 + (x.val - 1024); omega)⟩)
    · exact .inr (.inr ⟨⟨x.val - 2048, by omega⟩, Fin.ext (by show x.val = 2 * 1024 + (x.val - 2048); omega)⟩)

/-- The logits, the gates' bias, the three branches and the gradient of their sum. -/
abbrev lg (c : Dev nD) : FVec Ideal S8192x3072 .f32 := m ((c : Thread nD τ).loc main_arg0)
abbrev bg (c : Dev nD) : FVec Ideal S3072 .f32 := m ((c : Thread nD τ).loc main_arg1)
abbrev pa (c : Dev nD) : FVec Ideal S8192x1024 .f32 := m ((c : Thread nD τ).loc main_arg2)
abbrev pb (c : Dev nD) : FVec Ideal S8192x1024 .f32 := m ((c : Thread nD τ).loc main_arg3)
abbrev pc (c : Dev nD) : FVec Ideal S8192x1024 .f32 := m ((c : Thread nD τ).loc main_arg4)
abbrev dm (c : Dev nD) : FVec Ideal S8192x1024 .f32 := m ((c : Thread nD τ).loc main_arg5)

theorem entry_dm (c : Dev nD) : V m c main_arg5 = dm m c := V_main_arg5 m c
theorem entry_lg (c : Dev nD) : V m c main_v0 = lg m c := by
  show V m c main_v0 = m ((c : Thread nD τ).loc main_arg0)
  entry_read; rfl
theorem entry_bg (c : Dev nD) (j : Fin 3072) : (show FVec Ideal S1x3072 .f32 from V m c main_v1) (ix2 0 j) = bg m c (ix1 j) := by
  have e : V m c main_v1 = (broadcastInDim S1x3072 ![1] bcast_S3072_S1x3072_1 (bg m c) : FVec Ideal S1x3072 .f32) := by
    entry_read; rfl
  rw [e]
  pointwise
theorem entry_pa (c : Dev nD) : V m c main_v2 = pa m c := by
  show V m c main_v2 = m ((c : Thread nD τ).loc main_arg2)
  entry_read; rfl
theorem entry_pb (c : Dev nD) : V m c main_v3 = pb m c := by
  show V m c main_v3 = m ((c : Thread nD τ).loc main_arg3)
  entry_read; rfl
theorem entry_pc (c : Dev nD) : V m c main_v4 = pc m c := by
  show V m c main_v4 = m ((c : Thread nD τ).loc main_arg4)
  entry_read; rfl

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![t.val, 0] ∧ win0_10.index t = ![0, 0] :=
  (by decide +kernel : ∀ t : Fin grid0.N, _)

/-- The row of the array a point's row is. -/
abbrev at_ (t : Fin cfg0.N) (i : Fin 512) : Fin 8192 := ⟨t.val * 512 + i.val, by have : t.val < 16 := lt_of_lt_of_eq t.isLt N_0; omega⟩

theorem bg_at (c : Dev nD) (t : Fin cfg0.N) (j : Fin 3072) : (show FVec Ideal S1x3072 .f32 from iblk m c 2 t) (ix2 0 j) = bg m c (ix1 j) := by
  refine Eq.trans ?_ (entry_bg m c j)
  blk_ext [iblk, idx t]
theorem dm_at (c : Dev nD) (t : Fin cfg0.N) (i : Fin 512) (j : Fin 1024) :
    (show FVec Ideal S512x1024 .f32 from iblk m c 0 t) (ix2 i j) = dm m c (ix2 (at_ t i) j) := by
  rw [← entry_dm]
  blk_ext [iblk, idx t]
theorem lg_at (c : Dev nD) (t : Fin cfg0.N) (i : Fin 512) (j : Fin 3072) :
    (show FVec Ideal S512x3072 .bf16 from iblk m c 1 t) (ix2 i j) = lg m c (ix2 (at_ t i) j) := by
  rw [← entry_lg]
  blk_ext [iblk, idx t]
theorem pa_at (c : Dev nD) (t : Fin cfg0.N) (i : Fin 512) (j : Fin 1024) :
    (show FVec Ideal S512x1024 .bf16 from iblk m c 3 t) (ix2 i j) = pa m c (ix2 (at_ t i) j) := by
  rw [← entry_pa]
  blk_ext [iblk, idx t]
theorem pb_at (c : Dev nD) (t : Fin cfg0.N) (i : Fin 512) (j : Fin 1024) :
    (show FVec Ideal S512x1024 .bf16 from iblk m c 4 t) (ix2 i j) = pb m c (ix2 (at_ t i) j) := by
  rw [← entry_pb]
  blk_ext [iblk, idx t]
theorem pc_at (c : Dev nD) (t : Fin cfg0.N) (i : Fin 512) (j : Fin 1024) :
    (show FVec Ideal S512x1024 .bf16 from iblk m c 5 t) (ix2 i j) = pc m c (ix2 (at_ t i) j) := by
  rw [← entry_pc]
  blk_ext [iblk, idx t]

/-- The point's blocks' gradient of the logits. -/
abbrev kl (c : Dev nD) (t : Fin cfg0.N) : FVec Ideal S512x3072 .f32 :=
  KL (show FVec Ideal S512x1024 .f32 from iblk m c 0 t) (show FVec Ideal S512x3072 .bf16 from iblk m c 1 t) (show FVec Ideal S1x3072 .f32 from iblk m c 2 t)
    (show FVec Ideal S512x1024 .bf16 from iblk m c 3 t) (show FVec Ideal S512x1024 .bf16 from iblk m c 4 t) (show FVec Ideal S512x1024 .bf16 from iblk m c 5 t)
/-- The reference's gradient of the logits at the program's arguments. -/
abbrev dlog (c : Dev nD) : FVec Ideal S8192x3072 .f32 := DLOG (lg m c) (bg m c) (pa m c) (pb m c) (pc m c) (dm m c)

theorem logit_at (c : Dev nD) (t : Fin cfg0.N) (i : Fin 512) (j : Fin 3072) : (show FVec Ideal S512x3072 .bf16 from iblk m c 1 t) (ix2 i j)
    + (show FVec Ideal S1x3072 .f32 from iblk m c 2 t) (ix2 0 j) = lg m c (ix2 (at_ t i) j) + bg m c (ix1 j) :=
  congrArg₂ (· + · : EReal → EReal → EReal) (lg_at m c t i j) (bg_at m c t j)

theorem dl_congr {d d' p p' z z' : EReal} (hd : d = d') (hp : p = p') (hz : z = z') : dl d p z = dl d' p' z' := by
  rw [hd, hp, hz]

theorem kl_at (c : Dev nD) (t : Fin cfg0.N) (i : Fin 512) (x : Fin 3072) : kl m c t (ix2 i x) = dlog m c (ix2 (at_ t i) x) := by
  rcases col_cases x with ⟨j, rfl⟩ | ⟨j, rfl⟩ | ⟨j, rfl⟩
  · exact (kl_a _ _ _ _ _ _ i j).trans ((dl_congr (dm_at m c t i j) (pa_at m c t i j) (logit_at m c t i (col 0 j))).trans (ref_a _ _ _ _ _ _ _ j).symm)
  · exact (kl_b _ _ _ _ _ _ i j).trans ((dl_congr (dm_at m c t i j) (pb_at m c t i j) (logit_at m c t i (col 1 j))).trans (ref_b _ _ _ _ _ _ _ j).symm)
  · exact (kl_c _ _ _ _ _ _ i j).trans ((dl_congr (dm_at m c t i j) (pc_at m c t i j) (logit_at m c t i (col 2 j))).trans (ref_c _ _ _ _ _ _ _ j).symm)

theorem pay6_at (a b d e : FVec Ideal S512x1024 .f32) (k : Ideal .f32) (i : S8x3072.Idx) :
    k0_pay6 (F := Ideal) a b d e k i = ∑ g : Fin 64, k0_pay1 (F := Ideal) a b d e k (ix2 (row g (i 0)) (i 1)) := by
  pointwise [k0_pay6]
theorem pay7_at (a b d e : FVec Ideal S512x1024 .f32) (k : Ideal .f32) (x : Vec Ideal S8x3072 .f32) (i : S8x3072.Idx) :
    k0_pay7 (F := Ideal) a b d e k x i = x i + k0_pay6 (F := Ideal) a b d e k i := by
  pointwise [k0_pay7]

/-- The columns' sums a point adds. -/
abbrev part (c : Dev nD) (n : ℕ) (i : S8x3072.Idx) : EReal :=
  if hn : n < cfg0.N then ∑ g : Fin 64, kl m c ⟨n, hn⟩ (ix2 (row g (i 0)) (i 1)) else 0

theorem acc (c : Dev nD) (i : S8x3072.Idx) : ∀ (n : ℕ) (hn : n < cfg0.N), (outsAt0 m c n hn).2.2.2.2 i = ∑ s ∈ Finset.range (n + 1), part m c s i
  | 0, hn => by
    rw [outsAt0_A m c ⟨0, hn⟩ (by dsimp only) (by dsimp only; omega)]
    frame_out
    rw [Finset.sum_range_one, part, dif_pos hn]
    exact pay6_at _ _ _ _ _ i
  | n + 1, hn => by
    have h16 : n + 1 < 16 := lt_of_lt_of_eq hn N_0
    rw [outsAt0_B m c ⟨n + 1, hn⟩ (by dsimp only; omega) (by dsimp only; omega)]
    frame_out
    refine (pay7_at _ _ _ _ _ _ i).trans ?_
    rw [Finset.sum_range_succ, ← acc c i n (Nat.lt_of_succ_lt hn)]
    refine congrArg₂ (· + · : EReal → EReal → EReal) ?_ ?_
    · rfl
    · rw [part, dif_pos hn]
      exact pay6_at _ _ _ _ _ i

/-- The accumulator the last point leaves. -/
abbrev ACC (x : FVec Ideal S8192x3072 .f32) : FVec Ideal S8x3072 .f32 := fun i : S8x3072.Idx =>
  ∑ s : Fin 16, ∑ g : Fin 64, x (ix2 (glob s (row g (i 0))) (i 1))

theorem part_at (c : Dev nD) (s : Fin 16) (i : S8x3072.Idx) : part m c s.val i = ∑ g : Fin 64, dlog m c (ix2 (glob s (row g (i 0))) (i 1)) := by
  have h : s.val < cfg0.N := lt_of_lt_of_eq s.isLt N_0.symm
  rw [part, dif_pos h]
  exact Finset.sum_congr rfl fun g _ => kl_at m c ⟨s.val, h⟩ (row g (i 0)) (i 1)

theorem final_acc (c : Dev nD) : (dats m 0 c).arrAt 10 (cfgs 0).N = ACC (dlog m c) := by
  refine (dats m 0 c).arrAt_eq_of_covers 10 _ (by decide +kernel) fun t hf y => ?_
  have hm := (flush0_10 t).1 hf
  have hN : t.val < 16 := lt_of_lt_of_eq t.isLt N_0
  have ht : t.val + 1 = 16 := by omega
  blk_simp
  rw [after0_10]
  refine (acc m c y t.val t.isLt).trans ?_
  rw [ht, Finset.sum_range]
  refine (Finset.sum_congr rfl fun s _ => part_at m c s y).trans ?_
  have key : ∀ A : FVec Ideal S8x3072 .f32, A y = A (((View.whole main_v5_4).slice (win0_10.rect t)).emb y) := fun A => by
    blk_point [idx t]
  exact key (ACC (dlog m c))

theorem final_dlog (c : Dev nD) : (dats m 0 c).arrAt 9 (cfgs 0).N = dlog m c := by
  refine (dats m 0 c).arrAt_eq_of_covers 9 _ (by decide +kernel) fun t hf y => ?_
  have hN : t.val < 16 := lt_of_lt_of_eq t.isLt N_0
  blk_simp
  rw [after0_9]
  have e : (outsAt0 m c t.val t.isLt).2.2.2.1 y = kl m c t (ix2 (y 0) (y 1)) := by
    by_cases h : t.val % 16 = 0
    · rw [outsAt0_A m c t h (by omega)]
      frame_out
      exact congrArg (kl m c t) (ix2_eta y).symm
    · rw [outsAt0_B m c t h (by omega)]
      frame_out
      exact congrArg (kl m c t) (ix2_eta y).symm
  refine e.trans ((kl_at m c t (y 0) (y 1)).trans ?_)
  have key : ∀ A : FVec Ideal S8192x3072 .f32, A (ix2 (at_ t (y 0)) (y 1)) = A (((View.whole main_v5_3).slice (win0_9.rect t)).emb y) := fun A => by
    blk_point [idx t]
  exact key (dlog m c)

theorem final_a (c : Dev nD) : (dats m 0 c).arrAt 6 (cfgs 0).N = DPA (lg m c) (bg m c) (dm m c) := by
  refine (dats m 0 c).arrAt_eq_of_covers 6 _ (by decide +kernel) fun t hf y => ?_
  have hN : t.val < 16 := lt_of_lt_of_eq t.isLt N_0
  blk_simp
  rw [after0_6]
  have e : (outsAt0 m c t.val t.isLt).1 y = k0_pay2 (F := Ideal) (show FVec Ideal S512x1024 .f32 from iblk m c 0 t)
      (k0_pay10 (show FVec Ideal S512x3072 .bf16 from iblk m c 1 t) (show FVec Ideal S1x3072 .f32 from iblk m c 2 t)) (ix2 (y 0) (y 1)) := by
    by_cases h : t.val % 16 = 0
    · rw [outsAt0_A m c t h (by omega)]
      frame_out
      exact congrArg (k0_pay2 (F := Ideal) _ _) (ix2_eta y).symm
    · rw [outsAt0_B m c t h (by omega)]
      frame_out
      exact congrArg (k0_pay2 (F := Ideal) _ _) (ix2_eta y).symm
  refine e.trans ((dp_a _ _ _ (y 0) (y 1)).trans ?_)
  refine (congrArg₂ (fun a z : EReal => a * sg z) (dm_at m c t (y 0) (y 1)) (logit_at m c t (y 0) (col 0 (y 1)))).trans ?_
  refine (dref_a (lg m c) (bg m c) (dm m c) (at_ t (y 0)) (y 1)).symm.trans ?_
  have key : ∀ A : FVec Ideal S8192x1024 .f32, A (ix2 (at_ t (y 0)) (y 1)) = A (((View.whole main_v5_0).slice (win0_6.rect t)).emb y) := fun A => by
    blk_point [idx t]
  exact key (DPA (lg m c) (bg m c) (dm m c))

theorem final_b (c : Dev nD) : (dats m 0 c).arrAt 7 (cfgs 0).N = DPB (lg m c) (bg m c) (dm m c) := by
  refine (dats m 0 c).arrAt_eq_of_covers 7 _ (by decide +kernel) fun t hf y => ?_
  have hN : t.val < 16 := lt_of_lt_of_eq t.isLt N_0
  blk_simp
  rw [after0_7]
  have e : (outsAt0 m c t.val t.isLt).2.1 y = k0_pay3 (F := Ideal) (show FVec Ideal S512x1024 .f32 from iblk m c 0 t)
      (k0_pay11 (show FVec Ideal S512x3072 .bf16 from iblk m c 1 t) (show FVec Ideal S1x3072 .f32 from iblk m c 2 t)) (ix2 (y 0) (y 1)) := by
    by_cases h : t.val % 16 = 0
    · rw [outsAt0_A m c t h (by omega)]
      frame_out
      exact congrArg (k0_pay3 (F := Ideal) _ _) (ix2_eta y).symm
    · rw [outsAt0_B m c t h (by omega)]
      frame_out
      exact congrArg (k0_pay3 (F := Ideal) _ _) (ix2_eta y).symm
  refine e.trans ((dp_b _ _ _ (y 0) (y 1)).trans ?_)
  refine (congrArg₂ (fun a z : EReal => a * sg z) (dm_at m c t (y 0) (y 1)) (logit_at m c t (y 0) (col 1 (y 1)))).trans ?_
  refine (dref_b (lg m c) (bg m c) (dm m c) (at_ t (y 0)) (y 1)).symm.trans ?_
  have key : ∀ A : FVec Ideal S8192x1024 .f32, A (ix2 (at_ t (y 0)) (y 1)) = A (((View.whole main_v5_1).slice (win0_7.rect t)).emb y) := fun A => by
    blk_point [idx t]
  exact key (DPB (lg m c) (bg m c) (dm m c))

theorem final_c (c : Dev nD) : (dats m 0 c).arrAt 8 (cfgs 0).N = DPC (lg m c) (bg m c) (dm m c) := by
  refine (dats m 0 c).arrAt_eq_of_covers 8 _ (by decide +kernel) fun t hf y => ?_
  have hN : t.val < 16 := lt_of_lt_of_eq t.isLt N_0
  blk_simp
  rw [after0_8]
  have e : (outsAt0 m c t.val t.isLt).2.2.1 y = k0_pay4 (F := Ideal) (show FVec Ideal S512x1024 .f32 from iblk m c 0 t)
      (k0_pay12 (show FVec Ideal S512x3072 .bf16 from iblk m c 1 t) (show FVec Ideal S1x3072 .f32 from iblk m c 2 t)) (ix2 (y 0) (y 1)) := by
    by_cases h : t.val % 16 = 0
    · rw [outsAt0_A m c t h (by omega)]
      frame_out
      exact congrArg (k0_pay4 (F := Ideal) _ _) (ix2_eta y).symm
    · rw [outsAt0_B m c t h (by omega)]
      frame_out
      exact congrArg (k0_pay4 (F := Ideal) _ _) (ix2_eta y).symm
  refine e.trans ((dp_c _ _ _ (y 0) (y 1)).trans ?_)
  refine (congrArg₂ (fun a z : EReal => a * sg z) (dm_at m c t (y 0) (y 1)) (logit_at m c t (y 0) (col 2 (y 1)))).trans ?_
  refine (dref_c (lg m c) (bg m c) (dm m c) (at_ t (y 0)) (y 1)).symm.trans ?_
  have key : ∀ A : FVec Ideal S8192x1024 .f32, A (ix2 (at_ t (y 0)) (y 1)) = A (((View.whole main_v5_2).slice (win0_8.rect t)).emb y) := fun A => by
    blk_point [idx t]
  exact key (DPC (lg m c) (bg m c) (dm m c))

theorem bias_eq (x : FVec Ideal S8192x3072 .f32) : (Host.reduceAdd (ACC x) (constant S_ .f32 0x00000000#32) reducesTo_S8x3072_S3072_d0 h_S_ : FVec Ideal S3072 .f32) = DBG x := by
  funext i
  obtain ⟨j, rfl⟩ : ∃ j, i = ix1 j := ⟨i 0, (ix1_eta i).symm⟩
  rw [bg_out, dbg_at]
  exact sum_rows fun r => x (ix2 r j)

theorem tail_dlog (c : Dev nD) : Pipeline.afterTail₀ cfgs (dats m) 0 (V0 m) [hostOps1] c main_v6 = (dats m 0 c).arrAt 9 (cfgs 0).N := by
  unfold Pipeline.afterTail₀ hostOps1
  after_results
  exact (Pipeline.withArrays_arr spec0 (by decide) c (V0 m c) (fun w => (dats m 0 c).arrAt w (cfgs 0).N) 9 :)
theorem tail_bias (c : Dev nD) : Pipeline.afterTail₀ cfgs (dats m) 0 (V0 m) [hostOps1] c main_v7 = (Host.reduceAdd ((dats m 0 c).arrAt 10 (cfgs 0).N : FVec Ideal S8x3072 .f32) (constant S_ .f32 0x00000000#32) reducesTo_S8x3072_S3072_d0 h_S_ : FVec Ideal S3072 .f32) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v5_4)
      = (dats m 0 c).arrAt 10 cfg0.N := Pipeline.withArrays_arr spec0 (by decide) c _ _ 10
  rw [e]
theorem tail_a (c : Dev nD) : Pipeline.afterTail₀ cfgs (dats m) 0 (V0 m) [hostOps1] c main_v8 = (dats m 0 c).arrAt 6 (cfgs 0).N := by
  unfold Pipeline.afterTail₀ hostOps1
  after_results
  exact (Pipeline.withArrays_arr spec0 (by decide) c (V0 m c) (fun w => (dats m 0 c).arrAt w (cfgs 0).N) 6 :)
theorem tail_b (c : Dev nD) : Pipeline.afterTail₀ cfgs (dats m) 0 (V0 m) [hostOps1] c main_v9 = (dats m 0 c).arrAt 7 (cfgs 0).N := by
  unfold Pipeline.afterTail₀ hostOps1
  after_results
  exact (Pipeline.withArrays_arr spec0 (by decide) c (V0 m c) (fun w => (dats m 0 c).arrAt w (cfgs 0).N) 7 :)
theorem tail_c (c : Dev nD) : Pipeline.afterTail₀ cfgs (dats m) 0 (V0 m) [hostOps1] c main_v10 = (dats m 0 c).arrAt 8 (cfgs 0).N := by
  unfold Pipeline.afterTail₀ hostOps1
  after_results
  exact (Pipeline.withArrays_arr spec0 (by decide) c (V0 m c) (fun w => (dats m 0 c).arrAt w (cfgs 0).N) 8 :)

theorem algebraic : Cert.algebraic_DgateIdeal_DgateReferenceIdeal := by
  intro m g m' g' _ hagree
  refine ⟨fun c => dlog m c, fun c => DBG (dlog m c), fun c => DPA (lg m c) (bg m c) (dm m c), fun c => DPB (lg m c) (bg m c) (dm m c), fun c => DPC (lg m c) (bg m c) (dm m c), ?_, ?_⟩
  · refine (θ_run defs _ _).mono (fun r h c => ⟨((h.1 c).2 main_v6 (by decide)).trans ((tail_dlog m c).trans (final_dlog m c)), ((h.1 c).2 main_v7 (by decide)).trans ((tail_bias m c).trans ?_),
      ((h.1 c).2 main_v8 (by decide)).trans ((tail_a m c).trans (final_a m c)), ((h.1 c).2 main_v9 (by decide)).trans ((tail_b m c).trans (final_b m c)),
      ((h.1 c).2 main_v10 (by decide)).trans ((tail_c m c).trans (final_c m c)), h.2 c⟩)
      (θ_run_and (run_main m g) (unchanged m g))
    rw [final_acc]
    exact bias_eq _
  · refine (θ_run Cert.DgateReferenceIdeal.defs _ _).mono (fun r h c => ?_) (Cert.DgateReferenceIdeal.Value.run (F := Ideal) m' g')
    obtain ⟨h0, h1, h2, h3, h4, ha⟩ := h c
    obtain ⟨e0, e1, e2, e3, e4, e5⟩ := hagree c
    rw [e0, e1, e2, e3, e4, e5] at h0 h1
    rw [e0, e1, e5] at h2 h3 h4
    exact ⟨h0, h1, h2, h3, h4, ha⟩

end Cert.DgateIdeal.Hand
-- ==== Proof.DlnIdeal.Finite.lean ====
/- The precondition's stated side conditions, and that every element of the gain and of the cotangent is a real number. -/
module

public import proofs.«01_k».proof.Pre_finite_ln
public import proofs.«01_k».proof.Proof.Finite

@[expose] public section

namespace Cert.Pre_finite_ln.Hand

open Idealize.ShloMosaic Cert.Pre_finite_ln
open Cert.Pre_finite.Hand (real_of)

theorem facts : Cert.Pre_finite_ln.Facts where
  bcast_S_S1024 := by decide
  reducesTo_S1024_S_d0 := by decide
  h_S_ := by decide
  bcast_S_S8192x1024 := by decide
  reducesTo_S8192x1024_S_d0_1 := by decide

attribute [local instance] facts

theorem reals (r : FVec Ideal S8192x1024 .f32) (g b : FVec Ideal S1024 .f32) (d : FVec Ideal S8192x1024 .f32) (h : fn (F := Ideal) r g b d = fun _ => 1#1) :
    (∀ i, ∃ x : ℝ, g i = (x : EReal)) ∧ ∀ i, ∃ x : ℝ, d i = (x : EReal) := by
  have h := congrFun h ix0
  unfold fn at h
  obtain ⟨h0, h1⟩ := IntOp.andi_eq_one.1 h
  exact ⟨real_of g _ _ _ h0, real_of d _ _ _ h1⟩

end Cert.Pre_finite_ln.Hand
-- ==== Proof.LnGrad.lean ====
/- A layer norm's gradient of one row: the form with the two means taken out of it is the derivative through the mean and the variance. -/
module

public import proofs.«01_k».proof.Proof.Rows
public import proofs.«01_k».proof.Proof.Reals

@[expose] public section

noncomputable section

namespace Cert.LnGrad

open Idealize.ShloMosaic Idealize.ShloMosaic.Tactic
open Cert.Attn (coe_sum)

/-- The numbers the programs name: the row's length, the variance's shift and the inverse root's factor. -/
abbrev len : EReal := Ideal.ofBits .f32 0x44800000#32
abbrev eps : EReal := Ideal.ofBits .f32 0x3727C5AC#32
abbrev nhalf : EReal := Ideal.ofBits .f32 0xBF000000#32
abbrev two : EReal := Ideal.ofBits .f32 0x40000000#32

/-- A row's mean, its entries less the mean, their mean square with the shift, its inverse root, and the normalised row. -/
def mean (f : Fin 1024 → EReal) : EReal := Ideal.div (∑ k : Fin 1024, f k) len
def dev (f : Fin 1024 → EReal) (j : Fin 1024) : EReal := f j - mean f
def var (f : Fin 1024 → EReal) : EReal := mean (fun k => dev f k * dev f k) + eps
def irt (f : Fin 1024 → EReal) : EReal := Ideal.rsqrt (var f)
def nrm (f : Fin 1024 → EReal) (j : Fin 1024) : EReal := dev f j * irt f

/-- The row's gradient with the means taken out. -/
def short (f d : Fin 1024 → EReal) (j : Fin 1024) : EReal :=
  irt f * (d j - mean d - nrm f j * mean (fun k => d k * nrm f k))
/-- The gradient of the mean square. -/
def dvar (f d : Fin 1024 → EReal) : EReal :=
  Ideal.div ((∑ k : Fin 1024, dev f k * d k) * (nhalf * Ideal.div (irt f) (var f))) len
/-- The row's gradient through the mean and the mean square. -/
def long (f d : Fin 1024 → EReal) (j : Fin 1024) : EReal :=
  d j * irt f + dvar f d * (two * dev f j)
    + Ideal.div ((∑ k : Fin 1024, -(d k * irt f)) + ∑ k : Fin 1024, -(dvar f d * (two * dev f k))) len

theorem nhalf_eq : nhalf = ((-(1 / 2) : ℝ) : EReal) := by
  simp [Ideal.ofBits, Ideal.ieee, -EReal.coe_mul, -EReal.coe_neg]
  norm_num
theorem eps_eq : ∃ e : ℝ, 0 < e ∧ eps = (e : EReal) := by
  refine ⟨_, ?_, by simp [Ideal.ofBits, Ideal.ieee, -EReal.coe_mul]; rfl⟩
  positivity

theorem div_len (x : EReal) : Ideal.div x len = x * ((1 / 1024 : ℝ) : EReal) := by
  rw [len, Rows.width_eq, Ideal.div_coe (by norm_num)]

theorem mean_coe (x : Fin 1024 → ℝ) : mean (fun k => (x k : EReal)) = (((∑ k, x k) * (1 / 1024) : ℝ) : EReal) := by
  rw [mean, div_len, coe_sum, EReal.coe_mul]

theorem same_real (x d : Fin 1024 → ℝ) (j : Fin 1024) : short (fun k => (x k : EReal)) (fun k => (d k : EReal)) j = long (fun k => (x k : EReal)) (fun k => (d k : EReal)) j := by
  obtain ⟨e, he, hE⟩ := eps_eq
  have hdev : ∀ k, dev (fun k => (x k : EReal)) k = ((x k - (∑ k, x k) * (1 / 1024) : ℝ) : EReal) := fun k => by
    rw [dev, mean_coe, EReal.coe_sub]
  obtain ⟨c, hc⟩ : ∃ c : Fin 1024 → ℝ, c = fun k => x k - (∑ k, x k) * (1 / 1024) := ⟨_, rfl⟩
  have hsum : ∑ k, c k = 0 := by
    rw [hc, Finset.sum_sub_distrib, Finset.sum_const, Finset.card_univ, Fintype.card_fin, nsmul_eq_mul]
    push_cast
    ring
  replace hdev : ∀ k, dev (fun k => (x k : EReal)) k = (c k : EReal) := fun k => by rw [hdev, hc]
  have hvar : var (fun k => (x k : EReal)) = (((∑ k, c k * c k) * (1 / 1024) + e : ℝ) : EReal) := by
    rw [var, hE]
    simp only [hdev, ← EReal.coe_mul]
    rw [mean_coe, EReal.coe_add]
  obtain ⟨v, hv⟩ : ∃ v : ℝ, v = (∑ k, c k * c k) * (1 / 1024) + e := ⟨_, rfl⟩
  rw [← hv] at hvar
  have hpos : 0 < v := by
    have : 0 ≤ ∑ k, c k * c k := Finset.sum_nonneg fun k _ => mul_self_nonneg _
    rw [hv]; positivity
  have hinv : irt (fun k => (x k : EReal)) = (((Real.sqrt v)⁻¹ : ℝ) : EReal) := by
    rw [irt, hvar, Ideal.rsqrt_coe, if_neg (not_lt.2 hpos.le), if_neg hpos.ne']
  have hsq : (Real.sqrt v)⁻¹ * (Real.sqrt v)⁻¹ = 1 / v := by
    rw [← mul_inv, Real.mul_self_sqrt hpos.le, one_div]
  obtain ⟨s, hs⟩ : ∃ s : ℝ, s = (Real.sqrt v)⁻¹ := ⟨_, rfl⟩
  rw [← hs] at hinv hsq
  have hdvar : dvar (fun k => (x k : EReal)) (fun k => (d k : EReal)) = (((∑ k, c k * d k) * (-(1 / 2) * (s * (s * s))) * (1 / 1024) : ℝ) : EReal) := by
    rw [dvar, div_len, hinv, hvar, nhalf_eq, Ideal.div_coe hpos.ne', hsq]
    simp only [hdev, ← EReal.coe_mul, coe_sum]
  simp only [short, long, nrm, hdvar, hinv, hdev, div_len, mean_coe, ← EReal.coe_mul, ← EReal.coe_sub, ← EReal.coe_neg, coe_sum, ← EReal.coe_add, two, Rows.two_eq]
  refine congrArg (fun r : ℝ => (r : EReal)) ?_
  have h1 : ∑ k, -(d k * s) = -((∑ k, d k) * s) := by rw [Finset.sum_neg_distrib, Finset.sum_mul]
  have h2 : ∀ a : ℝ, ∑ k, -(a * (2 * c k)) = 0 := fun a => by
    rw [Finset.sum_neg_distrib, ← Finset.mul_sum, ← Finset.mul_sum, hsum]; ring
  have h3 : ∑ k, d k * (c k * s) = (∑ k, c k * d k) * s := by
    rw [Finset.sum_mul]; exact Finset.sum_congr rfl fun k _ => by ring
  rw [h1, h2, h3]
  ring

theorem sum_bot {n : ℕ} (f : Fin n → EReal) (k : Fin n) (h : f k = ⊥) : ∑ i, f i = ⊥ := by
  rw [← Finset.add_sum_erase _ _ (Finset.mem_univ k), h, EReal.bot_add]
theorem sum_ne_bot {ι : Type} (s : Finset ι) (f : ι → EReal) (h : ∀ i, f i ≠ ⊥) : ∑ i ∈ s, f i ≠ ⊥ := by
  classical
  induction s using Finset.induction with
  | empty => simp
  | insert a s ha ih => rw [Finset.sum_insert ha]; exact fun e => (EReal.add_eq_bot_iff.1 e).elim (h a) ih
theorem sum_top {n : ℕ} (f : Fin n → EReal) (k : Fin n) (h : f k = ⊤) (hb : ∀ i, f i ≠ ⊥) : ∑ i, f i = ⊤ := by
  rw [← Finset.add_sum_erase _ _ (Finset.mem_univ k), h]
  exact EReal.top_add_of_ne_bot (sum_ne_bot _ _ hb)

/-- A row with an infinite entry has an infinite variance. -/
theorem var_top (f : Fin 1024 → EReal) (h : ∃ k, f k = ⊥ ∨ f k = ⊤) : var f = ⊤ := by
  obtain ⟨e, _, hE⟩ := eps_eq
  have hp : (0 : ℝ) < 1 / 1024 := by norm_num
  have hd : ∀ k, dev f k * dev f k = ⊤ := by
    by_cases hb : ∃ k, f k = ⊥
    · obtain ⟨k, hk⟩ := hb
      have hm : mean f = ⊥ := by rw [mean, div_len, sum_bot f k hk, EReal.bot_mul_coe_of_pos hp]
      intro j
      rw [dev, hm]
      rcases eq_or_ne (f j) ⊥ with hj | hj
      · rw [hj]; rfl
      · rw [sub_eq_add_neg, EReal.neg_bot, EReal.add_top_of_ne_bot hj, EReal.top_mul_top]
    · obtain ⟨k, hk⟩ := h
      have hk' : f k = ⊤ := hk.resolve_left fun h => hb ⟨k, h⟩
      have hm : mean f = ⊤ := by rw [mean, div_len, sum_top f k hk' (fun i h => hb ⟨i, h⟩), EReal.top_mul_coe_of_pos hp]
      intro j
      rw [dev, hm, sub_eq_add_neg, EReal.neg_top, EReal.add_bot, EReal.bot_mul_bot]
  have hv : mean (fun k => dev f k * dev f k) = ⊤ := by
    rw [mean, div_len, sum_top _ 0 (hd 0) (fun i => by rw [hd]; exact top_ne_bot), EReal.top_mul_coe_of_pos hp]
  rw [var, hv, hE, EReal.top_add_coe]

theorem same (f d : Fin 1024 → EReal) (hd : ∀ k, ∃ r : ℝ, d k = r) (j : Fin 1024) : short f d j = long f d j := by
  by_cases h : ∃ k, f k = ⊥ ∨ f k = ⊤
  · have hv := var_top f h
    have hi : irt f = 0 := by rw [irt, hv, Ideal.rsqrt_top]
    have h0 : Ideal.div 0 ⊤ = 0 := by rw [Ideal.div, if_neg EReal.top_ne_zero, zero_mul]
    have hg : dvar f d = 0 := by rw [dvar, hv, hi, h0, mul_zero, mul_zero, div_len, zero_mul]
    rw [short, long, hi, hg]
    simp [div_len]
  · have hx : ∀ k, ∃ r : ℝ, f k = r := fun k =>
      ⟨(f k).toReal, (EReal.coe_toReal (fun e => h ⟨k, .inr e⟩) (fun e => h ⟨k, .inl e⟩)).symm⟩
    choose x hx using hx
    choose y hy using hd
    obtain rfl : f = fun k => (x k : EReal) := funext hx
    obtain rfl : d = fun k => (y k : EReal) := funext hy
    exact same_real x y j

end Cert.LnGrad

end
-- ==== Proof.DlnIdeal.Value.lean ====
/- The layer norms' gradient: every point writes its own rows and adds its columns' sums to the two accumulators. -/
module

public import proofs.«01_k».proof.Proof.Gen.DlnIdeal.Frame
public import proofs.«01_k».proof.Proof.Gen.DlnReferenceIdeal.Run
public import proofs.«01_k».proof.Proof.DlnIdeal.Finite
public import proofs.«01_k».proof.Proof.LnGrad
public import proofs.«01_k».proof.Defs

@[expose] public section

set_option maxRecDepth 16384

noncomputable section

namespace Cert.DlnIdeal.Hand

open Cert.DlnIdeal Cert.DlnIdeal.Gen Cert.Rows Cert.LnGrad
open Idealize.ShloMosaic TcCoe Tactic Idealize.SL.Sem

variable (m : (ℓ : Loc nD τ sig) → Buf (Elt Ideal) ℓ)

/-! ## The reference's results and the kernel's payloads, at an entry -/

/-- A row. -/
abbrev line {n : ℕ} (x : FVec Ideal ⟨2, ![n, 1024]⟩ .f32) (i : Fin n) : Fin 1024 → EReal := fun k => x (ix2 i k)

/-- The rows' gradient. -/
def DR (r : FVec Ideal S8192x1024 .f32) (g : FVec Ideal S1024 .f32) (d : FVec Ideal S8192x1024 .f32) : FVec Ideal S8192x1024 .f32 := fun i : S8192x1024.Idx =>
  short (line r (i 0)) (fun k => d (ix2 (i 0) k) * g (ix1 k)) (i 1)
/-- The cotangent times the normalised rows. -/
def XH (r d : FVec Ideal S8192x1024 .f32) : FVec Ideal S8192x1024 .f32 := fun i : S8192x1024.Idx => d i * nrm (line r (i 0)) (i 1)
/-- A column's sum. -/
def TOT (x : FVec Ideal S8192x1024 .f32) : FVec Ideal S1024 .f32 := fun i : S1024.Idx => ∑ n : Fin 8192, x (ix2 n (i 0))

theorem dr_ref (m' : (ℓ : Loc Cert.DlnReferenceIdeal.nD Cert.DlnReferenceIdeal.τ Cert.DlnReferenceIdeal.sig) → Buf (Elt Ideal) ℓ) (c : Dev Cert.DlnReferenceIdeal.nD)
    (r d : FVec Ideal S8192x1024 .f32) (g : FVec Ideal S1024 .f32)
    (hr : m' ((c.tc : Thread Cert.DlnReferenceIdeal.nD Cert.DlnReferenceIdeal.τ).loc Cert.DlnReferenceIdeal.main_arg0) = r)
    (hg : m' ((c.tc : Thread Cert.DlnReferenceIdeal.nD Cert.DlnReferenceIdeal.τ).loc Cert.DlnReferenceIdeal.main_arg1) = g)
    (hd : m' ((c.tc : Thread Cert.DlnReferenceIdeal.nD Cert.DlnReferenceIdeal.τ).loc Cert.DlnReferenceIdeal.main_arg3) = d) (i : Fin 8192) (j : Fin 1024) :
    (show FVec Ideal S8192x1024 .f32 from Cert.DlnReferenceIdeal.Value.res_main_v62 (F := Ideal) m' c) (ix2 i j) = long (line r i) (fun k => d (ix2 i k) * g (ix1 k)) j := by
  unfold Cert.DlnReferenceIdeal.Value.res_main_v62
  rw [hr, hg, hd]
  unfold long dvar irt var dev mean
  pointwise
  simp only [Fintype.sum_unique]

theorem dr_pay (d r : Vec Ideal S512x1024 .f32) (g : Vec Ideal S1x1024 .f32) (i : Fin 512) (j : Fin 1024) :
    k0_pay9 (F := Ideal) d r g (ix2 i j) = short (line r i) (fun k => d (ix2 i k) * g (ix2 0 k)) j := by
  unfold short nrm irt var dev mean
  pointwise [k0_pay9, k0_pay8, k0_pay7, k0_pay6]
theorem xh_pay (d r : Vec Ideal S512x1024 .f32) (i : Fin 512) (j : Fin 1024) : k0_pay10 (F := Ideal) d r (ix2 i j) = d (ix2 i j) * nrm (line r i) j := by
  unfold nrm irt var dev mean
  pointwise [k0_pay10, k0_pay8, k0_pay7, k0_pay6]

theorem cast_pay (x : FVec Ideal S512x1024 .f32) (i : S512x1024.Idx) : k0_pay1 (F := Ideal) x i = x i := by
  pointwise [k0_pay1]
theorem grp_xh (x : FVec Ideal S512x1024 .f32) (i : S8x1024.Idx) : k0_pay2 (F := Ideal) x i = ∑ g : Fin 64, x (ix2 (row g (i 0)) (i 1)) := by
  pointwise [k0_pay2]
theorem add_xh (x : FVec Ideal S512x1024 .f32) (a : Vec Ideal S8x1024 .f32) (i : S8x1024.Idx) : k0_pay3 (F := Ideal) x a i = a i + k0_pay2 (F := Ideal) x i := by
  pointwise [k0_pay3]
theorem grp_dy (x : Vec Ideal S512x1024 .f32) (i : S8x1024.Idx) : k0_pay4 (F := Ideal) x i = ∑ g : Fin 64, x (ix2 (row g (i 0)) (i 1)) := by
  pointwise [k0_pay4]
theorem add_dy (x : Vec Ideal S512x1024 .f32) (a : Vec Ideal S8x1024 .f32) (i : S8x1024.Idx) : k0_pay5 (F := Ideal) x a i = a i + k0_pay4 (F := Ideal) x i := by
  pointwise [k0_pay5]

/-! ## The blocks -/

/-- The rows the layer norm reads, its gain and the cotangent. -/
abbrev rw_ (c : Dev nD) : FVec Ideal S8192x1024 .f32 := m ((c : Thread nD τ).loc main_arg0)
abbrev gn (c : Dev nD) : FVec Ideal S1024 .f32 := m ((c : Thread nD τ).loc main_arg1)
abbrev dy (c : Dev nD) : FVec Ideal S8192x1024 .f32 := m ((c : Thread nD τ).loc main_arg3)

theorem entry_dy (c : Dev nD) : V m c main_arg3 = dy m c := V_main_arg3 m c
theorem entry_rw (c : Dev nD) : V m c main_arg0 = rw_ m c := V_main_arg0 m c
theorem entry_gn (c : Dev nD) (j : Fin 1024) : (show FVec Ideal S1x1024 .f32 from V m c main_v0) (ix2 0 j) = gn m c (ix1 j) := by
  have e : V m c main_v0 = (broadcastInDim S1x1024 ![1] bcast_S1024_S1x1024_1 (gn m c) : FVec Ideal S1x1024 .f32) := by
    entry_read; rfl
  rw [e]
  pointwise

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ win0_6.index t = ![0, 0] :=
  (by decide +kernel : ∀ t : Fin grid0.N, _)

/-- The row of the array a point's row is. -/
abbrev at_ (t : Fin cfg0.N) (i : Fin 512) : Fin 8192 := ⟨t.val * 512 + i.val, by have : t.val < 16 := lt_of_lt_of_eq t.isLt N_0; omega⟩

/-- The point's blocks. -/
abbrev bd (c : Dev nD) (t : Fin cfg0.N) : FVec Ideal S512x1024 .f32 := iblk m c 0 t
abbrev br (c : Dev nD) (t : Fin cfg0.N) : FVec Ideal S512x1024 .f32 := iblk m c 1 t
abbrev bg (c : Dev nD) (t : Fin cfg0.N) : FVec Ideal S1x1024 .f32 := iblk m c 2 t

theorem bd_at (c : Dev nD) (t : Fin cfg0.N) (i : Fin 512) (j : Fin 1024) : bd m c t (ix2 i j) = dy m c (ix2 (at_ t i) j) := by
  rw [← entry_dy]
  blk_ext [bd, iblk, idx t]
theorem br_at (c : Dev nD) (t : Fin cfg0.N) (i : Fin 512) (j : Fin 1024) : br m c t (ix2 i j) = rw_ m c (ix2 (at_ t i) j) := by
  rw [← entry_rw]
  blk_ext [br, iblk, idx t]
theorem bg_at (c : Dev nD) (t : Fin cfg0.N) (j : Fin 1024) : bg m c t (ix2 0 j) = gn m c (ix1 j) := by
  refine Eq.trans ?_ (entry_gn m c j)
  blk_ext [bg, iblk, idx t]

theorem dr_at (c : Dev nD) (t : Fin cfg0.N) (i : Fin 512) (j : Fin 1024) :
    k0_pay9 (F := Ideal) (bd m c t) (br m c t) (bg m c t) (ix2 i j) = DR (rw_ m c) (gn m c) (dy m c) (ix2 (at_ t i) j) :=
  (dr_pay _ _ _ i j).trans (congrArg₂ (fun f d => short f d j) (funext fun k => br_at m c t i k)
    (funext fun k => congrArg₂ (· * · : EReal → EReal → EReal) (bd_at m c t i k) (bg_at m c t k)))
theorem xh_at (c : Dev nD) (t : Fin cfg0.N) (i : Fin 512) (j : Fin 1024) :
    k0_pay10 (F := Ideal) (bd m c t) (br m c t) (ix2 i j) = XH (rw_ m c) (dy m c) (ix2 (at_ t i) j) :=
  (xh_pay _ _ i j).trans (congrArg₂ (fun a f => a * nrm f j) (bd_at m c t i j) (funext fun k => br_at m c t i k))

/-! ## The accumulators -/

/-- The columns' sums a point adds. -/
abbrev part (x : Fin cfg0.N → FVec Ideal S512x1024 .f32) (n : ℕ) (i : S8x1024.Idx) : EReal :=
  if hn : n < cfg0.N then ∑ g : Fin 64, x ⟨n, hn⟩ (ix2 (row g (i 0)) (i 1)) else 0
/-- The accumulator the last point leaves. -/
abbrev ACC (x : FVec Ideal S8192x1024 .f32) : FVec Ideal S8x1024 .f32 := fun i : S8x1024.Idx =>
  ∑ s : Fin 16, ∑ g : Fin 64, x (ix2 (glob s (row g (i 0))) (i 1))

theorem acc_xh (c : Dev nD) (i : S8x1024.Idx) : ∀ (n : ℕ) (hn : n < cfg0.N),
    (outsAt0 m c n hn).2.2.1 i = ∑ s ∈ Finset.range (n + 1), part (fun t => k0_pay10 (F := Ideal) (bd m c t) (br m c t)) s i
  | 0, hn => by
    rw [outsAt0_A m c ⟨0, hn⟩ (by dsimp only) (by dsimp only; omega) (by dsimp only) (by dsimp only; omega)]
    frame_out
    rw [Finset.sum_range_one, part, dif_pos hn]
    exact grp_xh _ i
  | n + 1, hn => by
    have h16 : n + 1 < 16 := lt_of_lt_of_eq hn N_0
    rw [outsAt0_B m c ⟨n + 1, hn⟩ (by dsimp only; omega) (by dsimp only; omega) (by dsimp only; omega) (by dsimp only; omega)]
    frame_out
    refine (add_xh _ _ i).trans ?_
    rw [Finset.sum_range_succ, ← acc_xh c i n (Nat.lt_of_succ_lt hn)]
    refine congrArg₂ (· + · : EReal → EReal → EReal) ?_ ?_
    · rfl
    · rw [part, dif_pos hn]
      exact grp_xh _ i
theorem acc_dy (c : Dev nD) (i : S8x1024.Idx) : ∀ (n : ℕ) (hn : n < cfg0.N),
    (outsAt0 m c n hn).2.2.2 i = ∑ s ∈ Finset.range (n + 1), part (bd m c) s i
  | 0, hn => by
    rw [outsAt0_A m c ⟨0, hn⟩ (by dsimp only) (by dsimp only; omega) (by dsimp only) (by dsimp only; omega)]
    frame_out
    rw [Finset.sum_range_one, part, dif_pos hn]
    exact grp_dy _ i
  | n + 1, hn => by
    have h16 : n + 1 < 16 := lt_of_lt_of_eq hn N_0
    rw [outsAt0_B m c ⟨n + 1, hn⟩ (by dsimp only; omega) (by dsimp only; omega) (by dsimp only; omega) (by dsimp only; omega)]
    frame_out
    refine (add_dy _ _ i).trans ?_
    rw [Finset.sum_range_succ, ← acc_dy c i n (Nat.lt_of_succ_lt hn)]
    refine congrArg₂ (· + · : EReal → EReal → EReal) ?_ ?_
    · rfl
    · rw [part, dif_pos hn]
      exact grp_dy _ i

theorem part_sum (x : Fin cfg0.N → FVec Ideal S512x1024 .f32) (A : FVec Ideal S8192x1024 .f32) (h : ∀ t i j, x t (ix2 i j) = A (ix2 (at_ t i) j)) (i : S8x1024.Idx) :
    ∑ s ∈ Finset.range 16, part x s i = ACC A i := by
  rw [Finset.sum_range]
  refine Finset.sum_congr rfl fun s _ => ?_
  have hs : s.val < cfg0.N := lt_of_lt_of_eq s.isLt N_0.symm
  rw [part, dif_pos hs]
  exact Finset.sum_congr rfl fun g _ => h ⟨s.val, hs⟩ (row g (i 0)) (i 1)

/-! ## The arrays the call leaves -/

theorem final_xh (c : Dev nD) : (dats m 0 c).arrAt 5 (cfgs 0).N = ACC (XH (rw_ m c) (dy m c)) := by
  refine (dats m 0 c).arrAt_eq_of_covers 5 _ (by decide +kernel) fun t hf y => ?_
  have hm := (flush0_5 t).1 hf
  have hN : t.val < 16 := lt_of_lt_of_eq t.isLt N_0
  have ht : t.val + 1 = 16 := by omega
  blk_simp
  rw [after0_5]
  refine (acc_xh m c y t.val t.isLt).trans ?_
  rw [ht]
  refine (part_sum _ _ (xh_at m c) y).trans ?_
  have key : ∀ A : FVec Ideal S8x1024 .f32, A y = A (((View.whole main_v1_2).slice (win0_5.rect t)).emb y) := fun A => by
    blk_point [idx t]
  exact key (ACC (XH (rw_ m c) (dy m c)))
theorem final_dy (c : Dev nD) : (dats m 0 c).arrAt 6 (cfgs 0).N = ACC (dy m c) := by
  refine (dats m 0 c).arrAt_eq_of_covers 6 _ (by decide +kernel) fun t hf y => ?_
  have hm := (flush0_6 t).1 hf
  have hN : t.val < 16 := lt_of_lt_of_eq t.isLt N_0
  have ht : t.val + 1 = 16 := by omega
  blk_simp
  rw [after0_6]
  refine (acc_dy m c y t.val t.isLt).trans ?_
  rw [ht]
  refine (part_sum _ _ (bd_at m c) y).trans ?_
  have key : ∀ A : FVec Ideal S8x1024 .f32, A y = A (((View.whole main_v1_3).slice (win0_6.rect t)).emb y) := fun A => by
    blk_point [idx t]
  exact key (ACC (dy m c))

theorem final_dr (c : Dev nD) : (dats m 0 c).arrAt 3 (cfgs 0).N = DR (rw_ m c) (gn m c) (dy m c) := by
  refine (dats m 0 c).arrAt_eq_of_covers 3 _ (by decide +kernel) fun t hf y => ?_
  have hN : t.val < 16 := lt_of_lt_of_eq t.isLt N_0
  blk_simp
  rw [after0_3]
  have e : (outsAt0 m c t.val t.isLt).1 y = k0_pay9 (F := Ideal) (bd m c t) (br m c t) (bg m c t) (ix2 (y 0) (y 1)) := by
    by_cases h : t.val % 16 = 0
    · rw [outsAt0_A m c t h (by omega) h (by omega)]
      frame_out
      exact congrArg (k0_pay9 (F := Ideal) _ _ _) (ix2_eta y).symm
    · rw [outsAt0_B m c t h (by omega) h (by omega)]
      frame_out
      exact congrArg (k0_pay9 (F := Ideal) _ _ _) (ix2_eta y).symm
  refine e.trans ((dr_at m c t (y 0) (y 1)).trans ?_)
  have key : ∀ A : FVec Ideal S8192x1024 .f32, A (ix2 (at_ t (y 0)) (y 1)) = A (((View.whole main_v1_0).slice (win0_3.rect t)).emb y) := fun A => by
    blk_point [idx t]
  exact key (DR (rw_ m c) (gn m c) (dy m c))
theorem final_cast (c : Dev nD) : (dats m 0 c).arrAt 4 (cfgs 0).N = DR (rw_ m c) (gn m c) (dy m c) := by
  refine (dats m 0 c).arrAt_eq_of_covers 4 _ (by decide +kernel) fun t hf y => ?_
  have hN : t.val < 16 := lt_of_lt_of_eq t.isLt N_0
  blk_simp
  rw [after0_4]
  have e : (outsAt0 m c t.val t.isLt).2.1 y = k0_pay9 (F := Ideal) (bd m c t) (br m c t) (bg m c t) (ix2 (y 0) (y 1)) := by
    refine Eq.trans ?_ ((cast_pay _ y).trans (congrArg (k0_pay9 (F := Ideal) (bd m c t) (br m c t) (bg m c t)) (ix2_eta y).symm))
    by_cases h : t.val % 16 = 0
    · rw [outsAt0_A m c t h (by omega) h (by omega)]
      frame_out
    · rw [outsAt0_B m c t h (by omega) h (by omega)]
      frame_out
  refine e.trans ((dr_at m c t (y 0) (y 1)).trans ?_)
  have key : ∀ A : FVec Ideal S8192x1024 .f32, A (ix2 (at_ t (y 0)) (y 1)) = A (((View.whole main_v1_1).slice (win0_4.rect t)).emb y) := fun A => by
    blk_point [idx t]
  exact key (DR (rw_ m c) (gn m c) (dy m c))

/-! ## The results -/

theorem tot_eq (x : FVec Ideal S8192x1024 .f32) : (Host.reduceAdd (ACC x) (constant S_ .f32 0x00000000#32) reducesTo_S8x1024_S1024_d0 h_S_ : FVec Ideal S1024 .f32) = TOT x := by
  funext i
  obtain ⟨j, rfl⟩ : ∃ j, i = ix1 j := ⟨i 0, (ix1_eta i).symm⟩
  refine Eq.trans ?_ (sum_rows fun r => x (ix2 r j))
  pointwise
  rfl
theorem tot_ref (x : FVec Ideal S8192x1024 .f32) : (Host.reduceAdd (shapeCast _ (Host.reduceAdd x (constant Cert.DlnReferenceIdeal.S_ .f32 0x00000000#32)
    Cert.DlnReferenceIdeal.Gen.reducesTo_S8192x1024_S1024_d0 Cert.DlnReferenceIdeal.Gen.h_S_) Cert.DlnReferenceIdeal.Gen.shapeCasts_S1024_S1x1024)
    (constant Cert.DlnReferenceIdeal.S_ .f32 0x00000000#32) Cert.DlnReferenceIdeal.Gen.reducesTo_S1x1024_S1024_d0 Cert.DlnReferenceIdeal.Gen.h_S_ : FVec Ideal S1024 .f32) = TOT x := by
  funext i
  obtain ⟨j, rfl⟩ : ∃ j, i = ix1 j := ⟨i 0, (ix1_eta i).symm⟩
  unfold TOT
  pointwise
  exact Fintype.sum_unique _

theorem tail_cast (c : Dev nD) : Pipeline.afterTail₀ cfgs (dats m) 0 (V0 m) [hostOps1] c main_v2 = (dats m 0 c).arrAt 4 (cfgs 0).N := by
  unfold Pipeline.afterTail₀ hostOps1
  after_results
  exact (Pipeline.withArrays_arr spec0 (by decide) c (V0 m c) (fun w => (dats m 0 c).arrAt w (cfgs 0).N) 4 :)
theorem tail_gain (c : Dev nD) : Pipeline.afterTail₀ cfgs (dats m) 0 (V0 m) [hostOps1] c main_v3 = (Host.reduceAdd ((dats m 0 c).arrAt 5 (cfgs 0).N : FVec Ideal S8x1024 .f32) (constant S_ .f32 0x00000000#32) reducesTo_S8x1024_S1024_d0 h_S_ : FVec Ideal S1024 .f32) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v1_2)
      = (dats m 0 c).arrAt 5 cfg0.N := Pipeline.withArrays_arr spec0 (by decide) c _ _ 5
  rw [e]
theorem tail_bias (c : Dev nD) : Pipeline.afterTail₀ cfgs (dats m) 0 (V0 m) [hostOps1] c main_v4 = (Host.reduceAdd ((dats m 0 c).arrAt 6 (cfgs 0).N : FVec Ideal S8x1024 .f32) (constant S_ .f32 0x00000000#32) reducesTo_S8x1024_S1024_d0 h_S_ : FVec Ideal S1024 .f32) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v1_3)
      = (dats m 0 c).arrAt 6 cfg0.N := Pipeline.withArrays_arr spec0 (by decide) c _ _ 6
  rw [e]

attribute [local instance] Cert.Pre_finite_ln.Hand.facts

theorem algebraic : Cert.algebraic_DlnIdeal_DlnReferenceIdeal_pre_finite_ln := by
  intro m g m' g' hpre hagree
  refine ⟨fun c => DR (rw_ m c) (gn m c) (dy m c), fun c => DR (rw_ m c) (gn m c) (dy m c), fun c => TOT (XH (rw_ m c) (dy m c)), fun c => TOT (dy m c), ?_, ?_⟩
  · refine (θ_run defs _ _).mono (fun r h c => ⟨((h.1 c).1 3).trans (final_dr m c), ((h.1 c).2 main_v2 (by decide)).trans ((tail_cast m c).trans (final_cast m c)),
      ((h.1 c).2 main_v3 (by decide)).trans ((tail_gain m c).trans ?_), ((h.1 c).2 main_v4 (by decide)).trans ((tail_bias m c).trans ?_), h.2 c⟩)
      (θ_run_and (run_main m g) (unchanged m g))
    · rw [final_xh]
      exact tot_eq _
    · rw [final_dy]
      exact tot_eq _
  · refine (θ_run Cert.DlnReferenceIdeal.defs _ _).mono (fun r h c => ?_) (Cert.DlnReferenceIdeal.Value.run (F := Ideal) m' g')
    obtain ⟨h0, h1, h2, h3, ha⟩ := h c
    obtain ⟨e0, e1, e2, e3⟩ := hagree c
    obtain ⟨hg, hd⟩ := Cert.Pre_finite_ln.Hand.reals _ _ _ _ (hpre c)
    have hdr : (show FVec Ideal S8192x1024 .f32 from Cert.DlnReferenceIdeal.Value.res_main_v62 (F := Ideal) m' c) = DR (rw_ m c) (gn m c) (dy m c) := by
      funext i
      obtain ⟨a, b, rfl⟩ : ∃ a b, i = ix2 a b := ⟨i 0, i 1, (ix2_eta i).symm⟩
      refine (dr_ref m' c _ _ _ e0 e1 e3 a b).trans (same _ _ (fun k => ?_) b).symm
      obtain ⟨x, hx⟩ := hd (ix2 a k)
      obtain ⟨y, hy⟩ := hg (ix1 k)
      exact ⟨x * y, (congrArg₂ (· * · : EReal → EReal → EReal) hx hy).trans (EReal.coe_mul x y).symm⟩
    rw [e0, e3] at h2
    rw [e3] at h3
    refine ⟨h0.trans hdr, h1.trans hdr, h2.trans ?_, h3.trans (tot_ref _), ha⟩
    refine Eq.trans ?_ (tot_ref (XH (rw_ m c) (dy m c)))
    refine congrArg (fun x : FVec Ideal S8192x1024 .f32 => (Host.reduceAdd (shapeCast _ (Host.reduceAdd x (constant Cert.DlnReferenceIdeal.S_ .f32 0x00000000#32)
      Cert.DlnReferenceIdeal.Gen.reducesTo_S8192x1024_S1024_d0 Cert.DlnReferenceIdeal.Gen.h_S_) Cert.DlnReferenceIdeal.Gen.shapeCasts_S1024_S1x1024)
      (constant Cert.DlnReferenceIdeal.S_ .f32 0x00000000#32) Cert.DlnReferenceIdeal.Gen.reducesTo_S1x1024_S1024_d0 Cert.DlnReferenceIdeal.Gen.h_S_ : FVec Ideal S1024 .f32)) ?_
    funext i
    obtain ⟨a, b, rfl⟩ : ∃ a b, i = ix2 a b := ⟨i 0, i 1, (ix2_eta i).symm⟩
    unfold XH nrm irt var dev mean
    pointwise
    exact mul_comm _ _

end Cert.DlnIdeal.Hand

end
-- ==== Proof.DmixIdeal.Launch.lean ====
/- What every buffer holds when the regions and the host lines around them are done. -/
module

public import proofs.«01_k».proof.Proof.Gen.DmixIdeal.Frame

@[expose] public section

noncomputable section

namespace Cert.DmixIdeal.Hand

open Cert.DmixIdeal Cert.DmixIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the pipelines ends at the last segment boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨A, -, C, -, B, -⟩, -⟩
      imodintro
      isplitl [A]; · iexact A
      isplitl [B]; · iexists _; iexact B
      iexists ∅; iexact C)
    (QY := fun c s => ∀ b ∈ Pipeline.ucRefs τ sig, s.mem (((c : Thread nD τ)).1, b) = W8 m ρ c b)
    (hfin := fun c s => by
      iintro ⟨⟨A, -⟩, S⟩
      unfold StableHlo.held
      imodintro
      iapply (pointsTo_read_all (Pipeline.ucRefs τ sig) (fun b => (((c : Thread nD τ)).1, b)) (W8 m ρ c) s)
      isplitl [A] <;> iassumption)
    (hQ := fun _ h _ => h)

end Cert.DmixIdeal.Hand
-- ==== Proof.DmixIdeal.Value.lean ====
/- The cotangents of the merged branches and of the three mixers: every point writes its own block. -/
module

public import proofs.«01_k».proof.Proof.DmixIdeal.Launch
public import proofs.«01_k».proof.Proof.Gen.DmixReferenceIdeal.Run
public import proofs.«01_k».proof.Defs
public import Idealize.ShloMosaic.Lib.Pipeline.ValueKit
public import Idealize.ShloMosaic.Lib.Claim

@[expose] public section

set_option maxRecDepth 16384

noncomputable section

namespace Cert.DmixIdeal.Hand

open Cert.DmixIdeal Cert.DmixIdeal.Gen
open Idealize.ShloMosaic TcCoe Tactic Idealize.SL.Sem

variable (m : (ℓ : Loc nD τ sig) → Buf (Elt Ideal) ℓ) (ρ : Dev nD → PrngReg)

/-- The call's operands, as the launch has them. -/
abbrev ct0 (c : Dev nD) : FVec Ideal S8192x1024 .f32 := m ((c : Thread nD τ).loc main_arg4)
abbrev wt0 (c : Dev nD) : FVec Ideal S1024x1024 .f32 := m ((c : Thread nD τ).loc main_arg0)
abbrev ct1 (c : Dev nD) : FVec Ideal S8192x1024 .f32 := m ((c : Thread nD τ).loc main_arg5)
abbrev wt1 (c : Dev nD) : FVec Ideal S256x1024 .f32 := m ((c : Thread nD τ).loc main_arg1)
abbrev ct2 (c : Dev nD) : FVec Ideal S8192x1024 .f32 := m ((c : Thread nD τ).loc main_arg6)
abbrev wt2 (c : Dev nD) : FVec Ideal S512x1024 .f32 := m ((c : Thread nD τ).loc main_arg2)
abbrev ct3 (c : Dev nD) : FVec Ideal S8192x1024 .f32 := m ((c : Thread nD τ).loc main_arg7)
abbrev wt3 (c : Dev nD) : FVec Ideal S256x1024 .f32 := m ((c : Thread nD τ).loc main_arg3)
/-- The cotangent times the transposed weight. -/
abbrev RES0 (ct : FVec Ideal S8192x1024 .f32) (w : FVec Ideal S1024x1024 .f32) : FVec Ideal S8192x1024 .f32 :=
  Host.dotGeneral Cert.DmixReferenceIdeal.dot_S8192x1024_S1024x1024_S8192x1024_1_1_0_0_n_n none ct w
/-- The cotangent times the transposed weight. -/
abbrev RES1 (ct : FVec Ideal S8192x1024 .f32) (w : FVec Ideal S256x1024 .f32) : FVec Ideal S8192x256 .f32 :=
  Host.dotGeneral Cert.DmixReferenceIdeal.dot_S8192x1024_S256x1024_S8192x256_1_1_0_0_n_n none ct w
/-- The cotangent times the transposed weight. -/
abbrev RES2 (ct : FVec Ideal S8192x1024 .f32) (w : FVec Ideal S512x1024 .f32) : FVec Ideal S8192x512 .f32 :=
  Host.dotGeneral Cert.DmixReferenceIdeal.dot_S8192x1024_S512x1024_S8192x512_1_1_0_0_n_n none ct w
/-- The cotangent times the transposed weight. -/
abbrev RES3 (ct : FVec Ideal S8192x1024 .f32) (w : FVec Ideal S256x1024 .f32) : FVec Ideal S8192x256 .f32 :=
  Host.dotGeneral Cert.DmixReferenceIdeal.dot_S8192x1024_S256x1024_S8192x256_1_1_0_0_n_n none ct w

/-! ## The merged branches' cotangent -/

theorem left0 (c : Dev nD) : V1 m ρ c main_v0 = ct0 m c := by
  dsimp only [V1, W1]; after_results; rfl
theorem right0 (c : Dev nD) (j : Fin 1024) (k : Fin 1024) :
    (show FVec Ideal S1x1024x1024 .bf16 from V1 m ρ c main_v2) (ix3 0 j k) = wt0 m c (ix2 j k) := by
  have e : V1 m ρ c main_v2 = (truncf .bf16 (broadcastInDim S1x1024x1024 ![1, 2] bcast_S1024x1024_S1x1024x1024_1_2 (wt0 m c)) bitsLt_bf16_f32 :
      FVec Ideal S1x1024x1024 .bf16) := by
    dsimp only [V1, W1]; after_results
  rw [e]
  pointwise

theorem idx0 : ∀ t : Fin cfg0.N, win0_0.index t = ![t.val, 0] ∧ win0_1.index t = ![0, 0, 0] ∧ win0_2.index t = ![t.val, 0] :=
  (by decide +kernel : ∀ t : Fin grid0.N, _)

theorem pay0_at (x : Vec Ideal S1024x1024 .bf16) (y : Vec Ideal S1x1024x1024 .bf16) (i : S1024x1024.Idx) :
    k0_pay1 (F := Ideal) x y i = ∑ k : Fin 1024, x (ix2 (i 0) k) * y (ix3 0 (i 1) k) := by
  pointwise [k0_pay1]

theorem left0_at (c : Dev nD) (t : Fin cfg0.N) (i : Fin 1024) (k : Fin 1024) :
    (show FVec Ideal S1024x1024 .bf16 from iblk0 (V1 m ρ) c 0 t) (ix2 i k) = ct0 m c (ix2 ⟨t.val * 1024 + i.val, by
      have : t.val < 8 := lt_of_lt_of_eq t.isLt N_0; omega⟩ k) := by
  rw [← left0 m ρ]
  blk_ext [iblk0, idx0 t]
theorem right0_at (c : Dev nD) (t : Fin cfg0.N) (j : Fin 1024) (k : Fin 1024) :
    (show FVec Ideal S1x1024x1024 .bf16 from iblk0 (V1 m ρ) c 1 t) (ix3 0 j k) = wt0 m c (ix2 j k) := by
  refine Eq.trans ?_ (right0 m ρ c j k)
  blk_ext [iblk0, idx0 t]

theorem final0 (c : Dev nD) : (dat0 (V1 m ρ) c).arrAt 2 cfg0.N = RES0 (ct0 m c) (wt0 m c) := by
  refine (dat0 (V1 m ρ) c).arrAt_eq_of_covers 2 _ (by decide +kernel) fun t hf y => ?_
  blk_simp
  rw [after0_2]
  frame_out
  refine (pay0_at _ _ y).trans ?_
  pointwise [RES0]
  refine Finset.sum_congr rfl fun k _ => ?_
  refine (congrArg₂ (· * · : EReal → EReal → EReal) (left0_at m ρ c t (y 0) k) (right0_at m ρ c t (y 1) k)).trans ?_
  blk_point [idx0 t]

/-! ## Mixer A's -/

theorem left1 (c : Dev nD) : V3 m ρ c main_v4 = ct1 m c := by
  dsimp only [V3, W3]; after_results
  exact W2_args m ρ c main_arg5 (by decide)
theorem right1 (c : Dev nD) (j : Fin 256) (k : Fin 1024) :
    (show FVec Ideal S1x256x1024 .bf16 from V3 m ρ c main_v6) (ix3 0 j k) = wt1 m c (ix2 j k) := by
  have e : V3 m ρ c main_v6 = (truncf .bf16 (broadcastInDim S1x256x1024 ![1, 2] bcast_S256x1024_S1x256x1024_1_2 (wt1 m c)) bitsLt_bf16_f32 :
      FVec Ideal S1x256x1024 .bf16) := by
    dsimp only [V3, W3]; after_results
    rw [W2_args m ρ c main_arg1 (by decide)]
  rw [e]
  pointwise

theorem idx1 : ∀ t : Fin cfg1.N, win1_0.index t = ![t.val, 0] ∧ win1_1.index t = ![0, 0, 0] ∧ win1_2.index t = ![t.val, 0] :=
  (by decide +kernel : ∀ t : Fin grid1.N, _)

theorem pay1_at (x : Vec Ideal S1024x1024 .bf16) (y : Vec Ideal S1x256x1024 .bf16) (i : S1024x256.Idx) :
    k1_pay1 (F := Ideal) x y i = ∑ k : Fin 1024, x (ix2 (i 0) k) * y (ix3 0 (i 1) k) := by
  pointwise [k1_pay1]

theorem left1_at (c : Dev nD) (t : Fin cfg1.N) (i : Fin 1024) (k : Fin 1024) :
    (show FVec Ideal S1024x1024 .bf16 from iblk1 (V3 m ρ) c 0 t) (ix2 i k) = ct1 m c (ix2 ⟨t.val * 1024 + i.val, by
      have : t.val < 8 := lt_of_lt_of_eq t.isLt N_1; omega⟩ k) := by
  rw [← left1 m ρ]
  blk_ext [iblk1, idx1 t]
theorem right1_at (c : Dev nD) (t : Fin cfg1.N) (j : Fin 256) (k : Fin 1024) :
    (show FVec Ideal S1x256x1024 .bf16 from iblk1 (V3 m ρ) c 1 t) (ix3 0 j k) = wt1 m c (ix2 j k) := by
  refine Eq.trans ?_ (right1 m ρ c j k)
  blk_ext [iblk1, idx1 t]

theorem final1 (c : Dev nD) : (dat1 (V3 m ρ) c).arrAt 2 cfg1.N = RES1 (ct1 m c) (wt1 m c) := by
  refine (dat1 (V3 m ρ) c).arrAt_eq_of_covers 2 _ (by decide +kernel) fun t hf y => ?_
  blk_simp
  rw [after1_2]
  frame_out
  refine (pay1_at _ _ y).trans ?_
  pointwise [RES1]
  refine Finset.sum_congr rfl fun k _ => ?_
  refine (congrArg₂ (· * · : EReal → EReal → EReal) (left1_at m ρ c t (y 0) k) (right1_at m ρ c t (y 1) k)).trans ?_
  blk_point [idx1 t]

/-! ## Mixer B's -/

theorem left2 (c : Dev nD) : V5 m ρ c main_v8 = ct2 m c := by
  dsimp only [V5, W5]; after_results
  exact W4_args m ρ c main_arg6 (by decide)
theorem right2 (c : Dev nD) (j : Fin 512) (k : Fin 1024) :
    (show FVec Ideal S1x512x1024 .bf16 from V5 m ρ c main_v10) (ix3 0 j k) = wt2 m c (ix2 j k) := by
  have e : V5 m ρ c main_v10 = (truncf .bf16 (broadcastInDim S1x512x1024 ![1, 2] bcast_S512x1024_S1x512x1024_1_2 (wt2 m c)) bitsLt_bf16_f32 :
      FVec Ideal S1x512x1024 .bf16) := by
    dsimp only [V5, W5]; after_results
    rw [W4_args m ρ c main_arg2 (by decide)]
  rw [e]
  pointwise

theorem idx2 : ∀ t : Fin cfg2.N, win2_0.index t = ![t.val, 0] ∧ win2_1.index t = ![0, 0, 0] ∧ win2_2.index t = ![t.val, 0] :=
  (by decide +kernel : ∀ t : Fin grid2.N, _)

theorem pay2_at (x : Vec Ideal S1024x1024 .bf16) (y : Vec Ideal S1x512x1024 .bf16) (i : S1024x512.Idx) :
    k2_pay1 (F := Ideal) x y i = ∑ k : Fin 1024, x (ix2 (i 0) k) * y (ix3 0 (i 1) k) := by
  pointwise [k2_pay1]

theorem left2_at (c : Dev nD) (t : Fin cfg2.N) (i : Fin 1024) (k : Fin 1024) :
    (show FVec Ideal S1024x1024 .bf16 from iblk2 (V5 m ρ) c 0 t) (ix2 i k) = ct2 m c (ix2 ⟨t.val * 1024 + i.val, by
      have : t.val < 8 := lt_of_lt_of_eq t.isLt N_2; omega⟩ k) := by
  rw [← left2 m ρ]
  blk_ext [iblk2, idx2 t]
theorem right2_at (c : Dev nD) (t : Fin cfg2.N) (j : Fin 512) (k : Fin 1024) :
    (show FVec Ideal S1x512x1024 .bf16 from iblk2 (V5 m ρ) c 1 t) (ix3 0 j k) = wt2 m c (ix2 j k) := by
  refine Eq.trans ?_ (right2 m ρ c j k)
  blk_ext [iblk2, idx2 t]

theorem final2 (c : Dev nD) : (dat2 (V5 m ρ) c).arrAt 2 cfg2.N = RES2 (ct2 m c) (wt2 m c) := by
  refine (dat2 (V5 m ρ) c).arrAt_eq_of_covers 2 _ (by decide +kernel) fun t hf y => ?_
  blk_simp
  rw [after2_2]
  frame_out
  refine (pay2_at _ _ y).trans ?_
  pointwise [RES2]
  refine Finset.sum_congr rfl fun k _ => ?_
  refine (congrArg₂ (· * · : EReal → EReal → EReal) (left2_at m ρ c t (y 0) k) (right2_at m ρ c t (y 1) k)).trans ?_
  blk_point [idx2 t]

/-! ## Mixer C's -/

theorem left3 (c : Dev nD) : V7 m ρ c main_v12 = ct3 m c := by
  dsimp only [V7, W7]; after_results
  exact W6_args m ρ c main_arg7 (by decide)
theorem right3 (c : Dev nD) (j : Fin 256) (k : Fin 1024) :
    (show FVec Ideal S1x256x1024 .bf16 from V7 m ρ c main_v14) (ix3 0 j k) = wt3 m c (ix2 j k) := by
  have e : V7 m ρ c main_v14 = (truncf .bf16 (broadcastInDim S1x256x1024 ![1, 2] bcast_S256x1024_S1x256x1024_1_2 (wt3 m c)) bitsLt_bf16_f32 :
      FVec Ideal S1x256x1024 .bf16) := by
    dsimp only [V7, W7]; after_results
    rw [W6_args m ρ c main_arg3 (by decide)]
  rw [e]
  pointwise

theorem idx3 : ∀ t : Fin cfg3.N, win3_0.index t = ![t.val, 0] ∧ win3_1.index t = ![0, 0, 0] ∧ win3_2.index t = ![t.val, 0] :=
  (by decide +kernel : ∀ t : Fin grid3.N, _)

theorem pay3_at (x : Vec Ideal S1024x1024 .bf16) (y : Vec Ideal S1x256x1024 .bf16) (i : S1024x256.Idx) :
    k3_pay1 (F := Ideal) x y i = ∑ k : Fin 1024, x (ix2 (i 0) k) * y (ix3 0 (i 1) k) := by
  pointwise [k3_pay1]

theorem left3_at (c : Dev nD) (t : Fin cfg3.N) (i : Fin 1024) (k : Fin 1024) :
    (show FVec Ideal S1024x1024 .bf16 from iblk3 (V7 m ρ) c 0 t) (ix2 i k) = ct3 m c (ix2 ⟨t.val * 1024 + i.val, by
      have : t.val < 8 := lt_of_lt_of_eq t.isLt N_3; omega⟩ k) := by
  rw [← left3 m ρ]
  blk_ext [iblk3, idx3 t]
theorem right3_at (c : Dev nD) (t : Fin cfg3.N) (j : Fin 256) (k : Fin 1024) :
    (show FVec Ideal S1x256x1024 .bf16 from iblk3 (V7 m ρ) c 1 t) (ix3 0 j k) = wt3 m c (ix2 j k) := by
  refine Eq.trans ?_ (right3 m ρ c j k)
  blk_ext [iblk3, idx3 t]

theorem final3 (c : Dev nD) : (dat3 (V7 m ρ) c).arrAt 2 cfg3.N = RES3 (ct3 m c) (wt3 m c) := by
  refine (dat3 (V7 m ρ) c).arrAt_eq_of_covers 2 _ (by decide +kernel) fun t hf y => ?_
  blk_simp
  rw [after3_2]
  frame_out
  refine (pay3_at _ _ y).trans ?_
  pointwise [RES3]
  refine Finset.sum_congr rfl fun k _ => ?_
  refine (congrArg₂ (· * · : EReal → EReal → EReal) (left3_at m ρ c t (y 0) k) (right3_at m ρ c t (y 1) k)).trans ?_
  blk_point [idx3 t]

/-! ## The results -/

theorem tail0 (c : Dev nD) : W8 m ρ c main_v3 = RES0 (ct0 m c) (wt0 m c) := by
  exact (W8_of m ρ c main_v3 (by decide)).trans ((W7_of m ρ c main_v3 (by decide)).trans ((W6_of m ρ c main_v3 (by decide)).trans ((W5_of m ρ c main_v3 (by decide)).trans ((W4_of m ρ c main_v3 (by decide)).trans ((W3_of m ρ c main_v3 (by decide)).trans ((W2_arr m ρ c 2).trans (final0 m ρ c)))))))
theorem tail1 (c : Dev nD) : W8 m ρ c main_v7 = RES1 (ct1 m c) (wt1 m c) := by
  exact (W8_of m ρ c main_v7 (by decide)).trans ((W7_of m ρ c main_v7 (by decide)).trans ((W6_of m ρ c main_v7 (by decide)).trans ((W5_of m ρ c main_v7 (by decide)).trans ((W4_arr m ρ c 2).trans (final1 m ρ c)))))
theorem tail2 (c : Dev nD) : W8 m ρ c main_v11 = RES2 (ct2 m c) (wt2 m c) := by
  exact (W8_of m ρ c main_v11 (by decide)).trans ((W7_of m ρ c main_v11 (by decide)).trans ((W6_arr m ρ c 2).trans (final2 m ρ c)))
theorem tail3 (c : Dev nD) : W8 m ρ c main_v15 = RES3 (ct3 m c) (wt3 m c) := by
  exact (W8_arr m ρ c 2).trans (final3 m ρ c)

theorem algebraic : Cert.algebraic_DmixIdeal_DmixReferenceIdeal := by
  intro m g m' g' _ hagree
  refine ⟨fun c => RES0 (ct0 m c) (wt0 m c), fun c => RES1 (ct1 m c) (wt1 m c), fun c => RES2 (ct2 m c) (wt2 m c), fun c => RES3 (ct3 m c) (wt3 m c), ?_, ?_⟩
  · refine (θ_run defs _ _).mono (fun r h c => ⟨(h.1 c _ (mem_uc main_v3 (by decide))).trans (tail0 m g c),
      (h.1 c _ (mem_uc main_v7 (by decide))).trans (tail1 m g c),
      (h.1 c _ (mem_uc main_v11 (by decide))).trans (tail2 m g c),
      (h.1 c _ (mem_uc main_v15 (by decide))).trans (tail3 m g c), h.2 c⟩) (θ_run_and (run_all m g) (unchanged m g))
  · refine (θ_run Cert.DmixReferenceIdeal.defs _ _).mono (fun r h c => ?_) (Cert.DmixReferenceIdeal.Value.run (F := Ideal) m' g')
    obtain ⟨h0, h1, h2, h3, ha⟩ := h c
    obtain ⟨e0, e1, e2, e3, e4, e5, e6, e7⟩ := hagree c
    rw [e0, e4] at h0
    rw [e1, e5] at h1
    rw [e2, e6] at h2
    rw [e3, e7] at h3
    exact ⟨h0, h1, h2, h3, ha⟩

end Cert.DmixIdeal.Hand
-- ==== Proof.DownIdeal.Value.lean ====
/- The channel mixer's second projection: four slices of the hidden units summed in the scratch, then the residual and the layer norm. -/
module

public import proofs.«01_k».proof.Proof.Gen.DownIdeal.Frame
public import proofs.«01_k».proof.Proof.Gen.DownReferenceIdeal.Run
public import proofs.«01_k».proof.Defs
public import Idealize.ShloMosaic.Lib.Pipeline.ValueKit
public import Idealize.ShloMosaic.Lib.Claim

@[expose] public section

set_option maxRecDepth 16384

noncomputable section

namespace Cert.DownIdeal.Hand

open Cert.DownIdeal Cert.DownIdeal.Gen
open Idealize.ShloMosaic TcCoe Tactic Idealize.SL.Sem

variable (m : (ℓ : Loc nD τ sig) → Buf (Elt Ideal) ℓ)

/-! ## The normalisation, of a row -/

/-- The rows' mean, as the reference's lines compute it. -/
abbrev MEAN (r : FVec Ideal S8192x1024 .f32) : FVec Ideal Cert.DownReferenceIdeal.S8192x1 .f32 :=
  Host.divf (broadcastInDim Cert.DownReferenceIdeal.S8192x1 ![0] Cert.DownReferenceIdeal.Gen.bcast_S8192_S8192x1_0 (Host.reduceAdd r (constant Cert.DownReferenceIdeal.S_ .f32 0x00000000#32) Cert.DownReferenceIdeal.Gen.reducesTo_S8192x1024_S8192_d1 Cert.DownReferenceIdeal.Gen.h_S_))
    (broadcastInDim Cert.DownReferenceIdeal.S8192x1 ![] Cert.DownReferenceIdeal.Gen.bcast_S_S8192x1 (constant Cert.DownReferenceIdeal.S_ .f32 0x44800000#32))
/-- The rows less their mean. -/
abbrev DIFF (r : FVec Ideal S8192x1024 .f32) : FVec Ideal S8192x1024 .f32 :=
  subf r (broadcastInDim Cert.DownReferenceIdeal.S8192x1024 ![0, 1] Cert.DownReferenceIdeal.Gen.bcast_S8192x1_S8192x1024_0_1 (MEAN r))
/-- The layer norm. -/
def NORM (r : FVec Ideal S8192x1024 .f32) (g b : FVec Ideal S1024 .f32) : FVec Ideal S8192x1024 .f32 :=
  addf (mulf (mulf (DIFF r) (broadcastInDim Cert.DownReferenceIdeal.S8192x1024 ![0, 1] Cert.DownReferenceIdeal.Gen.bcast_S8192x1_S8192x1024_0_1
      (Host.rsqrt (addf (MEAN (mulf (DIFF r) (DIFF r))) (broadcastInDim Cert.DownReferenceIdeal.S8192x1 ![] Cert.DownReferenceIdeal.Gen.bcast_S_S8192x1 (constant Cert.DownReferenceIdeal.S_ .f32 0x3727C5AC#32))))))
    (broadcastInDim Cert.DownReferenceIdeal.S8192x1024 ![0, 1] Cert.DownReferenceIdeal.Gen.bcast_S1x1024_S8192x1024_0_1 (broadcastInDim Cert.DownReferenceIdeal.S1x1024 ![1] Cert.DownReferenceIdeal.Gen.bcast_S1024_S1x1024_1 g)))
    (broadcastInDim Cert.DownReferenceIdeal.S8192x1024 ![0, 1] Cert.DownReferenceIdeal.Gen.bcast_S1x1024_S8192x1024_0_1 (broadcastInDim Cert.DownReferenceIdeal.S1x1024 ![1] Cert.DownReferenceIdeal.Gen.bcast_S1024_S1x1024_1 b))

/-- The numbers the programs name: the row's length, the variance's shift and the residual's factor. -/
abbrev len : EReal := Ideal.ofBits .f32 0x44800000#32
abbrev eps : EReal := Ideal.ofBits .f32 0x3727C5AC#32
abbrev scale : EReal := Ideal.ofBits .f32 0x3FD744FD#32
/-- A row's mean. -/
def mean (f : Fin 1024 → EReal) : EReal := Ideal.div (∑ k : Fin 1024, f k) len
/-- An entry of the normalised row. -/
def norm (f : Fin 1024 → EReal) (j : Fin 1024) (g b : EReal) : EReal :=
  (f j - mean f) * Ideal.rsqrt (mean (fun k => (f k - mean f) * (f k - mean f)) + eps) * g + b

theorem norm_ref (r : FVec Ideal S8192x1024 .f32) (g b : FVec Ideal S1024 .f32) (i : S8192x1024.Idx) :
    NORM r g b i = norm (fun k => r (ix2 (i 0) k)) (i 1) (g (ix1 (i 1))) (b (ix1 (i 1))) := by
  unfold norm mean
  pointwise [NORM, DIFF, MEAN]

theorem part_pay (x : Vec Ideal S1024x1024 .bf16) (w : Vec Ideal S1x1x1024x1024 .bf16) (i : S1024x1024.Idx) :
    k0_pay2 (F := Ideal) x w i = ∑ k : Fin 1024, x (ix2 (i 0) k) * w (ix4 0 0 k (i 1)) := by
  pointwise [k0_pay2, k0_pay1]
theorem step_pay (x : Vec Ideal S1024x1024 .bf16) (w : Vec Ideal S1x1x1024x1024 .bf16) (a : Vec Ideal S1024x1024 .f32) (i : S1024x1024.Idx) :
    k0_pay3 (F := Ideal) x w a i = a i + ∑ k : Fin 1024, x (ix2 (i 0) k) * w (ix4 0 0 k (i 1)) := by
  pointwise [k0_pay3, k0_pay1]
theorem res_pay (x : Vec Ideal S1024x1024 .bf16) (w : Vec Ideal S1x1x1024x1024 .bf16) (a e : Vec Ideal S1024x1024 .f32) (i : S1024x1024.Idx) :
    k0_pay4 (F := Ideal) x w a e i = scale * e i + (a i + ∑ k : Fin 1024, x (ix2 (i 0) k) * w (ix4 0 0 k (i 1))) := by
  pointwise [k0_pay4, k0_pay1]
theorem norm_pay (x : Vec Ideal S1024x1024 .bf16) (w : Vec Ideal S1x1x1024x1024 .bf16) (a e : Vec Ideal S1024x1024 .f32) (g b : Vec Ideal S1x1024 .f32) (i : S1024x1024.Idx) :
    k0_pay5 (F := Ideal) x w a e g b i = norm (fun k => k0_pay4 (F := Ideal) x w a e (ix2 (i 0) k)) (i 1) (g (ix2 0 (i 1))) (b (ix2 0 (i 1))) := by
  unfold norm mean
  pointwise [k0_pay5]
theorem cast_pay (x : Vec Ideal S1024x1024 .bf16) (w : Vec Ideal S1x1x1024x1024 .bf16) (a e : Vec Ideal S1024x1024 .f32) (g b : Vec Ideal S1x1024 .f32) (i : S1024x1024.Idx) :
    k0_pay6 (F := Ideal) x w a e g b i = k0_pay5 (F := Ideal) x w a e g b i := by
  pointwise [k0_pay6]

/-! ## The blocks -/

/-- The squared rectified hidden units, as the reference's lines compute them. -/
def ACT (x : FVec Ideal S8192x1024 .f32) (w : FVec Ideal S1024x4096 .f32) : FVec Ideal S8192x4096 .f32 :=
  mulf (maximumf (Host.dotGeneral Cert.DownReferenceIdeal.dot_S8192x1024_S1024x4096_S8192x4096_1_0_0_1_n_n none x w)
      (broadcastInDim Cert.DownReferenceIdeal.S8192x4096 ![] Cert.DownReferenceIdeal.Gen.bcast_S_S8192x4096 (constant Cert.DownReferenceIdeal.S_ .f32 0x00000000#32)))
    (maximumf (Host.dotGeneral Cert.DownReferenceIdeal.dot_S8192x1024_S1024x4096_S8192x4096_1_0_0_1_n_n none x w)
      (broadcastInDim Cert.DownReferenceIdeal.S8192x4096 ![] Cert.DownReferenceIdeal.Gen.bcast_S_S8192x4096 (constant Cert.DownReferenceIdeal.S_ .f32 0x00000000#32)))
/-- Their product with the second weight. -/
def DOT (h : FVec Ideal S8192x4096 .f32) (w : FVec Ideal S4096x1024 .f32) : FVec Ideal S8192x1024 .f32 :=
  Host.dotGeneral Cert.DownReferenceIdeal.dot_S8192x4096_S4096x1024_S8192x1024_1_0_0_1_n_n none h w
/-- The residual sum. -/
def RESID (x : FVec Ideal S8192x1024 .f32) (h : FVec Ideal S8192x4096 .f32) (w : FVec Ideal S4096x1024 .f32) : FVec Ideal S8192x1024 .f32 :=
  addf (mulf (broadcastInDim Cert.DownReferenceIdeal.S8192x1024 ![] Cert.DownReferenceIdeal.Gen.bcast_S_S8192x1024 (constant Cert.DownReferenceIdeal.S_ .f32 0x3FD744FD#32)) x) (DOT h w)

/-- The call's operands, as the launch has them. -/
abbrev xin (c : Dev nD) : FVec Ideal S8192x1024 .f32 := m ((c : Thread nD τ).loc main_arg0)
abbrev act (c : Dev nD) : FVec Ideal S8192x4096 .f32 := ACT (m ((c : Thread nD τ).loc main_arg0)) (m ((c : Thread nD τ).loc main_arg1))
abbrev wdown (c : Dev nD) : FVec Ideal S4096x1024 .f32 := m ((c : Thread nD τ).loc main_arg2)
abbrev gain (c : Dev nD) : FVec Ideal S1024 .f32 := m ((c : Thread nD τ).loc main_arg3)
abbrev bias (c : Dev nD) : FVec Ideal S1024 .f32 := m ((c : Thread nD τ).loc main_arg4)
/-- The residual sum of them. -/
abbrev resid (c : Dev nD) : FVec Ideal S8192x1024 .f32 := RESID (xin m c) (act m c) (wdown m c)

theorem entry_act (c : Dev nD) : V m c main_v3 = act m c := by
  unfold V act ACT; after_results; rfl
theorem entry_w (c : Dev nD) (a : Fin 4) (k j : Fin 1024) :
    (show FVec Ideal S4x1x1024x1024 .bf16 from V m c main_v6) (ix4 a 0 k j) = wdown m c (ix2 ⟨a.val * 1024 + k.val, by omega⟩ j) := by
  have e : V m c main_v6 = (truncf .bf16 (broadcastInDim S4x1x1024x1024 ![0, 2, 3] bcast_S4x1024x1024_S4x1x1024x1024_0_2_3
      (shapeCast S4x1024x1024 (wdown m c) shapeCasts_S4096x1024_S4x1024x1024)) bitsLt_bf16_f32 : FVec Ideal S4x1x1024x1024 .bf16) := by
    unfold V; after_results; rfl
  rw [e]
  pointwise
theorem entry_x (c : Dev nD) : V m c main_arg0 = xin m c := by
  show V m c main_arg0 = m ((c : Thread nD τ).loc main_arg0)
  entry_read; rfl
theorem entry_gain (c : Dev nD) (j : Fin 1024) : (show FVec Ideal S1x1024 .f32 from V m c main_v7) (ix2 0 j) = gain m c (ix1 j) := by
  have e : V m c main_v7 = (broadcastInDim S1x1024 ![1] bcast_S1024_S1x1024_1 (gain m c) : FVec Ideal S1x1024 .f32) := by
    unfold V; after_results; rfl
  rw [e]
  pointwise
theorem entry_bias (c : Dev nD) (j : Fin 1024) : (show FVec Ideal S1x1024 .f32 from V m c main_v8) (ix2 0 j) = bias m c (ix1 j) := by
  have e : V m c main_v8 = (broadcastInDim S1x1024 ![1] bcast_S1024_S1x1024_1 (bias m c) : FVec Ideal S1x1024 .f32) := by
    unfold V; after_results; rfl
  rw [e]
  pointwise

theorem idx : ∀ t : Fin cfg0.N, win0_0.index t = ![t.val / 4, t.val % 4] ∧ win0_1.index t = ![t.val % 4, 0, 0, 0] ∧ win0_2.index t = ![t.val / 4, 0]
    ∧ win0_3.index t = ![0, 0] ∧ win0_4.index t = ![0, 0] ∧ win0_5.index t = ![t.val / 4, 0] ∧ win0_6.index t = ![t.val / 4, 0] ∧ win0_7.index t = ![t.val / 4, 0] :=
  (by decide +kernel : ∀ t : Fin grid0.N, _)

/-- The row of the arrays a block's row is. -/
abbrev row (n : ℕ) (hn : n < cfg0.N) (i : Fin 1024) : Fin 8192 := ⟨n / 4 * 1024 + i.val, by have : n < 32 := lt_of_lt_of_eq hn N_0; omega⟩

theorem act_at (c : Dev nD) (t : Fin cfg0.N) (i k : Fin 1024) :
    (show FVec Ideal S1024x1024 .bf16 from iblk m c 0 t) (ix2 i k) = act m c (ix2 (row t.val t.isLt i) ⟨t.val % 4 * 1024 + k.val, by omega⟩) := by
  rw [← entry_act]
  blk_ext [iblk, idx t]
theorem w_at (c : Dev nD) (t : Fin cfg0.N) (k j : Fin 1024) :
    (show FVec Ideal S1x1x1024x1024 .bf16 from iblk m c 1 t) (ix4 0 0 k j) = wdown m c (ix2 ⟨t.val % 4 * 1024 + k.val, by omega⟩ j) := by
  refine Eq.trans ?_ (entry_w m c ⟨t.val % 4, by omega⟩ k j)
  blk_ext [iblk, idx t]
theorem x_at (c : Dev nD) (t : Fin cfg0.N) (i : S1024x1024.Idx) :
    (show FVec Ideal S1024x1024 .f32 from iblk m c 2 t) i = xin m c (ix2 (row t.val t.isLt (i 0)) (i 1)) := by
  rw [← entry_x]
  blk_ext [iblk, idx t]
theorem gain_at (c : Dev nD) (t : Fin cfg0.N) (j : Fin 1024) :
    (show FVec Ideal S1x1024 .f32 from iblk m c 3 t) (ix2 0 j) = gain m c (ix1 j) := by
  refine Eq.trans ?_ (entry_gain m c j)
  blk_ext [iblk, idx t]
theorem bias_at (c : Dev nD) (t : Fin cfg0.N) (j : Fin 1024) :
    (show FVec Ideal S1x1024 .f32 from iblk m c 4 t) (ix2 0 j) = bias m c (ix1 j) := by
  refine Eq.trans ?_ (entry_bias m c j)
  blk_ext [iblk, idx t]

/-! ## The sum over a run's points -/

/-- The product of the two blocks at a point. -/
abbrev part (c : Dev nD) (n : ℕ) (hn : n < cfg0.N) (i : S1024x1024.Idx) : EReal :=
  ∑ k : Fin 1024, (show FVec Ideal S1024x1024 .bf16 from iblk m c 0 ⟨n, hn⟩) (ix2 (i 0) k) * (show FVec Ideal S1x1x1024x1024 .bf16 from iblk m c 1 ⟨n, hn⟩) (ix4 0 0 k (i 1))

theorem scratch_first (c : Dev nD) (n : ℕ) (hn : n < cfg0.N) (h : n % 4 = 0) (i : S1024x1024.Idx) :
    (outsAt0 m c n hn).2.2.2 i = part m c n hn i := by
  rw [outsAt0_A m c ⟨n, hn⟩ h (by dsimp only; omega) (by dsimp only; omega)]
  frame_out
  exact part_pay _ _ i
theorem scratch_next (c : Dev nD) (n : ℕ) (hn : n + 1 < cfg0.N) (h : 1 ≤ (n + 1) % 4 ∧ (n + 1) % 4 ≤ 2) (i : S1024x1024.Idx) :
    (outsAt0 m c (n + 1) hn).2.2.2 i = (outsAt0 m c n (Nat.lt_of_succ_lt hn)).2.2.2 i + part m c (n + 1) hn i := by
  rw [outsAt0_B m c ⟨n + 1, hn⟩ (by dsimp only; omega) h (by dsimp only; omega)]
  frame_out
  exact (step_pay _ _ _ i).trans (congrArg (· + part m c (n + 1) hn i) (congrFun ((Memref.isWhole_whole cc0_scratch0).read_unread _) i))

/-- What the last point of a run adds its product to. -/
abbrev held (c : Dev nD) (n : ℕ) (hn : n + 1 < cfg0.N) : Vec Ideal S1024x1024 .f32 := (outsAt0 m c n (Nat.lt_of_succ_lt hn)).2.2.2

theorem dot_run (c : Dev nD) (q : ℕ) (hq : 4 * q + 3 < cfg0.N) (i : S1024x1024.Idx) :
    held m c (4 * q + 2) hq i + part m c (4 * q + 3) hq i = DOT (act m c) (wdown m c) (ix2 (row (4 * q + 3) hq (i 0)) (i 1)) := by
  have hN : 4 * q + 3 < 32 := lt_of_lt_of_eq hq N_0
  have e : held m c (4 * q + 2) hq i + part m c (4 * q + 3) hq i = ∑ s : Fin 4, part m c (4 * q + s.val) (by have := s.isLt; omega) i := by
    unfold held
    rw [scratch_next m c (4 * q + 1) _ (by omega), scratch_next m c (4 * q) _ (by omega), scratch_first m c (4 * q) _ (by omega), Fin.sum_univ_four]
    rfl
  rw [e]
  unfold part
  pointwise [DOT]
  refine Fin.sum_mul_add_congr fun s k hl => ?_
  refine (congrArg₂ (· * · : EReal → EReal → EReal) (act_at m c _ (i 0) k) (w_at m c _ k (i 1))).trans ?_
  have hs := s.isLt
  blk_point [idx ⟨4 * q + 3, hq⟩]

theorem res_at (c : Dev nD) (q : ℕ) (hq : 4 * q + 3 < cfg0.N) (i : S1024x1024.Idx) :
    k0_pay4 (F := Ideal) (iblk m c 0 ⟨4 * q + 3, hq⟩) (iblk m c 1 ⟨4 * q + 3, hq⟩) (held m c (4 * q + 2) hq) (iblk m c 2 ⟨4 * q + 3, hq⟩) i
      = resid m c (ix2 (row (4 * q + 3) hq (i 0)) (i 1)) := by
  refine (res_pay _ _ _ _ i).trans ?_
  pointwise [RESID]
  exact congrArg₂ (fun a b : EReal => scale * a + b) (x_at m c ⟨4 * q + 3, hq⟩ i) (dot_run m c q hq i)
theorem norm_at (c : Dev nD) (q : ℕ) (hq : 4 * q + 3 < cfg0.N) (i : S1024x1024.Idx) :
    k0_pay5 (F := Ideal) (iblk m c 0 ⟨4 * q + 3, hq⟩) (iblk m c 1 ⟨4 * q + 3, hq⟩) (held m c (4 * q + 2) hq) (iblk m c 2 ⟨4 * q + 3, hq⟩)
        (iblk m c 3 ⟨4 * q + 3, hq⟩) (iblk m c 4 ⟨4 * q + 3, hq⟩) i
      = NORM (resid m c) (gain m c) (bias m c) (ix2 (row (4 * q + 3) hq (i 0)) (i 1)) := by
  refine (norm_pay _ _ _ _ _ _ i).trans (Eq.trans ?_ (norm_ref _ _ _ _).symm)
  exact congr (congrArg₂ (fun f g => norm f (i 1) g) (funext fun k => res_at m c q hq (ix2 (i 0) k)) (gain_at m c _ (i 1))) (bias_at m c _ (i 1))

theorem out5 (c : Dev nD) (q : ℕ) (hq : 4 * q + 3 < cfg0.N) (i : S1024x1024.Idx) :
    (outsAt0 m c (4 * q + 3) hq).1 i = resid m c (ix2 (row (4 * q + 3) hq (i 0)) (i 1)) := by
  refine Eq.trans ?_ (res_at m c q hq i)
  rw [outsAt0_C m c ⟨4 * q + 3, hq⟩ (by dsimp only; omega) (by dsimp only; omega) (by dsimp only; omega)]
  frame_out
  rw [(Memref.isWhole_whole cc0_scratch0).read_unread]
  rfl
theorem out6 (c : Dev nD) (q : ℕ) (hq : 4 * q + 3 < cfg0.N) (i : S1024x1024.Idx) :
    (outsAt0 m c (4 * q + 3) hq).2.1 i = NORM (resid m c) (gain m c) (bias m c) (ix2 (row (4 * q + 3) hq (i 0)) (i 1)) := by
  refine Eq.trans ?_ (norm_at m c q hq i)
  rw [outsAt0_C m c ⟨4 * q + 3, hq⟩ (by dsimp only; omega) (by dsimp only; omega) (by dsimp only; omega)]
  frame_out
  rw [(Memref.isWhole_whole cc0_scratch0).read_unread]
  rfl
theorem out7 (c : Dev nD) (q : ℕ) (hq : 4 * q + 3 < cfg0.N) (i : S1024x1024.Idx) :
    (outsAt0 m c (4 * q + 3) hq).2.2.1 i = NORM (resid m c) (gain m c) (bias m c) (ix2 (row (4 * q + 3) hq (i 0)) (i 1)) := by
  refine Eq.trans ?_ ((cast_pay _ _ _ _ _ _ i).trans (norm_at m c q hq i))
  rw [outsAt0_C m c ⟨4 * q + 3, hq⟩ (by dsimp only; omega) (by dsimp only; omega) (by dsimp only; omega)]
  frame_out
  rw [(Memref.isWhole_whole cc0_scratch0).read_unread]
  rfl

theorem final5 (c : Dev nD) : (dats m 0 c).arrAt 5 (cfgs 0).N = resid m c := by
  refine (dats m 0 c).arrAt_eq_of_covers 5 _ (by decide +kernel) fun t hf y => ?_
  have hm := (flush0_5 t).1 hf
  have hN : t.val < 32 := lt_of_lt_of_eq t.isLt N_0
  obtain ⟨q, hq⟩ : ∃ q, t.val = 4 * q + 3 := ⟨t.val / 4, by omega⟩
  blk_simp
  rw [after0_5]
  obtain ⟨n, hn⟩ := t
  dsimp only at hq hN
  subst hq
  refine (out5 m c q hn y).trans ?_
  generalize resid m c = v
  blk_point [idx ⟨4 * q + 3, hn⟩]

theorem final6 (c : Dev nD) : (dats m 0 c).arrAt 6 (cfgs 0).N = NORM (resid m c) (gain m c) (bias m c) := by
  refine (dats m 0 c).arrAt_eq_of_covers 6 _ (by decide +kernel) fun t hf y => ?_
  have hm := (flush0_6 t).1 hf
  have hN : t.val < 32 := lt_of_lt_of_eq t.isLt N_0
  obtain ⟨q, hq⟩ : ∃ q, t.val = 4 * q + 3 := ⟨t.val / 4, by omega⟩
  blk_simp
  rw [after0_6]
  obtain ⟨n, hn⟩ := t
  dsimp only at hq hN
  subst hq
  refine (out6 m c q hn y).trans ?_
  generalize NORM (resid m c) (gain m c) (bias m c) = v
  blk_point [idx ⟨4 * q + 3, hn⟩]

theorem final7 (c : Dev nD) : (dats m 0 c).arrAt 7 (cfgs 0).N = NORM (resid m c) (gain m c) (bias m c) := by
  refine (dats m 0 c).arrAt_eq_of_covers 7 _ (by decide +kernel) fun t hf y => ?_
  have hm := (flush0_7 t).1 hf
  have hN : t.val < 32 := lt_of_lt_of_eq t.isLt N_0
  obtain ⟨q, hq⟩ : ∃ q, t.val = 4 * q + 3 := ⟨t.val / 4, by omega⟩
  blk_simp
  rw [after0_7]
  obtain ⟨n, hn⟩ := t
  dsimp only at hq hN
  subst hq
  refine (out7 m c q hn y).trans ?_
  generalize NORM (resid m c) (gain m c) (bias m c) = v
  blk_point [idx ⟨4 * q + 3, hn⟩]

theorem tail (c : Dev nD) : Pipeline.afterTail₀ cfgs (dats m) 0 (V0 m) [hostOps1] c main_v10 = (dats m 0 c).arrAt 7 (cfgs 0).N := by
  unfold Pipeline.afterTail₀ hostOps1
  after_results
  exact (Pipeline.withArrays_arr spec0 (by decide) c (V0 m c) (fun w => (dats m 0 c).arrAt w (cfgs 0).N) 7 :)

theorem algebraic : Cert.algebraic_DownIdeal_DownReferenceIdeal := by
  intro m g m' g' _ hagree
  refine ⟨fun c => resid m c, fun c => NORM (resid m c) (gain m c) (bias m c), fun c => NORM (resid m c) (gain m c) (bias m c), ?_, ?_⟩
  · refine (θ_run defs _ _).mono (fun r h c => ⟨((h.1 c).1 5).trans (final5 m c), ((h.1 c).1 6).trans (final6 m c),
        ((h.1 c).2 main_v10 (by decide)).trans ((tail m c).trans (final7 m c)), h.2 c⟩)
      (θ_run_and (run_main m g) (unchanged m g))
  · refine (θ_run Cert.DownReferenceIdeal.defs _ _).mono (fun r h c => ?_) (Cert.DownReferenceIdeal.Value.run (F := Ideal) m' g')
    obtain ⟨h0, h1, h2, ha⟩ := h c
    obtain ⟨e0, e1, e2, e3, e4⟩ := hagree c
    unfold Cert.DownReferenceIdeal.Value.res_main_v30 at h1 h2
    rw [e0, e1, e2] at h0
    rw [e0, e1, e2, e3, e4] at h1 h2
    exact ⟨h0, h1, h2, ha⟩

end Cert.DownIdeal.Hand
-- ==== Proof.Dx1Ideal.Value.lean ====
/- The cotangent of the channel mixer's input: four slices of the columns summed in the scratch, the other share added at the end. -/
module

public import proofs.«01_k».proof.Proof.Gen.Dx1Ideal.Frame
public import proofs.«01_k».proof.Proof.Gen.Dx1ReferenceIdeal.Run
public import proofs.«01_k».proof.Defs
public import Idealize.ShloMosaic.Lib.Pipeline.ValueKit
public import Idealize.ShloMosaic.Lib.Claim

@[expose] public section

set_option maxRecDepth 16384

noncomputable section

namespace Cert.Dx1Ideal.Hand

open Cert.Dx1Ideal Cert.Dx1Ideal.Gen
open Idealize.ShloMosaic TcCoe Tactic Idealize.SL.Sem

variable (m : (ℓ : Loc nD τ sig) → Buf (Elt Ideal) ℓ)

/-- The cotangent times the weight, as the reference's lines compute it. -/
def DOT (ct : FVec Ideal S8192x4096 .f32) (w : FVec Ideal S1024x4096 .f32) : FVec Ideal S8192x1024 .f32 :=
  Host.dotGeneral Cert.Dx1ReferenceIdeal.dot_S8192x4096_S1024x4096_S8192x1024_1_1_0_0_n_n none ct w
/-- The reference's result. -/
abbrev REF (ct : FVec Ideal S8192x4096 .f32) (w : FVec Ideal S1024x4096 .f32) (e : FVec Ideal S8192x1024 .f32) : FVec Ideal S8192x1024 .f32 :=
  addf (DOT ct w) (mulf (broadcastInDim Cert.Dx1ReferenceIdeal.S8192x1024 ![] Cert.Dx1ReferenceIdeal.Gen.bcast_S_S8192x1024 (constant Cert.Dx1ReferenceIdeal.S_ .f32 0x3FD744FD#32)) e)
/-- The residual's factor. -/
abbrev scale : EReal := Ideal.ofBits .f32 0x3FD744FD#32

/-- The cotangent, the weight and what is added to their product. -/
abbrev lhs (c : Dev nD) : FVec Ideal S8192x4096 .f32 := m ((c : Thread nD τ).loc main_arg2)
abbrev rhs (c : Dev nD) : FVec Ideal S1024x4096 .f32 := m ((c : Thread nD τ).loc main_arg1)
abbrev more (c : Dev nD) : FVec Ideal S8192x1024 .f32 := m ((c : Thread nD τ).loc main_arg3)

theorem entry_lhs (c : Dev nD) : V m c main_v0 = lhs m c := by
  show V m c main_v0 = m ((c : Thread nD τ).loc main_arg2)
  entry_read; rfl
theorem entry_rhs (c : Dev nD) (a : Fin 4) (k j : Fin 1024) :
    (show FVec Ideal S4x1x1024x1024 .bf16 from V m c main_v4) (ix4 a 0 k j) = rhs m c (ix2 k ⟨a.val * 1024 + j.val, by omega⟩) := by
  have e : V m c main_v4 = (truncf .bf16 (broadcastInDim S4x1x1024x1024 ![0, 2, 3] bcast_S4x1024x1024_S4x1x1024x1024_0_2_3
      (transpose S4x1024x1024 [1, 0, 2] (shapeCast S1024x4x1024 (rhs m c) shapeCasts_S1024x4096_S1024x4x1024) transposes_S1024x4x1024_S4x1024x1024_1_0_2)) bitsLt_bf16_f32 :
        FVec Ideal S4x1x1024x1024 .bf16) := by
    unfold V; after_results; rfl
  rw [e]
  pointwise
theorem entry_more (c : Dev nD) : V m c main_arg3 = more m c := by
  show V m c main_arg3 = m ((c : Thread nD τ).loc main_arg3)
  entry_read; rfl

theorem idx : ∀ t : Fin cfg0.N, win0_0.index t = ![t.val / 4, t.val % 4] ∧ win0_1.index t = ![t.val % 4, 0, 0, 0] ∧ win0_2.index t = ![t.val / 4, 0]
    ∧ win0_3.index t = ![t.val / 4, 0] :=
  (by decide +kernel : ∀ t : Fin grid0.N, _)

theorem part_at (x : Vec Ideal S1024x1024 .bf16) (y : Vec Ideal S1x1x1024x1024 .bf16) (i : S1024x1024.Idx) :
    k0_pay2 (F := Ideal) x y i = ∑ k : Fin 1024, x (ix2 (i 0) k) * y (ix4 0 0 (i 1) k) := by
  pointwise [k0_pay2, k0_pay1]
theorem step_at (x : Vec Ideal S1024x1024 .bf16) (y : Vec Ideal S1x1x1024x1024 .bf16) (a : Vec Ideal S1024x1024 .f32) (i : S1024x1024.Idx) :
    k0_pay3 (F := Ideal) x y a i = a i + ∑ k : Fin 1024, x (ix2 (i 0) k) * y (ix4 0 0 (i 1) k) := by
  pointwise [k0_pay3, k0_pay1]
theorem last_at (x : Vec Ideal S1024x1024 .bf16) (y : Vec Ideal S1x1x1024x1024 .bf16) (a e : Vec Ideal S1024x1024 .f32) (i : S1024x1024.Idx) :
    k0_pay4 (F := Ideal) x y a e i = a i + ∑ k : Fin 1024, x (ix2 (i 0) k) * y (ix4 0 0 (i 1) k) + scale * e i := by
  pointwise [k0_pay4, k0_pay1]

theorem lhs_at (c : Dev nD) (t : Fin cfg0.N) (i : Fin 1024) (k : Fin 1024) :
    (show FVec Ideal S1024x1024 .bf16 from iblk m c 0 t) (ix2 i k) = lhs m c (ix2 ⟨t.val / 4 * 1024 + i.val, by
      have : t.val < 32 := lt_of_lt_of_eq t.isLt N_0; omega⟩ ⟨t.val % 4 * 1024 + k.val, by omega⟩) := by
  rw [← entry_lhs]
  blk_ext [iblk, idx t]
theorem rhs_at (c : Dev nD) (t : Fin cfg0.N) (i : Fin 1024) (k : Fin 1024) :
    (show FVec Ideal S1x1x1024x1024 .bf16 from iblk m c 1 t) (ix4 0 0 i k) = rhs m c (ix2 i ⟨t.val % 4 * 1024 + k.val, by omega⟩) := by
  refine Eq.trans ?_ (entry_rhs m c ⟨t.val % 4, by omega⟩ i k)
  blk_ext [iblk, idx t]
theorem more_at (c : Dev nD) (t : Fin cfg0.N) (i : S1024x1024.Idx) :
    (show FVec Ideal S1024x1024 .f32 from iblk m c 2 t) i = more m c (ix2 ⟨t.val / 4 * 1024 + (i 0).val, by
      have : (i 0).val < 1024 := (i 0).isLt; have : t.val < 32 := lt_of_lt_of_eq t.isLt N_0; omega⟩ (i 1)) := by
  rw [← entry_more]
  blk_ext [iblk, idx t]

/-- The product of the two blocks at a point. -/
abbrev part (c : Dev nD) (n : ℕ) (hn : n < cfg0.N) (i : S1024x1024.Idx) : EReal :=
  ∑ k : Fin 1024, (show FVec Ideal S1024x1024 .bf16 from iblk m c 0 ⟨n, hn⟩) (ix2 (i 0) k) * (show FVec Ideal S1x1x1024x1024 .bf16 from iblk m c 1 ⟨n, hn⟩) (ix4 0 0 (i 1) k)
/-- The added block's share at a point. -/
abbrev extra (c : Dev nD) (n : ℕ) (hn : n < cfg0.N) (i : S1024x1024.Idx) : EReal :=
  scale * (show FVec Ideal S1024x1024 .f32 from iblk m c 2 ⟨n, hn⟩) i

theorem scratch_first (c : Dev nD) (n : ℕ) (hn : n < cfg0.N) (h : n % 4 = 0) (i : S1024x1024.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : 1 ≤ (n + 1) % 4 ∧ (n + 1) % 4 ≤ 2) (i : S1024x1024.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 4 = 3) (i : S1024x1024.Idx) :
    (outsAt0 m c (n + 1) hn).1 i = (outsAt0 m c n (Nat.lt_of_succ_lt hn)).2 i + part m c (n + 1) hn i + extra m c (n + 1) hn i := by
  rw [outsAt0_C m c ⟨n + 1, hn⟩ (by dsimp only; omega) (by dsimp only; omega) h]
  frame_out
  exact (last_at _ _ _ _ i).trans (congrArg (· + part m c (n + 1) hn i + extra m c (n + 1) hn i) (congrFun ((Memref.isWhole_whole cc0_scratch0).read_unread _) i))

/-- What a run's last point writes: its products added up, and the added block's share. -/
theorem out_run (c : Dev nD) (q : ℕ) (hq : 4 * q + 3 < cfg0.N) (i : S1024x1024.Idx) :
    (outsAt0 m c (4 * q + 3) hq).1 i = (∑ s : Fin 4, part m c (4 * q + s.val) (by have := s.isLt; omega) i) + extra m c (4 * q + 3) hq i := by
  rw [out_last m c (4 * q + 2) hq (by omega), scratch_next m c (4 * q + 1) _ (by omega), scratch_next m c (4 * q) _ (by omega),
    scratch_first m c (4 * q) _ (by omega), Fin.sum_univ_four]
  rfl

theorem sum_at (c : Dev nD) (q : ℕ) (hq : 4 * q + 3 < cfg0.N) (i : S1024x1024.Idx) :
    ∑ s : Fin 4, part m c (4 * q + s.val) (by have := s.isLt; omega) i = DOT (lhs m c) (rhs m c) (ix2 ⟨q * 1024 + (i 0).val, by
      have : 4 * q + 3 < 32 := lt_of_lt_of_eq hq N_0; have : (i 0).val < 1024 := (i 0).isLt; omega⟩ (i 1)) := by
  have hN : 4 * q + 3 < 32 := lt_of_lt_of_eq hq N_0
  unfold part
  pointwise [DOT]
  refine Fin.sum_mul_add_congr fun s k hl => ?_
  refine (congrArg₂ (· * · : EReal → EReal → EReal) (lhs_at m c _ (i 0) k) (rhs_at m c _ (i 1) k)).trans ?_
  have hs := s.isLt
  blk_point [idx ⟨4 * q + 3, hq⟩]

theorem final (c : Dev nD) : (dats m 0 c).arrAt 3 (cfgs 0).N = REF (lhs m c) (rhs m c) (more m c) := by
  refine (dats m 0 c).arrAt_eq_of_covers 3 _ (by decide +kernel) fun t hf y => ?_
  have hm := (flush0_3 t).1 hf
  have hN : t.val < 32 := lt_of_lt_of_eq t.isLt N_0
  obtain ⟨q, hq⟩ : ∃ q, t.val = 4 * q + 3 := ⟨t.val / 4, by omega⟩
  blk_simp
  rw [after0_3]
  obtain ⟨n, hn⟩ := t
  dsimp only at hq hN
  subst hq
  refine (out_run m c q hn y).trans ((congrArg₂ (fun a b : EReal => a + scale * b) (sum_at m c q hn y) (more_at m c _ y)).trans ?_)
  pointwise [REF]
  blk_point [idx ⟨4 * q + 3, hn⟩]

theorem algebraic : Cert.algebraic_Dx1Ideal_Dx1ReferenceIdeal := by
  intro m g m' g' _ hagree
  refine ⟨fun c => REF (lhs m c) (rhs m c) (more m c), ?_, ?_⟩
  · refine (θ_run defs _ _).mono (fun r h c => ⟨((h.1 c).1 3).trans (final m c), h.2 c⟩)
      (θ_run_and (run_main m g) (unchanged m g))
  · refine (θ_run Cert.Dx1ReferenceIdeal.defs _ _).mono (fun r h c => ?_) (Cert.Dx1ReferenceIdeal.Value.run (F := Ideal) m' g')
    obtain ⟨hr, ha⟩ := h c
    obtain ⟨e0, e1, e2, e3⟩ := hagree c
    rw [e1, e2, e3] at hr
    exact ⟨hr, ha⟩

end Cert.Dx1Ideal.Hand
-- ==== Proof.DxgIdeal.Value.lean ====
/- The cotangent of the layer's input by the gates' columns: four slices of the columns summed in the scratch, the other share added at the end. -/
module

public import proofs.«01_k».proof.Proof.Gen.DxgIdeal.Frame
public import proofs.«01_k».proof.Proof.Gen.DxgReferenceIdeal.Run
public import proofs.«01_k».proof.Defs
public import Idealize.ShloMosaic.Lib.Pipeline.ValueKit
public import Idealize.ShloMosaic.Lib.Claim

@[expose] public section

set_option maxRecDepth 16384

noncomputable section

namespace Cert.DxgIdeal.Hand

open Cert.DxgIdeal Cert.DxgIdeal.Gen
open Idealize.ShloMosaic TcCoe Tactic Idealize.SL.Sem

variable (m : (ℓ : Loc nD τ sig) → Buf (Elt Ideal) ℓ)

/-- The cotangent times the weight, as the reference's lines compute it. -/
def DOT (ct : FVec Ideal S8192x3072 .f32) (w : FVec Ideal S1024x5376 .f32) : FVec Ideal S8192x1024 .f32 :=
  Host.dotGeneral Cert.DxgReferenceIdeal.dot_S8192x3072_S1024x3072_S8192x1024_1_1_0_0_n_n none ct (extractStridedSlice Cert.DxgReferenceIdeal.S1024x3072 ![0, 2304] w Cert.DxgReferenceIdeal.Gen.slices_S1024x5376_S1024x3072_0_2304)
/-- The reference's result. -/
abbrev REF (ct : FVec Ideal S8192x3072 .f32) (w : FVec Ideal S1024x5376 .f32) (e : FVec Ideal S8192x1024 .f32) : FVec Ideal S8192x1024 .f32 :=
  addf e (DOT ct w)

/-- The cotangent, the weight and what is added to their product. -/
abbrev lhs (c : Dev nD) : FVec Ideal S8192x3072 .f32 := m ((c : Thread nD τ).loc main_arg2)
abbrev rhs (c : Dev nD) : FVec Ideal S1024x5376 .f32 := m ((c : Thread nD τ).loc main_arg1)
abbrev more (c : Dev nD) : FVec Ideal S8192x1024 .f32 := m ((c : Thread nD τ).loc main_arg3)

theorem entry_lhs (c : Dev nD) : V m c main_v0 = lhs m c := by
  show V m c main_v0 = m ((c : Thread nD τ).loc main_arg2)
  entry_read; rfl
theorem entry_rhs (c : Dev nD) (i : Fin 1024) (k : Fin 5376) :
    (show FVec Ideal S1x1024x5376 .bf16 from V m c main_v2) (ix3 0 i k) = rhs m c (ix2 i k) := by
  have e : V m c main_v2 = (truncf .bf16 (broadcastInDim S1x1024x5376 ![1, 2] bcast_S1024x5376_S1x1024x5376_1_2 (rhs m c)) bitsLt_bf16_f32 :
      FVec Ideal S1x1024x5376 .bf16) := by
    unfold V; after_results
  rw [e]
  pointwise
theorem entry_more (c : Dev nD) : V m c main_arg3 = more m c := by
  show V m c main_arg3 = m ((c : Thread nD τ).loc main_arg3)
  entry_read; rfl

theorem idx : ∀ t : Fin cfg0.N, win0_0.index t = ![t.val / 4, t.val % 4] ∧ win0_1.index t = ![0, 0, t.val % 4 + 3] ∧ win0_2.index t = ![t.val / 4, 0]
    ∧ win0_3.index t = ![t.val / 4, 0] :=
  (by decide +kernel : ∀ t : Fin grid0.N, _)

theorem part_at (x : Vec Ideal S1024x768 .bf16) (y : Vec Ideal S1x1024x768 .bf16) (i : S1024x1024.Idx) :
    k0_pay2 (F := Ideal) x y i = ∑ k : Fin 768, x (ix2 (i 0) k) * y (ix3 0 (i 1) k) := by
  pointwise [k0_pay2, k0_pay1]
theorem step_at (x : Vec Ideal S1024x768 .bf16) (y : Vec Ideal S1x1024x768 .bf16) (a : Vec Ideal S1024x1024 .f32) (i : S1024x1024.Idx) :
    k0_pay3 (F := Ideal) x y a i = a i + ∑ k : Fin 768, x (ix2 (i 0) k) * y (ix3 0 (i 1) k) := by
  pointwise [k0_pay3, k0_pay1]
theorem last_at (x : Vec Ideal S1024x768 .bf16) (y : Vec Ideal S1x1024x768 .bf16) (a e : Vec Ideal S1024x1024 .f32) (i : S1024x1024.Idx) :
    k0_pay4 (F := Ideal) x y a e i = a i + ∑ k : Fin 768, x (ix2 (i 0) k) * y (ix3 0 (i 1) k) + e i := by
  pointwise [k0_pay4, k0_pay1]

theorem lhs_at (c : Dev nD) (t : Fin cfg0.N) (i : Fin 1024) (k : Fin 768) :
    (show FVec Ideal S1024x768 .bf16 from iblk m c 0 t) (ix2 i k) = lhs m c (ix2 ⟨t.val / 4 * 1024 + i.val, by
      have : t.val < 32 := lt_of_lt_of_eq t.isLt N_0; omega⟩ ⟨t.val % 4 * 768 + k.val, by omega⟩) := by
  rw [← entry_lhs]
  blk_ext [iblk, idx t]
theorem rhs_at (c : Dev nD) (t : Fin cfg0.N) (i : Fin 1024) (k : Fin 768) :
    (show FVec Ideal S1x1024x768 .bf16 from iblk m c 1 t) (ix3 0 i k) = rhs m c (ix2 i ⟨(t.val % 4 + 3) * 768 + k.val, by omega⟩) := by
  refine Eq.trans ?_ (entry_rhs m c i ⟨(t.val % 4 + 3) * 768 + k.val, by omega⟩)
  blk_ext [iblk, idx t]
theorem more_at (c : Dev nD) (t : Fin cfg0.N) (i : S1024x1024.Idx) :
    (show FVec Ideal S1024x1024 .f32 from iblk m c 2 t) i = more m c (ix2 ⟨t.val / 4 * 1024 + (i 0).val, by
      have : (i 0).val < 1024 := (i 0).isLt; have : t.val < 32 := lt_of_lt_of_eq t.isLt N_0; omega⟩ (i 1)) := by
  rw [← entry_more]
  blk_ext [iblk, idx t]

/-- The product of the two blocks at a point. -/
abbrev part (c : Dev nD) (n : ℕ) (hn : n < cfg0.N) (i : S1024x1024.Idx) : EReal :=
  ∑ k : Fin 768, (show FVec Ideal S1024x768 .bf16 from iblk m c 0 ⟨n, hn⟩) (ix2 (i 0) k) * (show FVec Ideal S1x1024x768 .bf16 from iblk m c 1 ⟨n, hn⟩) (ix3 0 (i 1) k)
/-- The added block's share at a point. -/
abbrev extra (c : Dev nD) (n : ℕ) (hn : n < cfg0.N) (i : S1024x1024.Idx) : EReal :=
  (show FVec Ideal S1024x1024 .f32 from iblk m c 2 ⟨n, hn⟩) i

theorem scratch_first (c : Dev nD) (n : ℕ) (hn : n < cfg0.N) (h : n % 4 = 0) (i : S1024x1024.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : 1 ≤ (n + 1) % 4 ∧ (n + 1) % 4 ≤ 2) (i : S1024x1024.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 4 = 3) (i : S1024x1024.Idx) :
    (outsAt0 m c (n + 1) hn).1 i = (outsAt0 m c n (Nat.lt_of_succ_lt hn)).2 i + part m c (n + 1) hn i + extra m c (n + 1) hn i := by
  rw [outsAt0_C m c ⟨n + 1, hn⟩ (by dsimp only; omega) (by dsimp only; omega) h]
  frame_out
  exact (last_at _ _ _ _ i).trans (congrArg (· + part m c (n + 1) hn i + extra m c (n + 1) hn i) (congrFun ((Memref.isWhole_whole cc0_scratch0).read_unread _) i))

/-- What a run's last point writes: its products added up, and the added block's share. -/
theorem out_run (c : Dev nD) (q : ℕ) (hq : 4 * q + 3 < cfg0.N) (i : S1024x1024.Idx) :
    (outsAt0 m c (4 * q + 3) hq).1 i = (∑ s : Fin 4, part m c (4 * q + s.val) (by have := s.isLt; omega) i) + extra m c (4 * q + 3) hq i := by
  rw [out_last m c (4 * q + 2) hq (by omega), scratch_next m c (4 * q + 1) _ (by omega), scratch_next m c (4 * q) _ (by omega),
    scratch_first m c (4 * q) _ (by omega), Fin.sum_univ_four]
  rfl

theorem sum_at (c : Dev nD) (q : ℕ) (hq : 4 * q + 3 < cfg0.N) (i : S1024x1024.Idx) :
    ∑ s : Fin 4, part m c (4 * q + s.val) (by have := s.isLt; omega) i = DOT (lhs m c) (rhs m c) (ix2 ⟨q * 1024 + (i 0).val, by
      have : 4 * q + 3 < 32 := lt_of_lt_of_eq hq N_0; have : (i 0).val < 1024 := (i 0).isLt; omega⟩ (i 1)) := by
  have hN : 4 * q + 3 < 32 := lt_of_lt_of_eq hq N_0
  unfold part
  pointwise [DOT]
  refine Fin.sum_mul_add_congr fun s k hl => ?_
  refine (congrArg₂ (· * · : EReal → EReal → EReal) (lhs_at m c _ (i 0) k) (rhs_at m c _ (i 1) k)).trans ?_
  have hs := s.isLt
  blk_point [idx ⟨4 * q + 3, hq⟩]

theorem final (c : Dev nD) : (dats m 0 c).arrAt 3 (cfgs 0).N = REF (lhs m c) (rhs m c) (more m c) := by
  refine (dats m 0 c).arrAt_eq_of_covers 3 _ (by decide +kernel) fun t hf y => ?_
  have hm := (flush0_3 t).1 hf
  have hN : t.val < 32 := lt_of_lt_of_eq t.isLt N_0
  obtain ⟨q, hq⟩ : ∃ q, t.val = 4 * q + 3 := ⟨t.val / 4, by omega⟩
  blk_simp
  rw [after0_3]
  obtain ⟨n, hn⟩ := t
  dsimp only at hq hN
  subst hq
  refine (out_run m c q hn y).trans ((congrArg₂ (fun a b : EReal => a + b) (sum_at m c q hn y) (more_at m c _ y)).trans ?_)
  pointwise [REF]
  refine (add_comm (_ : EReal) _).trans ?_
  blk_point [idx ⟨4 * q + 3, hn⟩]

theorem algebraic : Cert.algebraic_DxgIdeal_DxgReferenceIdeal := by
  intro m g m' g' _ hagree
  refine ⟨fun c => REF (lhs m c) (rhs m c) (more m c), ?_, ?_⟩
  · refine (θ_run defs _ _).mono (fun r h c => ⟨((h.1 c).1 3).trans (final m c), h.2 c⟩)
      (θ_run_and (run_main m g) (unchanged m g))
  · refine (θ_run Cert.DxgReferenceIdeal.defs _ _).mono (fun r h c => ?_) (Cert.DxgReferenceIdeal.Value.run (F := Ideal) m' g')
    obtain ⟨hr, ha⟩ := h c
    obtain ⟨e0, e1, e2, e3⟩ := hagree c
    rw [e1, e2, e3] at hr
    exact ⟨hr, ha⟩

end Cert.DxgIdeal.Hand
-- ==== Proof.DxqIdeal.Value.lean ====
/- The cotangent of the layer's input by the mixers' columns: three slices of the columns summed in the scratch, the other share added at the end. -/
module

public import proofs.«01_k».proof.Proof.Gen.DxqIdeal.Frame
public import proofs.«01_k».proof.Proof.Gen.DxqReferenceIdeal.Run
public import proofs.«01_k».proof.Defs
public import Idealize.ShloMosaic.Lib.Pipeline.ValueKit
public import Idealize.ShloMosaic.Lib.Claim

@[expose] public section

set_option maxRecDepth 16384

noncomputable section

namespace Cert.DxqIdeal.Hand

open Cert.DxqIdeal Cert.DxqIdeal.Gen
open Idealize.ShloMosaic TcCoe Tactic Idealize.SL.Sem

variable (m : (ℓ : Loc nD τ sig) → Buf (Elt Ideal) ℓ)

/-- The cotangent times the weight, as the reference's lines compute it. -/
def DOT (ct : FVec Ideal S8192x2304 .f32) (w : FVec Ideal S1024x5376 .f32) : FVec Ideal S8192x1024 .f32 :=
  Host.dotGeneral Cert.DxqReferenceIdeal.dot_S8192x2304_S1024x2304_S8192x1024_1_1_0_0_n_n none ct (extractStridedSlice Cert.DxqReferenceIdeal.S1024x2304 ![0, 0] w Cert.DxqReferenceIdeal.Gen.slices_S1024x5376_S1024x2304_0_0)
/-- The reference's result. -/
abbrev REF (ct : FVec Ideal S8192x2304 .f32) (w : FVec Ideal S1024x5376 .f32) (e : FVec Ideal S8192x1024 .f32) : FVec Ideal S8192x1024 .f32 :=
  addf (DOT ct w) (mulf (broadcastInDim Cert.DxqReferenceIdeal.S8192x1024 ![] Cert.DxqReferenceIdeal.Gen.bcast_S_S8192x1024 (constant Cert.DxqReferenceIdeal.S_ .f32 0x3FD744FD#32)) e)
/-- The residual's factor. -/
abbrev scale : EReal := Ideal.ofBits .f32 0x3FD744FD#32

/-- The cotangent, the weight and what is added to their product. -/
abbrev lhs (c : Dev nD) : FVec Ideal S8192x2304 .f32 := m ((c : Thread nD τ).loc main_arg2)
abbrev rhs (c : Dev nD) : FVec Ideal S1024x5376 .f32 := m ((c : Thread nD τ).loc main_arg1)
abbrev more (c : Dev nD) : FVec Ideal S8192x1024 .f32 := m ((c : Thread nD τ).loc main_arg3)

theorem entry_lhs (c : Dev nD) : V m c main_v0 = lhs m c := by
  show V m c main_v0 = m ((c : Thread nD τ).loc main_arg2)
  entry_read; rfl
theorem entry_rhs (c : Dev nD) (i : Fin 1024) (k : Fin 5376) :
    (show FVec Ideal S1x1024x5376 .bf16 from V m c main_v2) (ix3 0 i k) = rhs m c (ix2 i k) := by
  have e : V m c main_v2 = (truncf .bf16 (broadcastInDim S1x1024x5376 ![1, 2] bcast_S1024x5376_S1x1024x5376_1_2 (rhs m c)) bitsLt_bf16_f32 :
      FVec Ideal S1x1024x5376 .bf16) := by
    unfold V; after_results
  rw [e]
  pointwise
theorem entry_more (c : Dev nD) : V m c main_arg3 = more m c := by
  show V m c main_arg3 = m ((c : Thread nD τ).loc main_arg3)
  entry_read; rfl

theorem idx : ∀ t : Fin cfg0.N, win0_0.index t = ![t.val / 3, t.val % 3] ∧ win0_1.index t = ![0, 0, t.val % 3] ∧ win0_2.index t = ![t.val / 3, 0]
    ∧ win0_3.index t = ![t.val / 3, 0] :=
  (by decide +kernel : ∀ t : Fin grid0.N, _)

theorem part_at (x : Vec Ideal S1024x768 .bf16) (y : Vec Ideal S1x1024x768 .bf16) (i : S1024x1024.Idx) :
    k0_pay2 (F := Ideal) x y i = ∑ k : Fin 768, x (ix2 (i 0) k) * y (ix3 0 (i 1) k) := by
  pointwise [k0_pay2, k0_pay1]
theorem step_at (x : Vec Ideal S1024x768 .bf16) (y : Vec Ideal S1x1024x768 .bf16) (a : Vec Ideal S1024x1024 .f32) (i : S1024x1024.Idx) :
    k0_pay3 (F := Ideal) x y a i = a i + ∑ k : Fin 768, x (ix2 (i 0) k) * y (ix3 0 (i 1) k) := by
  pointwise [k0_pay3, k0_pay1]
theorem last_at (x : Vec Ideal S1024x768 .bf16) (y : Vec Ideal S1x1024x768 .bf16) (a e : Vec Ideal S1024x1024 .f32) (i : S1024x1024.Idx) :
    k0_pay4 (F := Ideal) x y a e i = a i + ∑ k : Fin 768, x (ix2 (i 0) k) * y (ix3 0 (i 1) k) + scale * e i := by
  pointwise [k0_pay4, k0_pay1]

theorem lhs_at (c : Dev nD) (t : Fin cfg0.N) (i : Fin 1024) (k : Fin 768) :
    (show FVec Ideal S1024x768 .bf16 from iblk m c 0 t) (ix2 i k) = lhs m c (ix2 ⟨t.val / 3 * 1024 + i.val, by
      have : t.val < 24 := lt_of_lt_of_eq t.isLt N_0; omega⟩ ⟨t.val % 3 * 768 + k.val, by omega⟩) := by
  rw [← entry_lhs]
  blk_ext [iblk, idx t]
theorem rhs_at (c : Dev nD) (t : Fin cfg0.N) (i : Fin 1024) (k : Fin 768) :
    (show FVec Ideal S1x1024x768 .bf16 from iblk m c 1 t) (ix3 0 i k) = rhs m c (ix2 i ⟨t.val % 3 * 768 + k.val, by omega⟩) := by
  refine Eq.trans ?_ (entry_rhs m c i ⟨t.val % 3 * 768 + k.val, by omega⟩)
  blk_ext [iblk, idx t]
theorem more_at (c : Dev nD) (t : Fin cfg0.N) (i : S1024x1024.Idx) :
    (show FVec Ideal S1024x1024 .f32 from iblk m c 2 t) i = more m c (ix2 ⟨t.val / 3 * 1024 + (i 0).val, by
      have : (i 0).val < 1024 := (i 0).isLt; have : t.val < 24 := lt_of_lt_of_eq t.isLt N_0; omega⟩ (i 1)) := by
  rw [← entry_more]
  blk_ext [iblk, idx t]

/-- The product of the two blocks at a point. -/
abbrev part (c : Dev nD) (n : ℕ) (hn : n < cfg0.N) (i : S1024x1024.Idx) : EReal :=
  ∑ k : Fin 768, (show FVec Ideal S1024x768 .bf16 from iblk m c 0 ⟨n, hn⟩) (ix2 (i 0) k) * (show FVec Ideal S1x1024x768 .bf16 from iblk m c 1 ⟨n, hn⟩) (ix3 0 (i 1) k)
/-- The added block's share at a point. -/
abbrev extra (c : Dev nD) (n : ℕ) (hn : n < cfg0.N) (i : S1024x1024.Idx) : EReal :=
  scale * (show FVec Ideal S1024x1024 .f32 from iblk m c 2 ⟨n, hn⟩) i

theorem scratch_first (c : Dev nD) (n : ℕ) (hn : n < cfg0.N) (h : n % 3 = 0) (i : S1024x1024.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : (n + 1) % 3 = 1) (i : S1024x1024.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 3 = 2) (i : S1024x1024.Idx) :
    (outsAt0 m c (n + 1) hn).1 i = (outsAt0 m c n (Nat.lt_of_succ_lt hn)).2 i + part m c (n + 1) hn i + extra m c (n + 1) hn i := by
  rw [outsAt0_C m c ⟨n + 1, hn⟩ (by dsimp only; omega) (by dsimp only; omega) h]
  frame_out
  exact (last_at _ _ _ _ i).trans (congrArg (· + part m c (n + 1) hn i + extra m c (n + 1) hn i) (congrFun ((Memref.isWhole_whole cc0_scratch0).read_unread _) i))

/-- What a run's last point writes: its products added up, and the added block's share. -/
theorem out_run (c : Dev nD) (q : ℕ) (hq : 3 * q + 2 < cfg0.N) (i : S1024x1024.Idx) :
    (outsAt0 m c (3 * q + 2) hq).1 i = (∑ s : Fin 3, part m c (3 * q + s.val) (by have := s.isLt; omega) i) + extra m c (3 * q + 2) hq i := by
  rw [out_last m c (3 * q + 1) hq (by omega), scratch_next m c (3 * q) _ (by omega),
    scratch_first m c (3 * q) _ (by omega), Fin.sum_univ_three]
  rfl

theorem sum_at (c : Dev nD) (q : ℕ) (hq : 3 * q + 2 < cfg0.N) (i : S1024x1024.Idx) :
    ∑ s : Fin 3, part m c (3 * q + s.val) (by have := s.isLt; omega) i = DOT (lhs m c) (rhs m c) (ix2 ⟨q * 1024 + (i 0).val, by
      have : 3 * q + 2 < 24 := lt_of_lt_of_eq hq N_0; have : (i 0).val < 1024 := (i 0).isLt; omega⟩ (i 1)) := by
  have hN : 3 * q + 2 < 24 := lt_of_lt_of_eq hq N_0
  unfold part
  pointwise [DOT]
  refine Fin.sum_mul_add_congr fun s k hl => ?_
  refine (congrArg₂ (· * · : EReal → EReal → EReal) (lhs_at m c _ (i 0) k) (rhs_at m c _ (i 1) k)).trans ?_
  have hs := s.isLt
  blk_point [idx ⟨3 * q + 2, hq⟩]

theorem final (c : Dev nD) : (dats m 0 c).arrAt 3 (cfgs 0).N = REF (lhs m c) (rhs m c) (more m c) := by
  refine (dats m 0 c).arrAt_eq_of_covers 3 _ (by decide +kernel) fun t hf y => ?_
  have hm := (flush0_3 t).1 hf
  have hN : t.val < 24 := lt_of_lt_of_eq t.isLt N_0
  obtain ⟨q, hq⟩ : ∃ q, t.val = 3 * q + 2 := ⟨t.val / 3, by omega⟩
  blk_simp
  rw [after0_3]
  obtain ⟨n, hn⟩ := t
  dsimp only at hq hN
  subst hq
  refine (out_run m c q hn y).trans ((congrArg₂ (fun a b : EReal => a + scale * b) (sum_at m c q hn y) (more_at m c _ y)).trans ?_)
  pointwise [REF]
  blk_point [idx ⟨3 * q + 2, hn⟩]

theorem algebraic : Cert.algebraic_DxqIdeal_DxqReferenceIdeal := by
  intro m g m' g' _ hagree
  refine ⟨fun c => REF (lhs m c) (rhs m c) (more m c), ?_, ?_⟩
  · refine (θ_run defs _ _).mono (fun r h c => ⟨((h.1 c).1 3).trans (final m c), h.2 c⟩)
      (θ_run_and (run_main m g) (unchanged m g))
  · refine (θ_run Cert.DxqReferenceIdeal.defs _ _).mono (fun r h c => ?_) (Cert.DxqReferenceIdeal.Value.run (F := Ideal) m' g')
    obtain ⟨hr, ha⟩ := h c
    obtain ⟨e0, e1, e2, e3⟩ := hagree c
    rw [e1, e2, e3] at hr
    exact ⟨hr, ha⟩

end Cert.DxqIdeal.Hand
-- ==== Proof.GateIdeal.Value.lean ====
/- The gates' weighted sum of the branches: every point writes its own rows. -/
module

public import proofs.«01_k».proof.Proof.Gen.GateIdeal.Frame
public import proofs.«01_k».proof.Proof.Gen.GateReferenceIdeal.Run
public import proofs.«01_k».proof.Proof.Sig
public import proofs.«01_k».proof.Defs

@[expose] public section

set_option maxRecDepth 16384

noncomputable section

namespace Cert.GateIdeal.Hand

open Cert.GateIdeal Cert.GateIdeal.Gen Cert.Sig
open Idealize.ShloMosaic TcCoe Tactic Idealize.SL.Sem

variable (m : (ℓ : Loc nD τ sig) → Buf (Elt Ideal) ℓ)

/-- The reference's gates. -/
abbrev GATES (l : FVec Ideal S8192x3072 .f32) (b : FVec Ideal S3072 .f32) : FVec Ideal Cert.GateReferenceIdeal.S8192x3x1024 .f32 :=
  shapeCast _ (Host.divf (broadcastInDim Cert.GateReferenceIdeal.S8192x3072 ![] Cert.GateReferenceIdeal.Gen.bcast_S_S8192x3072 (constant Cert.GateReferenceIdeal.S_ .f32 0x3F800000#32))
    (addf (broadcastInDim Cert.GateReferenceIdeal.S8192x3072 ![] Cert.GateReferenceIdeal.Gen.bcast_S_S8192x3072 (constant Cert.GateReferenceIdeal.S_ .f32 0x3F800000#32))
      (Host.exp (Host.negf (addf l (broadcastInDim Cert.GateReferenceIdeal.S8192x3072 ![0, 1] Cert.GateReferenceIdeal.Gen.bcast_S1x3072_S8192x3072_0_1
        (broadcastInDim Cert.GateReferenceIdeal.S1x3072 ![1] Cert.GateReferenceIdeal.Gen.bcast_S3072_S1x3072_1 b)))))))
    Cert.GateReferenceIdeal.Gen.shapeCasts_S8192x3072_S8192x3x1024
/-- The reference's result. -/
abbrev RES (l : FVec Ideal S8192x3072 .f32) (b : FVec Ideal S3072 .f32) (p q r : FVec Ideal S8192x1024 .f32) : FVec Ideal S8192x1024 .f32 :=
  addf (addf
    (mulf (shapeCast _ (extractStridedSlice Cert.GateReferenceIdeal.S8192x1x1024 ![0, 0, 0] (GATES l b) Cert.GateReferenceIdeal.Gen.slices_S8192x3x1024_S8192x1x1024_0_0_0)
      Cert.GateReferenceIdeal.Gen.shapeCasts_S8192x1x1024_S8192x1024) p)
    (mulf (shapeCast _ (extractStridedSlice Cert.GateReferenceIdeal.S8192x1x1024 ![0, 1, 0] (GATES l b) Cert.GateReferenceIdeal.Gen.slices_S8192x3x1024_S8192x1x1024_0_1_0)
      Cert.GateReferenceIdeal.Gen.shapeCasts_S8192x1x1024_S8192x1024) q))
    (mulf (shapeCast _ (extractStridedSlice Cert.GateReferenceIdeal.S8192x1x1024 ![0, 2, 0] (GATES l b) Cert.GateReferenceIdeal.Gen.slices_S8192x3x1024_S8192x1x1024_0_2_0)
      Cert.GateReferenceIdeal.Gen.shapeCasts_S8192x1x1024_S8192x1024) r)

/-- The logits, the gates' bias and the three branches. -/
abbrev lg (c : Dev nD) : FVec Ideal S8192x3072 .f32 := m ((c : Thread nD τ).loc main_arg0)
abbrev bg (c : Dev nD) : FVec Ideal S3072 .f32 := m ((c : Thread nD τ).loc main_arg1)
abbrev pa (c : Dev nD) : FVec Ideal S8192x1024 .f32 := m ((c : Thread nD τ).loc main_arg2)
abbrev pb (c : Dev nD) : FVec Ideal S8192x1024 .f32 := m ((c : Thread nD τ).loc main_arg3)
abbrev pc (c : Dev nD) : FVec Ideal S8192x1024 .f32 := m ((c : Thread nD τ).loc main_arg4)

theorem entry_lg (c : Dev nD) : V m c main_v0 = lg m c := by
  show V m c main_v0 = m ((c : Thread nD τ).loc main_arg0)
  entry_read; rfl
theorem entry_bg (c : Dev nD) (j : Fin 3072) : (show FVec Ideal S1x3072 .f32 from V m c main_v1) (ix2 0 j) = bg m c (ix1 j) := by
  have e : V m c main_v1 = (broadcastInDim S1x3072 ![1] bcast_S3072_S1x3072_1 (bg m c) : FVec Ideal S1x3072 .f32) := by
    entry_read; rfl
  rw [e]
  pointwise
theorem entry_pa (c : Dev nD) : V m c main_v2 = pa m c := by
  show V m c main_v2 = m ((c : Thread nD τ).loc main_arg2)
  entry_read; rfl
theorem entry_pb (c : Dev nD) : V m c main_v3 = pb m c := by
  show V m c main_v3 = m ((c : Thread nD τ).loc main_arg3)
  entry_read; rfl
theorem entry_pc (c : Dev nD) : V m c main_v4 = pc m c := by
  show V m c main_v4 = m ((c : Thread nD τ).loc main_arg4)
  entry_read; rfl

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] :=
  (by decide +kernel : ∀ t : Fin grid0.N, _)

theorem lg_at (c : Dev nD) (t : Fin cfg0.N) (i : Fin 512) (j : Fin 3072) :
    (show FVec Ideal S512x3072 .bf16 from iblk m c 0 t) (ix2 i j) = lg m c (ix2 ⟨t.val * 512 + i.val, by
      have : t.val < 16 := lt_of_lt_of_eq t.isLt N_0; omega⟩ j) := by
  rw [← entry_lg]
  blk_ext [iblk, idx t]
theorem bg_at (c : Dev nD) (t : Fin cfg0.N) (j : Fin 3072) : (show FVec Ideal S1x3072 .f32 from iblk m c 1 t) (ix2 0 j) = bg m c (ix1 j) := by
  refine Eq.trans ?_ (entry_bg m c j)
  blk_ext [iblk, idx t]
theorem pa_at (c : Dev nD) (t : Fin cfg0.N) (i : Fin 512) (j : Fin 1024) :
    (show FVec Ideal S512x1024 .bf16 from iblk m c 2 t) (ix2 i j) = pa m c (ix2 ⟨t.val * 512 + i.val, by
      have : t.val < 16 := lt_of_lt_of_eq t.isLt N_0; omega⟩ j) := by
  rw [← entry_pa]
  blk_ext [iblk, idx t]
theorem pb_at (c : Dev nD) (t : Fin cfg0.N) (i : Fin 512) (j : Fin 1024) :
    (show FVec Ideal S512x1024 .bf16 from iblk m c 3 t) (ix2 i j) = pb m c (ix2 ⟨t.val * 512 + i.val, by
      have : t.val < 16 := lt_of_lt_of_eq t.isLt N_0; omega⟩ j) := by
  rw [← entry_pb]
  blk_ext [iblk, idx t]
theorem pc_at (c : Dev nD) (t : Fin cfg0.N) (i : Fin 512) (j : Fin 1024) :
    (show FVec Ideal S512x1024 .bf16 from iblk m c 4 t) (ix2 i j) = pc m c (ix2 ⟨t.val * 512 + i.val, by
      have : t.val < 16 := lt_of_lt_of_eq t.isLt N_0; omega⟩ j) := by
  rw [← entry_pc]
  blk_ext [iblk, idx t]

/-- The three gates' logits of a channel. -/
abbrev mix (x : Fin 3 → EReal) (p q r : EReal) : EReal := sg (x 0) * p + sg (x 1) * q + sg (x 2) * r

theorem pay_at (x : Vec Ideal S512x3072 .bf16) (b : Vec Ideal S1x3072 .f32) (p q r : Vec Ideal S512x1024 .bf16) (i : S512x1024.Idx) :
    k0_pay1 (F := Ideal) x b p q r i = mix (fun a => x (ix2 (i 0) (col a (i 1))) + b (ix2 0 (col a (i 1)))) (p (ix2 (i 0) (i 1))) (q (ix2 (i 0) (i 1))) (r (ix2 (i 0) (i 1))) := by
  pointwise [k0_pay1, mix, sg, col]
  rfl

theorem mix_congr {x x' : Fin 3 → EReal} {p p' q q' r r' : EReal} (hx : ∀ a, x a = x' a) (hp : p = p') (hq : q = q') (hr : r = r') :
    mix x p q r = mix x' p' q' r' := by
  rw [funext hx, hp, hq, hr]

theorem final (c : Dev nD) : (dats m 0 c).arrAt 5 (cfgs 0).N = RES (lg m c) (bg m c) (pa m c) (pb m c) (pc m c) := by
  refine (dats m 0 c).arrAt_eq_of_covers 5 _ (by decide +kernel) fun t hf y => ?_
  blk_simp
  rw [after0_5]
  frame_out
  refine (pay_at _ _ _ _ _ y).trans ((mix_congr (fun a => congrArg₂ (· + · : EReal → EReal → EReal) (lg_at m c t (y 0) (col a (y 1))) (bg_at m c t (col a (y 1))))
    (pa_at m c t (y 0) (y 1)) (pb_at m c t (y 0) (y 1)) (pc_at m c t (y 0) (y 1))).trans ?_)
  pointwise [RES, GATES, mix, sg, col]
  blk_point [idx t]

theorem tail (c : Dev nD) : Pipeline.afterTail₀ cfgs (dats m) 0 (V0 m) [hostOps1] c main_v6 = (dats m 0 c).arrAt 5 (cfgs 0).N := by
  unfold Pipeline.afterTail₀ hostOps1
  after_results
  exact (Pipeline.withArrays_arr spec0 (by decide) c (V0 m c) (fun w => (dats m 0 c).arrAt w (cfgs 0).N) 5 :)

theorem algebraic : Cert.algebraic_GateIdeal_GateReferenceIdeal := by
  intro m g m' g' _ hagree
  refine ⟨fun c => RES (lg m c) (bg m c) (pa m c) (pb m c) (pc m c), ?_, ?_⟩
  · refine (θ_run defs _ _).mono (fun r h c => ⟨((h.1 c).2 main_v6 (by decide)).trans ((tail m c).trans (final m c)), h.2 c⟩)
      (θ_run_and (run_main m g) (unchanged m g))
  · refine (θ_run Cert.GateReferenceIdeal.defs _ _).mono (fun r h c => ?_) (Cert.GateReferenceIdeal.Value.run (F := Ideal) m' g')
    obtain ⟨hr, ha⟩ := h c
    obtain ⟨e0, e1, e2, e3, e4⟩ := hagree c
    rw [e0, e1, e2, e3, e4] at hr
    exact ⟨hr, ha⟩

end Cert.GateIdeal.Hand
-- ==== Proof.GbraIdeal.Value.lean ====
/- The gradient of mixer A's branch weight: four slices of the tokens summed in the scratch are the whole contraction. -/
module

public import proofs.«01_k».proof.Proof.Gen.GbraIdeal.Frame
public import proofs.«01_k».proof.Proof.Gen.GbraReferenceIdeal.Run
public import proofs.«01_k».proof.Defs
public import Idealize.ShloMosaic.Lib.Pipeline.ValueKit
public import Idealize.ShloMosaic.Lib.Claim

@[expose] public section

set_option maxRecDepth 16384

noncomputable section

namespace Cert.GbraIdeal.Hand

open Cert.GbraIdeal Cert.GbraIdeal.Gen
open Idealize.ShloMosaic TcCoe Tactic Idealize.SL.Sem

variable (m : (ℓ : Loc nD τ sig) → Buf (Elt Ideal) ℓ)

/-- The reference's result. -/
abbrev REF (x : FVec Ideal S8192x256 .f32) (ct : FVec Ideal S8192x1024 .f32) : FVec Ideal S256x1024 .f32 :=
  transpose Cert.GbraReferenceIdeal.S256x1024 [1, 0] (Host.dotGeneral Cert.GbraReferenceIdeal.dot_S8192x1024_S8192x256_S1024x256_0_0_1_1_n_n none ct x)
    Cert.GbraReferenceIdeal.Gen.transposes_S1024x256_S256x1024_1_0
/-- The left operand of the call. -/
abbrev lhs (c : Dev nD) : FVec Ideal S8192x256 .f32 := m ((c : Thread nD τ).loc main_arg0)
/-- The right operand of the call. -/
abbrev rhs (c : Dev nD) : FVec Ideal S8192x1024 .f32 := m ((c : Thread nD τ).loc main_arg2)

theorem entry_lhs (c : Dev nD) : V m c main_arg0 = lhs m c := by
  show V m c main_arg0 = m ((c : Thread nD τ).loc main_arg0)
  entry_read; rfl
theorem entry_rhs (c : Dev nD) : V m c main_v0 = rhs m c := by
  show V m c main_v0 = m ((c : Thread nD τ).loc main_arg2)
  entry_read; rfl

theorem idx : ∀ t : Fin cfg0.N, win0_0.index t = ![t.val % 4, 0] ∧ win0_1.index t = ![t.val % 4, 0] ∧ win0_2.index t = ![0, 0] :=
  (by decide +kernel : ∀ t : Fin grid0.N, _)

theorem part_at (x : Vec Ideal S2048x256 .f32) (y : Vec Ideal S2048x1024 .bf16) (i : S256x1024.Idx) :
    k0_pay2 (F := Ideal) x y i = ∑ k : Fin 2048, x (ix2 k (i 0)) * y (ix2 k (i 1)) := by
  pointwise [k0_pay2, k0_pay1]
theorem step_at (x : Vec Ideal S2048x256 .f32) (y : Vec Ideal S2048x1024 .bf16) (a : Vec Ideal S256x1024 .f32) (i : S256x1024.Idx) :
    k0_pay3 (F := Ideal) x y a i = a i + ∑ k : Fin 2048, x (ix2 k (i 0)) * y (ix2 k (i 1)) := by
  pointwise [k0_pay3, k0_pay1]
theorem last_at (x : Vec Ideal S2048x256 .f32) (y : Vec Ideal S2048x1024 .bf16) (a : Vec Ideal S256x1024 .f32) (i : S256x1024.Idx) :
    k0_pay4 (F := Ideal) x y a i = a i + ∑ k : Fin 2048, x (ix2 k (i 0)) * y (ix2 k (i 1)) := by
  pointwise [k0_pay4, k0_pay1]

theorem lhs_at (c : Dev nD) (t : Fin cfg0.N) (k : Fin 2048) (i : Fin 256) :
    (show FVec Ideal S2048x256 .f32 from iblk m c 0 t) (ix2 k i) = lhs m c (ix2 ⟨t.val % 4 * 2048 + k.val, by omega⟩ i) := by
  rw [← entry_lhs]
  blk_ext [iblk, idx t]
theorem rhs_at (c : Dev nD) (t : Fin cfg0.N) (k : Fin 2048) (j : Fin 1024) :
    (show FVec Ideal S2048x1024 .bf16 from iblk m c 1 t) (ix2 k j) = rhs m c (ix2 ⟨t.val % 4 * 2048 + k.val, by omega⟩ j) := by
  rw [← entry_rhs]
  blk_ext [iblk, idx t]

/-- The product of the two blocks at a point. -/
abbrev part (c : Dev nD) (n : ℕ) (hn : n < cfg0.N) (i : S256x1024.Idx) : EReal :=
  ∑ k : Fin 2048, (show FVec Ideal S2048x256 .f32 from iblk m c 0 ⟨n, hn⟩) (ix2 k (i 0)) * (show FVec Ideal S2048x1024 .bf16 from iblk m c 1 ⟨n, hn⟩) (ix2 k (i 1))

theorem scratch_first (c : Dev nD) (n : ℕ) (hn : n < cfg0.N) (h : n % 4 = 0) (i : S256x1024.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : 1 ≤ (n + 1) % 4 ∧ (n + 1) % 4 ≤ 2) (i : S256x1024.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 4 = 3) (i : S256x1024.Idx) :
    (outsAt0 m c (n + 1) hn).1 i = (outsAt0 m c n (Nat.lt_of_succ_lt hn)).2 i + part m c (n + 1) hn i := by
  rw [outsAt0_C m c ⟨n + 1, hn⟩ (by dsimp only; omega) (by dsimp only; omega) h]
  frame_out
  exact (last_at _ _ _ i).trans (congrArg (· + part m c (n + 1) hn i) (congrFun ((Memref.isWhole_whole cc0_scratch0).read_unread _) i))

/-- What a run's last point writes: its four products added up. -/
theorem out_run (c : Dev nD) (q : ℕ) (hq : 4 * q + 3 < cfg0.N) (i : S256x1024.Idx) :
    (outsAt0 m c (4 * q + 3) hq).1 i = ∑ s : Fin 4, part m c (4 * q + s.val) (by have := s.isLt; omega) i := by
  rw [out_last m c (4 * q + 2) hq (by omega), scratch_next m c (4 * q + 1) _ (by omega), scratch_next m c (4 * q) _ (by omega),
    scratch_first m c (4 * q) _ (by omega), Fin.sum_univ_four]
  rfl

theorem final (c : Dev nD) : (dats m 0 c).arrAt 2 (cfgs 0).N = REF (lhs m c) (rhs m c) := by
  refine (dats m 0 c).arrAt_eq_of_covers 2 _ (by decide +kernel) fun t hf y => ?_
  have hm := (flush0_2 t).1 hf
  have hN : t.val < 4 := lt_of_lt_of_eq t.isLt N_0
  obtain ⟨q, hq⟩ : ∃ q, t.val = 4 * q + 3 := ⟨t.val / 4, by omega⟩
  blk_simp
  rw [after0_2]
  obtain ⟨n, hn⟩ := t
  dsimp only at hq hN
  subst hq
  refine (out_run m c q hn y).trans ?_
  unfold part
  pointwise [REF]
  refine Fin.sum_mul_add_congr fun s k hl => ?_
  refine (congrArg₂ (· * · : EReal → EReal → EReal) (lhs_at m c _ k (y 0)) (rhs_at m c _ k (y 1))).trans ((mul_comm (_ : EReal) _).trans ?_)
  have hs := s.isLt
  blk_point [idx ⟨4 * q + 3, hn⟩]

theorem tail (c : Dev nD) : Pipeline.afterTail₀ cfgs (dats m) 0 (V0 m) [hostOps1] c main_v2 = (dats m 0 c).arrAt 2 (cfgs 0).N := by
  unfold Pipeline.afterTail₀ hostOps1
  after_results
  exact (Pipeline.withArrays_arr spec0 (by decide) c (V0 m c) (fun w => (dats m 0 c).arrAt w (cfgs 0).N) 2 :)

theorem algebraic : Cert.algebraic_GbraIdeal_GbraReferenceIdeal := by
  intro m g m' g' _ hagree
  refine ⟨fun c => REF (lhs m c) (rhs m c), ?_, ?_⟩
  · refine (θ_run defs _ _).mono (fun r h c => ⟨((h.1 c).2 main_v2 (by decide)).trans ((tail m c).trans (final m c)), h.2 c⟩)
      (θ_run_and (run_main m g) (unchanged m g))
  · refine (θ_run Cert.GbraReferenceIdeal.defs _ _).mono (fun r h c => ?_) (Cert.GbraReferenceIdeal.Value.run (F := Ideal) m' g')
    obtain ⟨hr, ha⟩ := h c
    obtain ⟨e0, e1, e2⟩ := hagree c
    rw [e0, e2] at hr
    exact ⟨hr, ha⟩

end Cert.GbraIdeal.Hand
-- ==== Proof.GbrbIdeal.Value.lean ====
/- The gradient of mixer B's branch weight: four slices of the tokens summed in the scratch are the whole contraction. -/
module

public import proofs.«01_k».proof.Proof.Gen.GbrbIdeal.Frame
public import proofs.«01_k».proof.Proof.Gen.GbrbReferenceIdeal.Run
public import proofs.«01_k».proof.Defs
public import Idealize.ShloMosaic.Lib.Pipeline.ValueKit
public import Idealize.ShloMosaic.Lib.Claim

@[expose] public section

set_option maxRecDepth 16384

noncomputable section

namespace Cert.GbrbIdeal.Hand

open Cert.GbrbIdeal Cert.GbrbIdeal.Gen
open Idealize.ShloMosaic TcCoe Tactic Idealize.SL.Sem

variable (m : (ℓ : Loc nD τ sig) → Buf (Elt Ideal) ℓ)

/-- The reference's result. -/
abbrev REF (x : FVec Ideal S8192x512 .f32) (ct : FVec Ideal S8192x1024 .f32) : FVec Ideal S512x1024 .f32 :=
  transpose Cert.GbrbReferenceIdeal.S512x1024 [1, 0] (Host.dotGeneral Cert.GbrbReferenceIdeal.dot_S8192x1024_S8192x512_S1024x512_0_0_1_1_n_n none ct x)
    Cert.GbrbReferenceIdeal.Gen.transposes_S1024x512_S512x1024_1_0
/-- The left operand of the call. -/
abbrev lhs (c : Dev nD) : FVec Ideal S8192x512 .f32 := m ((c : Thread nD τ).loc main_arg0)
/-- The right operand of the call. -/
abbrev rhs (c : Dev nD) : FVec Ideal S8192x1024 .f32 := m ((c : Thread nD τ).loc main_arg2)

theorem entry_lhs (c : Dev nD) : V m c main_arg0 = lhs m c := by
  show V m c main_arg0 = m ((c : Thread nD τ).loc main_arg0)
  entry_read; rfl
theorem entry_rhs (c : Dev nD) : V m c main_v0 = rhs m c := by
  show V m c main_v0 = m ((c : Thread nD τ).loc main_arg2)
  entry_read; rfl

theorem idx : ∀ t : Fin cfg0.N, win0_0.index t = ![t.val % 4, 0] ∧ win0_1.index t = ![t.val % 4, 0] ∧ win0_2.index t = ![0, 0] :=
  (by decide +kernel : ∀ t : Fin grid0.N, _)

theorem part_at (x : Vec Ideal S2048x512 .f32) (y : Vec Ideal S2048x1024 .bf16) (i : S512x1024.Idx) :
    k0_pay2 (F := Ideal) x y i = ∑ k : Fin 2048, x (ix2 k (i 0)) * y (ix2 k (i 1)) := by
  pointwise [k0_pay2, k0_pay1]
theorem step_at (x : Vec Ideal S2048x512 .f32) (y : Vec Ideal S2048x1024 .bf16) (a : Vec Ideal S512x1024 .f32) (i : S512x1024.Idx) :
    k0_pay3 (F := Ideal) x y a i = a i + ∑ k : Fin 2048, x (ix2 k (i 0)) * y (ix2 k (i 1)) := by
  pointwise [k0_pay3, k0_pay1]
theorem last_at (x : Vec Ideal S2048x512 .f32) (y : Vec Ideal S2048x1024 .bf16) (a : Vec Ideal S512x1024 .f32) (i : S512x1024.Idx) :
    k0_pay4 (F := Ideal) x y a i = a i + ∑ k : Fin 2048, x (ix2 k (i 0)) * y (ix2 k (i 1)) := by
  pointwise [k0_pay4, k0_pay1]

theorem lhs_at (c : Dev nD) (t : Fin cfg0.N) (k : Fin 2048) (i : Fin 512) :
    (show FVec Ideal S2048x512 .f32 from iblk m c 0 t) (ix2 k i) = lhs m c (ix2 ⟨t.val % 4 * 2048 + k.val, by omega⟩ i) := by
  rw [← entry_lhs]
  blk_ext [iblk, idx t]
theorem rhs_at (c : Dev nD) (t : Fin cfg0.N) (k : Fin 2048) (j : Fin 1024) :
    (show FVec Ideal S2048x1024 .bf16 from iblk m c 1 t) (ix2 k j) = rhs m c (ix2 ⟨t.val % 4 * 2048 + k.val, by omega⟩ j) := by
  rw [← entry_rhs]
  blk_ext [iblk, idx t]

/-- The product of the two blocks at a point. -/
abbrev part (c : Dev nD) (n : ℕ) (hn : n < cfg0.N) (i : S512x1024.Idx) : EReal :=
  ∑ k : Fin 2048, (show FVec Ideal S2048x512 .f32 from iblk m c 0 ⟨n, hn⟩) (ix2 k (i 0)) * (show FVec Ideal S2048x1024 .bf16 from iblk m c 1 ⟨n, hn⟩) (ix2 k (i 1))

theorem scratch_first (c : Dev nD) (n : ℕ) (hn : n < cfg0.N) (h : n % 4 = 0) (i : S512x1024.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : 1 ≤ (n + 1) % 4 ∧ (n + 1) % 4 ≤ 2) (i : S512x1024.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 4 = 3) (i : S512x1024.Idx) :
    (outsAt0 m c (n + 1) hn).1 i = (outsAt0 m c n (Nat.lt_of_succ_lt hn)).2 i + part m c (n + 1) hn i := by
  rw [outsAt0_C m c ⟨n + 1, hn⟩ (by dsimp only; omega) (by dsimp only; omega) h]
  frame_out
  exact (last_at _ _ _ i).trans (congrArg (· + part m c (n + 1) hn i) (congrFun ((Memref.isWhole_whole cc0_scratch0).read_unread _) i))

/-- What a run's last point writes: its four products added up. -/
theorem out_run (c : Dev nD) (q : ℕ) (hq : 4 * q + 3 < cfg0.N) (i : S512x1024.Idx) :
    (outsAt0 m c (4 * q + 3) hq).1 i = ∑ s : Fin 4, part m c (4 * q + s.val) (by have := s.isLt; omega) i := by
  rw [out_last m c (4 * q + 2) hq (by omega), scratch_next m c (4 * q + 1) _ (by omega), scratch_next m c (4 * q) _ (by omega),
    scratch_first m c (4 * q) _ (by omega), Fin.sum_univ_four]
  rfl

theorem final (c : Dev nD) : (dats m 0 c).arrAt 2 (cfgs 0).N = REF (lhs m c) (rhs m c) := by
  refine (dats m 0 c).arrAt_eq_of_covers 2 _ (by decide +kernel) fun t hf y => ?_
  have hm := (flush0_2 t).1 hf
  have hN : t.val < 4 := lt_of_lt_of_eq t.isLt N_0
  obtain ⟨q, hq⟩ : ∃ q, t.val = 4 * q + 3 := ⟨t.val / 4, by omega⟩
  blk_simp
  rw [after0_2]
  obtain ⟨n, hn⟩ := t
  dsimp only at hq hN
  subst hq
  refine (out_run m c q hn y).trans ?_
  unfold part
  pointwise [REF]
  refine Fin.sum_mul_add_congr fun s k hl => ?_
  refine (congrArg₂ (· * · : EReal → EReal → EReal) (lhs_at m c _ k (y 0)) (rhs_at m c _ k (y 1))).trans ((mul_comm (_ : EReal) _).trans ?_)
  have hs := s.isLt
  blk_point [idx ⟨4 * q + 3, hn⟩]

theorem tail (c : Dev nD) : Pipeline.afterTail₀ cfgs (dats m) 0 (V0 m) [hostOps1] c main_v2 = (dats m 0 c).arrAt 2 (cfgs 0).N := by
  unfold Pipeline.afterTail₀ hostOps1
  after_results
  exact (Pipeline.withArrays_arr spec0 (by decide) c (V0 m c) (fun w => (dats m 0 c).arrAt w (cfgs 0).N) 2 :)

theorem algebraic : Cert.algebraic_GbrbIdeal_GbrbReferenceIdeal := by
  intro m g m' g' _ hagree
  refine ⟨fun c => REF (lhs m c) (rhs m c), ?_, ?_⟩
  · refine (θ_run defs _ _).mono (fun r h c => ⟨((h.1 c).2 main_v2 (by decide)).trans ((tail m c).trans (final m c)), h.2 c⟩)
      (θ_run_and (run_main m g) (unchanged m g))
  · refine (θ_run Cert.GbrbReferenceIdeal.defs _ _).mono (fun r h c => ?_) (Cert.GbrbReferenceIdeal.Value.run (F := Ideal) m' g')
    obtain ⟨hr, ha⟩ := h c
    obtain ⟨e0, e1, e2⟩ := hagree c
    rw [e0, e2] at hr
    exact ⟨hr, ha⟩

end Cert.GbrbIdeal.Hand
-- ==== Proof.GbrcIdeal.Value.lean ====
/- The gradient of mixer C's branch weight: four slices of the tokens summed in the scratch are the whole contraction. -/
module

public import proofs.«01_k».proof.Proof.Gen.GbrcIdeal.Frame
public import proofs.«01_k».proof.Proof.Gen.GbrcReferenceIdeal.Run
public import proofs.«01_k».proof.Defs
public import Idealize.ShloMosaic.Lib.Pipeline.ValueKit
public import Idealize.ShloMosaic.Lib.Claim

@[expose] public section

set_option maxRecDepth 16384

noncomputable section

namespace Cert.GbrcIdeal.Hand

open Cert.GbrcIdeal Cert.GbrcIdeal.Gen
open Idealize.ShloMosaic TcCoe Tactic Idealize.SL.Sem

variable (m : (ℓ : Loc nD τ sig) → Buf (Elt Ideal) ℓ)

/-- The reference's result. -/
abbrev REF (x : FVec Ideal S8192x256 .f32) (ct : FVec Ideal S8192x1024 .f32) : FVec Ideal S256x1024 .f32 :=
  transpose Cert.GbrcReferenceIdeal.S256x1024 [1, 0] (Host.dotGeneral Cert.GbrcReferenceIdeal.dot_S8192x1024_S8192x256_S1024x256_0_0_1_1_n_n none ct x)
    Cert.GbrcReferenceIdeal.Gen.transposes_S1024x256_S256x1024_1_0
/-- The left operand of the call. -/
abbrev lhs (c : Dev nD) : FVec Ideal S8192x256 .f32 := m ((c : Thread nD τ).loc main_arg0)
/-- The right operand of the call. -/
abbrev rhs (c : Dev nD) : FVec Ideal S8192x1024 .f32 := m ((c : Thread nD τ).loc main_arg2)

theorem entry_lhs (c : Dev nD) : V m c main_arg0 = lhs m c := by
  show V m c main_arg0 = m ((c : Thread nD τ).loc main_arg0)
  entry_read; rfl
theorem entry_rhs (c : Dev nD) : V m c main_v0 = rhs m c := by
  show V m c main_v0 = m ((c : Thread nD τ).loc main_arg2)
  entry_read; rfl

theorem idx : ∀ t : Fin cfg0.N, win0_0.index t = ![t.val % 4, 0] ∧ win0_1.index t = ![t.val % 4, 0] ∧ win0_2.index t = ![0, 0] :=
  (by decide +kernel : ∀ t : Fin grid0.N, _)

theorem part_at (x : Vec Ideal S2048x256 .f32) (y : Vec Ideal S2048x1024 .bf16) (i : S256x1024.Idx) :
    k0_pay2 (F := Ideal) x y i = ∑ k : Fin 2048, x (ix2 k (i 0)) * y (ix2 k (i 1)) := by
  pointwise [k0_pay2, k0_pay1]
theorem step_at (x : Vec Ideal S2048x256 .f32) (y : Vec Ideal S2048x1024 .bf16) (a : Vec Ideal S256x1024 .f32) (i : S256x1024.Idx) :
    k0_pay3 (F := Ideal) x y a i = a i + ∑ k : Fin 2048, x (ix2 k (i 0)) * y (ix2 k (i 1)) := by
  pointwise [k0_pay3, k0_pay1]
theorem last_at (x : Vec Ideal S2048x256 .f32) (y : Vec Ideal S2048x1024 .bf16) (a : Vec Ideal S256x1024 .f32) (i : S256x1024.Idx) :
    k0_pay4 (F := Ideal) x y a i = a i + ∑ k : Fin 2048, x (ix2 k (i 0)) * y (ix2 k (i 1)) := by
  pointwise [k0_pay4, k0_pay1]

theorem lhs_at (c : Dev nD) (t : Fin cfg0.N) (k : Fin 2048) (i : Fin 256) :
    (show FVec Ideal S2048x256 .f32 from iblk m c 0 t) (ix2 k i) = lhs m c (ix2 ⟨t.val % 4 * 2048 + k.val, by omega⟩ i) := by
  rw [← entry_lhs]
  blk_ext [iblk, idx t]
theorem rhs_at (c : Dev nD) (t : Fin cfg0.N) (k : Fin 2048) (j : Fin 1024) :
    (show FVec Ideal S2048x1024 .bf16 from iblk m c 1 t) (ix2 k j) = rhs m c (ix2 ⟨t.val % 4 * 2048 + k.val, by omega⟩ j) := by
  rw [← entry_rhs]
  blk_ext [iblk, idx t]

/-- The product of the two blocks at a point. -/
abbrev part (c : Dev nD) (n : ℕ) (hn : n < cfg0.N) (i : S256x1024.Idx) : EReal :=
  ∑ k : Fin 2048, (show FVec Ideal S2048x256 .f32 from iblk m c 0 ⟨n, hn⟩) (ix2 k (i 0)) * (show FVec Ideal S2048x1024 .bf16 from iblk m c 1 ⟨n, hn⟩) (ix2 k (i 1))

theorem scratch_first (c : Dev nD) (n : ℕ) (hn : n < cfg0.N) (h : n % 4 = 0) (i : S256x1024.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : 1 ≤ (n + 1) % 4 ∧ (n + 1) % 4 ≤ 2) (i : S256x1024.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 4 = 3) (i : S256x1024.Idx) :
    (outsAt0 m c (n + 1) hn).1 i = (outsAt0 m c n (Nat.lt_of_succ_lt hn)).2 i + part m c (n + 1) hn i := by
  rw [outsAt0_C m c ⟨n + 1, hn⟩ (by dsimp only; omega) (by dsimp only; omega) h]
  frame_out
  exact (last_at _ _ _ i).trans (congrArg (· + part m c (n + 1) hn i) (congrFun ((Memref.isWhole_whole cc0_scratch0).read_unread _) i))

/-- What a run's last point writes: its four products added up. -/
theorem out_run (c : Dev nD) (q : ℕ) (hq : 4 * q + 3 < cfg0.N) (i : S256x1024.Idx) :
    (outsAt0 m c (4 * q + 3) hq).1 i = ∑ s : Fin 4, part m c (4 * q + s.val) (by have := s.isLt; omega) i := by
  rw [out_last m c (4 * q + 2) hq (by omega), scratch_next m c (4 * q + 1) _ (by omega), scratch_next m c (4 * q) _ (by omega),
    scratch_first m c (4 * q) _ (by omega), Fin.sum_univ_four]
  rfl

theorem final (c : Dev nD) : (dats m 0 c).arrAt 2 (cfgs 0).N = REF (lhs m c) (rhs m c) := by
  refine (dats m 0 c).arrAt_eq_of_covers 2 _ (by decide +kernel) fun t hf y => ?_
  have hm := (flush0_2 t).1 hf
  have hN : t.val < 4 := lt_of_lt_of_eq t.isLt N_0
  obtain ⟨q, hq⟩ : ∃ q, t.val = 4 * q + 3 := ⟨t.val / 4, by omega⟩
  blk_simp
  rw [after0_2]
  obtain ⟨n, hn⟩ := t
  dsimp only at hq hN
  subst hq
  refine (out_run m c q hn y).trans ?_
  unfold part
  pointwise [REF]
  refine Fin.sum_mul_add_congr fun s k hl => ?_
  refine (congrArg₂ (· * · : EReal → EReal → EReal) (lhs_at m c _ k (y 0)) (rhs_at m c _ k (y 1))).trans ((mul_comm (_ : EReal) _).trans ?_)
  have hs := s.isLt
  blk_point [idx ⟨4 * q + 3, hn⟩]

theorem tail (c : Dev nD) : Pipeline.afterTail₀ cfgs (dats m) 0 (V0 m) [hostOps1] c main_v2 = (dats m 0 c).arrAt 2 (cfgs 0).N := by
  unfold Pipeline.afterTail₀ hostOps1
  after_results
  exact (Pipeline.withArrays_arr spec0 (by decide) c (V0 m c) (fun w => (dats m 0 c).arrAt w (cfgs 0).N) 2 :)

theorem algebraic : Cert.algebraic_GbrcIdeal_GbrcReferenceIdeal := by
  intro m g m' g' _ hagree
  refine ⟨fun c => REF (lhs m c) (rhs m c), ?_, ?_⟩
  · refine (θ_run defs _ _).mono (fun r h c => ⟨((h.1 c).2 main_v2 (by decide)).trans ((tail m c).trans (final m c)), h.2 c⟩)
      (θ_run_and (run_main m g) (unchanged m g))
  · refine (θ_run Cert.GbrcReferenceIdeal.defs _ _).mono (fun r h c => ?_) (Cert.GbrcReferenceIdeal.Value.run (F := Ideal) m' g')
    obtain ⟨hr, ha⟩ := h c
    obtain ⟨e0, e1, e2⟩ := hagree c
    rw [e0, e2] at hr
    exact ⟨hr, ha⟩

end Cert.GbrcIdeal.Hand
-- ==== Proof.GdownIdeal.Value.lean ====
/- The gradient of w_down: four slices of the tokens summed in the scratch are the whole contraction. -/
module

public import proofs.«01_k».proof.Proof.Gen.GdownIdeal.Frame
public import proofs.«01_k».proof.Proof.Gen.GdownReferenceIdeal.Run
public import proofs.«01_k».proof.Defs
public import Idealize.ShloMosaic.Lib.Pipeline.ValueKit
public import Idealize.ShloMosaic.Lib.Claim

@[expose] public section

set_option maxRecDepth 16384

noncomputable section

namespace Cert.GdownIdeal.Hand

open Cert.GdownIdeal Cert.GdownIdeal.Gen
open Idealize.ShloMosaic TcCoe Tactic Idealize.SL.Sem

variable (m : (ℓ : Loc nD τ sig) → Buf (Elt Ideal) ℓ)

/-- The squared rectified hidden units, as the reference's lines compute them. -/
def ACT (x : FVec Ideal S8192x1024 .f32) (w : FVec Ideal S1024x4096 .f32) : FVec Ideal S8192x4096 .f32 :=
  mulf (maximumf (Host.dotGeneral Cert.GdownReferenceIdeal.dot_S8192x1024_S1024x4096_S8192x4096_1_0_0_1_n_n none x w)
      (broadcastInDim Cert.GdownReferenceIdeal.S8192x4096 ![] Cert.GdownReferenceIdeal.Gen.bcast_S_S8192x4096 (constant Cert.GdownReferenceIdeal.S_ .f32 0x00000000#32)))
    (maximumf (Host.dotGeneral Cert.GdownReferenceIdeal.dot_S8192x1024_S1024x4096_S8192x4096_1_0_0_1_n_n none x w)
      (broadcastInDim Cert.GdownReferenceIdeal.S8192x4096 ![] Cert.GdownReferenceIdeal.Gen.bcast_S_S8192x4096 (constant Cert.GdownReferenceIdeal.S_ .f32 0x00000000#32)))
/-- The reference's result from those and the cotangent. -/
abbrev REF (act : FVec Ideal S8192x4096 .f32) (ct : FVec Ideal S8192x1024 .f32) : FVec Ideal S4096x1024 .f32 :=
  transpose Cert.GdownReferenceIdeal.S4096x1024 [1, 0] (Host.dotGeneral Cert.GdownReferenceIdeal.dot_S8192x1024_S8192x4096_S1024x4096_0_0_1_1_n_n none ct act)
    Cert.GdownReferenceIdeal.Gen.transposes_S1024x4096_S4096x1024_1_0
/-- The left operand of the call. -/
abbrev lhs (c : Dev nD) : FVec Ideal S8192x4096 .f32 := ACT (m ((c : Thread nD τ).loc main_arg0)) (m ((c : Thread nD τ).loc main_arg1))
/-- The right operand of the call. -/
abbrev rhs (c : Dev nD) : FVec Ideal S8192x1024 .f32 := m ((c : Thread nD τ).loc main_arg3)

theorem entry_lhs (c : Dev nD) : V m c main_v3 = lhs m c := by
  unfold V lhs ACT; after_results; rfl
theorem entry_rhs (c : Dev nD) : V m c main_v4 = rhs m c := by
  show V m c main_v4 = m ((c : Thread nD τ).loc main_arg3)
  entry_read; rfl

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem part_at (x : Vec Ideal S2048x1024 .bf16) (y : Vec Ideal S2048x1024 .bf16) (i : S1024x1024.Idx) :
    k0_pay2 (F := Ideal) x y i = ∑ k : Fin 2048, x (ix2 k (i 0)) * y (ix2 k (i 1)) := by
  pointwise [k0_pay2, k0_pay1]
theorem step_at (x : Vec Ideal S2048x1024 .bf16) (y : Vec Ideal S2048x1024 .bf16) (a : Vec Ideal S1024x1024 .f32) (i : S1024x1024.Idx) :
    k0_pay3 (F := Ideal) x y a i = a i + ∑ k : Fin 2048, x (ix2 k (i 0)) * y (ix2 k (i 1)) := by
  pointwise [k0_pay3, k0_pay1]
theorem last_at (x : Vec Ideal S2048x1024 .bf16) (y : Vec Ideal S2048x1024 .bf16) (a : Vec Ideal S1024x1024 .f32) (i : S1024x1024.Idx) :
    k0_pay4 (F := Ideal) x y a i = a i + ∑ k : Fin 2048, x (ix2 k (i 0)) * y (ix2 k (i 1)) := by
  pointwise [k0_pay4, k0_pay1]

theorem lhs_at (c : Dev nD) (t : Fin cfg0.N) (k : Fin 2048) (i : Fin 1024) :
    (show FVec Ideal S2048x1024 .bf16 from iblk m c 0 t) (ix2 k i) = lhs m c (ix2 ⟨t.val % 4 * 2048 + k.val, by omega⟩
      ⟨t.val / 4 * 1024 + i.val, by have : t.val < 16 := lt_of_lt_of_eq t.isLt N_0; omega⟩) := by
  rw [← entry_lhs]
  blk_ext [iblk, idx t]
theorem rhs_at (c : Dev nD) (t : Fin cfg0.N) (k : Fin 2048) (j : Fin 1024) :
    (show FVec Ideal S2048x1024 .bf16 from iblk m c 1 t) (ix2 k j) = rhs m c (ix2 ⟨t.val % 4 * 2048 + k.val, by omega⟩ j) := by
  rw [← entry_rhs]
  blk_ext [iblk, idx t]

/-- The product of the two blocks at a point. -/
abbrev part (c : Dev nD) (n : ℕ) (hn : n < cfg0.N) (i : S1024x1024.Idx) : EReal :=
  ∑ k : Fin 2048, (show FVec Ideal S2048x1024 .bf16 from iblk m c 0 ⟨n, hn⟩) (ix2 k (i 0)) * (show FVec Ideal S2048x1024 .bf16 from iblk m c 1 ⟨n, hn⟩) (ix2 k (i 1))

theorem scratch_first (c : Dev nD) (n : ℕ) (hn : n < cfg0.N) (h : n % 4 = 0) (i : S1024x1024.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : 1 ≤ (n + 1) % 4 ∧ (n + 1) % 4 ≤ 2) (i : S1024x1024.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 4 = 3) (i : S1024x1024.Idx) :
    (outsAt0 m c (n + 1) hn).1 i = (outsAt0 m c n (Nat.lt_of_succ_lt hn)).2 i + part m c (n + 1) hn i := by
  rw [outsAt0_C m c ⟨n + 1, hn⟩ (by dsimp only; omega) (by dsimp only; omega) h]
  frame_out
  exact (last_at _ _ _ i).trans (congrArg (· + part m c (n + 1) hn i) (congrFun ((Memref.isWhole_whole cc0_scratch0).read_unread _) i))

/-- What a run's last point writes: its four products added up. -/
theorem out_run (c : Dev nD) (q : ℕ) (hq : 4 * q + 3 < cfg0.N) (i : S1024x1024.Idx) :
    (outsAt0 m c (4 * q + 3) hq).1 i = ∑ s : Fin 4, part m c (4 * q + s.val) (by have := s.isLt; omega) i := by
  rw [out_last m c (4 * q + 2) hq (by omega), scratch_next m c (4 * q + 1) _ (by omega), scratch_next m c (4 * q) _ (by omega),
    scratch_first m c (4 * q) _ (by omega), Fin.sum_univ_four]
  rfl

theorem final (c : Dev nD) : (dats m 0 c).arrAt 2 (cfgs 0).N = REF (lhs m c) (rhs m c) := by
  refine (dats m 0 c).arrAt_eq_of_covers 2 _ (by decide +kernel) fun t hf y => ?_
  have hm := (flush0_2 t).1 hf
  have hN : t.val < 16 := lt_of_lt_of_eq t.isLt N_0
  obtain ⟨q, hq⟩ : ∃ q, t.val = 4 * q + 3 := ⟨t.val / 4, by omega⟩
  blk_simp
  rw [after0_2]
  obtain ⟨n, hn⟩ := t
  dsimp only at hq hN
  subst hq
  refine (out_run m c q hn y).trans ?_
  unfold part
  pointwise [REF]
  refine Fin.sum_mul_add_congr fun s k hl => ?_
  refine (congrArg₂ (· * · : EReal → EReal → EReal) (lhs_at m c _ k (y 0)) (rhs_at m c _ k (y 1))).trans ((mul_comm (_ : EReal) _).trans ?_)
  have hs := s.isLt
  blk_point [idx ⟨4 * q + 3, hn⟩]

theorem tail (c : Dev nD) : Pipeline.afterTail₀ cfgs (dats m) 0 (V0 m) [hostOps1] c main_v6 = (dats m 0 c).arrAt 2 (cfgs 0).N := by
  unfold Pipeline.afterTail₀ hostOps1
  after_results
  exact (Pipeline.withArrays_arr spec0 (by decide) c (V0 m c) (fun w => (dats m 0 c).arrAt w (cfgs 0).N) 2 :)

theorem algebraic : Cert.algebraic_GdownIdeal_GdownReferenceIdeal := by
  intro m g m' g' _ hagree
  refine ⟨fun c => REF (lhs m c) (rhs m c), ?_, ?_⟩
  · refine (θ_run defs _ _).mono (fun r h c => ⟨((h.1 c).2 main_v6 (by decide)).trans ((tail m c).trans (final m c)), h.2 c⟩)
      (θ_run_and (run_main m g) (unchanged m g))
  · refine (θ_run Cert.GdownReferenceIdeal.defs _ _).mono (fun r h c => ?_) (Cert.GdownReferenceIdeal.Value.run (F := Ideal) m' g')
    obtain ⟨hr, ha⟩ := h c
    obtain ⟨e0, e1, e2, e3⟩ := hagree c
    rw [e0, e1, e3] at hr
    exact ⟨hr, ha⟩

end Cert.GdownIdeal.Hand
-- ==== Proof.GingIdeal.Value.lean ====
/- The gradient of the gates' columns of w_in: four slices of the tokens summed in the scratch are the whole contraction. -/
module

public import proofs.«01_k».proof.Proof.Gen.GingIdeal.Frame
public import proofs.«01_k».proof.Proof.Gen.GingReferenceIdeal.Run
public import proofs.«01_k».proof.Defs
public import Idealize.ShloMosaic.Lib.Pipeline.ValueKit
public import Idealize.ShloMosaic.Lib.Claim

@[expose] public section

set_option maxRecDepth 16384

noncomputable section

namespace Cert.GingIdeal.Hand

open Cert.GingIdeal Cert.GingIdeal.Gen
open Idealize.ShloMosaic TcCoe Tactic Idealize.SL.Sem

variable (m : (ℓ : Loc nD τ sig) → Buf (Elt Ideal) ℓ)

/-- The reference's result. -/
abbrev REF (x : FVec Ideal S8192x1024 .f32) (ct : FVec Ideal S8192x3072 .f32) : FVec Ideal S1024x3072 .f32 :=
  transpose Cert.GingReferenceIdeal.S1024x3072 [1, 0] (Host.dotGeneral Cert.GingReferenceIdeal.dot_S8192x3072_S8192x1024_S3072x1024_0_0_1_1_n_n none ct x)
    Cert.GingReferenceIdeal.Gen.transposes_S3072x1024_S1024x3072_1_0
/-- The left operand of the call. -/
abbrev lhs (c : Dev nD) : FVec Ideal S8192x1024 .f32 := m ((c : Thread nD τ).loc main_arg0)
/-- The right operand of the call. -/
abbrev rhs (c : Dev nD) : FVec Ideal S8192x3072 .f32 := m ((c : Thread nD τ).loc main_arg2)

theorem entry_lhs (c : Dev nD) : V m c main_v0 = lhs m c := by
  show V m c main_v0 = m ((c : Thread nD τ).loc main_arg0)
  entry_read; rfl
theorem entry_rhs (c : Dev nD) : V m c main_v1 = rhs m c := by
  show V m c main_v1 = m ((c : Thread nD τ).loc main_arg2)
  entry_read; rfl

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem part_at (x : Vec Ideal S2048x1024 .bf16) (y : Vec Ideal S2048x768 .bf16) (i : S1024x768.Idx) :
    k0_pay2 (F := Ideal) x y i = ∑ k : Fin 2048, x (ix2 k (i 0)) * y (ix2 k (i 1)) := by
  pointwise [k0_pay2, k0_pay1]
theorem step_at (x : Vec Ideal S2048x1024 .bf16) (y : Vec Ideal S2048x768 .bf16) (a : Vec Ideal S1024x768 .f32) (i : S1024x768.Idx) :
    k0_pay3 (F := Ideal) x y a i = a i + ∑ k : Fin 2048, x (ix2 k (i 0)) * y (ix2 k (i 1)) := by
  pointwise [k0_pay3, k0_pay1]
theorem last_at (x : Vec Ideal S2048x1024 .bf16) (y : Vec Ideal S2048x768 .bf16) (a : Vec Ideal S1024x768 .f32) (i : S1024x768.Idx) :
    k0_pay4 (F := Ideal) x y a i = a i + ∑ k : Fin 2048, x (ix2 k (i 0)) * y (ix2 k (i 1)) := by
  pointwise [k0_pay4, k0_pay1]

theorem lhs_at (c : Dev nD) (t : Fin cfg0.N) (k : Fin 2048) (i : Fin 1024) :
    (show FVec Ideal S2048x1024 .bf16 from iblk m c 0 t) (ix2 k i) = lhs m c (ix2 ⟨t.val % 4 * 2048 + k.val, by omega⟩ i) := by
  rw [← entry_lhs]
  blk_ext [iblk, idx t]
theorem rhs_at (c : Dev nD) (t : Fin cfg0.N) (k : Fin 2048) (j : Fin 768) :
    (show FVec Ideal S2048x768 .bf16 from iblk m c 1 t) (ix2 k j) = rhs m c (ix2 ⟨t.val % 4 * 2048 + k.val, by omega⟩
      ⟨t.val / 4 * 768 + j.val, by have : t.val < 16 := lt_of_lt_of_eq t.isLt N_0; omega⟩) := by
  rw [← entry_rhs]
  blk_ext [iblk, idx t]

/-- The product of the two blocks at a point. -/
abbrev part (c : Dev nD) (n : ℕ) (hn : n < cfg0.N) (i : S1024x768.Idx) : EReal :=
  ∑ k : Fin 2048, (show FVec Ideal S2048x1024 .bf16 from iblk m c 0 ⟨n, hn⟩) (ix2 k (i 0)) * (show FVec Ideal S2048x768 .bf16 from iblk m c 1 ⟨n, hn⟩) (ix2 k (i 1))

theorem scratch_first (c : Dev nD) (n : ℕ) (hn : n < cfg0.N) (h : n % 4 = 0) (i : S1024x768.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : 1 ≤ (n + 1) % 4 ∧ (n + 1) % 4 ≤ 2) (i : S1024x768.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 4 = 3) (i : S1024x768.Idx) :
    (outsAt0 m c (n + 1) hn).1 i = (outsAt0 m c n (Nat.lt_of_succ_lt hn)).2 i + part m c (n + 1) hn i := by
  rw [outsAt0_C m c ⟨n + 1, hn⟩ (by dsimp only; omega) (by dsimp only; omega) h]
  frame_out
  exact (last_at _ _ _ i).trans (congrArg (· + part m c (n + 1) hn i) (congrFun ((Memref.isWhole_whole cc0_scratch0).read_unread _) i))

/-- What a run's last point writes: its four products added up. -/
theorem out_run (c : Dev nD) (q : ℕ) (hq : 4 * q + 3 < cfg0.N) (i : S1024x768.Idx) :
    (outsAt0 m c (4 * q + 3) hq).1 i = ∑ s : Fin 4, part m c (4 * q + s.val) (by have := s.isLt; omega) i := by
  rw [out_last m c (4 * q + 2) hq (by omega), scratch_next m c (4 * q + 1) _ (by omega), scratch_next m c (4 * q) _ (by omega),
    scratch_first m c (4 * q) _ (by omega), Fin.sum_univ_four]
  rfl

theorem final (c : Dev nD) : (dats m 0 c).arrAt 2 (cfgs 0).N = REF (lhs m c) (rhs m c) := by
  refine (dats m 0 c).arrAt_eq_of_covers 2 _ (by decide +kernel) fun t hf y => ?_
  have hm := (flush0_2 t).1 hf
  have hN : t.val < 16 := lt_of_lt_of_eq t.isLt N_0
  obtain ⟨q, hq⟩ : ∃ q, t.val = 4 * q + 3 := ⟨t.val / 4, by omega⟩
  blk_simp
  rw [after0_2]
  obtain ⟨n, hn⟩ := t
  dsimp only at hq hN
  subst hq
  refine (out_run m c q hn y).trans ?_
  unfold part
  pointwise [REF]
  refine Fin.sum_mul_add_congr fun s k hl => ?_
  refine (congrArg₂ (· * · : EReal → EReal → EReal) (lhs_at m c _ k (y 0)) (rhs_at m c _ k (y 1))).trans ((mul_comm (_ : EReal) _).trans ?_)
  have hs := s.isLt
  blk_point [idx ⟨4 * q + 3, hn⟩]

theorem tail (c : Dev nD) : Pipeline.afterTail₀ cfgs (dats m) 0 (V0 m) [hostOps1] c main_v3 = (dats m 0 c).arrAt 2 (cfgs 0).N := by
  unfold Pipeline.afterTail₀ hostOps1
  after_results
  exact (Pipeline.withArrays_arr spec0 (by decide) c (V0 m c) (fun w => (dats m 0 c).arrAt w (cfgs 0).N) 2 :)

theorem algebraic : Cert.algebraic_GingIdeal_GingReferenceIdeal := by
  intro m g m' g' _ hagree
  refine ⟨fun c => REF (lhs m c) (rhs m c), ?_, ?_⟩
  · refine (θ_run defs _ _).mono (fun r h c => ⟨((h.1 c).2 main_v3 (by decide)).trans ((tail m c).trans (final m c)), h.2 c⟩)
      (θ_run_and (run_main m g) (unchanged m g))
  · refine (θ_run Cert.GingReferenceIdeal.defs _ _).mono (fun r h c => ?_) (Cert.GingReferenceIdeal.Value.run (F := Ideal) m' g')
    obtain ⟨hr, ha⟩ := h c
    obtain ⟨e0, e1, e2⟩ := hagree c
    rw [e0, e2] at hr
    exact ⟨hr, ha⟩

end Cert.GingIdeal.Hand
-- ==== Proof.GinqIdeal.Value.lean ====
/- The gradient of the mixers' columns of w_in: four slices of the tokens summed in the scratch are the whole contraction. -/
module

public import proofs.«01_k».proof.Proof.Gen.GinqIdeal.Frame
public import proofs.«01_k».proof.Proof.Gen.GinqReferenceIdeal.Run
public import proofs.«01_k».proof.Defs
public import Idealize.ShloMosaic.Lib.Pipeline.ValueKit
public import Idealize.ShloMosaic.Lib.Claim

@[expose] public section

set_option maxRecDepth 16384

noncomputable section

namespace Cert.GinqIdeal.Hand

open Cert.GinqIdeal Cert.GinqIdeal.Gen
open Idealize.ShloMosaic TcCoe Tactic Idealize.SL.Sem

variable (m : (ℓ : Loc nD τ sig) → Buf (Elt Ideal) ℓ)

/-- The reference's result. -/
abbrev REF (x : FVec Ideal S8192x1024 .f32) (ct : FVec Ideal S8192x2304 .f32) : FVec Ideal S1024x2304 .f32 :=
  transpose Cert.GinqReferenceIdeal.S1024x2304 [1, 0] (Host.dotGeneral Cert.GinqReferenceIdeal.dot_S8192x2304_S8192x1024_S2304x1024_0_0_1_1_n_n none ct x)
    Cert.GinqReferenceIdeal.Gen.transposes_S2304x1024_S1024x2304_1_0
/-- The left operand of the call. -/
abbrev lhs (c : Dev nD) : FVec Ideal S8192x1024 .f32 := m ((c : Thread nD τ).loc main_arg0)
/-- The right operand of the call. -/
abbrev rhs (c : Dev nD) : FVec Ideal S8192x2304 .f32 := m ((c : Thread nD τ).loc main_arg2)

theorem entry_lhs (c : Dev nD) : V m c main_v0 = lhs m c := by
  show V m c main_v0 = m ((c : Thread nD τ).loc main_arg0)
  entry_read; rfl
theorem entry_rhs (c : Dev nD) : V m c main_v1 = rhs m c := by
  show V m c main_v1 = m ((c : Thread nD τ).loc main_arg2)
  entry_read; rfl

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem part_at (x : Vec Ideal S2048x1024 .bf16) (y : Vec Ideal S2048x768 .bf16) (i : S1024x768.Idx) :
    k0_pay2 (F := Ideal) x y i = ∑ k : Fin 2048, x (ix2 k (i 0)) * y (ix2 k (i 1)) := by
  pointwise [k0_pay2, k0_pay1]
theorem step_at (x : Vec Ideal S2048x1024 .bf16) (y : Vec Ideal S2048x768 .bf16) (a : Vec Ideal S1024x768 .f32) (i : S1024x768.Idx) :
    k0_pay3 (F := Ideal) x y a i = a i + ∑ k : Fin 2048, x (ix2 k (i 0)) * y (ix2 k (i 1)) := by
  pointwise [k0_pay3, k0_pay1]
theorem last_at (x : Vec Ideal S2048x1024 .bf16) (y : Vec Ideal S2048x768 .bf16) (a : Vec Ideal S1024x768 .f32) (i : S1024x768.Idx) :
    k0_pay4 (F := Ideal) x y a i = a i + ∑ k : Fin 2048, x (ix2 k (i 0)) * y (ix2 k (i 1)) := by
  pointwise [k0_pay4, k0_pay1]

theorem lhs_at (c : Dev nD) (t : Fin cfg0.N) (k : Fin 2048) (i : Fin 1024) :
    (show FVec Ideal S2048x1024 .bf16 from iblk m c 0 t) (ix2 k i) = lhs m c (ix2 ⟨t.val % 4 * 2048 + k.val, by omega⟩ i) := by
  rw [← entry_lhs]
  blk_ext [iblk, idx t]
theorem rhs_at (c : Dev nD) (t : Fin cfg0.N) (k : Fin 2048) (j : Fin 768) :
    (show FVec Ideal S2048x768 .bf16 from iblk m c 1 t) (ix2 k j) = rhs m c (ix2 ⟨t.val % 4 * 2048 + k.val, by omega⟩
      ⟨t.val / 4 * 768 + j.val, by have : t.val < 12 := lt_of_lt_of_eq t.isLt N_0; omega⟩) := by
  rw [← entry_rhs]
  blk_ext [iblk, idx t]

/-- The product of the two blocks at a point. -/
abbrev part (c : Dev nD) (n : ℕ) (hn : n < cfg0.N) (i : S1024x768.Idx) : EReal :=
  ∑ k : Fin 2048, (show FVec Ideal S2048x1024 .bf16 from iblk m c 0 ⟨n, hn⟩) (ix2 k (i 0)) * (show FVec Ideal S2048x768 .bf16 from iblk m c 1 ⟨n, hn⟩) (ix2 k (i 1))

theorem scratch_first (c : Dev nD) (n : ℕ) (hn : n < cfg0.N) (h : n % 4 = 0) (i : S1024x768.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : 1 ≤ (n + 1) % 4 ∧ (n + 1) % 4 ≤ 2) (i : S1024x768.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 4 = 3) (i : S1024x768.Idx) :
    (outsAt0 m c (n + 1) hn).1 i = (outsAt0 m c n (Nat.lt_of_succ_lt hn)).2 i + part m c (n + 1) hn i := by
  rw [outsAt0_C m c ⟨n + 1, hn⟩ (by dsimp only; omega) (by dsimp only; omega) h]
  frame_out
  exact (last_at _ _ _ i).trans (congrArg (· + part m c (n + 1) hn i) (congrFun ((Memref.isWhole_whole cc0_scratch0).read_unread _) i))

/-- What a run's last point writes: its four products added up. -/
theorem out_run (c : Dev nD) (q : ℕ) (hq : 4 * q + 3 < cfg0.N) (i : S1024x768.Idx) :
    (outsAt0 m c (4 * q + 3) hq).1 i = ∑ s : Fin 4, part m c (4 * q + s.val) (by have := s.isLt; omega) i := by
  rw [out_last m c (4 * q + 2) hq (by omega), scratch_next m c (4 * q + 1) _ (by omega), scratch_next m c (4 * q) _ (by omega),
    scratch_first m c (4 * q) _ (by omega), Fin.sum_univ_four]
  rfl

theorem final (c : Dev nD) : (dats m 0 c).arrAt 2 (cfgs 0).N = REF (lhs m c) (rhs m c) := by
  refine (dats m 0 c).arrAt_eq_of_covers 2 _ (by decide +kernel) fun t hf y => ?_
  have hm := (flush0_2 t).1 hf
  have hN : t.val < 12 := lt_of_lt_of_eq t.isLt N_0
  obtain ⟨q, hq⟩ : ∃ q, t.val = 4 * q + 3 := ⟨t.val / 4, by omega⟩
  blk_simp
  rw [after0_2]
  obtain ⟨n, hn⟩ := t
  dsimp only at hq hN
  subst hq
  refine (out_run m c q hn y).trans ?_
  unfold part
  pointwise [REF]
  refine Fin.sum_mul_add_congr fun s k hl => ?_
  refine (congrArg₂ (· * · : EReal → EReal → EReal) (lhs_at m c _ k (y 0)) (rhs_at m c _ k (y 1))).trans ((mul_comm (_ : EReal) _).trans ?_)
  have hs := s.isLt
  blk_point [idx ⟨4 * q + 3, hn⟩]

theorem tail (c : Dev nD) : Pipeline.afterTail₀ cfgs (dats m) 0 (V0 m) [hostOps1] c main_v3 = (dats m 0 c).arrAt 2 (cfgs 0).N := by
  unfold Pipeline.afterTail₀ hostOps1
  after_results
  exact (Pipeline.withArrays_arr spec0 (by decide) c (V0 m c) (fun w => (dats m 0 c).arrAt w (cfgs 0).N) 2 :)

theorem algebraic : Cert.algebraic_GinqIdeal_GinqReferenceIdeal := by
  intro m g m' g' _ hagree
  refine ⟨fun c => REF (lhs m c) (rhs m c), ?_, ?_⟩
  · refine (θ_run defs _ _).mono (fun r h c => ⟨((h.1 c).2 main_v3 (by decide)).trans ((tail m c).trans (final m c)), h.2 c⟩)
      (θ_run_and (run_main m g) (unchanged m g))
  · refine (θ_run Cert.GinqReferenceIdeal.defs _ _).mono (fun r h c => ?_) (Cert.GinqReferenceIdeal.Value.run (F := Ideal) m' g')
    obtain ⟨hr, ha⟩ := h c
    obtain ⟨e0, e1, e2⟩ := hagree c
    rw [e0, e2] at hr
    exact ⟨hr, ha⟩

end Cert.GinqIdeal.Hand
-- ==== Proof.GoutIdeal.Value.lean ====
/- The gradient of w_out: four slices of the tokens summed in the scratch are the whole contraction. -/
module

public import proofs.«01_k».proof.Proof.Gen.GoutIdeal.Frame
public import proofs.«01_k».proof.Proof.Gen.GoutReferenceIdeal.Run
public import proofs.«01_k».proof.Defs
public import Idealize.ShloMosaic.Lib.Pipeline.ValueKit
public import Idealize.ShloMosaic.Lib.Claim

@[expose] public section

set_option maxRecDepth 16384

noncomputable section

namespace Cert.GoutIdeal.Hand

open Cert.GoutIdeal Cert.GoutIdeal.Gen
open Idealize.ShloMosaic TcCoe Tactic Idealize.SL.Sem

variable (m : (ℓ : Loc nD τ sig) → Buf (Elt Ideal) ℓ)

/-- The reference's result. -/
abbrev REF (x : FVec Ideal S8192x1024 .f32) (ct : FVec Ideal S8192x1024 .f32) : FVec Ideal S1024x1024 .f32 :=
  transpose Cert.GoutReferenceIdeal.S1024x1024 [1, 0] (Host.dotGeneral Cert.GoutReferenceIdeal.dot_S8192x1024_S8192x1024_S1024x1024_0_0_1_1_n_n none ct x)
    Cert.GoutReferenceIdeal.Gen.transposes_S1024x1024_S1024x1024_1_0
/-- The left operand of the call. -/
abbrev lhs (c : Dev nD) : FVec Ideal S8192x1024 .f32 := m ((c : Thread nD τ).loc main_arg0)
/-- The right operand of the call. -/
abbrev rhs (c : Dev nD) : FVec Ideal S8192x1024 .f32 := m ((c : Thread nD τ).loc main_arg2)

theorem entry_lhs (c : Dev nD) : V m c main_v0 = lhs m c := by
  show V m c main_v0 = m ((c : Thread nD τ).loc main_arg0)
  entry_read; rfl
theorem entry_rhs (c : Dev nD) : V m c main_v1 = rhs m c := by
  show V m c main_v1 = m ((c : Thread nD τ).loc main_arg2)
  entry_read; rfl

theorem idx : ∀ t : Fin cfg0.N, win0_0.index t = ![t.val % 4, 0] ∧ win0_1.index t = ![t.val % 4, 0] ∧ win0_2.index t = ![0, 0] :=
  (by decide +kernel : ∀ t : Fin grid0.N, _)

theorem part_at (x : Vec Ideal S2048x1024 .bf16) (y : Vec Ideal S2048x1024 .bf16) (i : S1024x1024.Idx) :
    k0_pay2 (F := Ideal) x y i = ∑ k : Fin 2048, x (ix2 k (i 0)) * y (ix2 k (i 1)) := by
  pointwise [k0_pay2, k0_pay1]
theorem step_at (x : Vec Ideal S2048x1024 .bf16) (y : Vec Ideal S2048x1024 .bf16) (a : Vec Ideal S1024x1024 .f32) (i : S1024x1024.Idx) :
    k0_pay3 (F := Ideal) x y a i = a i + ∑ k : Fin 2048, x (ix2 k (i 0)) * y (ix2 k (i 1)) := by
  pointwise [k0_pay3, k0_pay1]
theorem last_at (x : Vec Ideal S2048x1024 .bf16) (y : Vec Ideal S2048x1024 .bf16) (a : Vec Ideal S1024x1024 .f32) (i : S1024x1024.Idx) :
    k0_pay4 (F := Ideal) x y a i = a i + ∑ k : Fin 2048, x (ix2 k (i 0)) * y (ix2 k (i 1)) := by
  pointwise [k0_pay4, k0_pay1]

theorem lhs_at (c : Dev nD) (t : Fin cfg0.N) (k : Fin 2048) (i : Fin 1024) :
    (show FVec Ideal S2048x1024 .bf16 from iblk m c 0 t) (ix2 k i) = lhs m c (ix2 ⟨t.val % 4 * 2048 + k.val, by omega⟩ i) := by
  rw [← entry_lhs]
  blk_ext [iblk, idx t]
theorem rhs_at (c : Dev nD) (t : Fin cfg0.N) (k : Fin 2048) (j : Fin 1024) :
    (show FVec Ideal S2048x1024 .bf16 from iblk m c 1 t) (ix2 k j) = rhs m c (ix2 ⟨t.val % 4 * 2048 + k.val, by omega⟩ j) := by
  rw [← entry_rhs]
  blk_ext [iblk, idx t]

/-- The product of the two blocks at a point. -/
abbrev part (c : Dev nD) (n : ℕ) (hn : n < cfg0.N) (i : S1024x1024.Idx) : EReal :=
  ∑ k : Fin 2048, (show FVec Ideal S2048x1024 .bf16 from iblk m c 0 ⟨n, hn⟩) (ix2 k (i 0)) * (show FVec Ideal S2048x1024 .bf16 from iblk m c 1 ⟨n, hn⟩) (ix2 k (i 1))

theorem scratch_first (c : Dev nD) (n : ℕ) (hn : n < cfg0.N) (h : n % 4 = 0) (i : S1024x1024.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : 1 ≤ (n + 1) % 4 ∧ (n + 1) % 4 ≤ 2) (i : S1024x1024.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 4 = 3) (i : S1024x1024.Idx) :
    (outsAt0 m c (n + 1) hn).1 i = (outsAt0 m c n (Nat.lt_of_succ_lt hn)).2 i + part m c (n + 1) hn i := by
  rw [outsAt0_C m c ⟨n + 1, hn⟩ (by dsimp only; omega) (by dsimp only; omega) h]
  frame_out
  exact (last_at _ _ _ i).trans (congrArg (· + part m c (n + 1) hn i) (congrFun ((Memref.isWhole_whole cc0_scratch0).read_unread _) i))

/-- What a run's last point writes: its four products added up. -/
theorem out_run (c : Dev nD) (q : ℕ) (hq : 4 * q + 3 < cfg0.N) (i : S1024x1024.Idx) :
    (outsAt0 m c (4 * q + 3) hq).1 i = ∑ s : Fin 4, part m c (4 * q + s.val) (by have := s.isLt; omega) i := by
  rw [out_last m c (4 * q + 2) hq (by omega), scratch_next m c (4 * q + 1) _ (by omega), scratch_next m c (4 * q) _ (by omega),
    scratch_first m c (4 * q) _ (by omega), Fin.sum_univ_four]
  rfl

theorem final (c : Dev nD) : (dats m 0 c).arrAt 2 (cfgs 0).N = REF (lhs m c) (rhs m c) := by
  refine (dats m 0 c).arrAt_eq_of_covers 2 _ (by decide +kernel) fun t hf y => ?_
  have hm := (flush0_2 t).1 hf
  have hN : t.val < 4 := lt_of_lt_of_eq t.isLt N_0
  obtain ⟨q, hq⟩ : ∃ q, t.val = 4 * q + 3 := ⟨t.val / 4, by omega⟩
  blk_simp
  rw [after0_2]
  obtain ⟨n, hn⟩ := t
  dsimp only at hq hN
  subst hq
  refine (out_run m c q hn y).trans ?_
  unfold part
  pointwise [REF]
  refine Fin.sum_mul_add_congr fun s k hl => ?_
  refine (congrArg₂ (· * · : EReal → EReal → EReal) (lhs_at m c _ k (y 0)) (rhs_at m c _ k (y 1))).trans ((mul_comm (_ : EReal) _).trans ?_)
  have hs := s.isLt
  blk_point [idx ⟨4 * q + 3, hn⟩]

theorem tail (c : Dev nD) : Pipeline.afterTail₀ cfgs (dats m) 0 (V0 m) [hostOps1] c main_v3 = (dats m 0 c).arrAt 2 (cfgs 0).N := by
  unfold Pipeline.afterTail₀ hostOps1
  after_results
  exact (Pipeline.withArrays_arr spec0 (by decide) c (V0 m c) (fun w => (dats m 0 c).arrAt w (cfgs 0).N) 2 :)

theorem algebraic : Cert.algebraic_GoutIdeal_GoutReferenceIdeal := by
  intro m g m' g' _ hagree
  refine ⟨fun c => REF (lhs m c) (rhs m c), ?_, ?_⟩
  · refine (θ_run defs _ _).mono (fun r h c => ⟨((h.1 c).2 main_v3 (by decide)).trans ((tail m c).trans (final m c)), h.2 c⟩)
      (θ_run_and (run_main m g) (unchanged m g))
  · refine (θ_run Cert.GoutReferenceIdeal.defs _ _).mono (fun r h c => ?_) (Cert.GoutReferenceIdeal.Value.run (F := Ideal) m' g')
    obtain ⟨hr, ha⟩ := h c
    obtain ⟨e0, e1, e2⟩ := hagree c
    rw [e0, e2] at hr
    exact ⟨hr, ha⟩

end Cert.GoutIdeal.Hand
-- ==== Proof.GupIdeal.Value.lean ====
/- The gradient of w_up: four slices of the tokens summed in the scratch are the whole contraction. -/
module

public import proofs.«01_k».proof.Proof.Gen.GupIdeal.Frame
public import proofs.«01_k».proof.Proof.Gen.GupReferenceIdeal.Run
public import proofs.«01_k».proof.Defs
public import Idealize.ShloMosaic.Lib.Pipeline.ValueKit
public import Idealize.ShloMosaic.Lib.Claim

@[expose] public section

set_option maxRecDepth 16384

noncomputable section

namespace Cert.GupIdeal.Hand

open Cert.GupIdeal Cert.GupIdeal.Gen
open Idealize.ShloMosaic TcCoe Tactic Idealize.SL.Sem

variable (m : (ℓ : Loc nD τ sig) → Buf (Elt Ideal) ℓ)

/-- The reference's result. -/
abbrev REF (x : FVec Ideal S8192x1024 .f32) (ct : FVec Ideal S8192x4096 .f32) : FVec Ideal S1024x4096 .f32 :=
  transpose Cert.GupReferenceIdeal.S1024x4096 [1, 0] (Host.dotGeneral Cert.GupReferenceIdeal.dot_S8192x4096_S8192x1024_S4096x1024_0_0_1_1_n_n none ct x)
    Cert.GupReferenceIdeal.Gen.transposes_S4096x1024_S1024x4096_1_0
/-- The left operand of the call. -/
abbrev lhs (c : Dev nD) : FVec Ideal S8192x1024 .f32 := m ((c : Thread nD τ).loc main_arg0)
/-- The right operand of the call. -/
abbrev rhs (c : Dev nD) : FVec Ideal S8192x4096 .f32 := m ((c : Thread nD τ).loc main_arg2)

theorem entry_lhs (c : Dev nD) : V m c main_v0 = lhs m c := by
  show V m c main_v0 = m ((c : Thread nD τ).loc main_arg0)
  entry_read; rfl
theorem entry_rhs (c : Dev nD) : V m c main_v1 = rhs m c := by
  show V m c main_v1 = m ((c : Thread nD τ).loc main_arg2)
  entry_read; rfl

theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

theorem part_at (x : Vec Ideal S2048x1024 .bf16) (y : Vec Ideal S2048x1024 .bf16) (i : S1024x1024.Idx) :
    k0_pay2 (F := Ideal) x y i = ∑ k : Fin 2048, x (ix2 k (i 0)) * y (ix2 k (i 1)) := by
  pointwise [k0_pay2, k0_pay1]
theorem step_at (x : Vec Ideal S2048x1024 .bf16) (y : Vec Ideal S2048x1024 .bf16) (a : Vec Ideal S1024x1024 .f32) (i : S1024x1024.Idx) :
    k0_pay3 (F := Ideal) x y a i = a i + ∑ k : Fin 2048, x (ix2 k (i 0)) * y (ix2 k (i 1)) := by
  pointwise [k0_pay3, k0_pay1]
theorem last_at (x : Vec Ideal S2048x1024 .bf16) (y : Vec Ideal S2048x1024 .bf16) (a : Vec Ideal S1024x1024 .f32) (i : S1024x1024.Idx) :
    k0_pay4 (F := Ideal) x y a (ix3 0 (i 0) (i 1)) = a i + ∑ k : Fin 2048, x (ix2 k (i 0)) * y (ix2 k (i 1)) := by
  pointwise [k0_pay4, k0_pay1]

theorem lhs_at (c : Dev nD) (t : Fin cfg0.N) (k : Fin 2048) (i : Fin 1024) :
    (show FVec Ideal S2048x1024 .bf16 from iblk m c 0 t) (ix2 k i) = lhs m c (ix2 ⟨t.val % 4 * 2048 + k.val, by omega⟩ i) := by
  rw [← entry_lhs]
  blk_ext [iblk, idx t]
theorem rhs_at (c : Dev nD) (t : Fin cfg0.N) (k : Fin 2048) (j : Fin 1024) :
    (show FVec Ideal S2048x1024 .bf16 from iblk m c 1 t) (ix2 k j) = rhs m c (ix2 ⟨t.val % 4 * 2048 + k.val, by omega⟩
      ⟨t.val / 4 * 1024 + j.val, by have : t.val < 16 := lt_of_lt_of_eq t.isLt N_0; omega⟩) := by
  rw [← entry_rhs]
  blk_ext [iblk, idx t]

/-- The product of the two blocks at a point. -/
abbrev part (c : Dev nD) (n : ℕ) (hn : n < cfg0.N) (i : S1024x1024.Idx) : EReal :=
  ∑ k : Fin 2048, (show FVec Ideal S2048x1024 .bf16 from iblk m c 0 ⟨n, hn⟩) (ix2 k (i 0)) * (show FVec Ideal S2048x1024 .bf16 from iblk m c 1 ⟨n, hn⟩) (ix2 k (i 1))

theorem scratch_first (c : Dev nD) (n : ℕ) (hn : n < cfg0.N) (h : n % 4 = 0) (i : S1024x1024.Idx) :
    (outsAt0 m c n hn).2 i = part m c n hn i := by
  rw [outsAt0_A m c ⟨n, hn⟩ h (by dsimp only; omega) (by dsimp only; omega)]
  frame_out
  exact part_at _ _ i
theorem scratch_next (c : Dev nD) (n : ℕ) (hn : n + 1 < cfg0.N) (h : 1 ≤ (n + 1) % 4 ∧ (n + 1) % 4 ≤ 2) (i : S1024x1024.Idx) :
    (outsAt0 m c (n + 1) hn).2 i = (outsAt0 m c n (Nat.lt_of_succ_lt hn)).2 i + part m c (n + 1) hn i := by
  rw [outsAt0_B m c ⟨n + 1, hn⟩ (by dsimp only; omega) h (by dsimp only; omega)]
  frame_out
  exact (step_at _ _ _ i).trans (congrArg (· + part m c (n + 1) hn i) (congrFun ((Memref.isWhole_whole cc0_scratch0).read_unread _) i))
theorem out_last (c : Dev nD) (n : ℕ) (hn : n + 1 < cfg0.N) (h : (n + 1) % 4 = 3) (i : S1024x1024.Idx) :
    (outsAt0 m c (n + 1) hn).1 (ix3 0 (i 0) (i 1)) = (outsAt0 m c n (Nat.lt_of_succ_lt hn)).2 i + part m c (n + 1) hn i := by
  rw [outsAt0_C m c ⟨n + 1, hn⟩ (by dsimp only; omega) (by dsimp only; omega) h]
  frame_out
  exact (last_at _ _ _ i).trans (congrArg (· + part m c (n + 1) hn i) (congrFun ((Memref.isWhole_whole cc0_scratch0).read_unread _) i))

/-- What a run's last point writes: its four products added up. -/
theorem out_run (c : Dev nD) (q : ℕ) (hq : 4 * q + 3 < cfg0.N) (i : S1024x1024.Idx) :
    (outsAt0 m c (4 * q + 3) hq).1 (ix3 0 (i 0) (i 1)) = ∑ s : Fin 4, part m c (4 * q + s.val) (by have := s.isLt; omega) i := by
  rw [out_last m c (4 * q + 2) hq (by omega), scratch_next m c (4 * q + 1) _ (by omega), scratch_next m c (4 * q) _ (by omega),
    scratch_first m c (4 * q) _ (by omega), Fin.sum_univ_four]
  rfl

/-- The result with each chip's columns apart. -/
def PARTS (x : FVec Ideal S8192x1024 .f32) (ct : FVec Ideal S8192x4096 .f32) : FVec Ideal S4x1024x1024 .bf16 :=
  fun i => REF x ct (ix2 (i 1) ⟨(i 0).val * 1024 + (i 2).val, by
    have : (i 0).val < 4 := (i 0).isLt; have : (i 2).val < 1024 := (i 2).isLt; omega⟩)

theorem final (c : Dev nD) : (dats m 0 c).arrAt 2 (cfgs 0).N = PARTS (lhs m c) (rhs m c) := by
  refine (dats m 0 c).arrAt_eq_of_covers 2 _ (by decide +kernel) fun t hf y => ?_
  have hm := (flush0_2 t).1 hf
  have hN : t.val < 16 := lt_of_lt_of_eq t.isLt N_0
  obtain ⟨q, hq⟩ : ∃ q, t.val = 4 * q + 3 := ⟨t.val / 4, by omega⟩
  blk_simp
  rw [after0_2]
  obtain ⟨n, hn⟩ := t
  dsimp only at hq hN
  subst hq
  have hy : y = (ix3 0 (y 1) (y 2) : S1x1024x1024.Idx) := by
    funext a; fin_cases a <;> first | rfl | exact Subsingleton.elim (α := Fin 1) _ _
  refine (congrArg _ hy).trans ((out_run m c q hn (ix2 (y 1) (y 2))).trans ?_)
  unfold part PARTS
  pointwise [REF]
  refine Fin.sum_mul_add_congr fun s k hl => ?_
  refine (congrArg₂ (· * · : EReal → EReal → EReal) (lhs_at m c _ k (y 1)) (rhs_at m c _ k (y 2))).trans ((mul_comm (_ : EReal) _).trans ?_)
  have hs := s.isLt
  blk_point [idx ⟨4 * q + 3, hn⟩]

theorem tail (c : Dev nD) : Pipeline.afterTail₀ cfgs (dats m) 0 (V0 m) [hostOps1] c main_v5 = REF (lhs m c) (rhs m c) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v2)
      = (dats m 0 c).arrAt 2 cfg0.N := Pipeline.withArrays_arr spec0 (by decide) c _ _ 2
  rw [e]
  refine (congrArg (fun z : FVec Ideal S4x1024x1024 .bf16 => (extf .f32 (shapeCast S1024x4096 (transpose S1024x4x1024 [1, 0, 2] z
    transposes_S4x1024x1024_S1024x4x1024_1_0_2) shapeCasts_S1024x4x1024_S1024x4096) bitsLt_bf16_f32 : FVec Ideal S1024x4096 .f32)) (final m c)).trans ?_
  funext i
  pointwise [PARTS]
  have h : (⟨(i 1).val / 1024 * 1024 + (i 1).val % 1024, by have : (i 1).val < 4096 := (i 1).isLt; omega⟩ : Fin 4096) = i 1 := Fin.ext (Nat.div_add_mod' _ _)
  exact Finset.sum_congr rfl fun k _ => congrArg (fun a : Fin 4096 => (rhs m c (ix2 k a) * lhs m c (ix2 k (i 0)) : EReal)) h

theorem algebraic : Cert.algebraic_GupIdeal_GupReferenceIdeal := by
  intro m g m' g' _ hagree
  refine ⟨fun c => REF (lhs m c) (rhs m c), ?_, ?_⟩
  · refine (θ_run defs _ _).mono (fun r h c => ⟨((h.1 c).2 main_v5 (by decide)).trans (tail m c), h.2 c⟩)
      (θ_run_and (run_main m g) (unchanged m g))
  · refine (θ_run Cert.GupReferenceIdeal.defs _ _).mono (fun r h c => ?_) (Cert.GupReferenceIdeal.Value.run (F := Ideal) m' g')
    obtain ⟨hr, ha⟩ := h c
    obtain ⟨e0, e1, e2⟩ := hagree c
    rw [e0, e2] at hr
    exact ⟨hr, ha⟩

end Cert.GupIdeal.Hand
-- ==== Proof.InIdeal.Launch.lean ====
/- What every buffer holds when the regions and the host lines around them are done. -/
module

public import proofs.«01_k».proof.Proof.Gen.InIdeal.Frame

@[expose] public section

noncomputable section

namespace Cert.InIdeal.Hand

open Cert.InIdeal Cert.InIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the pipelines ends at the last segment boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨A, B, C⟩
      isplitl [A B]
      · isplitl [A]; · iexact A
        iexact B
      iexact C⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨A, -, C, -, B, -⟩, -⟩
      imodintro
      isplitl [A]; · iexact A
      isplitl [B]; · iexists _; iexact B
      iexists ∅; iexact C)
    (QY := fun c s => ∀ b ∈ Pipeline.ucRefs τ sig, s.mem (((c : Thread nD τ)).1, b) = W6 m ρ c b)
    (hfin := fun c s => by
      iintro ⟨⟨A, -⟩, S⟩
      unfold StableHlo.held
      imodintro
      iapply (pointsTo_read_all (Pipeline.ucRefs τ sig) (fun b => (((c : Thread nD τ)).1, b)) (W6 m ρ c) s)
      isplitl [A] <;> iassumption)
    (hQ := fun _ h _ => h)

end Cert.InIdeal.Hand
-- ==== Proof.InIdeal.Value.lean ====
/- The input projection: every point writes its own block. -/
module

public import proofs.«01_k».proof.Proof.InIdeal.Launch
public import proofs.«01_k».proof.Proof.Gen.InReferenceIdeal.Run
public import proofs.«01_k».proof.Defs
public import Idealize.ShloMosaic.Lib.Pipeline.ValueKit
public import Idealize.ShloMosaic.Lib.Claim

@[expose] public section

set_option maxRecDepth 16384

noncomputable section

namespace Cert.InIdeal.Hand

open Cert.InIdeal Cert.InIdeal.Gen
open Idealize.ShloMosaic TcCoe Tactic Idealize.SL.Sem

variable (m : (ℓ : Loc nD τ sig) → Buf (Elt Ideal) ℓ) (ρ : Dev nD → PrngReg)

/-- The call's operands, as the launch has them. -/
abbrev xin (c : Dev nD) : FVec Ideal S8192x1024 .f32 := m ((c : Thread nD τ).loc main_arg0)
abbrev win (c : Dev nD) : FVec Ideal S1024x5376 .f32 := m ((c : Thread nD τ).loc main_arg1)
/-- The projection. -/
abbrev PROJ (x : FVec Ideal S8192x1024 .f32) (w : FVec Ideal S1024x5376 .f32) : FVec Ideal Cert.InReferenceIdeal.S8192x5376 .f32 :=
  Host.dotGeneral Cert.InReferenceIdeal.dot_S8192x1024_S1024x5376_S8192x5376_1_0_0_1_n_n none x w
/-- Its columns from 0, 768 of them. -/
abbrev COLS0 (x : FVec Ideal S8192x1024 .f32) (w : FVec Ideal S1024x5376 .f32) : FVec Ideal S8192x768 .f32 :=
  extractStridedSlice Cert.InReferenceIdeal.S8192x768 ![0, 0] (PROJ x w) Cert.InReferenceIdeal.Gen.slices_S8192x5376_S8192x768_0_0
/-- Its columns from 768, 768 of them. -/
abbrev COLS1 (x : FVec Ideal S8192x1024 .f32) (w : FVec Ideal S1024x5376 .f32) : FVec Ideal S8192x768 .f32 :=
  extractStridedSlice Cert.InReferenceIdeal.S8192x768 ![0, 768] (PROJ x w) Cert.InReferenceIdeal.Gen.slices_S8192x5376_S8192x768_0_768
/-- Its columns from 1536, 768 of them. -/
abbrev COLS2 (x : FVec Ideal S8192x1024 .f32) (w : FVec Ideal S1024x5376 .f32) : FVec Ideal S8192x768 .f32 :=
  extractStridedSlice Cert.InReferenceIdeal.S8192x768 ![0, 1536] (PROJ x w) Cert.InReferenceIdeal.Gen.slices_S8192x5376_S8192x768_0_1536
/-- Its columns from 2304, 3072 of them. -/
abbrev COLS3 (x : FVec Ideal S8192x1024 .f32) (w : FVec Ideal S1024x5376 .f32) : FVec Ideal S8192x3072 .f32 :=
  extractStridedSlice Cert.InReferenceIdeal.S8192x3072 ![0, 2304] (PROJ x w) Cert.InReferenceIdeal.Gen.slices_S8192x5376_S8192x3072_0_2304

/-! ## Mixer A's columns -/

theorem left0 (c : Dev nD) : V1 m ρ c main_v0 = xin m c := by
  dsimp only [V1, W1]; after_results; rfl
theorem right0 (c : Dev nD) (k : Fin 1024) (j : Fin 5376) :
    (show FVec Ideal S1x1024x5376 .bf16 from V1 m ρ c main_v2) (ix3 0 k j) = win m c (ix2 k j) := by
  have e : V1 m ρ c main_v2 = (truncf .bf16 (broadcastInDim S1x1024x5376 ![1, 2] bcast_S1024x5376_S1x1024x5376_1_2 (win m c)) bitsLt_bf16_f32 :
      FVec Ideal S1x1024x5376 .bf16) := by
    dsimp only [V1, W1]; after_results
  rw [e]
  pointwise

theorem idx0 : ∀ t : Fin cfg0.N, win0_0.index t = ![t.val, 0] ∧ win0_1.index t = ![0, 0, 0] ∧ win0_2.index t = ![t.val, 0] :=
  (by decide +kernel : ∀ t : Fin grid0.N, _)

theorem pay0_at (x : Vec Ideal S1024x1024 .bf16) (y : Vec Ideal S1x1024x768 .bf16) (i : S1024x768.Idx) :
    k0_pay1 (F := Ideal) x y i = ∑ k : Fin 1024, x (ix2 (i 0) k) * y (ix3 0 k (i 1)) := by
  pointwise [k0_pay1]

theorem left0_at (c : Dev nD) (t : Fin cfg0.N) (i : Fin 1024) (k : Fin 1024) :
    (show FVec Ideal S1024x1024 .bf16 from iblk0 (V1 m ρ) c 0 t) (ix2 i k) = xin m c (ix2 ⟨t.val * 1024 + i.val, by
      have : t.val < 8 := lt_of_lt_of_eq t.isLt N_0; omega⟩ k) := by
  rw [← left0 m ρ]
  blk_ext [iblk0, idx0 t]
theorem right0_at (c : Dev nD) (t : Fin cfg0.N) (k : Fin 1024) (j : Fin 768) :
    (show FVec Ideal S1x1024x768 .bf16 from iblk0 (V1 m ρ) c 1 t) (ix3 0 k j) = win m c (ix2 k ⟨0 * 768 + j.val, by omega⟩) := by
  refine Eq.trans ?_ (right0 m ρ c k ⟨0 * 768 + j.val, by omega⟩)
  blk_ext [iblk0, idx0 t]

theorem final0 (c : Dev nD) : (dat0 (V1 m ρ) c).arrAt 2 cfg0.N = COLS0 (xin m c) (win m c) := by
  refine (dat0 (V1 m ρ) c).arrAt_eq_of_covers 2 _ (by decide +kernel) fun t hf y => ?_
  blk_simp
  rw [after0_2]
  frame_out
  refine (pay0_at _ _ y).trans ?_
  pointwise [COLS0]
  refine Finset.sum_congr rfl fun k _ => ?_
  refine (congrArg₂ (· * · : EReal → EReal → EReal) (left0_at m ρ c t (y 0) k) (right0_at m ρ c t k (y 1))).trans ?_
  blk_point [idx0 t]

/-! ## Mixer B's columns -/

theorem left1 (c : Dev nD) : V2 m ρ c main_v0 = xin m c := (W2_of m ρ c main_v0 (by decide)).trans (left0 m ρ c)
theorem right1 (c : Dev nD) (k : Fin 1024) (j : Fin 5376) :
    (show FVec Ideal S1x1024x5376 .bf16 from V2 m ρ c main_v2) (ix3 0 k j) = win m c (ix2 k j) :=
  (congrArg (fun z : FVec Ideal S1x1024x5376 .bf16 => z (ix3 0 k j)) (W2_of m ρ c main_v2 (by decide))).trans (right0 m ρ c k j)

theorem idx1 : ∀ t : Fin cfg1.N, win1_0.index t = ![t.val, 0] ∧ win1_1.index t = ![0, 0, 1] ∧ win1_2.index t = ![t.val, 0] :=
  (by decide +kernel : ∀ t : Fin grid1.N, _)

theorem pay1_at (x : Vec Ideal S1024x1024 .bf16) (y : Vec Ideal S1x1024x768 .bf16) (i : S1024x768.Idx) :
    k1_pay1 (F := Ideal) x y i = ∑ k : Fin 1024, x (ix2 (i 0) k) * y (ix3 0 k (i 1)) := by
  pointwise [k1_pay1]

theorem left1_at (c : Dev nD) (t : Fin cfg1.N) (i : Fin 1024) (k : Fin 1024) :
    (show FVec Ideal S1024x1024 .bf16 from iblk1 (V2 m ρ) c 0 t) (ix2 i k) = xin m c (ix2 ⟨t.val * 1024 + i.val, by
      have : t.val < 8 := lt_of_lt_of_eq t.isLt N_1; omega⟩ k) := by
  rw [← left1 m ρ]
  blk_ext [iblk1, idx1 t]
theorem right1_at (c : Dev nD) (t : Fin cfg1.N) (k : Fin 1024) (j : Fin 768) :
    (show FVec Ideal S1x1024x768 .bf16 from iblk1 (V2 m ρ) c 1 t) (ix3 0 k j) = win m c (ix2 k ⟨1 * 768 + j.val, by omega⟩) := by
  refine Eq.trans ?_ (right1 m ρ c k ⟨1 * 768 + j.val, by omega⟩)
  blk_ext [iblk1, idx1 t]

theorem final1 (c : Dev nD) : (dat1 (V2 m ρ) c).arrAt 2 cfg1.N = COLS1 (xin m c) (win m c) := by
  refine (dat1 (V2 m ρ) c).arrAt_eq_of_covers 2 _ (by decide +kernel) fun t hf y => ?_
  blk_simp
  rw [after1_2]
  frame_out
  refine (pay1_at _ _ y).trans ?_
  pointwise [COLS1]
  refine Finset.sum_congr rfl fun k _ => ?_
  refine (congrArg₂ (· * · : EReal → EReal → EReal) (left1_at m ρ c t (y 0) k) (right1_at m ρ c t k (y 1))).trans ?_
  blk_point [idx1 t]

/-! ## Mixer C's columns -/

theorem left2 (c : Dev nD) : V3 m ρ c main_v0 = xin m c := (W3_of m ρ c main_v0 (by decide)).trans (left1 m ρ c)
theorem right2 (c : Dev nD) (k : Fin 1024) (j : Fin 5376) :
    (show FVec Ideal S1x1024x5376 .bf16 from V3 m ρ c main_v2) (ix3 0 k j) = win m c (ix2 k j) :=
  (congrArg (fun z : FVec Ideal S1x1024x5376 .bf16 => z (ix3 0 k j)) (W3_of m ρ c main_v2 (by decide))).trans (right1 m ρ c k j)

theorem idx2 : ∀ t : Fin cfg2.N, win2_0.index t = ![t.val, 0] ∧ win2_1.index t = ![0, 0, 2] ∧ win2_2.index t = ![t.val, 0] :=
  (by decide +kernel : ∀ t : Fin grid2.N, _)

theorem pay2_at (x : Vec Ideal S1024x1024 .bf16) (y : Vec Ideal S1x1024x768 .bf16) (i : S1024x768.Idx) :
    k2_pay1 (F := Ideal) x y i = ∑ k : Fin 1024, x (ix2 (i 0) k) * y (ix3 0 k (i 1)) := by
  pointwise [k2_pay1]

theorem left2_at (c : Dev nD) (t : Fin cfg2.N) (i : Fin 1024) (k : Fin 1024) :
    (show FVec Ideal S1024x1024 .bf16 from iblk2 (V3 m ρ) c 0 t) (ix2 i k) = xin m c (ix2 ⟨t.val * 1024 + i.val, by
      have : t.val < 8 := lt_of_lt_of_eq t.isLt N_2; omega⟩ k) := by
  rw [← left2 m ρ]
  blk_ext [iblk2, idx2 t]
theorem right2_at (c : Dev nD) (t : Fin cfg2.N) (k : Fin 1024) (j : Fin 768) :
    (show FVec Ideal S1x1024x768 .bf16 from iblk2 (V3 m ρ) c 1 t) (ix3 0 k j) = win m c (ix2 k ⟨2 * 768 + j.val, by omega⟩) := by
  refine Eq.trans ?_ (right2 m ρ c k ⟨2 * 768 + j.val, by omega⟩)
  blk_ext [iblk2, idx2 t]

theorem final2 (c : Dev nD) : (dat2 (V3 m ρ) c).arrAt 2 cfg2.N = COLS2 (xin m c) (win m c) := by
  refine (dat2 (V3 m ρ) c).arrAt_eq_of_covers 2 _ (by decide +kernel) fun t hf y => ?_
  blk_simp
  rw [after2_2]
  frame_out
  refine (pay2_at _ _ y).trans ?_
  pointwise [COLS2]
  refine Finset.sum_congr rfl fun k _ => ?_
  refine (congrArg₂ (· * · : EReal → EReal → EReal) (left2_at m ρ c t (y 0) k) (right2_at m ρ c t k (y 1))).trans ?_
  blk_point [idx2 t]

/-! ## The gates' columns -/

theorem left3 (c : Dev nD) : V4 m ρ c main_v0 = xin m c := (W4_of m ρ c main_v0 (by decide)).trans (left2 m ρ c)
theorem right3 (c : Dev nD) (k : Fin 1024) (j : Fin 5376) :
    (show FVec Ideal S1x1024x5376 .bf16 from V4 m ρ c main_v2) (ix3 0 k j) = win m c (ix2 k j) :=
  (congrArg (fun z : FVec Ideal S1x1024x5376 .bf16 => z (ix3 0 k j)) (W4_of m ρ c main_v2 (by decide))).trans (right2 m ρ c k j)

theorem idx3 : ∀ t : Fin cfg3.N, win3_0.index t = ![t.val / 4, 0] ∧ win3_1.index t = ![0, 0, t.val % 4 + 3] ∧ win3_2.index t = ![t.val / 4, t.val % 4] :=
  (by decide +kernel : ∀ t : Fin grid3.N, _)

theorem pay3_at (x : Vec Ideal S1024x1024 .bf16) (y : Vec Ideal S1x1024x768 .bf16) (i : S1024x768.Idx) :
    k3_pay1 (F := Ideal) x y i = ∑ k : Fin 1024, x (ix2 (i 0) k) * y (ix3 0 k (i 1)) := by
  pointwise [k3_pay1]

theorem left3_at (c : Dev nD) (t : Fin cfg3.N) (i : Fin 1024) (k : Fin 1024) :
    (show FVec Ideal S1024x1024 .bf16 from iblk3 (V4 m ρ) c 0 t) (ix2 i k) = xin m c (ix2 ⟨t.val / 4 * 1024 + i.val, by
      have : t.val < 32 := lt_of_lt_of_eq t.isLt N_3; omega⟩ k) := by
  rw [← left3 m ρ]
  blk_ext [iblk3, idx3 t]
theorem right3_at (c : Dev nD) (t : Fin cfg3.N) (k : Fin 1024) (j : Fin 768) :
    (show FVec Ideal S1x1024x768 .bf16 from iblk3 (V4 m ρ) c 1 t) (ix3 0 k j) = win m c (ix2 k ⟨(t.val % 4 + 3) * 768 + j.val, by omega⟩) := by
  refine Eq.trans ?_ (right3 m ρ c k ⟨(t.val % 4 + 3) * 768 + j.val, by omega⟩)
  blk_ext [iblk3, idx3 t]

theorem final3 (c : Dev nD) : (dat3 (V4 m ρ) c).arrAt 2 cfg3.N = COLS3 (xin m c) (win m c) := by
  refine (dat3 (V4 m ρ) c).arrAt_eq_of_covers 2 _ (by decide +kernel) fun t hf y => ?_
  blk_simp
  rw [after3_2]
  frame_out
  refine (pay3_at _ _ y).trans ?_
  pointwise [COLS3]
  refine Finset.sum_congr rfl fun k _ => ?_
  refine (congrArg₂ (· * · : EReal → EReal → EReal) (left3_at m ρ c t (y 0) k) (right3_at m ρ c t k (y 1))).trans ?_
  blk_point [idx3 t]

/-! ## The results -/

theorem tail0 (c : Dev nD) : W6 m ρ c main_v3 = COLS0 (xin m c) (win m c) := by
  exact (W6_of m ρ c main_v3 (by decide)).trans ((W5_of m ρ c main_v3 (by decide)).trans ((W4_of m ρ c main_v3 (by decide)).trans ((W3_of m ρ c main_v3 (by decide)).trans ((W2_arr m ρ c 2).trans (final0 m ρ c)))))
theorem tail1 (c : Dev nD) : W6 m ρ c main_v4 = COLS1 (xin m c) (win m c) := by
  exact (W6_of m ρ c main_v4 (by decide)).trans ((W5_of m ρ c main_v4 (by decide)).trans ((W4_of m ρ c main_v4 (by decide)).trans ((W3_arr m ρ c 2).trans (final1 m ρ c))))
theorem tail2 (c : Dev nD) : W6 m ρ c main_v5 = COLS2 (xin m c) (win m c) := by
  exact (W6_of m ρ c main_v5 (by decide)).trans ((W5_of m ρ c main_v5 (by decide)).trans ((W4_arr m ρ c 2).trans (final2 m ρ c)))
theorem tail3 (c : Dev nD) : W6 m ρ c main_v7 = COLS3 (xin m c) (win m c) := by
  dsimp only [W6]; after_results
  exact (W5_arr m ρ c 2).trans (final3 m ρ c)

theorem algebraic : Cert.algebraic_InIdeal_InReferenceIdeal := by
  intro m g m' g' _ hagree
  refine ⟨fun c => COLS0 (xin m c) (win m c), fun c => COLS1 (xin m c) (win m c), fun c => COLS2 (xin m c) (win m c), fun c => COLS3 (xin m c) (win m c), ?_, ?_⟩
  · refine (θ_run defs _ _).mono (fun r h c => ⟨(h.1 c _ (mem_uc main_v3 (by decide))).trans (tail0 m g c),
      (h.1 c _ (mem_uc main_v4 (by decide))).trans (tail1 m g c),
      (h.1 c _ (mem_uc main_v5 (by decide))).trans (tail2 m g c),
      (h.1 c _ (mem_uc main_v7 (by decide))).trans (tail3 m g c), h.2 c⟩) (θ_run_and (run_all m g) (unchanged m g))
  · refine (θ_run Cert.InReferenceIdeal.defs _ _).mono (fun r h c => ?_) (Cert.InReferenceIdeal.Value.run (F := Ideal) m' g')
    obtain ⟨h0, h1, h2, h3, ha⟩ := h c
    obtain ⟨e0, e1⟩ := hagree c
    rw [e0, e1] at h0
    rw [e0, e1] at h1
    rw [e0, e1] at h2
    rw [e0, e1] at h3
    exact ⟨h0, h1, h2, h3, ha⟩

end Cert.InIdeal.Hand
-- ==== Proof.LossIdeal.Value.lean ====
/- The loss and its gradient: every point writes its own rows of the gradient and adds its squares to the accumulator. -/
module

public import proofs.«01_k».proof.Proof.Gen.LossIdeal.Frame
public import proofs.«01_k».proof.Proof.Gen.LossReferenceIdeal.Run
public import proofs.«01_k».proof.Proof.Rows
public import proofs.«01_k».proof.Defs
public import Idealize.ShloMosaic.Lib.Pipeline.ValueKit

@[expose] public section

set_option maxRecDepth 16384

noncomputable section

namespace Cert.LossIdeal.Hand

open Cert.LossIdeal Cert.LossIdeal.Gen Cert.Rows
open Idealize.ShloMosaic TcCoe Tactic Idealize.SL.Sem

variable (m : (ℓ : Loc nD τ sig) → Buf (Elt Ideal) ℓ)

/-- The reference's loss. -/
abbrev LOSS (y t : FVec Ideal S8192x1024 .f32) : FVec Ideal Cert.LossReferenceIdeal.S_ .f32 :=
  mulf (constant Cert.LossReferenceIdeal.S_ .f32 0x3F000000#32) (Host.reduceAdd (Host.divf (Host.reduceAdd (mulf (subf y t) (subf y t))
    (constant Cert.LossReferenceIdeal.S_ .f32 0x00000000#32) Cert.LossReferenceIdeal.Gen.reducesTo_S8192x1024_S8192_d1 Cert.LossReferenceIdeal.Gen.h_S_)
    (broadcastInDim Cert.LossReferenceIdeal.S8192 ![] Cert.LossReferenceIdeal.Gen.bcast_S_S8192 (constant Cert.LossReferenceIdeal.S_ .f32 0x44800000#32)))
    (constant Cert.LossReferenceIdeal.S_ .f32 0x00000000#32) Cert.LossReferenceIdeal.Gen.reducesTo_S8192_S_d0 Cert.LossReferenceIdeal.Gen.h_S_)
/-- The reference's gradient. -/
abbrev GRAD (y t : FVec Ideal S8192x1024 .f32) : FVec Ideal S8192x1024 .f32 :=
  mulf (broadcastInDim Cert.LossReferenceIdeal.S8192x1024 ![0] Cert.LossReferenceIdeal.Gen.bcast_S8192_S8192x1024_0
    (Host.divf (broadcastInDim Cert.LossReferenceIdeal.S8192 ![] Cert.LossReferenceIdeal.Gen.bcast_S_S8192
      (mulf (constant Cert.LossReferenceIdeal.S_ .f32 0x3F000000#32) (constant Cert.LossReferenceIdeal.S_ .f32 0x3F800000#32)))
      (broadcastInDim Cert.LossReferenceIdeal.S8192 ![] Cert.LossReferenceIdeal.Gen.bcast_S_S8192 (constant Cert.LossReferenceIdeal.S_ .f32 0x44800000#32))))
    (mulf (broadcastInDim Cert.LossReferenceIdeal.S8192x1024 ![] Cert.LossReferenceIdeal.Gen.bcast_S_S8192x1024 (constant Cert.LossReferenceIdeal.S_ .f32 0x40000000#32)) (subf y t))

/-- The last layer's output and the target. -/
abbrev yy (c : Dev nD) : FVec Ideal S8192x1024 .f32 := m ((c : Thread nD τ).loc main_arg0)
abbrev tt (c : Dev nD) : FVec Ideal S8192x1024 .f32 := m ((c : Thread nD τ).loc main_arg1)

theorem entry_yy (c : Dev nD) : V m c main_arg0 = yy m c := V_main_arg0 m c
theorem entry_tt (c : Dev nD) : V m c main_arg1 = tt m c := V_main_arg1 m c

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem yy_at (c : Dev nD) (t : Fin cfg0.N) (i : Fin 512) (j : Fin 1024) :
    (show FVec Ideal S512x1024 .f32 from iblk m c 0 t) (ix2 i j) = yy m c (ix2 ⟨t.val * 512 + i.val, by
      have : t.val < 16 := lt_of_lt_of_eq t.isLt N_0; omega⟩ j) := by
  rw [← entry_yy]
  blk_ext [iblk, idx t]
theorem tt_at (c : Dev nD) (t : Fin cfg0.N) (i : Fin 512) (j : Fin 1024) :
    (show FVec Ideal S512x1024 .f32 from iblk m c 1 t) (ix2 i j) = tt m c (ix2 ⟨t.val * 512 + i.val, by
      have : t.val < 16 := lt_of_lt_of_eq t.isLt N_0; omega⟩ j) := by
  rw [← entry_tt]
  blk_ext [iblk, idx t]

/-- The square of a difference. -/
abbrev sq (a b : EReal) : EReal := (a - b) * (a - b)

theorem first_at (y t : Vec Ideal S512x1024 .f32) (i : S8x1024.Idx) :
    k0_pay3 (F := Ideal) y t i = ∑ k : Fin 64, sq (y (ix2 (row k (i 0)) (i 1))) (t (ix2 (row k (i 0)) (i 1))) := by
  pointwise [k0_pay3, k0_pay1, sq, row]
theorem next_at (y t : Vec Ideal S512x1024 .f32) (a : Vec Ideal S8x1024 .f32) (i : S8x1024.Idx) :
    k0_pay4 (F := Ideal) y t a i = a i + k0_pay3 (F := Ideal) y t i := by
  pointwise [k0_pay4]
theorem grad_at (y t : Vec Ideal S512x1024 .f32) (i : S512x1024.Idx) :
    k0_pay2 (F := Ideal) y t i = (y (ix2 (i 0) (i 1)) - t (ix2 (i 0) (i 1))) * Ideal.ofBits .f32 0x3A800000#32 := by
  pointwise [k0_pay2, k0_pay1]

/-- The squares a point adds. -/
abbrev part (c : Dev nD) (n : ℕ) (i : S8x1024.Idx) : EReal :=
  if hn : n < cfg0.N then k0_pay3 (F := Ideal) (show FVec Ideal S512x1024 .f32 from iblk m c 0 ⟨n, hn⟩) (show FVec Ideal S512x1024 .f32 from iblk m c 1 ⟨n, hn⟩) i else 0

theorem acc (c : Dev nD) (i : S8x1024.Idx) : ∀ (n : ℕ) (hn : n < cfg0.N), (outsAt0 m c n hn).1 i = ∑ s ∈ Finset.range (n + 1), part m c s i
  | 0, hn => by
    rw [outsAt0_A m c ⟨0, hn⟩ (by dsimp only) (by dsimp only; omega)]
    frame_out
    rw [Finset.sum_range_one, part, dif_pos hn]
  | n + 1, hn => by
    have h16 : n + 1 < 16 := lt_of_lt_of_eq hn N_0
    rw [outsAt0_B m c ⟨n + 1, hn⟩ (by dsimp only; omega) (by dsimp only; omega)]
    frame_out
    refine (next_at _ _ _ i).trans ?_
    rw [Finset.sum_range_succ, ← acc c i n (Nat.lt_of_succ_lt hn)]
    refine congrArg₂ (· + · : EReal → EReal → EReal) ?_ ?_
    · rfl
    · rw [part, dif_pos hn]

/-- The accumulator the last point leaves. -/
abbrev ACC (y t : FVec Ideal S8192x1024 .f32) : FVec Ideal S8x1024 .f32 := fun i : S8x1024.Idx =>
  ∑ s : Fin 16, ∑ k : Fin 64, sq (y (ix2 (glob s (row k (i 0))) (i 1))) (t (ix2 (glob s (row k (i 0))) (i 1)))

theorem part_at (c : Dev nD) (s : Fin 16) (i : S8x1024.Idx) : part m c s.val i
    = ∑ k : Fin 64, sq (yy m c (ix2 (glob s (row k (i 0))) (i 1))) (tt m c (ix2 (glob s (row k (i 0))) (i 1))) := by
  have h : s.val < cfg0.N := lt_of_lt_of_eq s.isLt N_0.symm
  rw [part, dif_pos h]
  refine (first_at _ _ i).trans (Finset.sum_congr rfl fun k _ => ?_)
  exact congrArg₂ sq (yy_at m c ⟨s.val, h⟩ (row k (i 0)) (i 1)) (tt_at m c ⟨s.val, h⟩ (row k (i 0)) (i 1))

theorem final_acc (c : Dev nD) : (dats m 0 c).arrAt 2 (cfgs 0).N = ACC (yy m c) (tt m c) := by
  refine (dats m 0 c).arrAt_eq_of_covers 2 _ (by decide +kernel) fun t hf y => ?_
  have hm := (flush0_2 t).1 hf
  have hN : t.val < 16 := lt_of_lt_of_eq t.isLt N_0
  have ht : t.val + 1 = 16 := by omega
  blk_simp
  rw [after0_2]
  refine (acc m c y t.val t.isLt).trans ?_
  rw [ht, Finset.sum_range]
  refine (Finset.sum_congr rfl fun s _ => part_at m c s y).trans ?_
  have key : ∀ A : FVec Ideal S8x1024 .f32, A y = A (((View.whole main_v0_0).slice (win0_2.rect t)).emb y) := fun A => by
    blk_point [idx t]
  exact key (ACC (yy m c) (tt m c))

theorem final_grad (c : Dev nD) : (dats m 0 c).arrAt 3 (cfgs 0).N = GRAD (yy m c) (tt m c) := by
  refine (dats m 0 c).arrAt_eq_of_covers 3 _ (by decide +kernel) fun t hf y => ?_
  have hN : t.val < 16 := lt_of_lt_of_eq t.isLt N_0
  blk_simp
  rw [after0_3]
  have e : (outsAt0 m c t.val t.isLt).2 y = k0_pay2 (F := Ideal) (show FVec Ideal S512x1024 .f32 from iblk m c 0 t) (show FVec Ideal S512x1024 .f32 from iblk m c 1 t) y := by
    by_cases h : t.val % 16 = 0
    · rw [outsAt0_A m c t h (by omega)]
      frame_out
    · rw [outsAt0_B m c t h (by omega)]
      frame_out
  refine e.trans ((grad_at _ _ y).trans ?_)
  refine (congrArg₂ (fun a b : EReal => (a - b) * Ideal.ofBits .f32 0x3A800000#32) (yy_at m c t (y 0) (y 1)) (tt_at m c t (y 0) (y 1))).trans ?_
  have k : ∀ z : EReal, Ideal.div (Ideal.ofBits .f32 0x3F000000#32) (Ideal.ofBits .f32 0x44800000#32) * (Ideal.ofBits .f32 0x40000000#32 * z)
      = z * Ideal.ofBits .f32 0x3A800000#32 := fun z => by
    rw [half_eq, width_eq, two_eq, inv_eq, Ideal.div_coe (by norm_num), ← mul_assoc, ← EReal.coe_mul, ← EReal.coe_mul, mul_comm]
    norm_num
  pointwise [GRAD]
  refine Eq.trans ?_ (k _).symm
  blk_point [idx t]

theorem loss_eq (y t : FVec Ideal S8192x1024 .f32) :
    Host.divf (mulf (constant S_ .f32 0x3F000000#32) (Host.reduceAdd (ACC y t) (constant S_ .f32 0x00000000#32) reducesTo_S8x1024_S_d0_1 h_S_)) (constant S_ .f32 0x44800000#32)
      = LOSS y t := by
  funext i
  pointwise [LOSS]
  have e : ∑ r : Fin 8, ∑ j : Fin 1024, ACC y t (ix2 r j) = ∑ x : Fin 8192, ∑ j : Fin 1024, sq (y (ix2 x j)) (t (ix2 x j)) := by
    rw [Finset.sum_comm, Finset.sum_comm (s := (Finset.univ : Finset (Fin 8192)))]
    exact Finset.sum_congr rfl fun j _ => sum_rows fun x => sq (y (ix2 x j)) (t (ix2 x j))
  refine (congrArg (fun z : EReal => Ideal.div (Ideal.ofBits .f32 0x3F000000#32 * z) (Ideal.ofBits .f32 0x44800000#32)) e).trans ?_
  rw [width_eq, sum_div, Ideal.div_coe (by norm_num), Ideal.div_coe (by norm_num), mul_assoc]

theorem tail (c : Dev nD) : Pipeline.afterTail₀ cfgs (dats m) 0 (V0 m) [hostOps1] c main_v3
    = (Host.divf (mulf (constant S_ .f32 0x3F000000#32) (Host.reduceAdd ((dats m 0 c).arrAt 2 (cfgs 0).N : FVec Ideal S8x1024 .f32) (constant S_ .f32 0x00000000#32) reducesTo_S8x1024_S_d0_1 h_S_))
      (constant S_ .f32 0x44800000#32) : FVec Ideal S_ .f32) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v0_0)
      = (dats m 0 c).arrAt 2 cfg0.N := Pipeline.withArrays_arr spec0 (by decide) c _ _ 2
  rw [e]

theorem algebraic : Cert.algebraic_LossIdeal_LossReferenceIdeal := by
  intro m g m' g' _ hagree
  refine ⟨fun c => LOSS (yy m c) (tt m c), fun c => GRAD (yy m c) (tt m c), ?_, ?_⟩
  · refine (θ_run defs _ _).mono (fun r h c => ⟨((h.1 c).2 main_v3 (by decide)).trans ((tail m c).trans ?_), ((h.1 c).1 3).trans (final_grad m c), h.2 c⟩)
      (θ_run_and (run_main m g) (unchanged m g))
    rw [final_acc]
    exact loss_eq _ _
  · refine (θ_run Cert.LossReferenceIdeal.defs _ _).mono (fun r h c => ?_) (Cert.LossReferenceIdeal.Value.run (F := Ideal) m' g')
    obtain ⟨h0, h1, ha⟩ := h c
    obtain ⟨e0, e1⟩ := hagree c
    rw [e0, e1] at h0 h1
    exact ⟨h0, h1, ha⟩

end Cert.LossIdeal.Hand
-- ==== Proof.OutIdeal.Value.lean ====
/- The mixers' output projection, its residual and the layer norm. -/
module

public import proofs.«01_k».proof.Proof.Gen.OutIdeal.Frame
public import proofs.«01_k».proof.Proof.Gen.OutReferenceIdeal.Run
public import proofs.«01_k».proof.Defs
public import Idealize.ShloMosaic.Lib.Pipeline.ValueKit
public import Idealize.ShloMosaic.Lib.Claim

@[expose] public section

set_option maxRecDepth 16384

noncomputable section

namespace Cert.OutIdeal.Hand

open Cert.OutIdeal Cert.OutIdeal.Gen
open Idealize.ShloMosaic TcCoe Tactic Idealize.SL.Sem

variable (m : (ℓ : Loc nD τ sig) → Buf (Elt Ideal) ℓ)

/-! ## The normalisation, of a row -/

/-- The rows' mean, as the reference's lines compute it. -/
abbrev MEAN (r : FVec Ideal S8192x1024 .f32) : FVec Ideal Cert.OutReferenceIdeal.S8192x1 .f32 :=
  Host.divf (broadcastInDim Cert.OutReferenceIdeal.S8192x1 ![0] Cert.OutReferenceIdeal.Gen.bcast_S8192_S8192x1_0 (Host.reduceAdd r (constant Cert.OutReferenceIdeal.S_ .f32 0x00000000#32) Cert.OutReferenceIdeal.Gen.reducesTo_S8192x1024_S8192_d1 Cert.OutReferenceIdeal.Gen.h_S_))
    (broadcastInDim Cert.OutReferenceIdeal.S8192x1 ![] Cert.OutReferenceIdeal.Gen.bcast_S_S8192x1 (constant Cert.OutReferenceIdeal.S_ .f32 0x44800000#32))
/-- The rows less their mean. -/
abbrev DIFF (r : FVec Ideal S8192x1024 .f32) : FVec Ideal S8192x1024 .f32 :=
  subf r (broadcastInDim Cert.OutReferenceIdeal.S8192x1024 ![0, 1] Cert.OutReferenceIdeal.Gen.bcast_S8192x1_S8192x1024_0_1 (MEAN r))
/-- The layer norm. -/
def NORM (r : FVec Ideal S8192x1024 .f32) (g b : FVec Ideal S1024 .f32) : FVec Ideal S8192x1024 .f32 :=
  addf (mulf (mulf (DIFF r) (broadcastInDim Cert.OutReferenceIdeal.S8192x1024 ![0, 1] Cert.OutReferenceIdeal.Gen.bcast_S8192x1_S8192x1024_0_1
      (Host.rsqrt (addf (MEAN (mulf (DIFF r) (DIFF r))) (broadcastInDim Cert.OutReferenceIdeal.S8192x1 ![] Cert.OutReferenceIdeal.Gen.bcast_S_S8192x1 (constant Cert.OutReferenceIdeal.S_ .f32 0x3727C5AC#32))))))
    (broadcastInDim Cert.OutReferenceIdeal.S8192x1024 ![0, 1] Cert.OutReferenceIdeal.Gen.bcast_S1x1024_S8192x1024_0_1 (broadcastInDim Cert.OutReferenceIdeal.S1x1024 ![1] Cert.OutReferenceIdeal.Gen.bcast_S1024_S1x1024_1 g)))
    (broadcastInDim Cert.OutReferenceIdeal.S8192x1024 ![0, 1] Cert.OutReferenceIdeal.Gen.bcast_S1x1024_S8192x1024_0_1 (broadcastInDim Cert.OutReferenceIdeal.S1x1024 ![1] Cert.OutReferenceIdeal.Gen.bcast_S1024_S1x1024_1 b))

/-- The numbers the programs name: the row's length, the variance's shift and the residual's factor. -/
abbrev len : EReal := Ideal.ofBits .f32 0x44800000#32
abbrev eps : EReal := Ideal.ofBits .f32 0x3727C5AC#32
abbrev scale : EReal := Ideal.ofBits .f32 0x3FD744FD#32
/-- A row's mean. -/
def mean (f : Fin 1024 → EReal) : EReal := Ideal.div (∑ k : Fin 1024, f k) len
/-- An entry of the normalised row. -/
def norm (f : Fin 1024 → EReal) (j : Fin 1024) (g b : EReal) : EReal :=
  (f j - mean f) * Ideal.rsqrt (mean (fun k => (f k - mean f) * (f k - mean f)) + eps) * g + b

theorem norm_ref (r : FVec Ideal S8192x1024 .f32) (g b : FVec Ideal S1024 .f32) (i : S8192x1024.Idx) :
    NORM r g b i = norm (fun k => r (ix2 (i 0) k)) (i 1) (g (ix1 (i 1))) (b (ix1 (i 1))) := by
  unfold norm mean
  pointwise [NORM, DIFF, MEAN]

theorem res_pay (x : Vec Ideal S1024x1024 .bf16) (w : Vec Ideal S1x1024x1024 .bf16) (e : Vec Ideal S1024x1024 .f32) (i : S1024x1024.Idx) :
    k0_pay2 (F := Ideal) x w e i = scale * e i + ∑ k : Fin 1024, x (ix2 (i 0) k) * w (ix3 0 k (i 1)) := by
  pointwise [k0_pay2]
theorem norm_pay (x : Vec Ideal S1024x1024 .bf16) (w : Vec Ideal S1x1024x1024 .bf16) (e : Vec Ideal S1024x1024 .f32) (g b : Vec Ideal S1x1024 .f32) (i : S1024x1024.Idx) :
    k0_pay3 (F := Ideal) x w e g b i = norm (fun k => k0_pay2 (F := Ideal) x w e (ix2 (i 0) k)) (i 1) (g (ix2 0 (i 1))) (b (ix2 0 (i 1))) := by
  unfold norm mean
  pointwise [k0_pay3]
theorem cast_pay (v : FVec Ideal S1024x1024 .f32) (i : S1024x1024.Idx) : k0_pay1 (F := Ideal) v i = v i := by
  pointwise [k0_pay1]

/-! ## The blocks -/

/-- The call's operands, as the launch has them. -/
abbrev xin (c : Dev nD) : FVec Ideal S8192x1024 .f32 := m ((c : Thread nD τ).loc main_arg0)
abbrev merged (c : Dev nD) : FVec Ideal S8192x1024 .f32 := m ((c : Thread nD τ).loc main_arg1)
abbrev wout (c : Dev nD) : FVec Ideal S1024x1024 .f32 := m ((c : Thread nD τ).loc main_arg2)
abbrev gain (c : Dev nD) : FVec Ideal S1024 .f32 := m ((c : Thread nD τ).loc main_arg3)
abbrev bias (c : Dev nD) : FVec Ideal S1024 .f32 := m ((c : Thread nD τ).loc main_arg4)

/-- The residual sum, as the reference's lines compute it. -/
def RESID (x h : FVec Ideal S8192x1024 .f32) (w : FVec Ideal S1024x1024 .f32) : FVec Ideal S8192x1024 .f32 :=
  addf (mulf (broadcastInDim Cert.OutReferenceIdeal.S8192x1024 ![] Cert.OutReferenceIdeal.Gen.bcast_S_S8192x1024 (constant Cert.OutReferenceIdeal.S_ .f32 0x3FD744FD#32)) x)
    (Host.dotGeneral Cert.OutReferenceIdeal.dot_S8192x1024_S1024x1024_S8192x1024_1_0_0_1_n_n none h w)
/-- The same of the launch's operands. -/
abbrev resid (c : Dev nD) : FVec Ideal S8192x1024 .f32 := RESID (xin m c) (merged m c) (wout m c)

theorem entry_merged (c : Dev nD) : V m c main_v0 = merged m c := by
  show V m c main_v0 = m ((c : Thread nD τ).loc main_arg1)
  entry_read; rfl
theorem entry_w (c : Dev nD) (k j : Fin 1024) :
    (show FVec Ideal S1x1024x1024 .bf16 from V m c main_v2) (ix3 0 k j) = wout m c (ix2 k j) := by
  have e : V m c main_v2 = (truncf .bf16 (broadcastInDim S1x1024x1024 ![1, 2] bcast_S1024x1024_S1x1024x1024_1_2 (wout m c)) bitsLt_bf16_f32 :
      FVec Ideal S1x1024x1024 .bf16) := by
    unfold V; after_results; rfl
  rw [e]
  pointwise
theorem entry_x (c : Dev nD) : V m c main_arg0 = xin m c := by
  show V m c main_arg0 = m ((c : Thread nD τ).loc main_arg0)
  entry_read; rfl
theorem entry_gain (c : Dev nD) (j : Fin 1024) : (show FVec Ideal S1x1024 .f32 from V m c main_v3) (ix2 0 j) = gain m c (ix1 j) := by
  have e : V m c main_v3 = (broadcastInDim S1x1024 ![1] bcast_S1024_S1x1024_1 (gain m c) : FVec Ideal S1x1024 .f32) := by
    unfold V; after_results; rfl
  rw [e]
  pointwise
theorem entry_bias (c : Dev nD) (j : Fin 1024) : (show FVec Ideal S1x1024 .f32 from V m c main_v4) (ix2 0 j) = bias m c (ix1 j) := by
  have e : V m c main_v4 = (broadcastInDim S1x1024 ![1] bcast_S1024_S1x1024_1 (bias m c) : FVec Ideal S1x1024 .f32) := by
    unfold V; after_results; rfl
  rw [e]
  pointwise

theorem idx : ∀ t : Fin cfg0.N, win0_0.index t = ![t.val, 0] ∧ win0_1.index t = ![0, 0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The row of the arrays a block's row is. -/
abbrev row (t : Fin cfg0.N) (i : Fin 1024) : Fin 8192 := ⟨t.val * 1024 + i.val, by have : t.val < 8 := lt_of_lt_of_eq t.isLt N_0; omega⟩

theorem merged_at (c : Dev nD) (t : Fin cfg0.N) (i k : Fin 1024) :
    (show FVec Ideal S1024x1024 .bf16 from iblk m c 0 t) (ix2 i k) = merged m c (ix2 (row t i) k) := by
  rw [← entry_merged]
  blk_ext [iblk, idx t]
theorem w_at (c : Dev nD) (t : Fin cfg0.N) (k j : Fin 1024) :
    (show FVec Ideal S1x1024x1024 .bf16 from iblk m c 1 t) (ix3 0 k j) = wout m c (ix2 k j) := by
  refine Eq.trans ?_ (entry_w m c k j)
  blk_ext [iblk, idx t]
theorem x_at (c : Dev nD) (t : Fin cfg0.N) (i : S1024x1024.Idx) :
    (show FVec Ideal S1024x1024 .f32 from iblk m c 2 t) i = xin m c (ix2 (row t (i 0)) (i 1)) := by
  rw [← entry_x]
  blk_ext [iblk, idx t]
theorem gain_at (c : Dev nD) (t : Fin cfg0.N) (j : Fin 1024) :
    (show FVec Ideal S1x1024 .f32 from iblk m c 3 t) (ix2 0 j) = gain m c (ix1 j) := by
  refine Eq.trans ?_ (entry_gain m c j)
  blk_ext [iblk, idx t]
theorem bias_at (c : Dev nD) (t : Fin cfg0.N) (j : Fin 1024) :
    (show FVec Ideal S1x1024 .f32 from iblk m c 4 t) (ix2 0 j) = bias m c (ix1 j) := by
  refine Eq.trans ?_ (entry_bias m c j)
  blk_ext [iblk, idx t]

/-! ## What a point writes -/

theorem res_at (c : Dev nD) (t : Fin cfg0.N) (i : S1024x1024.Idx) :
    k0_pay2 (F := Ideal) (iblk m c 0 t) (iblk m c 1 t) (iblk m c 2 t) i = resid m c (ix2 (row t (i 0)) (i 1)) := by
  refine (res_pay _ _ _ i).trans ?_
  pointwise [RESID]
  exact congrArg₂ (fun a b : EReal => scale * a + b) (x_at m c t i)
    (Finset.sum_congr rfl fun k _ => congrArg₂ (· * · : EReal → EReal → EReal) (merged_at m c t (i 0) k) (w_at m c t k (i 1)))
theorem norm_at (c : Dev nD) (t : Fin cfg0.N) (i : S1024x1024.Idx) :
    k0_pay3 (F := Ideal) (iblk m c 0 t) (iblk m c 1 t) (iblk m c 2 t) (iblk m c 3 t) (iblk m c 4 t) i
      = NORM (resid m c) (gain m c) (bias m c) (ix2 (row t (i 0)) (i 1)) := by
  refine (norm_pay _ _ _ _ _ i).trans (Eq.trans ?_ (norm_ref _ _ _ _).symm)
  exact congr (congrArg₂ (fun f g => norm f (i 1) g) (funext fun k => res_at m c t (ix2 (i 0) k)) (gain_at m c t (i 1))) (bias_at m c t (i 1))

theorem pay4_eq (x : Vec Ideal S1024x1024 .bf16) (w : Vec Ideal S1x1024x1024 .bf16) (e : Vec Ideal S1024x1024 .f32) (g b : Vec Ideal S1x1024 .f32) :
    k0_pay4 (F := Ideal) x w e g b = k0_pay3 (F := Ideal) x w e g b := by
  unfold k0_pay4
  rw [show View.ld x r0_0 = x from View.ld_unit_lit _ x (by decide), show View.ld w r0_1 = w from View.ld_unit_lit _ w (by decide),
    show View.ld e r0_0 = e from View.ld_unit_lit _ e (by decide), show View.ld g r0_2 = g from View.ld_unit_lit _ g (by decide),
    show View.ld b r0_2 = b from View.ld_unit_lit _ b (by decide)]

theorem final5 (c : Dev nD) : (dats m 0 c).arrAt 5 (cfgs 0).N = resid m c := by
  refine (dats m 0 c).arrAt_eq_of_covers 5 _ (by decide +kernel) fun t hf y => ?_
  blk_simp
  rw [after0_5]
  frame_out
  refine (res_at m c t y).trans ?_
  blk_point [idx t]
theorem final6 (c : Dev nD) : (dats m 0 c).arrAt 6 (cfgs 0).N = NORM (resid m c) (gain m c) (bias m c) := by
  refine (dats m 0 c).arrAt_eq_of_covers 6 _ (by decide +kernel) fun t hf y => ?_
  blk_simp
  rw [after0_6]
  frame_out
  rw [pay4_eq]
  refine (norm_at m c t y).trans ?_
  generalize NORM (resid m c) (gain m c) (bias m c) = v
  blk_point [idx t]
theorem final7 (c : Dev nD) : (dats m 0 c).arrAt 7 (cfgs 0).N = NORM (resid m c) (gain m c) (bias m c) := by
  refine (dats m 0 c).arrAt_eq_of_covers 7 _ (by decide +kernel) fun t hf y => ?_
  blk_simp
  rw [after0_7]
  frame_out
  rw [pay4_eq]
  refine (cast_pay _ y).trans ((norm_at m c t y).trans ?_)
  generalize NORM (resid m c) (gain m c) (bias m c) = v
  blk_point [idx t]

theorem tail (c : Dev nD) : Pipeline.afterTail₀ cfgs (dats m) 0 (V0 m) [hostOps1] c main_v6 = (dats m 0 c).arrAt 7 (cfgs 0).N := by
  unfold Pipeline.afterTail₀ hostOps1
  after_results
  exact (Pipeline.withArrays_arr spec0 (by decide) c (V0 m c) (fun w => (dats m 0 c).arrAt w (cfgs 0).N) 7 :)

theorem algebraic : Cert.algebraic_OutIdeal_OutReferenceIdeal := by
  intro m g m' g' _ hagree
  refine ⟨fun c => resid m c, fun c => NORM (resid m c) (gain m c) (bias m c), fun c => NORM (resid m c) (gain m c) (bias m c), ?_, ?_⟩
  · refine (θ_run defs _ _).mono (fun r h c => ⟨((h.1 c).1 5).trans (final5 m c), ((h.1 c).1 6).trans (final6 m c),
        ((h.1 c).2 main_v6 (by decide)).trans ((tail m c).trans (final7 m c)), h.2 c⟩)
      (θ_run_and (run_main m g) (unchanged m g))
  · refine (θ_run Cert.OutReferenceIdeal.defs _ _).mono (fun r h c => ?_) (Cert.OutReferenceIdeal.Value.run (F := Ideal) m' g')
    obtain ⟨h0, h1, h2, ha⟩ := h c
    obtain ⟨e0, e1, e2, e3, e4⟩ := hagree c
    rw [e0, e1, e2] at h0
    rw [e0, e1, e2, e3, e4] at h1 h2
    exact ⟨h0, h1, h2, ha⟩

end Cert.OutIdeal.Hand
-- ==== Proof.PostcIdeal.Value.lean ====
/- The cotangent of mixer C's columns, written in place over the last third of an array: every point writes its own rows of it. -/
module

public import proofs.«01_k».proof.Proof.Gen.PostcIdeal.Frame
public import proofs.«01_k».proof.Proof.Gen.PostcReferenceIdeal.Run
public import proofs.«01_k».proof.Defs
public import Idealize.ShloMosaic.Lib.Pipeline.ValueKit

@[expose] public section

set_option maxRecDepth 16384

noncomputable section

namespace Cert.PostcIdeal.Hand

open Cert.PostcIdeal Cert.PostcIdeal.Gen
open Idealize.ShloMosaic TcCoe Tactic Idealize.SL.Sem

variable (m : (ℓ : Loc nD τ sig) → Buf (Elt Ideal) ℓ)

/-- The reference's result. -/
abbrev RES (q k v : FVec Ideal S8192x256 .f32) (d : FVec Ideal S8192x2304 .f32) : FVec Ideal S8192x2304 .f32 :=
  concatenate Cert.PostcReferenceIdeal.S8192x2304 1 [⟨Cert.PostcReferenceIdeal.S8192x1536, extractStridedSlice Cert.PostcReferenceIdeal.S8192x1536 ![0, 0] d
      Cert.PostcReferenceIdeal.Gen.slices_S8192x2304_S8192x1536_0_0⟩, ⟨Cert.PostcReferenceIdeal.S8192x768, concatenate Cert.PostcReferenceIdeal.S8192x768 1
      [⟨Cert.PostcReferenceIdeal.S8192x256, mulf q (broadcastInDim Cert.PostcReferenceIdeal.S8192x256 ![] Cert.PostcReferenceIdeal.Gen.bcast_S_S8192x256
        (constant Cert.PostcReferenceIdeal.S_ .f32 0x3E000000#32))⟩, ⟨Cert.PostcReferenceIdeal.S8192x256, k⟩, ⟨Cert.PostcReferenceIdeal.S8192x256, v⟩]
      Cert.PostcReferenceIdeal.Gen.concatenates_S8192x256_S8192x256_S8192x256_S8192x768_d1⟩]
    Cert.PostcReferenceIdeal.Gen.concatenates_S8192x1536_S8192x768_S8192x2304_d1

/-- The cotangents of the scaled queries, of the keys and of the values, and the array written over. -/
abbrev dq (c : Dev nD) : FVec Ideal S8192x256 .f32 := m ((c : Thread nD τ).loc main_arg1)
abbrev dk (c : Dev nD) : FVec Ideal S8192x256 .f32 := m ((c : Thread nD τ).loc main_arg2)
abbrev dv (c : Dev nD) : FVec Ideal S8192x256 .f32 := m ((c : Thread nD τ).loc main_arg3)
abbrev dh (c : Dev nD) : FVec Ideal S8192x2304 .f32 := m ((c : Thread nD τ).loc main_arg4)

theorem entry_dh (c : Dev nD) : V m c main_v1 = dh m c := by
  show V m c main_v1 = m ((c : Thread nD τ).loc main_arg4)
  entry_read; rfl

theorem idx : ∀ t : Fin cfg0.N, win0_0.index t = ![t.val, 0] ∧ win0_1.index t = ![t.val, 0] ∧ win0_2.index t = ![t.val, 0] ∧ win0_3.index t = ![t.val, 2] :=
  (by decide +kernel : ∀ t : Fin grid0.N, _)

/-- The row of the array a point's row is. -/
abbrev at_ (t : Fin cfg0.N) (i : Fin 512) : Fin 8192 := ⟨t.val * 512 + i.val, by have : t.val < 16 := lt_of_lt_of_eq t.isLt N_0; omega⟩

theorem dq_at (c : Dev nD) (t : Fin cfg0.N) (i : Fin 512) (j : Fin 256) :
    (show FVec Ideal S512x256 .f32 from iblk m c 0 t) (ix2 i j) = dq m c (ix2 (at_ t i) j) := by
  rw [show dq m c = V m c main_arg1 from (V_main_arg1 m c).symm]
  blk_ext [iblk, idx t]
theorem dk_at (c : Dev nD) (t : Fin cfg0.N) (i : Fin 512) (j : Fin 256) :
    (show FVec Ideal S512x256 .f32 from iblk m c 1 t) (ix2 i j) = dk m c (ix2 (at_ t i) j) := by
  rw [show dk m c = V m c main_arg2 from (V_main_arg2 m c).symm]
  blk_ext [iblk, idx t]
theorem dv_at (c : Dev nD) (t : Fin cfg0.N) (i : Fin 512) (j : Fin 256) :
    (show FVec Ideal S512x256 .f32 from iblk m c 2 t) (ix2 i j) = dv m c (ix2 (at_ t i) j) := by
  rw [show dv m c = V m c main_arg3 from (V_main_arg3 m c).symm]
  blk_ext [iblk, idx t]

/-- A point's entry, and the result's, from the three parts' columns. -/
abbrev sel (x : Fin 768) (q k v : Fin 256 → EReal) : EReal :=
  if h : x.val < 256 then q ⟨x.val, h⟩ * Ideal.ofBits .f32 0x3E000000#32 else if h' : x.val - 256 < 256 then k ⟨x.val - 256, h'⟩ else v ⟨x.val - 256 - 256, by omega⟩

theorem pay_at (q k v : Vec Ideal S512x256 .f32) (i : S512x768.Idx) :
    k0_pay1 (F := Ideal) q k v i = sel (i 1) (fun j => q (ix2 (i 0) j)) (fun j => k (ix2 (i 0) j)) (fun j => v (ix2 (i 0) j)) := by
  pointwise [k0_pay1, sel]
theorem res_at (q k v : FVec Ideal S8192x256 .f32) (d : FVec Ideal S8192x2304 .f32) (i : Fin 8192) (j : Fin 768) :
    RES q k v d (ix2 i ⟨1536 + j.val, by omega⟩) = sel j (fun j => q (ix2 i j)) (fun j => k (ix2 i j)) (fun j => v (ix2 i j)) := by
  pointwise [RES, sel]
theorem res_keep (q k v : FVec Ideal S8192x256 .f32) (d : FVec Ideal S8192x2304 .f32) (i : Fin 8192) (j : Fin 2304) (hj : j.val < 1536) :
    RES q k v d (ix2 i j) = d (ix2 i j) := by
  pointwise [RES]
  rw [dif_pos hj]

theorem sel_congr {x : Fin 768} {q q' k k' v v' : Fin 256 → EReal} (hq : ∀ j, q j = q' j) (hk : ∀ j, k j = k' j) (hv : ∀ j, v j = v' j) :
    sel x q k v = sel x q' k' v' := by
  rw [funext hq, funext hk, funext hv]

theorem final (c : Dev nD) : (dats m 0 c).arrAt 3 (cfgs 0).N = RES (dq m c) (dk m c) (dv m c) (dh m c) := by
  refine (dats m 0 c).arrAt_eq_of_coversWhere_of_agree 3 _ (fun β => β (1 : Fin 2) = 2) (by decide +kernel) (fun t hf y => ?_) (fun j hj => ?_)
  · have hN : t.val < 16 := lt_of_lt_of_eq t.isLt N_0
    blk_simp
    rw [after0_3]
    unfold outsAt0
    frame_out
    refine (pay_at _ _ _ y).trans ?_
    refine (sel_congr (fun j => dq_at m c t (y 0) j) (fun j => dk_at m c t (y 0) j) (fun j => dv_at m c t (y 0) j)).trans ?_
    refine (res_at (dq m c) (dk m c) (dv m c) (dh m c) (at_ t (y 0)) (y 1)).symm.trans ?_
    have key : ∀ A : FVec Ideal S8192x2304 .f32, A (ix2 (at_ t (y 0)) ⟨1536 + (y 1).val, by have : (y 1).val < 768 := (y 1).isLt; omega⟩)
        = A (((View.whole main_v1).slice (win0_3.rect t)).emb y) := fun A => by
      blk_point [idx t]
    exact key _
  · blk_simp [Pipeline.Window.cell_apply] at hj
    rw [A_eq]
    have h1 : (j 1).val < 2304 := (j 1).isLt
    have key : ∀ A : FVec Ideal S8192x2304 .f32, A ((cfg0.win 3).arr.view.emb j) = A (ix2 (j 0) (j 1)) := fun A => congrArg A (ix2_eta j).symm
    refine Eq.trans ?_ (key _).symm
    refine Eq.trans ?_ (res_keep _ _ _ _ (j 0) (j 1) (by omega)).symm
    exact (key (V m c main_v1)).trans (congrFun (entry_dh m c) _)

theorem tail (c : Dev nD) : Pipeline.afterTail₀ cfgs (dats m) 0 (V0 m) [hostOps1] c main_v2 = (dats m 0 c).arrAt 3 (cfgs 0).N := by
  unfold Pipeline.afterTail₀ hostOps1
  after_results
  exact (Pipeline.withArrays_arr spec0 (by decide) c (V0 m c) (fun w => (dats m 0 c).arrAt w (cfgs 0).N) 3 :)

theorem algebraic : Cert.algebraic_PostcIdeal_PostcReferenceIdeal := by
  intro m g m' g' _ hagree
  refine ⟨fun c => RES (dq m c) (dk m c) (dv m c) (dh m c), ?_, ?_⟩
  · refine (θ_run defs _ _).mono (fun r h c => ⟨((h.1 c).2 main_v2 (by decide)).trans ((tail m c).trans (final m c)), h.2 c⟩)
      (θ_run_and (run_main m g) (unchanged m g))
  · refine (θ_run Cert.PostcReferenceIdeal.defs _ _).mono (fun r h c => ?_) (Cert.PostcReferenceIdeal.Value.run (F := Ideal) m' g')
    obtain ⟨hr, ha⟩ := h c
    obtain ⟨e0, e1, e2, e3, e4⟩ := hagree c
    rw [e1, e2, e3, e4] at hr
    exact ⟨hr, ha⟩

end Cert.PostcIdeal.Hand
-- ==== Proof.PrepbIdeal.Entry.lean ====
/- Mixer B's preparation: what the call reads. The rows of the tables are the cosines and the sines of a token's two angles. -/
module

public import proofs.«01_k».proof.Proof.Gen.PrepbIdeal.Frame
public import proofs.«01_k».proof.Defs
public import Idealize.ShloMosaic.Lib.Pipeline.ValueKit

@[expose] public section

set_option maxRecDepth 16384

noncomputable section

namespace Cert.PrepbIdeal.Hand

open Cert.PrepbIdeal Cert.PrepbIdeal.Gen
open Idealize.ShloMosaic TcCoe Tactic Idealize.SL.Sem

variable (m : (ℓ : Loc nD τ sig) → Buf (Elt Ideal) ℓ)

/-- Mixer B's columns of the input projection, the queries' and the keys' gains. -/
abbrev hh (c : Dev nD) : FVec Ideal S8192x768 .f32 := m ((c : Thread nD τ).loc main_arg0)
abbrev gq (c : Dev nD) : FVec Ideal S64 .f32 := m ((c : Thread nD τ).loc main_arg1)
abbrev gk (c : Dev nD) : FVec Ideal S64 .f32 := m ((c : Thread nD τ).loc main_arg2)

/-- The angles of positions `p`. -/
def ang (p : IVec S8192 32) : FVec Ideal S8192x16 .f32 :=
  mulf (broadcastInDim S8192x16 ![0, 1] bcast_S8192x1_S8192x16_0_1 (broadcastInDim S8192x1 ![0] bcast_S8192_S8192x1_0 (sitofp .f32 p)))
    (broadcastInDim S8192x16 ![0, 1] bcast_S1x16_S8192x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- A token's row and its column in the grid. -/
def rowp : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32)))) (broadcastInDim S8192 ![] bcast_S_S8192 (constantI S_ 32 0#32))))
    (subi (Host.divsi (iotaInDim S8192 32 0) (broadcastInDim S8192 ![] bcast_S_S8192 (id (constantI S_ 32 64#32)))) (broadcastInDim S8192 ![] bcast_S_S8192 (constantI S_ 32 1#32)))
    (Host.divsi (iotaInDim S8192 32 0) (broadcastInDim S8192 ![] bcast_S_S8192 (id (constantI S_ 32 64#32))))
def colw : IVec S_ 32 := select (cmpi .eq (id (constantI S_ 32 64#32)) (constantI S_ 32 0#32)) (constantI S_ 32 1#32) (id (constantI S_ 32 64#32))
def colr : IVec S8192 32 := Host.remsi (iotaInDim S8192 32 0) (broadcastInDim S8192 ![] bcast_S_S8192 colw)
def colp : IVec S8192 32 :=
  select (andi (cmpi .ne (cmpi .slt colr (broadcastInDim S8192 ![] bcast_S_S8192 (constantI S_ 32 0#32)))
      (broadcastInDim S8192 ![] bcast_S_S8192 (cmpi .slt colw (constantI S_ 32 0#32)))) (cmpi .ne colr (broadcastInDim S8192 ![] bcast_S_S8192 (constantI S_ 32 0#32))))
    (addi colr (broadcastInDim S8192 ![] bcast_S_S8192 colw)) colr

abbrev zero : FVec Ideal S8192x16 .f32 := broadcastInDim S8192x16 ![] bcast_S_S8192x16 (constant S_ .f32 0x00000000#32)
abbrev four (a b c d : FVec Ideal S8192x16 .f32) : FVec Ideal S8192x64 .f32 :=
  concatenate S8192x64 1 [⟨S8192x16, a⟩, ⟨S8192x16, b⟩, ⟨S8192x16, c⟩, ⟨S8192x16, d⟩] concatenates_S8192x16_S8192x16_S8192x16_S8192x16_S8192x64_d1
/-- The three tables of a head's width: the cosines, the sines of the first of each pair of lanes, negated, and of the second. -/
def tabC : FVec Ideal S8192x64 .f32 := four (Host.cos (ang rowp)) (Host.cos (ang rowp)) (Host.cos (ang colp)) (Host.cos (ang colp))
def tabM : FVec Ideal S8192x64 .f32 := four (Host.negf (Host.sin (ang rowp))) zero (Host.negf (Host.sin (ang colp))) zero
def tabP : FVec Ideal S8192x64 .f32 := four zero (Host.sin (ang rowp)) zero (Host.sin (ang colp))

/-- A table, or a gain, of every head. -/
abbrev til8 (t : FVec Ideal S8192x64 .f32) : FVec Ideal S8192x512 .f32 :=
  shapeCast _ (broadcastInDim S1x8192x8x64 ![0, 1, 2, 3] bcast_S1x8192x1x64_S1x8192x8x64_0_1_2_3 (shapeCast _ t shapeCasts_S8192x64_S1x8192x1x64)) shapeCasts_S1x8192x8x64_S8192x512
abbrev til2 (t : FVec Ideal S8192x64 .f32) : FVec Ideal S8192x128 .f32 :=
  shapeCast _ (broadcastInDim S1x8192x2x64 ![0, 1, 2, 3] bcast_S1x8192x1x64_S1x8192x2x64_0_1_2_3 (shapeCast _ t shapeCasts_S8192x64_S1x8192x1x64)) shapeCasts_S1x8192x2x64_S8192x128
abbrev gai8 (t : FVec Ideal S64 .f32) : FVec Ideal S1x512 .f32 :=
  broadcastInDim S1x512 ![1] bcast_S512_S1x512_1 (shapeCast _ (broadcastInDim S8x64 ![0, 1] bcast_S1x64_S8x64_0_1 (shapeCast _ t shapeCasts_S64_S1x64)) shapeCasts_S8x64_S512)
abbrev gai2 (t : FVec Ideal S64 .f32) : FVec Ideal S1x128 .f32 :=
  broadcastInDim S1x128 ![1] bcast_S128_S1x128_1 (shapeCast _ (broadcastInDim S2x64 ![0, 1] bcast_S1x64_S2x64_0_1 (shapeCast _ t shapeCasts_S64_S1x64)) shapeCasts_S2x64_S128)

theorem entry_h (c : Dev nD) : V m c main_v56 = hh m c := by
  entry_read; rfl
theorem entry_gq (c : Dev nD) : V m c main_v60 = gai8 (gq m c) := by
  entry_read; rfl
theorem entry_gk (c : Dev nD) : V m c main_v64 = gai2 (gk m c) := by
  entry_read; rfl
theorem after_append {Val : EltTy → Type} (l₁ l₂ : List (HloOp τ sig Val)) (X : Valuation τ sig Val) :
    StableHlo.after (l₁ ++ l₂) X = StableHlo.after l₂ (StableHlo.after l₁ X) := by
  induction l₁ generalizing X with
  | nil => rfl
  | cons op l ih => exact ih _

/-- The host's operations up to the three tables of a head's width. -/
abbrev before : List (HloOp τ sig (Elt Ideal)) := hostOps0 ++ (hostOps0_1 ++ (hostOps0_2 ++ (hostOps0_3 ++ (hostOps0_4 (F := Ideal)).take 38)))
/-- What they leave. -/
def B (c : Dev nD) : Valuation τ sig (Elt Ideal) := StableHlo.after before fun b => m (c, b)
/-- And the three tables. -/
def T (c : Dev nD) : Valuation τ sig (Elt Ideal) := StableHlo.after (((hostOps0_4 (F := Ideal)).drop 38).take 3) (B m c)

theorem split (c : Dev nD) (b : Ref sig .tc) : V m c b = StableHlo.after ((hostOps0_4 (F := Ideal)).drop 41) (T m c) (Proc.devRef .tc b) := by
  unfold T B
  rw [← after_append, ← after_append]
  rfl

theorem B_at (c : Dev nD) : B m c (Proc.devRef .tc main_v15) = Host.cos (ang rowp)
    ∧ B m c (Proc.devRef .tc main_v31) = Host.cos (ang colp)
    ∧ B m c (Proc.devRef .tc main_v16) = Host.sin (ang rowp)
    ∧ B m c (Proc.devRef .tc main_v32) = Host.sin (ang colp)
    ∧ B m c (Proc.devRef .tc main_v18) = Host.negf (Host.sin (ang rowp))
    ∧ B m c (Proc.devRef .tc main_v34) = Host.negf (Host.sin (ang colp))
    ∧ B m c (Proc.devRef .tc main_v17) = zero
    ∧ B m c (Proc.devRef .tc main_v33) = zero := by
  unfold B ang rowp colp colr colw
  simp only [List.take_succ_cons, List.take_zero, List.cons_append, List.nil_append]
  refine ⟨?_, ?_, ?_, ?_, ?_, ?_, ?_, ?_⟩ <;> (entry_read; rfl)

theorem T_35 (c : Dev nD) : T m c (Proc.devRef .tc main_v35) = tabC := by
  have h : T m c (Proc.devRef .tc main_v35) = four (B m c (Proc.devRef .tc main_v15)) (B m c (Proc.devRef .tc main_v15)) (B m c (Proc.devRef .tc main_v31)) (B m c (Proc.devRef .tc main_v31)) := by
    unfold T
    generalize B m c = X
    simp only [List.drop_succ_cons, List.drop_zero, List.take_succ_cons, List.take_zero]
    after_results
    rfl
  obtain ⟨e1, e2, _⟩ := B_at m c; rw [h, e1, e2]; rfl
theorem T_36 (c : Dev nD) : T m c (Proc.devRef .tc main_v36) = tabM := by
  have h : T m c (Proc.devRef .tc main_v36) = four (B m c (Proc.devRef .tc main_v18)) (B m c (Proc.devRef .tc main_v17)) (B m c (Proc.devRef .tc main_v34)) (B m c (Proc.devRef .tc main_v33)) := by
    unfold T
    generalize B m c = X
    simp only [List.drop_succ_cons, List.drop_zero, List.take_succ_cons, List.take_zero]
    after_results
    rfl
  obtain ⟨_, _, _, _, e5, e6, e7, e8⟩ := B_at m c; rw [h, e5, e6, e7, e8]; rfl
theorem T_37 (c : Dev nD) : T m c (Proc.devRef .tc main_v37) = tabP := by
  have h : T m c (Proc.devRef .tc main_v37) = four (B m c (Proc.devRef .tc main_v17)) (B m c (Proc.devRef .tc main_v16)) (B m c (Proc.devRef .tc main_v33)) (B m c (Proc.devRef .tc main_v32)) := by
    unfold T
    generalize B m c = X
    simp only [List.drop_succ_cons, List.drop_zero, List.take_succ_cons, List.take_zero]
    after_results
    rfl
  obtain ⟨_, _, e3, e4, _, _, e7, e8⟩ := B_at m c; rw [h, e7, e3, e8, e4]; rfl

theorem entry_cq (c : Dev nD) : V m c main_v40 = til8 tabC := by
  rw [split, ← T_35 m c]
  generalize T m c = X
  simp only [List.drop_succ_cons, List.drop_zero]
  entry_read
  rfl
theorem entry_mq (c : Dev nD) : V m c main_v43 = til8 tabM := by
  rw [split, ← T_36 m c]
  generalize T m c = X
  simp only [List.drop_succ_cons, List.drop_zero]
  entry_read
  rfl
theorem entry_pq (c : Dev nD) : V m c main_v46 = til8 tabP := by
  rw [split, ← T_37 m c]
  generalize T m c = X
  simp only [List.drop_succ_cons, List.drop_zero]
  entry_read
  rfl
theorem entry_ck (c : Dev nD) : V m c main_v49 = til2 tabC := by
  rw [split, ← T_35 m c]
  generalize T m c = X
  simp only [List.drop_succ_cons, List.drop_zero]
  entry_read
  rfl
theorem entry_mk (c : Dev nD) : V m c main_v52 = til2 tabM := by
  rw [split, ← T_36 m c]
  generalize T m c = X
  simp only [List.drop_succ_cons, List.drop_zero]
  entry_read
  rfl
theorem entry_pk (c : Dev nD) : V m c main_v55 = til2 tabP := by
  rw [split, ← T_37 m c]
  generalize T m c = X
  simp only [List.drop_succ_cons, List.drop_zero]
  entry_read
  rfl

end Cert.PrepbIdeal.Hand

end
-- ==== Proof.PrepbIdeal.Payload.lean ====
/- Mixer B's preparation: what a point writes, row by row. -/
module

public import proofs.«01_k».proof.Proof.PrepbIdeal.Entry

@[expose] public section

set_option maxRecDepth 16384

noncomputable section

namespace Cert.PrepbIdeal.Hand

open Cert.PrepbIdeal Cert.PrepbIdeal.Gen
open Idealize.ShloMosaic TcCoe Tactic Idealize.SL.Sem

/-- Whether two lanes are of one head. -/
def same (k j : ℕ) : BitVec 1 := IntOp.cmpi CmpIPredicate.eq (IntOp.shrsi ArithUnit.vector (BitVec.ofNat 32 k) 6#32) (IntOp.shrsi ArithUnit.vector (BitVec.ofNat 32 j) 6#32)
/-- The sum of a head's squares, as the two halves of the products' format give it. -/
def gs {w : ℕ} (X : Fin w → EReal) (j : Fin w) : EReal :=
  (∑ k : Fin w, Scalar.select (same k.val j.val) (X k * X k) 0) + ∑ k : Fin w, Scalar.select (same k.val j.val) (X k * X k - X k * X k) 0
/-- A row normalised, and turned. -/
def nr {w : ℕ} (X G : Fin w → EReal) (j : Fin w) : EReal := X j * Ideal.rsqrt (gs X j * Ideal.ofBits .f32 0x3C800000#32 + Ideal.ofBits .f32 0x358637BD#32) * G j
def roll {w : ℕ} (N : Fin w → EReal) (s : ℕ) (j : Fin w) : EReal := N ⟨(j.val + w - s) % w, Nat.mod_lt _ (Fin.pos j)⟩
def rt {w : ℕ} (N C M P : Fin w → EReal) (j : Fin w) : EReal := N j * C j + roll N (w - 16) j * M j + roll N 16 j * P j

theorem shr_at : ∀ a : Fin 512, IntOp.shrsi ArithUnit.vector (BitVec.ofNat 32 a.val) 6#32 = BitVec.ofNat 32 (a.val / 64) := by decide +kernel
theorem cmp_at : ∀ a b : Fin 8, IntOp.cmpi CmpIPredicate.eq (BitVec.ofNat 32 a.val) (BitVec.ofNat 32 b.val) = if a.val = b.val then 1#1 else 0#1 := by decide +kernel
theorem same_at (k j : ℕ) (hk : k < 512) (hj : j < 512) : same k j = if k / 64 = j / 64 then 1#1 else 0#1 := by
  unfold same
  rw [shr_at ⟨k, hk⟩, shr_at ⟨j, hj⟩]
  exact cmp_at ⟨k / 64, by omega⟩ ⟨j / 64, by omega⟩
theorem lo_at : ∀ a : Fin 128, IntOp.cmpi CmpIPredicate.slt (IntOp.andi (BitVec.ofNat 32 a.val) 127#32) 64#32 = if a.val < 64 then 1#1 else 0#1 := by decide +kernel
theorem select_if (p : Prop) [Decidable p] (a b : EReal) : Scalar.select (if p then 1#1 else 0#1) a b = if p then a else b := by
  by_cases h : p <;> simp [h, Scalar.select]

/-- The two halves of a row, each twice. -/
theorem dup_at (A : Fin 128 → EReal) (j : Fin 256) :
    (if h : j.val < 128 then Scalar.select (IntOp.cmpi CmpIPredicate.slt (IntOp.andi (BitVec.ofNat 32 j.val) 127#32) 64#32) (A ⟨j.val, h⟩) (A ⟨(j.val + 128 - 64) % 128, by omega⟩)
      else Scalar.select (IntOp.cmpi CmpIPredicate.slt (IntOp.andi (BitVec.ofNat 32 (j.val - 128)) 127#32) 64#32) (A ⟨(j.val - 128 + 128 - 64) % 128, by omega⟩)
        (A ⟨j.val - 128, by omega⟩)) = A ⟨j.val / 128 * 64 + j.val % 64, by omega⟩ := by
  have hj := j.isLt
  split
  · next h =>
    rw [lo_at ⟨j.val, h⟩, select_if]
    split <;> exact congrArg A (Fin.ext (by simp only at *; omega))
  · next h =>
    rw [lo_at ⟨j.val - 128, by omega⟩, select_if]
    split <;> exact congrArg A (Fin.ext (by simp only at *; omega))
theorem one_at (A : Fin 128 → EReal) (o : EReal) (j : Fin 256) :
    (if h : j.val < 128 then Scalar.select (IntOp.cmpi CmpIPredicate.slt (IntOp.andi (BitVec.ofNat 32 j.val) 127#32) 64#32) (A ⟨j.val, h⟩) o
      else Scalar.select (IntOp.cmpi CmpIPredicate.slt (IntOp.andi (BitVec.ofNat 32 (j.val - 128)) 127#32) 64#32) (A ⟨(j.val - 128 + 128 - 64) % 128, by omega⟩)
        o) = if j.val % 128 < 64 then A ⟨j.val / 128 * 64 + j.val % 64, by omega⟩ else o := by
  have hj := j.isLt
  split
  · next h =>
    rw [lo_at ⟨j.val, h⟩, select_if, show j.val % 128 = j.val by omega]
    split
    · exact congrArg A (Fin.ext (by simp only at *; omega))
    · rfl
  · next h =>
    rw [lo_at ⟨j.val - 128, by omega⟩, select_if, show j.val % 128 = j.val - 128 by omega]
    split
    · exact congrArg A (Fin.ext (by simp only at *; omega))
    · rfl

theorem pay16_at (x : Vec Ideal S512x768 .bf16) (g : Vec Ideal S1x512 .f32) (c m p : Vec Ideal S512x512 .f32) (a b : Fin 512) :
    k0_pay16 (F := Ideal) (k0_pay2 g) (k0_pay4 c) (k0_pay5 m) (k0_pay6 p) (k0_pay10 x) (k0_pay13 x) k0_pay14 (k0_pay15 x) (ix2 a b)
      = rt (nr (fun k => x (ix2 a ⟨k.val, by have := k.isLt; omega⟩)) fun k => g (ix2 0 k)) (fun k => c (ix2 a k)) (fun k => m (ix2 a k)) (fun k => p (ix2 a k)) b
        * (((8 * (Real.log 2))⁻¹ : ℝ) : EReal) := by
  pointwise [k0_pay16, k0_pay2, k0_pay4, k0_pay5, k0_pay6, k0_pay10, k0_pay13, k0_pay14, k0_pay15, k0_pay1]
  rfl

theorem pay23_at (x : Vec Ideal S512x768 .bf16) (g : Vec Ideal S1x128 .f32) (c m p : Vec Ideal S512x128 .f32) (a : Fin 512) (b : Fin 256) :
    k0_pay23 (F := Ideal) (k0_pay3 g) (k0_pay7 c) (k0_pay8 m) (k0_pay9 p) (k0_pay11 x) (k0_pay17 (k0_pay11 x)) (ix2 a b)
      = rt (nr (fun k => x (ix2 a ⟨512 + k.val, by have := k.isLt; omega⟩)) fun k => g (ix2 0 k)) (fun k => c (ix2 a k)) (fun k => m (ix2 a k)) (fun k => p (ix2 a k))
          ⟨b.val / 128 * 64 + b.val % 64, by omega⟩ := by
  refine Eq.trans ?_ (dup_at _ b)
  pointwise [k0_pay23, k0_pay3, k0_pay7, k0_pay8, k0_pay9, k0_pay11, k0_pay17, k0_pay18, k0_pay1]
  rfl

theorem pay20_at (x : Vec Ideal S512x768 .bf16) (a : Fin 512) (b : Fin 256) : k0_pay20 (F := Ideal) (k0_pay12 x) (ix2 a b)
    = x (ix2 a ⟨640 + (b.val / 128 * 64 + b.val % 64), by omega⟩) := by
  refine Eq.trans ?_ (dup_at (fun k => x (ix2 a ⟨640 + k.val, by have := k.isLt; omega⟩)) b)
  pointwise [k0_pay20, k0_pay19, k0_pay18, k0_pay12, k0_pay1]

theorem pay21_at (x : Vec Ideal S512x768 .bf16) (a : Fin 512) (b : Fin 256) : k0_pay21 (F := Ideal) (k0_pay12 x) (ix2 a b)
    = if b.val % 128 < 64 then x (ix2 a ⟨640 + (b.val / 128 * 64 + b.val % 64), by omega⟩) else Ideal.ofBits .f32 0x3F800000#32 := by
  refine Eq.trans ?_ (one_at (fun k => x (ix2 a ⟨640 + k.val, by have := k.isLt; omega⟩)) _ b)
  pointwise [k0_pay21, k0_pay19, k0_pay18, k0_pay12, k0_pay1]

end Cert.PrepbIdeal.Hand

end
-- ==== Proof.PrepbIdeal.Call.lean ====
/- Mixer B's preparation: every point writes its own rows. -/
module

public import proofs.«01_k».proof.Proof.PrepbIdeal.Entry
public import proofs.«01_k».proof.Proof.PrepbIdeal.Payload

@[expose] public section

set_option maxRecDepth 16384

noncomputable section

namespace Cert.PrepbIdeal.Hand

open Cert.PrepbIdeal Cert.PrepbIdeal.Gen
open Idealize.ShloMosaic TcCoe Tactic Idealize.SL.Sem

variable (m : (ℓ : Loc nD τ sig) → Buf (Elt Ideal) ℓ)

/-- The queries turned and scaled, the keys turned, each head twice, the values, each head twice and each head beside ones. -/
def QF (h : FVec Ideal S8192x768 .f32) (g : FVec Ideal S1x512 .f32) (C M P : FVec Ideal S8192x512 .f32) : FVec Ideal S8192x512 .f32 := fun i =>
  rt (nr (fun k : Fin 512 => h (ix2 (i 0) ⟨k.val, by have := k.isLt; omega⟩)) fun k => g (ix2 0 k)) (fun k => C (ix2 (i 0) k)) (fun k => M (ix2 (i 0) k)) (fun k => P (ix2 (i 0) k)) (i 1)
    * (((8 * (Real.log 2))⁻¹ : ℝ) : EReal)
def KF (h : FVec Ideal S8192x768 .f32) (g : FVec Ideal S1x128 .f32) (C M P : FVec Ideal S8192x128 .f32) : FVec Ideal S8192x256 .f32 := fun i =>
  rt (nr (fun k : Fin 128 => h (ix2 (i 0) ⟨512 + k.val, by have := k.isLt; omega⟩)) fun k => g (ix2 0 k)) (fun k => C (ix2 (i 0) k)) (fun k => M (ix2 (i 0) k)) (fun k => P (ix2 (i 0) k))
    ⟨(i 1).val / 128 * 64 + (i 1).val % 64, by have : (i 1).val < 256 := (i 1).isLt; omega⟩
def VF (h : FVec Ideal S8192x768 .f32) : FVec Ideal S8192x256 .f32 := fun i =>
  h (ix2 (i 0) ⟨640 + ((i 1).val / 128 * 64 + (i 1).val % 64), by have : (i 1).val < 256 := (i 1).isLt; omega⟩)
def VO (h : FVec Ideal S8192x768 .f32) : FVec Ideal S8192x256 .f32 := fun i =>
  if (i 1).val % 128 < 64 then VF h i else Ideal.ofBits .f32 0x3F800000#32

theorem idx : ∀ t : Fin cfg0.N, win0_0.index t = ![t.val, 0] ∧ win0_1.index t = ![0, 0] ∧ win0_2.index t = ![0, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

theorem idx_9 (t : Fin cfg0.N) : win0_9.index t = ![t.val, 0] := (by decide +kernel : ∀ t : Fin grid0.N, win0_9.index t = ![t.val, 0]) t
theorem idx_10 (t : Fin cfg0.N) : win0_10.index t = ![t.val, 0] := (by decide +kernel : ∀ t : Fin grid0.N, win0_10.index t = ![t.val, 0]) t
theorem idx_11 (t : Fin cfg0.N) : win0_11.index t = ![t.val, 0] := (by decide +kernel : ∀ t : Fin grid0.N, win0_11.index t = ![t.val, 0]) t
theorem idx_12 (t : Fin cfg0.N) : win0_12.index t = ![t.val, 0] := (by decide +kernel : ∀ t : Fin grid0.N, win0_12.index t = ![t.val, 0]) t

/-- A point's row in the whole array. -/
abbrev row (t : Fin cfg0.N) (i : Fin 512) : Fin 8192 := ⟨t.val * 512 + i.val, by
  have : t.val < 16 := lt_of_lt_of_eq t.isLt N_0; omega⟩

theorem b0 (c : Dev nD) (t : Fin cfg0.N) (i : Fin 512) (j : Fin 768) : (show FVec Ideal S512x768 .bf16 from iblk m c 0 t) (ix2 i j) = hh m c (ix2 (row t i) j) := by
  rw [← entry_h m c]
  blk_ext [iblk, idx t]
theorem b1 (c : Dev nD) (t : Fin cfg0.N) (j : Fin 512) : (show FVec Ideal S1x512 .f32 from iblk m c 1 t) (ix2 0 j) = gai8 (gq m c) (ix2 0 j) := by
  rw [← entry_gq m c]
  blk_ext [iblk, idx t]
theorem b2 (c : Dev nD) (t : Fin cfg0.N) (j : Fin 128) : (show FVec Ideal S1x128 .f32 from iblk m c 2 t) (ix2 0 j) = gai2 (gk m c) (ix2 0 j) := by
  rw [← entry_gk m c]
  blk_ext [iblk, idx t]
theorem b3 (c : Dev nD) (t : Fin cfg0.N) (i : Fin 512) (j : Fin 512) : (show FVec Ideal S512x512 .f32 from iblk m c 3 t) (ix2 i j) = til8 tabC (ix2 (row t i) j) := by
  rw [← entry_cq m c]
  blk_ext [iblk, idx t]
theorem b4 (c : Dev nD) (t : Fin cfg0.N) (i : Fin 512) (j : Fin 512) : (show FVec Ideal S512x512 .f32 from iblk m c 4 t) (ix2 i j) = til8 tabM (ix2 (row t i) j) := by
  rw [← entry_mq m c]
  blk_ext [iblk, idx t]
theorem b5 (c : Dev nD) (t : Fin cfg0.N) (i : Fin 512) (j : Fin 512) : (show FVec Ideal S512x512 .f32 from iblk m c 5 t) (ix2 i j) = til8 tabP (ix2 (row t i) j) := by
  rw [← entry_pq m c]
  blk_ext [iblk, idx t]
theorem b6 (c : Dev nD) (t : Fin cfg0.N) (i : Fin 512) (j : Fin 128) : (show FVec Ideal S512x128 .f32 from iblk m c 6 t) (ix2 i j) = til2 tabC (ix2 (row t i) j) := by
  rw [← entry_ck m c]
  blk_ext [iblk, idx t]
theorem b7 (c : Dev nD) (t : Fin cfg0.N) (i : Fin 512) (j : Fin 128) : (show FVec Ideal S512x128 .f32 from iblk m c 7 t) (ix2 i j) = til2 tabM (ix2 (row t i) j) := by
  rw [← entry_mk m c]
  blk_ext [iblk, idx t]
theorem b8 (c : Dev nD) (t : Fin cfg0.N) (i : Fin 512) (j : Fin 128) : (show FVec Ideal S512x128 .f32 from iblk m c 8 t) (ix2 i j) = til2 tabP (ix2 (row t i) j) := by
  rw [← entry_pk m c]
  blk_ext [iblk, idx t]

/-- What a block of the rows gives is what the rows give. -/
theorem q_of (x : Vec Ideal S512x768 .bf16) (g : Vec Ideal S1x512 .f32) (c m p : Vec Ideal S512x512 .f32) (h : FVec Ideal S8192x768 .f32) (G : FVec Ideal S1x512 .f32)
    (C M P : FVec Ideal S8192x512 .f32) (a b : Fin 512) (r : Fin 8192) (h0 : ∀ k, x (ix2 a k) = h (ix2 r k)) (h1 : ∀ k, g (ix2 0 k) = G (ix2 0 k))
    (h3 : ∀ k, c (ix2 a k) = C (ix2 r k)) (h4 : ∀ k, m (ix2 a k) = M (ix2 r k)) (h5 : ∀ k, p (ix2 a k) = P (ix2 r k)) :
    k0_pay16 (F := Ideal) (k0_pay2 g) (k0_pay4 c) (k0_pay5 m) (k0_pay6 p) (k0_pay10 x) (k0_pay13 x) k0_pay14 (k0_pay15 x) (ix2 a b) = QF h G C M P (ix2 r b) := by
  rw [pay16_at]
  simp only [h0, h1, h3, h4, h5]
  rfl
theorem k_of (x : Vec Ideal S512x768 .bf16) (g : Vec Ideal S1x128 .f32) (c m p : Vec Ideal S512x128 .f32) (h : FVec Ideal S8192x768 .f32) (G : FVec Ideal S1x128 .f32)
    (C M P : FVec Ideal S8192x128 .f32) (a : Fin 512) (b : Fin 256) (r : Fin 8192) (h0 : ∀ k, x (ix2 a k) = h (ix2 r k)) (h1 : ∀ k, g (ix2 0 k) = G (ix2 0 k))
    (h3 : ∀ k, c (ix2 a k) = C (ix2 r k)) (h4 : ∀ k, m (ix2 a k) = M (ix2 r k)) (h5 : ∀ k, p (ix2 a k) = P (ix2 r k)) :
    k0_pay23 (F := Ideal) (k0_pay3 g) (k0_pay7 c) (k0_pay8 m) (k0_pay9 p) (k0_pay11 x) (k0_pay17 (k0_pay11 x)) (ix2 a b) = KF h G C M P (ix2 r b) := by
  rw [pay23_at]
  simp only [h0, h1, h3, h4, h5]
  rfl
theorem v_of (x : Vec Ideal S512x768 .bf16) (h : FVec Ideal S8192x768 .f32) (a : Fin 512) (b : Fin 256) (r : Fin 8192) (h0 : ∀ k, x (ix2 a k) = h (ix2 r k)) :
    k0_pay20 (F := Ideal) (k0_pay12 x) (ix2 a b) = VF h (ix2 r b) := by
  rw [pay20_at, h0]
  rfl
theorem o_of (x : Vec Ideal S512x768 .bf16) (h : FVec Ideal S8192x768 .f32) (a : Fin 512) (b : Fin 256) (r : Fin 8192) (h0 : ∀ k, x (ix2 a k) = h (ix2 r k)) :
    k0_pay21 (F := Ideal) (k0_pay12 x) (ix2 a b) = VO h (ix2 r b) := by
  rw [pay21_at, h0]
  rfl

theorem final_9 (c : Dev nD) : (dats m 0 c).arrAt 9 (cfgs 0).N = QF (hh m c) (gai8 (gq m c)) (til8 tabC) (til8 tabM) (til8 tabP) := by
  refine (dats m 0 c).arrAt_eq_of_covers 9 _ (by decide +kernel) fun t hf y => ?_
  blk_simp
  rw [after0_9]
  frame_out
  obtain ⟨a, b, rfl⟩ : ∃ a b, y = ix2 a b := ⟨y 0, y 1, (ix2_eta y).symm⟩
  refine (q_of _ _ _ _ _ (hh m c) (gai8 (gq m c)) (til8 tabC) (til8 tabM) (til8 tabP) a b (row t a) (b0 m c t a) (b1 m c t) (b3 m c t a) (b4 m c t a) (b5 m c t a)).trans ?_
  generalize QF (hh m c) (gai8 (gq m c)) (til8 tabC) (til8 tabM) (til8 tabP) = A
  blk_point [idx_9 t]
theorem final_10 (c : Dev nD) : (dats m 0 c).arrAt 10 (cfgs 0).N = KF (hh m c) (gai2 (gk m c)) (til2 tabC) (til2 tabM) (til2 tabP) := by
  refine (dats m 0 c).arrAt_eq_of_covers 10 _ (by decide +kernel) fun t hf y => ?_
  blk_simp
  rw [after0_10]
  unfold_out out0_10
  frame_out
  obtain ⟨a, b, rfl⟩ : ∃ a b, y = ix2 a b := ⟨y 0, y 1, (ix2_eta y).symm⟩
  refine (k_of _ _ _ _ _ (hh m c) (gai2 (gk m c)) (til2 tabC) (til2 tabM) (til2 tabP) a b (row t a) (b0 m c t a) (b2 m c t) (b6 m c t a) (b7 m c t a) (b8 m c t a)).trans ?_
  generalize KF (hh m c) (gai2 (gk m c)) (til2 tabC) (til2 tabM) (til2 tabP) = A
  blk_point [idx_10 t]
theorem final_11 (c : Dev nD) : (dats m 0 c).arrAt 11 (cfgs 0).N = VF (hh m c) := by
  refine (dats m 0 c).arrAt_eq_of_covers 11 _ (by decide +kernel) fun t hf y => ?_
  blk_simp
  rw [after0_11]
  unfold_out out0_11
  frame_out
  obtain ⟨a, b, rfl⟩ : ∃ a b, y = ix2 a b := ⟨y 0, y 1, (ix2_eta y).symm⟩
  refine (v_of _ (hh m c) a b (row t a) (b0 m c t a)).trans ?_
  generalize VF (hh m c) = A
  blk_point [idx_11 t]
theorem final_12 (c : Dev nD) : (dats m 0 c).arrAt 12 (cfgs 0).N = VO (hh m c) := by
  refine (dats m 0 c).arrAt_eq_of_covers 12 _ (by decide +kernel) fun t hf y => ?_
  blk_simp
  rw [after0_12]
  unfold_out out0_12
  frame_out
  obtain ⟨a, b, rfl⟩ : ∃ a b, y = ix2 a b := ⟨y 0, y 1, (ix2_eta y).symm⟩
  refine (o_of _ (hh m c) a b (row t a) (b0 m c t a)).trans ?_
  generalize VO (hh m c) = A
  blk_point [idx_12 t]

theorem tail_9 (c : Dev nD) : Pipeline.afterTail₀ cfgs (dats m) 0 (V0 m) [hostOps1] c main_v66 = (dats m 0 c).arrAt 9 (cfgs 0).N := by
  unfold Pipeline.afterTail₀ hostOps1
  after_results
  exact (Pipeline.withArrays_arr spec0 (by decide) c (V0 m c) (fun w => (dats m 0 c).arrAt w (cfgs 0).N) 9 :)
theorem tail_10 (c : Dev nD) : Pipeline.afterTail₀ cfgs (dats m) 0 (V0 m) [hostOps1] c main_v67 = (dats m 0 c).arrAt 10 (cfgs 0).N := by
  unfold Pipeline.afterTail₀ hostOps1
  after_results
  exact (Pipeline.withArrays_arr spec0 (by decide) c (V0 m c) (fun w => (dats m 0 c).arrAt w (cfgs 0).N) 10 :)
theorem tail_11 (c : Dev nD) : Pipeline.afterTail₀ cfgs (dats m) 0 (V0 m) [hostOps1] c main_v68 = (dats m 0 c).arrAt 11 (cfgs 0).N := by
  unfold Pipeline.afterTail₀ hostOps1
  after_results
  exact (Pipeline.withArrays_arr spec0 (by decide) c (V0 m c) (fun w => (dats m 0 c).arrAt w (cfgs 0).N) 11 :)
theorem tail_12 (c : Dev nD) : Pipeline.afterTail₀ cfgs (dats m) 0 (V0 m) [hostOps1] c main_v69 = (dats m 0 c).arrAt 12 (cfgs 0).N := by
  unfold Pipeline.afterTail₀ hostOps1
  after_results
  exact (Pipeline.withArrays_arr spec0 (by decide) c (V0 m c) (fun w => (dats m 0 c).arrAt w (cfgs 0).N) 12 :)

end Cert.PrepbIdeal.Hand

end
-- ==== Proof.PrepbIdeal.Head.lean ====
/- A head of mixer B's preparation: normalised, its two halves turned by the row's and the column's angles. -/
module

public import proofs.«01_k».proof.Proof.PrepbIdeal.Payload
public import proofs.«01_k».proof.Proof.Consts

@[expose] public section

noncomputable section

namespace Cert.PrepbIdeal.Hand

open Idealize.ShloMosaic Tactic

/-- A head's lanes, of four quarters. -/
def q4 (a b c d : Fin 16 → EReal) (j : Fin 64) : EReal :=
  if h : j.val < 16 then a ⟨j.val, h⟩ else if h : j.val < 32 then b ⟨j.val - 16, by omega⟩ else if h : j.val < 48 then c ⟨j.val - 32, by omega⟩ else d ⟨j.val - 48, by omega⟩
/-- A head normalised, and turned. -/
def hn (X G : Fin 64 → EReal) (j : Fin 64) : EReal :=
  X j * Ideal.rsqrt (Ideal.div (∑ l, X l * X l) (Ideal.ofBits .f32 0x42800000#32) + Ideal.ofBits .f32 0x358637BD#32) * G j
def hd (N : Fin 64 → EReal) (c s c' s' : Fin 16 → EReal) : Fin 64 → EReal :=
  q4 (fun u => N ⟨u.val, by omega⟩ * c u - N ⟨16 + u.val, by omega⟩ * s u) (fun u => N ⟨16 + u.val, by omega⟩ * c u + N ⟨u.val, by omega⟩ * s u)
    (fun u => N ⟨32 + u.val, by omega⟩ * c' u - N ⟨48 + u.val, by omega⟩ * s' u) (fun u => N ⟨48 + u.val, by omega⟩ * c' u + N ⟨32 + u.val, by omega⟩ * s' u)

theorem b64 : Ideal.ofBits .f32 0x42800000#32 = ((64 : ℝ) : EReal) := by
  simp [Ideal.ofBits, Ideal.ieee, -EReal.coe_mul]; try norm_num
theorem inv64 : Ideal.ofBits .f32 0x3C800000#32 = ((1 / 64 : ℝ) : EReal) := by
  simp [Ideal.ofBits, Ideal.ieee, -EReal.coe_mul]; try norm_num

theorem sum_head {n w : ℕ} (hw : w = 64 * n) (f : Fin w → EReal) (j : Fin w) :
    (∑ k : Fin w, if k.val / 64 = j.val / 64 then f k else 0) = ∑ l : Fin 64, f ⟨j.val / 64 * 64 + l.val, by omega⟩ := by
  rw [← Finset.sum_filter]
  refine Finset.sum_bij' (fun k _ => ⟨k.val % 64, Nat.mod_lt _ (by decide)⟩) (fun l _ => ⟨j.val / 64 * 64 + l.val, by omega⟩) (fun _ _ => Finset.mem_univ _) ?_ ?_ ?_ ?_
  · intro l _
    exact Finset.mem_filter.2 ⟨Finset.mem_univ _, by have := l.isLt; show (j.val / 64 * 64 + l.val) / 64 = _; omega⟩
  · intro k hk
    have := (Finset.mem_filter.1 hk).2
    exact Fin.ext (by show j.val / 64 * 64 + k.val % 64 = _; omega)
  · intro l _
    exact Fin.ext (by have := l.isLt; show (j.val / 64 * 64 + l.val) % 64 = _; omega)
  · intro k hk
    have := (Finset.mem_filter.1 hk).2
    exact congrArg f (Fin.ext (by show _ = j.val / 64 * 64 + k.val % 64; omega))

section
variable {n w : ℕ} (hw : w = 64 * n) (h512 : w ≤ 512) (X G C M P : Fin w → EReal) (hX : ∀ k, ∃ r : ℝ, X k = r)
include hw h512 hX

theorem gs_head (j : Fin w) : gs X j = ∑ l : Fin 64, X ⟨j.val / 64 * 64 + l.val, by omega⟩ * X ⟨j.val / 64 * 64 + l.val, by omega⟩ := by
  have h2 : ∀ k, X k * X k - X k * X k = 0 := fun k => by
    obtain ⟨r, hr⟩ := hX k
    rw [hr, ← EReal.coe_mul, ← EReal.coe_sub, sub_self]; rfl
  unfold gs
  have e : ∀ k : Fin w, same k.val j.val = if k.val / 64 = j.val / 64 then 1#1 else 0#1 := fun k => same_at _ _ (by omega) (by omega)
  simp only [e, select_if, h2, ite_self, Finset.sum_const_zero, add_zero]
  exact sum_head hw (fun k => X k * X k) j

theorem nr_head (G' : Fin 64 → EReal) (hG : ∀ k : Fin w, G k = G' ⟨k.val % 64, Nat.mod_lt _ (by decide)⟩) (j : Fin w) :
    nr X G j = hn (fun l => X ⟨j.val / 64 * 64 + l.val, by omega⟩) G' ⟨j.val % 64, Nat.mod_lt _ (by decide)⟩ := by
  unfold nr hn
  rw [gs_head hw h512 X hX, hG, b64, Ideal.div_coe (by norm_num), inv64]
  have e : X j = X ⟨j.val / 64 * 64 + j.val % 64, by omega⟩ := congrArg X (Fin.ext (by show _ = j.val / 64 * 64 + j.val % 64; omega))
  rw [e]

theorem rt_head (G' : Fin 64 → EReal) (hG : ∀ k : Fin w, G k = G' ⟨k.val % 64, Nat.mod_lt _ (by decide)⟩) (c s c' s' : Fin 16 → EReal)
    (hC : ∀ k : Fin w, C k = q4 c c c' c' ⟨k.val % 64, Nat.mod_lt _ (by decide)⟩)
    (hM : ∀ k : Fin w, M k = q4 (fun u => -s u) (fun _ => 0) (fun u => -s' u) (fun _ => 0) ⟨k.val % 64, Nat.mod_lt _ (by decide)⟩)
    (hP : ∀ k : Fin w, P k = q4 (fun _ => 0) s (fun _ => 0) s' ⟨k.val % 64, Nat.mod_lt _ (by decide)⟩) (j : Fin w) :
    rt (nr X G) C M P j = hd (hn (fun l => X ⟨j.val / 64 * 64 + l.val, by omega⟩) G') c s c' s' ⟨j.val % 64, Nat.mod_lt _ (by decide)⟩ := by
  have hj := j.isLt
  have N : ∀ (k : Fin w) (u : Fin 64), k.val = j.val / 64 * 64 + u.val → nr X G k = hn (fun l => X ⟨j.val / 64 * 64 + l.val, by omega⟩) G' u := fun k u e => by
    have hu := u.isLt
    have e1 : k.val / 64 = j.val / 64 := by omega
    have e2 : k.val % 64 = u.val := by omega
    rw [nr_head hw h512 X G hX G' hG k]
    simp only [e1, e2]
  generalize hnn : hn (fun l => X ⟨j.val / 64 * 64 + l.val, by omega⟩) G' = H at N ⊢
  unfold rt roll hd
  rw [hC, hM, hP]
  unfold q4
  have up : j.val % 64 < 48 → (j.val + w - (w - 16)) % w = j.val + 16 := fun h => by
    rw [show j.val + w - (w - 16) = j.val + 16 by omega]; exact Nat.mod_eq_of_lt (by omega)
  have dn : 16 ≤ j.val % 64 → (j.val + w - 16) % w = j.val - 16 := fun h => by
    rw [show j.val + w - 16 = (j.val - 16) + w by omega, Nat.add_mod_right]; exact Nat.mod_eq_of_lt (by omega)
  simp only
  split
  · next h =>
    rw [N j ⟨j.val % 64, by omega⟩ (by show _ = j.val / 64 * 64 + j.val % 64; omega),
      N ⟨(j.val + w - (w - 16)) % w, _⟩ ⟨16 + j.val % 64, by omega⟩ (by show (j.val + w - (w - 16)) % w = j.val / 64 * 64 + (16 + j.val % 64); rw [up (by omega)]; omega),
      mul_zero, add_zero, mul_neg]
    rfl
  · split
    · next h0 h =>
      rw [N j ⟨16 + (j.val % 64 - 16), by omega⟩ (by show _ = j.val / 64 * 64 + (16 + (j.val % 64 - 16)); omega),
        N ⟨(j.val + w - 16) % w, _⟩ ⟨j.val % 64 - 16, by omega⟩ (by show (j.val + w - 16) % w = j.val / 64 * 64 + (j.val % 64 - 16); rw [dn (by omega)]; omega),
        mul_zero, add_zero]
    · split
      · next h1 h0 h =>
        rw [N j ⟨32 + (j.val % 64 - 32), by omega⟩ (by show _ = j.val / 64 * 64 + (32 + (j.val % 64 - 32)); omega),
          N ⟨(j.val + w - (w - 16)) % w, _⟩ ⟨48 + (j.val % 64 - 32), by omega⟩ (by show (j.val + w - (w - 16)) % w = j.val / 64 * 64 + (48 + (j.val % 64 - 32)); rw [up (by omega)]; omega),
          mul_zero, add_zero, mul_neg]
        rfl
      · next h2 h1 h0 =>
        rw [N j ⟨48 + (j.val % 64 - 48), by omega⟩ (by show _ = j.val / 64 * 64 + (48 + (j.val % 64 - 48)); omega),
          N ⟨(j.val + w - 16) % w, _⟩ ⟨32 + (j.val % 64 - 48), by omega⟩ (by show (j.val + w - 16) % w = j.val / 64 * 64 + (32 + (j.val % 64 - 48)); rw [dn (by omega)]; omega),
          mul_zero, add_zero]
end

end Cert.PrepbIdeal.Hand

end
-- ==== Proof.PrepbIdeal.Ref.lean ====
/- Mixer B's preparation: the tables at a lane, and the reference's results. -/
module

public import proofs.«01_k».proof.Proof.PrepbIdeal.Entry
public import proofs.«01_k».proof.Proof.PrepbIdeal.Head
public import proofs.«01_k».proof.Proof.Gen.PrepbReferenceIdeal.Run

@[expose] public section

set_option maxRecDepth 16384

noncomputable section

namespace Cert.PrepbIdeal.Hand

open Cert.PrepbIdeal Cert.PrepbIdeal.Gen
open Idealize.ShloMosaic TcCoe Tactic Idealize.SL.Sem

/-- The cosines and the sines of a token's row and column. -/
abbrev c1 (a : Fin 8192) (u : Fin 16) : EReal := (Host.cos (ang rowp) : FVec Ideal S8192x16 .f32) (ix2 a u)
abbrev s1 (a : Fin 8192) (u : Fin 16) : EReal := (Host.sin (ang rowp) : FVec Ideal S8192x16 .f32) (ix2 a u)
abbrev c2 (a : Fin 8192) (u : Fin 16) : EReal := (Host.cos (ang colp) : FVec Ideal S8192x16 .f32) (ix2 a u)
abbrev s2 (a : Fin 8192) (u : Fin 16) : EReal := (Host.sin (ang colp) : FVec Ideal S8192x16 .f32) (ix2 a u)

theorem four_at (p q r s : FVec Ideal S8192x16 .f32) (a : Fin 8192) (j : Fin 64) : four p q r s (ix2 a j)
    = q4 (fun u => p (ix2 a u)) (fun u => q (ix2 a u)) (fun u => r (ix2 a u)) (fun u => s (ix2 a u)) j := by
  unfold q4
  pointwise [four]
  simp only [Nat.sub_sub, Nat.reduceAdd]
  repeat' split
  all_goals first | rfl | omega
theorem til8_at (t : FVec Ideal S8192x64 .f32) (a : Fin 8192) (k : Fin 512) : til8 t (ix2 a k) = t (ix2 a ⟨k.val % 64, Nat.mod_lt _ (by decide)⟩) := by
  pointwise [til8]
theorem til2_at (t : FVec Ideal S8192x64 .f32) (a : Fin 8192) (k : Fin 128) : til2 t (ix2 a k) = t (ix2 a ⟨k.val % 64, Nat.mod_lt _ (by decide)⟩) := by
  pointwise [til2]
theorem gai8_at (t : FVec Ideal S64 .f32) (k : Fin 512) : gai8 t (ix2 0 k) = t (ix1 ⟨k.val % 64, Nat.mod_lt _ (by decide)⟩) := by
  pointwise [gai8]
theorem gai2_at (t : FVec Ideal S64 .f32) (k : Fin 128) : gai2 t (ix2 0 k) = t (ix1 ⟨k.val % 64, Nat.mod_lt _ (by decide)⟩) := by
  pointwise [gai2]
theorem neg_at (p : FVec Ideal S8192x16 .f32) (i : S8192x16.Idx) : Host.negf p i = -(p i : EReal) := by
  pointwise
theorem zero_at (i : S8192x16.Idx) : zero i = 0 := by
  pointwise [zero]

open Cert.PrepbReferenceIdeal.Value

variable (X : Valuation Cert.PrepbReferenceIdeal.τ Cert.PrepbReferenceIdeal.sig (Elt Ideal))

theorem ang_row : res_main_v33 (F := Ideal) X = ang rowp := by
  unfold ang rowp; rfl
theorem ang_col : res_main_v64 (F := Ideal) X = ang colp := by
  unfold ang colp colr colw; rfl
theorem ang_row' : res_main_v116 (F := Ideal) X = ang rowp := ang_row X
theorem ang_col' : res_main_v147 (F := Ideal) X = ang colp := ang_col X

open Cert.PrepbReferenceIdeal Cert.PrepbReferenceIdeal.Gen in
theorem nq_at (h : FVec Ideal S8192x768 .f32) (g : FVec Ideal S64 .f32)
    (e0 : X (Proc.devRef .tc Cert.PrepbReferenceIdeal.main_arg0) = h) (e1 : X (Proc.devRef .tc Cert.PrepbReferenceIdeal.main_arg1) = g) (a : Fin 8192) (e : Fin 8) (l : Fin 64) :
    (res_main_v18 (F := Ideal) X : FVec Ideal S8192x8x64 .f32) (ix3 a e l) = hn (fun l => h (ix2 a ⟨e.val * 64 + l.val, by omega⟩)) (fun l => g (ix1 l)) l := by
  unfold hn
  unfold res_main_v18 res_main_v1
  rw [e0, e1]
  pointwise
open Cert.PrepbReferenceIdeal Cert.PrepbReferenceIdeal.Gen in
theorem rk_at (N : FVec Ideal S8192x2x64 .f32)
    (e0 : res_main_v101 (F := Ideal) X = N) (a : Fin 8192) (e : Fin 2) (l : Fin 64) :
    (res_main_v165 (F := Ideal) X : FVec Ideal S8192x2x64 .f32) (ix3 a e l) = hd (fun l => N (ix3 a e l)) (c1 a) (s1 a) (c2 a) (s2 a) l := by
  unfold res_main_v165 res_main_v121 res_main_v122 res_main_v152 res_main_v153 res_main_v103 res_main_v134 res_main_v118 res_main_v120 res_main_v149 res_main_v151
  rw [e0, ang_row', ang_col']
  unfold hd q4 c1 s1 c2 s2
  generalize (Host.cos (ang rowp) : FVec Ideal S8192x16 .f32) = C1
  generalize (Host.sin (ang rowp) : FVec Ideal S8192x16 .f32) = C2
  generalize (Host.cos (ang colp) : FVec Ideal S8192x16 .f32) = C3
  generalize (Host.sin (ang colp) : FVec Ideal S8192x16 .f32) = C4
  pointwise
  simp only [Nat.sub_sub, ← Nat.add_assoc, Nat.reduceAdd]
  repeat' split
  all_goals first | rfl | omega
open Cert.PrepbReferenceIdeal Cert.PrepbReferenceIdeal.Gen in
/-- The reference's turned queries. -/
abbrev RQ : FVec Ideal S8192x8x64 .f32 :=
  concatenate S8192x8x64 2 [⟨S8192x8x32, (concatenate S8192x8x32 2 [⟨S8192x8x16, (subf (mulf (res_main_v38 X) (broadcastInDim S8192x8x16 ![0, 1, 2] bcast_S8192x1x16_S8192x8x16_0_1_2 (res_main_v35 X))) (mulf (res_main_v39 X) (broadcastInDim S8192x8x16 ![0, 1, 2] bcast_S8192x1x16_S8192x8x16_0_1_2 (res_main_v37 X))))⟩, ⟨S8192x8x16, (addf (mulf (res_main_v39 X) (broadcastInDim S8192x8x16 ![0, 1, 2] bcast_S8192x1x16_S8192x8x16_0_1_2 (res_main_v35 X))) (mulf (res_main_v38 X) (broadcastInDim S8192x8x16 ![0, 1, 2] bcast_S8192x1x16_S8192x8x16_0_1_2 (res_main_v37 X))))⟩] concatenates_S8192x8x16_S8192x8x16_S8192x8x32_d2)⟩, ⟨S8192x8x32, (concatenate S8192x8x32 2 [⟨S8192x8x16, (subf (mulf (res_main_v69 X) (broadcastInDim S8192x8x16 ![0, 1, 2] bcast_S8192x1x16_S8192x8x16_0_1_2 (res_main_v66 X))) (mulf (res_main_v70 X) (broadcastInDim S8192x8x16 ![0, 1, 2] bcast_S8192x1x16_S8192x8x16_0_1_2 (res_main_v68 X))))⟩, ⟨S8192x8x16, (addf (mulf (res_main_v70 X) (broadcastInDim S8192x8x16 ![0, 1, 2] bcast_S8192x1x16_S8192x8x16_0_1_2 (res_main_v66 X))) (mulf (res_main_v69 X) (broadcastInDim S8192x8x16 ![0, 1, 2] bcast_S8192x1x16_S8192x8x16_0_1_2 (res_main_v68 X))))⟩] concatenates_S8192x8x16_S8192x8x16_S8192x8x32_d2)⟩] concatenates_S8192x8x32_S8192x8x32_S8192x8x64_d2
open Cert.PrepbReferenceIdeal Cert.PrepbReferenceIdeal.Gen in
theorem rq_at (N : FVec Ideal S8192x8x64 .f32)
    (e0 : res_main_v18 (F := Ideal) X = N) (a : Fin 8192) (e : Fin 8) (l : Fin 64) : RQ X (ix3 a e l) = hd (fun l => N (ix3 a e l)) (c1 a) (s1 a) (c2 a) (s2 a) l := by
  unfold RQ res_main_v38 res_main_v39 res_main_v69 res_main_v70 res_main_v20 res_main_v51 res_main_v35 res_main_v37 res_main_v66 res_main_v68
  rw [e0, ang_row, ang_col]
  unfold hd q4 c1 s1 c2 s2
  generalize (Host.cos (ang rowp) : FVec Ideal S8192x16 .f32) = C1
  generalize (Host.sin (ang rowp) : FVec Ideal S8192x16 .f32) = C2
  generalize (Host.cos (ang colp) : FVec Ideal S8192x16 .f32) = C3
  generalize (Host.sin (ang colp) : FVec Ideal S8192x16 .f32) = C4
  pointwise
  simp only [Nat.sub_sub, ← Nat.add_assoc, Nat.reduceAdd]
  repeat' split
  all_goals first | rfl | omega
open Cert.PrepbReferenceIdeal Cert.PrepbReferenceIdeal.Gen in
theorem nk_at (h : FVec Ideal S8192x768 .f32) (g : FVec Ideal S64 .f32)
    (e0 : X (Proc.devRef .tc Cert.PrepbReferenceIdeal.main_arg0) = h) (e1 : X (Proc.devRef .tc Cert.PrepbReferenceIdeal.main_arg2) = g) (a : Fin 8192) (e : Fin 2) (l : Fin 64) :
    (res_main_v101 (F := Ideal) X : FVec Ideal S8192x2x64 .f32) (ix3 a e l) = hn (fun l => h (ix2 a ⟨512 + (e.val * 64 + l.val), by omega⟩)) (fun l => g (ix1 l)) l := by
  unfold hn
  unfold res_main_v101 res_main_v3
  rw [e0, e1]
  pointwise

/-- A quotient by the scale and by the logarithm of two. -/
theorem scale_eq (y : EReal) : Ideal.div (y * Ideal.ofBits .f32 0x3E000000#32) (Ideal.log (Ideal.ofBits .f32 0x40000000#32)) = y * (((8 * (Real.log 2))⁻¹ : ℝ) : EReal) := by
  have hl : Real.log 2 ≠ 0 := (Real.log_pos (by norm_num)).ne'
  have e : Ideal.ofBits .f32 0x3E000000#32 = ((1 / 8 : ℝ) : EReal) := by
    simp [Ideal.ofBits, Ideal.ieee, -EReal.coe_mul]; try norm_num
  rw [Cert.Consts.ofBits_two, Cert.Consts.log_real (by norm_num), Ideal.div_coe hl, e, mul_assoc, ← EReal.coe_mul]
  congr 2
  field_simp

open Cert.PrepbReferenceIdeal Cert.PrepbReferenceIdeal.Gen in
theorem out_q (Q : FVec Ideal S8192x8x64 .f32) (a : Fin 8192) (j : Fin 512) :
    (shapeCast _ (Host.divf (mulf Q (broadcastInDim S8192x8x64 ![] bcast_S_S8192x8x64 (constant S_ .f32 0x3E000000#32))) (broadcastInDim S8192x8x64 ![] bcast_S_S8192x8x64 (id (Host.log (constant S_ .f32 0x40000000#32))))) shapeCasts_S8192x8x64_S8192x512 : FVec Ideal S8192x512 .f32) (ix2 a j)
      = Q (ix3 a ⟨j.val / 64, by omega⟩ ⟨j.val % 64, Nat.mod_lt _ (by decide)⟩) * (((8 * (Real.log 2))⁻¹ : ℝ) : EReal) := by
  refine Eq.trans ?_ (scale_eq _)
  pointwise
  rfl
open Cert.PrepbReferenceIdeal Cert.PrepbReferenceIdeal.Gen in
theorem out_k (K : FVec Ideal S8192x2x64 .f32) (a : Fin 8192) (j : Fin 256) :
    (shapeCast _ (concatenate S8192x2x128 2 [⟨S8192x2x64, K⟩, ⟨S8192x2x64, K⟩] concatenates_S8192x2x64_S8192x2x64_S8192x2x128_d2) shapeCasts_S8192x2x128_S8192x256 : FVec Ideal S8192x256 .f32) (ix2 a j)
      = K (ix3 a ⟨j.val / 128, by omega⟩ ⟨j.val % 64, Nat.mod_lt _ (by decide)⟩) := by
  pointwise
  split <;> exact congrArg (fun l => K (ix3 a ⟨j.val / 128, by omega⟩ l)) (Fin.ext (by simp only; omega))
open Cert.PrepbReferenceIdeal Cert.PrepbReferenceIdeal.Gen in
theorem out_o (K : FVec Ideal S8192x2x64 .f32) (a : Fin 8192) (j : Fin 256) :
    (shapeCast _ (concatenate S8192x2x128 2 [⟨S8192x2x64, K⟩, ⟨S8192x2x64, (broadcastInDim S8192x2x64 ![] bcast_S_S8192x2x64 (constant S_ .f32 0x3F800000#32))⟩] concatenates_S8192x2x64_S8192x2x64_S8192x2x128_d2) shapeCasts_S8192x2x128_S8192x256 : FVec Ideal S8192x256 .f32) (ix2 a j)
      = if j.val % 128 < 64 then K (ix3 a ⟨j.val / 128, by omega⟩ ⟨j.val % 64, Nat.mod_lt _ (by decide)⟩) else Ideal.ofBits .f32 0x3F800000#32 := by
  pointwise
  split
  · exact congrArg (fun l => K (ix3 a ⟨j.val / 128, by omega⟩ l)) (Fin.ext (by simp only; omega))
  · rfl
open Cert.PrepbReferenceIdeal Cert.PrepbReferenceIdeal.Gen in
theorem v_at (h : FVec Ideal S8192x768 .f32)
    (e0 : X (Proc.devRef .tc Cert.PrepbReferenceIdeal.main_arg0) = h) (a : Fin 8192) (e : Fin 2) (l : Fin 64) :
    (res_main_v5 (F := Ideal) X : FVec Ideal S8192x2x64 .f32) (ix3 a e l) = h (ix2 a ⟨640 + (e.val * 64 + l.val), by omega⟩) := by
  unfold res_main_v5
  rw [e0]
  pointwise

end Cert.PrepbIdeal.Hand

end
-- ==== Proof.PrepbIdeal.Value.lean ====
/- Mixer B's preparation is the reference's, of finite queries and keys. -/
module

public import proofs.«01_k».proof.Proof.PrepbIdeal.Call
public import proofs.«01_k».proof.Proof.PrepbIdeal.Ref
public import proofs.«01_k».proof.Pre_finite_qk
public import proofs.«01_k».proof.Proof.Finite

@[expose] public section

set_option maxRecDepth 16384

noncomputable section

namespace Cert.Pre_finite_qk.Hand

open Idealize.ShloMosaic Tactic Cert.Pre_finite_qk

theorem facts : Cert.Pre_finite_qk.Facts where
  slices_S8192x768_S8192x640_0_0 := by decide
  bcast_S_S8192x640 := by decide
  reducesTo_S8192x640_S_d0_1 := by decide
  h_S_ := by decide

attribute [local instance] facts

theorem real_at (h : FVec Ideal S8192x768 .f32) (g k : FVec Ideal S64 .f32) (e : fn (F := Ideal) h g k = fun _ => 1#1) (a : Fin 8192) (j : Fin 768) (hj : j.val < 640) :
    ∃ r : ℝ, h (ix2 a j) = (r : EReal) := by
  have e := congrFun e ix0
  unfold fn at e
  obtain ⟨r, hr⟩ := Cert.Pre_finite.Hand.real_of _ _ _ _ e (ix2 a ⟨j.val, hj⟩)
  refine ⟨r, Eq.trans ?_ hr⟩
  pointwise

end Cert.Pre_finite_qk.Hand

namespace Cert.PrepbIdeal.Hand

open Cert.PrepbIdeal Cert.PrepbIdeal.Gen
open Idealize.ShloMosaic TcCoe Tactic Idealize.SL.Sem

attribute [local instance] Cert.Pre_finite_qk.Hand.facts

theorem tabs (a : Fin 8192) (l : Fin 64) : tabC (ix2 a l) = q4 (c1 a) (c1 a) (c2 a) (c2 a) l
    ∧ tabM (ix2 a l) = q4 (fun u => -s1 a u) (fun _ => 0) (fun u => -s2 a u) (fun _ => 0) l ∧ tabP (ix2 a l) = q4 (fun _ => 0) (s1 a) (fun _ => 0) (s2 a) l := by
  unfold tabC tabM tabP
  refine ⟨four_at _ _ _ _ a l, (four_at _ _ _ _ a l).trans ?_, (four_at _ _ _ _ a l).trans ?_⟩
  · simp only [neg_at, zero_at]
  · simp only [zero_at]

theorem qf_at (h : FVec Ideal S8192x768 .f32) (g : FVec Ideal S64 .f32) (a : Fin 8192) (hX : ∀ j : Fin 768, j.val < 640 → ∃ r : ℝ, h (ix2 a j) = (r : EReal)) (j : Fin 512) :
    QF h (gai8 g) (til8 tabC) (til8 tabM) (til8 tabP) (ix2 a j)
      = hd (hn (fun l => h (ix2 a ⟨j.val / 64 * 64 + l.val, by omega⟩)) fun l => g (ix1 l)) (c1 a) (s1 a) (c2 a) (s2 a) ⟨j.val % 64, Nat.mod_lt _ (by decide)⟩
        * (((8 * (Real.log 2))⁻¹ : ℝ) : EReal) :=
  congrArg (· * (((8 * (Real.log 2))⁻¹ : ℝ) : EReal)) (rt_head (n := 8) (by decide) (by decide) (fun k : Fin 512 => h (ix2 a ⟨k.val, by have := k.isLt; omega⟩)) _ _ _ _
    (fun k => hX _ (by have := k.isLt; show k.val < 640; omega)) (fun l => g (ix1 l)) (gai8_at g) (c1 a) (s1 a) (c2 a) (s2 a)
    (fun k => (til8_at _ a k).trans (tabs a _).1) (fun k => (til8_at _ a k).trans (tabs a _).2.1) (fun k => (til8_at _ a k).trans (tabs a _).2.2) j)

theorem kf_at (h : FVec Ideal S8192x768 .f32) (g : FVec Ideal S64 .f32) (a : Fin 8192) (hX : ∀ j : Fin 768, j.val < 640 → ∃ r : ℝ, h (ix2 a j) = (r : EReal)) (j : Fin 256) :
    KF h (gai2 g) (til2 tabC) (til2 tabM) (til2 tabP) (ix2 a j)
      = hd (hn (fun l => h (ix2 a ⟨512 + (j.val / 128 * 64 + l.val), by omega⟩)) fun l => g (ix1 l)) (c1 a) (s1 a) (c2 a) (s2 a) ⟨j.val % 64, Nat.mod_lt _ (by decide)⟩ := by
  refine (rt_head (n := 2) (by decide) (by decide) (fun k : Fin 128 => h (ix2 a ⟨512 + k.val, by have := k.isLt; omega⟩)) _ _ _ _
    (fun k => hX _ (by have := k.isLt; show 512 + k.val < 640; omega)) (fun l => g (ix1 l)) (gai2_at g) (c1 a) (s1 a) (c2 a) (s2 a)
    (fun k => (til2_at _ a k).trans (tabs a _).1) (fun k => (til2_at _ a k).trans (tabs a _).2.1) (fun k => (til2_at _ a k).trans (tabs a _).2.2)
    ⟨j.val / 128 * 64 + j.val % 64, by omega⟩).trans ?_
  have e1 : (j.val / 128 * 64 + j.val % 64) / 64 = j.val / 128 := by omega
  have e2 : (j.val / 128 * 64 + j.val % 64) % 64 = j.val % 64 := by omega
  simp only [e1, e2]

theorem algebraic : Cert.algebraic_PrepbIdeal_PrepbReferenceIdeal_pre_finite_qk := by
  intro m g m' g' hpre hagree
  refine ⟨fun c => QF (hh m c) (gai8 (gq m c)) (til8 tabC) (til8 tabM) (til8 tabP), fun c => KF (hh m c) (gai2 (gk m c)) (til2 tabC) (til2 tabM) (til2 tabP), fun c => VF (hh m c),
    fun c => VO (hh m c), ?_, ?_⟩
  · refine (θ_run defs _ _).mono (fun r h c => ⟨((h.1 c).2 main_v66 (by decide)).trans ((tail_9 m c).trans (final_9 m c)),
      ((h.1 c).2 main_v67 (by decide)).trans ((tail_10 m c).trans (final_10 m c)), ((h.1 c).2 main_v68 (by decide)).trans ((tail_11 m c).trans (final_11 m c)),
      ((h.1 c).2 main_v69 (by decide)).trans ((tail_12 m c).trans (final_12 m c)), h.2 c⟩)
      (θ_run_and (run_main m g) (unchanged m g))
  · refine (θ_run Cert.PrepbReferenceIdeal.defs _ _).mono (fun r h c => ?_) (Cert.PrepbReferenceIdeal.Value.run (F := Ideal) m' g')
    obtain ⟨h0, h1, h2, h3, ha⟩ := h c
    obtain ⟨e0, e1, e2⟩ := hagree c
    have hX := fun a => Cert.Pre_finite_qk.Hand.real_at _ _ _ (hpre c) a
    refine ⟨h0.trans ?_, h1.trans ?_, h2.trans ?_, h3.trans ?_, ha⟩
    · funext i
      obtain ⟨a, b, rfl⟩ : ∃ a b, i = ix2 a b := ⟨i 0, i 1, (ix2_eta i).symm⟩
      refine (out_q (RQ _) a b).trans (Eq.trans ?_ (qf_at (hh m c) (gq m c) a (hX a) b).symm)
      refine congrArg (· * (((8 * (Real.log 2))⁻¹ : ℝ) : EReal)) ((rq_at _ _ rfl a _ _).trans ?_)
      exact congrArg (fun N => hd N (c1 a) (s1 a) (c2 a) (s2 a) _) (funext fun l => nq_at _ (hh m c) (gq m c) e0 e1 a _ l)
    · funext i
      obtain ⟨a, b, rfl⟩ : ∃ a b, i = ix2 a b := ⟨i 0, i 1, (ix2_eta i).symm⟩
      refine (out_k _ a b).trans (Eq.trans ?_ (kf_at (hh m c) (gk m c) a (hX a) b).symm)
      refine (rk_at _ _ rfl a _ _).trans ?_
      exact congrArg (fun N => hd N (c1 a) (s1 a) (c2 a) (s2 a) _) (funext fun l => nk_at _ (hh m c) (gk m c) e0 e2 a _ l)
    · funext i
      obtain ⟨a, b, rfl⟩ : ∃ a b, i = ix2 a b := ⟨i 0, i 1, (ix2_eta i).symm⟩
      exact (out_k _ a b).trans (v_at _ (hh m c) e0 a _ _)
    · funext i
      obtain ⟨a, b, rfl⟩ : ∃ a b, i = ix2 a b := ⟨i 0, i 1, (ix2_eta i).symm⟩
      refine (out_o _ a b).trans ?_
      rw [v_at _ (hh m c) e0 a]
      rfl

end Cert.PrepbIdeal.Hand

end
-- ==== Proof.PrepcIdeal.Value.lean ====
/- Mixer C's scaled queries, its keys and values: every point writes its own rows. -/
module

public import proofs.«01_k».proof.Proof.Gen.PrepcIdeal.Frame
public import proofs.«01_k».proof.Proof.Gen.PrepcReferenceIdeal.Run
public import proofs.«01_k».proof.Defs
public import Idealize.ShloMosaic.Lib.Pipeline.ValueKit

@[expose] public section

set_option maxRecDepth 16384

noncomputable section

namespace Cert.PrepcIdeal.Hand

open Cert.PrepcIdeal Cert.PrepcIdeal.Gen
open Idealize.ShloMosaic TcCoe Tactic Idealize.SL.Sem

variable (m : (ℓ : Loc nD τ sig) → Buf (Elt Ideal) ℓ)

/-- The reference's scaled queries, keys and values. -/
abbrev QQ (h : FVec Ideal S8192x768 .f32) : FVec Ideal S8192x256 .f32 :=
  mulf (extractStridedSlice Cert.PrepcReferenceIdeal.S8192x256 ![0, 0] h Cert.PrepcReferenceIdeal.Gen.slices_S8192x768_S8192x256_0_0)
    (broadcastInDim Cert.PrepcReferenceIdeal.S8192x256 ![] Cert.PrepcReferenceIdeal.Gen.bcast_S_S8192x256 (constant Cert.PrepcReferenceIdeal.S_ .f32 0x3E000000#32))
abbrev KK (h : FVec Ideal S8192x768 .f32) : FVec Ideal S8192x256 .f32 :=
  extractStridedSlice Cert.PrepcReferenceIdeal.S8192x256 ![0, 256] h Cert.PrepcReferenceIdeal.Gen.slices_S8192x768_S8192x256_0_256
abbrev VV (h : FVec Ideal S8192x768 .f32) : FVec Ideal S8192x256 .f32 :=
  extractStridedSlice Cert.PrepcReferenceIdeal.S8192x256 ![0, 512] h Cert.PrepcReferenceIdeal.Gen.slices_S8192x768_S8192x256_0_512

/-- Mixer C's columns of the input projection. -/
abbrev hh (c : Dev nD) : FVec Ideal S8192x768 .f32 := m ((c : Thread nD τ).loc main_arg0)

theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

theorem hh_at (c : Dev nD) (t : Fin cfg0.N) (i : Fin 512) (j : Fin 768) :
    (show FVec Ideal S512x768 .f32 from iblk m c 0 t) (ix2 i j) = hh m c (ix2 ⟨t.val * 512 + i.val, by
      have : t.val < 16 := lt_of_lt_of_eq t.isLt N_0; omega⟩ j) := by
  rw [show hh m c = V m c main_arg0 from (V_main_arg0 m c).symm]
  blk_ext [iblk, idx t]

theorem pay1_at (x : Vec Ideal S512x768 .f32) (i : S512x256.Idx) :
    k0_pay1 (F := Ideal) x i = x (ix2 (i 0) ⟨0 + (i 1).val, by have : (i 1).val < 256 := (i 1).isLt; omega⟩) * Ideal.ofBits .f32 0x3E000000#32 := by
  pointwise [k0_pay1]
theorem final_1 (c : Dev nD) : (dats m 0 c).arrAt 1 (cfgs 0).N = QQ (hh m c) := by
  refine (dats m 0 c).arrAt_eq_of_covers 1 _ (by decide +kernel) fun t hf y => ?_
  blk_simp
  rw [after0_1]
  frame_out
  refine (pay1_at _ y).trans ((congrArg (· * Ideal.ofBits .f32 0x3E000000#32) (hh_at m c t (y 0) _)).trans ?_)
  pointwise [QQ]
  blk_point [idx t]
theorem tail_1 (c : Dev nD) : Pipeline.afterTail₀ cfgs (dats m) 0 (V0 m) [hostOps1] c main_v1 = (dats m 0 c).arrAt 1 (cfgs 0).N := by
  unfold Pipeline.afterTail₀ hostOps1
  after_results
  exact (Pipeline.withArrays_arr spec0 (by decide) c (V0 m c) (fun w => (dats m 0 c).arrAt w (cfgs 0).N) 1 :)

theorem pay2_at (x : Vec Ideal S512x768 .f32) (i : S512x256.Idx) :
    k0_pay2 (F := Ideal) x i = x (ix2 (i 0) ⟨256 + (i 1).val, by have : (i 1).val < 256 := (i 1).isLt; omega⟩) := by
  pointwise [k0_pay2]
theorem final_2 (c : Dev nD) : (dats m 0 c).arrAt 2 (cfgs 0).N = KK (hh m c) := by
  refine (dats m 0 c).arrAt_eq_of_covers 2 _ (by decide +kernel) fun t hf y => ?_
  blk_simp
  rw [after0_2]
  frame_out
  refine (pay2_at _ y).trans ((hh_at m c t (y 0) _).trans ?_)
  pointwise [KK]
  blk_point [idx t]
theorem tail_2 (c : Dev nD) : Pipeline.afterTail₀ cfgs (dats m) 0 (V0 m) [hostOps1] c main_v2 = (dats m 0 c).arrAt 2 (cfgs 0).N := by
  unfold Pipeline.afterTail₀ hostOps1
  after_results
  exact (Pipeline.withArrays_arr spec0 (by decide) c (V0 m c) (fun w => (dats m 0 c).arrAt w (cfgs 0).N) 2 :)

theorem pay3_at (x : Vec Ideal S512x768 .f32) (i : S512x256.Idx) :
    k0_pay3 (F := Ideal) x i = x (ix2 (i 0) ⟨512 + (i 1).val, by have : (i 1).val < 256 := (i 1).isLt; omega⟩) := by
  pointwise [k0_pay3]
theorem final_3 (c : Dev nD) : (dats m 0 c).arrAt 3 (cfgs 0).N = VV (hh m c) := by
  refine (dats m 0 c).arrAt_eq_of_covers 3 _ (by decide +kernel) fun t hf y => ?_
  blk_simp
  rw [after0_3]
  frame_out
  refine (pay3_at _ y).trans ((hh_at m c t (y 0) _).trans ?_)
  pointwise [VV]
  blk_point [idx t]
theorem tail_3 (c : Dev nD) : Pipeline.afterTail₀ cfgs (dats m) 0 (V0 m) [hostOps1] c main_v3 = (dats m 0 c).arrAt 3 (cfgs 0).N := by
  unfold Pipeline.afterTail₀ hostOps1
  after_results
  exact (Pipeline.withArrays_arr spec0 (by decide) c (V0 m c) (fun w => (dats m 0 c).arrAt w (cfgs 0).N) 3 :)

theorem algebraic : Cert.algebraic_PrepcIdeal_PrepcReferenceIdeal := by
  intro m g m' g' _ hagree
  refine ⟨fun c => QQ (hh m c), fun c => KK (hh m c), fun c => VV (hh m c), ?_, ?_⟩
  · refine (θ_run defs _ _).mono (fun r h c => ⟨((h.1 c).2 main_v1 (by decide)).trans ((tail_1 m c).trans (final_1 m c)),
      ((h.1 c).2 main_v2 (by decide)).trans ((tail_2 m c).trans (final_2 m c)), ((h.1 c).2 main_v3 (by decide)).trans ((tail_3 m c).trans (final_3 m c)), h.2 c⟩)
      (θ_run_and (run_main m g) (unchanged m g))
  · refine (θ_run Cert.PrepcReferenceIdeal.defs _ _).mono (fun r h c => ?_) (Cert.PrepcReferenceIdeal.Value.run (F := Ideal) m' g')
    obtain ⟨h0, h1, h2, ha⟩ := h c
    rw [hagree c] at h0 h1 h2
    exact ⟨h0, h1, h2, ha⟩

end Cert.PrepcIdeal.Hand
-- ==== Proof.UpIdeal.Launch.lean ====
/- What every buffer holds when the two regions and the host lines around them are done. -/
module

public import proofs.«01_k».proof.Proof.Gen.UpIdeal.Frame

@[expose] public section

noncomputable section

namespace Cert.UpIdeal.Hand

open Cert.UpIdeal Cert.UpIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the pipelines ends at the last segment boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨A, B, C⟩
      isplitl [A B]
      · isplitl [A]; · iexact A
        iexact B
      iexact C⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨A, -, C, -, B, -⟩, -⟩
      imodintro
      isplitl [A]; · iexact A
      isplitl [B]; · iexists _; iexact B
      iexists ∅; iexact C)
    (QY := fun c s => ∀ b ∈ Pipeline.ucRefs τ sig, s.mem (((c : Thread nD τ)).1, b) = W5 m ρ c b)
    (hfin := fun c s => by
      iintro ⟨⟨A, -⟩, S⟩
      unfold StableHlo.held
      imodintro
      iapply (pointsTo_read_all (Pipeline.ucRefs τ sig) (fun b => (((c : Thread nD τ)).1, b)) (W5 m ρ c) s)
      isplitl [A] <;> iassumption)
    (hQ := fun _ h _ => h)

end Cert.UpIdeal.Hand
-- ==== Proof.UpIdeal.Value.lean ====
/- The hidden layer of the channel mixer, forward and backward: every point writes its own block. -/
module

public import proofs.«01_k».proof.Proof.UpIdeal.Launch
public import proofs.«01_k».proof.Proof.Gen.UpReferenceIdeal.Run
public import proofs.«01_k».proof.Defs
public import Idealize.ShloMosaic.Lib.Pipeline.ValueKit
public import Idealize.ShloMosaic.Lib.Claim

@[expose] public section

set_option maxRecDepth 16384

noncomputable section

namespace Cert.UpIdeal.Hand

open Cert.UpIdeal Cert.UpIdeal.Gen
open Idealize.ShloMosaic TcCoe Tactic Idealize.SL.Sem

variable (m : (ℓ : Loc nD τ sig) → Buf (Elt Ideal) ℓ) (ρ : Dev nD → PrngReg)

/-- The hidden units before the rectifier. -/
def HID (x : FVec Ideal S8192x1024 .f32) (w : FVec Ideal S1024x4096 .f32) : FVec Ideal S8192x4096 .f32 :=
  Host.dotGeneral Cert.UpReferenceIdeal.dot_S8192x1024_S1024x4096_S8192x4096_1_0_0_1_n_n none x w
/-- The zero the rectifier compares with, everywhere. -/
abbrev ZERO : FVec Ideal S8192x4096 .f32 :=
  broadcastInDim Cert.UpReferenceIdeal.S8192x4096 ![] Cert.UpReferenceIdeal.Gen.bcast_S_S8192x4096 (constant Cert.UpReferenceIdeal.S_ .f32 0x00000000#32)
/-- The reference's first result: the squared rectified hidden units. -/
abbrev ACT (x : FVec Ideal S8192x1024 .f32) (w : FVec Ideal S1024x4096 .f32) : FVec Ideal S8192x4096 .f32 :=
  mulf (maximumf (HID x w) ZERO) (maximumf (HID x w) ZERO)
/-- The reference's second result: the cotangent pulled back to the hidden units. -/
abbrev DU (x : FVec Ideal S8192x1024 .f32) (w : FVec Ideal S1024x4096 .f32) (v : FVec Ideal S4096x1024 .f32) (ct : FVec Ideal S8192x1024 .f32) :
    FVec Ideal S8192x4096 .f32 :=
  select (cmpf .ogt (HID x w) ZERO)
    (mulf (Host.dotGeneral Cert.UpReferenceIdeal.dot_S8192x1024_S4096x1024_S8192x4096_1_1_0_0_n_n none ct v)
      (mulf (broadcastInDim Cert.UpReferenceIdeal.S8192x4096 ![] Cert.UpReferenceIdeal.Gen.bcast_S_S8192x4096 (constant Cert.UpReferenceIdeal.S_ .f32 0x40000000#32))
        (maximumf (HID x w) ZERO))) ZERO

/-- The layer's input, the two weights and the cotangent. -/
abbrev xin (c : Dev nD) : FVec Ideal S8192x1024 .f32 := m ((c : Thread nD τ).loc main_arg0)
abbrev wup (c : Dev nD) : FVec Ideal S1024x4096 .f32 := m ((c : Thread nD τ).loc main_arg1)
abbrev wdn (c : Dev nD) : FVec Ideal S4096x1024 .f32 := m ((c : Thread nD τ).loc main_arg2)
abbrev ctg (c : Dev nD) : FVec Ideal S8192x1024 .f32 := m ((c : Thread nD τ).loc main_arg3)

/-! ## The hidden units -/

theorem entry_x (c : Dev nD) : V1 m ρ c main_v0 = xin m c := by
  dsimp only [V1, W1]; after_results; rfl
theorem entry_up (c : Dev nD) (a : Fin 4) (k j : Fin 1024) :
    (show FVec Ideal S4x1x1024x1024 .bf16 from V1 m ρ c main_v4) (ix4 a 0 k j) = wup m c (ix2 k ⟨a.val * 1024 + j.val, by omega⟩) := by
  have e : V1 m ρ c main_v4 = (truncf .bf16 (broadcastInDim S4x1x1024x1024 ![0, 2, 3] bcast_S4x1024x1024_S4x1x1024x1024_0_2_3
      (transpose S4x1024x1024 [1, 0, 2] (shapeCast S1024x4x1024 (wup m c) shapeCasts_S1024x4096_S1024x4x1024) transposes_S1024x4x1024_S4x1024x1024_1_0_2)) bitsLt_bf16_f32 :
        FVec Ideal S4x1x1024x1024 .bf16) := by
    dsimp only [V1, W1]; after_results; rfl
  rw [e]
  pointwise

theorem idx0 : ∀ t : Fin cfg0.N, win0_0.index t = ![t.val / 4, 0] ∧ win0_1.index t = ![t.val % 4, 0, 0, 0] ∧ win0_2.index t = ![t.val / 4, t.val % 4] :=
  (by decide +kernel : ∀ t : Fin grid0.N, _)

theorem act_at (x : Vec Ideal S1024x1024 .bf16) (y : Vec Ideal S1x1x1024x1024 .bf16) (i : S1024x1024.Idx) :
    k0_pay1 (F := Ideal) x y i = max (∑ k : Fin 1024, x (ix2 (i 0) k) * y (ix4 0 0 k (i 1))) 0 * max (∑ k : Fin 1024, x (ix2 (i 0) k) * y (ix4 0 0 k (i 1))) 0 := by
  pointwise [k0_pay1]

theorem x_at (c : Dev nD) (t : Fin cfg0.N) (i k : Fin 1024) :
    (show FVec Ideal S1024x1024 .bf16 from iblk0 (V1 m ρ) c 0 t) (ix2 i k) = xin m c (ix2 ⟨t.val / 4 * 1024 + i.val, by
      have : t.val < 32 := lt_of_lt_of_eq t.isLt N_0; omega⟩ k) := by
  rw [← entry_x m ρ]
  blk_ext [iblk0, idx0 t]
theorem up_at (c : Dev nD) (t : Fin cfg0.N) (k j : Fin 1024) :
    (show FVec Ideal S1x1x1024x1024 .bf16 from iblk0 (V1 m ρ) c 1 t) (ix4 0 0 k j) = wup m c (ix2 k ⟨t.val % 4 * 1024 + j.val, by omega⟩) := by
  refine Eq.trans ?_ (entry_up m ρ c ⟨t.val % 4, by omega⟩ k j)
  blk_ext [iblk0, idx0 t]

theorem hid_at (c : Dev nD) (t : Fin cfg0.N) (i : S1024x1024.Idx) :
    (∑ k : Fin 1024, (show FVec Ideal S1024x1024 .bf16 from iblk0 (V1 m ρ) c 0 t) (ix2 (i 0) k) * (show FVec Ideal S1x1x1024x1024 .bf16 from iblk0 (V1 m ρ) c 1 t) (ix4 0 0 k (i 1)) : EReal)
      = HID (xin m c) (wup m c) (ix2 ⟨t.val / 4 * 1024 + (i 0).val, by have : (i 0).val < 1024 := (i 0).isLt; have : t.val < 32 := lt_of_lt_of_eq t.isLt N_0; omega⟩ ⟨t.val % 4 * 1024 + (i 1).val, by have : (i 1).val < 1024 := (i 1).isLt; omega⟩) := by
  pointwise [HID]
  exact Finset.sum_congr rfl fun k _ => congrArg₂ (· * · : EReal → EReal → EReal) (x_at m ρ c t (i 0) k) (up_at m ρ c t k (i 1))

theorem final_act (c : Dev nD) : (dat0 (V1 m ρ) c).arrAt 2 cfg0.N = ACT (xin m c) (wup m c) := by
  refine (dat0 (V1 m ρ) c).arrAt_eq_of_covers 2 _ (by decide +kernel) fun t hf y => ?_
  blk_simp
  rw [after0_2]
  frame_out
  refine (act_at _ _ y).trans ((congrArg (fun s : EReal => max s 0 * max s 0) (hid_at m ρ c t y)).trans ?_)
  pointwise [ACT, ZERO]
  blk_point [idx0 t]

/-! ## The cotangent of the hidden units -/

theorem entry_ct (c : Dev nD) : V3 m ρ c main_v6 = ctg m c := by
  dsimp only [V3, W3]; after_results
  exact W2_args m ρ c main_arg3 (by decide)
theorem entry_dn (c : Dev nD) (a : Fin 4) (j k : Fin 1024) :
    (show FVec Ideal S4x1x1024x1024 .bf16 from V3 m ρ c main_v9) (ix4 a 0 j k) = wdn m c (ix2 ⟨a.val * 1024 + j.val, by omega⟩ k) := by
  have e : V3 m ρ c main_v9 = (truncf .bf16 (broadcastInDim S4x1x1024x1024 ![0, 2, 3] bcast_S4x1024x1024_S4x1x1024x1024_0_2_3
      (shapeCast S4x1024x1024 (wdn m c) shapeCasts_S4096x1024_S4x1024x1024)) bitsLt_bf16_f32 : FVec Ideal S4x1x1024x1024 .bf16) := by
    dsimp only [V3, W3]; after_results
    rw [W2_args m ρ c main_arg2 (by decide)]; rfl
  rw [e]
  pointwise
theorem entry_act (c : Dev nD) : V3 m ρ c main_v5 = ACT (xin m c) (wup m c) :=
  (W3_of m ρ c main_v5 (by decide)).trans ((W2_arr m ρ c 2).trans (final_act m ρ c))

theorem idx1 : ∀ t : Fin cfg1.N, win1_0.index t = ![t.val / 4, 0] ∧ win1_1.index t = ![t.val % 4, 0, 0, 0] ∧ win1_2.index t = ![t.val / 4, t.val % 4]
    ∧ win1_3.index t = ![t.val / 4, t.val % 4] :=
  (by decide +kernel : ∀ t : Fin grid1.N, _)

/-- The constant both sides multiply by. -/
abbrev two : EReal := Ideal.ofBits .f32 0x40000000#32

theorem du_at (x : Vec Ideal S1024x1024 .bf16) (y : Vec Ideal S1x1x1024x1024 .bf16) (z : Vec Ideal S1024x1024 .bf16) (i : S1024x1024.Idx) :
    k1_pay1 (F := Ideal) x y z i = (∑ k : Fin 1024, x (ix2 (i 0) k) * y (ix4 0 0 (i 1) k)) * (two * Ideal.sqrt (z i)) := by
  pointwise [k1_pay1]

theorem ct_at (c : Dev nD) (t : Fin cfg1.N) (i k : Fin 1024) :
    (show FVec Ideal S1024x1024 .bf16 from iblk1 (V3 m ρ) c 0 t) (ix2 i k) = ctg m c (ix2 ⟨t.val / 4 * 1024 + i.val, by
      have : t.val < 32 := lt_of_lt_of_eq t.isLt N_1; omega⟩ k) := by
  rw [← entry_ct m ρ]
  blk_ext [iblk1, idx1 t]
theorem dn_at (c : Dev nD) (t : Fin cfg1.N) (j k : Fin 1024) :
    (show FVec Ideal S1x1x1024x1024 .bf16 from iblk1 (V3 m ρ) c 1 t) (ix4 0 0 j k) = wdn m c (ix2 ⟨t.val % 4 * 1024 + j.val, by omega⟩ k) := by
  refine Eq.trans ?_ (entry_dn m ρ c ⟨t.val % 4, by omega⟩ j k)
  blk_ext [iblk1, idx1 t]
theorem sq_at (c : Dev nD) (t : Fin cfg1.N) (i : S1024x1024.Idx) :
    (show FVec Ideal S1024x1024 .bf16 from iblk1 (V3 m ρ) c 2 t) i = ACT (xin m c) (wup m c)
      (ix2 ⟨t.val / 4 * 1024 + (i 0).val, by have : (i 0).val < 1024 := (i 0).isLt; have : t.val < 32 := lt_of_lt_of_eq t.isLt N_1; omega⟩
        ⟨t.val % 4 * 1024 + (i 1).val, by have : (i 1).val < 1024 := (i 1).isLt; omega⟩) := by
  rw [← entry_act m ρ]
  blk_ext [iblk1, idx1 t]

/-- The product the reference multiplies by the rectifier's derivative. -/
def DACT (ct : FVec Ideal S8192x1024 .f32) (v : FVec Ideal S4096x1024 .f32) : FVec Ideal S8192x4096 .f32 :=
  Host.dotGeneral Cert.UpReferenceIdeal.dot_S8192x1024_S4096x1024_S8192x4096_1_1_0_0_n_n none ct v

theorem dact_at (c : Dev nD) (t : Fin cfg1.N) (i : S1024x1024.Idx) :
    (∑ k : Fin 1024, (show FVec Ideal S1024x1024 .bf16 from iblk1 (V3 m ρ) c 0 t) (ix2 (i 0) k) * (show FVec Ideal S1x1x1024x1024 .bf16 from iblk1 (V3 m ρ) c 1 t) (ix4 0 0 (i 1) k) : EReal)
      = DACT (ctg m c) (wdn m c) (ix2 ⟨t.val / 4 * 1024 + (i 0).val, by have : (i 0).val < 1024 := (i 0).isLt; have : t.val < 32 := lt_of_lt_of_eq t.isLt N_1; omega⟩
        ⟨t.val % 4 * 1024 + (i 1).val, by have : (i 1).val < 1024 := (i 1).isLt; omega⟩) := by
  pointwise [DACT]
  exact Finset.sum_congr rfl fun k _ => congrArg₂ (· * · : EReal → EReal → EReal) (ct_at m ρ c t (i 0) k) (dn_at m ρ c t (i 1) k)

/-- The root of the square of a number that is not negative. -/
theorem sqrt_sq (r : EReal) (h : 0 ≤ r) : Ideal.sqrt (r * r) = r := by
  induction r with
  | bot => exact absurd h (by simp)
  | top => simp
  | coe r =>
    have hr : 0 ≤ r := EReal.coe_nonneg.1 h
    rw [← EReal.coe_mul, Ideal.sqrt_coe, if_neg (not_lt.2 (mul_nonneg hr hr)), Real.sqrt_mul_self hr]

/-- The call's factor against the reference's choice between the derivative and zero. -/
theorem relu_rule (s b h : EReal) : s * (b * Ideal.sqrt (max h 0 * max h 0)) = if 0 < h then s * (b * max h 0) else 0 := by
  rw [sqrt_sq _ (le_max_right _ _)]
  split_ifs with hh
  · rfl
  · rw [max_eq_right (not_lt.1 hh)]; simp

theorem final_du (c : Dev nD) : (dat1 (V3 m ρ) c).arrAt 3 cfg1.N = DU (xin m c) (wup m c) (wdn m c) (ctg m c) := by
  refine (dat1 (V3 m ρ) c).arrAt_eq_of_covers 3 _ (by decide +kernel) fun t hf y => ?_
  blk_simp
  rw [after1_3]
  frame_out
  refine (du_at _ _ _ y).trans ((congrArg₂ (fun s z : EReal => s * (two * Ideal.sqrt z)) (dact_at m ρ c t y) (sq_at m ρ c t y)).trans ?_)
  change _ = select _ (mulf (DACT (ctg m c) (wdn m c)) _) _ _
  pointwise [ACT, ZERO]
  refine (relu_rule _ _ _).trans ?_
  blk_point [idx1 t]

/-! ## The two results -/

theorem tail_act (c : Dev nD) : W5 m ρ c main_v11 = ACT (xin m c) (wup m c) := by
  dsimp only [W5]; after_results
  exact (W4_of m ρ c main_v5 (by decide)).trans (entry_act m ρ c)
theorem tail_du (c : Dev nD) : W5 m ρ c main_v12 = DU (xin m c) (wup m c) (wdn m c) (ctg m c) := by
  dsimp only [W5]; after_results
  exact (W4_arr m ρ c 3).trans (final_du m ρ c)

theorem algebraic : Cert.algebraic_UpIdeal_UpReferenceIdeal := by
  intro m g m' g' _ hagree
  refine ⟨fun c => ACT (xin m c) (wup m c), fun c => DU (xin m c) (wup m c) (wdn m c) (ctg m c), ?_, ?_⟩
  · refine (θ_run defs _ _).mono (fun r h c => ⟨(h.1 c _ (mem_uc main_v11 (by decide))).trans (tail_act m g c),
      (h.1 c _ (mem_uc main_v12 (by decide))).trans (tail_du m g c), h.2 c⟩) (θ_run_and (run_all m g) (unchanged m g))
  · refine (θ_run Cert.UpReferenceIdeal.defs _ _).mono (fun r h c => ?_) (Cert.UpReferenceIdeal.Value.run (F := Ideal) m' g')
    obtain ⟨h1, h2, ha⟩ := h c
    obtain ⟨e0, e1, e2, e3⟩ := hagree c
    rw [e0, e1] at h1
    rw [e0, e1, e2, e3] at h2
    exact ⟨h1, h2, ha⟩

end Cert.UpIdeal.Hand
-- ==== Proof.lean ====
module

public import proofs.«01_k».proof.Defs
public import proofs.«01_k».proof.Proof.Frames
public import proofs.«01_k».proof.Proof.Algebraic
public import proofs.«01_k».proof.Proof.Imports
public import proofs.«01_k».proof.Proof.FwdIdeal.Algebraic
public import proofs.«01_k».proof.Proof.AbraIdeal.Value
public import proofs.«01_k».proof.Proof.AbrbIdeal.Value
public import proofs.«01_k».proof.Proof.AinIdeal.Value
public import proofs.«01_k».proof.Proof.AoutIdeal.Value
public import proofs.«01_k».proof.Proof.AsmallIdeal.Value
public import proofs.«01_k».proof.Proof.AupIdeal.Value
public import proofs.«01_k».proof.Proof.BranchIdeal.Value
public import proofs.«01_k».proof.Proof.DeltaIdeal.Value
public import proofs.«01_k».proof.Proof.DgateIdeal.Value
public import proofs.«01_k».proof.Proof.DlnIdeal.Value
public import proofs.«01_k».proof.Proof.DmixIdeal.Value
public import proofs.«01_k».proof.Proof.DownIdeal.Value
public import proofs.«01_k».proof.Proof.Dx1Ideal.Value
public import proofs.«01_k».proof.Proof.DxgIdeal.Value
public import proofs.«01_k».proof.Proof.DxqIdeal.Value
public import proofs.«01_k».proof.Proof.GateIdeal.Value
public import proofs.«01_k».proof.Proof.GbraIdeal.Value
public import proofs.«01_k».proof.Proof.GbrbIdeal.Value
public import proofs.«01_k».proof.Proof.GbrcIdeal.Value
public import proofs.«01_k».proof.Proof.GdownIdeal.Value
public import proofs.«01_k».proof.Proof.GingIdeal.Value
public import proofs.«01_k».proof.Proof.GinqIdeal.Value
public import proofs.«01_k».proof.Proof.GoutIdeal.Value
public import proofs.«01_k».proof.Proof.GupIdeal.Value
public import proofs.«01_k».proof.Proof.InIdeal.Value
public import proofs.«01_k».proof.Proof.LossIdeal.Value
public import proofs.«01_k».proof.Proof.OutIdeal.Value
public import proofs.«01_k».proof.Proof.PostcIdeal.Value
public import proofs.«01_k».proof.Proof.PrepbIdeal.Value
public import proofs.«01_k».proof.Proof.PrepcIdeal.Value
public import proofs.«01_k».proof.Proof.UpIdeal.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem fwd_reference : Cert.quiescent_FwdReferenceIdeal := fun m g _ =>
  (θ_run Cert.FwdReferenceIdeal.defs _ _).mono (fun r h => ⟨fun c => (h c).2.2, sem_eq_zero_of_no_sems (by decide) r.2⟩) (Cert.FwdReferenceIdeal.Value.run (F := Ideal) m g)
theorem up_reference : Cert.quiescent_UpReferenceIdeal := fun m g _ =>
  (θ_run Cert.UpReferenceIdeal.defs _ _).mono (fun r h => ⟨fun c => (h c).2.2, sem_eq_zero_of_no_sems (by decide) r.2⟩) (Cert.UpReferenceIdeal.Value.run (F := Ideal) m g)
theorem gdown_reference : Cert.quiescent_GdownReferenceIdeal := fun m g _ =>
  (θ_run Cert.GdownReferenceIdeal.defs _ _).mono (fun r h => ⟨fun c => (h c).2, sem_eq_zero_of_no_sems (by decide) r.2⟩) (Cert.GdownReferenceIdeal.Value.run (F := Ideal) m g)
theorem dln_reference : Cert.quiescent_DlnReferenceIdeal := fun m g _ =>
  (θ_run Cert.DlnReferenceIdeal.defs _ _).mono (fun r h => ⟨fun c => (h c).2.2.2.2, sem_eq_zero_of_no_sems (by decide) r.2⟩) (Cert.DlnReferenceIdeal.Value.run (F := Ideal) m g)
theorem prepb_reference : Cert.quiescent_PrepbReferenceIdeal := fun m g _ =>
  (θ_run Cert.PrepbReferenceIdeal.defs _ _).mono (fun r h => ⟨fun c => (h c).2.2.2.2, sem_eq_zero_of_no_sems (by decide) r.2⟩) (Cert.PrepbReferenceIdeal.Value.run (F := Ideal) m g)
theorem gup_reference : Cert.quiescent_GupReferenceIdeal := fun m g _ =>
  (θ_run Cert.GupReferenceIdeal.defs _ _).mono (fun r h => ⟨fun c => (h c).2, sem_eq_zero_of_no_sems (by decide) r.2⟩) (Cert.GupReferenceIdeal.Value.run (F := Ideal) m g)
theorem dx1_reference : Cert.quiescent_Dx1ReferenceIdeal := fun m g _ =>
  (θ_run Cert.Dx1ReferenceIdeal.defs _ _).mono (fun r h => ⟨fun c => (h c).2, sem_eq_zero_of_no_sems (by decide) r.2⟩) (Cert.Dx1ReferenceIdeal.Value.run (F := Ideal) m g)
theorem in_reference : Cert.quiescent_InReferenceIdeal := fun m g _ =>
  (θ_run Cert.InReferenceIdeal.defs _ _).mono (fun r h => ⟨fun c => (h c).2.2.2.2, sem_eq_zero_of_no_sems (by decide) r.2⟩) (Cert.InReferenceIdeal.Value.run (F := Ideal) m g)
theorem ginq_reference : Cert.quiescent_GinqReferenceIdeal := fun m g _ =>
  (θ_run Cert.GinqReferenceIdeal.defs _ _).mono (fun r h => ⟨fun c => (h c).2, sem_eq_zero_of_no_sems (by decide) r.2⟩) (Cert.GinqReferenceIdeal.Value.run (F := Ideal) m g)
theorem ging_reference : Cert.quiescent_GingReferenceIdeal := fun m g _ =>
  (θ_run Cert.GingReferenceIdeal.defs _ _).mono (fun r h => ⟨fun c => (h c).2, sem_eq_zero_of_no_sems (by decide) r.2⟩) (Cert.GingReferenceIdeal.Value.run (F := Ideal) m g)
theorem dxq_reference : Cert.quiescent_DxqReferenceIdeal := fun m g _ =>
  (θ_run Cert.DxqReferenceIdeal.defs _ _).mono (fun r h => ⟨fun c => (h c).2, sem_eq_zero_of_no_sems (by decide) r.2⟩) (Cert.DxqReferenceIdeal.Value.run (F := Ideal) m g)
theorem dxg_reference : Cert.quiescent_DxgReferenceIdeal := fun m g _ =>
  (θ_run Cert.DxgReferenceIdeal.defs _ _).mono (fun r h => ⟨fun c => (h c).2, sem_eq_zero_of_no_sems (by decide) r.2⟩) (Cert.DxgReferenceIdeal.Value.run (F := Ideal) m g)
theorem down_reference : Cert.quiescent_DownReferenceIdeal := fun m g _ =>
  (θ_run Cert.DownReferenceIdeal.defs _ _).mono (fun r h => ⟨fun c => (h c).2.2.2, sem_eq_zero_of_no_sems (by decide) r.2⟩) (Cert.DownReferenceIdeal.Value.run (F := Ideal) m g)
theorem out_reference : Cert.quiescent_OutReferenceIdeal := fun m g _ =>
  (θ_run Cert.OutReferenceIdeal.defs _ _).mono (fun r h => ⟨fun c => (h c).2.2.2, sem_eq_zero_of_no_sems (by decide) r.2⟩) (Cert.OutReferenceIdeal.Value.run (F := Ideal) m g)
theorem dmix_reference : Cert.quiescent_DmixReferenceIdeal := fun m g _ =>
  (θ_run Cert.DmixReferenceIdeal.defs _ _).mono (fun r h => ⟨fun c => (h c).2.2.2.2, sem_eq_zero_of_no_sems (by decide) r.2⟩) (Cert.DmixReferenceIdeal.Value.run (F := Ideal) m g)
theorem branch_reference : Cert.quiescent_BranchReferenceIdeal := fun m g _ =>
  (θ_run Cert.BranchReferenceIdeal.defs _ _).mono (fun r h => ⟨fun c => (h c).2.2.2, sem_eq_zero_of_no_sems (by decide) r.2⟩) (Cert.BranchReferenceIdeal.Value.run (F := Ideal) m g)
theorem gout_reference : Cert.quiescent_GoutReferenceIdeal := fun m g _ =>
  (θ_run Cert.GoutReferenceIdeal.defs _ _).mono (fun r h => ⟨fun c => (h c).2, sem_eq_zero_of_no_sems (by decide) r.2⟩) (Cert.GoutReferenceIdeal.Value.run (F := Ideal) m g)
theorem gbra_reference : Cert.quiescent_GbraReferenceIdeal := fun m g _ =>
  (θ_run Cert.GbraReferenceIdeal.defs _ _).mono (fun r h => ⟨fun c => (h c).2, sem_eq_zero_of_no_sems (by decide) r.2⟩) (Cert.GbraReferenceIdeal.Value.run (F := Ideal) m g)
theorem gbrb_reference : Cert.quiescent_GbrbReferenceIdeal := fun m g _ =>
  (θ_run Cert.GbrbReferenceIdeal.defs _ _).mono (fun r h => ⟨fun c => (h c).2, sem_eq_zero_of_no_sems (by decide) r.2⟩) (Cert.GbrbReferenceIdeal.Value.run (F := Ideal) m g)
theorem gbrc_reference : Cert.quiescent_GbrcReferenceIdeal := fun m g _ =>
  (θ_run Cert.GbrcReferenceIdeal.defs _ _).mono (fun r h => ⟨fun c => (h c).2, sem_eq_zero_of_no_sems (by decide) r.2⟩) (Cert.GbrcReferenceIdeal.Value.run (F := Ideal) m g)
theorem gate_reference : Cert.quiescent_GateReferenceIdeal := fun m g _ =>
  (θ_run Cert.GateReferenceIdeal.defs _ _).mono (fun r h => ⟨fun c => (h c).2, sem_eq_zero_of_no_sems (by decide) r.2⟩) (Cert.GateReferenceIdeal.Value.run (F := Ideal) m g)
theorem dgate_reference : Cert.quiescent_DgateReferenceIdeal := fun m g _ =>
  (θ_run Cert.DgateReferenceIdeal.defs _ _).mono (fun r h => ⟨fun c => (h c).2.2.2.2.2, sem_eq_zero_of_no_sems (by decide) r.2⟩) (Cert.DgateReferenceIdeal.Value.run (F := Ideal) m g)
theorem loss_reference : Cert.quiescent_LossReferenceIdeal := fun m g _ =>
  (θ_run Cert.LossReferenceIdeal.defs _ _).mono (fun r h => ⟨fun c => (h c).2.2, sem_eq_zero_of_no_sems (by decide) r.2⟩) (Cert.LossReferenceIdeal.Value.run (F := Ideal) m g)
theorem prepc_reference : Cert.quiescent_PrepcReferenceIdeal := fun m g _ =>
  (θ_run Cert.PrepcReferenceIdeal.defs _ _).mono (fun r h => ⟨fun c => (h c).2.2.2, sem_eq_zero_of_no_sems (by decide) r.2⟩) (Cert.PrepcReferenceIdeal.Value.run (F := Ideal) m g)
theorem postc_reference : Cert.quiescent_PostcReferenceIdeal := fun m g _ =>
  (θ_run Cert.PostcReferenceIdeal.defs _ _).mono (fun r h => ⟨fun c => (h c).2, sem_eq_zero_of_no_sems (by decide) r.2⟩) (Cert.PostcReferenceIdeal.Value.run (F := Ideal) m g)
theorem delta_reference : Cert.quiescent_DeltaReferenceIdeal := fun m g _ =>
  (θ_run Cert.DeltaReferenceIdeal.defs _ _).mono (fun r h => ⟨fun c => (h c).2, sem_eq_zero_of_no_sems (by decide) r.2⟩) (Cert.DeltaReferenceIdeal.Value.run (F := Ideal) m g)
theorem ain_reference : Cert.quiescent_AinReferenceIdeal := fun m g _ =>
  (θ_run Cert.AinReferenceIdeal.defs _ _).mono (fun r h => ⟨fun c => (h c).2.2.2, sem_eq_zero_of_no_sems (by decide) r.2⟩) (Cert.AinReferenceIdeal.Value.run (F := Ideal) m g)
theorem abra_reference : Cert.quiescent_AbraReferenceIdeal := fun m g _ =>
  (θ_run Cert.AbraReferenceIdeal.defs _ _).mono (fun r h => ⟨fun c => (h c).2.2.2, sem_eq_zero_of_no_sems (by decide) r.2⟩) (Cert.AbraReferenceIdeal.Value.run (F := Ideal) m g)
theorem abrb_reference : Cert.quiescent_AbrbReferenceIdeal := fun m g _ =>
  (θ_run Cert.AbrbReferenceIdeal.defs _ _).mono (fun r h => ⟨fun c => (h c).2.2.2, sem_eq_zero_of_no_sems (by decide) r.2⟩) (Cert.AbrbReferenceIdeal.Value.run (F := Ideal) m g)
theorem aout_reference : Cert.quiescent_AoutReferenceIdeal := fun m g _ =>
  (θ_run Cert.AoutReferenceIdeal.defs _ _).mono (fun r h => ⟨fun c => (h c).2.2.2, sem_eq_zero_of_no_sems (by decide) r.2⟩) (Cert.AoutReferenceIdeal.Value.run (F := Ideal) m g)
theorem aup_reference : Cert.quiescent_AupReferenceIdeal := fun m g _ =>
  (θ_run Cert.AupReferenceIdeal.defs _ _).mono (fun r h => ⟨fun c => (h c).2.2.2, sem_eq_zero_of_no_sems (by decide) r.2⟩) (Cert.AupReferenceIdeal.Value.run (F := Ideal) m g)
theorem asmall_reference : Cert.quiescent_AsmallReferenceIdeal := fun m g _ =>
  (θ_run Cert.AsmallReferenceIdeal.defs _ _).mono (fun r h => ⟨fun c => (h c).2.2.2, sem_eq_zero_of_no_sems (by decide) r.2⟩) (Cert.AsmallReferenceIdeal.Value.run (F := Ideal) m g)

theorem claim : Cert.Claim :=
  ⟨Cert.Kernel.Gen.facts, Cert.KernelIdeal.Gen.facts, Cert.ReferenceIdeal.Gen.facts, Cert.Fwd.Gen.facts, Cert.FwdIdeal.Gen.facts, Cert.FwdReferenceIdeal.Gen.facts, Cert.Up.Gen.facts, Cert.UpIdeal.Gen.facts, Cert.UpReferenceIdeal.Gen.facts, Cert.Gdown.Gen.facts, Cert.GdownIdeal.Gen.facts, Cert.GdownReferenceIdeal.Gen.facts, Cert.Dln.Gen.facts, Cert.DlnIdeal.Gen.facts, Cert.DlnReferenceIdeal.Gen.facts, Cert.Prepb.Gen.facts, Cert.PrepbIdeal.Gen.facts, Cert.PrepbReferenceIdeal.Gen.facts, Cert.Gup.Gen.facts, Cert.GupIdeal.Gen.facts, Cert.GupReferenceIdeal.Gen.facts, Cert.Dx1.Gen.facts, Cert.Dx1Ideal.Gen.facts, Cert.Dx1ReferenceIdeal.Gen.facts, Cert.In.Gen.facts, Cert.InIdeal.Gen.facts, Cert.InReferenceIdeal.Gen.facts, Cert.Ginq.Gen.facts, Cert.GinqIdeal.Gen.facts, Cert.GinqReferenceIdeal.Gen.facts, Cert.Ging.Gen.facts, Cert.GingIdeal.Gen.facts, Cert.GingReferenceIdeal.Gen.facts, Cert.Dxq.Gen.facts, Cert.DxqIdeal.Gen.facts, Cert.DxqReferenceIdeal.Gen.facts, Cert.Dxg.Gen.facts, Cert.DxgIdeal.Gen.facts, Cert.DxgReferenceIdeal.Gen.facts, Cert.Down.Gen.facts, Cert.DownIdeal.Gen.facts, Cert.DownReferenceIdeal.Gen.facts, Cert.Out.Gen.facts, Cert.OutIdeal.Gen.facts, Cert.OutReferenceIdeal.Gen.facts, Cert.Dmix.Gen.facts, Cert.DmixIdeal.Gen.facts, Cert.DmixReferenceIdeal.Gen.facts, Cert.Branch.Gen.facts, Cert.BranchIdeal.Gen.facts, Cert.BranchReferenceIdeal.Gen.facts, Cert.Gout.Gen.facts, Cert.GoutIdeal.Gen.facts, Cert.GoutReferenceIdeal.Gen.facts, Cert.Gbra.Gen.facts, Cert.GbraIdeal.Gen.facts, Cert.GbraReferenceIdeal.Gen.facts, Cert.Gbrb.Gen.facts, Cert.GbrbIdeal.Gen.facts, Cert.GbrbReferenceIdeal.Gen.facts, Cert.Gbrc.Gen.facts, Cert.GbrcIdeal.Gen.facts, Cert.GbrcReferenceIdeal.Gen.facts, Cert.Gate.Gen.facts, Cert.GateIdeal.Gen.facts, Cert.GateReferenceIdeal.Gen.facts, Cert.Dgate.Gen.facts, Cert.DgateIdeal.Gen.facts, Cert.DgateReferenceIdeal.Gen.facts, Cert.Loss.Gen.facts, Cert.LossIdeal.Gen.facts, Cert.LossReferenceIdeal.Gen.facts, Cert.Prepc.Gen.facts, Cert.PrepcIdeal.Gen.facts, Cert.PrepcReferenceIdeal.Gen.facts, Cert.Postc.Gen.facts, Cert.PostcIdeal.Gen.facts, Cert.PostcReferenceIdeal.Gen.facts, Cert.Delta.Gen.facts, Cert.DeltaIdeal.Gen.facts, Cert.DeltaReferenceIdeal.Gen.facts, Cert.Ain.Gen.facts, Cert.AinIdeal.Gen.facts, Cert.AinReferenceIdeal.Gen.facts, Cert.Abra.Gen.facts, Cert.AbraIdeal.Gen.facts, Cert.AbraReferenceIdeal.Gen.facts, Cert.Abrb.Gen.facts, Cert.AbrbIdeal.Gen.facts, Cert.AbrbReferenceIdeal.Gen.facts, Cert.Aout.Gen.facts, Cert.AoutIdeal.Gen.facts, Cert.AoutReferenceIdeal.Gen.facts, Cert.Aup.Gen.facts, Cert.AupIdeal.Gen.facts, Cert.AupReferenceIdeal.Gen.facts, Cert.Asmall.Gen.facts, Cert.AsmallIdeal.Gen.facts, Cert.AsmallReferenceIdeal.Gen.facts, Cert.Pre_finite.Hand.facts, Cert.Pre_finite_qkv.Hand.facts, Cert.Pre_finite_ln.Hand.facts, Cert.Pre_finite_qk.Hand.facts,
    Cert.Hand.frame_p,
    Cert.Hand.frame_pi,
    Cert.Hand.frame_pi_pre,
    Cert.Hand.frame_ri,
    Cert.Hand.frame_ri_pre,
    fun m ρ _ => Cert.Fwd.Gen.frame m ρ,
    fun m ρ _ => Cert.FwdIdeal.Gen.frame m ρ,
    fun m ρ _ => Cert.FwdIdeal.Gen.frame m ρ,
    fwd_reference,
    fun m ρ _ => fwd_reference m ρ trivial,
    fun m ρ _ => Cert.Up.Gen.frame m ρ,
    fun m ρ _ => Cert.UpIdeal.Gen.frame m ρ,
    up_reference,
    fun m ρ _ => Cert.Gdown.Gen.frame m ρ,
    fun m ρ _ => Cert.GdownIdeal.Gen.frame m ρ,
    gdown_reference,
    fun m ρ _ => Cert.Dln.Gen.frame m ρ,
    fun m ρ _ => Cert.DlnIdeal.Gen.frame m ρ,
    fun m ρ _ => Cert.DlnIdeal.Gen.frame m ρ,
    dln_reference,
    fun m ρ _ => dln_reference m ρ trivial,
    fun m ρ _ => Cert.Prepb.Gen.frame m ρ,
    fun m ρ _ => Cert.PrepbIdeal.Gen.frame m ρ,
    fun m ρ _ => Cert.PrepbIdeal.Gen.frame m ρ,
    prepb_reference,
    fun m ρ _ => prepb_reference m ρ trivial,
    fun m ρ _ => Cert.Gup.Gen.frame m ρ,
    fun m ρ _ => Cert.GupIdeal.Gen.frame m ρ,
    gup_reference,
    fun m ρ _ => Cert.Dx1.Gen.frame m ρ,
    fun m ρ _ => Cert.Dx1Ideal.Gen.frame m ρ,
    dx1_reference,
    fun m ρ _ => Cert.In.Gen.frame m ρ,
    fun m ρ _ => Cert.InIdeal.Gen.frame m ρ,
    in_reference,
    fun m ρ _ => Cert.Ginq.Gen.frame m ρ,
    fun m ρ _ => Cert.GinqIdeal.Gen.frame m ρ,
    ginq_reference,
    fun m ρ _ => Cert.Ging.Gen.frame m ρ,
    fun m ρ _ => Cert.GingIdeal.Gen.frame m ρ,
    ging_reference,
    fun m ρ _ => Cert.Dxq.Gen.frame m ρ,
    fun m ρ _ => Cert.DxqIdeal.Gen.frame m ρ,
    dxq_reference,
    fun m ρ _ => Cert.Dxg.Gen.frame m ρ,
    fun m ρ _ => Cert.DxgIdeal.Gen.frame m ρ,
    dxg_reference,
    fun m ρ _ => Cert.Down.Gen.frame m ρ,
    fun m ρ _ => Cert.DownIdeal.Gen.frame m ρ,
    down_reference,
    fun m ρ _ => Cert.Out.Gen.frame m ρ,
    fun m ρ _ => Cert.OutIdeal.Gen.frame m ρ,
    out_reference,
    fun m ρ _ => Cert.Dmix.Gen.frame m ρ,
    fun m ρ _ => Cert.DmixIdeal.Gen.frame m ρ,
    dmix_reference,
    fun m ρ _ => Cert.Branch.Gen.frame m ρ,
    fun m ρ _ => Cert.BranchIdeal.Gen.frame m ρ,
    branch_reference,
    fun m ρ _ => Cert.Gout.Gen.frame m ρ,
    fun m ρ _ => Cert.GoutIdeal.Gen.frame m ρ,
    gout_reference,
    fun m ρ _ => Cert.Gbra.Gen.frame m ρ,
    fun m ρ _ => Cert.GbraIdeal.Gen.frame m ρ,
    gbra_reference,
    fun m ρ _ => Cert.Gbrb.Gen.frame m ρ,
    fun m ρ _ => Cert.GbrbIdeal.Gen.frame m ρ,
    gbrb_reference,
    fun m ρ _ => Cert.Gbrc.Gen.frame m ρ,
    fun m ρ _ => Cert.GbrcIdeal.Gen.frame m ρ,
    gbrc_reference,
    fun m ρ _ => Cert.Gate.Gen.frame m ρ,
    fun m ρ _ => Cert.GateIdeal.Gen.frame m ρ,
    gate_reference,
    fun m ρ _ => Cert.Dgate.Gen.frame m ρ,
    fun m ρ _ => Cert.DgateIdeal.Gen.frame m ρ,
    dgate_reference,
    fun m ρ _ => Cert.Loss.Gen.frame m ρ,
    fun m ρ _ => Cert.LossIdeal.Gen.frame m ρ,
    loss_reference,
    fun m ρ _ => Cert.Prepc.Gen.frame m ρ,
    fun m ρ _ => Cert.PrepcIdeal.Gen.frame m ρ,
    prepc_reference,
    fun m ρ _ => Cert.Postc.Gen.frame m ρ,
    fun m ρ _ => Cert.PostcIdeal.Gen.frame m ρ,
    postc_reference,
    fun m ρ _ => Cert.Delta.Gen.frame m ρ,
    fun m ρ _ => Cert.DeltaIdeal.Gen.frame m ρ,
    delta_reference,
    fun m ρ _ => Cert.Ain.Gen.frame m ρ,
    fun m ρ _ => Cert.AinIdeal.Gen.frame m ρ,
    ain_reference,
    fun m ρ _ => Cert.Abra.Gen.frame m ρ,
    fun m ρ _ => Cert.AbraIdeal.Gen.frame m ρ,
    abra_reference,
    fun m ρ _ => Cert.Abrb.Gen.frame m ρ,
    fun m ρ _ => Cert.AbrbIdeal.Gen.frame m ρ,
    abrb_reference,
    fun m ρ _ => Cert.Aout.Gen.frame m ρ,
    fun m ρ _ => Cert.AoutIdeal.Gen.frame m ρ,
    aout_reference,
    fun m ρ _ => Cert.Aup.Gen.frame m ρ,
    fun m ρ _ => Cert.AupIdeal.Gen.frame m ρ,
    aup_reference,
    fun m ρ _ => Cert.Asmall.Gen.frame m ρ,
    fun m ρ _ => Cert.AsmallIdeal.Gen.frame m ρ,
    asmall_reference,
    Cert.Hand.preserves,
    Cert.Hand.algebraic,
    IdealRules.named_const.statement Cert.FwdIdeal.κ "log2e" .f32 0x3FB8AA3B#32 (((Real.log 2)⁻¹ : ℝ) : EReal) rfl,
    Cert.FwdIdeal.Hand.algebraic,
    trivial,
    Cert.UpIdeal.Hand.algebraic,
    trivial,
    Cert.GdownIdeal.Hand.algebraic,
    trivial,
    Cert.DlnIdeal.Hand.algebraic,
    IdealRules.named_const.statement Cert.PrepbIdeal.κ "scale_log2e" .f32 0x3E38AA3B#32 (((8 * (Real.log 2))⁻¹ : ℝ) : EReal) rfl,
    Cert.PrepbIdeal.Hand.algebraic,
    trivial,
    Cert.GupIdeal.Hand.algebraic,
    trivial,
    Cert.Dx1Ideal.Hand.algebraic,
    trivial,
    Cert.InIdeal.Hand.algebraic,
    trivial,
    Cert.GinqIdeal.Hand.algebraic,
    trivial,
    Cert.GingIdeal.Hand.algebraic,
    trivial,
    Cert.DxqIdeal.Hand.algebraic,
    trivial,
    Cert.DxgIdeal.Hand.algebraic,
    trivial,
    Cert.DownIdeal.Hand.algebraic,
    trivial,
    Cert.OutIdeal.Hand.algebraic,
    trivial,
    Cert.DmixIdeal.Hand.algebraic,
    trivial,
    Cert.BranchIdeal.Hand.algebraic,
    trivial,
    Cert.GoutIdeal.Hand.algebraic,
    trivial,
    Cert.GbraIdeal.Hand.algebraic,
    trivial,
    Cert.GbrbIdeal.Hand.algebraic,
    trivial,
    Cert.GbrcIdeal.Hand.algebraic,
    trivial,
    Cert.GateIdeal.Hand.algebraic,
    trivial,
    Cert.DgateIdeal.Hand.algebraic,
    trivial,
    Cert.LossIdeal.Hand.algebraic,
    trivial,
    Cert.PrepcIdeal.Hand.algebraic,
    trivial,
    Cert.PostcIdeal.Hand.algebraic,
    trivial,
    Cert.DeltaIdeal.Hand.algebraic,
    trivial,
    Cert.AinIdeal.Hand.algebraic,
    trivial,
    Cert.AbraIdeal.Hand.algebraic,
    trivial,
    Cert.AbrbIdeal.Hand.algebraic,
    trivial,
    Cert.AoutIdeal.Hand.algebraic,
    trivial,
    Cert.AupIdeal.Hand.algebraic,
    trivial,
    Cert.AsmallIdeal.Hand.algebraic⟩

end Cert.Proof

end
